-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_ln_m [hPre_finite_ln_m : Cert.Pre_finite_ln_m.Facts] (m : (ℓ : Loc Cert.KernelIdeal.nD Cert.KernelIdeal.τ Cert.KernelIdeal.sig) → Buf (Elt Ideal) ℓ) : Prop :=
  ∀ c : Dev Cert.KernelIdeal.nD,
    (Cert.Pre_finite_ln_m.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_ln_m.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_ln_m.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_ln_m.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite_ln_m.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ln_m [hPre_finite_ln_m : Cert.Pre_finite_ln_m.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ln_m.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_ln_m.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_ln_m.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_ln_m.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite_ln_m.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_mix [hPre_finite_mix : Cert.Pre_finite_mix.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_mix.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_finite_mix.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.1 = (fun _ => 1#1)
    ∧ (Cert.Pre_finite_mix.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.1 = (fun _ => 1#1)
    ∧ (Cert.Pre_finite_mix.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.1 = (fun _ => 1#1)
    ∧ (Cert.Pre_finite_mix.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.1 = (fun _ => 1#1)
    ∧ (Cert.Pre_finite_mix.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.1 = (fun _ => 1#1)
    ∧ (Cert.Pre_finite_mix.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.2.1 = (fun _ => 1#1)
    ∧ (Cert.Pre_finite_mix.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_mix [hPre_finite_mix : Cert.Pre_finite_mix.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_mix.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).1 = (fun _ => 1#1)
    ∧ (Cert.Pre_finite_mix.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.1 = (fun _ => 1#1)
    ∧ (Cert.Pre_finite_mix.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.1 = (fun _ => 1#1)
    ∧ (Cert.Pre_finite_mix.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.1 = (fun _ => 1#1)
    ∧ (Cert.Pre_finite_mix.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.1 = (fun _ => 1#1)
    ∧ (Cert.Pre_finite_mix.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.1 = (fun _ => 1#1)
    ∧ (Cert.Pre_finite_mix.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.2.1 = (fun _ => 1#1)
    ∧ (Cert.Pre_finite_mix.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_ln_c [hPre_finite_ln_c : Cert.Pre_finite_ln_c.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_ln_c.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_finite_ln_c.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_finite_ln_c.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.1 = (fun _ => 1#1)
    ∧ (Cert.Pre_finite_ln_c.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.1 = (fun _ => 1#1)
    ∧ (Cert.Pre_finite_ln_c.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_ln_c [hPre_finite_ln_c : Cert.Pre_finite_ln_c.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_ln_c.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_finite_ln_c.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_finite_ln_c.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.1 = (fun _ => 1#1)
    ∧ (Cert.Pre_finite_ln_c.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.1 = (fun _ => 1#1)
    ∧ (Cert.Pre_finite_ln_c.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_da [hPre_finite_da : Cert.Pre_finite_da.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_da.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite_da.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_finite_da.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.1 = (fun _ => 1#1)
    ∧ (Cert.Pre_finite_da.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2.1 = (fun _ => 1#1)
    ∧ (Cert.Pre_finite_da.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_da [hPre_finite_da : Cert.Pre_finite_da.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_da.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite_da.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_finite_da.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.1 = (fun _ => 1#1)
    ∧ (Cert.Pre_finite_da.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2.1 = (fun _ => 1#1)
    ∧ (Cert.Pre_finite_da.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_ln_a [hPre_finite_ln_a : Cert.Pre_finite_ln_a.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_ln_a.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).1 = (fun _ => 1#1)
    ∧ (Cert.Pre_finite_ln_a.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.1 = (fun _ => 1#1)
    ∧ (Cert.Pre_finite_ln_a.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.2.1 = (fun _ => 1#1)
    ∧ (Cert.Pre_finite_ln_a.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_ln_a [hPre_finite_ln_a : Cert.Pre_finite_ln_a.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_ln_a.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).1 = (fun _ => 1#1)
    ∧ (Cert.Pre_finite_ln_a.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.1 = (fun _ => 1#1)
    ∧ (Cert.Pre_finite_ln_a.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.2.1 = (fun _ => 1#1)
    ∧ (Cert.Pre_finite_ln_a.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 [hPre_one_of_eight : Cert.Pre_one_of_eight.Facts] (m : (ℓ : Loc Cert.Kernel21.nD Cert.Kernel21.τ Cert.Kernel21.sig) → Buf (Elt Bits) ℓ) : Prop :=
  ∀ c : Dev Cert.Kernel21.nD,
    (Cert.Pre_one_of_eight.fn (F := Bits) (m ((c.tc : Thread Cert.Kernel21.nD Cert.Kernel21.τ).loc Cert.Kernel21.main_arg0)) (m ((c.tc : Thread Cert.Kernel21.nD Cert.Kernel21.τ).loc Cert.Kernel21.main_arg1))) = (fun _ => 1#1)

def Pre_Kernel21Ideal [hPre_one_of_eight : Cert.Pre_one_of_eight.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_one_of_eight.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1))) = (fun _ => 1#1)

def Pre_Reference21Ideal [hPre_one_of_eight : Cert.Pre_one_of_eight.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_one_of_eight.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1))) = (fun _ => 1#1)

def Pre_Kernel22 [hPre_one_of_two : Cert.Pre_one_of_two.Facts] (m : (ℓ : Loc Cert.Kernel22.nD Cert.Kernel22.τ Cert.Kernel22.sig) → Buf (Elt Bits) ℓ) : Prop :=
  ∀ c : Dev Cert.Kernel22.nD,
    (Cert.Pre_one_of_two.fn (F := Bits) (m ((c.tc : Thread Cert.Kernel22.nD Cert.Kernel22.τ).loc Cert.Kernel22.main_arg0)) (m ((c.tc : Thread Cert.Kernel22.nD Cert.Kernel22.τ).loc Cert.Kernel22.main_arg1)) (m ((c.tc : Thread Cert.Kernel22.nD Cert.Kernel22.τ).loc Cert.Kernel22.main_arg2))) = (fun _ => 1#1)

def Pre_Kernel22Ideal [hPre_one_of_two : Cert.Pre_one_of_two.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_one_of_two.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2))) = (fun _ => 1#1)

def Pre_Reference22Ideal [hPre_one_of_two : Cert.Pre_one_of_two.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_one_of_two.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2))) = (fun _ => 1#1)

def Pre_Kernel23 [hPre_a_place : Cert.Pre_a_place.Facts] (m : (ℓ : Loc Cert.Kernel23.nD Cert.Kernel23.τ Cert.Kernel23.sig) → Buf (Elt Bits) ℓ) : Prop :=
  ∀ c : Dev Cert.Kernel23.nD,
    (Cert.Pre_a_place.fn (F := Bits) (m ((c.tc : Thread Cert.Kernel23.nD Cert.Kernel23.τ).loc Cert.Kernel23.main_arg0)) (m ((c.tc : Thread Cert.Kernel23.nD Cert.Kernel23.τ).loc Cert.Kernel23.main_arg1)) (m ((c.tc : Thread Cert.Kernel23.nD Cert.Kernel23.τ).loc Cert.Kernel23.main_arg2)) (m ((c.tc : Thread Cert.Kernel23.nD Cert.Kernel23.τ).loc Cert.Kernel23.main_arg3)) (m ((c.tc : Thread Cert.Kernel23.nD Cert.Kernel23.τ).loc Cert.Kernel23.main_arg4))) = (fun _ => 1#1)

def Pre_Kernel23Ideal [hPre_a_place : Cert.Pre_a_place.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_a_place.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4))) = (fun _ => 1#1)

def Pre_Reference23Ideal [hPre_a_place : Cert.Pre_a_place.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_a_place.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4))) = (fun _ => 1#1)

def Pre_Kernel24 [hPre_one_of_four : Cert.Pre_one_of_four.Facts] (m : (ℓ : Loc Cert.Kernel24.nD Cert.Kernel24.τ Cert.Kernel24.sig) → Buf (Elt Bits) ℓ) : Prop :=
  ∀ c : Dev Cert.Kernel24.nD,
    (Cert.Pre_one_of_four.fn (F := Bits) (m ((c.tc : Thread Cert.Kernel24.nD Cert.Kernel24.τ).loc Cert.Kernel24.main_arg0)) (m ((c.tc : Thread Cert.Kernel24.nD Cert.Kernel24.τ).loc Cert.Kernel24.main_arg1))) = (fun _ => 1#1)

def Pre_Kernel24Ideal [hPre_one_of_four : Cert.Pre_one_of_four.Facts] (m : (ℓ : Loc Cert.Kernel24Ideal.nD Cert.Kernel24Ideal.τ Cert.Kernel24Ideal.sig) → Buf (Elt Ideal) ℓ) : Prop :=
  ∀ c : Dev Cert.Kernel24Ideal.nD,
    (Cert.Pre_one_of_four.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1))) = (fun _ => 1#1)

def Pre_Reference24Ideal [hPre_one_of_four : Cert.Pre_one_of_four.Facts] (m : (ℓ : Loc Cert.Reference24Ideal.nD Cert.Reference24Ideal.τ Cert.Reference24Ideal.sig) → Buf (Elt Ideal) ℓ) : Prop :=
  ∀ c : Dev Cert.Reference24Ideal.nD,
    (Cert.Pre_one_of_four.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_ln_m [hKernelIdeal : Cert.KernelIdeal.Facts] [hPre_finite_ln_m : Cert.Pre_finite_ln_m.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_ln_m m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_ln_m [hReferenceIdeal : Cert.ReferenceIdeal.Facts] [hPre_finite_ln_m : Cert.Pre_finite_ln_m.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ln_m m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite_mix [hKernel2Ideal : Cert.Kernel2Ideal.Facts] [hPre_finite_mix : Cert.Pre_finite_mix.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_mix m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite_mix [hReference2Ideal : Cert.Reference2Ideal.Facts] [hPre_finite_mix : Cert.Pre_finite_mix.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_mix m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite_ln_c [hKernel3Ideal : Cert.Kernel3Ideal.Facts] [hPre_finite_ln_c : Cert.Pre_finite_ln_c.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_ln_c m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite_ln_c [hReference3Ideal : Cert.Reference3Ideal.Facts] [hPre_finite_ln_c : Cert.Pre_finite_ln_c.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_ln_c m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite_da [hKernel4Ideal : Cert.Kernel4Ideal.Facts] [hPre_finite_da : Cert.Pre_finite_da.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_da m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite_da [hReference4Ideal : Cert.Reference4Ideal.Facts] [hPre_finite_da : Cert.Pre_finite_da.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_da m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite_ln_a [hKernel8Ideal : Cert.Kernel8Ideal.Facts] [hPre_finite_ln_a : Cert.Pre_finite_ln_a.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_ln_a m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite_ln_a [hReference8Ideal : Cert.Reference8Ideal.Facts] [hPre_finite_ln_a : Cert.Pre_finite_ln_a.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_ln_a m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] [hPre_one_of_eight : Cert.Pre_one_of_eight.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] [hPre_one_of_eight : Cert.Pre_one_of_eight.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] [hPre_one_of_eight : Cert.Pre_one_of_eight.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] [hPre_one_of_two : Cert.Pre_one_of_two.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] [hPre_one_of_two : Cert.Pre_one_of_two.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] [hPre_one_of_two : Cert.Pre_one_of_two.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] [hPre_a_place : Cert.Pre_a_place.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] [hPre_a_place : Cert.Pre_a_place.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] [hPre_a_place : Cert.Pre_a_place.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] [hPre_one_of_four : Cert.Pre_one_of_four.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] [hPre_one_of_four : Cert.Pre_one_of_four.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] [hPre_one_of_four : Cert.Pre_one_of_four.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def preserves_Kernel_KernelIdeal : Prop :=
  True

def algebraic_KernelIdeal_ReferenceIdeal_pre_finite_ln_m [hKernelIdeal : Cert.KernelIdeal.Facts] [hReferenceIdeal : Cert.ReferenceIdeal.Facts] [hPre_finite_ln_m : Cert.Pre_finite_ln_m.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_ln_m m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_v66) = v3 c
          ∧ r.2.mem ((c.tc : Thread Cert.ReferenceIdeal.nD Cert.ReferenceIdeal.τ).loc Cert.ReferenceIdeal.main_v71) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.named_const.Statement Cert.Kernel2Ideal.κ "gelu_ca" .f32 0x3D122279#32 ((80338380498831 / 2251799813685248 : ℝ) : EReal)
  ∧ IdealRules.named_const.Statement Cert.Kernel2Ideal.κ "gelu_3ca" .f32 0x3DDB33B6#32 ((241015141496493 / 2251799813685248 : ℝ) : EReal)

def algebraic_Kernel2Ideal_Reference2Ideal_pre_finite_mix [hKernel2Ideal : Cert.Kernel2Ideal.Facts] [hReference2Ideal : Cert.Reference2Ideal.Facts] [hPre_finite_mix : Cert.Pre_finite_mix.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_mix m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)) (v2 : (c : Dev Cert.Kernel2Ideal.nD) → Buf (Elt Ideal) ((c.tc : Thread Cert.Kernel2Ideal.nD Cert.Kernel2Ideal.τ).loc Cert.Kernel2Ideal.main_v12)) (v3 : (c : Dev Cert.Kernel2Ideal.nD) → Buf (Elt Ideal) ((c.tc : Thread Cert.Kernel2Ideal.nD Cert.Kernel2Ideal.τ).loc Cert.Kernel2Ideal.main_v10_3)) (v4 : (c : Dev Cert.Kernel2Ideal.nD) → Buf (Elt Ideal) ((c.tc : Thread Cert.Kernel2Ideal.nD Cert.Kernel2Ideal.τ).loc Cert.Kernel2Ideal.main_v10_4)) (v5 : (c : Dev Cert.Kernel2Ideal.nD) → Buf (Elt Ideal) ((c.tc : Thread Cert.Kernel2Ideal.nD Cert.Kernel2Ideal.τ).loc Cert.Kernel2Ideal.main_v13)) (v6 : (c : Dev Cert.Kernel2Ideal.nD) → Buf (Elt Ideal) ((c.tc : Thread Cert.Kernel2Ideal.nD Cert.Kernel2Ideal.τ).loc Cert.Kernel2Ideal.main_v10_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_v12) = v2 c
          ∧ r.2.mem ((c.tc : Thread Cert.Kernel2Ideal.nD Cert.Kernel2Ideal.τ).loc Cert.Kernel2Ideal.main_v10_3) = v3 c
          ∧ r.2.mem ((c.tc : Thread Cert.Kernel2Ideal.nD Cert.Kernel2Ideal.τ).loc Cert.Kernel2Ideal.main_v10_4) = v4 c
          ∧ r.2.mem ((c.tc : Thread Cert.Kernel2Ideal.nD Cert.Kernel2Ideal.τ).loc Cert.Kernel2Ideal.main_v13) = v5 c
          ∧ r.2.mem ((c.tc : Thread Cert.Kernel2Ideal.nD Cert.Kernel2Ideal.τ).loc Cert.Kernel2Ideal.main_v10_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v226) = v0 c
          ∧ r.2.mem ((c.tc : Thread Cert.Reference2Ideal.nD Cert.Reference2Ideal.τ).loc Cert.Reference2Ideal.main_v227) = v1 c
          ∧ r.2.mem ((c.tc : Thread Cert.Reference2Ideal.nD Cert.Reference2Ideal.τ).loc Cert.Reference2Ideal.main_v228) = v2 c
          ∧ r.2.mem ((c.tc : Thread Cert.Reference2Ideal.nD Cert.Reference2Ideal.τ).loc Cert.Reference2Ideal.main_v200) = v3 c
          ∧ r.2.mem ((c.tc : Thread Cert.Reference2Ideal.nD Cert.Reference2Ideal.τ).loc Cert.Reference2Ideal.main_v199) = v4 c
          ∧ r.2.mem ((c.tc : Thread Cert.Reference2Ideal.nD Cert.Reference2Ideal.τ).loc Cert.Reference2Ideal.main_v229) = v5 c
          ∧ r.2.mem ((c.tc : Thread Cert.Reference2Ideal.nD Cert.Reference2Ideal.τ).loc Cert.Reference2Ideal.main_v225) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_finite_ln_c [hKernel3Ideal : Cert.Kernel3Ideal.Facts] [hReference3Ideal : Cert.Reference3Ideal.Facts] [hPre_finite_ln_c : Cert.Pre_finite_ln_c.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_ln_c m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v8)) (v1 : (c : Dev Cert.Kernel3Ideal.nD) → Buf (Elt Ideal) ((c.tc : Thread Cert.Kernel3Ideal.nD Cert.Kernel3Ideal.τ).loc Cert.Kernel3Ideal.main_v5_0)) (v2 : (c : Dev Cert.Kernel3Ideal.nD) → Buf (Elt Ideal) ((c.tc : Thread Cert.Kernel3Ideal.nD Cert.Kernel3Ideal.τ).loc Cert.Kernel3Ideal.main_v5_1)) (v3 : (c : Dev Cert.Kernel3Ideal.nD) → Buf (Elt Ideal) ((c.tc : Thread Cert.Kernel3Ideal.nD Cert.Kernel3Ideal.τ).loc Cert.Kernel3Ideal.main_v5_2)) (v4 : (c : Dev Cert.Kernel3Ideal.nD) → Buf (Elt Ideal) ((c.tc : Thread Cert.Kernel3Ideal.nD Cert.Kernel3Ideal.τ).loc Cert.Kernel3Ideal.main_v5_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_v5_0) = v1 c
          ∧ r.2.mem ((c.tc : Thread Cert.Kernel3Ideal.nD Cert.Kernel3Ideal.τ).loc Cert.Kernel3Ideal.main_v5_1) = v2 c
          ∧ r.2.mem ((c.tc : Thread Cert.Kernel3Ideal.nD Cert.Kernel3Ideal.τ).loc Cert.Kernel3Ideal.main_v5_2) = v3 c
          ∧ r.2.mem ((c.tc : Thread Cert.Kernel3Ideal.nD Cert.Kernel3Ideal.τ).loc Cert.Kernel3Ideal.main_v5_3) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_v83) = v1 c
          ∧ r.2.mem ((c.tc : Thread Cert.Reference3Ideal.nD Cert.Reference3Ideal.τ).loc Cert.Reference3Ideal.main_v84) = v2 c
          ∧ r.2.mem ((c.tc : Thread Cert.Reference3Ideal.nD Cert.Reference3Ideal.τ).loc Cert.Reference3Ideal.main_v79) = v3 c
          ∧ r.2.mem ((c.tc : Thread Cert.Reference3Ideal.nD Cert.Reference3Ideal.τ).loc Cert.Reference3Ideal.main_v78) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite_da [hKernel4Ideal : Cert.Kernel4Ideal.Facts] [hReference4Ideal : Cert.Reference4Ideal.Facts] [hPre_finite_da : Cert.Pre_finite_da.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_da m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_v12) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  IdealRules.named_const.Statement Cert.Kernel5Ideal.κ "gelu_ca" .f32 0x3D122279#32 ((80338380498831 / 2251799813685248 : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v93) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v30) = v0 c
          ∧ r.2.mem ((c.tc : Thread Cert.Reference6Ideal.nD Cert.Reference6Ideal.τ).loc Cert.Reference6Ideal.main_v31) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v7_0)) (v1 : (c : Dev Cert.Kernel7Ideal.nD) → Buf (Elt Ideal) ((c.tc : Thread Cert.Kernel7Ideal.nD Cert.Kernel7Ideal.τ).loc Cert.Kernel7Ideal.main_v7_1)) (v2 : (c : Dev Cert.Kernel7Ideal.nD) → Buf (Elt Ideal) ((c.tc : Thread Cert.Kernel7Ideal.nD Cert.Kernel7Ideal.τ).loc Cert.Kernel7Ideal.main_v7_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7_0) = v0 c
          ∧ r.2.mem ((c.tc : Thread Cert.Kernel7Ideal.nD Cert.Kernel7Ideal.τ).loc Cert.Kernel7Ideal.main_v7_1) = v1 c
          ∧ r.2.mem ((c.tc : Thread Cert.Kernel7Ideal.nD Cert.Kernel7Ideal.τ).loc Cert.Kernel7Ideal.main_v7_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_v3) = v1 c
          ∧ r.2.mem ((c.tc : Thread Cert.Reference7Ideal.nD Cert.Reference7Ideal.τ).loc Cert.Reference7Ideal.main_v6) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_finite_ln_a [hKernel8Ideal : Cert.Kernel8Ideal.Facts] [hReference8Ideal : Cert.Reference8Ideal.Facts] [hPre_finite_ln_a : Cert.Pre_finite_ln_a.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_ln_a m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)) (v2 : (c : Dev Cert.Kernel8Ideal.nD) → Buf (Elt Ideal) ((c.tc : Thread Cert.Kernel8Ideal.nD Cert.Kernel8Ideal.τ).loc Cert.Kernel8Ideal.main_v5_2)) (v3 : (c : Dev Cert.Kernel8Ideal.nD) → Buf (Elt Ideal) ((c.tc : Thread Cert.Kernel8Ideal.nD Cert.Kernel8Ideal.τ).loc Cert.Kernel8Ideal.main_v5_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_v5_2) = v2 c
          ∧ r.2.mem ((c.tc : Thread Cert.Kernel8Ideal.nD Cert.Kernel8Ideal.τ).loc Cert.Kernel8Ideal.main_v5_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v69) = v0 c
          ∧ r.2.mem ((c.tc : Thread Cert.Reference8Ideal.nD Cert.Reference8Ideal.τ).loc Cert.Reference8Ideal.main_v70) = v1 c
          ∧ r.2.mem ((c.tc : Thread Cert.Reference8Ideal.nD Cert.Reference8Ideal.τ).loc Cert.Reference8Ideal.main_v65) = v2 c
          ∧ r.2.mem ((c.tc : Thread Cert.Reference8Ideal.nD Cert.Reference8Ideal.τ).loc Cert.Reference8Ideal.main_v64) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v5_0)) (v1 : (c : Dev Cert.Kernel9Ideal.nD) → Buf (Elt Ideal) ((c.tc : Thread Cert.Kernel9Ideal.nD Cert.Kernel9Ideal.τ).loc Cert.Kernel9Ideal.main_v5_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5_0) = v0 c
          ∧ r.2.mem ((c.tc : Thread Cert.Kernel9Ideal.nD Cert.Kernel9Ideal.τ).loc Cert.Kernel9Ideal.main_v5_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v28) = v0 c
          ∧ r.2.mem ((c.tc : Thread Cert.Reference9Ideal.nD Cert.Reference9Ideal.τ).loc Cert.Reference9Ideal.main_v29) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v7_0)) (v1 : (c : Dev Cert.Kernel10Ideal.nD) → Buf (Elt Ideal) ((c.tc : Thread Cert.Kernel10Ideal.nD Cert.Kernel10Ideal.τ).loc Cert.Kernel10Ideal.main_v7_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v7_0) = v0 c
          ∧ r.2.mem ((c.tc : Thread Cert.Kernel10Ideal.nD Cert.Kernel10Ideal.τ).loc Cert.Kernel10Ideal.main_v7_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_v5) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v8)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v8) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v9) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_arg1) = v0 c
          ∧ r.2.mem ((c.tc : Thread Cert.Reference16Ideal.nD Cert.Reference16Ideal.τ).loc Cert.Reference16Ideal.main_v23) = v1 c
          ∧ r.2.mem ((c.tc : Thread Cert.Reference16Ideal.nD Cert.Reference16Ideal.τ).loc Cert.Reference16Ideal.main_v4) = v2 c
          ∧ r.2.mem ((c.tc : Thread Cert.Reference16Ideal.nD Cert.Reference16Ideal.τ).loc Cert.Reference16Ideal.main_v10) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m ((c.tc : Thread Cert.Kernel17Ideal.nD Cert.Kernel17Ideal.τ).loc Cert.Kernel17Ideal.main_arg0) = Layout.block ⟨3, ![1, 8192, 2048]⟩ ⟨3, ![8, 8192, 2048]⟩ 0 8 c (m' (((0 : Dev Cert.Reference17Ideal.nD).tc : Thread Cert.Reference17Ideal.nD Cert.Reference17Ideal.τ).loc Cert.Reference17Ideal.main_arg0))
      ∧ m ((c.tc : Thread Cert.Kernel17Ideal.nD Cert.Kernel17Ideal.τ).loc Cert.Kernel17Ideal.main_arg1) = Layout.block ⟨3, ![1, 8192, 2048]⟩ ⟨3, ![8, 8192, 2048]⟩ 0 8 c (m' (((0 : Dev Cert.Reference17Ideal.nD).tc : Thread Cert.Reference17Ideal.nD Cert.Reference17Ideal.τ).loc Cert.Reference17Ideal.main_arg1))
      ∧ m ((c.tc : Thread Cert.Kernel17Ideal.nD Cert.Kernel17Ideal.τ).loc Cert.Kernel17Ideal.main_arg2) = m' (((0 : Dev Cert.Reference17Ideal.nD).tc : Thread Cert.Reference17Ideal.nD Cert.Reference17Ideal.τ).loc Cert.Reference17Ideal.main_arg2)
      ∧ m ((c.tc : Thread Cert.Kernel17Ideal.nD Cert.Kernel17Ideal.τ).loc Cert.Kernel17Ideal.main_arg3) = m' (((0 : Dev Cert.Reference17Ideal.nD).tc : Thread Cert.Reference17Ideal.nD Cert.Reference17Ideal.τ).loc Cert.Reference17Ideal.main_arg3)
      ∧ m ((c.tc : Thread Cert.Kernel17Ideal.nD Cert.Kernel17Ideal.τ).loc Cert.Kernel17Ideal.main_arg4) = Layout.block ⟨3, ![1, 8192, 2048]⟩ ⟨3, ![8, 8192, 2048]⟩ 0 8 c (m' (((0 : Dev Cert.Reference17Ideal.nD).tc : Thread Cert.Reference17Ideal.nD Cert.Reference17Ideal.τ).loc Cert.Reference17Ideal.main_arg4))) →
    ∃ (v0 : Buf (Elt Ideal) (((0 : Dev Cert.Reference17Ideal.nD).tc : Thread Cert.Reference17Ideal.nD Cert.Reference17Ideal.τ).loc Cert.Reference17Ideal.main_v35)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v13) = v0
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r =>
          r.2.mem (((0 : Dev Cert.Reference17Ideal.nD).tc : Thread Cert.Reference17Ideal.nD Cert.Reference17Ideal.τ).loc Cert.Reference17Ideal.main_v35) = v0
          ∧ r.2.mem (((0 : Dev Cert.Reference17Ideal.nD).tc : Thread Cert.Reference17Ideal.nD Cert.Reference17Ideal.τ).loc Cert.Reference17Ideal.main_arg0) = m' (((0 : Dev Cert.Reference17Ideal.nD).tc : Thread Cert.Reference17Ideal.nD Cert.Reference17Ideal.τ).loc Cert.Reference17Ideal.main_arg0)
          ∧ r.2.mem (((0 : Dev Cert.Reference17Ideal.nD).tc : Thread Cert.Reference17Ideal.nD Cert.Reference17Ideal.τ).loc Cert.Reference17Ideal.main_arg1) = m' (((0 : Dev Cert.Reference17Ideal.nD).tc : Thread Cert.Reference17Ideal.nD Cert.Reference17Ideal.τ).loc Cert.Reference17Ideal.main_arg1)
          ∧ r.2.mem (((0 : Dev Cert.Reference17Ideal.nD).tc : Thread Cert.Reference17Ideal.nD Cert.Reference17Ideal.τ).loc Cert.Reference17Ideal.main_arg2) = m' (((0 : Dev Cert.Reference17Ideal.nD).tc : Thread Cert.Reference17Ideal.nD Cert.Reference17Ideal.τ).loc Cert.Reference17Ideal.main_arg2)
          ∧ r.2.mem (((0 : Dev Cert.Reference17Ideal.nD).tc : Thread Cert.Reference17Ideal.nD Cert.Reference17Ideal.τ).loc Cert.Reference17Ideal.main_arg3) = m' (((0 : Dev Cert.Reference17Ideal.nD).tc : Thread Cert.Reference17Ideal.nD Cert.Reference17Ideal.τ).loc Cert.Reference17Ideal.main_arg3)
          ∧ r.2.mem (((0 : Dev Cert.Reference17Ideal.nD).tc : Thread Cert.Reference17Ideal.nD Cert.Reference17Ideal.τ).loc Cert.Reference17Ideal.main_arg4) = m' (((0 : Dev Cert.Reference17Ideal.nD).tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v4)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v4)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v5) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] [hPre_one_of_eight : Cert.Pre_one_of_eight.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] [hPre_one_of_two : Cert.Pre_one_of_two.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v8) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] [hPre_a_place : Cert.Pre_a_place.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v8)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v8) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v32) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal [hKernel24Ideal : Cert.Kernel24Ideal.Facts] [hReference24Ideal : Cert.Reference24Ideal.Facts] [hPre_one_of_four : Cert.Pre_one_of_four.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v20)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v20) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v0) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hPre_finite_ln_m : Cert.Pre_finite_ln_m.Facts) (hPre_finite_mix : Cert.Pre_finite_mix.Facts) (hPre_finite_ln_c : Cert.Pre_finite_ln_c.Facts) (hPre_finite_da : Cert.Pre_finite_da.Facts) (hPre_finite_ln_a : Cert.Pre_finite_ln_a.Facts) (hPre_one_of_eight : Cert.Pre_one_of_eight.Facts) (hPre_one_of_two : Cert.Pre_one_of_two.Facts) (hPre_a_place : Cert.Pre_a_place.Facts) (hPre_one_of_four : Cert.Pre_one_of_four.Facts),
    quiescent_Kernel (hKernel := hKernel)
    ∧ quiescent_KernelIdeal (hKernelIdeal := hKernelIdeal)
    ∧ quiescent_KernelIdeal_pre_finite_ln_m (hKernelIdeal := hKernelIdeal) (hPre_finite_ln_m := hPre_finite_ln_m)
    ∧ quiescent_ReferenceIdeal (hReferenceIdeal := hReferenceIdeal)
    ∧ quiescent_ReferenceIdeal_pre_finite_ln_m (hReferenceIdeal := hReferenceIdeal) (hPre_finite_ln_m := hPre_finite_ln_m)
    ∧ quiescent_Kernel2 (hKernel2 := hKernel2)
    ∧ quiescent_Kernel2Ideal (hKernel2Ideal := hKernel2Ideal)
    ∧ quiescent_Kernel2Ideal_pre_finite_mix (hKernel2Ideal := hKernel2Ideal) (hPre_finite_mix := hPre_finite_mix)
    ∧ quiescent_Reference2Ideal (hReference2Ideal := hReference2Ideal)
    ∧ quiescent_Reference2Ideal_pre_finite_mix (hReference2Ideal := hReference2Ideal) (hPre_finite_mix := hPre_finite_mix)
    ∧ quiescent_Kernel3 (hKernel3 := hKernel3)
    ∧ quiescent_Kernel3Ideal (hKernel3Ideal := hKernel3Ideal)
    ∧ quiescent_Kernel3Ideal_pre_finite_ln_c (hKernel3Ideal := hKernel3Ideal) (hPre_finite_ln_c := hPre_finite_ln_c)
    ∧ quiescent_Reference3Ideal (hReference3Ideal := hReference3Ideal)
    ∧ quiescent_Reference3Ideal_pre_finite_ln_c (hReference3Ideal := hReference3Ideal) (hPre_finite_ln_c := hPre_finite_ln_c)
    ∧ quiescent_Kernel4 (hKernel4 := hKernel4)
    ∧ quiescent_Kernel4Ideal (hKernel4Ideal := hKernel4Ideal)
    ∧ quiescent_Kernel4Ideal_pre_finite_da (hKernel4Ideal := hKernel4Ideal) (hPre_finite_da := hPre_finite_da)
    ∧ quiescent_Reference4Ideal (hReference4Ideal := hReference4Ideal)
    ∧ quiescent_Reference4Ideal_pre_finite_da (hReference4Ideal := hReference4Ideal) (hPre_finite_da := hPre_finite_da)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_ln_a (hKernel8Ideal := hKernel8Ideal) (hPre_finite_ln_a := hPre_finite_ln_a)
    ∧ quiescent_Reference8Ideal (hReference8Ideal := hReference8Ideal)
    ∧ quiescent_Reference8Ideal_pre_finite_ln_a (hReference8Ideal := hReference8Ideal) (hPre_finite_ln_a := hPre_finite_ln_a)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21) (hPre_one_of_eight := hPre_one_of_eight)
    ∧ quiescent_Kernel21Ideal (hKernel21Ideal := hKernel21Ideal) (hPre_one_of_eight := hPre_one_of_eight)
    ∧ quiescent_Reference21Ideal (hReference21Ideal := hReference21Ideal) (hPre_one_of_eight := hPre_one_of_eight)
    ∧ quiescent_Kernel22 (hKernel22 := hKernel22) (hPre_one_of_two := hPre_one_of_two)
    ∧ quiescent_Kernel22Ideal (hKernel22Ideal := hKernel22Ideal) (hPre_one_of_two := hPre_one_of_two)
    ∧ quiescent_Reference22Ideal (hReference22Ideal := hReference22Ideal) (hPre_one_of_two := hPre_one_of_two)
    ∧ quiescent_Kernel23 (hKernel23 := hKernel23) (hPre_a_place := hPre_a_place)
    ∧ quiescent_Kernel23Ideal (hKernel23Ideal := hKernel23Ideal) (hPre_a_place := hPre_a_place)
    ∧ quiescent_Reference23Ideal (hReference23Ideal := hReference23Ideal) (hPre_a_place := hPre_a_place)
    ∧ quiescent_Kernel24 (hKernel24 := hKernel24) (hPre_one_of_four := hPre_one_of_four)
    ∧ quiescent_Kernel24Ideal (hKernel24Ideal := hKernel24Ideal) (hPre_one_of_four := hPre_one_of_four)
    ∧ quiescent_Reference24Ideal (hReference24Ideal := hReference24Ideal) (hPre_one_of_four := hPre_one_of_four)
    ∧ preserves_Kernel_KernelIdeal
    ∧ algebraic_KernelIdeal_ReferenceIdeal_pre_finite_ln_m (hKernelIdeal := hKernelIdeal) (hReferenceIdeal := hReferenceIdeal) (hPre_finite_ln_m := hPre_finite_ln_m)
    ∧ preserves_Kernel2_Kernel2Ideal
    ∧ algebraic_Kernel2Ideal_Reference2Ideal_pre_finite_mix (hKernel2Ideal := hKernel2Ideal) (hReference2Ideal := hReference2Ideal) (hPre_finite_mix := hPre_finite_mix)
    ∧ preserves_Kernel3_Kernel3Ideal
    ∧ algebraic_Kernel3Ideal_Reference3Ideal_pre_finite_ln_c (hKernel3Ideal := hKernel3Ideal) (hReference3Ideal := hReference3Ideal) (hPre_finite_ln_c := hPre_finite_ln_c)
    ∧ preserves_Kernel4_Kernel4Ideal
    ∧ algebraic_Kernel4Ideal_Reference4Ideal_pre_finite_da (hKernel4Ideal := hKernel4Ideal) (hReference4Ideal := hReference4Ideal) (hPre_finite_da := hPre_finite_da)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_ln_a (hKernel8Ideal := hKernel8Ideal) (hReference8Ideal := hReference8Ideal) (hPre_finite_ln_a := hPre_finite_ln_a)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal) (hPre_one_of_eight := hPre_one_of_eight)
    ∧ preserves_Kernel22_Kernel22Ideal
    ∧ algebraic_Kernel22Ideal_Reference22Ideal (hKernel22Ideal := hKernel22Ideal) (hReference22Ideal := hReference22Ideal) (hPre_one_of_two := hPre_one_of_two)
    ∧ preserves_Kernel23_Kernel23Ideal
    ∧ algebraic_Kernel23Ideal_Reference23Ideal (hKernel23Ideal := hKernel23Ideal) (hReference23Ideal := hReference23Ideal) (hPre_a_place := hPre_a_place)
    ∧ preserves_Kernel24_Kernel24Ideal
    ∧ algebraic_Kernel24Ideal_Reference24Ideal (hKernel24Ideal := hKernel24Ideal) (hReference24Ideal := hReference24Ideal) (hPre_one_of_four := hPre_one_of_four)
-- ==== Pre_a_place.lean ====
abbrev S4x704x2048 : Shape := ⟨3, ![4, 704, 2048]⟩
abbrev S3x704x2048 : Shape := ⟨3, ![3, 704, 2048]⟩
abbrev S2 : Shape := ⟨1, ![2]⟩
abbrev S_ : Shape := ⟨0, ![]⟩

class Facts : Prop where
  bcast_S_S2 : S_.BroadcastsInDim S2 (![] : Fin 0 → Fin S2.rank)

variable [Facts]

noncomputable abbrev lit0 : Fin 2 → BitVec 32 := fun
  | 0 => 4#32 | 1 => 2#32
  | _ => 0#32

def fn {F : FTy → Type} [FloatOps F] (main_arg0 : FVec F S4x704x2048 .bf16) (main_arg1 : FVec F S3x704x2048 .bf16) (main_arg2 : FVec F S3x704x2048 .bf16) (main_arg3 : FVec F S3x704x2048 .bf16) (main_arg4 : IVec S2 32) : IVec S2 1 :=
  let main_c : IVec S2 32 := fun i => lit0 (S2.rowMajor i)
  let main_c_0 : IVec S_ 32 := constantI S_ 32 0#32
  let main_v0 : IVec S2 32 := broadcastInDim S2 ![] bcast_S_S2 main_c_0
  let main_v1 : IVec S2 1 := cmpi .sge main_arg4 main_v0
  let main_v2 : IVec S2 1 := cmpi .slt main_arg4 main_c
  let main_v3 : IVec S2 1 := andi main_v1 main_v2
  main_v3
-- ==== Pre_finite_da.lean ====
abbrev S8192x2048 : Shape := ⟨2, ![8192, 2048]⟩
abbrev S2048x5632 : Shape := ⟨2, ![2048, 5632]⟩
abbrev S5632x2048 : Shape := ⟨2, ![5632, 2048]⟩
abbrev S_ : Shape := ⟨0, ![]⟩

class Facts : Prop where
  bcast_S_S8192x2048 : S_.BroadcastsInDim S8192x2048 (![] : Fin 0 → Fin S8192x2048.rank)
  bcast_S_S2048x5632 : S_.BroadcastsInDim S2048x5632 (![] : Fin 0 → Fin S2048x5632.rank)
  bcast_S_S5632x2048 : S_.BroadcastsInDim S5632x2048 (![] : Fin 0 → Fin S5632x2048.rank)

variable [Facts]

def fn {F : FTy → Type} [FloatOps F] (main_arg0 : FVec F S8192x2048 .f32) (main_arg1 : FVec F S2048x5632 .f32) (main_arg2 : FVec F S2048x5632 .f32) (main_arg3 : FVec F S5632x2048 .f32) (main_arg4 : FVec F S8192x2048 .f32) : IVec S8192x2048 1 × IVec S2048x5632 1 × IVec S2048x5632 1 × IVec S5632x2048 1 × IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S2048x5632 .f32 := Host.absf main_arg1
  let main_cst_0 : FVec F S_ .f32 := constant S_ .f32 0x7F800000#32
  let main_v4 : FVec F S2048x5632 .f32 := broadcastInDim S2048x5632 ![] bcast_S_S2048x5632 main_cst_0
  let main_v5 : IVec S2048x5632 1 := cmpf .olt main_v3 main_v4
  let main_v6 : FVec F S2048x5632 .f32 := Host.absf main_arg2
  let main_cst_1 : FVec F S_ .f32 := constant S_ .f32 0x7F800000#32
  let main_v7 : FVec F S2048x5632 .f32 := broadcastInDim S2048x5632 ![] bcast_S_S2048x5632 main_cst_1
  let main_v8 : IVec S2048x5632 1 := cmpf .olt main_v6 main_v7
  let main_v9 : FVec F S5632x2048 .f32 := Host.absf main_arg3
  let main_cst_2 : FVec F S_ .f32 := constant S_ .f32 0x7F800000#32
  let main_v10 : FVec F S5632x2048 .f32 := broadcastInDim S5632x2048 ![] bcast_S_S5632x2048 main_cst_2
  let main_v11 : IVec S5632x2048 1 := cmpf .olt main_v9 main_v10
  let main_v12 : FVec F S8192x2048 .f32 := Host.absf main_arg4
  let main_cst_3 : FVec F S_ .f32 := constant S_ .f32 0x7F800000#32
  let main_v13 : FVec F S8192x2048 .f32 := broadcastInDim S8192x2048 ![] bcast_S_S8192x2048 main_cst_3
  let main_v14 : IVec S8192x2048 1 := cmpf .olt main_v12 main_v13
  (main_v2, main_v5, main_v8, main_v11, main_v14)
-- ==== Pre_finite_ln_a.lean ====
abbrev S8192x2048 : Shape := ⟨2, ![8192, 2048]⟩
abbrev S1x2048 : Shape := ⟨2, ![1, 2048]⟩
abbrev S_ : Shape := ⟨0, ![]⟩

class Facts : Prop where
  bcast_S_S8192x2048 : S_.BroadcastsInDim S8192x2048 (![] : Fin 0 → Fin S8192x2048.rank)
  bcast_S_S1x2048 : S_.BroadcastsInDim S1x2048 (![] : Fin 0 → Fin S1x2048.rank)

variable [Facts]

def fn {F : FTy → Type} [FloatOps F] (main_arg0 : FVec F S8192x2048 .f32) (main_arg1 : FVec F S8192x2048 .f32) (main_arg2 : FVec F S1x2048 .f32) (main_arg3 : FVec F S1x2048 .f32) (main_arg4 : FVec F S8192x2048 .f32) : IVec S8192x2048 1 × IVec S8192x2048 1 × IVec S1x2048 1 × IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S8192x2048 .f32 := Host.absf main_arg4
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  (main_v2, main_v5, main_v8, main_v11)
-- ==== Pre_finite_ln_c.lean ====
abbrev S8192x2048 : Shape := ⟨2, ![8192, 2048]⟩
abbrev S1x2048 : Shape := ⟨2, ![1, 2048]⟩
abbrev S_ : Shape := ⟨0, ![]⟩

class Facts : Prop where
  bcast_S_S8192x2048 : S_.BroadcastsInDim S8192x2048 (![] : Fin 0 → Fin S8192x2048.rank)
  bcast_S_S1x2048 : S_.BroadcastsInDim S1x2048 (![] : Fin 0 → Fin S1x2048.rank)

variable [Facts]

def fn {F : FTy → Type} [FloatOps F] (main_arg0 : FVec F S8192x2048 .f32) (main_arg1 : FVec F S8192x2048 .f32) (main_arg2 : FVec F S1x2048 .f32) (main_arg3 : FVec F S1x2048 .f32) (main_arg4 : FVec F S8192x2048 .f32) : IVec S8192x2048 1 × IVec S8192x2048 1 × IVec S1x2048 1 × IVec S1x2048 1 × IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_v12 : FVec F S8192x2048 .f32 := Host.absf main_arg4
  let main_cst_3 : FVec F S_ .f32 := constant S_ .f32 0x7F800000#32
  let main_v13 : FVec F S8192x2048 .f32 := broadcastInDim S8192x2048 ![] bcast_S_S8192x2048 main_cst_3
  let main_v14 : IVec S8192x2048 1 := cmpf .olt main_v12 main_v13
  (main_v2, main_v5, main_v8, main_v11, main_v14)
-- ==== Pre_finite_ln_m.lean ====
abbrev S8192x2048 : Shape := ⟨2, ![8192, 2048]⟩
abbrev S1x2048 : Shape := ⟨2, ![1, 2048]⟩
abbrev S_ : Shape := ⟨0, ![]⟩

class Facts : Prop where
  bcast_S_S8192x2048 : S_.BroadcastsInDim S8192x2048 (![] : Fin 0 → Fin S8192x2048.rank)
  bcast_S_S1x2048 : S_.BroadcastsInDim S1x2048 (![] : Fin 0 → Fin S1x2048.rank)

variable [Facts]

def fn {F : FTy → Type} [FloatOps F] (main_arg0 : FVec F S8192x2048 .f32) (main_arg1 : FVec F S8192x2048 .f32) (main_arg2 : FVec F S1x2048 .f32) (main_arg3 : FVec F S1x2048 .f32) (main_arg4 : FVec F S1x2048 .f32) (main_arg5 : FVec F S8192x2048 .f32) : IVec S8192x2048 1 × IVec S8192x2048 1 × IVec S1x2048 1 × IVec S1x2048 1 × IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_v12 : FVec F S8192x2048 .f32 := Host.absf main_arg5
  let main_cst_3 : FVec F S_ .f32 := constant S_ .f32 0x7F800000#32
  let main_v13 : FVec F S8192x2048 .f32 := broadcastInDim S8192x2048 ![] bcast_S_S8192x2048 main_cst_3
  let main_v14 : IVec S8192x2048 1 := cmpf .olt main_v12 main_v13
  (main_v2, main_v5, main_v8, main_v11, main_v14)
-- ==== Pre_finite_mix.lean ====
abbrev S8192x5120 : Shape := ⟨2, ![8192, 5120]⟩
abbrev S1x5120 : Shape := ⟨2, ![1, 5120]⟩
abbrev S1x8x128x128 : Shape := ⟨4, ![1, 8, 128, 128]⟩
abbrev S1x8x128 : Shape := ⟨3, ![1, 8, 128]⟩
abbrev S1x1024 : Shape := ⟨2, ![1, 1024]⟩
abbrev S1x3x1024 : Shape := ⟨3, ![1, 3, 1024]⟩
abbrev S8192x2048 : Shape := ⟨2, ![8192, 2048]⟩
abbrev S_ : Shape := ⟨0, ![]⟩

class Facts : Prop where
  bcast_S_S8192x5120 : S_.BroadcastsInDim S8192x5120 (![] : Fin 0 → Fin S8192x5120.rank)
  bcast_S_S1x5120 : S_.BroadcastsInDim S1x5120 (![] : Fin 0 → Fin S1x5120.rank)
  bcast_S_S1x8x128x128 : S_.BroadcastsInDim S1x8x128x128 (![] : Fin 0 → Fin S1x8x128x128.rank)
  bcast_S_S1x8x128 : S_.BroadcastsInDim S1x8x128 (![] : Fin 0 → Fin S1x8x128.rank)
  bcast_S_S1x1024 : S_.BroadcastsInDim S1x1024 (![] : Fin 0 → Fin S1x1024.rank)
  bcast_S_S1x3x1024 : S_.BroadcastsInDim S1x3x1024 (![] : Fin 0 → Fin S1x3x1024.rank)
  bcast_S_S8192x2048 : S_.BroadcastsInDim S8192x2048 (![] : Fin 0 → Fin S8192x2048.rank)

variable [Facts]

def fn_part1 {F : FTy → Type} [FloatOps F] (main_arg6 : FVec F S1x3x1024 .f32) (main_arg7 : FVec F S8192x2048 .f32) (main_v2 : IVec S8192x5120 1) (main_v5 : IVec S1x5120 1) (main_v8 : IVec S1x8x128x128 1) (main_v11 : IVec S1x8x128 1) (main_v14 : IVec S1x1024 1) (main_v17 : IVec S1x1024 1) : IVec S8192x5120 1 × IVec S1x5120 1 × IVec S1x8x128x128 1 × IVec S1x8x128 1 × IVec S1x1024 1 × IVec S1x1024 1 × IVec S1x3x1024 1 × IVec S8192x2048 1 :=
  let main_v18 : FVec F S1x3x1024 .f32 := Host.absf main_arg6
  let main_cst_5 : FVec F S_ .f32 := constant S_ .f32 0x7F800000#32
  let main_v19 : FVec F S1x3x1024 .f32 := broadcastInDim S1x3x1024 ![] bcast_S_S1x3x1024 main_cst_5
  let main_v20 : IVec S1x3x1024 1 := cmpf .olt main_v18 main_v19
  let main_v21 : FVec F S8192x2048 .f32 := Host.absf main_arg7
  let main_cst_6 : FVec F S_ .f32 := constant S_ .f32 0x7F800000#32
  let main_v22 : FVec F S8192x2048 .f32 := broadcastInDim S8192x2048 ![] bcast_S_S8192x2048 main_cst_6
  let main_v23 : IVec S8192x2048 1 := cmpf .olt main_v21 main_v22
  (main_v2, main_v5, main_v8, main_v11, main_v14, main_v17, main_v20, main_v23)

def fn {F : FTy → Type} [FloatOps F] (main_arg0 : FVec F S8192x5120 .f32) (main_arg1 : FVec F S1x5120 .f32) (main_arg2 : FVec F S1x8x128x128 .f32) (main_arg3 : FVec F S1x8x128 .f32) (main_arg4 : FVec F S1x1024 .f32) (main_arg5 : FVec F S1x1024 .f32) (main_arg6 : FVec F S1x3x1024 .f32) (main_arg7 : FVec F S8192x2048 .f32) : IVec S8192x5120 1 × IVec S1x5120 1 × IVec S1x8x128x128 1 × IVec S1x8x128 1 × IVec S1x1024 1 × IVec S1x1024 1 × IVec S1x3x1024 1 × IVec S8192x2048 1 :=
  let main_v0 : FVec F S8192x5120 .f32 := Host.absf main_arg0
  let main_cst : FVec F S_ .f32 := constant S_ .f32 0x7F800000#32
  let main_v1 : FVec F S8192x5120 .f32 := broadcastInDim S8192x5120 ![] bcast_S_S8192x5120 main_cst
  let main_v2 : IVec S8192x5120 1 := cmpf .olt main_v0 main_v1
  let main_v3 : FVec F S1x5120 .f32 := Host.absf main_arg1
  let main_cst_0 : FVec F S_ .f32 := constant S_ .f32 0x7F800000#32
  let main_v4 : FVec F S1x5120 .f32 := broadcastInDim S1x5120 ![] bcast_S_S1x5120 main_cst_0
  let main_v5 : IVec S1x5120 1 := cmpf .olt main_v3 main_v4
  let main_v6 : FVec F S1x8x128x128 .f32 := Host.absf main_arg2
  let main_cst_1 : FVec F S_ .f32 := constant S_ .f32 0x7F800000#32
  let main_v7 : FVec F S1x8x128x128 .f32 := broadcastInDim S1x8x128x128 ![] bcast_S_S1x8x128x128 main_cst_1
  let main_v8 : IVec S1x8x128x128 1 := cmpf .olt main_v6 main_v7
  let main_v9 : FVec F S1x8x128 .f32 := Host.absf main_arg3
  let main_cst_2 : FVec F S_ .f32 := constant S_ .f32 0x7F800000#32
  let main_v10 : FVec F S1x8x128 .f32 := broadcastInDim S1x8x128 ![] bcast_S_S1x8x128 main_cst_2
  let main_v11 : IVec S1x8x128 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_arg7 main_v2 main_v5 main_v8 main_v11 main_v14 main_v17
-- ==== Pre_one_of_eight.lean ====
abbrev S8x1224x128 : Shape := ⟨3, ![8, 1224, 128]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x1224x128 .f32) (main_arg1 : IVec S1 32) : IVec S1 1 :=
  let main_c : IVec S_ 32 := constantI S_ 32 0#32
  let main_v0 : IVec S1 32 := broadcastInDim S1 ![] bcast_S_S1 main_c
  let main_v1 : IVec S1 1 := cmpi .sge main_arg1 main_v0
  let main_c_0 : IVec S_ 32 := constantI S_ 32 8#32
  let main_v2 : IVec S1 32 := broadcastInDim S1 ![] bcast_S_S1 main_c_0
  let main_v3 : IVec S1 1 := cmpi .slt main_arg1 main_v2
  let main_v4 : IVec S1 1 := andi main_v1 main_v3
  main_v4
-- ==== Pre_one_of_four.lean ====
abbrev S2048x1408 : Shape := ⟨2, ![2048, 1408]⟩
abbrev S2 : Shape := ⟨1, ![2]⟩
abbrev S1 : Shape := ⟨1, ![1]⟩
abbrev S_ : Shape := ⟨0, ![]⟩

class Facts : Prop where
  slices_S2_S1_0 : S2.Slices ![0] S1
  bcast_S_S1 : S_.BroadcastsInDim S1 (![] : Fin 0 → Fin S1.rank)

variable [Facts]

def fn {F : FTy → Type} [FloatOps F] (main_arg0 : FVec F S2048x1408 .f32) (main_arg1 : IVec S2 32) : IVec S1 1 :=
  let main_v0 : IVec S1 32 := (extractStridedSlice S1 ![0] · slices_S2_S1_0) main_arg1
  let main_c : IVec S_ 32 := constantI S_ 32 0#32
  let main_v1 : IVec S1 32 := broadcastInDim S1 ![] bcast_S_S1 main_c
  let main_v2 : IVec S1 1 := cmpi .sge main_v0 main_v1
  let main_v3 : IVec S1 32 := (extractStridedSlice S1 ![0] · slices_S2_S1_0) main_arg1
  let main_c_0 : IVec S_ 32 := constantI S_ 32 4#32
  let main_v4 : IVec S1 32 := broadcastInDim S1 ![] bcast_S_S1 main_c_0
  let main_v5 : IVec S1 1 := cmpi .slt main_v3 main_v4
  let main_v6 : IVec S1 1 := andi main_v2 main_v5
  main_v6
-- ==== Pre_one_of_two.lean ====
abbrev S4x1408x2048 : Shape := ⟨3, ![4, 1408, 2048]⟩
abbrev S4x704x2048 : Shape := ⟨3, ![4, 704, 2048]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x1408x2048 .bf16) (main_arg1 : FVec F S4x704x2048 .bf16) (main_arg2 : IVec S1 32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 2#32
  let main_v2 : IVec S1 32 := broadcastInDim S1 ![] bcast_S_S1 main_c_0
  let main_v3 : IVec S1 1 := cmpi .slt main_arg2 main_v2
  let main_v4 : IVec S1 1 := andi main_v1 main_v3
  main_v4
-- ==== Kernel.lean ====
abbrev S8192x2048 : Shape := ⟨2, ![8192, 2048]⟩
abbrev S1x2048 : Shape := ⟨2, ![1, 2048]⟩
abbrev S_ : Shape := ⟨0, ![]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 17
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .bf16⟩
  | .hbm, ⟨14, _⟩ => ⟨S1x2048, .f32⟩
  | .hbm, ⟨15, _⟩ => ⟨S1x2048, .f32⟩
  | .hbm, ⟨16, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S8192x2048 : Shape := ⟨2, ![8192, 2048]⟩
abbrev S1x2048 : Shape := ⟨2, ![1, 2048]⟩
abbrev S_ : Shape := ⟨0, ![]⟩
abbrev S2048 : Shape := ⟨1, ![2048]⟩
abbrev S8192 : Shape := ⟨1, ![8192]⟩
abbrev S8192x1 : Shape := ⟨2, ![8192, 1]⟩

abbrev nBuf : Space → Nat
  | .hbm => 101
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S2048, .f32⟩
  | .hbm, ⟨10, _⟩ => ⟨S1x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S2048, .f32⟩
  | .hbm, ⟨15, _⟩ => ⟨S2048, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x2048, .f32⟩
  | .hbm, ⟨40, _⟩ => ⟨S8192x2048, .f32⟩
  | .hbm, ⟨41, _⟩ => ⟨S1x2048, .f32⟩
  | .hbm, ⟨42, _⟩ => ⟨S8192x2048, .f32⟩
  | .hbm, ⟨43, _⟩ => ⟨S8192x2048, .f32⟩
  | .hbm, ⟨44, _⟩ => ⟨S1x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S_, .f32⟩
  | .hbm, ⟨52, _⟩ => ⟨S2048, .f32⟩
  | .hbm, ⟨53, _⟩ => ⟨S8192x2048, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S8192x2048, .f32⟩
  | .hbm, ⟨58, _⟩ => ⟨S8192x2048, .f32⟩
  | .hbm, ⟨59, _⟩ => ⟨S_, .f32⟩
  | .hbm, ⟨60, _⟩ => ⟨S2048, .f32⟩
  | .hbm, ⟨61, _⟩ => ⟨S8192x2048, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x2048, .f32⟩
  | .hbm, ⟨66, _⟩ => ⟨S8192x2048, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S8192x2048, .f32⟩
  | .hbm, ⟨78, _⟩ => ⟨S8192x2048, .f32⟩
  | .hbm, ⟨79, _⟩ => ⟨S_, .f32⟩
  | .hbm, ⟨80, _⟩ => ⟨S8192, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S_, .f32⟩
  | .hbm, ⟨86, _⟩ => ⟨S8192, .f32⟩
  | .hbm, ⟨87, _⟩ => ⟨S8192x2048, .f32⟩
  | .hbm, ⟨88, _⟩ => ⟨S8192x2048, .f32⟩
  | .hbm, ⟨89, _⟩ => ⟨S1x2048, .f32⟩
  | .hbm, ⟨90, _⟩ => ⟨S1x2048, .f32⟩
  | .hbm, ⟨91, _⟩ => ⟨S_, .f32⟩
  | .hbm, ⟨92, _⟩ => ⟨S2048, .f32⟩
  | .hbm, ⟨93, _⟩ => ⟨S1x2048, .f32⟩
  | .hbm, ⟨94, _⟩ => ⟨S_, .f32⟩
  | .hbm, ⟨95, _⟩ => ⟨S2048, .f32⟩
  | .hbm, ⟨96, _⟩ => ⟨S1x2048, .f32⟩
  | .hbm, ⟨97, _⟩ => ⟨S_, .f32⟩
  | .hbm, ⟨98, _⟩ => ⟨S8192x2048, .f32⟩
  | .hbm, ⟨99, _⟩ => ⟨S8192x2048, .f32⟩
  | .hbm, ⟨100, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_13 : Ref sig .tc := ⟨.hbm, 79, rfl⟩
abbrev main_v59 : Ref sig .tc := ⟨.hbm, 80, rfl⟩
abbrev main_v60 : Ref sig .tc := ⟨.hbm, 81, rfl⟩
abbrev main_cst_14 : Ref sig .tc := ⟨.hbm, 82, rfl⟩
abbrev main_v61 : Ref sig .tc := ⟨.hbm, 83, rfl⟩
abbrev main_v62 : Ref sig .tc := ⟨.hbm, 84, rfl⟩
abbrev main_cst_15 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_16 : Ref sig .tc := ⟨.hbm, 91, rfl⟩
abbrev main_v68 : Ref sig .tc := ⟨.hbm, 92, rfl⟩
abbrev main_v69 : Ref sig .tc := ⟨.hbm, 93, rfl⟩
abbrev main_cst_17 : Ref sig .tc := ⟨.hbm, 94, rfl⟩
abbrev main_v70 : Ref sig .tc := ⟨.hbm, 95, rfl⟩
abbrev main_v71 : Ref sig .tc := ⟨.hbm, 96, rfl⟩
abbrev main_cst_18 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]
-- ==== Kernel2.lean ====
abbrev S8192x5120 : Shape := ⟨2, ![8192, 5120]⟩
abbrev S1x5120 : Shape := ⟨2, ![1, 5120]⟩
abbrev S1x8x128x128 : Shape := ⟨4, ![1, 8, 128, 128]⟩
abbrev S1x8x128 : Shape := ⟨3, ![1, 8, 128]⟩
abbrev S1x1024 : Shape := ⟨2, ![1, 1024]⟩
abbrev S1x3x1024 : Shape := ⟨3, ![1, 3, 1024]⟩
abbrev S8192x2048 : Shape := ⟨2, ![8192, 2048]⟩
abbrev S8x128 : Shape := ⟨2, ![8, 128]⟩
abbrev S8x128x1 : Shape := ⟨3, ![8, 128, 1]⟩
abbrev S8x128x128 : Shape := ⟨3, ![8, 128, 128]⟩
abbrev S_ : Shape := ⟨0, ![]⟩
abbrev S8x1024 : Shape := ⟨2, ![8, 1024]⟩
abbrev S3x1024 : Shape := ⟨2, ![3, 1024]⟩
abbrev S1 : Shape := ⟨1, ![1]⟩
abbrev S128x5120 : Shape := ⟨2, ![128, 5120]⟩
abbrev S8x5120 : Shape := ⟨2, ![8, 5120]⟩
abbrev S128x2048 : Shape := ⟨2, ![128, 2048]⟩
abbrev S8x2048 : Shape := ⟨2, ![8, 2048]⟩
abbrev S128x128 : Shape := ⟨2, ![128, 128]⟩
abbrev S1x128x128 : Shape := ⟨3, ![1, 128, 128]⟩
abbrev S1x128 : Shape := ⟨2, ![1, 128]⟩
abbrev S128 : Shape := ⟨1, ![128]⟩
abbrev S128x1 : Shape := ⟨2, ![128, 1]⟩

abbrev nBuf : Space → Nat
  | .hbm => 30
  | .vmem => 23
  | .smem => 0
  | _ => 0

abbrev bufTy : (tb : Table) → Fin (tcTables nBuf tb) → BufTy
  | .hbm, ⟨0, _⟩ => ⟨S8192x5120, .f32⟩
  | .hbm, ⟨1, _⟩ => ⟨S1x5120, .f32⟩
  | .hbm, ⟨2, _⟩ => ⟨S1x8x128x128, .f32⟩
  | .hbm, ⟨3, _⟩ => ⟨S1x8x128, .f32⟩
  | .hbm, ⟨4, _⟩ => ⟨S1x1024, .f32⟩
  | .hbm, ⟨5, _⟩ => ⟨S1x1024, .f32⟩
  | .hbm, ⟨6, _⟩ => ⟨S1x3x1024, .f32⟩
  | .hbm, ⟨7, _⟩ => ⟨S8192x2048, .f32⟩
  | .hbm, ⟨8, _⟩ => ⟨S8192x5120, .f32⟩
  | .hbm, ⟨9, _⟩ => ⟨S8192x5120, .f32⟩
  | .hbm, ⟨10, _⟩ => ⟨S8x128, .f32⟩
  | .hbm, ⟨11, _⟩ => ⟨S8x128x1, .f32⟩
  | .hbm, ⟨12, _⟩ => ⟨S8x128x128, .f32⟩
  | .hbm, ⟨13, _⟩ => ⟨S_, .f32⟩
  | .hbm, ⟨14, _⟩ => ⟨S8x1024, .f32⟩
  | .hbm, ⟨15, _⟩ => ⟨S3x1024, .f32⟩
  | .hbm, ⟨16, _⟩ => ⟨S_, .i32⟩
  | .hbm, ⟨17, _⟩ => ⟨S1, .i32⟩
  | .hbm, ⟨18, _⟩ => ⟨S8x1024, .f32⟩
  | .hbm, ⟨19, _⟩ => ⟨S8x128x128, .f32⟩
  | .hbm, ⟨20, _⟩ => ⟨S8192x5120, .bf16⟩
  | .hbm, ⟨21, _⟩ => ⟨S8x128x128, .f32⟩
  | .hbm, ⟨22, _⟩ => ⟨S8x128x128, .f32⟩
  | .hbm, ⟨23, _⟩ => ⟨S1x1024, .f32⟩
  | .hbm, ⟨24, _⟩ => ⟨S1x1024, .f32⟩
  | .hbm, ⟨25, _⟩ => ⟨S8x1024, .f32⟩
  | .hbm, ⟨26, _⟩ => ⟨S1x5120, .f32⟩
  | .hbm, ⟨27, _⟩ => ⟨S8x128x1, .f32⟩
  | .hbm, ⟨28, _⟩ => ⟨S8x128, .f32⟩
  | .hbm, ⟨29, _⟩ => ⟨S3x1024, .f32⟩
  | .local _ .vmem, ⟨0, _⟩ => ⟨S128x5120, .f32⟩
  | .local _ .vmem, ⟨1, _⟩ => ⟨S128x5120, .f32⟩
  | .local _ .vmem, ⟨2, _⟩ => ⟨S8x5120, .f32⟩
  | .local _ .vmem, ⟨3, _⟩ => ⟨S8x5120, .f32⟩
  | .local _ .vmem, ⟨4, _⟩ => ⟨S8x5120, .f32⟩
  | .local _ .vmem, ⟨5, _⟩ => ⟨S8x5120, .f32⟩
  | .local _ .vmem, ⟨6, _⟩ => ⟨S128x2048, .f32⟩
  | .local _ .vmem, ⟨7, _⟩ => ⟨S128x2048, .f32⟩
  | .local _ .vmem, ⟨8, _⟩ => ⟨S8x2048, .f32⟩
  | .local _ .vmem, ⟨9, _⟩ => ⟨S8x2048, .f32⟩
  | .local _ .vmem, ⟨10, _⟩ => ⟨S8x128x128, .f32⟩
  | .local _ .vmem, ⟨11, _⟩ => ⟨S8x128x128, .f32⟩
  | .local _ .vmem, ⟨12, _⟩ => ⟨S1x1024, .f32⟩
  | .local _ .vmem, ⟨13, _⟩ => ⟨S1x1024, .f32⟩
  | .local _ .vmem, ⟨14, _⟩ => ⟨S8x1024, .f32⟩
  | .local _ .vmem, ⟨15, _⟩ => ⟨S128x5120, .bf16⟩
  | .local _ .vmem, ⟨16, _⟩ => ⟨S128x5120, .bf16⟩
  | .local _ .vmem, ⟨17, _⟩ => ⟨S8x128x128, .f32⟩
  | .local _ .vmem, ⟨18, _⟩ => ⟨S8x128x128, .f32⟩
  | .local _ .vmem, ⟨19, _⟩ => ⟨S1x1024, .f32⟩
  | .local _ .vmem, ⟨20, _⟩ => ⟨S1x1024, .f32⟩
  | .local _ .vmem, ⟨21, _⟩ => ⟨S8x1024, .f32⟩
  | .local _ .vmem, ⟨22, _⟩ => ⟨S1x5120, .f32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v10_4 : Ref sig .tc := ⟨.hbm, 24, rfl⟩
abbrev main_v10_5 : Ref sig .tc := ⟨.hbm, 25, rfl⟩
abbrev main_v10_6 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x5120 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x5120 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x5120 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Kernel2Ideal.lean ====
variable {F : FTy → Type} [FloatOps F] [Named F]
def κ : String → Option EReal := fun
  | "gelu_3ca" => some ((241015141496493 / 2251799813685248 : ℝ) : EReal)
  | "gelu_ca" => some ((80338380498831 / 2251799813685248 : ℝ) : EReal)
  | _ => none
-- ==== Reference2Ideal.lean ====
abbrev S8192x5120 : Shape := ⟨2, ![8192, 5120]⟩
abbrev S1x5120 : Shape := ⟨2, ![1, 5120]⟩
abbrev S1x8x128x128 : Shape := ⟨4, ![1, 8, 128, 128]⟩
abbrev S1x8x128 : Shape := ⟨3, ![1, 8, 128]⟩
abbrev S1x1024 : Shape := ⟨2, ![1, 1024]⟩
abbrev S1x3x1024 : Shape := ⟨3, ![1, 3, 1024]⟩
abbrev S8192x2048 : Shape := ⟨2, ![8192, 2048]⟩
abbrev S5120 : Shape := ⟨1, ![5120]⟩
abbrev S_ : Shape := ⟨0, ![]⟩
abbrev S8192x1024 : Shape := ⟨2, ![8192, 1024]⟩
abbrev S8x128x128 : Shape := ⟨3, ![8, 128, 128]⟩
abbrev S8x128 : Shape := ⟨2, ![8, 128]⟩
abbrev S1024 : Shape := ⟨1, ![1024]⟩
abbrev S64x128x8x128 : Shape := ⟨4, ![64, 128, 8, 128]⟩
abbrev S64x128x8 : Shape := ⟨3, ![64, 128, 8]⟩
abbrev S64x128x8x1 : Shape := ⟨4, ![64, 128, 8, 1]⟩
abbrev S1x1x8x128 : Shape := ⟨4, ![1, 1, 8, 128]⟩
abbrev S128x128 : Shape := ⟨2, ![128, 128]⟩
abbrev S1x128x128 : Shape := ⟨3, ![1, 128, 128]⟩
abbrev S8x64x128x128 : Shape := ⟨4, ![8, 64, 128, 128]⟩
abbrev S128x8 : Shape := ⟨2, ![128, 8]⟩
abbrev S128x8x1 : Shape := ⟨3, ![128, 8, 1]⟩
abbrev S1x128x8x1 : Shape := ⟨4, ![1, 128, 8, 1]⟩
abbrev S3x1024 : Shape := ⟨2, ![3, 1024]⟩
abbrev S8191x1024 : Shape := ⟨2, ![8191, 1024]⟩
abbrev S2x1024 : Shape := ⟨2, ![2, 1024]⟩
abbrev S8190x1024 : Shape := ⟨2, ![8190, 1024]⟩

abbrev nBuf : Space → Nat
  | .hbm => 306
  | .vmem => 0
  | .smem => 0
  | _ => 0

abbrev hbmTy0_0 (i : Nat) : BufTy := match i % 128 with
  | 0 => ⟨S8192x5120, .f32⟩
  | 1 => ⟨S1x5120, .f32⟩
  | 2 => ⟨S1x8x128x128, .f32⟩
  | 3 => ⟨S1x8x128, .f32⟩
  | 4 => ⟨S1x1024, .f32⟩
  | 5 => ⟨S1x1024, .f32⟩
  | 6 => ⟨S1x3x1024, .f32⟩
  | 7 => ⟨S8192x2048, .f32⟩
  | 8 => ⟨S5120, .f32⟩
  | 9 => ⟨S1x5120, .f32⟩
  | 10 => ⟨S8192x5120, .f32⟩
  | 11 => ⟨S8192x5120, .f32⟩
  | 12 => ⟨S8192x2048, .f32⟩
  | 13 => ⟨S8192x2048, .f32⟩
  | 14 => ⟨S8192x2048, .f32⟩
  | 15 => ⟨S8192x2048, .f32⟩
  | 16 => ⟨S_, .f32⟩
  | 17 => ⟨S8192x2048, .f32⟩
  | 18 => ⟨S8192x2048, .f32⟩
  | 19 => ⟨S_, .f32⟩
  | 20 => ⟨S8192x2048, .f32⟩
  | 21 => ⟨S8192x2048, .f32⟩
  | 22 => ⟨S8192x2048, .f32⟩
  | 23 => ⟨S_, .f32⟩
  | 24 => ⟨S8192x2048, .f32⟩
  | 25 => ⟨S8192x2048, .f32⟩
  | 26 => ⟨S8192x2048, .f32⟩
  | 27 => ⟨S_, .f32⟩
  | 28 => ⟨S8192x2048, .f32⟩
  | 29 => ⟨S8192x2048, .f32⟩
  | 30 => ⟨S_, .f32⟩
  | 31 => ⟨S8192x2048, .f32⟩
  | 32 => ⟨S8192x2048, .f32⟩
  | 33 => ⟨S8192x2048, .f32⟩
  | 34 => ⟨S_, .f32⟩
  | 35 => ⟨S8192x2048, .f32⟩
  | 36 => ⟨S8192x2048, .f32⟩
  | 37 => ⟨S_, .f32⟩
  | 38 => ⟨S8192x2048, .f32⟩
  | 39 => ⟨S8192x2048, .f32⟩
  | 40 => ⟨S8192x2048, .f32⟩
  | 41 => ⟨S8192x1024, .f32⟩
  | 42 => ⟨S8192x1024, .f32⟩
  | 43 => ⟨S8192x1024, .f32⟩
  | 44 => ⟨S8x128x128, .f32⟩
  | 45 => ⟨S8x128, .f32⟩
  | 46 => ⟨S1024, .f32⟩
  | 47 => ⟨S1024, .f32⟩
  | 48 => ⟨S8192x1024, .f32⟩
  | 49 => ⟨S8192x1024, .f32⟩
  | 50 => ⟨S64x128x8x128, .f32⟩
  | 51 => ⟨S8x128, .f32⟩
  | 52 => ⟨S8x128, .f32⟩
  | 53 => ⟨S_, .f32⟩
  | 54 => ⟨S64x128x8, .f32⟩
  | 55 => ⟨S64x128x8x1, .f32⟩
  | 56 => ⟨S_, .f32⟩
  | 57 => ⟨S64x128x8x1, .f32⟩
  | 58 => ⟨S64x128x8x1, .f32⟩
  | 59 => ⟨S64x128x8x128, .f32⟩
  | 60 => ⟨S64x128x8x128, .f32⟩
  | 61 => ⟨S64x128x8x128, .f32⟩
  | 62 => ⟨S_, .f32⟩
  | 63 => ⟨S64x128x8, .f32⟩
  | 64 => ⟨S64x128x8x1, .f32⟩
  | 65 => ⟨S_, .f32⟩
  | 66 => ⟨S64x128x8x1, .f32⟩
  | 67 => ⟨S64x128x8x1, .f32⟩
  | 68 => ⟨S_, .f32⟩
  | 69 => ⟨S64x128x8x1, .f32⟩
  | 70 => ⟨S64x128x8x1, .f32⟩
  | 71 => ⟨S64x128x8x1, .f32⟩
  | 72 => ⟨S64x128x8x1, .f32⟩
  | 73 => ⟨S_, .f32⟩
  | 74 => ⟨S64x128x8x1, .f32⟩
  | 75 => ⟨S64x128x8x1, .f32⟩
  | 76 => ⟨S64x128x8x128, .f32⟩
  | 77 => ⟨S64x128x8x128, .f32⟩
  | 78 => ⟨S1x1x8x128, .f32⟩
  | 79 => ⟨S64x128x8x128, .f32⟩
  | 80 => ⟨S64x128x8x128, .f32⟩
  | 81 => ⟨S1x1x8x128, .f32⟩
  | 82 => ⟨S64x128x8x128, .f32⟩
  | 83 => ⟨S64x128x8x128, .f32⟩
  | 84 => ⟨S_, .i1⟩
  | 85 => ⟨S128x128, .i1⟩
  | 86 => ⟨S128x128, .i32⟩
  | 87 => ⟨S_, .i32⟩
  | 88 => ⟨S128x128, .i32⟩
  | 89 => ⟨S128x128, .i32⟩
  | 90 => ⟨S128x128, .i32⟩
  | 91 => ⟨S128x128, .i1⟩
  | 92 => ⟨S_, .i1⟩
  | 93 => ⟨S128x128, .i1⟩
  | 94 => ⟨S128x128, .i1⟩
  | 95 => ⟨S1x128x128, .i1⟩
  | 96 => ⟨S_, .f32⟩
  | 97 => ⟨S8x128x128, .i1⟩
  | 98 => ⟨S8x128x128, .f32⟩
  | 99 => ⟨S8x128x128, .f32⟩
  | 100 => ⟨S_, .f32⟩
  | 101 => ⟨S8x128x128, .f32⟩
  | 102 => ⟨S8x64x128x128, .f32⟩
  | 103 => ⟨S64x128x8x128, .f32⟩
  | 104 => ⟨S128x8, .f32⟩
  | 105 => ⟨S128x8x1, .f32⟩
  | 106 => ⟨S1x128x8x1, .f32⟩
  | 107 => ⟨S64x128x8x128, .f32⟩
  | 108 => ⟨S64x128x8x128, .f32⟩
  | 109 => ⟨S64x128x8x128, .f32⟩
  | 110 => ⟨S64x128x8x128, .f32⟩
  | 111 => ⟨S8192x1024, .f32⟩
  | 112 => ⟨S3x1024, .f32⟩
  | 113 => ⟨S8192x1024, .f32⟩
  | 114 => ⟨S_, .f32⟩
  | 115 => ⟨S1x1024, .f32⟩
  | 116 => ⟨S8191x1024, .f32⟩
  | 117 => ⟨S8192x1024, .f32⟩
  | 118 => ⟨S_, .f32⟩
  | 119 => ⟨S1x1024, .f32⟩
  | 120 => ⟨S_, .f32⟩
  | 121 => ⟨S2x1024, .f32⟩
  | 122 => ⟨S8190x1024, .f32⟩
  | 123 => ⟨S8192x1024, .f32⟩
  | 124 => ⟨S_, .f32⟩
  | 125 => ⟨S2x1024, .f32⟩
  | 126 => ⟨S1x1024, .f32⟩
  | 127 => ⟨S1024, .f32⟩
  | _ => ⟨S8192x5120, .f32⟩

abbrev hbmTy0_1 (i : Nat) : BufTy := match i % 128 with
  | 0 => ⟨S1x1024, .f32⟩
  | 1 => ⟨S8192x1024, .f32⟩
  | 2 => ⟨S8192x1024, .f32⟩
  | 3 => ⟨S1x1024, .f32⟩
  | 4 => ⟨S1024, .f32⟩
  | 5 => ⟨S1x1024, .f32⟩
  | 6 => ⟨S8192x1024, .f32⟩
  | 7 => ⟨S8192x1024, .f32⟩
  | 8 => ⟨S8192x1024, .f32⟩
  | 9 => ⟨S1x1024, .f32⟩
  | 10 => ⟨S1024, .f32⟩
  | 11 => ⟨S1x1024, .f32⟩
  | 12 => ⟨S8192x1024, .f32⟩
  | 13 => ⟨S8192x1024, .f32⟩
  | 14 => ⟨S8192x1024, .f32⟩
  | 15 => ⟨S8192x1024, .f32⟩
  | 16 => ⟨S8192x2048, .f32⟩
  | 17 => ⟨S8192x1024, .f32⟩
  | 18 => ⟨S8192x1024, .f32⟩
  | 19 => ⟨S8192x1024, .f32⟩
  | 20 => ⟨S8192x1024, .f32⟩
  | 21 => ⟨S8192x1024, .f32⟩
  | 22 => ⟨S_, .f32⟩
  | 23 => ⟨S1024, .f32⟩
  | 24 => ⟨S1x1024, .f32⟩
  | 25 => ⟨S8192x1024, .f32⟩
  | 26 => ⟨S8192x1024, .f32⟩
  | 27 => ⟨S_, .f32⟩
  | 28 => ⟨S1024, .f32⟩
  | 29 => ⟨S1x1024, .f32⟩
  | 30 => ⟨S_, .f32⟩
  | 31 => ⟨S3x1024, .f32⟩
  | 32 => ⟨S8192x1024, .f32⟩
  | 33 => ⟨S_, .f32⟩
  | 34 => ⟨S1024, .f32⟩
  | 35 => ⟨S1x1024, .f32⟩
  | 36 => ⟨S8192x1024, .f32⟩
  | 37 => ⟨S8192x1024, .f32⟩
  | 38 => ⟨S_, .f32⟩
  | 39 => ⟨S1024, .f32⟩
  | 40 => ⟨S1x1024, .f32⟩
  | 41 => ⟨S_, .f32⟩
  | 42 => ⟨S3x1024, .f32⟩
  | 43 => ⟨S3x1024, .f32⟩
  | 44 => ⟨S8192x1024, .f32⟩
  | 45 => ⟨S_, .f32⟩
  | 46 => ⟨S1024, .f32⟩
  | 47 => ⟨S1x1024, .f32⟩
  | 48 => ⟨S8192x1024, .f32⟩
  | 49 => ⟨S8192x1024, .f32⟩
  | 50 => ⟨S_, .f32⟩
  | 51 => ⟨S1024, .f32⟩
  | 52 => ⟨S1x1024, .f32⟩
  | 53 => ⟨S_, .f32⟩
  | 54 => ⟨S3x1024, .f32⟩
  | 55 => ⟨S3x1024, .f32⟩
  | 56 => ⟨S2x1024, .f32⟩
  | 57 => ⟨S8190x1024, .f32⟩
  | 58 => ⟨S_, .f32⟩
  | 59 => ⟨S8192x1024, .f32⟩
  | 60 => ⟨S8192x1024, .f32⟩
  | 61 => ⟨S1x1024, .f32⟩
  | 62 => ⟨S8191x1024, .f32⟩
  | 63 => ⟨S_, .f32⟩
  | 64 => ⟨S8192x1024, .f32⟩
  | 65 => ⟨S8192x1024, .f32⟩
  | 66 => ⟨S8192x1024, .f32⟩
  | 67 => ⟨S8192x1024, .f32⟩
  | 68 => ⟨S1x3x1024, .f32⟩
  | 69 => ⟨S64x128x8x128, .f32⟩
  | 70 => ⟨S64x128x8x128, .f32⟩
  | 71 => ⟨S64x128x8x128, .f32⟩
  | 72 => ⟨S8192x1024, .f32⟩
  | 73 => ⟨S_, .f32⟩
  | 74 => ⟨S128x8, .f32⟩
  | 75 => ⟨S1x128x8x1, .f32⟩
  | 76 => ⟨S_, .f32⟩
  | 77 => ⟨S128x8, .f32⟩
  | 78 => ⟨S128x8x1, .f32⟩
  | 79 => ⟨S_, .f32⟩
  | 80 => ⟨S128x8, .f32⟩
  | 81 => ⟨S8x128, .f32⟩
  | 82 => ⟨S8x64x128x128, .f32⟩
  | 83 => ⟨S8x128x128, .f32⟩
  | 84 => ⟨S8x64x128x128, .f32⟩
  | 85 => ⟨S64x128x8x128, .f32⟩
  | 86 => ⟨S_, .f32⟩
  | 87 => ⟨S8x128x128, .f32⟩
  | 88 => ⟨S8x128x128, .f32⟩
  | 89 => ⟨S_, .f32⟩
  | 90 => ⟨S8x128, .f32⟩
  | 91 => ⟨S1x1x8x128, .f32⟩
  | 92 => ⟨S_, .f32⟩
  | 93 => ⟨S8x128, .f32⟩
  | 94 => ⟨S64x128x8x128, .f32⟩
  | 95 => ⟨S_, .f32⟩
  | 96 => ⟨S8x128, .f32⟩
  | 97 => ⟨S1x1x8x128, .f32⟩
  | 98 => ⟨S64x128x8x128, .f32⟩
  | 99 => ⟨S64x128x8x128, .f32⟩
  | 100 => ⟨S_, .f32⟩
  | 101 => ⟨S8x128, .f32⟩
  | 102 => ⟨S64x128x8x128, .f32⟩
  | 103 => ⟨S_, .f32⟩
  | 104 => ⟨S64x128x8, .f32⟩
  | 105 => ⟨S64x128x8x1, .f32⟩
  | 106 => ⟨S64x128x8x128, .f32⟩
  | 107 => ⟨S64x128x8x128, .f32⟩
  | 108 => ⟨S64x128x8x1, .f32⟩
  | 109 => ⟨S_, .f32⟩
  | 110 => ⟨S64x128x8x1, .f32⟩
  | 111 => ⟨S64x128x8x1, .f32⟩
  | 112 => ⟨S_, .f32⟩
  | 113 => ⟨S64x128x8, .f32⟩
  | 114 => ⟨S64x128x8x128, .f32⟩
  | 115 => ⟨S64x128x8x128, .f32⟩
  | 116 => ⟨S64x128x8x128, .f32⟩
  | 117 => ⟨S64x128x8x128, .f32⟩
  | 118 => ⟨S64x128x8x128, .f32⟩
  | 119 => ⟨S64x128x8x128, .f32⟩
  | 120 => ⟨S_, .f32⟩
  | 121 => ⟨S64x128x8, .f32⟩
  | 122 => ⟨S64x128x8x1, .f32⟩
  | 123 => ⟨S_, .f32⟩
  | 124 => ⟨S64x128x8x1, .f32⟩
  | 125 => ⟨S64x128x8x1, .f32⟩
  | 126 => ⟨S_, .f32⟩
  | 127 => ⟨S64x128x8, .f32⟩
  | _ => ⟨S8192x5120, .f32⟩

abbrev hbmTy0_2 (i : Nat) : BufTy := match i % 128 with
  | 0 => ⟨S64x128x8x128, .f32⟩
  | 1 => ⟨S64x128x8x128, .f32⟩
  | 2 => ⟨S1024, .f32⟩
  | 3 => ⟨S1024, .f32⟩
  | 4 => ⟨S8192x1024, .f32⟩
  | 5 => ⟨S_, .f32⟩
  | 6 => ⟨S8192x2048, .f32⟩
  | 7 => ⟨S_, .f32⟩
  | 8 => ⟨S8192x2048, .f32⟩
  | 9 => ⟨S8192x2048, .f32⟩
  | 10 => ⟨S1x1024, .f32⟩
  | 11 => ⟨S1x1024, .f32⟩
  | 12 => ⟨S1x8x128, .f32⟩
  | 13 => ⟨S1x8x128x128, .f32⟩
  | 14 => ⟨S_, .f32⟩
  | 15 => ⟨S8192x5120, .f32⟩
  | 16 => ⟨S_, .f32⟩
  | 17 => ⟨S8192x5120, .f32⟩
  | 18 => ⟨S8192x5120, .f32⟩
  | 19 => ⟨S_, .f32⟩
  | 20 => ⟨S8192x5120, .f32⟩
  | 21 => ⟨S8192x5120, .f32⟩
  | 22 => ⟨S8192x2048, .f32⟩
  | 23 => ⟨S8192x2048, .f32⟩
  | 24 => ⟨S_, .f32⟩
  | 25 => ⟨S8192x2048, .f32⟩
  | 26 => ⟨S8192x2048, .f32⟩
  | 27 => ⟨S8192x2048, .f32⟩
  | 28 => ⟨S_, .f32⟩
  | 29 => ⟨S8192x2048, .f32⟩
  | 30 => ⟨S8192x2048, .f32⟩
  | 31 => ⟨S8192x2048, .f32⟩
  | 32 => ⟨S_, .f32⟩
  | 33 => ⟨S8192x2048, .f32⟩
  | 34 => ⟨S8192x2048, .f32⟩
  | 35 => ⟨S8192x2048, .f32⟩
  | 36 => ⟨S8192x2048, .f32⟩
  | 37 => ⟨S_, .f32⟩
  | 38 => ⟨S8192x5120, .f32⟩
  | 39 => ⟨S8192x5120, .f32⟩
  | 40 => ⟨S_, .f32⟩
  | 41 => ⟨S5120, .f32⟩
  | 42 => ⟨S1x5120, .f32⟩
  | 43 => ⟨S_, .f32⟩
  | 44 => ⟨S5120, .f32⟩
  | 45 => ⟨S1x5120, .f32⟩
  | 46 => ⟨S8192x5120, .bf16⟩
  | 47 => ⟨S8x128x128, .f32⟩
  | 48 => ⟨S8x128, .f32⟩
  | 49 => ⟨S3x1024, .f32⟩
  | _ => ⟨S8192x5120, .f32⟩

abbrev hbmTy (i : Nat) : BufTy := match i / 128 with
  | 0 => hbmTy0_0 i
  | 1 => hbmTy0_1 i
  | 2 => hbmTy0_2 i
  | _ => ⟨S8192x5120, .f32⟩

abbrev bufTy : (tb : Table) → Fin (tcTables nBuf tb) → BufTy
  | .hbm, ⟨i, _⟩ => hbmTy i
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c : Ref sig .tc := ⟨.hbm, 84, rfl⟩
abbrev main_v63 : Ref sig .tc := ⟨.hbm, 85, rfl⟩
abbrev main_call0_v0 : Ref sig .tc := ⟨.hbm, 86, rfl⟩
abbrev main_call0_c : Ref sig .tc := ⟨.hbm, 87, rfl⟩
abbrev main_call0_v1 : Ref sig .tc := ⟨.hbm, 88, rfl⟩
abbrev main_call0_v2 : Ref sig .tc := ⟨.hbm, 89, rfl⟩
abbrev main_call0_v3 : Ref sig .tc := ⟨.hbm, 90, rfl⟩
abbrev main_call0_v4 : Ref sig .tc := ⟨.hbm, 91, rfl⟩
abbrev main_call0_c_0 : Ref sig .tc := ⟨.hbm, 92, rfl⟩
abbrev main_call0_v5 : Ref sig .tc := ⟨.hbm, 93, rfl⟩
abbrev main_v64 : Ref sig .tc := ⟨.hbm, 94, rfl⟩
abbrev main_v65 : Ref sig .tc := ⟨.hbm, 95, rfl⟩
abbrev main_cst_12 : Ref sig .tc := ⟨.hbm, 96, rfl⟩
abbrev main_v66_1 : Ref sig .tc := ⟨.hbm, 97, rfl⟩
abbrev main_call1_v1 : Ref sig .tc := ⟨.hbm, 98, rfl⟩
abbrev main_v66_0 : Ref sig .tc := ⟨.hbm, 99, rfl⟩
abbrev main_call1_cst : Ref sig .tc := ⟨.hbm, 100, rfl⟩
abbrev main_v66_2 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_13 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_14 : Ref sig .tc := ⟨.hbm, 118, rfl⟩
abbrev main_v82 : Ref sig .tc := ⟨.hbm, 119, rfl⟩
abbrev main_cst_15 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_16 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_17 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_18 : Ref sig .tc := ⟨.hbm, 155, rfl⟩
abbrev main_v115 : Ref sig .tc := ⟨.hbm, 156, rfl⟩
abbrev main_v116 : Ref sig .tc := ⟨.hbm, 157, rfl⟩
abbrev main_cst_19 : Ref sig .tc := ⟨.hbm, 158, rfl⟩
abbrev main_v117 : Ref sig .tc := ⟨.hbm, 159, rfl⟩
abbrev main_v118 : Ref sig .tc := ⟨.hbm, 160, rfl⟩
abbrev main_cst_20 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_cst_21 : Ref sig .tc := ⟨.hbm, 166, rfl⟩
abbrev main_v123 : Ref sig .tc := ⟨.hbm, 167, rfl⟩
abbrev main_v124 : Ref sig .tc := ⟨.hbm, 168, rfl⟩
abbrev main_cst_22 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_cst_23 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_cst_24 : Ref sig .tc := ⟨.hbm, 178, rfl⟩
abbrev main_v132 : Ref sig .tc := ⟨.hbm, 179, rfl⟩
abbrev main_v133 : Ref sig .tc := ⟨.hbm, 180, rfl⟩
abbrev main_cst_25 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_cst_26 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_cst_27 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_cst_28 : Ref sig .tc := ⟨.hbm, 201, rfl⟩
abbrev main_v151 : Ref sig .tc := ⟨.hbm, 202, rfl⟩
abbrev main_v152 : Ref sig .tc := ⟨.hbm, 203, rfl⟩
abbrev main_cst_29 : Ref sig .tc := ⟨.hbm, 204, rfl⟩
abbrev main_v153 : Ref sig .tc := ⟨.hbm, 205, rfl⟩
abbrev main_v154 : Ref sig .tc := ⟨.hbm, 206, rfl⟩
abbrev main_cst_30 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_call2_cst : Ref sig .tc := ⟨.hbm, 214, rfl⟩
abbrev main_call2_v0 : Ref sig .tc := ⟨.hbm, 215, rfl⟩
abbrev main_v161 : Ref sig .tc := ⟨.hbm, 216, rfl⟩
abbrev main_cst_31 : Ref sig .tc := ⟨.hbm, 217, rfl⟩
abbrev main_v162 : Ref sig .tc := ⟨.hbm, 218, rfl⟩
abbrev main_v163 : Ref sig .tc := ⟨.hbm, 219, rfl⟩
abbrev main_cst_32 : Ref sig .tc := ⟨.hbm, 220, rfl⟩
abbrev main_v164 : Ref sig .tc := ⟨.hbm, 221, rfl⟩
abbrev main_v165 : Ref sig .tc := ⟨.hbm, 222, rfl⟩
abbrev main_cst_33 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_cst_34 : Ref sig .tc := ⟨.hbm, 228, rfl⟩
abbrev main_v170 : Ref sig .tc := ⟨.hbm, 229, rfl⟩
abbrev main_v171 : Ref sig .tc := ⟨.hbm, 230, rfl⟩
abbrev main_cst_35 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_cst_36 : Ref sig .tc := ⟨.hbm, 237, rfl⟩
abbrev main_v177 : Ref sig .tc := ⟨.hbm, 238, rfl⟩
abbrev main_v178 : Ref sig .tc := ⟨.hbm, 239, rfl⟩
abbrev main_cst_37 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_cst_38 : Ref sig .tc := ⟨.hbm, 248, rfl⟩
abbrev main_v186 : Ref sig .tc := ⟨.hbm, 249, rfl⟩
abbrev main_v187 : Ref sig .tc := ⟨.hbm, 250, rfl⟩
abbrev main_cst_39 : Ref sig .tc := ⟨.hbm, 251, rfl⟩
abbrev main_v188 : Ref sig .tc := ⟨.hbm, 252, rfl⟩
abbrev main_v189 : Ref sig .tc := ⟨.hbm, 253, rfl⟩
abbrev main_cst_40 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_cst_41 : Ref sig .tc := ⟨.hbm, 261, rfl⟩
abbrev main_v196 : Ref sig .tc := ⟨.hbm, 262, rfl⟩
abbrev main_cst_42 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_cst_43 : Ref sig .tc := ⟨.hbm, 270, rfl⟩
abbrev main_v203 : Ref sig .tc := ⟨.hbm, 271, rfl⟩
abbrev main_cst_44 : Ref sig .tc := ⟨.hbm, 272, rfl⟩
abbrev main_v204 : Ref sig .tc := ⟨.hbm, 273, rfl⟩
abbrev main_v205 : Ref sig .tc := ⟨.hbm, 274, rfl⟩
abbrev main_cst_45 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_cst_46 : Ref sig .tc := ⟨.hbm, 280, rfl⟩
abbrev main_v210 : Ref sig .tc := ⟨.hbm, 281, rfl⟩
abbrev main_v211 : Ref sig .tc := ⟨.hbm, 282, rfl⟩
abbrev main_v212 : Ref sig .tc := ⟨.hbm, 283, rfl⟩
abbrev main_cst_47 : Ref sig .tc := ⟨.hbm, 284, rfl⟩
abbrev main_v213 : Ref sig .tc := ⟨.hbm, 285, rfl⟩
abbrev main_v214 : Ref sig .tc := ⟨.hbm, 286, rfl⟩
abbrev main_v215 : Ref sig .tc := ⟨.hbm, 287, rfl⟩
abbrev main_cst_48 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_cst_49 : Ref sig .tc := ⟨.hbm, 293, rfl⟩
abbrev main_v220 : Ref sig .tc := ⟨.hbm, 294, rfl⟩
abbrev main_v221 : Ref sig .tc := ⟨.hbm, 295, rfl⟩
abbrev main_cst_50 : Ref sig .tc := ⟨.hbm, 296, rfl⟩
abbrev main_v222 : Ref sig .tc := ⟨.hbm, 297, rfl⟩
abbrev main_v223 : Ref sig .tc := ⟨.hbm, 298, rfl⟩
abbrev main_cst_51 : Ref sig .tc := ⟨.hbm, 299, rfl⟩
abbrev main_v224 : Ref sig .tc := ⟨.hbm, 300, rfl⟩
abbrev main_v225 : Ref sig .tc := ⟨.hbm, 301, rfl⟩
abbrev main_v226 : Ref sig .tc := ⟨.hbm, 302, rfl⟩
abbrev main_v227 : Ref sig .tc := ⟨.hbm, 303, rfl⟩
abbrev main_v228 : Ref sig .tc := ⟨.hbm, 304, rfl⟩
abbrev main_v229 : Ref sig .tc := ⟨.hbm, 305, rfl⟩

abbrev nD : Nat := 1
abbrev τ : Topo := Topo.v7x

variable {F : FTy → Type} [FloatOps F]
-- ==== Kernel3.lean ====
abbrev S8192x2048 : Shape := ⟨2, ![8192, 2048]⟩
abbrev S1x2048 : Shape := ⟨2, ![1, 2048]⟩
abbrev S_ : Shape := ⟨0, ![]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 23
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .bf16⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_cst_1 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S8192x2048 : Shape := ⟨2, ![8192, 2048]⟩
abbrev S1x2048 : Shape := ⟨2, ![1, 2048]⟩
abbrev S_ : Shape := ⟨0, ![]⟩
abbrev S2048 : Shape := ⟨1, ![2048]⟩
abbrev S8192 : Shape := ⟨1, ![8192]⟩
abbrev S8192x1 : Shape := ⟨2, ![8192, 1]⟩

abbrev nBuf : Space → Nat
  | .hbm => 118
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S2048, .f32⟩
  | .hbm, ⟨13, _⟩ => ⟨S2048, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S1x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S8192, .f32⟩
  | .hbm, ⟨63, _⟩ => ⟨S_, .f32⟩
  | .hbm, ⟨64, _⟩ => ⟨S8192, .f32⟩
  | .hbm, ⟨65, _⟩ => ⟨S8192, .f32⟩
  | .hbm, ⟨66, _⟩ => ⟨S8192x2048, .f32⟩
  | .hbm, ⟨67, _⟩ => ⟨S8192x2048, .f32⟩
  | .hbm, ⟨68, _⟩ => ⟨S_, .f32⟩
  | .hbm, ⟨69, _⟩ => ⟨S2048, .f32⟩
  | .hbm, ⟨70, _⟩ => ⟨S1x2048, .f32⟩
  | .hbm, ⟨71, _⟩ => ⟨S_, .f32⟩
  | .hbm, ⟨72, _⟩ => ⟨S2048, .f32⟩
  | .hbm, ⟨73, _⟩ => ⟨S8192x2048, .f32⟩
  | .hbm, ⟨74, _⟩ => ⟨S_, .f32⟩
  | .hbm, ⟨75, _⟩ => ⟨S2048, .f32⟩
  | .hbm, ⟨76, _⟩ => ⟨S1x2048, .f32⟩
  | .hbm, ⟨77, _⟩ => ⟨S8192x2048, .f32⟩
  | .hbm, ⟨78, _⟩ => ⟨S8192x2048, .f32⟩
  | .hbm, ⟨79, _⟩ => ⟨S_, .f32⟩
  | .hbm, ⟨80, _⟩ => ⟨S2048, .f32⟩
  | .hbm, ⟨81, _⟩ => ⟨S8192x2048, .f32⟩
  | .hbm, ⟨82, _⟩ => ⟨S_, .f32⟩
  | .hbm, ⟨83, _⟩ => ⟨S8192, .f32⟩
  | .hbm, ⟨84, _⟩ => ⟨S8192x1, .f32⟩
  | .hbm, ⟨85, _⟩ => ⟨S8192x2048, .f32⟩
  | .hbm, ⟨86, _⟩ => ⟨S8192x2048, .f32⟩
  | .hbm, ⟨87, _⟩ => ⟨S8192x1, .f32⟩
  | .hbm, ⟨88, _⟩ => ⟨S_, .f32⟩
  | .hbm, ⟨89, _⟩ => ⟨S8192x1, .f32⟩
  | .hbm, ⟨90, _⟩ => ⟨S8192x1, .f32⟩
  | .hbm, ⟨91, _⟩ => ⟨S_, .f32⟩
  | .hbm, ⟨92, _⟩ => ⟨S8192, .f32⟩
  | .hbm, ⟨93, _⟩ => ⟨S8192x2048, .f32⟩
  | .hbm, ⟨94, _⟩ => ⟨S8192x2048, .f32⟩
  | .hbm, ⟨95, _⟩ => ⟨S8192x2048, .f32⟩
  | .hbm, ⟨96, _⟩ => ⟨S8192x2048, .f32⟩
  | .hbm, ⟨97, _⟩ => ⟨S8192x2048, .f32⟩
  | .hbm, ⟨98, _⟩ => ⟨S8192x2048, .f32⟩
  | .hbm, ⟨99, _⟩ => ⟨S_, .f32⟩
  | .hbm, ⟨100, _⟩ => ⟨S8192, .f32⟩
  | .hbm, ⟨101, _⟩ => ⟨S8192x1, .f32⟩
  | .hbm, ⟨102, _⟩ => ⟨S_, .f32⟩
  | .hbm, ⟨103, _⟩ => ⟨S8192x1, .f32⟩
  | .hbm, ⟨104, _⟩ => ⟨S8192x1, .f32⟩
  | .hbm, ⟨105, _⟩ => ⟨S_, .f32⟩
  | .hbm, ⟨106, _⟩ => ⟨S8192, .f32⟩
  | .hbm, ⟨107, _⟩ => ⟨S8192x2048, .f32⟩
  | .hbm, ⟨108, _⟩ => ⟨S8192x2048, .f32⟩
  | .hbm, ⟨109, _⟩ => ⟨S1x2048, .f32⟩
  | .hbm, ⟨110, _⟩ => ⟨S1x2048, .f32⟩
  | .hbm, ⟨111, _⟩ => ⟨S_, .f32⟩
  | .hbm, ⟨112, _⟩ => ⟨S8192x2048, .f32⟩
  | .hbm, ⟨113, _⟩ => ⟨S8192x2048, .f32⟩
  | .hbm, ⟨114, _⟩ => ⟨S_, .f32⟩
  | .hbm, ⟨115, _⟩ => ⟨S8192x2048, .f32⟩
  | .hbm, ⟨116, _⟩ => ⟨S8192x2048, .f32⟩
  | .hbm, ⟨117, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_cst_12 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_cst_16 : Ref sig .tc := ⟨.hbm, 71, rfl⟩
abbrev main_v49 : Ref sig .tc := ⟨.hbm, 72, rfl⟩
abbrev main_v50 : Ref sig .tc := ⟨.hbm, 73, rfl⟩
abbrev main_cst_17 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_18 : Ref sig .tc := ⟨.hbm, 79, rfl⟩
abbrev main_v55 : Ref sig .tc := ⟨.hbm, 80, rfl⟩
abbrev main_v56 : Ref sig .tc := ⟨.hbm, 81, rfl⟩
abbrev main_cst_19 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_20 : Ref sig .tc := ⟨.hbm, 88, rfl⟩
abbrev main_v62 : Ref sig .tc := ⟨.hbm, 89, rfl⟩
abbrev main_v63 : Ref sig .tc := ⟨.hbm, 90, rfl⟩
abbrev main_cst_21 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_22 : Ref sig .tc := ⟨.hbm, 99, rfl⟩
abbrev main_v71 : Ref sig .tc := ⟨.hbm, 100, rfl⟩
abbrev main_v72 : Ref sig .tc := ⟨.hbm, 101, rfl⟩
abbrev main_cst_23 : Ref sig .tc := ⟨.hbm, 102, rfl⟩
abbrev main_v73 : Ref sig .tc := ⟨.hbm, 103, rfl⟩
abbrev main_v74 : Ref sig .tc := ⟨.hbm, 104, rfl⟩
abbrev main_cst_24 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_25 : Ref sig .tc := ⟨.hbm, 111, rfl⟩
abbrev main_v80 : Ref sig .tc := ⟨.hbm, 112, rfl⟩
abbrev main_v81 : Ref sig .tc := ⟨.hbm, 113, rfl⟩
abbrev main_cst_26 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩

abbrev nD : Nat := 1
abbrev τ : Topo := Topo.v7x

variable {F : FTy → Type} [FloatOps F]
-- ==== Kernel4.lean ====
abbrev S8192x2048 : Shape := ⟨2, ![8192, 2048]⟩
abbrev S2048x5632 : Shape := ⟨2, ![2048, 5632]⟩
abbrev S5632x2048 : Shape := ⟨2, ![5632, 2048]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩
abbrev S128x512 : Shape := ⟨2, ![128, 512]⟩

abbrev nBuf : Space → Nat
  | .hbm => 16
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S8192x2048, .f32⟩
  | .hbm, ⟨5, _⟩ => ⟨S8192x2048, .bf16⟩
  | .hbm, ⟨6, _⟩ => ⟨S2048x5632, .bf16⟩
  | .hbm, ⟨7, _⟩ => ⟨S8192x5632, .f32⟩
  | .hbm, ⟨8, _⟩ => ⟨S8192x5632, .bf16⟩
  | .hbm, ⟨9, _⟩ => ⟨S2048x5632, .bf16⟩
  | .hbm, ⟨10, _⟩ => ⟨S8192x5632, .f32⟩
  | .hbm, ⟨11, _⟩ => ⟨S8192x5632, .bf16⟩
  | .hbm, ⟨12, _⟩ => ⟨S8192x2048, .bf16⟩
  | .hbm, ⟨13, _⟩ => ⟨S5632x2048, .bf16⟩
  | .hbm, ⟨14, _⟩ => ⟨S8192x5632, .bf16⟩
  | .hbm, ⟨15, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference4Ideal.lean ====
abbrev S8192x2048 : Shape := ⟨2, ![8192, 2048]⟩
abbrev S2048x5632 : Shape := ⟨2, ![2048, 5632]⟩
abbrev S5632x2048 : Shape := ⟨2, ![5632, 2048]⟩
abbrev S8192x5632 : Shape := ⟨2, ![8192, 5632]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S8192x2048, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x2048, .f32⟩
  | .hbm, ⟨22, _⟩ => ⟨S2048x5632, .f32⟩
  | .hbm, ⟨23, _⟩ => ⟨S5632x2048, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x5632, .bf16⟩
  | .hbm, ⟨32, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== Kernel5.lean ====
abbrev S8192x5120 : Shape := ⟨2, ![8192, 5120]⟩
abbrev S1x5120 : Shape := ⟨2, ![1, 5120]⟩
abbrev S1x8x128x128 : Shape := ⟨4, ![1, 8, 128, 128]⟩
abbrev S1x8x128 : Shape := ⟨3, ![1, 8, 128]⟩
abbrev S1x1024 : Shape := ⟨2, ![1, 1024]⟩
abbrev S1x3x1024 : Shape := ⟨3, ![1, 3, 1024]⟩
abbrev S8x128 : Shape := ⟨2, ![8, 128]⟩
abbrev S8x128x1 : Shape := ⟨3, ![8, 128, 1]⟩
abbrev S8x128x128 : Shape := ⟨3, ![8, 128, 128]⟩
abbrev S_ : Shape := ⟨0, ![]⟩
abbrev S8x1024 : Shape := ⟨2, ![8, 1024]⟩
abbrev S3x1024 : Shape := ⟨2, ![3, 1024]⟩
abbrev S1 : Shape := ⟨1, ![1]⟩
abbrev S8192x2048 : Shape := ⟨2, ![8192, 2048]⟩
abbrev S256x5120 : Shape := ⟨2, ![256, 5120]⟩
abbrev S8x5120 : Shape := ⟨2, ![8, 5120]⟩
abbrev S256x2048 : Shape := ⟨2, ![256, 2048]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩
abbrev S1x128 : Shape := ⟨2, ![1, 128]⟩
abbrev S256x128 : Shape := ⟨2, ![256, 128]⟩

abbrev nBuf : Space → Nat
  | .hbm => 20
  | .vmem => 11
  | .smem => 0
  | _ => 0

abbrev bufTy : (tb : Table) → Fin (tcTables nBuf tb) → BufTy
  | .hbm, ⟨0, _⟩ => ⟨S8192x5120, .f32⟩
  | .hbm, ⟨1, _⟩ => ⟨S1x5120, .f32⟩
  | .hbm, ⟨2, _⟩ => ⟨S1x8x128x128, .f32⟩
  | .hbm, ⟨3, _⟩ => ⟨S1x8x128, .f32⟩
  | .hbm, ⟨4, _⟩ => ⟨S1x1024, .f32⟩
  | .hbm, ⟨5, _⟩ => ⟨S1x1024, .f32⟩
  | .hbm, ⟨6, _⟩ => ⟨S1x3x1024, .f32⟩
  | .hbm, ⟨7, _⟩ => ⟨S8192x5120, .f32⟩
  | .hbm, ⟨8, _⟩ => ⟨S8192x5120, .f32⟩
  | .hbm, ⟨9, _⟩ => ⟨S8x128, .f32⟩
  | .hbm, ⟨10, _⟩ => ⟨S8x128x1, .f32⟩
  | .hbm, ⟨11, _⟩ => ⟨S8x128x128, .f32⟩
  | .hbm, ⟨12, _⟩ => ⟨S_, .f32⟩
  | .hbm, ⟨13, _⟩ => ⟨S8x1024, .f32⟩
  | .hbm, ⟨14, _⟩ => ⟨S3x1024, .f32⟩
  | .hbm, ⟨15, _⟩ => ⟨S_, .i32⟩
  | .hbm, ⟨16, _⟩ => ⟨S1, .i32⟩
  | .hbm, ⟨17, _⟩ => ⟨S8x1024, .f32⟩
  | .hbm, ⟨18, _⟩ => ⟨S8x128x128, .f32⟩
  | .hbm, ⟨19, _⟩ => ⟨S8192x2048, .bf16⟩
  | .local _ .vmem, ⟨0, _⟩ => ⟨S256x5120, .f32⟩
  | .local _ .vmem, ⟨1, _⟩ => ⟨S256x5120, .f32⟩
  | .local _ .vmem, ⟨2, _⟩ => ⟨S8x5120, .f32⟩
  | .local _ .vmem, ⟨3, _⟩ => ⟨S8x5120, .f32⟩
  | .local _ .vmem, ⟨4, _⟩ => ⟨S8x128x128, .f32⟩
  | .local _ .vmem, ⟨5, _⟩ => ⟨S8x128x128, .f32⟩
  | .local _ .vmem, ⟨6, _⟩ => ⟨S1x1024, .f32⟩
  | .local _ .vmem, ⟨7, _⟩ => ⟨S1x1024, .f32⟩
  | .local _ .vmem, ⟨8, _⟩ => ⟨S8x1024, .f32⟩
  | .local _ .vmem, ⟨9, _⟩ => ⟨S256x2048, .bf16⟩
  | .local _ .vmem, ⟨10, _⟩ => ⟨S256x2048, .bf16⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel5Ideal.lean ====
variable {F : FTy → Type} [FloatOps F] [Named F]
def κ : String → Option EReal := fun
  | "gelu_ca" => some ((80338380498831 / 2251799813685248 : ℝ) : EReal)
  | _ => none
-- ==== Reference5Ideal.lean ====
abbrev S8192x5120 : Shape := ⟨2, ![8192, 5120]⟩
abbrev S1x5120 : Shape := ⟨2, ![1, 5120]⟩
abbrev S1x8x128x128 : Shape := ⟨4, ![1, 8, 128, 128]⟩
abbrev S1x8x128 : Shape := ⟨3, ![1, 8, 128]⟩
abbrev S1x1024 : Shape := ⟨2, ![1, 1024]⟩
abbrev S1x3x1024 : Shape := ⟨3, ![1, 3, 1024]⟩
abbrev S5120 : Shape := ⟨1, ![5120]⟩
abbrev S8192x2048 : Shape := ⟨2, ![8192, 2048]⟩
abbrev S_ : Shape := ⟨0, ![]⟩
abbrev S8192x1024 : Shape := ⟨2, ![8192, 1024]⟩
abbrev S8x128x128 : Shape := ⟨3, ![8, 128, 128]⟩
abbrev S8x128 : Shape := ⟨2, ![8, 128]⟩
abbrev S1024 : Shape := ⟨1, ![1024]⟩
abbrev S64x128x8x128 : Shape := ⟨4, ![64, 128, 8, 128]⟩
abbrev S64x128x8 : Shape := ⟨3, ![64, 128, 8]⟩
abbrev S64x128x8x1 : Shape := ⟨4, ![64, 128, 8, 1]⟩
abbrev S1x1x8x128 : Shape := ⟨4, ![1, 1, 8, 128]⟩
abbrev S128x128 : Shape := ⟨2, ![128, 128]⟩
abbrev S1x128x128 : Shape := ⟨3, ![1, 128, 128]⟩
abbrev S8x64x128x128 : Shape := ⟨4, ![8, 64, 128, 128]⟩
abbrev S128x8 : Shape := ⟨2, ![128, 8]⟩
abbrev S128x8x1 : Shape := ⟨3, ![128, 8, 1]⟩
abbrev S1x128x8x1 : Shape := ⟨4, ![1, 128, 8, 1]⟩
abbrev S3x1024 : Shape := ⟨2, ![3, 1024]⟩
abbrev S8191x1024 : Shape := ⟨2, ![8191, 1024]⟩
abbrev S2x1024 : Shape := ⟨2, ![2, 1024]⟩
abbrev S8190x1024 : Shape := ⟨2, ![8190, 1024]⟩

abbrev nBuf : Space → Nat
  | .hbm => 124
  | .vmem => 0
  | .smem => 0
  | _ => 0

abbrev bufTy : (tb : Table) → Fin (tcTables nBuf tb) → BufTy
  | .hbm, ⟨0, _⟩ => ⟨S8192x5120, .f32⟩
  | .hbm, ⟨1, _⟩ => ⟨S1x5120, .f32⟩
  | .hbm, ⟨2, _⟩ => ⟨S1x8x128x128, .f32⟩
  | .hbm, ⟨3, _⟩ => ⟨S1x8x128, .f32⟩
  | .hbm, ⟨4, _⟩ => ⟨S1x1024, .f32⟩
  | .hbm, ⟨5, _⟩ => ⟨S1x1024, .f32⟩
  | .hbm, ⟨6, _⟩ => ⟨S1x3x1024, .f32⟩
  | .hbm, ⟨7, _⟩ => ⟨S5120, .f32⟩
  | .hbm, ⟨8, _⟩ => ⟨S1x5120, .f32⟩
  | .hbm, ⟨9, _⟩ => ⟨S8192x5120, .f32⟩
  | .hbm, ⟨10, _⟩ => ⟨S8192x5120, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8x128x128, .f32⟩
  | .hbm, ⟨33, _⟩ => ⟨S8x128, .f32⟩
  | .hbm, ⟨34, _⟩ => ⟨S1024, .f32⟩
  | .hbm, ⟨35, _⟩ => ⟨S1024, .f32⟩
  | .hbm, ⟨36, _⟩ => ⟨S8192x1024, .f32⟩
  | .hbm, ⟨37, _⟩ => ⟨S8192x1024, .f32⟩
  | .hbm, ⟨38, _⟩ => ⟨S64x128x8x128, .f32⟩
  | .hbm, ⟨39, _⟩ => ⟨S8x128, .f32⟩
  | .hbm, ⟨40, _⟩ => ⟨S8x128, .f32⟩
  | .hbm, ⟨41, _⟩ => ⟨S_, .f32⟩
  | .hbm, ⟨42, _⟩ => ⟨S64x128x8, .f32⟩
  | .hbm, ⟨43, _⟩ => ⟨S64x128x8x1, .f32⟩
  | .hbm, ⟨44, _⟩ => ⟨S_, .f32⟩
  | .hbm, ⟨45, _⟩ => ⟨S64x128x8x1, .f32⟩
  | .hbm, ⟨46, _⟩ => ⟨S64x128x8x1, .f32⟩
  | .hbm, ⟨47, _⟩ => ⟨S64x128x8x128, .f32⟩
  | .hbm, ⟨48, _⟩ => ⟨S64x128x8x128, .f32⟩
  | .hbm, ⟨49, _⟩ => ⟨S64x128x8x128, .f32⟩
  | .hbm, ⟨50, _⟩ => ⟨S_, .f32⟩
  | .hbm, ⟨51, _⟩ => ⟨S64x128x8, .f32⟩
  | .hbm, ⟨52, _⟩ => ⟨S64x128x8x1, .f32⟩
  | .hbm, ⟨53, _⟩ => ⟨S_, .f32⟩
  | .hbm, ⟨54, _⟩ => ⟨S64x128x8x1, .f32⟩
  | .hbm, ⟨55, _⟩ => ⟨S64x128x8x1, .f32⟩
  | .hbm, ⟨56, _⟩ => ⟨S_, .f32⟩
  | .hbm, ⟨57, _⟩ => ⟨S64x128x8x1, .f32⟩
  | .hbm, ⟨58, _⟩ => ⟨S64x128x8x1, .f32⟩
  | .hbm, ⟨59, _⟩ => ⟨S64x128x8x1, .f32⟩
  | .hbm, ⟨60, _⟩ => ⟨S64x128x8x128, .f32⟩
  | .hbm, ⟨61, _⟩ => ⟨S64x128x8x128, .f32⟩
  | .hbm, ⟨62, _⟩ => ⟨S1x1x8x128, .f32⟩
  | .hbm, ⟨63, _⟩ => ⟨S64x128x8x128, .f32⟩
  | .hbm, ⟨64, _⟩ => ⟨S64x128x8x128, .f32⟩
  | .hbm, ⟨65, _⟩ => ⟨S1x1x8x128, .f32⟩
  | .hbm, ⟨66, _⟩ => ⟨S64x128x8x128, .f32⟩
  | .hbm, ⟨67, _⟩ => ⟨S64x128x8x128, .f32⟩
  | .hbm, ⟨68, _⟩ => ⟨S_, .i1⟩
  | .hbm, ⟨69, _⟩ => ⟨S128x128, .i1⟩
  | .hbm, ⟨70, _⟩ => ⟨S128x128, .i32⟩
  | .hbm, ⟨71, _⟩ => ⟨S_, .i32⟩
  | .hbm, ⟨72, _⟩ => ⟨S128x128, .i32⟩
  | .hbm, ⟨73, _⟩ => ⟨S128x128, .i32⟩
  | .hbm, ⟨74, _⟩ => ⟨S128x128, .i32⟩
  | .hbm, ⟨75, _⟩ => ⟨S128x128, .i1⟩
  | .hbm, ⟨76, _⟩ => ⟨S_, .i1⟩
  | .hbm, ⟨77, _⟩ => ⟨S128x128, .i1⟩
  | .hbm, ⟨78, _⟩ => ⟨S128x128, .i1⟩
  | .hbm, ⟨79, _⟩ => ⟨S1x128x128, .i1⟩
  | .hbm, ⟨80, _⟩ => ⟨S_, .f32⟩
  | .hbm, ⟨81, _⟩ => ⟨S8x128x128, .i1⟩
  | .hbm, ⟨82, _⟩ => ⟨S8x128x128, .f32⟩
  | .hbm, ⟨83, _⟩ => ⟨S8x128x128, .f32⟩
  | .hbm, ⟨84, _⟩ => ⟨S8x64x128x128, .f32⟩
  | .hbm, ⟨85, _⟩ => ⟨S64x128x8x128, .f32⟩
  | .hbm, ⟨86, _⟩ => ⟨S128x8, .f32⟩
  | .hbm, ⟨87, _⟩ => ⟨S128x8x1, .f32⟩
  | .hbm, ⟨88, _⟩ => ⟨S1x128x8x1, .f32⟩
  | .hbm, ⟨89, _⟩ => ⟨S64x128x8x128, .f32⟩
  | .hbm, ⟨90, _⟩ => ⟨S64x128x8x128, .f32⟩
  | .hbm, ⟨91, _⟩ => ⟨S64x128x8x128, .f32⟩
  | .hbm, ⟨92, _⟩ => ⟨S64x128x8x128, .f32⟩
  | .hbm, ⟨93, _⟩ => ⟨S8192x1024, .f32⟩
  | .hbm, ⟨94, _⟩ => ⟨S3x1024, .f32⟩
  | .hbm, ⟨95, _⟩ => ⟨S8192x1024, .f32⟩
  | .hbm, ⟨96, _⟩ => ⟨S_, .f32⟩
  | .hbm, ⟨97, _⟩ => ⟨S1x1024, .f32⟩
  | .hbm, ⟨98, _⟩ => ⟨S8191x1024, .f32⟩
  | .hbm, ⟨99, _⟩ => ⟨S8192x1024, .f32⟩
  | .hbm, ⟨100, _⟩ => ⟨S_, .f32⟩
  | .hbm, ⟨101, _⟩ => ⟨S2x1024, .f32⟩
  | .hbm, ⟨102, _⟩ => ⟨S8190x1024, .f32⟩
  | .hbm, ⟨103, _⟩ => ⟨S8192x1024, .f32⟩
  | .hbm, ⟨104, _⟩ => ⟨S1x1024, .f32⟩
  | .hbm, ⟨105, _⟩ => ⟨S1024, .f32⟩
  | .hbm, ⟨106, _⟩ => ⟨S1x1024, .f32⟩
  | .hbm, ⟨107, _⟩ => ⟨S8192x1024, .f32⟩
  | .hbm, ⟨108, _⟩ => ⟨S8192x1024, .f32⟩
  | .hbm, ⟨109, _⟩ => ⟨S1x1024, .f32⟩
  | .hbm, ⟨110, _⟩ => ⟨S1024, .f32⟩
  | .hbm, ⟨111, _⟩ => ⟨S1x1024, .f32⟩
  | .hbm, ⟨112, _⟩ => ⟨S8192x1024, .f32⟩
  | .hbm, ⟨113, _⟩ => ⟨S8192x1024, .f32⟩
  | .hbm, ⟨114, _⟩ => ⟨S8192x1024, .f32⟩
  | .hbm, ⟨115, _⟩ => ⟨S1x1024, .f32⟩
  | .hbm, ⟨116, _⟩ => ⟨S1024, .f32⟩
  | .hbm, ⟨117, _⟩ => ⟨S1x1024, .f32⟩
  | .hbm, ⟨118, _⟩ => ⟨S8192x1024, .f32⟩
  | .hbm, ⟨119, _⟩ => ⟨S8192x1024, .f32⟩
  | .hbm, ⟨120, _⟩ => ⟨S8192x1024, .f32⟩
  | .hbm, ⟨121, _⟩ => ⟨S8192x1024, .f32⟩
  | .hbm, ⟨122, _⟩ => ⟨S8192x2048, .f32⟩
  | .hbm, ⟨123, _⟩ => ⟨S8192x2048, .bf16⟩
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c : Ref sig .tc := ⟨.hbm, 68, rfl⟩
abbrev main_v52 : Ref sig .tc := ⟨.hbm, 69, rfl⟩
abbrev main_call0_v0 : Ref sig .tc := ⟨.hbm, 70, rfl⟩
abbrev main_call0_c : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_c_0 : Ref sig .tc := ⟨.hbm, 76, rfl⟩
abbrev main_call0_v5 : Ref sig .tc := ⟨.hbm, 77, rfl⟩
abbrev main_v53 : Ref sig .tc := ⟨.hbm, 78, rfl⟩
abbrev main_v54 : Ref sig .tc := ⟨.hbm, 79, rfl⟩
abbrev main_cst_8 : Ref sig .tc := ⟨.hbm, 80, rfl⟩
abbrev main_call1_v0 : Ref sig .tc := ⟨.hbm, 81, rfl⟩
abbrev main_call1_v1 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_9 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_10 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩

abbrev nD : Nat := 1
abbrev τ : Topo := Topo.v7x

variable {F : FTy → Type} [FloatOps F]
-- ==== Kernel6.lean ====
abbrev S8192x2048 : Shape := ⟨2, ![8192, 2048]⟩
abbrev S1x2048 : Shape := ⟨2, ![1, 2048]⟩
abbrev S_ : Shape := ⟨0, ![]⟩
abbrev S512x2048 : Shape := ⟨2, ![512, 2048]⟩
abbrev S512 : Shape := ⟨1, ![512]⟩
abbrev S512x1 : Shape := ⟨2, ![512, 1]⟩

abbrev nBuf : Space → Nat
  | .hbm => 13
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S8192x2048 : Shape := ⟨2, ![8192, 2048]⟩
abbrev S1x2048 : Shape := ⟨2, ![1, 2048]⟩
abbrev S_ : Shape := ⟨0, ![]⟩
abbrev S2048 : Shape := ⟨1, ![2048]⟩
abbrev S8192 : Shape := ⟨1, ![8192]⟩
abbrev S8192x1 : Shape := ⟨2, ![8192, 1]⟩

abbrev nBuf : Space → Nat
  | .hbm => 43
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S2048, .f32⟩
  | .hbm, ⟨9, _⟩ => ⟨S1x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S2048, .f32⟩
  | .hbm, ⟨14, _⟩ => ⟨S2048, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S1x2048, .f32⟩
  | .hbm, ⟨37, _⟩ => ⟨S8192x2048, .f32⟩
  | .hbm, ⟨38, _⟩ => ⟨S8192x2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel7.lean ====
abbrev S8192x2048 : Shape := ⟨2, ![8192, 2048]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S8192x5632 : Shape := ⟨2, ![8192, 5632]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩
abbrev S128x1408 : Shape := ⟨2, ![128, 1408]⟩

abbrev nBuf : Space → Nat
  | .hbm => 13
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S8192x2048, .bf16⟩
  | .hbm, ⟨4, _⟩ => ⟨S2048x5632, .bf16⟩
  | .hbm, ⟨5, _⟩ => ⟨S2048x4x1408, .bf16⟩
  | .hbm, ⟨6, _⟩ => ⟨S4x2048x1408, .bf16⟩
  | .hbm, ⟨7, _⟩ => ⟨S2048x5632, .bf16⟩
  | .hbm, ⟨8, _⟩ => ⟨S2048x4x1408, .bf16⟩
  | .hbm, ⟨9, _⟩ => ⟨S4x2048x1408, .bf16⟩
  | .hbm, ⟨10, _⟩ => ⟨S8192x5632, .bf16⟩
  | .hbm, ⟨11, _⟩ => ⟨S8192x5632, .bf16⟩
  | .hbm, ⟨12, _⟩ => ⟨S8192x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference7Ideal.lean ====
abbrev S8192x2048 : Shape := ⟨2, ![8192, 2048]⟩
abbrev S2048x5632 : Shape := ⟨2, ![2048, 5632]⟩
abbrev S8192x5632 : Shape := ⟨2, ![8192, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S8192x5632, .f32⟩
  | .hbm, ⟨4, _⟩ => ⟨S8192x5632, .f32⟩
  | .hbm, ⟨5, _⟩ => ⟨S8192x5632, .bf16⟩
  | .hbm, ⟨6, _⟩ => ⟨S8192x5632, .bf16⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel8.lean ====
abbrev S8192x2048 : Shape := ⟨2, ![8192, 2048]⟩
abbrev S1x2048 : Shape := ⟨2, ![1, 2048]⟩
abbrev S_ : Shape := ⟨0, ![]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 17
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .bf16⟩
  | .hbm, ⟨14, _⟩ => ⟨S1x2048, .f32⟩
  | .hbm, ⟨15, _⟩ => ⟨S1x2048, .f32⟩
  | .hbm, ⟨16, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference8Ideal.lean ====
abbrev S8192x2048 : Shape := ⟨2, ![8192, 2048]⟩
abbrev S1x2048 : Shape := ⟨2, ![1, 2048]⟩
abbrev S_ : Shape := ⟨0, ![]⟩
abbrev S2048 : Shape := ⟨1, ![2048]⟩
abbrev S8192 : Shape := ⟨1, ![8192]⟩
abbrev S8192x1 : Shape := ⟨2, ![8192, 1]⟩

abbrev nBuf : Space → Nat
  | .hbm => 96
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S2048, .f32⟩
  | .hbm, ⟨13, _⟩ => ⟨S2048, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S1x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S_, .f32⟩
  | .hbm, ⟨50, _⟩ => ⟨S2048, .f32⟩
  | .hbm, ⟨51, _⟩ => ⟨S8192x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S8192x2048, .f32⟩
  | .hbm, ⟨56, _⟩ => ⟨S8192x2048, .f32⟩
  | .hbm, ⟨57, _⟩ => ⟨S_, .f32⟩
  | .hbm, ⟨58, _⟩ => ⟨S2048, .f32⟩
  | .hbm, ⟨59, _⟩ => ⟨S8192x2048, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x2048, .f32⟩
  | .hbm, ⟨64, _⟩ => ⟨S8192x2048, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S_, .f32⟩
  | .hbm, ⟨84, _⟩ => ⟨S8192, .f32⟩
  | .hbm, ⟨85, _⟩ => ⟨S8192x2048, .f32⟩
  | .hbm, ⟨86, _⟩ => ⟨S8192x2048, .f32⟩
  | .hbm, ⟨87, _⟩ => ⟨S1x2048, .f32⟩
  | .hbm, ⟨88, _⟩ => ⟨S1x2048, .f32⟩
  | .hbm, ⟨89, _⟩ => ⟨S_, .f32⟩
  | .hbm, ⟨90, _⟩ => ⟨S8192x2048, .f32⟩
  | .hbm, ⟨91, _⟩ => ⟨S8192x2048, .f32⟩
  | .hbm, ⟨92, _⟩ => ⟨S_, .f32⟩
  | .hbm, ⟨93, _⟩ => ⟨S8192x2048, .f32⟩
  | .hbm, ⟨94, _⟩ => ⟨S8192x2048, .f32⟩
  | .hbm, ⟨95, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_12 : Ref sig .tc := ⟨.hbm, 66, rfl⟩
abbrev main_v48 : Ref sig .tc := ⟨.hbm, 67, rfl⟩
abbrev main_v49 : Ref sig .tc := ⟨.hbm, 68, rfl⟩
abbrev main_cst_13 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_14 : Ref sig .tc := ⟨.hbm, 77, rfl⟩
abbrev main_v57 : Ref sig .tc := ⟨.hbm, 78, rfl⟩
abbrev main_v58 : Ref sig .tc := ⟨.hbm, 79, rfl⟩
abbrev main_cst_15 : Ref sig .tc := ⟨.hbm, 80, rfl⟩
abbrev main_v59 : Ref sig .tc := ⟨.hbm, 81, rfl⟩
abbrev main_v60 : Ref sig .tc := ⟨.hbm, 82, rfl⟩
abbrev main_cst_16 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_17 : Ref sig .tc := ⟨.hbm, 89, rfl⟩
abbrev main_v66 : Ref sig .tc := ⟨.hbm, 90, rfl⟩
abbrev main_v67 : Ref sig .tc := ⟨.hbm, 91, rfl⟩
abbrev main_cst_18 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩

abbrev nD : Nat := 1
abbrev τ : Topo := Topo.v7x

variable {F : FTy → Type} [FloatOps F]
-- ==== Kernel9.lean ====
abbrev S8192x2048 : Shape := ⟨2, ![8192, 2048]⟩
abbrev S1x2048 : Shape := ⟨2, ![1, 2048]⟩
abbrev S_ : Shape := ⟨0, ![]⟩
abbrev S512x2048 : Shape := ⟨2, ![512, 2048]⟩
abbrev S512 : Shape := ⟨1, ![512]⟩
abbrev S512x1 : Shape := ⟨2, ![512, 1]⟩

abbrev nBuf : Space → Nat
  | .hbm => 13
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S8192x2048 : Shape := ⟨2, ![8192, 2048]⟩
abbrev S1x2048 : Shape := ⟨2, ![1, 2048]⟩
abbrev S_ : Shape := ⟨0, ![]⟩
abbrev S2048 : Shape := ⟨1, ![2048]⟩
abbrev S8192 : Shape := ⟨1, ![8192]⟩
abbrev S8192x1 : Shape := ⟨2, ![8192, 1]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S2048, .f32⟩
  | .hbm, ⟨12, _⟩ => ⟨S2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S1x2048, .f32⟩
  | .hbm, ⟨38, _⟩ => ⟨S8192x2048, .f32⟩
  | .hbm, ⟨39, _⟩ => ⟨S8192x2048, .f32⟩
  | .hbm, ⟨40, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel10.lean ====
abbrev S8192x2048 : Shape := ⟨2, ![8192, 2048]⟩
abbrev S2048x5632 : Shape := ⟨2, ![2048, 5632]⟩
abbrev S8192x5632 : Shape := ⟨2, ![8192, 5632]⟩
abbrev S2048x4x1408 : Shape := ⟨3, ![2048, 4, 1408]⟩
abbrev S4x2048x1408 : Shape := ⟨3, ![4, 2048, 1408]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩
abbrev S128x1408 : Shape := ⟨2, ![128, 1408]⟩

abbrev nBuf : Space → Nat
  | .hbm => 12
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S8192x2048, .bf16⟩
  | .hbm, ⟨4, _⟩ => ⟨S2048x5632, .bf16⟩
  | .hbm, ⟨5, _⟩ => ⟨S8192x5632, .f32⟩
  | .hbm, ⟨6, _⟩ => ⟨S8192x5632, .bf16⟩
  | .hbm, ⟨7, _⟩ => ⟨S2048x5632, .bf16⟩
  | .hbm, ⟨8, _⟩ => ⟨S2048x4x1408, .bf16⟩
  | .hbm, ⟨9, _⟩ => ⟨S4x2048x1408, .bf16⟩
  | .hbm, ⟨10, _⟩ => ⟨S8192x5632, .bf16⟩
  | .hbm, ⟨11, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference10Ideal.lean ====
abbrev S8192x2048 : Shape := ⟨2, ![8192, 2048]⟩
abbrev S2048x5632 : Shape := ⟨2, ![2048, 5632]⟩
abbrev S8192x5632 : Shape := ⟨2, ![8192, 5632]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S8192x5632, .f32⟩
  | .hbm, ⟨4, _⟩ => ⟨S8192x5632, .bf16⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel11.lean ====
abbrev S8192x2048 : Shape := ⟨2, ![8192, 2048]⟩
abbrev S2048x5632 : Shape := ⟨2, ![2048, 5632]⟩
abbrev S8192x5632 : Shape := ⟨2, ![8192, 5632]⟩
abbrev S2048x4x1408 : Shape := ⟨3, ![2048, 4, 1408]⟩
abbrev S4x2048x1408 : Shape := ⟨3, ![4, 2048, 1408]⟩
abbrev S1024x1408 : Shape := ⟨2, ![1024, 1408]⟩
abbrev S1x1024x1408 : Shape := ⟨3, ![1, 1024, 1408]⟩
abbrev S1024x1024 : Shape := ⟨2, ![1024, 1024]⟩
abbrev S128x1024 : Shape := ⟨2, ![128, 1024]⟩

abbrev nBuf : Space → Nat
  | .hbm => 15
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S8192x5632, .f32⟩
  | .hbm, ⟨4, _⟩ => ⟨S8192x5632, .f32⟩
  | .hbm, ⟨5, _⟩ => ⟨S8192x2048, .f32⟩
  | .hbm, ⟨6, _⟩ => ⟨S8192x5632, .bf16⟩
  | .hbm, ⟨7, _⟩ => ⟨S8192x5632, .bf16⟩
  | .hbm, ⟨8, _⟩ => ⟨S2048x5632, .bf16⟩
  | .hbm, ⟨9, _⟩ => ⟨S2048x4x1408, .bf16⟩
  | .hbm, ⟨10, _⟩ => ⟨S4x2048x1408, .bf16⟩
  | .hbm, ⟨11, _⟩ => ⟨S2048x5632, .bf16⟩
  | .hbm, ⟨12, _⟩ => ⟨S2048x4x1408, .bf16⟩
  | .hbm, ⟨13, _⟩ => ⟨S4x2048x1408, .bf16⟩
  | .hbm, ⟨14, _⟩ => ⟨S8192x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference11Ideal.lean ====
abbrev S8192x2048 : Shape := ⟨2, ![8192, 2048]⟩
abbrev S2048x5632 : Shape := ⟨2, ![2048, 5632]⟩
abbrev S8192x5632 : Shape := ⟨2, ![8192, 5632]⟩
abbrev S5632x2048 : Shape := ⟨2, ![5632, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S8192x5632, .f32⟩
  | .hbm, ⟨4, _⟩ => ⟨S8192x5632, .f32⟩
  | .hbm, ⟨5, _⟩ => ⟨S8192x2048, .f32⟩
  | .hbm, ⟨6, _⟩ => ⟨S8192x5632, .f32⟩
  | .hbm, ⟨7, _⟩ => ⟨S8192x5632, .f32⟩
  | .hbm, ⟨8, _⟩ => ⟨S5632x2048, .f32⟩
  | .hbm, ⟨9, _⟩ => ⟨S2048x5632, .f32⟩
  | .hbm, ⟨10, _⟩ => ⟨S8192x2048, .f32⟩
  | .hbm, ⟨11, _⟩ => ⟨S5632x2048, .f32⟩
  | .hbm, ⟨12, _⟩ => ⟨S2048x5632, .f32⟩
  | .hbm, ⟨13, _⟩ => ⟨S8192x2048, .f32⟩
  | .hbm, ⟨14, _⟩ => ⟨S8192x2048, .f32⟩
  | .hbm, ⟨15, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel12.lean ====
abbrev S8192x5632 : Shape := ⟨2, ![8192, 5632]⟩
abbrev S5632x2048 : Shape := ⟨2, ![5632, 2048]⟩
abbrev S8192x2048 : Shape := ⟨2, ![8192, 2048]⟩
abbrev S1024x5632 : Shape := ⟨2, ![1024, 5632]⟩
abbrev S5632x512 : Shape := ⟨2, ![5632, 512]⟩
abbrev S1024x512 : Shape := ⟨2, ![1024, 512]⟩
abbrev S128x512 : Shape := ⟨2, ![128, 512]⟩

abbrev nBuf : Space → Nat
  | .hbm => 6
  | .vmem => 8
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x5632, .bf16⟩
  | .hbm, ⟨4, _⟩ => ⟨S5632x2048, .bf16⟩
  | .hbm, ⟨5, _⟩ => ⟨S8192x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S8192x5632 : Shape := ⟨2, ![8192, 5632]⟩
abbrev S5632x2048 : Shape := ⟨2, ![5632, 2048]⟩
abbrev S8192x2048 : Shape := ⟨2, ![8192, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel13.lean ====
abbrev S8192x5632 : Shape := ⟨2, ![8192, 5632]⟩
abbrev S5632x2048 : Shape := ⟨2, ![5632, 2048]⟩
abbrev S8192x2048 : Shape := ⟨2, ![8192, 2048]⟩
abbrev S2048x1408 : Shape := ⟨2, ![2048, 1408]⟩
abbrev S2048x1024 : Shape := ⟨2, ![2048, 1024]⟩
abbrev S1408x1024 : Shape := ⟨2, ![1408, 1024]⟩
abbrev S128x1024 : Shape := ⟨2, ![128, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x5632, .bf16⟩
  | .hbm, ⟨4, _⟩ => ⟨S8192x2048, .bf16⟩
  | .hbm, ⟨5, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x5632 : Shape := ⟨2, ![8192, 5632]⟩
abbrev S5632x2048 : Shape := ⟨2, ![5632, 2048]⟩
abbrev S8192x2048 : Shape := ⟨2, ![8192, 2048]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x2048, .f32⟩
  | .hbm, ⟨4, _⟩ => ⟨S2048x5632, .f32⟩
  | .hbm, ⟨5, _⟩ => ⟨S5632x2048, .f32⟩
  | .hbm, ⟨6, _⟩ => ⟨S8192x5632, .f32⟩
  | .hbm, ⟨7, _⟩ => ⟨S5632x2048, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S8192x2048 : Shape := ⟨2, ![8192, 2048]⟩
abbrev S2048x5632 : Shape := ⟨2, ![2048, 5632]⟩
abbrev S8192x5632 : Shape := ⟨2, ![8192, 5632]⟩
abbrev S4x2048x1408 : Shape := ⟨3, ![4, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩
abbrev S128x1408 : Shape := ⟨2, ![128, 1408]⟩
abbrev S1x128x1408 : Shape := ⟨3, ![1, 128, 1408]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S8192x5632, .f32⟩
  | .hbm, ⟨3, _⟩ => ⟨S8192x2048, .bf16⟩
  | .hbm, ⟨4, _⟩ => ⟨S8192x5632, .bf16⟩
  | .hbm, ⟨5, _⟩ => ⟨S4x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x2048 : Shape := ⟨2, ![8192, 2048]⟩
abbrev S2048x5632 : Shape := ⟨2, ![2048, 5632]⟩
abbrev S8192x5632 : Shape := ⟨2, ![8192, 5632]⟩
abbrev S5632x2048 : Shape := ⟨2, ![5632, 2048]⟩
abbrev S2048x4x1408 : Shape := ⟨3, ![2048, 4, 1408]⟩
abbrev S4x2048x1408 : Shape := ⟨3, ![4, 2048, 1408]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S8192x5632, .f32⟩
  | .hbm, ⟨3, _⟩ => ⟨S8192x5632, .f32⟩
  | .hbm, ⟨4, _⟩ => ⟨S5632x2048, .f32⟩
  | .hbm, ⟨5, _⟩ => ⟨S2048x5632, .f32⟩
  | .hbm, ⟨6, _⟩ => ⟨S8192x2048, .f32⟩
  | .hbm, ⟨7, _⟩ => ⟨S2048x5632, .bf16⟩
  | .hbm, ⟨8, _⟩ => ⟨S2048x4x1408, .bf16⟩
  | .hbm, ⟨9, _⟩ => ⟨S4x2048x1408, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩
abbrev S128x1024 : Shape := ⟨2, ![128, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S2048x2048, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S2048x1408 : Shape := ⟨2, ![2048, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S1x8192x2048 : Shape := ⟨3, ![1, 8192, 2048]⟩
abbrev S1x2048 : Shape := ⟨2, ![1, 2048]⟩
abbrev S8192x2048 : Shape := ⟨2, ![8192, 2048]⟩
abbrev S_ : Shape := ⟨0, ![]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 35
  | .vmem => 13
  | .smem => 0
  | _ => 0

abbrev bufTy : (tb : Table) → Fin (tcTables nBuf tb) → BufTy
  | .hbm, ⟨0, _⟩ => ⟨S1x8192x2048, .f32⟩
  | .hbm, ⟨1, _⟩ => ⟨S1x8192x2048, .f32⟩
  | .hbm, ⟨2, _⟩ => ⟨S1x2048, .f32⟩
  | .hbm, ⟨3, _⟩ => ⟨S1x2048, .f32⟩
  | .hbm, ⟨4, _⟩ => ⟨S1x8192x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .bf16⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => false
  | ⟨14, _⟩ => false
  | _ => false

abbrev sig : RefSig :=
  ofTc nBuf bufTy 1 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v9_4 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v13_s0 : Ref sig .tc := ⟨.hbm, 27, rfl⟩
abbrev main_v13_s1 : Ref sig .tc := ⟨.hbm, 28, rfl⟩
abbrev main_v13_s2 : Ref sig .tc := ⟨.hbm, 29, rfl⟩
abbrev main_v13_s3 : Ref sig .tc := ⟨.hbm, 30, rfl⟩
abbrev main_v13_s4 : Ref sig .tc := ⟨.hbm, 31, rfl⟩
abbrev main_v13_s5 : Ref sig .tc := ⟨.hbm, 32, rfl⟩
abbrev main_v13_s6 : Ref sig .tc := ⟨.hbm, 33, rfl⟩
abbrev main_v13_s7 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev ar0_recv : DmaSem sig := 13
abbrev ar0_send : DmaSem sig := 14
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v13_s0 | 1 => main_v13_s1 | 2 => main_v13_s2 | 3 => main_v13_s3 | 4 => main_v13_s4 | 5 => main_v13_s5 | 6 => main_v13_s6 | 7 => main_v13_s7 | ⟨_ + 8, h⟩ => absurd h (Nat.not_lt.2 (Nat.le_add_left _ _))

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference17Ideal.lean ====
abbrev S8x8192x2048 : Shape := ⟨3, ![8, 8192, 2048]⟩
abbrev S1x2048 : Shape := ⟨2, ![1, 2048]⟩
abbrev S_ : Shape := ⟨0, ![]⟩
abbrev S2048 : Shape := ⟨1, ![2048]⟩
abbrev S8x8192 : Shape := ⟨2, ![8, 8192]⟩
abbrev S8x8192x1 : Shape := ⟨3, ![8, 8192, 1]⟩
abbrev S1x1x2048 : Shape := ⟨3, ![1, 1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8x8192x2048, .f32⟩
  | .hbm, ⟨1, _⟩ => ⟨S8x8192x2048, .f32⟩
  | .hbm, ⟨2, _⟩ => ⟨S1x2048, .f32⟩
  | .hbm, ⟨3, _⟩ => ⟨S1x2048, .f32⟩
  | .hbm, ⟨4, _⟩ => ⟨S8x8192x2048, .f32⟩
  | .hbm, ⟨5, _⟩ => ⟨S_, .f32⟩
  | .hbm, ⟨6, _⟩ => ⟨S8x8192x2048, .f32⟩
  | .hbm, ⟨7, _⟩ => ⟨S8x8192x2048, .f32⟩
  | .hbm, ⟨8, _⟩ => ⟨S_, .f32⟩
  | .hbm, ⟨9, _⟩ => ⟨S8x8192x2048, .f32⟩
  | .hbm, ⟨10, _⟩ => ⟨S8x8192x2048, .f32⟩
  | .hbm, ⟨11, _⟩ => ⟨S8x8192x2048, .f32⟩
  | .hbm, ⟨12, _⟩ => ⟨S2048, .f32⟩
  | .hbm, ⟨13, _⟩ => ⟨S2048, .f32⟩
  | .hbm, ⟨14, _⟩ => ⟨S_, .f32⟩
  | .hbm, ⟨15, _⟩ => ⟨S8x8192, .f32⟩
  | .hbm, ⟨16, _⟩ => ⟨S8x8192x1, .f32⟩
  | .hbm, ⟨17, _⟩ => ⟨S_, .f32⟩
  | .hbm, ⟨18, _⟩ => ⟨S8x8192x1, .f32⟩
  | .hbm, ⟨19, _⟩ => ⟨S8x8192x1, .f32⟩
  | .hbm, ⟨20, _⟩ => ⟨S8x8192x2048, .f32⟩
  | .hbm, ⟨21, _⟩ => ⟨S8x8192x2048, .f32⟩
  | .hbm, ⟨22, _⟩ => ⟨S8x8192x2048, .f32⟩
  | .hbm, ⟨23, _⟩ => ⟨S_, .f32⟩
  | .hbm, ⟨24, _⟩ => ⟨S8x8192, .f32⟩
  | .hbm, ⟨25, _⟩ => ⟨S8x8192x1, .f32⟩
  | .hbm, ⟨26, _⟩ => ⟨S_, .f32⟩
  | .hbm, ⟨27, _⟩ => ⟨S8x8192x1, .f32⟩
  | .hbm, ⟨28, _⟩ => ⟨S8x8192x1, .f32⟩
  | .hbm, ⟨29, _⟩ => ⟨S_, .f32⟩
  | .hbm, ⟨30, _⟩ => ⟨S8x8192x1, .f32⟩
  | .hbm, ⟨31, _⟩ => ⟨S8x8192x1, .f32⟩
  | .hbm, ⟨32, _⟩ => ⟨S8x8192x1, .f32⟩
  | .hbm, ⟨33, _⟩ => ⟨S8x8192x2048, .f32⟩
  | .hbm, ⟨34, _⟩ => ⟨S8x8192x2048, .f32⟩
  | .hbm, ⟨35, _⟩ => ⟨S1x1x2048, .f32⟩
  | .hbm, ⟨36, _⟩ => ⟨S8x8192x2048, .f32⟩
  | .hbm, ⟨37, _⟩ => ⟨S8x8192x2048, .f32⟩
  | .hbm, ⟨38, _⟩ => ⟨S1x1x2048, .f32⟩
  | .hbm, ⟨39, _⟩ => ⟨S8x8192x2048, .f32⟩
  | .hbm, ⟨40, _⟩ => ⟨S8x8192x2048, .f32⟩
  | .hbm, ⟨41, _⟩ => ⟨S8x8192x2048, .f32⟩
  | .hbm, ⟨42, _⟩ => ⟨S8x8192x2048, .f32⟩
  | .hbm, ⟨43, _⟩ => ⟨S_, .f32⟩
  | .hbm, ⟨44, _⟩ => ⟨S8x8192, .f32⟩
  | .hbm, ⟨45, _⟩ => ⟨S_, .f32⟩
  | .hbm, ⟨46, _⟩ => ⟨S8x8192, .f32⟩
  | .hbm, ⟨47, _⟩ => ⟨S8x8192, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S8x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== Kernel18.lean ====
abbrev S8192x2048 : Shape := ⟨2, ![8192, 2048]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S8192x5632 : Shape := ⟨2, ![8192, 5632]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩
abbrev S128x1408 : Shape := ⟨2, ![128, 1408]⟩

abbrev nBuf : Space → Nat
  | .hbm => 7
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S8192x2048, .bf16⟩
  | .hbm, ⟨3, _⟩ => ⟨S2048x5632, .bf16⟩
  | .hbm, ⟨4, _⟩ => ⟨S2048x4x1408, .bf16⟩
  | .hbm, ⟨5, _⟩ => ⟨S4x2048x1408, .bf16⟩
  | .hbm, ⟨6, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x2048 : Shape := ⟨2, ![8192, 2048]⟩
abbrev S2048x5632 : Shape := ⟨2, ![2048, 5632]⟩
abbrev S8192x5632 : Shape := ⟨2, ![8192, 5632]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S8192x5632, .f32⟩
  | .hbm, ⟨3, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel19.lean ====
abbrev S8192x2048 : Shape := ⟨2, ![8192, 2048]⟩
abbrev S2048x5120 : Shape := ⟨2, ![2048, 5120]⟩
abbrev S1x5120 : Shape := ⟨2, ![1, 5120]⟩
abbrev S2048x4x1280 : Shape := ⟨3, ![2048, 4, 1280]⟩
abbrev S4x2048x1280 : Shape := ⟨3, ![4, 2048, 1280]⟩
abbrev S8192x5120 : Shape := ⟨2, ![8192, 5120]⟩
abbrev S1024x2048 : Shape := ⟨2, ![1024, 2048]⟩
abbrev S1x2048x1280 : Shape := ⟨3, ![1, 2048, 1280]⟩
abbrev S1x1280 : Shape := ⟨2, ![1, 1280]⟩
abbrev S1024x1280 : Shape := ⟨2, ![1024, 1280]⟩
abbrev S2048x1280 : Shape := ⟨2, ![2048, 1280]⟩
abbrev S128x1280 : Shape := ⟨2, ![128, 1280]⟩

abbrev nBuf : Space → Nat
  | .hbm => 8
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x5120, .f32⟩
  | .hbm, ⟨2, _⟩ => ⟨S1x5120, .f32⟩
  | .hbm, ⟨3, _⟩ => ⟨S2048x5120, .bf16⟩
  | .hbm, ⟨4, _⟩ => ⟨S2048x4x1280, .bf16⟩
  | .hbm, ⟨5, _⟩ => ⟨S4x2048x1280, .bf16⟩
  | .hbm, ⟨6, _⟩ => ⟨S8192x2048, .bf16⟩
  | .hbm, ⟨7, _⟩ => ⟨S8192x5120, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1280, .bf16⟩
  | .local _ .vmem, ⟨3, _⟩ => ⟨S1x2048x1280, .bf16⟩
  | .local _ .vmem, ⟨4, _⟩ => ⟨S1x1280, .f32⟩
  | .local _ .vmem, ⟨5, _⟩ => ⟨S1x1280, .f32⟩
  | .local _ .vmem, ⟨6, _⟩ => ⟨S1024x1280, .f32⟩
  | .local _ .vmem, ⟨7, _⟩ => ⟨S1024x1280, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference19Ideal.lean ====
abbrev S8192x2048 : Shape := ⟨2, ![8192, 2048]⟩
abbrev S2048x5120 : Shape := ⟨2, ![2048, 5120]⟩
abbrev S1x5120 : Shape := ⟨2, ![1, 5120]⟩
abbrev S8192x5120 : Shape := ⟨2, ![8192, 5120]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5120, .f32⟩
  | .hbm, ⟨2, _⟩ => ⟨S1x5120, .f32⟩
  | .hbm, ⟨3, _⟩ => ⟨S8192x5120, .f32⟩
  | .hbm, ⟨4, _⟩ => ⟨S8192x5120, .f32⟩
  | .hbm, ⟨5, _⟩ => ⟨S8192x5120, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel20.lean ====
abbrev S8192x2048 : Shape := ⟨2, ![8192, 2048]⟩
abbrev S2048x2048 : Shape := ⟨2, ![2048, 2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩
abbrev S128x1024 : Shape := ⟨2, ![128, 1024]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S1x2048, .f32⟩
  | .hbm, ⟨3, _⟩ => ⟨S8192x2048, .f32⟩
  | .hbm, ⟨4, _⟩ => ⟨S8192x2048, .bf16⟩
  | .hbm, ⟨5, _⟩ => ⟨S2048x2048, .bf16⟩
  | .hbm, ⟨6, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference20Ideal.lean ====
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S1x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel21.lean ====
abbrev S8x1224x128 : Shape := ⟨3, ![8, 1224, 128]⟩
abbrev S1 : Shape := ⟨1, ![1]⟩
abbrev S1224x128 : Shape := ⟨2, ![1224, 128]⟩
abbrev S1x1224x128 : Shape := ⟨3, ![1, 1224, 128]⟩

abbrev nBuf : Space → Nat
  | .hbm => 2
  | .vmem => 2
  | .smem => 1
  | _ => 0

abbrev bufTy : (tb : Table) → Fin (tcTables nBuf tb) → BufTy
  | .hbm, ⟨0, _⟩ => ⟨S8x1224x128, .f32⟩
  | .hbm, ⟨1, _⟩ => ⟨S1224x128, .f32⟩
  | .local _ .vmem, ⟨0, _⟩ => ⟨S8x1224x128, .f32⟩
  | .local _ .vmem, ⟨1, _⟩ => ⟨S1224x128, .f32⟩
  | .local _ .smem, ⟨0, _⟩ => ⟨S1, .i32⟩
  | _, _ => ⟨S8x1224x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg1 : Ref sig .tc := ⟨.smem, 0, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (v0 : BitVec 32) : Fin 3 → Nat :=
  let v1 : Index := Scalar.indexCast v0
  let c0_0 : Index := 0#32
  let c0_1 : Index := 0#32
  ![v1.toNat, 0, 0]

def k0_off2 (v0 : BitVec 32) (c1_i32 : BitVec 32) : Fin 3 → Nat :=
  let v4 : BitVec 32 := Scalar.xori v0 c1_i32
  let v5 : Index := Scalar.indexCast v4
  let c0_2 : Index := 0#32
  let c0_3 : Index := 0#32
  ![v5.toNat, 0, 0]

def k0_chk1 (v0 : BitVec 32) : Prop :=
  (∀ a, (k0_off1 v0) a + S1x1224x128.size a ≤ S8x1224x128.size a) ∧
  (∀ (r : Fin 7), ∀ a, (k0_off2 v0 (BitVec.ofNat 32 (1 + r.val))) a + S1x1224x128.size a ≤ S8x1224x128.size a)
theorem k0_off1_inb : ∀ (v0 : BitVec 32) (k0_hw1 : k0_chk1 v0), ∀ a, (k0_off1 v0) a + S1x1224x128.size a ≤ S8x1224x128.size a := fun v0 k0_hw1 => k0_hw1.1
theorem k0_off2_inb : ∀ (v0 : BitVec 32) (k0_hw1 : k0_chk1 v0), ∀ (r : Fin 7), ∀ a, (k0_off2 v0 (BitVec.ofNat 32 (1 + r.val))) a + S1x1224x128.size a ≤ S8x1224x128.size a := fun v0 k0_hw1 r => k0_hw1.2 r

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1224x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1224x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== Reference21Ideal.lean ====
abbrev S8x1224x128 : Shape := ⟨3, ![8, 1224, 128]⟩
abbrev S1 : Shape := ⟨1, ![1]⟩
abbrev S_ : Shape := ⟨0, ![]⟩
abbrev S1224x128 : Shape := ⟨2, ![1224, 128]⟩

abbrev nBuf : Space → Nat
  | .hbm => 4
  | .vmem => 0
  | .smem => 0
  | _ => 0

abbrev bufTy : (tb : Table) → Fin (tcTables nBuf tb) → BufTy
  | .hbm, ⟨0, _⟩ => ⟨S8x1224x128, .f32⟩
  | .hbm, ⟨1, _⟩ => ⟨S1, .i32⟩
  | .hbm, ⟨2, _⟩ => ⟨S_, .f32⟩
  | .hbm, ⟨3, _⟩ => ⟨S1224x128, .f32⟩
  | _, _ => ⟨S8x1224x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Kernel22.lean ====
abbrev S4x1408x2048 : Shape := ⟨3, ![4, 1408, 2048]⟩
abbrev S4x704x2048 : Shape := ⟨3, ![4, 704, 2048]⟩
abbrev S1 : Shape := ⟨1, ![1]⟩
abbrev S4x2x704x2048 : Shape := ⟨4, ![4, 2, 704, 2048]⟩
abbrev S1x1x704x2048 : Shape := ⟨4, ![1, 1, 704, 2048]⟩
abbrev S1x704x2048 : Shape := ⟨3, ![1, 704, 2048]⟩
abbrev S704x2048 : Shape := ⟨2, ![704, 2048]⟩

abbrev nBuf : Space → Nat
  | .hbm => 4
  | .vmem => 6
  | .smem => 1
  | _ => 0

abbrev bufTy : (tb : Table) → Fin (tcTables nBuf tb) → BufTy
  | .hbm, ⟨0, _⟩ => ⟨S4x1408x2048, .bf16⟩
  | .hbm, ⟨1, _⟩ => ⟨S4x704x2048, .bf16⟩
  | .hbm, ⟨2, _⟩ => ⟨S4x2x704x2048, .bf16⟩
  | .hbm, ⟨3, _⟩ => ⟨S4x704x2048, .bf16⟩
  | .local _ .vmem, ⟨0, _⟩ => ⟨S1x1x704x2048, .bf16⟩
  | .local _ .vmem, ⟨1, _⟩ => ⟨S1x1x704x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x704x2048, .bf16⟩
  | .local _ .vmem, ⟨5, _⟩ => ⟨S1x704x2048, .bf16⟩
  | .local _ .smem, ⟨0, _⟩ => ⟨S1, .i32⟩
  | _, _ => ⟨S4x1408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference22Ideal.lean ====
abbrev S4x1408x2048 : Shape := ⟨3, ![4, 1408, 2048]⟩
abbrev S4x704x2048 : Shape := ⟨3, ![4, 704, 2048]⟩
abbrev S1 : Shape := ⟨1, ![1]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4x1408x2048, .bf16⟩
  | .hbm, ⟨1, _⟩ => ⟨S4x704x2048, .bf16⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x704x2048, .bf16⟩
  | .hbm, ⟨7, _⟩ => ⟨S4x704x2048, .bf16⟩
  | .hbm, ⟨8, _⟩ => ⟨S4x704x2048, .bf16⟩
  | .hbm, ⟨9, _⟩ => ⟨S4x704x2048, .f32⟩
  | .hbm, ⟨10, _⟩ => ⟨S4x704x2048, .f32⟩
  | .hbm, ⟨11, _⟩ => ⟨S4x704x2048, .f32⟩
  | .hbm, ⟨12, _⟩ => ⟨S4x704x2048, .bf16⟩
  | _, _ => ⟨S4x1408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel23.lean ====
abbrev S4x704x2048 : Shape := ⟨3, ![4, 704, 2048]⟩
abbrev S3x704x2048 : Shape := ⟨3, ![3, 704, 2048]⟩
abbrev S2 : Shape := ⟨1, ![2]⟩
abbrev S1 : Shape := ⟨1, ![1]⟩
abbrev S_ : Shape := ⟨0, ![]⟩
abbrev S2x704x2048 : Shape := ⟨3, ![2, 704, 2048]⟩
abbrev S1x352x2048 : Shape := ⟨3, ![1, 352, 2048]⟩
abbrev S352x2048 : Shape := ⟨2, ![352, 2048]⟩
abbrev S1x704x2048 : Shape := ⟨3, ![1, 704, 2048]⟩
abbrev S704x2048 : Shape := ⟨2, ![704, 2048]⟩

abbrev nBuf : Space → Nat
  | .hbm => 14
  | .vmem => 10
  | .smem => 1
  | _ => 0

abbrev bufTy : (tb : Table) → Fin (tcTables nBuf tb) → BufTy
  | .hbm, ⟨0, _⟩ => ⟨S4x704x2048, .bf16⟩
  | .hbm, ⟨1, _⟩ => ⟨S3x704x2048, .bf16⟩
  | .hbm, ⟨2, _⟩ => ⟨S3x704x2048, .bf16⟩
  | .hbm, ⟨3, _⟩ => ⟨S3x704x2048, .bf16⟩
  | .hbm, ⟨4, _⟩ => ⟨S1, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S2x704x2048, .f32⟩
  | .hbm, ⟨9, _⟩ => ⟨S1x704x2048, .f32⟩
  | .hbm, ⟨10, _⟩ => ⟨S704x2048, .f32⟩
  | .hbm, ⟨11, _⟩ => ⟨S1x704x2048, .f32⟩
  | .hbm, ⟨12, _⟩ => ⟨S704x2048, .f32⟩
  | .hbm, ⟨13, _⟩ => ⟨S704x2048, .f32⟩
  | .local _ .vmem, ⟨0, _⟩ => ⟨S1x352x2048, .bf16⟩
  | .local _ .vmem, ⟨1, _⟩ => ⟨S1x352x2048, .bf16⟩
  | .local _ .vmem, ⟨2, _⟩ => ⟨S1x352x2048, .bf16⟩
  | .local _ .vmem, ⟨3, _⟩ => ⟨S1x352x2048, .bf16⟩
  | .local _ .vmem, ⟨4, _⟩ => ⟨S1x352x2048, .bf16⟩
  | .local _ .vmem, ⟨5, _⟩ => ⟨S1x352x2048, .bf16⟩
  | .local _ .vmem, ⟨6, _⟩ => ⟨S1x352x2048, .bf16⟩
  | .local _ .vmem, ⟨7, _⟩ => ⟨S1x352x2048, .bf16⟩
  | .local _ .vmem, ⟨8, _⟩ => ⟨S1x352x2048, .f32⟩
  | .local _ .vmem, ⟨9, _⟩ => ⟨S1x352x2048, .f32⟩
  | .local _ .smem, ⟨0, _⟩ => ⟨S2, .i32⟩
  | _, _ => ⟨S4x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

abbrev stage0_0 : Fin 2 → Memref sig .tc .vmem S1x352x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x352x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference23Ideal.lean ====
abbrev S4x704x2048 : Shape := ⟨3, ![4, 704, 2048]⟩
abbrev S3x704x2048 : Shape := ⟨3, ![3, 704, 2048]⟩
abbrev S2 : Shape := ⟨1, ![2]⟩
abbrev S1 : Shape := ⟨1, ![1]⟩
abbrev S_ : Shape := ⟨0, ![]⟩
abbrev S1x704x2048 : Shape := ⟨3, ![1, 704, 2048]⟩
abbrev S704x2048 : Shape := ⟨2, ![704, 2048]⟩

abbrev nBuf : Space → Nat
  | .hbm => 41
  | .vmem => 0
  | .smem => 0
  | _ => 0

abbrev bufTy : (tb : Table) → Fin (tcTables nBuf tb) → BufTy
  | .hbm, ⟨0, _⟩ => ⟨S4x704x2048, .bf16⟩
  | .hbm, ⟨1, _⟩ => ⟨S3x704x2048, .bf16⟩
  | .hbm, ⟨2, _⟩ => ⟨S3x704x2048, .bf16⟩
  | .hbm, ⟨3, _⟩ => ⟨S3x704x2048, .bf16⟩
  | .hbm, ⟨4, _⟩ => ⟨S2, .i32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S1, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1x704x2048, .bf16⟩
  | .hbm, ⟨14, _⟩ => ⟨S704x2048, .bf16⟩
  | .hbm, ⟨15, _⟩ => ⟨S1x704x2048, .bf16⟩
  | .hbm, ⟨16, _⟩ => ⟨S704x2048, .bf16⟩
  | .hbm, ⟨17, _⟩ => ⟨S704x2048, .bf16⟩
  | .hbm, ⟨18, _⟩ => ⟨S1, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S1x704x2048, .bf16⟩
  | .hbm, ⟨23, _⟩ => ⟨S704x2048, .bf16⟩
  | .hbm, ⟨24, _⟩ => ⟨S1x704x2048, .bf16⟩
  | .hbm, ⟨25, _⟩ => ⟨S704x2048, .bf16⟩
  | .hbm, ⟨26, _⟩ => ⟨S704x2048, .bf16⟩
  | .hbm, ⟨27, _⟩ => ⟨S704x2048, .bf16⟩
  | .hbm, ⟨28, _⟩ => ⟨S704x2048, .f32⟩
  | .hbm, ⟨29, _⟩ => ⟨S1x704x2048, .bf16⟩
  | .hbm, ⟨30, _⟩ => ⟨S704x2048, .bf16⟩
  | .hbm, ⟨31, _⟩ => ⟨S704x2048, .f32⟩
  | .hbm, ⟨32, _⟩ => ⟨S704x2048, .f32⟩
  | .hbm, ⟨33, _⟩ => ⟨S1x704x2048, .bf16⟩
  | .hbm, ⟨34, _⟩ => ⟨S704x2048, .bf16⟩
  | .hbm, ⟨35, _⟩ => ⟨S704x2048, .f32⟩
  | .hbm, ⟨36, _⟩ => ⟨S704x2048, .f32⟩
  | .hbm, ⟨37, _⟩ => ⟨S1x704x2048, .bf16⟩
  | .hbm, ⟨38, _⟩ => ⟨S704x2048, .bf16⟩
  | .hbm, ⟨39, _⟩ => ⟨S704x2048, .f32⟩
  | .hbm, ⟨40, _⟩ => ⟨S704x2048, .f32⟩
  | _, _ => ⟨S4x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Kernel24.lean ====
abbrev S2048x1408 : Shape := ⟨2, ![2048, 1408]⟩
abbrev S2 : Shape := ⟨1, ![2]⟩
abbrev S1 : Shape := ⟨1, ![1]⟩
abbrev S_ : Shape := ⟨0, ![]⟩
abbrev S4x2048x1408 : Shape := ⟨3, ![4, 2048, 1408]⟩
abbrev S512x1408 : Shape := ⟨2, ![512, 1408]⟩
abbrev S1x512x1408 : Shape := ⟨3, ![1, 512, 1408]⟩
abbrev S1x2048x1408 : Shape := ⟨3, ![1, 2048, 1408]⟩

abbrev nBuf : Space → Nat
  | .hbm => 25
  | .vmem => 4
  | .smem => 1
  | _ => 0

abbrev bufTy : (tb : Table) → Fin (tcTables nBuf tb) → BufTy
  | .hbm, ⟨0, _⟩ => ⟨S2048x1408, .f32⟩
  | .hbm, ⟨1, _⟩ => ⟨S1, .i32⟩
  | .hbm, ⟨2, _⟩ => ⟨S_, .i32⟩
  | .hbm, ⟨3, _⟩ => ⟨S_, .i32⟩
  | .hbm, ⟨4, _⟩ => ⟨S_, .i1⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S1, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S4x2048x1408, .bf16⟩
  | .hbm, ⟨14, _⟩ => ⟨S1x2048x1408, .bf16⟩
  | .hbm, ⟨15, _⟩ => ⟨S2048x1408, .bf16⟩
  | .hbm, ⟨16, _⟩ => ⟨S1x2048x1408, .bf16⟩
  | .hbm, ⟨17, _⟩ => ⟨S2048x1408, .bf16⟩
  | .hbm, ⟨18, _⟩ => ⟨S2048x1408, .bf16⟩
  | .hbm, ⟨19, _⟩ => ⟨S1x2048x1408, .bf16⟩
  | .hbm, ⟨20, _⟩ => ⟨S2048x1408, .bf16⟩
  | .hbm, ⟨21, _⟩ => ⟨S1x2048x1408, .bf16⟩
  | .hbm, ⟨22, _⟩ => ⟨S2048x1408, .bf16⟩
  | .hbm, ⟨23, _⟩ => ⟨S2048x1408, .bf16⟩
  | .hbm, ⟨24, _⟩ => ⟨S2048x1408, .bf16⟩
  | .local _ .vmem, ⟨0, _⟩ => ⟨S512x1408, .f32⟩
  | .local _ .vmem, ⟨1, _⟩ => ⟨S512x1408, .f32⟩
  | .local _ .vmem, ⟨2, _⟩ => ⟨S1x512x1408, .bf16⟩
  | .local _ .vmem, ⟨3, _⟩ => ⟨S1x512x1408, .bf16⟩
  | .local _ .smem, ⟨0, _⟩ => ⟨S2, .i32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference24Ideal.lean ====
abbrev S2048x1408 : Shape := ⟨2, ![2048, 1408]⟩
abbrev S2 : Shape := ⟨1, ![2]⟩

abbrev nBuf : Space → Nat
  | .hbm => 3
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2, .i32⟩
  | .hbm, ⟨2, _⟩ => ⟨S2048x1408, .bf16⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Reals.lean ====
/- Real numbers inside the extended reals: sums, quotients and reciprocal roots of real numbers stay real, and an
   entry whose magnitude lies below infinity is a real number. The layer normalization of a row of real numbers and the gradient of that
   normalization are defined here once, together with the identity between the two ways of writing that gradient. -/
module

public import Idealize.ShloMosaic.PureOps.Ideal
public import Idealize.ShloMosaic.Lib.Pipeline.ValueKit

@[expose] public section

noncomputable section

namespace Cert.Reals

open Idealize.ShloMosaic

/-- A sum of real numbers is the same real number, taken before or after entering the extended reals. -/
theorem coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A quotient of real numbers with a divisor other than zero. -/
theorem div_real (x y : ℝ) (hy : y ≠ 0) : Ideal.div (x : EReal) (y : EReal) = ((x / y : ℝ) : EReal) := by
  rw [Ideal.div_coe hy, ← EReal.coe_mul]; congr 1; field_simp

/-- The reciprocal root of a positive real number. -/
theorem rsqrt_real (x : ℝ) (hx : 0 < x) : Ideal.rsqrt (x : EReal) = (((Real.sqrt x)⁻¹ : ℝ) : EReal) := by
  rw [Ideal.rsqrt_coe, if_neg (not_lt.mpr hx.le), if_neg hx.ne']

/-- A magnitude below infinity belongs to a real number. -/
theorem real_of_abs_lt {x : EReal} (h : Ideal.cmp .olt (max x (-x)) ⊤ = 1#1) : ∃ r : ℝ, x = r := by
  induction x using EReal.rec with
  | bot => simp [Ideal.cmp] at h
  | top => simp [Ideal.cmp] at h
  | coe r => exact ⟨r, rfl⟩

theorem ofBits_inf : Ideal.ofBits .f32 0x7F800000#32 = ⊤ := by
  simp [Ideal.ofBits, Ideal.ieee]

/-- An array whose magnitudes all lie below infinity is an array of real numbers. -/
theorem real_of_below {s : Shape} (bc : (⟨0, ![]⟩ : Shape).BroadcastsInDim s (![] : Fin 0 → Fin s.rank)) (x : FVec Ideal s .f32)
    (h : cmpf .olt (Host.absf x) (broadcastInDim s ![] bc (constant (⟨0, ![]⟩ : Shape) .f32 0x7F800000#32)) = fun _ => 1#1) :
    ∃ f : s.Idx → ℝ, x = fun i => ((f i : ℝ) : EReal) := by
  have hx : ∀ i, ∃ r : ℝ, x i = (r : EReal) := fun i => by
    have hi := congrFun h i
    simp only [cmpf, broadcastInDim, constant] at hi
    refine real_of_abs_lt (Eq.trans ?_ hi)
    rw [← ofBits_inf]
    rfl
  choose f hf using hx
  exact ⟨f, funext hf⟩

/-! ## A row and its layer normalization -/

variable {n : ℕ}

/-- The mean of a row. -/
def mean (x : Fin n → ℝ) : ℝ := (∑ k, x k) / n

/-- A row's deviation from its mean. -/
def dev (x : Fin n → ℝ) (k : Fin n) : ℝ := x k - mean x

/-- A row's variance with `e` added. -/
def spread (e : ℝ) (x : Fin n → ℝ) : ℝ := mean (fun k => dev x k * dev x k) + e

/-- The reciprocal standard deviation of a row. -/
def rstd (e : ℝ) (x : Fin n → ℝ) : ℝ := (Real.sqrt (spread e x))⁻¹

/-- The normalized row. -/
def hat (e : ℝ) (x : Fin n → ℝ) (k : Fin n) : ℝ := dev x k * rstd e x

/-- The gradient of the normalized row with the weights `w` on its entries. -/
def lnGrad (e : ℝ) (x w : Fin n → ℝ) (k : Fin n) : ℝ :=
  rstd e x * (w k - mean w - hat e x k * mean (fun j => w j * hat e x j))

theorem spread_pos {e : ℝ} (he : 0 < e) (x : Fin n → ℝ) : 0 < spread e x :=
  add_pos_of_nonneg_of_pos (div_nonneg (Finset.sum_nonneg fun k _ => mul_self_nonneg _) (Nat.cast_nonneg n)) he

/-- The factor that reaches the deviation through the variance, as reverse differentiation leaves it. -/
def through (e : ℝ) (x w : Fin n → ℝ) : ℝ :=
  (∑ k, dev x k * w k) * (-(1 / 2) * (rstd e x / spread e x)) / n

/-- What reverse differentiation leaves at the deviation. -/
def atDev (e : ℝ) (x w : Fin n → ℝ) (k : Fin n) : ℝ :=
  w k * rstd e x + dev x k * through e x w + through e x w * dev x k

theorem sum_dev (hn : n ≠ 0) (x : Fin n → ℝ) : ∑ k, dev x k = 0 := by
  have : (n : ℝ) ≠ 0 := Nat.cast_ne_zero.mpr hn
  simp only [dev, mean, Finset.sum_sub_distrib, Finset.sum_const, Finset.card_univ, Fintype.card_fin, nsmul_eq_mul]
  field_simp; ring

/-- The two ways of writing the gradient agree: the deviation's share with its mean taken off is `lnGrad`. -/
theorem atDev_sub_mean (hn : n ≠ 0) {e : ℝ} (he : 0 < e) (x w : Fin n → ℝ) (k : Fin n) :
    atDev e x w k + (∑ j, -atDev e x w j) / n = lnGrad e x w k := by
  have hn' : (n : ℝ) ≠ 0 := Nat.cast_ne_zero.mpr hn
  have hs := spread_pos he x
  have hr : rstd e x / spread e x = rstd e x * (rstd e x * rstd e x) := by
    have : rstd e x * rstd e x = (spread e x)⁻¹ := by
      rw [rstd, ← mul_inv, Real.mul_self_sqrt hs.le]
    rw [this, div_eq_mul_inv]
  have h1 : ∑ j, -atDev e x w j = -(rstd e x * ∑ j, w j) := by
    simp only [atDev, Finset.sum_neg_distrib, Finset.sum_add_distrib, ← Finset.sum_mul, ← Finset.mul_sum, sum_dev hn]
    ring
  have h2 : ∑ j, w j * hat e x j = rstd e x * ∑ j, dev x j * w j := by
    simp only [hat, Finset.mul_sum]
    exact Finset.sum_congr rfl fun j _ => by ring
  rw [h1, lnGrad, mean, mean, h2, atDev, through, hr, hat]
  field_simp
  ring

/-! ## The same of rows in the extended reals -/

theorem mean_coe {c : ℝ} (hc : c = n) (hn : n ≠ 0) (x : Fin n → ℝ) :
    Ideal.div ((∑ k, x k : ℝ) : EReal) (c : EReal) = (mean x : EReal) := by
  rw [hc, div_real _ _ (Nat.cast_ne_zero.mpr hn), mean]

theorem rsqrt_spread {e : ℝ} (he : 0 < e) (x : Fin n → ℝ) :
    Ideal.rsqrt ((mean (fun k => dev x k * dev x k) + e : ℝ) : EReal) = (rstd e x : EReal) :=
  rsqrt_real _ (spread_pos he x)

/-! ## The constants of the programs -/

/-- The residual's factor: the single-precision number next to the fourth root of two. -/
def alpha : ℝ := 9975792 / 8388608
/-- The number added to a variance. -/
def eps : ℝ := 10995116 / 1099511627776

theorem eps_pos : 0 < eps := by norm_num [eps]

theorem ofBits_alpha : Ideal.ofBits .f32 0x3F9837F0#32 = (alpha : EReal) := by
  simp [Ideal.ofBits, Ideal.ieee, alpha, -EReal.coe_mul]; norm_num
theorem ofBits_eps : Ideal.ofBits .f32 0x3727C5AC#32 = (eps : EReal) := by
  simp [Ideal.ofBits, Ideal.ieee, eps, -EReal.coe_mul]; norm_num
theorem ofBits_2048 : Ideal.ofBits .f32 0x45000000#32 = ((2048 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num

end Cert.Reals

end
-- ==== Proof.LnM.lean ====
/- The gradient through the layer normalization that closes the mixing sublayer, over the real numbers: what the reference computes entry by
   entry, what one block of rows contributes, and the five arrays the kernel leaves. -/
module

public import proofs.«01_k».proof.Proof.Gen.KernelIdeal.Value
public import proofs.«01_k».proof.Proof.Gen.ReferenceIdeal.Read
public import proofs.«01_k».proof.Proof.Reals
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
open Cert.Reals

namespace Cert.ReferenceIdeal.LnM
open Cert.ReferenceIdeal Cert.ReferenceIdeal.Gen Cert.ReferenceIdeal.Read

variable (h p : S8192x2048.Idx → ℝ) (b g : S1x2048.Idx → ℝ) (d : S8192x2048.Idx → ℝ)

/-- Real numbers as an array of the ideal floats. -/
abbrev up {s : Shape} (x : s.Idx → ℝ) : FVec Ideal s .f32 := fun i => ((x i : ℝ) : EReal)

/-- The row that is normalized: the residual and the sublayer with its bias. -/
def row (r : Fin 8192) (k : Fin 2048) : ℝ := alpha * h (ix2 r k) + (p (ix2 r k) + b (ix2 0 k))

theorem v6 (r k) : val_main_v6 (F := Ideal) (up h) (up p) (up b) (ix2 r k) = (row h p b r k : EReal) := by
  pointwise [val_main_v6, val_main_v5, val_main_v4, val_main_v3, val_main_v2, val_main_v1, val_main_v0, val_main_cst]
  simp only [up, row, ofBits_alpha, ← EReal.coe_mul, ← EReal.coe_add]

/-- The quotient of a row's sum by its length is the row's mean. -/
theorem mean_2048 (x : Fin 2048 → ℝ) : Ideal.div ((∑ k, x k : ℝ) : EReal) ((2048 : ℝ) : EReal) = (mean x : EReal) :=
  mean_coe (by norm_num) (by norm_num) x

/-- The deviations, the spread and its root: the forward pass of the normalization. -/
theorem v14 (r k) : val_main_v14 (F := Ideal) (up h) (up p) (up b) (ix2 r k) = (dev (row h p b r) k : EReal) := by
  pointwise [val_main_v14, val_main_v13, val_main_v12, val_main_v11, val_main_v10, val_main_v9, val_main_cst_0, val_main_cst_1]
  simp only [v6, coe_sum, ofBits_2048, mean_2048, ← EReal.coe_sub, dev]

theorem v21 (r) : val_main_v21 (F := Ideal) (up h) (up p) (up b) (ix2 r 0) = (spread eps (row h p b r) : EReal) := by
  pointwise [val_main_v21, val_main_v20, val_main_v19, val_main_v18, val_main_v17, val_main_v16, val_main_v15, val_main_cst_2, val_main_cst_3, val_main_cst_4]
  simp only [v14, coe_sum, ofBits_2048, ofBits_eps, mean_2048, ← EReal.coe_mul, ← EReal.coe_add, spread]

theorem v22 (r) : val_main_v22 (F := Ideal) (up h) (up p) (up b) (ix2 r 0) = (rstd eps (row h p b r) : EReal) := by
  pointwise [val_main_v22]
  simp only [v21, rsqrt_real _ (spread_pos eps_pos _), rstd]

theorem v25 (r) (z : Fin 1) : val_main_v25 (F := Ideal) (up h) (up p) (up b) (ix2 r z)
    = ((-(1 / 2) * (rstd eps (row h p b r) / spread eps (row h p b r)) : ℝ) : EReal) := by
  obtain rfl : z = 0 := Subsingleton.elim _ _
  pointwise [val_main_v25, val_main_v24, val_main_v23, val_main_cst_5]
  simp only [v21, v22, ofBits_neg_half, div_real _ _ (spread_pos eps_pos _).ne', ← EReal.coe_mul]

/-- What reaches the normalized row: the cotangent times the scale. -/
def weight (r : Fin 8192) (k : Fin 2048) : ℝ := d (ix2 r k) * g (ix2 0 k)

theorem v27 (r k) : val_main_v27 (F := Ideal) (up h) (up p) (up b) (ix2 r k) = (hat eps (row h p b r) k : EReal) := by
  pointwise [val_main_v27, val_main_v26]
  simp only [v14, v22, ← EReal.coe_mul, hat]

/-- What reaches the normalized row, and what the variance and the mean carry back. -/
theorem v42 (r k) : val_main_v42 (F := Ideal) (up g) (up d) (ix2 r k) = (weight g d r k : EReal) := by
  pointwise [val_main_v42, val_main_v41, val_main_v34, val_main_v28, val_main_v7]
  simp only [up, ← EReal.coe_mul, weight]

theorem v52 (r) : val_main_v52 (F := Ideal) (up h) (up p) (up b) (up g) (up d) (ix1 r)
    = (through eps (row h p b r) (weight g d r) : EReal) := by
  pointwise [val_main_v52, val_main_v51, val_main_v50, val_main_v49, val_main_v46, val_main_v45, val_main_v44, val_main_cst_10, val_main_cst_11, val_main_cst_12]
  simp only [v14, v42, v25, coe_sum, ofBits_2048, div_real _ _ (by norm_num : (2048 : ℝ) ≠ 0), ← EReal.coe_mul, through]
  norm_num

theorem v57 (r k) : val_main_v57 (F := Ideal) (up h) (up p) (up b) (up g) (up d) (ix2 r k)
    = (atDev eps (row h p b r) (weight g d r) k : EReal) := by
  pointwise [val_main_v57, val_main_v56, val_main_v55, val_main_v54, val_main_v53, val_main_v48, val_main_v47]
  simp only [v14, v22, v42, v52, ← EReal.coe_mul, ← EReal.coe_add, atDev]

/-- The gradient at the row is the closed form. -/
theorem v65 (r k) : val_main_v65 (F := Ideal) (up h) (up p) (up b) (up g) (up d) (ix2 r k)
    = (lnGrad eps (row h p b r) (weight g d r) k : EReal) := by
  pointwise [val_main_v65, val_main_v64, val_main_v63, val_main_v62, val_main_v61, val_main_v60, val_main_v59, val_main_v58, val_main_cst_13, val_main_cst_14, val_main_cst_15]
  simp only [v57, coe_sum, ofBits_2048, ← EReal.coe_neg, div_real _ _ (by norm_num : (2048 : ℝ) ≠ 0), ← EReal.coe_add]
  rw [← atDev_sub_mean (by norm_num) eps_pos]
  norm_num

/-- The five results of the reference. -/
theorem res_dh (r k) : val_main_v73 (F := Ideal) (up h) (up p) (up b) (up g) (up d) (ix2 r k)
    = ((alpha * lnGrad eps (row h p b r) (weight g d r) k : ℝ) : EReal) := by
  pointwise [val_main_v73, val_main_v72, val_main_cst_18]
  simp only [v65, ofBits_alpha, ← EReal.coe_mul]

theorem res_dp (r k) : val_main_v74 (F := Ideal) (up h) (up p) (up b) (up g) (up d) (ix2 r k)
    = ((lnGrad eps (row h p b r) (weight g d r) k : ℝ) : EReal) := by
  pointwise [val_main_v74]
  simp only [v65]

theorem res_dg (k) : val_main_v67 (F := Ideal) (up h) (up p) (up b) (up d) (ix2 0 k)
    = ((∑ r, d (ix2 r k) * hat eps (row h p b r) k : ℝ) : EReal) := by
  pointwise [val_main_v67, val_main_v43, val_main_v40, val_main_v39, val_main_v38, val_main_v34, val_main_cst_8, val_main_cst_9]
  simp only [v27, up, ← EReal.coe_mul, coe_sum]
  simp [mul_comm]

theorem res_db (k) : val_main_v66 (F := Ideal) (up d) (ix2 0 k) = ((∑ r, d (ix2 r k) : ℝ) : EReal) := by
  pointwise [val_main_v66, val_main_v37, val_main_v36, val_main_v35, val_main_cst_6, val_main_cst_7]
  simp only [up, coe_sum]
  simp

theorem res_dbout (k) : val_main_v71 (F := Ideal) (up h) (up p) (up b) (up g) (up d) (ix2 0 k)
    = ((∑ r, lnGrad eps (row h p b r) (weight g d r) k : ℝ) : EReal) := by
  pointwise [val_main_v71, val_main_v70, val_main_v69, val_main_v68, val_main_cst_16, val_main_cst_17]
  simp only [v65, coe_sum]
  simp

end Cert.ReferenceIdeal.LnM

namespace Cert.KernelIdeal.LnM
open Cert.KernelIdeal Cert.KernelIdeal.Gen
open Cert.ReferenceIdeal.LnM (up row weight mean_2048)
variable (m : (ℓ : Loc nD τ sig) → Buf (Elt Ideal) ℓ)

section blocks
variable (x w : S256x2048.Idx → ℝ) (g a : S1x2048.Idx → ℝ)

/-- A row of a block. -/
def brow (q : Fin 256) (k : Fin 2048) : ℝ := x (ix2 q k)
/-- What reaches a row of a block. -/
def bweight (q : Fin 256) (k : Fin 2048) : ℝ := w (ix2 q k) * g (ix2 0 k)

/-- The kernel's values on one block, row by row. -/
theorem pay9 (q k) : k0_pay9 (F := Ideal) (up x) (ix2 q k) = (dev (brow x q) k : EReal) := by
  pointwise [k0_pay9]
  simp only [up, coe_sum, ofBits_2048, mean_2048, ← EReal.coe_sub]
  rfl

theorem pay10 (q) : k0_pay10 (F := Ideal) (up x) (ix2 q 0) = (rstd eps (brow x q) : EReal) := by
  pointwise [k0_pay10]
  simp only [pay9, coe_sum, ofBits_2048, ofBits_eps, mean_2048, ← EReal.coe_mul, ← EReal.coe_add, rsqrt_spread eps_pos]

theorem pay11 (q k) : k0_pay11 (F := Ideal) (up x) (ix2 q k) = (hat eps (brow x q) k : EReal) := by
  pointwise [k0_pay11]
  simp only [pay9, pay10, ← EReal.coe_mul, hat]

theorem pay12 (q k) : k0_pay12 (F := Ideal) (up x) (up w) (up g) (ix2 q k)
    = (lnGrad eps (brow x q) (bweight w g q) k : EReal) := by
  pointwise [k0_pay12]
  simp only [pay10, pay11, up, coe_sum, ofBits_2048, mean_2048, ← EReal.coe_mul, ← EReal.coe_sub, lnGrad]
  rfl

theorem pay1 (q k) : k0_pay1 (F := Ideal) (k0_pay12 (F := Ideal) (up x) (up w) (up g)) (ix2 q k)
    = ((alpha * lnGrad eps (brow x q) (bweight w g q) k : ℝ) : EReal) := by
  pointwise [k0_pay1]
  simp only [pay12, ofBits_alpha, ← EReal.coe_mul]

theorem pay2 (q k) : k0_pay2 (F := Ideal) (k0_pay12 (F := Ideal) (up x) (up w) (up g)) (ix2 q k)
    = (lnGrad eps (brow x q) (bweight w g q) k : EReal) := by
  pointwise [k0_pay2]
  simp only [pay12, one_mul]

/-- What a block adds to each of the three accumulated rows. -/
theorem pay3 (acc : FVec Ideal S1x2048 .f32) (k) : k0_pay3 (F := Ideal) (k0_pay11 (F := Ideal) (up x)) (up w) acc (ix2 0 k)
    = acc (ix2 0 k) + ((∑ q, w (ix2 q k) * hat eps (brow x q) k : ℝ) : EReal) := by
  pointwise [k0_pay3]
  simp only [pay11, up, coe_sum, ← EReal.coe_mul]

theorem pay4 (acc : FVec Ideal S1x2048 .f32) (k) : k0_pay4 (F := Ideal) (up w) acc (ix2 0 k)
    = acc (ix2 0 k) + ((∑ q, w (ix2 q k) : ℝ) : EReal) := by
  pointwise [k0_pay4]
  simp only [up, coe_sum]

theorem pay5 (acc : FVec Ideal S1x2048 .f32) (k) : k0_pay5 (F := Ideal) (k0_pay12 (F := Ideal) (up x) (up w) (up g)) acc (ix2 0 k)
    = acc (ix2 0 k) + ((∑ q, lnGrad eps (brow x q) (bweight w g q) k : ℝ) : EReal) := by
  pointwise [k0_pay5]
  simp only [pay12, coe_sum]

theorem zeros (j) : k0_pay6 (F := Ideal) j = 0 ∧ k0_pay7 (F := Ideal) j = 0 ∧ k0_pay8 (F := Ideal) j = 0 := by
  pointwise [k0_pay6, k0_pay7, k0_pay8]

end blocks

/-- Where each window's block lies at each point. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] :=
  (by decide +kernel : ∀ t : Fin grid0.N, _)

variable (h p : S8192x2048.Idx → ℝ) (b g : S1x2048.Idx → ℝ) (d : S8192x2048.Idx → ℝ) (c : Dev nD)

/-- The arguments are real numbers. -/
structure At : Prop where
  h0 : m ((c : Thread nD τ).loc main_arg0) = up (s := S8192x2048) h
  h1 : m ((c : Thread nD τ).loc main_arg1) = up (s := S8192x2048) p
  h2 : m ((c : Thread nD τ).loc main_arg2) = up (s := S1x2048) b
  h3 : m ((c : Thread nD τ).loc main_arg3) = up (s := S1x2048) g
  h5 : m ((c : Thread nD τ).loc main_arg5) = up (s := S8192x2048) d

theorem idx_acc : ∀ t : Fin cfg0.N, win0_5.index t = ![0, 0] ∧ win0_6.index t = ![0, 0] ∧ win0_7.index t = ![0, 0] :=
  (by decide +kernel : ∀ t : Fin grid0.N, _)

theorem eta2 (y : S256x2048.Idx) : y = ix2 (y 0) (y 1) := by blk_ext
theorem eta2_1 (y : S1x2048.Idx) : y = ix2 0 (y 1) := by blk_ext

theorem N32 (t : Fin cfg0.N) : t.val < 32 := lt_of_lt_of_eq t.isLt N_0

/-- The array's row that is row `q` of point `t`'s block. -/
def at_ (t : Fin cfg0.N) (q : Fin 256) : Fin 8192 := ⟨256 * t.val + q.val, by have := N32 t; omega⟩

/-- The rows and the cotangent that point `t` reads. -/
def rblk (t : Fin cfg0.N) : S256x2048.Idx → ℝ := fun y => row h p b (at_ t (y 0)) (y 1)
def dblk (t : Fin cfg0.N) : S256x2048.Idx → ℝ := fun y => d (ix2 (at_ t (y 0)) (y 1))

variable {m h p b g d c}

/-- What the windows hold at a point. -/
theorem blk0 (H : At m h p b g d c) (t : Fin cfg0.N) : iblk m c 0 t = up (s := S256x2048) (rblk h p b t) := by
  funext y
  blk_simp [iblk]
  entry_read
  rw [show m (c, Proc.tc.devRef main_arg0) = _ from H.h0, show m (c, Proc.tc.devRef main_arg1) = _ from H.h1,
    show m (c, Proc.tc.devRef main_arg2) = _ from H.h2]
  pointwise
  simp only [up, rblk, row, ofBits_alpha, ← EReal.coe_mul, ← EReal.coe_add]
  blk_point [idx t, at_]

theorem blk1 (H : At m h p b g d c) (t : Fin cfg0.N) : iblk m c 1 t = up (s := S256x2048) (dblk d t) := by
  funext y
  blk_simp [iblk]
  rw [V_main_arg5, H.h5]
  simp only [up, dblk]
  blk_point [idx t, at_]

theorem blk2 (H : At m h p b g d c) (t : Fin cfg0.N) : iblk m c 2 t = up (s := S1x2048) g := by
  funext y
  blk_simp [iblk]
  rw [V_main_arg3, H.h3]
  simp only [up]
  blk_point [idx t]

/-- The array of `at_ t q`, `k` is where point `t`'s entry `q`, `k` goes. -/
theorem place (t : Fin cfg0.N) (y : S256x2048.Idx) :
    (((cfg0.win 3).blk t).view.emb y : S8192x2048.Idx) = ix2 (at_ t (y 0)) (y 1)
    ∧ (((cfg0.win 4).blk t).view.emb y : S8192x2048.Idx) = ix2 (at_ t (y 0)) (y 1) :=
  ⟨by blk_ext [idx t, at_], by blk_ext [idx t, at_]⟩

open Cert.ReferenceIdeal.Read Cert.ReferenceIdeal.LnM

theorem point3 (t : Fin cfg0.N) (y : S256x2048.Idx) :
    k0_pay1 (F := Ideal) (k0_pay12 (F := Ideal) (up (rblk h p b t)) (up (dblk d t)) (up g)) y
      = val_main_v73 (F := Ideal) (up h) (up p) (up b) (up g) (up d) (((cfg0.win 3).blk t).view.emb y) := by
  rw [(place t y).1, eta2 y]
  exact (pay1 _ _ _ (y 0) (y 1)).trans (res_dh h p b g d (at_ t (y 0)) (y 1)).symm

theorem point4 (t : Fin cfg0.N) (y : S256x2048.Idx) :
    k0_pay2 (F := Ideal) (k0_pay12 (F := Ideal) (up (rblk h p b t)) (up (dblk d t)) (up g)) y
      = val_main_v74 (F := Ideal) (up h) (up p) (up b) (up g) (up d) (((cfg0.win 4).blk t).view.emb y) := by
  rw [(place t y).2, eta2 y]
  exact (pay2 _ _ _ (y 0) (y 1)).trans (res_dp h p b g d (at_ t (y 0)) (y 1)).symm

/-- The arrays after the last point are the reference's. -/
theorem final3 (H : At m h p b g d c) : (dats m 0 c).arrAt 3 (cfgs 0).N
    = val_main_v73 (F := Ideal) (up h) (up p) (up b) (up g) (up d) := by
  refine (dats m 0 c).arrAt_eq_of_covers 3 _ (by decide +kernel) fun t _ y => ?_
  blk_simp
  rw [after0_3]
  by_cases h : t.val % 32 = 0
  · rw [outsAt0_A m c t h]
    frame_out
    rw [blk0 H, blk1 H, blk2 H]
    exact point3 t y
  · rw [outsAt0_B m c t h]
    frame_out
    rw [blk0 H, blk1 H, blk2 H]
    exact point3 t y

theorem final4 (H : At m h p b g d c) : (dats m 0 c).arrAt 4 (cfgs 0).N
    = val_main_v74 (F := Ideal) (up h) (up p) (up b) (up g) (up d) := by
  refine (dats m 0 c).arrAt_eq_of_covers 4 _ (by decide +kernel) fun t _ y => ?_
  blk_simp
  rw [after0_4]
  by_cases h : t.val % 32 = 0
  · rw [outsAt0_A m c t h]
    frame_out
    rw [blk0 H, blk1 H, blk2 H]
    exact point4 t y
  · rw [outsAt0_B m c t h]
    frame_out
    rw [blk0 H, blk1 H, blk2 H]
    exact point4 t y

/-- The rows that the points read, point by point, are the rows of the array. -/
theorem sum_points (t : Fin cfg0.N) (ht : ∀ s : Fin 32, 32 * (t.val / 32) + s.val < cfg0.N) (f : Fin 8192 → ℝ) :
    (∑ s : Fin 32, ((∑ q : Fin 256, f (at_ ⟨32 * (t.val / 32) + s.val, ht s⟩ q) : ℝ) : EReal))
      = ((∑ r, f r : ℝ) : EReal) := by
  rw [coe_sum]
  congr 1
  refine Fin.sum_mul_add_congr fun s q hl => congrArg f (Fin.ext ?_)
  have := N32 t
  simp only [at_]
  omega

theorem place_acc5 (t : Fin cfg0.N) (y : S1x2048.Idx) :
    (((cfg0.win 5).blk t).view.emb y : S1x2048.Idx) = ix2 0 (y 1) := by blk_ext [idx_acc t]

theorem place_acc6 (t : Fin cfg0.N) (y : S1x2048.Idx) :
    (((cfg0.win 6).blk t).view.emb y : S1x2048.Idx) = ix2 0 (y 1) := by blk_ext [idx_acc t]

theorem place_acc7 (t : Fin cfg0.N) (y : S1x2048.Idx) :
    (((cfg0.win 7).blk t).view.emb y : S1x2048.Idx) = ix2 0 (y 1) := by blk_ext [idx_acc t]

theorem final5 (H : At m h p b g d c) : (dats m 0 c).arrAt 5 (cfgs 0).N
    = val_main_v67 (F := Ideal) (up h) (up p) (up b) (up d) := by
  refine (dats m 0 c).arrAt_eq_of_covers 5 _ (by decide +kernel) fun t hf y => ?_
  blk_simp
  rw [after0_5, Pipeline.eq_sum_fin_of_reset_step_apply_of_flush (fun n h => (outsAt0 m c n h).2.2.1) 32 (fun _ => 0)
    (fun s (j : S1x2048.Idx) => ((∑ q : Fin 256, d (ix2 (at_ s q) (j 1)) * hat eps (row h p b (at_ s q)) (j 1) : ℝ) : EReal))
    (fun t h j => by
      rw [outsAt0_A m c t h]; frame_out; rw [blk0 H, blk1 H, eta2_1 j]
      exact (pay3 _ _ _ _).trans (congrArg (· + _) (zeros _).1))
    (fun t h j => by
      rw [outsAt0_B m c t h]; frame_out; rw [blk0 H, blk1 H, eta2_1 j]
      exact pay3 _ _ _ _)
    t ((flush0_5 t).mp hf) _, zero_add, place_acc5]
  exact (sum_points t _ fun r => d (ix2 r ((y : S1x2048.Idx) 1)) * hat eps (row h p b r) ((y : S1x2048.Idx) 1)).trans (res_dg h p b d _).symm

theorem final6 (H : At m h p b g d c) : (dats m 0 c).arrAt 6 (cfgs 0).N
    = val_main_v66 (F := Ideal) (up d) := by
  refine (dats m 0 c).arrAt_eq_of_covers 6 _ (by decide +kernel) fun t hf y => ?_
  blk_simp
  rw [after0_6, Pipeline.eq_sum_fin_of_reset_step_apply_of_flush (fun n h => (outsAt0 m c n h).2.2.2.1) 32 (fun _ => 0)
    (fun s (j : S1x2048.Idx) => ((∑ q : Fin 256, d (ix2 (at_ s q) (j 1)) : ℝ) : EReal))
    (fun t h j => by
      rw [outsAt0_A m c t h]; frame_out; rw [blk1 H, eta2_1 j]
      exact (pay4 _ _ _).trans (congrArg (· + _) (zeros _).2.1))
    (fun t h j => by
      rw [outsAt0_B m c t h]; frame_out; rw [blk1 H, eta2_1 j]
      exact pay4 _ _ _)
    t ((flush0_6 t).mp hf) _, zero_add, place_acc6]
  exact (sum_points t _ fun r => d (ix2 r ((y : S1x2048.Idx) 1))).trans (res_db d _).symm

theorem final7 (H : At m h p b g d c) : (dats m 0 c).arrAt 7 (cfgs 0).N
    = val_main_v71 (F := Ideal) (up h) (up p) (up b) (up g) (up d) := by
  refine (dats m 0 c).arrAt_eq_of_covers 7 _ (by decide +kernel) fun t hf y => ?_
  blk_simp
  rw [after0_7, Pipeline.eq_sum_fin_of_reset_step_apply_of_flush (fun n h => (outsAt0 m c n h).2.2.2.2) 32 (fun _ => 0)
    (fun s (j : S1x2048.Idx) => ((∑ q : Fin 256, lnGrad eps (row h p b (at_ s q)) (weight g d (at_ s q)) (j 1) : ℝ) : EReal))
    (fun t h j => by
      rw [outsAt0_A m c t h]; frame_out; rw [blk0 H, blk1 H, blk2 H, eta2_1 j]
      exact (pay5 _ _ _ _ _).trans (congrArg (· + _) (zeros _).2.2))
    (fun t h j => by
      rw [outsAt0_B m c t h]; frame_out; rw [blk0 H, blk1 H, blk2 H, eta2_1 j]
      exact pay5 _ _ _ _ _)
    t ((flush0_7 t).mp hf) _, zero_add, place_acc7]
  exact (sum_points t _ fun r => lnGrad eps (row h p b r) (weight g d r) ((y : S1x2048.Idx) 1)).trans (res_dbout h p b g d _).symm

end Cert.KernelIdeal.LnM
-- ==== Proof.LnMClaim.lean ====
/- The claims about the gradient of the mixing sublayer's closing layer normalization: the runs of the three programs, and
   that the two of them agree on every result when the arguments are finite. -/
module

public import proofs.«01_k».proof.Defs
public import proofs.«01_k».proof.Proof.LnM
public import proofs.«01_k».proof.Proof.Gen.Kernel.Frame
public import proofs.«01_k».proof.Proof.Gen.ReferenceIdeal.Run

@[expose] public section

noncomputable section

open Idealize.ShloMosaic Idealize.SL.Sem

namespace Cert.Proof.LnMClaims

instance facts : Cert.Pre_finite_ln_m.Facts := ⟨by decide, by decide⟩

theorem frame_p : Cert.quiescent_Kernel := fun m ρ _ => Cert.Kernel.Gen.frame m ρ

theorem frame_pi : Cert.quiescent_KernelIdeal := fun m ρ _ => Cert.KernelIdeal.Gen.frame m ρ

theorem frame_ri : Cert.quiescent_ReferenceIdeal := fun m ρ _ =>
  (θ_run Cert.ReferenceIdeal.defs _ _).mono
    (fun r h => ⟨fun c => (h c).2.2.2.2.2, sem_eq_zero_of_no_sems (by decide) r.2⟩)
    (Cert.ReferenceIdeal.Value.run (F := Ideal) m ρ)

open Cert.KernelIdeal in
/-- Finite arguments are real numbers. -/
theorem real (m : (ℓ : Loc nD τ sig) → Buf (Elt Ideal) ℓ) (hp : Cert.Pre_KernelIdeal_finite_ln_m m) (c : Dev nD) :
    ∃ h p b g d, Cert.KernelIdeal.LnM.At m h p b g d c := by
  obtain ⟨h0, h1, h2, h3, h5⟩ := hp c
  obtain ⟨h, h0⟩ := Cert.Reals.real_of_below _ _ h0
  obtain ⟨p, h1⟩ := Cert.Reals.real_of_below _ _ h1
  obtain ⟨b, h2⟩ := Cert.Reals.real_of_below _ _ h2
  obtain ⟨g, h3⟩ := Cert.Reals.real_of_below _ _ h3
  obtain ⟨d, h5⟩ := Cert.Reals.real_of_below _ _ h5
  exact ⟨h, p, b, g, d, h0, h1, h2, h3, h5⟩

/-- At `Ideal` both programs leave the same five arrays. -/
theorem algebraic : Cert.algebraic_KernelIdeal_ReferenceIdeal_pre_finite_ln_m := by
  intro m g m' g' hp ha
  refine ⟨_, _, _, _, _, Cert.KernelIdeal.Value.run_blocks m g,
    (θ_run Cert.ReferenceIdeal.defs _ _).mono (fun r h c => ?_) (Cert.ReferenceIdeal.Value.run (F := Ideal) m' g')⟩
  obtain ⟨a0, a1, a2, a3, a4, a5⟩ := ha c
  obtain ⟨_, _, _, _, _, H⟩ := real m hp c
  obtain ⟨r0, r1, r2, r3, r4, k⟩ := h c
  rw [Cert.ReferenceIdeal.Read.val_main_v73_eq, a0, a1, a2, a3, a5, H.h0, H.h1, H.h2, H.h3, H.h5] at r0
  rw [Cert.ReferenceIdeal.Read.val_main_v74_eq, a0, a1, a2, a3, a5, H.h0, H.h1, H.h2, H.h3, H.h5] at r1
  rw [Cert.ReferenceIdeal.Read.val_main_v67_eq, a0, a1, a2, a5, H.h0, H.h1, H.h2, H.h5] at r2
  rw [Cert.ReferenceIdeal.Read.val_main_v66_eq, a5, H.h5] at r3
  rw [Cert.ReferenceIdeal.Read.val_main_v71_eq, a0, a1, a2, a3, a5, H.h0, H.h1, H.h2, H.h3, H.h5] at r4
  exact ⟨r0.trans (Cert.KernelIdeal.LnM.final3 H).symm, r1.trans (Cert.KernelIdeal.LnM.final4 H).symm, r2.trans (Cert.KernelIdeal.LnM.final5 H).symm,
    r3.trans (Cert.KernelIdeal.LnM.final6 H).symm, r4.trans (Cert.KernelIdeal.LnM.final7 H).symm, k⟩

end Cert.Proof.LnMClaims

end
-- ==== Proof.Mix.lean ====
/- The gradient of the mixing layer over the real numbers: the tanh form of GELU and its derivative, the spatial gating unit of one chunk
   and head, the gated short convolution, and the whole input gradient column by column. Rows and columns are natural numbers, so that a
   block of an array is the array read at shifted numbers. -/
module

public import proofs.«01_k».proof.Proof.Reals

@[expose] public section

noncomputable section

namespace Cert.Mix

open Idealize.ShloMosaic Cert.Reals

/-! ## GELU -/

/-- The single-precision number next to the root of two over pi. -/
def gc : ℝ := 6693141 / 8388608
/-- The single-precision number next to 0.044715. -/
def ga : ℝ := 12003091 / 268435456

/-- The hyperbolic tangent inside GELU. -/
def th (z : ℝ) : ℝ := Real.tanh (gc * (z + ga * (z * z * z)))

/-- GELU. -/
def gelu (z : ℝ) : ℝ := z * (1 / 2 * (1 + th z))

/-- GELU's derivative. -/
def gelu' (z : ℝ) : ℝ := 1 / 2 * (1 + th z) + gc * (1 / 2 * z * ((1 + th z) * (1 - th z))) * (1 + ga * (3 * (z * z)))

/-- The tangent with the two constants multiplied together. -/
theorem th_eq (z : ℝ) : Real.tanh (z * (gc + 80338380498831 / 2251799813685248 * (z * z))) = th z := by
  rw [th]; congr 1; simp only [gc, ga]; ring

theorem gelu_eq (z : ℝ) : 1 / 2 * z * (1 + th z) = gelu z := by rw [gelu]; ring

theorem gelu'_eq (z : ℝ) : 1 / 2 * (1 + th z) + 1 / 2 * z * (1 - th z * th z) * (gc + 241015141496493 / 2251799813685248 * (z * z))
    = gelu' z := by
  rw [gelu']; simp only [gc, ga]; ring

/-! ## The spatial gating unit on one chunk and head -/

section head
variable (zu zv dy : Fin 128 → Fin 128 → ℝ) (w : Fin 128 → Fin 128 → ℝ) (b g e : Fin 128 → ℝ)

/-- The lower triangle of the mixing matrix. -/
def low (t s : Fin 128) : ℝ := if s ≤ t then w t s else 0
/-- The normalized row of the second half. -/
def vh (s d : Fin 128) : ℝ := hat eps (fun k => gelu (zv s k)) d
/-- The same with scale and shift. -/
def vn (s d : Fin 128) : ℝ := vh zv s d * g d + e d
/-- The rows mixed along the chunk. -/
def mixed (t d : Fin 128) : ℝ := (∑ s, low w t s * vn zv g e s d) + b t
/-- The gradient at the mixed rows. -/
def dmx (t d : Fin 128) : ℝ := dy t d * gelu (zu t d)
/-- The gradient at the first half. -/
def dzu (t d : Fin 128) : ℝ := dy t d * mixed zv w b g e t d * gelu' (zu t d)
/-- The gradient of the mixing matrix. -/
def dw (t s : Fin 128) : ℝ := if s ≤ t then ∑ d, dmx zu dy t d * vn zv g e s d else 0
/-- The gradient of the mixing bias. -/
def db (t : Fin 128) : ℝ := ∑ d, dmx zu dy t d
/-- The gradient at the scaled and shifted row. -/
def dvn (s d : Fin 128) : ℝ := ∑ t, low w t s * dmx zu dy t d
/-- The gradient of the scale. -/
def dg (d : Fin 128) : ℝ := ∑ s, dvn zu dy w s d * vh zv s d
/-- The gradient of the shift. -/
def de (d : Fin 128) : ℝ := ∑ s, dvn zu dy w s d
/-- The gradient at the second half. -/
def dzv (s d : Fin 128) : ℝ := lnGrad eps (fun k => gelu (zv s k)) (fun k => dvn zu dy w s k * g k) d * gelu' (zv s d)

end head

/-! ## The layer -/

/-- The arguments of the layer, its bias added to the projection, and the gradient of its result. -/
structure Args where
  p : ℕ → ℕ → ℝ
  pb : ℕ → ℝ
  w : ℕ → ℕ → ℕ → ℝ
  b : ℕ → ℕ → ℝ
  g : ℕ → ℝ
  e : ℕ → ℝ
  c : ℕ → ℕ → ℝ
  dy : ℕ → ℕ → ℝ

namespace Args
variable (A : Args)

/-- The projection with its bias. -/
def z (r k : ℕ) : ℝ := A.p r k + A.pb k

def zu (n h : ℕ) (t d : Fin 128) : ℝ := A.z (128 * n + t) (128 * h + d)
def zv (n h : ℕ) (t d : Fin 128) : ℝ := A.z (128 * n + t) (1024 + 128 * h + d)
def dya (n h : ℕ) (t d : Fin 128) : ℝ := A.dy (128 * n + t) (128 * h + d)
def wh (h : ℕ) (t s : Fin 128) : ℝ := A.w h t s
def bh (h : ℕ) (t : Fin 128) : ℝ := A.b h t
def gh (h : ℕ) (d : Fin 128) : ℝ := A.g (128 * h + d)
def eh (h : ℕ) (d : Fin 128) : ℝ := A.e (128 * h + d)

def hu (n h : ℕ) : Fin 128 → Fin 128 → ℝ := dzu (A.zu n h) (A.zv n h) (A.dya n h) (A.wh h) (A.bh h) (A.gh h) (A.eh h)
def hv (n h : ℕ) : Fin 128 → Fin 128 → ℝ := dzv (A.zu n h) (A.zv n h) (A.dya n h) (A.wh h) (A.gh h)
def hw (n h : ℕ) : Fin 128 → Fin 128 → ℝ := dw (A.zu n h) (A.zv n h) (A.dya n h) (A.gh h) (A.eh h)
def hb (n h : ℕ) : Fin 128 → ℝ := db (A.zu n h) (A.dya n h)
def hg (n h : ℕ) : Fin 128 → ℝ := dg (A.zu n h) (A.zv n h) (A.dya n h) (A.wh h)
def he (n h : ℕ) : Fin 128 → ℝ := de (A.zu n h) (A.dya n h) (A.wh h)

/-- The product that the convolution reads. -/
def hc (r k : ℕ) : ℝ := A.z r (3072 + k) * A.z r (4096 + k)
/-- The same one row earlier. -/
def h1 (r k : ℕ) : ℝ := if r < 1 then 0 else A.hc (r - 1) k
/-- The same two rows earlier. -/
def h2 (r k : ℕ) : ℝ := if r < 2 then 0 else A.hc (r - 2) k
/-- The gradient at the convolution's result. -/
def dcv (r k : ℕ) : ℝ := A.dy r (1024 + k) * A.z r (2048 + k)
/-- The same one row later. -/
def f1 (r k : ℕ) : ℝ := if r + 1 < 8192 then A.dcv (r + 1) k else 0
/-- The same two rows later. -/
def f2 (r k : ℕ) : ℝ := if r + 2 < 8192 then A.dcv (r + 2) k else 0
/-- The gradient at the convolution's operand. -/
def dhc (r k : ℕ) : ℝ := A.c 2 k * A.dcv r k + A.c 1 k * A.f1 r k + A.c 0 k * A.f2 r k
/-- The gradient at the convolution's outer gate. -/
def dzb (r k : ℕ) : ℝ := A.dy r (1024 + k) * (A.c 0 k * A.h2 r k + A.c 1 k * A.h1 r k + A.c 2 k * A.hc r k)
/-- The gradient at its inner gate. -/
def dzc (r k : ℕ) : ℝ := A.dhc r k * A.z r (4096 + k)
/-- The gradient at its input. -/
def dzx (r k : ℕ) : ℝ := A.dhc r k * A.z r (3072 + k)

/-- The gradient at the projection. -/
def dz (r k : ℕ) : ℝ :=
  if k < 1024 then A.hu (r / 128) (k / 128) ⟨r % 128, Nat.mod_lt _ (by decide)⟩ ⟨k % 128, Nat.mod_lt _ (by decide)⟩
  else if k < 2048 then A.hv (r / 128) ((k - 1024) / 128) ⟨r % 128, Nat.mod_lt _ (by decide)⟩ ⟨(k - 1024) % 128, Nat.mod_lt _ (by decide)⟩
  else if k < 3072 then A.dzb r (k - 2048)
  else if k < 4096 then A.dzc r (k - 3072)
  else A.dzx r (k - 4096)

/-- The gradients of the parameters. -/
def gw (h : ℕ) (t s : Fin 128) : ℝ := ∑ n : Fin 64, A.hw n h t s
def gb (h : ℕ) (t : Fin 128) : ℝ := ∑ n : Fin 64, A.hb n h t
def gg (h : ℕ) (d : Fin 128) : ℝ := ∑ n : Fin 64, A.hg n h d
def ge (h : ℕ) (d : Fin 128) : ℝ := ∑ n : Fin 64, A.he n h d
def gpb (k : ℕ) : ℝ := ∑ r : Fin 8192, A.dz r k
/-- The operand of the convolution's tap `j`. -/
def tap (j r k : ℕ) : ℝ := if j = 0 then A.h2 r k else if j = 1 then A.h1 r k else A.hc r k
def gcw (j k : ℕ) : ℝ := ∑ r : Fin 8192, A.dcv r k * A.tap j r k

theorem dz_u (n s : ℕ) (hs : s < 8) (t d : Fin 128) : A.dz (128 * n + t) (128 * s + d) = A.hu n s t d := by
  have ht := t.isLt; have hd := d.isLt
  have e1 : (128 * n + t.val) / 128 = n := by omega
  have e2 : (128 * n + t.val) % 128 = t := by omega
  have e3 : (128 * s + d.val) / 128 = s := by omega
  have e4 : (128 * s + d.val) % 128 = d := by omega
  simp only [dz, if_pos (show 128 * s + d.val < 1024 by omega), e1, e2, e3, e4]

theorem dz_v (n s : ℕ) (hs : s < 8) (t d : Fin 128) : A.dz (128 * n + t) (1024 + 128 * s + d) = A.hv n s t d := by
  have ht := t.isLt; have hd := d.isLt
  have e1 : (128 * n + t.val) / 128 = n := by omega
  have e2 : (128 * n + t.val) % 128 = t := by omega
  have e3 : (1024 + 128 * s + d.val - 1024) / 128 = s := by omega
  have e4 : (1024 + 128 * s + d.val - 1024) % 128 = d := by omega
  simp only [dz, if_neg (show ¬ 1024 + 128 * s + d.val < 1024 by omega), if_pos (show 1024 + 128 * s + d.val < 2048 by omega), e1, e2, e3, e4]

theorem dz_b (r k : ℕ) (hk : k < 1024) : A.dz r (2048 + k) = A.dzb r k := by
  simp only [dz, if_neg (show ¬ 2048 + k < 1024 by omega), if_neg (show ¬ 2048 + k < 2048 by omega), if_pos (show 2048 + k < 3072 by omega),
    show 2048 + k - 2048 = k by omega]

theorem dz_c (r k : ℕ) (hk : k < 1024) : A.dz r (3072 + k) = A.dzc r k := by
  simp only [dz, if_neg (show ¬ 3072 + k < 1024 by omega), if_neg (show ¬ 3072 + k < 2048 by omega), if_neg (show ¬ 3072 + k < 3072 by omega),
    if_pos (show 3072 + k < 4096 by omega), show 3072 + k - 3072 = k by omega]

theorem dz_x (r k : ℕ) : A.dz r (4096 + k) = A.dzx r k := by
  simp only [dz, if_neg (show ¬ 4096 + k < 1024 by omega), if_neg (show ¬ 4096 + k < 2048 by omega), if_neg (show ¬ 4096 + k < 3072 by omega),
    if_neg (show ¬ 4096 + k < 4096 by omega), show 4096 + k - 4096 = k by omega]

theorem at_b (n s : ℕ) (hs : s < 8) (t d : Fin 128) : A.dz (128 * n + t) (2048 + 128 * s + d) = A.dzb (128 * n + t) (128 * s + d) := by
  rw [Nat.add_assoc 2048, A.dz_b _ _ (by omega)]

theorem at_c (n s : ℕ) (hs : s < 8) (t d : Fin 128) : A.dz (128 * n + t) (3072 + 128 * s + d)
    = A.dhc (128 * n + t) (128 * s + d) * A.z (128 * n + t) (4096 + 128 * s + d) := by
  rw [Nat.add_assoc 3072, Nat.add_assoc 4096, A.dz_c _ _ (by omega), dzc]

theorem at_x (n s : ℕ) (t d : Fin 128) : A.dz (128 * n + t) (4096 + 128 * s + d)
    = A.dhc (128 * n + t) (128 * s + d) * A.z (128 * n + t) (3072 + 128 * s + d) := by
  rw [Nat.add_assoc 3072, Nat.add_assoc 4096, A.dz_x, dzx]

end Args

/-! ## Constants -/

theorem ofBits_gc : Ideal.ofBits .f32 0x3F4C422A#32 = (gc : EReal) := by
  simp [Ideal.ofBits, Ideal.ieee, gc, -EReal.coe_mul]; norm_num
theorem ofBits_ga : Ideal.ofBits .f32 0x3D372713#32 = (ga : EReal) := by
  simp [Ideal.ofBits, Ideal.ieee, ga, -EReal.coe_mul]; norm_num
theorem ofBits_half : Ideal.ofBits .f32 0x3F000000#32 = ((1 / 2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_three : Ideal.ofBits .f32 0x40400000#32 = ((3 : ℝ) : EReal) := by
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num

theorem mean_128 (x : Fin 128 → ℝ) : Ideal.div ((∑ k, x k : ℝ) : EReal) ((128 : ℝ) : EReal) = (mean x : EReal) :=
  mean_coe (by norm_num) (by norm_num) x

/-- A real array, as the programs hold it. -/
abbrev up {s : Shape} (x : s.Idx → ℝ) : FVec Ideal s .f32 := fun i => ((x i : ℝ) : EReal)

end Cert.Mix

end
-- ==== Proof.MixHead.lean ====
/- What the kernel of the mixing layer's gradient stores for one head and for one slice of the convolution's columns, over real blocks. -/
module

public import proofs.«01_k».proof.Proof.Gen.Kernel2Ideal.Frame
public import proofs.«01_k».proof.Proof.Mix
public import Idealize.ShloMosaic.Lib.Pipeline.ValueKit

@[expose] public section
set_option maxRecDepth 16384
noncomputable section
open Idealize.ShloMosaic Idealize.ShloMosaic.TcCoe
open Cert.Reals Cert.Mix

namespace Cert.Kernel2Ideal.Mix
open Cert.Kernel2Ideal Cert.Kernel2Ideal.Gen

/-- A real block. -/
abbrev mat (f : Fin 128 → Fin 128 → ℝ) : FVec Ideal S128x128 .f32 := fun i => ((f (i 0) (i 1) : ℝ) : EReal)
/-- A real block with a leading axis of one. -/
abbrev mat3 (f : Fin 128 → Fin 128 → ℝ) : FVec Ideal S1x128x128 .f32 := fun i => ((f (i 1) (i 2) : ℝ) : EReal)
/-- A real row. -/
abbrev vec (f : Fin 128 → ℝ) : FVec Ideal S1x128 .f32 := fun i => ((f (i 1) : ℝ) : EReal)

theorem named_ca : Named.named (F := Ideal) (φ := .f32) κ "gelu_ca" 0x3D122279#32 = ((80338380498831 / 2251799813685248 : ℝ) : EReal) := rfl
theorem named_3ca : Named.named (F := Ideal) (φ := .f32) κ "gelu_3ca" 0x3DDB33B6#32 = ((241015141496493 / 2251799813685248 : ℝ) : EReal) := rfl

theorem at0 {a b : ℕ} (t : Fin a) (d : Fin b) : ix2 t d 0 = t := rfl
theorem at1 {a b : ℕ} (t : Fin a) (d : Fin b) : ix2 t d 1 = d := rfl

section gelu
variable (z : Fin 128 → Fin 128 → ℝ) (t d : Fin 128)

theorem pay20 : k0_pay20 (F := Ideal) (mat z) (ix2 t d) = (th (z t d) : EReal) := by
  pointwise [k0_pay20, k0_pay19, k0_pay18]
  simp only [named_ca, ofBits_gc, at0, at1, ← EReal.coe_one, ← EReal.coe_mul, ← EReal.coe_add, Ideal.tanh_coe, th_eq]

theorem pay25 : k0_pay25 (F := Ideal) (k0_pay19 (mat z)) (k0_pay21 (mat z)) (k0_pay23 (mat z)) (k0_pay24 (mat z)) (ix2 t d)
    = (gelu' (z t d) : EReal) := by
  pointwise [k0_pay25, k0_pay19, k0_pay18, k0_pay21, k0_pay22, k0_pay23, k0_pay24]
  simp only [pay20, named_3ca, ofBits_gc, ofBits_half, ofBits_one, at0, at1, ← EReal.coe_one, ← EReal.coe_mul, ← EReal.coe_add, ← EReal.coe_sub, gelu'_eq]

theorem pay26 : k0_pay26 (F := Ideal) (k0_pay21 (mat z)) (k0_pay22 (mat z)) (ix2 t d) = (gelu (z t d) : EReal) := by
  pointwise [k0_pay26, k0_pay21, k0_pay22, k0_pay18]
  simp only [pay20, ofBits_half, ofBits_one, at0, at1, ← EReal.coe_one, ← EReal.coe_mul, ← EReal.coe_add, gelu_eq]

theorem pay29 : k0_pay29 (F := Ideal) (mat z) (ix2 t d) = (th (z t d) : EReal) := pay20 z t d

theorem pay32 : k0_pay32 (F := Ideal) (mat z) (ix2 t d) = (gelu' (z t d) : EReal) := pay25 z t d

theorem pay33 : k0_pay33 (F := Ideal) (mat z) (ix2 t d) = (dev (fun k => gelu (z t k)) d : EReal) := by
  pointwise [k0_pay33, k0_pay30, k0_pay31, k0_pay27]
  simp only [pay29, ofBits_half, ofBits_one, ofBits_128, at0, at1, ← EReal.coe_one, ← EReal.coe_mul, ← EReal.coe_add, gelu_eq, coe_sum, mean_128, ← EReal.coe_sub, dev]

theorem pay36 (u : Fin 1) : k0_pay36 (F := Ideal) (k0_pay34 (mat z)) k0_pay35 (ix2 t u) = (rstd eps (fun k => gelu (z t k)) : EReal) := by
  pointwise [k0_pay36, k0_pay34, k0_pay35]
  simp only [pay33, ofBits_128, ofBits_eps, at0, at1, ← EReal.coe_one, ← EReal.coe_mul, ← EReal.coe_add, coe_sum, mean_128, rsqrt_spread eps_pos]

theorem pay37 : k0_pay37 (F := Ideal) (k0_pay33 (mat z)) (k0_pay34 (mat z)) k0_pay35 (ix2 t d) = (vh z t d : EReal) := by
  pointwise [k0_pay37]
  simp only [pay33, pay36, at0, at1, ← EReal.coe_one, ← EReal.coe_mul, vh, hat]

end gelu

section head
variable (zu zv dy : Fin 128 → Fin 128 → ℝ) (w : Fin 128 → Fin 128 → ℝ) (b : Fin 128 → ℝ) (g e : Fin 128 → ℝ)

theorem pay38 (s d : Fin 128) : k0_pay38 (F := Ideal) (vec g) (k0_pay33 (mat zv)) (k0_pay34 (mat zv)) k0_pay35 (vec e) (ix2 s d)
    = (vn zv g e s d : EReal) := by
  pointwise [k0_pay38]
  simp only [pay37, at0, at1, ← EReal.coe_one, ← EReal.coe_mul, ← EReal.coe_add, vn]

theorem mask (t s : Fin 128) : k0_pay10 (ix2 t s) = if s ≤ t then 1#1 else 0#1 := by
  pointwise [k0_pay10]
  have ht := t.isLt; have hs := s.isLt
  by_cases h : s ≤ t
  · rw [if_pos h, WordCmp.cmpi_sge_ofNat_eq_one_iff (by omega) (by omega)]; exact h
  · rw [if_neg h, WordCmp.cmpi_sge_ofNat_eq_zero_iff (by omega) (by omega)]; exact h

theorem pay11 (t s : Fin 128) : k0_pay11 (F := Ideal) (mat3 w) (ix2 t s) = (low w t s : EReal) := by
  pointwise [k0_pay11]
  rw [mask, low]
  by_cases h : s ≤ t
  · rw [if_pos h, if_pos h]; rfl
  · rw [if_neg h, if_neg h]; rfl

theorem pay39 (t d : Fin 128) : k0_pay39 (F := Ideal) (k0_pay11 (mat3 w)) (vec g)
      (k0_pay25 (k0_pay19 (mat zu)) (k0_pay21 (mat zu)) (k0_pay23 (mat zu)) (k0_pay24 (mat zu)))
      (k0_pay33 (mat zv)) (k0_pay34 (mat zv)) k0_pay35 (vec e) (mat3 fun t _ => b t) (mat dy) (ix2 t d)
    = (dzu zu zv dy w b g e t d : EReal) := by
  pointwise [k0_pay39]
  simp only [pay11, pay38, pay25, at0, at1, ← EReal.coe_one, ← EReal.coe_mul, ← EReal.coe_add, coe_sum]
  simp [dzu, mixed]

theorem pay40 (t d : Fin 128) : k0_pay40 (F := Ideal) (k0_pay26 (k0_pay21 (mat zu)) (k0_pay22 (mat zu))) (mat dy) (ix2 t d)
    = (dmx zu dy t d : EReal) := by
  pointwise [k0_pay40]
  simp only [pay26, at0, at1, ← EReal.coe_one, ← EReal.coe_mul, dmx]

theorem pay41 (t d : Fin 128) : k0_pay41 (F := Ideal) (k0_pay26 (k0_pay21 (mat zu)) (k0_pay22 (mat zu))) (mat dy) (ix2 t d)
    = (dmx zu dy t d : EReal) := by
  pointwise [k0_pay41]
  simp only [pay40]

theorem pay42 (t d : Fin 128) : k0_pay42 (F := Ideal) k0_pay13 (k0_pay26 (k0_pay21 (mat zu)) (k0_pay22 (mat zu))) (mat dy) (ix2 t d)
    = (db zu dy t : EReal) := by
  pointwise [k0_pay42, k0_pay13]
  simp only [pay40, coe_sum, zero_add, db]

theorem pay43 (t s : Fin 128) : k0_pay43 (F := Ideal) (vec g) k0_pay12 (k0_pay26 (k0_pay21 (mat zu)) (k0_pay22 (mat zu)))
      (k0_pay33 (mat zv)) (k0_pay34 (mat zv)) k0_pay35 (vec e) (mat dy) (ix2 t s)
    = ((∑ d, dmx zu dy t d * vn zv g e s d : ℝ) : EReal) := by
  pointwise [k0_pay43, k0_pay12]
  simp only [pay41, pay38, at0, at1, ← EReal.coe_one, ← EReal.coe_mul, coe_sum, zero_add]

theorem pay44 (s d : Fin 128) : k0_pay44 (F := Ideal) (k0_pay11 (mat3 w)) (k0_pay26 (k0_pay21 (mat zu)) (k0_pay22 (mat zu))) (mat dy) (ix2 s d)
    = (dvn zu dy w s d : EReal) := by
  pointwise [k0_pay44]
  simp only [pay11, pay41, at0, at1, ← EReal.coe_one, ← EReal.coe_mul, coe_sum, zero_add, dvn]

theorem pay45 (u : Fin 1) (d : Fin 128) : k0_pay45 (F := Ideal) (k0_pay11 (mat3 w)) k0_pay14 (k0_pay26 (k0_pay21 (mat zu)) (k0_pay22 (mat zu)))
      (k0_pay33 (mat zv)) (k0_pay34 (mat zv)) k0_pay35 (mat dy) (ix2 u d) = (dg zu zv dy w d : EReal) := by
  pointwise [k0_pay45, k0_pay14]
  simp only [pay44, pay37, at0, at1, ← EReal.coe_one, ← EReal.coe_mul, coe_sum, zero_add, dg]

theorem pay46 (u : Fin 1) (d : Fin 128) : k0_pay46 (F := Ideal) (k0_pay11 (mat3 w)) k0_pay15 (k0_pay26 (k0_pay21 (mat zu)) (k0_pay22 (mat zu)))
      (mat dy) (ix2 u d) = (de zu dy w d : EReal) := by
  pointwise [k0_pay46, k0_pay15]
  simp only [pay44, at0, at1, ← EReal.coe_one, ← EReal.coe_mul, coe_sum, zero_add, de]

theorem pay47 (s d : Fin 128) : k0_pay47 (F := Ideal) (k0_pay11 (mat3 w)) (vec g) (k0_pay26 (k0_pay21 (mat zu)) (k0_pay22 (mat zu))) (mat dy) (ix2 s d)
    = ((dvn zu dy w s d * g d : ℝ) : EReal) := by
  pointwise [k0_pay47]
  simp only [pay44, at0, at1, ← EReal.coe_one, ← EReal.coe_mul]

theorem pay48 (s : Fin 128) (u : Fin 1) : k0_pay48 (F := Ideal) (k0_pay11 (mat3 w)) (vec g) (k0_pay26 (k0_pay21 (mat zu)) (k0_pay22 (mat zu))) (mat dy) (ix2 s u)
    = (mean (fun k => dvn zu dy w s k * g k) : EReal) := by
  pointwise [k0_pay48]
  simp only [pay47, ofBits_128, coe_sum, mean_128]

theorem pay50 (s d : Fin 128) : k0_pay50 (F := Ideal) (k0_pay32 (mat zv)) (k0_pay36 (k0_pay34 (mat zv)) k0_pay35)
      (k0_pay37 (k0_pay33 (mat zv)) (k0_pay34 (mat zv)) k0_pay35)
      (k0_pay47 (k0_pay11 (mat3 w)) (vec g) (k0_pay26 (k0_pay21 (mat zu)) (k0_pay22 (mat zu))) (mat dy))
      (k0_pay48 (k0_pay11 (mat3 w)) (vec g) (k0_pay26 (k0_pay21 (mat zu)) (k0_pay22 (mat zu))) (mat dy))
      (k0_pay49 (k0_pay11 (mat3 w)) (vec g) (k0_pay26 (k0_pay21 (mat zu)) (k0_pay22 (mat zu)))
        (k0_pay33 (mat zv)) (k0_pay34 (mat zv)) k0_pay35 (mat dy)) (ix2 s d)
    = (dzv zu zv dy w g s d : EReal) := by
  pointwise [k0_pay50, k0_pay49]
  simp only [pay32, pay36, pay37, pay47, pay48, ofBits_128, at0, at1, ← EReal.coe_one, ← EReal.coe_mul, coe_sum, mean_128, ← EReal.coe_sub, dzv, lnGrad, vh]

theorem pay55 (P : FVec Ideal S1x128x128 .f32) (u : Fin 1) (t s : Fin 128) : k0_pay55 (F := Ideal) k0_pay10
      (k0_pay43 (vec g) k0_pay12 (k0_pay26 (k0_pay21 (mat zu)) (k0_pay22 (mat zu))) (k0_pay33 (mat zv)) (k0_pay34 (mat zv)) k0_pay35 (vec e) (mat dy))
      P (ix3 u t s) = P (ix3 0 t s) + (dw zu zv dy g e t s : EReal) := by
  pointwise [k0_pay55]
  rw [mask, pay43, dw]
  by_cases h : s ≤ t
  · rw [if_pos h, if_pos h]; rfl
  · rw [if_neg h, if_neg h]; rfl

end head

section slice
variable (zb zc zx dy : Fin 128 → Fin 128 → ℝ) (k : ℝ) (p q p' q' w0 w1 w2 : Fin 128 → ℝ)

/-- A block one row later, its first row given. -/
def back1 (h : Fin 128 → Fin 128 → ℝ) (r : Fin 128 → ℝ) (t d : Fin 128) : ℝ :=
  if t.val = 0 then r d else h ⟨(t.val + 128 - 1) % 128, Nat.mod_lt _ (by decide)⟩ d
/-- A block two rows later, its first two rows given. -/
def back2 (h : Fin 128 → Fin 128 → ℝ) (r r' : Fin 128 → ℝ) (t d : Fin 128) : ℝ :=
  if t.val = 0 then r' d else if t.val = 1 then r d else h ⟨(t.val + 128 - 2) % 128, Nat.mod_lt _ (by decide)⟩ d
/-- A block one row earlier, its last row given. -/
def fore1 (h : Fin 128 → Fin 128 → ℝ) (r : Fin 128 → ℝ) (t d : Fin 128) : ℝ :=
  if t.val = 127 then r d else h ⟨(t.val + 128 - 127) % 128, Nat.mod_lt _ (by decide)⟩ d
/-- A block two rows earlier, its last two rows given. -/
def fore2 (h : Fin 128 → Fin 128 → ℝ) (r r' : Fin 128 → ℝ) (t d : Fin 128) : ℝ :=
  if t.val = 127 then r' d else if t.val = 126 then r d else h ⟨(t.val + 128 - 126) % 128, Nat.mod_lt _ (by decide)⟩ d

/-- A number of the lanes' rows compared with a row. -/
theorem lane_eq {α : Type} (t : Fin 128) (j : ℕ) (hj : j < 128) (x y : α) :
    Scalar.select (IntOp.cmpi .eq (BitVec.ofNat 32 t.val) (BitVec.ofNat 32 j)) x y = if t.val = j then x else y := by
  have ht := t.isLt
  by_cases h : t.val = j
  · rw [if_pos h, (WordCmp.cmpi_eq_ofNat_eq_one_iff (by omega) (by omega)).mpr h]; rfl
  · rw [if_neg h, (WordCmp.cmpi_eq_ofNat_eq_zero_iff (by omega) (by omega)).mpr h]; rfl

theorem coe_ite (c : Prop) [Decidable c] (x y : ℝ) : (if c then (x : EReal) else (y : EReal)) = ((if c then x else y : ℝ) : EReal) := by
  split <;> rfl

/-- The number of each lane's row. -/
def lane : IVec S128x128 32 := iota .tc S128x128 32 [0] iota_S128x128_d0_w32

theorem pay593 (t d : Fin 128) : k0_pay593 (F := Ideal) (k : EReal) lane (mat zc) (mat zx) (vec p) (vec q) (ix2 t d)
    = (back1 (fun t d => zc t d * zx t d) (fun d => p d * q d * k) t d : EReal) := by
  pointwise [k0_pay593, k0_pay591, k0_pay589, k0_pay590, k0_pay592, lane]
  simp only [at0, at1, ← EReal.coe_mul]
  rw [lane_eq t 0 (by decide), coe_ite, back1]

theorem pay594 (t d : Fin 128) : k0_pay594 (F := Ideal) (k : EReal) lane (mat zc) (mat zx) (vec p) (vec q) (vec p') (vec q') (ix2 t d)
    = (back2 (fun t d => zc t d * zx t d) (fun d => p d * q d * k) (fun d => p' d * q' d * k) t d : EReal) := by
  pointwise [k0_pay594, k0_pay591, k0_pay589, k0_pay590, k0_pay592, lane]
  simp only [at0, at1, ← EReal.coe_mul]
  rw [lane_eq t 0 (by decide), lane_eq t 1 (by decide), coe_ite, coe_ite, back2]

theorem pay599 (t d : Fin 128) : k0_pay599 (F := Ideal) (k0_pay588 (mat zb)) (mat dy) (ix2 t d) = ((dy t d * zb t d : ℝ) : EReal) := by
  pointwise [k0_pay599, k0_pay588]
  simp only [at0, at1, ← EReal.coe_mul]

theorem pay601 (t d : Fin 128) : k0_pay601 (F := Ideal) (k : EReal) lane (k0_pay588 (mat zb)) (mat dy) (vec p) (vec q) (ix2 t d)
    = (fore1 (fun t d => dy t d * zb t d) (fun d => p d * q d * k) t d : EReal) := by
  pointwise [k0_pay601, k0_pay599, k0_pay600, k0_pay588, lane]
  simp only [at0, at1, ← EReal.coe_mul]
  rw [lane_eq t 127 (by decide), coe_ite, fore1]

theorem pay602 (t d : Fin 128) : k0_pay602 (F := Ideal) (k : EReal) lane (k0_pay588 (mat zb)) (mat dy) (vec p) (vec q) (vec p') (vec q') (ix2 t d)
    = (fore2 (fun t d => dy t d * zb t d) (fun d => p d * q d * k) (fun d => p' d * q' d * k) t d : EReal) := by
  pointwise [k0_pay602, k0_pay599, k0_pay600, k0_pay588, lane]
  simp only [at0, at1, ← EReal.coe_mul]
  rw [lane_eq t 127 (by decide), lane_eq t 126 (by decide), coe_ite, coe_ite, fore2]

end slice

/-! ## What is stored -/

section stored
variable (ZU ZV ZB ZC ZX DY : FVec Ideal S128x128 .f32) (W BS : FVec Ideal S1x128x128 .f32) (GV BV P0 Q0 P1 Q1 W0 W1 W2 : FVec Ideal S1x128 .f32)
  (K : Ideal .f32) (R : FVec Ideal S1x128 .f32) (R3 : FVec Ideal S1x128x128 .f32)

/-- The first half's GELU. -/
def geluU := k0_pay26 (F := Ideal) (k0_pay21 ZU) (k0_pay22 ZU)
/-- The first half's gradient before it is rounded. -/
def atU := k0_pay39 (F := Ideal) (k0_pay11 W) GV (k0_pay25 (k0_pay19 ZU) (k0_pay21 ZU) (k0_pay23 ZU) (k0_pay24 ZU))
  (k0_pay33 ZV) (k0_pay34 ZV) k0_pay35 BV BS DY
/-- The first half's gradient. -/
def stU := k0_pay51 (F := Ideal) (atU ZU ZV DY W BS GV BV)
/-- The second half's gradient. -/
def stV := k0_pay52 (F := Ideal) (k0_pay32 ZV) (k0_pay36 (k0_pay34 ZV) k0_pay35) (k0_pay37 (k0_pay33 ZV) (k0_pay34 ZV) k0_pay35)
  (k0_pay47 (k0_pay11 W) GV (geluU ZU) DY) (k0_pay48 (k0_pay11 W) GV (geluU ZU) DY)
  (k0_pay49 (k0_pay11 W) GV (geluU ZU) (k0_pay33 ZV) (k0_pay34 ZV) k0_pay35 DY)
/-- The mixing matrix's gradient added to what was stored. -/
def stW := k0_pay55 (F := Ideal) k0_pay10 (k0_pay43 GV k0_pay12 (geluU ZU) (k0_pay33 ZV) (k0_pay34 ZV) k0_pay35 BV DY) R3
/-- The mixing bias's. -/
def stS := k0_pay56 (F := Ideal) (k0_pay42 k0_pay13 (geluU ZU) DY) R3
/-- The scale's. -/
def stG := k0_pay57 (F := Ideal) (k0_pay45 (k0_pay11 W) k0_pay14 (geluU ZU) (k0_pay33 ZV) (k0_pay34 ZV) k0_pay35 DY) R
/-- The shift's. -/
def stE := k0_pay58 (F := Ideal) (k0_pay46 (k0_pay11 W) k0_pay15 (geluU ZU) DY) R
/-- The projection's bias's, in the first half's columns. -/
def sumU := k0_pay59 (F := Ideal) (k0_pay53 k0_pay16 (atU ZU ZV DY W BS GV BV)) R
/-- The same in the second half's. -/
def sumV := k0_pay60 (F := Ideal) (k0_pay54 k0_pay17 (k0_pay32 ZV) (k0_pay36 (k0_pay34 ZV) k0_pay35) (k0_pay37 (k0_pay33 ZV) (k0_pay34 ZV) k0_pay35)
  (k0_pay47 (k0_pay11 W) GV (geluU ZU) DY) (k0_pay48 (k0_pay11 W) GV (geluU ZU) DY)
  (k0_pay49 (k0_pay11 W) GV (geluU ZU) (k0_pay33 ZV) (k0_pay34 ZV) k0_pay35 DY)) R

/-- The outer gate's gradient before it is rounded. -/
def atB := k0_pay598 (F := Ideal) (k0_pay591 ZC ZX) (k0_pay593 K lane ZC ZX P0 Q0) (k0_pay594 K lane ZC ZX P0 Q0 P1 Q1) (k0_pay595 W0) (k0_pay596 W1) W2 DY
/-- The outer gate's gradient. -/
def stB := k0_pay610 (F := Ideal) (atB ZC ZX DY P0 Q0 P1 Q1 W0 W1 W2 K)
/-- The inner gate's. -/
def stC := k0_pay611 (F := Ideal) (k0_pay590 ZX) (k0_pay595 W0) (k0_pay596 W1) (k0_pay599 (k0_pay588 ZB) DY) (k0_pay601 K lane (k0_pay588 ZB) DY P0 Q0)
  (k0_pay602 K lane (k0_pay588 ZB) DY P0 Q0 P1 Q1) (k0_pay603 W2)
/-- The input's. -/
def stX := k0_pay612 (F := Ideal) (k0_pay589 ZC) (k0_pay595 W0) (k0_pay596 W1) (k0_pay599 (k0_pay588 ZB) DY) (k0_pay601 K lane (k0_pay588 ZB) DY P0 Q0)
  (k0_pay602 K lane (k0_pay588 ZB) DY P0 Q0 P1 Q1) (k0_pay603 W2)
/-- The projection's bias's, in the outer gate's columns. -/
def sumB := k0_pay1 (F := Ideal) (atB ZC ZX DY P0 Q0 P1 Q1 W0 W1 W2 K) R
/-- The same in the inner gate's. -/
def sumC := k0_pay2 (F := Ideal) (k0_pay605 (k0_pay590 ZX) (k0_pay595 W0) (k0_pay596 W1) (k0_pay599 (k0_pay588 ZB) DY)
  (k0_pay601 K lane (k0_pay588 ZB) DY P0 Q0) (k0_pay602 K lane (k0_pay588 ZB) DY P0 Q0 P1 Q1) (k0_pay603 W2)) R
/-- The same in the input's. -/
def sumX := k0_pay3 (F := Ideal) (k0_pay606 (k0_pay589 ZC) (k0_pay595 W0) (k0_pay596 W1) (k0_pay599 (k0_pay588 ZB) DY)
  (k0_pay601 K lane (k0_pay588 ZB) DY P0 Q0) (k0_pay602 K lane (k0_pay588 ZB) DY P0 Q0 P1 Q1) (k0_pay603 W2)) R
/-- The first tap's gradient. -/
def tap0 := k0_pay607 (F := Ideal) (k0_pay594 K lane ZC ZX P0 Q0 P1 Q1) (k0_pay599 (k0_pay588 ZB) DY) R
/-- The second's. -/
def tap1 := k0_pay608 (F := Ideal) (k0_pay593 K lane ZC ZX P0 Q0) (k0_pay599 (k0_pay588 ZB) DY) R
/-- The third's. -/
def tap2 := k0_pay609 (F := Ideal) (k0_pay591 ZC ZX) (k0_pay599 (k0_pay588 ZB) DY) R

end stored

section storedHead
variable (zu zv dy : Fin 128 → Fin 128 → ℝ) (w : Fin 128 → Fin 128 → ℝ) (b g e : Fin 128 → ℝ)
  (R : FVec Ideal S1x128 .f32) (R3 : FVec Ideal S1x128x128 .f32)

theorem stU_eq (t d : Fin 128) : stU (mat zu) (mat zv) (mat dy) (mat3 w) (mat3 fun t _ => b t) (vec g) (vec e) (ix2 t d)
    = (dzu zu zv dy w b g e t d : EReal) := by
  pointwise [stU, k0_pay51, atU]
  simp only [pay39]
theorem stV_eq (t d : Fin 128) : stV (mat zu) (mat zv) (mat dy) (mat3 w) (vec g) (ix2 t d) = (dzv zu zv dy w g t d : EReal) := by
  pointwise [stV, k0_pay52, geluU]
  simp only [pay50]
theorem stW_eq (u : Fin 1) (t s : Fin 128) : stW (mat zu) (mat zv) (mat dy) (vec g) (vec e) R3 (ix3 u t s)
    = R3 (ix3 0 t s) + (dw zu zv dy g e t s : EReal) := pay55 zu zv dy g e R3 u t s
theorem stS_eq (u : Fin 1) (t s : Fin 128) : stS (mat zu) (mat dy) R3 (ix3 u t s) = R3 (ix3 0 t s) + (db zu dy t : EReal) := by
  pointwise [stS, k0_pay56, geluU]
  simp only [pay42]
theorem stG_eq (u : Fin 1) (d : Fin 128) : stG (mat zu) (mat zv) (mat dy) (mat3 w) R (ix2 u d) = R (ix2 u d) + (dg zu zv dy w d : EReal) := by
  pointwise [stG, k0_pay57, geluU]
  simp only [pay45]
theorem stE_eq (u : Fin 1) (d : Fin 128) : stE (mat zu) (mat dy) (mat3 w) R (ix2 u d) = R (ix2 u d) + (de zu dy w d : EReal) := by
  pointwise [stE, k0_pay58, geluU]
  simp only [pay46]
theorem sumU_eq (u : Fin 1) (d : Fin 128) : sumU (mat zu) (mat zv) (mat dy) (mat3 w) (mat3 fun t _ => b t) (vec g) (vec e) R (ix2 u d)
    = R (ix2 u d) + ((∑ t, dzu zu zv dy w b g e t d : ℝ) : EReal) := by
  pointwise [sumU, k0_pay59, k0_pay53, k0_pay16, atU]
  simp only [pay39, coe_sum, zero_add]
theorem sumV_eq (u : Fin 1) (d : Fin 128) : sumV (mat zu) (mat zv) (mat dy) (mat3 w) (vec g) R (ix2 u d)
    = R (ix2 u d) + ((∑ t, dzv zu zv dy w g t d : ℝ) : EReal) := by
  pointwise [sumV, k0_pay60, k0_pay54, k0_pay17, geluU]
  simp only [pay50, coe_sum, zero_add]

end storedHead

section storedSlice
variable (zb zc zx dy : Fin 128 → Fin 128 → ℝ) (k : ℝ) (p q p' q' w0 w1 w2 : Fin 128 → ℝ) (R : FVec Ideal S1x128 .f32)

/-- The gradient at the outer gate of a slice. -/
def sliceB (t d : Fin 128) : ℝ := dy t d * (w0 d * back2 (fun t d => zc t d * zx t d) (fun d => p d * q d * k) (fun d => p' d * q' d * k) t d
  + w1 d * back1 (fun t d => zc t d * zx t d) (fun d => p d * q d * k) t d + w2 d * (zc t d * zx t d))
/-- The gradient at the convolution's operand in a slice. -/
def sliceH (t d : Fin 128) : ℝ := w2 d * (dy t d * zb t d) + w1 d * fore1 (fun t d => dy t d * zb t d) (fun d => p d * q d * k) t d
  + w0 d * fore2 (fun t d => dy t d * zb t d) (fun d => p d * q d * k) (fun d => p' d * q' d * k) t d

theorem atB_eq (t d : Fin 128) : atB (mat zc) (mat zx) (mat dy) (vec p) (vec q) (vec p') (vec q') (vec w0) (vec w1) (vec w2) (k : EReal) (ix2 t d)
    = (sliceB zc zx dy k p q p' q' w0 w1 w2 t d : EReal) := by
  pointwise [atB, k0_pay598, k0_pay591, k0_pay589, k0_pay590, k0_pay595, k0_pay596, k0_pay597]
  simp only [pay593, pay594, at0, at1, ← EReal.coe_mul, ← EReal.coe_add, sliceB]
theorem pay604 (t d : Fin 128) : k0_pay604 (F := Ideal) (k0_pay595 (vec w0)) (k0_pay596 (vec w1)) (k0_pay599 (k0_pay588 (mat zb)) (mat dy))
      (k0_pay601 (k : EReal) lane (k0_pay588 (mat zb)) (mat dy) (vec p) (vec q))
      (k0_pay602 (k : EReal) lane (k0_pay588 (mat zb)) (mat dy) (vec p) (vec q) (vec p') (vec q')) (k0_pay603 (vec w2)) (ix2 t d)
    = (sliceH zb dy k p q p' q' w0 w1 w2 t d : EReal) := by
  pointwise [k0_pay604, k0_pay595, k0_pay596, k0_pay597, k0_pay603]
  simp only [pay599, pay601, pay602, at0, at1, ← EReal.coe_mul, ← EReal.coe_add, sliceH]
theorem stB_eq (t d : Fin 128) : stB (mat zc) (mat zx) (mat dy) (vec p) (vec q) (vec p') (vec q') (vec w0) (vec w1) (vec w2) (k : EReal) (ix2 t d)
    = (sliceB zc zx dy k p q p' q' w0 w1 w2 t d : EReal) := by
  pointwise [stB, k0_pay610]
  simp only [atB_eq]
theorem stC_eq (t d : Fin 128) : stC (mat zb) (mat zx) (mat dy) (vec p) (vec q) (vec p') (vec q') (vec w0) (vec w1) (vec w2) (k : EReal) (ix2 t d)
    = ((sliceH zb dy k p q p' q' w0 w1 w2 t d * zx t d : ℝ) : EReal) := by
  pointwise [stC, k0_pay611, k0_pay605, k0_pay590]
  simp only [pay604, at0, at1, ← EReal.coe_mul]
theorem stX_eq (t d : Fin 128) : stX (mat zb) (mat zc) (mat dy) (vec p) (vec q) (vec p') (vec q') (vec w0) (vec w1) (vec w2) (k : EReal) (ix2 t d)
    = ((sliceH zb dy k p q p' q' w0 w1 w2 t d * zc t d : ℝ) : EReal) := by
  pointwise [stX, k0_pay612, k0_pay606, k0_pay589]
  simp only [pay604, at0, at1, ← EReal.coe_mul]
theorem sumB_eq (u : Fin 1) (d : Fin 128) :
    sumB (mat zc) (mat zx) (mat dy) (vec p) (vec q) (vec p') (vec q') (vec w0) (vec w1) (vec w2) (k : EReal) R (ix2 u d)
    = R (ix2 u d) + ((∑ t, sliceB zc zx dy k p q p' q' w0 w1 w2 t d : ℝ) : EReal) := by
  pointwise [sumB, k0_pay1]
  simp only [atB_eq, coe_sum, zero_add]
theorem sumC_eq (u : Fin 1) (d : Fin 128) :
    sumC (mat zb) (mat zx) (mat dy) (vec p) (vec q) (vec p') (vec q') (vec w0) (vec w1) (vec w2) (k : EReal) R (ix2 u d)
    = R (ix2 u d) + ((∑ t, sliceH zb dy k p q p' q' w0 w1 w2 t d * zx t d : ℝ) : EReal) := by
  pointwise [sumC, k0_pay2, k0_pay605, k0_pay590]
  simp only [pay604, at0, at1, ← EReal.coe_mul, coe_sum, zero_add]
theorem sumX_eq (u : Fin 1) (d : Fin 128) :
    sumX (mat zb) (mat zc) (mat dy) (vec p) (vec q) (vec p') (vec q') (vec w0) (vec w1) (vec w2) (k : EReal) R (ix2 u d)
    = R (ix2 u d) + ((∑ t, sliceH zb dy k p q p' q' w0 w1 w2 t d * zc t d : ℝ) : EReal) := by
  pointwise [sumX, k0_pay3, k0_pay606, k0_pay589]
  simp only [pay604, at0, at1, ← EReal.coe_mul, coe_sum, zero_add]
theorem tap0_eq (u : Fin 1) (d : Fin 128) : tap0 (mat zb) (mat zc) (mat zx) (mat dy) (vec p) (vec q) (vec p') (vec q') (k : EReal) R (ix2 u d)
    = R (ix2 u d) + ((∑ t, dy t d * zb t d * back2 (fun t d => zc t d * zx t d) (fun d => p d * q d * k) (fun d => p' d * q' d * k) t d : ℝ) : EReal) := by
  pointwise [tap0, k0_pay607]
  simp only [pay599, pay594, ← EReal.coe_mul, coe_sum, zero_add]
theorem tap1_eq (u : Fin 1) (d : Fin 128) : tap1 (mat zb) (mat zc) (mat zx) (mat dy) (vec p) (vec q) (k : EReal) R (ix2 u d)
    = R (ix2 u d) + ((∑ t, dy t d * zb t d * back1 (fun t d => zc t d * zx t d) (fun d => p d * q d * k) t d : ℝ) : EReal) := by
  pointwise [tap1, k0_pay608]
  simp only [pay599, pay593, ← EReal.coe_mul, coe_sum, zero_add]
theorem tap2_eq (u : Fin 1) (d : Fin 128) : tap2 (mat zb) (mat zc) (mat zx) (mat dy) R (ix2 u d)
    = R (ix2 u d) + ((∑ t, dy t d * zb t d * (zc t d * zx t d) : ℝ) : EReal) := by
  pointwise [tap2, k0_pay609, k0_pay591, k0_pay589, k0_pay590]
  simp only [pay599, at0, at1, ← EReal.coe_mul, coe_sum, zero_add]

end storedSlice

end Cert.Kernel2Ideal.Mix

end
-- ==== Proof.MixBlocks.lean ====
/- The parts of the kernel's blocks that one head or one slice of columns reads. -/
module

public import proofs.«01_k».proof.Proof.MixHead
public import Idealize.ShloMosaic.Lib.Pipeline.ReadBack

@[expose] public section
set_option maxRecDepth 16384
noncomputable section
open Idealize.ShloMosaic Idealize.ShloMosaic.TcCoe Idealize.ShloMosaic.Tactic
open Cert.Reals Cert.Mix

namespace Cert.Kernel2Ideal.Mix
open Cert.Kernel2Ideal Cert.Kernel2Ideal.Gen

/-- 128 columns of a block of rows. -/
def cut (X : FVec Ideal S128x5120 .f32) (o : ℕ) (ho : o + 128 ≤ 5120) : FVec Ideal S128x128 .f32 :=
  fun x => X ((Rect.unit (s := S128x5120) ![0, o] ![128, 128] (by intro a; fin_cases a <;> simp [S128x5120]; omega)).idx x)
def cutY (X : FVec Ideal S128x2048 .f32) (o : ℕ) (ho : o + 128 ≤ 2048) : FVec Ideal S128x128 .f32 :=
  fun x => X ((Rect.unit (s := S128x2048) ![0, o] ![128, 128] (by intro a; fin_cases a <;> simp [S128x2048]; omega)).idx x)
/-- 128 columns of one row. -/
def cutR (X : FVec Ideal S1x1024 .f32) (o : ℕ) (ho : o + 128 ≤ 1024) : FVec Ideal S1x128 .f32 :=
  fun x => X ((Rect.unit (s := S1x1024) ![0, o] ![1, 128] (by intro a; fin_cases a <;> simp [S1x1024]; omega)).idx x)
def cutD (X : FVec Ideal S1x5120 .f32) (o : ℕ) (ho : o + 128 ≤ 5120) : FVec Ideal S1x128 .f32 :=
  fun x => X ((Rect.unit (s := S1x5120) ![0, o] ![1, 128] (by intro a; fin_cases a <;> simp [S1x5120]; omega)).idx x)
/-- One head's matrix. -/
def cut3 (X : FVec Ideal S8x128x128 .f32) (o : ℕ) (ho : o + 1 ≤ 8) : FVec Ideal S1x128x128 .f32 :=
  fun x => X ((Rect.unit (s := S8x128x128) ![o, 0, 0] ![1, 128, 128] (by intro a; fin_cases a <;> simp [S8x128x128]; omega)).idx x)
/-- 128 columns of one of eight rows. -/
def cutE (X : FVec Ideal S8x5120 .f32) (r o : ℕ) (hr : r + 1 ≤ 8) (ho : o + 128 ≤ 5120) : FVec Ideal S1x128 .f32 :=
  fun x => X ((Rect.unit (s := S8x5120) ![r, o] ![1, 128] (by intro a; fin_cases a <;> simp [S8x5120] <;> omega)).idx x)
def cutF (X : FVec Ideal S8x2048 .f32) (r o : ℕ) (hr : r + 1 ≤ 8) (ho : o + 128 ≤ 2048) : FVec Ideal S1x128 .f32 :=
  fun x => X ((Rect.unit (s := S8x2048) ![r, o] ![1, 128] (by intro a; fin_cases a <;> simp [S8x2048] <;> omega)).idx x)
def cutW (X : FVec Ideal S8x1024 .f32) (r o : ℕ) (hr : r + 1 ≤ 8) (ho : o + 128 ≤ 1024) : FVec Ideal S1x128 .f32 :=
  fun x => X ((Rect.unit (s := S8x1024) ![r, o] ![1, 128] (by intro a; fin_cases a <;> simp [S8x1024] <;> omega)).idx x)

/-- One when a point has a point before it, else zero. -/
def keep (t : Fin cfg0.N) : Ideal .f32 :=
  Scalar.sitofp .f32 (Scalar.extui (Scalar.cmpi .sgt (BitVec.ofNat 32 ↑(grid0.coords t 0)) 0#32))
/-- One when a point has a point after it, else zero. -/
def more (t : Fin cfg0.N) : Ideal .f32 :=
  Scalar.sitofp .f32 (Scalar.extui (Scalar.cmpi .slt (BitVec.ofNat 32 ↑(grid0.coords t 0)) 63#32))

/-- A memory's entry is the entry of the last piece that covers it. -/
theorem canon_pieces {s : Shape} {e : EltTy} (G : s.Idx → Elt Ideal e) (L : List (View.Piece (Elt Ideal) s e)) (h : View.PiecesOf G L) (y : s.Idx)
    (hc : ∃ p ∈ L, y ∈ p.1.set) : View.canon L y = G y := by
  simpa using View.canon_append_of_piecesOf G [] L h y hc

/-- The same when only the first `n` pieces, the last stores, count. -/
theorem canon_first {s : Shape} {e : EltTy} (n : ℕ) (G : s.Idx → Elt Ideal e) (L : List (View.Piece (Elt Ideal) s e)) (h : View.PiecesOf G (L.take n))
    (y : s.Idx) (hc : ∃ p ∈ L.take n, y ∈ p.1.set) : View.canon L y = G y := by
  have := View.canon_append_of_piecesOf G (L.drop n) (L.take n) h y hc
  rwa [List.take_append_drop] at this

/-- Where in a list of stores, slice by slice from the last and tap by tap from the last, the first three rows are covered. -/
def tapsFrom (j : ℕ) : ℕ → LoadRect.Cov
  | 0 => .leaf (2 - j)
  | n + 1 => .split 1 128 (.leaf (3 * (n + 1) + (2 - j))) (tapsFrom j n)

/-- Every place of the first three rows lies in one of the pieces. -/
theorem taps_cover (L : List (View.Piece (Elt Ideal) S8x1024 .f32))
    (h : LoadRect.covChk (L.map Sigma.fst) (Rect.unit (s := S8x1024) ![0, 0] ![3, 1024] (by decide)).toLoadRect
      (.split 0 1 (tapsFrom 0 7) (.split 0 1 (tapsFrom 1 7) (tapsFrom 2 7))) = true) (y : S8x1024.Idx) (hy : (y 0).val < 3) : ∃ p ∈ L, y ∈ p.1.set := by
  obtain ⟨p, hp, hm⟩ := LoadRect.cover_of_covChk L _ _ h (fun a => match a with | ⟨0, _⟩ => (⟨(y 0).val, hy⟩ : Fin 3) | ⟨1, _⟩ => (y 1 : Fin 1024))
  refine ⟨p, hp, ?_⟩
  convert hm
  funext a
  match a with
  | ⟨0, _⟩ => exact Fin.ext (by simp [LoadRect.idx_apply])
  | ⟨1, _⟩ => exact Fin.ext (by simp [LoadRect.idx_apply])

end Cert.Kernel2Ideal.Mix

end
-- ==== Proof.MixKernel.lean ====
/- The blocks that the kernel of the mixing layer's gradient reads at each point, over real arguments. -/
module

public import proofs.«01_k».proof.Proof.MixBlocks
public import Idealize.ShloMosaic.Lib.Routing.OpsSet

@[expose] public section
set_option maxRecDepth 16384
noncomputable section
open Idealize.ShloMosaic Idealize.ShloMosaic.TcCoe Idealize.ShloMosaic.Tactic
open Cert.Reals Cert.Mix

namespace Cert.Kernel2Ideal.Mix
open Cert.Kernel2Ideal Cert.Kernel2Ideal.Gen

/-- Three rows written over the first three of eight are read back there. -/
theorem scatter_row (x : FVec Ideal S8x1024 .f32) (u : FVec Ideal S3x1024 .f32) (i : IVec S1 32) (hi : ∀ j, i j = 0#32) (j : Fin 3) (k : Fin 1024) :
    Host.scatter scatter_S8x1024_S1_S3x1024_01_n_0_0 (fun _ b => b) x i u (ix2 ⟨j.val, by omega⟩ k) = u (ix2 j k) := by
  have hr : ∀ q : S3x1024.Idx, scatter_S8x1024_S1_S3x1024_01_n_0_0.resultIdx? q i = some (ix2 ⟨(q 0).val, by have := (q 0).isLt; exact lt_of_lt_of_le this (by decide)⟩ (q 1)) := fun q => by
    have hs : ∀ a, scatter_S8x1024_S1_S3x1024_01_n_0_0.start q i a = 0 := fun a => by
      unfold ScatterDims.start
      split
      · rw [hi]; rfl
      · rfl
    have hw : ∀ a, scatter_S8x1024_S1_S3x1024_01_n_0_0.window q a = (q a).val := fun a => by
      match a with
      | ⟨0, _⟩ => rfl
      | ⟨1, _⟩ => rfl
    unfold ScatterDims.resultIdx?
    rw [dif_pos fun a => by
      rw [hs, hw]
      have := (q a).isLt
      match a with
      | ⟨0, _⟩ => exact ⟨by omega, by have : ((q 0).val : ℤ) < 3 := by exact_mod_cast (q 0).isLt
                                      show (0 : ℤ) + ((q 0).val : ℤ) < 8; omega⟩
      | ⟨1, _⟩ => exact ⟨by omega, by have : ((q 1).val : ℤ) < 1024 := by exact_mod_cast (q 1).isLt
                                      show (0 : ℤ) + ((q 1).val : ℤ) < 1024; omega⟩]
    congr 1
    funext a
    refine Fin.ext ?_
    simp only [hs, hw]
    match a with
    | ⟨0, _⟩ => show ((0 : ℤ) + ((q 0).val : ℤ)).toNat = (q 0).val; omega
    | ⟨1, _⟩ => show ((0 : ℤ) + ((q 1).val : ℤ)).toNat = (q 1).val; omega
  refine Routing.scatter_set_hit _ x i u _ _ (fun q hq => ?_) (ix2 j k) (hr _)
  rw [hr] at hq
  have h := Option.some.inj hq
  congr 1
  have h0 : (q 0).val = j.val := congrArg (fun i : S8x1024.Idx => (i 0).val) h
  have h1 : q 1 = k := congrFun h 1
  funext a
  match a with
  | ⟨0, _⟩ => exact Fin.ext h0
  | ⟨1, _⟩ => exact h1

variable (m : (ℓ : Loc nD τ sig) → Buf (Elt Ideal) ℓ)

/-- The arguments are real numbers. -/
structure At (A : Args) (c : Dev nD) : Prop where
  h0 : m ((c : Thread nD τ).loc main_arg0) = up (s := S8192x5120) fun i => A.p (i 0) (i 1)
  h1 : m ((c : Thread nD τ).loc main_arg1) = up (s := S1x5120) fun i => A.pb (i 1)
  h2 : m ((c : Thread nD τ).loc main_arg2) = up (s := S1x8x128x128) fun i => A.w (i 1) (i 2) (i 3)
  h3 : m ((c : Thread nD τ).loc main_arg3) = up (s := S1x8x128) fun i => A.b (i 1) (i 2)
  h4 : m ((c : Thread nD τ).loc main_arg4) = up (s := S1x1024) fun i => A.g (i 1)
  h5 : m ((c : Thread nD τ).loc main_arg5) = up (s := S1x1024) fun i => A.e (i 1)
  h6 : m ((c : Thread nD τ).loc main_arg6) = up (s := S1x3x1024) fun i => A.c (i 1) (i 2)
  h7 : m ((c : Thread nD τ).loc main_arg7) = up (s := S8192x2048) fun i => A.dy (i 0) (i 1)

/-- Which block each window reads at a point. -/
theorem idx : ∀ t : Fin cfg0.N, win0_0.index t = ![t.val, 0] ∧ win0_1.index t = ![16 * t.val - 1, 0] ∧ win0_2.index t = ![min (16 * (t.val + 1)) 1023, 0]
    ∧ win0_3.index t = ![t.val, 0] ∧ win0_4.index t = ![min (16 * (t.val + 1)) 1023, 0] ∧ win0_5.index t = ![0, 0, 0] ∧ win0_6.index t = ![0, 0, 0]
    ∧ win0_7.index t = ![0, 0] ∧ win0_8.index t = ![0, 0] ∧ win0_9.index t = ![0, 0] :=
  (by decide +kernel : ∀ t : Fin grid0.N, _)

theorem idxOut : ∀ t : Fin cfg0.N, win0_10.index t = ![t.val, 0] ∧ win0_11.index t = ![0, 0, 0] ∧ win0_12.index t = ![0, 0, 0]
    ∧ win0_13.index t = ![0, 0] ∧ win0_14.index t = ![0, 0] ∧ win0_15.index t = ![0, 0] ∧ win0_16.index t = ![0, 0] :=
  (by decide +kernel : ∀ t : Fin grid0.N, _)

theorem N64 (t : Fin cfg0.N) : t.val < 64 := lt_of_lt_of_eq t.isLt N_0

variable {m} {A : Args} {c : Dev nD}

theorem V_eq (b : Ref sig .tc) : V m c b = StableHlo.after hostOps0 (fun b => m (c, b)) (Proc.devRef .tc b) := by
  show StableHlo.after [hostOps0].flatten _ _ = _
  rw [List.flatten_singleton]

theorem blk0 (H : At m A c) (t : Fin cfg0.N) : iblk m c 0 t = up (s := S128x5120) fun y => A.z (t.val * 128 + y 0) (y 1) := by
  funext y
  blk_simp [iblk]
  rw [V_eq]
  entry_read
  rw [show m (c, Proc.tc.devRef main_arg0) = _ from H.h0, show m (c, Proc.tc.devRef main_arg1) = _ from H.h1]
  pointwise
  simp only [up, ← EReal.coe_add, Args.z]
  blk_point [idx t]

theorem blk1 (H : At m A c) (t : Fin cfg0.N) : iblk m c 1 t = up (s := S8x5120) fun y => A.z ((16 * t.val - 1) * 8 + y 0) (y 1) := by
  funext y
  blk_simp [iblk]
  rw [V_eq]
  entry_read
  rw [show m (c, Proc.tc.devRef main_arg0) = _ from H.h0, show m (c, Proc.tc.devRef main_arg1) = _ from H.h1]
  pointwise
  simp only [up, ← EReal.coe_add, Args.z]
  blk_point [idx t]

theorem blk2 (H : At m A c) (t : Fin cfg0.N) : iblk m c 2 t = up (s := S8x5120) fun y => A.z (min (16 * (t.val + 1)) 1023 * 8 + y 0) (y 1) := by
  funext y
  blk_simp [iblk]
  rw [V_eq]
  entry_read
  rw [show m (c, Proc.tc.devRef main_arg0) = _ from H.h0, show m (c, Proc.tc.devRef main_arg1) = _ from H.h1]
  pointwise
  simp only [up, ← EReal.coe_add, Args.z]
  blk_point [idx t]

theorem blk3 (H : At m A c) (t : Fin cfg0.N) : iblk m c 3 t = up (s := S128x2048) fun y => A.dy (t.val * 128 + y 0) (y 1) := by
  funext y
  blk_simp [iblk]
  rw [V_main_arg7, H.h7]
  simp only [up]
  blk_point [idx t]

theorem blk4 (H : At m A c) (t : Fin cfg0.N) : iblk m c 4 t = up (s := S8x2048) fun y => A.dy (min (16 * (t.val + 1)) 1023 * 8 + y 0) (y 1) := by
  funext y
  blk_simp [iblk]
  rw [V_main_arg7, H.h7]
  simp only [up]
  blk_point [idx t]

theorem blk5 (H : At m A c) (t : Fin cfg0.N) : iblk m c 5 t = up (s := S8x128x128) fun y => A.w (y 0) (y 1) (y 2) := by
  funext y
  blk_simp [iblk]
  rw [V_eq]
  entry_read
  rw [show m (c, Proc.tc.devRef main_arg2) = _ from H.h2]
  pointwise
  simp only [up]
  blk_point [idx t]

theorem blk6 (H : At m A c) (t : Fin cfg0.N) : iblk m c 6 t = up (s := S8x128x128) fun y => A.b (y 0) (y 1) := by
  funext y
  blk_simp [iblk]
  rw [V_eq]
  entry_read
  rw [show m (c, Proc.tc.devRef main_arg3) = _ from H.h3]
  pointwise
  simp only [up]
  blk_point [idx t]

theorem blk7 (H : At m A c) (t : Fin cfg0.N) : iblk m c 7 t = up (s := S1x1024) fun y => A.g (y 1) := by
  funext y
  blk_simp [iblk]
  rw [V_main_arg4, H.h4]
  simp only [up]
  blk_point [idx t]

theorem blk8 (H : At m A c) (t : Fin cfg0.N) : iblk m c 8 t = up (s := S1x1024) fun y => A.e (y 1) := by
  funext y
  blk_simp [iblk]
  rw [V_main_arg5, H.h5]
  simp only [up]
  blk_point [idx t]

theorem blk9 (H : At m A c) (t : Fin cfg0.N) (j : Fin 3) (k : Fin 1024) :
    (iblk m c 9 t : FVec Ideal S8x1024 .f32) (ix2 ⟨j.val, by omega⟩ k) = (A.c j k : EReal) := by
  blk_simp [iblk]
  rw [V_eq]
  entry_read
  rw [show m (c, Proc.tc.devRef main_arg6) = _ from H.h6]
  rw [show (((View.whole main_v8).slice (win0_9.rect t)).emb (ix2 ⟨j.val, by omega⟩ k) : S8x1024.Idx) = ix2 ⟨j.val, by omega⟩ k from by blk_ext [idx t]]
  refine (scatter_row _ _ _ (fun _ => rfl) j k).trans ?_
  pointwise
  simp only [up]
  rfl

theorem word : ∀ t : Fin cfg0.N, Scalar.extui (Scalar.cmpi .sgt (BitVec.ofNat 32 ↑(grid0.coords t 0)) 0#32) = (if t.val = 0 then 0#32 else 1#32)
    ∧ Scalar.extui (Scalar.cmpi .slt (BitVec.ofNat 32 ↑(grid0.coords t 0)) 63#32) = if t.val = 63 then 0#32 else 1#32 :=
  (by decide +kernel : ∀ t : Fin grid0.N, _)

theorem ofWord : Scalar.sitofp (F := Ideal) .f32 0#32 = ((0 : ℝ) : EReal) ∧ Scalar.sitofp (F := Ideal) .f32 1#32 = ((1 : ℝ) : EReal) := by
  constructor
  · rw [Ideal.scalar_sitofp_def]; norm_num
  · rw [Ideal.scalar_sitofp_def]; norm_num

theorem keep_eq (t : Fin cfg0.N) : keep t = ((if t.val = 0 then 0 else 1 : ℝ) : EReal) := by
  rw [keep, (word t).1]
  split
  · exact ofWord.1
  · exact ofWord.2
theorem more_eq (t : Fin cfg0.N) : more t = ((if t.val = 63 then 0 else 1 : ℝ) : EReal) := by
  rw [more, (word t).2]
  split
  · exact ofWord.1
  · exact ofWord.2

end Cert.Kernel2Ideal.Mix

end
-- ==== Proof.MixPieces.lean ====
/- What each store of the kernel's body leaves, as a part of the layer's gradient: one statement for the eight heads and one for the
   eight slices of columns. -/
module

public import proofs.«01_k».proof.Proof.MixKernel

@[expose] public section
set_option maxRecDepth 16384
noncomputable section
open Idealize.ShloMosaic Idealize.ShloMosaic.TcCoe Idealize.ShloMosaic.Tactic
open Cert.Reals Cert.Mix

namespace Cert.Kernel2Ideal.Mix
open Cert.Kernel2Ideal Cert.Kernel2Ideal.Gen

variable {m : (ℓ : Loc nD τ sig) → Buf (Elt Ideal) ℓ} {A : Args} {c : Dev nD}

/-! ## The parts of the blocks -/

theorem cut_z (H : At m A c) (t : Fin cfg0.N) (o : ℕ) (ho : o + 128 ≤ 5120) :
    cut (iblk m c 0 t) o ho = mat fun r d => A.z (128 * t.val + r) (o + d) := by
  funext x
  rw [cut, blk0 H]
  simp [up, mat, mul_comm]

theorem cut_dy (H : At m A c) (t : Fin cfg0.N) (o : ℕ) (ho : o + 128 ≤ 2048) :
    cutY (iblk m c 3 t) o ho = mat fun r d => A.dy (128 * t.val + r) (o + d) := by
  funext x
  rw [cutY, blk3 H]
  simp [up, mat, mul_comm]

theorem cut_w (H : At m A c) (t : Fin cfg0.N) (s : ℕ) (hs : s + 1 ≤ 8) : cut3 (iblk m c 5 t) s hs = mat3 (A.wh s) := by
  funext x
  rw [cut3, blk5 H]
  have := (x 0).isLt
  simp [up, mat3, Args.wh]

theorem cut_b (H : At m A c) (t : Fin cfg0.N) (s : ℕ) (hs : s + 1 ≤ 8) : cut3 (iblk m c 6 t) s hs = mat3 fun r _ => A.bh s r := by
  funext x
  rw [cut3, blk6 H]
  simp [up, mat3, Args.bh]

theorem cut_g (H : At m A c) (t : Fin cfg0.N) (s : ℕ) (hs : 128 * s + 128 ≤ 1024) : cutR (iblk m c 7 t) (128 * s) hs = vec (A.gh s) := by
  funext x
  rw [cutR, blk7 H]
  simp [up, vec, Args.gh]

theorem cut_e (H : At m A c) (t : Fin cfg0.N) (s : ℕ) (hs : 128 * s + 128 ≤ 1024) : cutR (iblk m c 8 t) (128 * s) hs = vec (A.eh s) := by
  funext x
  rw [cutR, blk8 H]
  simp [up, vec, Args.eh]

theorem cut_before (H : At m A c) (t : Fin cfg0.N) (r o : ℕ) (hr : r + 1 ≤ 8) (ho : o + 128 ≤ 5120) :
    cutE (iblk m c 1 t) r o hr ho = vec fun d => A.z (8 * (16 * t.val - 1) + r) (o + d) := by
  funext x
  rw [cutE, blk1 H]
  simp [up, vec, mul_comm]

theorem cut_after (H : At m A c) (t : Fin cfg0.N) (r o : ℕ) (hr : r + 1 ≤ 8) (ho : o + 128 ≤ 5120) :
    cutE (iblk m c 2 t) r o hr ho = vec fun d => A.z (8 * min (16 * (t.val + 1)) 1023 + r) (o + d) := by
  funext x
  rw [cutE, blk2 H]
  simp [up, vec, mul_comm]

theorem cut_dyAfter (H : At m A c) (t : Fin cfg0.N) (r o : ℕ) (hr : r + 1 ≤ 8) (ho : o + 128 ≤ 2048) :
    cutF (iblk m c 4 t) r o hr ho = vec fun d => A.dy (8 * min (16 * (t.val + 1)) 1023 + r) (o + d) := by
  funext x
  rw [cutF, blk4 H]
  simp [up, vec, mul_comm]

theorem cut_tap (H : At m A c) (t : Fin cfg0.N) (j s : ℕ) (hj : j < 3) (hs : 128 * s + 128 ≤ 1024) :
    cutW (iblk m c 9 t) j (128 * s) (by omega) hs = vec fun d => A.c j (128 * s + d) := by
  funext x
  have h := blk9 H t ⟨j, hj⟩ ⟨128 * s + (x 1).val, by have := (x 1).isLt; simp [S1x128] at this; omega⟩
  rw [cutW]
  refine Eq.trans (congrArg _ ?_) h
  funext a
  have := (x 0).isLt
  match a with
  | ⟨0, _⟩ => refine Fin.ext ?_; simp [S1x128] at this; simp [this]
  | ⟨1, _⟩ => refine Fin.ext ?_; simp

/-! ## The rows around a block -/

theorem rows_back1 (A : Args) (t s : ℕ) (r d : Fin 128) :
    back1 (fun r d => A.z (128 * t + r) (3072 + 128 * s + d) * A.z (128 * t + r) (4096 + 128 * s + d))
      (fun d => A.z (8 * (16 * t - 1) + 7) (3072 + 128 * s + d) * A.z (8 * (16 * t - 1) + 7) (4096 + 128 * s + d) * if t = 0 then 0 else 1) r d
    = A.h1 (128 * t + r) (128 * s + d) := by
  have hr := r.isLt
  simp only [back1, Args.h1, Args.hc, ← Nat.add_assoc]
  by_cases h : r.val = 0
  · by_cases h' : t = 0
    · rw [if_pos h, if_pos h', if_pos (by omega), mul_zero]
    · rw [if_pos h, if_neg h', if_neg (by omega), mul_one, show 128 * t + r.val - 1 = 8 * (16 * t - 1) + 7 by omega]
  · rw [if_neg h, if_neg (by omega), show (r.val + 128 - 1) % 128 = r.val - 1 by omega, show 128 * t + r.val - 1 = 128 * t + (r.val - 1) by omega]

theorem rows_back2 (A : Args) (t s : ℕ) (r d : Fin 128) :
    back2 (fun r d => A.z (128 * t + r) (3072 + 128 * s + d) * A.z (128 * t + r) (4096 + 128 * s + d))
      (fun d => A.z (8 * (16 * t - 1) + 7) (3072 + 128 * s + d) * A.z (8 * (16 * t - 1) + 7) (4096 + 128 * s + d) * if t = 0 then 0 else 1)
      (fun d => A.z (8 * (16 * t - 1) + 6) (3072 + 128 * s + d) * A.z (8 * (16 * t - 1) + 6) (4096 + 128 * s + d) * if t = 0 then 0 else 1) r d
    = A.h2 (128 * t + r) (128 * s + d) := by
  have hr := r.isLt
  simp only [back2, Args.h2, Args.hc, ← Nat.add_assoc]
  by_cases h : r.val = 0
  · by_cases h' : t = 0
    · rw [if_pos h, if_pos h', if_pos (by omega), mul_zero]
    · rw [if_pos h, if_neg h', if_neg (by omega), mul_one, show 128 * t + r.val - 2 = 8 * (16 * t - 1) + 6 by omega]
  by_cases h1 : r.val = 1
  · by_cases h' : t = 0
    · rw [if_neg h, if_pos h1, if_pos h', if_pos (by omega), mul_zero]
    · rw [if_neg h, if_pos h1, if_neg h', if_neg (by omega), mul_one, show 128 * t + r.val - 2 = 8 * (16 * t - 1) + 7 by omega]
  · rw [if_neg h, if_neg h1, if_neg (by omega), show (r.val + 128 - 2) % 128 = r.val - 2 by omega,
      show 128 * t + r.val - 2 = 128 * t + (r.val - 2) by omega]

theorem rows_fore1 (A : Args) (t s : ℕ) (ht : t < 64) (r d : Fin 128) :
    fore1 (fun r d => A.dy (128 * t + r) (1024 + 128 * s + d) * A.z (128 * t + r) (2048 + 128 * s + d))
      (fun d => A.dy (8 * min (16 * (t + 1)) 1023 + 0) (1024 + 128 * s + d) * A.z (8 * min (16 * (t + 1)) 1023 + 0) (2048 + 128 * s + d)
        * if t = 63 then 0 else 1) r d
    = A.f1 (128 * t + r) (128 * s + d) := by
  have hr := r.isLt
  simp only [fore1, Args.f1, Args.dcv, ← Nat.add_assoc]
  by_cases h : r.val = 127
  · by_cases h' : t = 63
    · rw [if_pos h, if_pos h', if_neg (by omega), mul_zero]
    · rw [if_pos h, if_neg h', if_pos (by omega), mul_one, show 128 * t + r.val + 1 = 8 * min (16 * (t + 1)) 1023 + 0 by omega]
  · rw [if_neg h, if_pos (by omega), show (r.val + 128 - 127) % 128 = r.val + 1 by omega, show 128 * t + r.val + 1 = 128 * t + (r.val + 1) by omega]

theorem rows_fore2 (A : Args) (t s : ℕ) (ht : t < 64) (r d : Fin 128) :
    fore2 (fun r d => A.dy (128 * t + r) (1024 + 128 * s + d) * A.z (128 * t + r) (2048 + 128 * s + d))
      (fun d => A.dy (8 * min (16 * (t + 1)) 1023 + 0) (1024 + 128 * s + d) * A.z (8 * min (16 * (t + 1)) 1023 + 0) (2048 + 128 * s + d)
        * if t = 63 then 0 else 1)
      (fun d => A.dy (8 * min (16 * (t + 1)) 1023 + 1) (1024 + 128 * s + d) * A.z (8 * min (16 * (t + 1)) 1023 + 1) (2048 + 128 * s + d)
        * if t = 63 then 0 else 1) r d
    = A.f2 (128 * t + r) (128 * s + d) := by
  have hr := r.isLt
  simp only [fore2, Args.f2, Args.dcv, ← Nat.add_assoc]
  by_cases h : r.val = 127
  · by_cases h' : t = 63
    · rw [if_pos h, if_pos h', if_neg (by omega), mul_zero]
    · rw [if_pos h, if_neg h', if_pos (by omega), mul_one, show 128 * t + r.val + 2 = 8 * min (16 * (t + 1)) 1023 + 1 by omega]
  by_cases h1 : r.val = 126
  · by_cases h' : t = 63
    · rw [if_neg h, if_pos h1, if_pos h', if_neg (by omega), mul_zero]
    · rw [if_neg h, if_pos h1, if_neg h', if_pos (by omega), mul_one, show 128 * t + r.val + 2 = 8 * min (16 * (t + 1)) 1023 + 0 by omega]
  · rw [if_neg h, if_neg h1, if_pos (by omega), show (r.val + 128 - 126) % 128 = r.val + 2 by omega,
      show 128 * t + r.val + 2 = 128 * t + (r.val + 2) by omega]

section slice
variable (A : Args) (t s : ℕ) (r d : Fin 128)

theorem slice_b : sliceB (fun r d => A.z (128 * t + r) (3072 + 128 * s + d)) (fun r d => A.z (128 * t + r) (4096 + 128 * s + d))
      (fun r d => A.dy (128 * t + r) (1024 + 128 * s + d)) (if t = 0 then 0 else 1)
      (fun d => A.z (8 * (16 * t - 1) + 7) (3072 + 128 * s + d)) (fun d => A.z (8 * (16 * t - 1) + 7) (4096 + 128 * s + d))
      (fun d => A.z (8 * (16 * t - 1) + 6) (3072 + 128 * s + d)) (fun d => A.z (8 * (16 * t - 1) + 6) (4096 + 128 * s + d))
      (fun d => A.c 0 (128 * s + d)) (fun d => A.c 1 (128 * s + d)) (fun d => A.c 2 (128 * s + d)) r d
    = A.dzb (128 * t + r) (128 * s + d) := by
  rw [sliceB, rows_back1, rows_back2]
  simp only [Args.dzb, Args.hc, ← Nat.add_assoc]

theorem slice_h (ht : t < 64) : sliceH (fun r d => A.z (128 * t + r) (2048 + 128 * s + d)) (fun r d => A.dy (128 * t + r) (1024 + 128 * s + d))
      (if t = 63 then 0 else 1)
      (fun d => A.dy (8 * min (16 * (t + 1)) 1023 + 0) (1024 + 128 * s + d)) (fun d => A.z (8 * min (16 * (t + 1)) 1023 + 0) (2048 + 128 * s + d))
      (fun d => A.dy (8 * min (16 * (t + 1)) 1023 + 1) (1024 + 128 * s + d)) (fun d => A.z (8 * min (16 * (t + 1)) 1023 + 1) (2048 + 128 * s + d))
      (fun d => A.c 0 (128 * s + d)) (fun d => A.c 1 (128 * s + d)) (fun d => A.c 2 (128 * s + d)) r d
    = A.dhc (128 * t + r) (128 * s + d) := by
  rw [sliceH, rows_fore1 A t s ht, rows_fore2 A t s ht]
  simp only [Args.dhc, Args.dcv, ← Nat.add_assoc]

end slice

/-! ## The stores -/

section parts
variable (m : (ℓ : Loc nD τ sig) → Buf (Elt Ideal) ℓ) (c : Dev nD) (t : Fin cfg0.N) (s : ℕ) (hs : s < 8)

abbrev bU := cut (iblk m c 0 t) (128 * s) (by omega)
abbrev bV := cut (iblk m c 0 t) (1024 + 128 * s) (by omega)
abbrev bB := cut (iblk m c 0 t) (2048 + 128 * s) (by omega)
abbrev bC := cut (iblk m c 0 t) (3072 + 128 * s) (by omega)
abbrev bX := cut (iblk m c 0 t) (4096 + 128 * s) (by omega)
abbrev bY := cutY (iblk m c 3 t) (128 * s) (by omega)
abbrev bY' := cutY (iblk m c 3 t) (1024 + 128 * s) (by omega)
abbrev bW := cut3 (iblk m c 5 t) s (by omega)
abbrev bS := cut3 (iblk m c 6 t) s (by omega)
abbrev bG := cutR (iblk m c 7 t) (128 * s) (by omega)
abbrev bE := cutR (iblk m c 8 t) (128 * s) (by omega)
abbrev bT (j : ℕ) (hj : j < 3) := cutW (iblk m c 9 t) j (128 * s) (by omega) (by omega)
/-- A row before the block, and a row after it. -/
abbrev bC' (r : ℕ) (hr : r < 8) := cutE (iblk m c 1 t) r (3072 + 128 * s) (by omega) (by omega)
abbrev bX' (r : ℕ) (hr : r < 8) := cutE (iblk m c 1 t) r (4096 + 128 * s) (by omega) (by omega)
abbrev bB' (r : ℕ) (hr : r < 8) := cutE (iblk m c 2 t) r (2048 + 128 * s) (by omega) (by omega)
abbrev bD' (r : ℕ) (hr : r < 8) := cutF (iblk m c 4 t) r (1024 + 128 * s) (by omega) (by omega)

end parts

/-- Where the columns of a block, a head's matrix, a row's columns go. -/
abbrev atZ (o : ℕ) (ho : o + 128 ≤ 5120) : Rect S128x5120 :=
  Rect.unit (s := S128x5120) ![0, o] ![128, 128] (by intro a; fin_cases a <;> simp [S128x5120]; omega)
abbrev at3 (o : ℕ) (ho : o + 1 ≤ 8) : Rect S8x128x128 :=
  Rect.unit (s := S8x128x128) ![o, 0, 0] ![1, 128, 128] (by intro a; fin_cases a <;> simp [S8x128x128]; omega)
abbrev atR (o : ℕ) (ho : o + 128 ≤ 1024) : Rect S1x1024 :=
  Rect.unit (s := S1x1024) ![0, o] ![1, 128] (by intro a; fin_cases a <;> simp [S1x1024]; omega)
abbrev atD (o : ℕ) (ho : o + 128 ≤ 5120) : Rect S1x5120 :=
  Rect.unit (s := S1x5120) ![0, o] ![1, 128] (by intro a; fin_cases a <;> simp [S1x5120]; omega)
abbrev atT (r o : ℕ) (hr : r + 1 ≤ 8) (ho : o + 128 ≤ 1024) : Rect S8x1024 :=
  Rect.unit (s := S8x1024) ![r, o] ![1, 128] (by intro a; fin_cases a <;> simp [S8x1024] <;> omega)

theorem eta (x : S128x128.Idx) : x = ix2 (x 0) (x 1) := by blk_ext
theorem eta1 (x : S1x128.Idx) : x = ix2 (x 0) (x 1) := by blk_ext
theorem eta3 (x : S1x128x128.Idx) : x = ix3 (x 0) (x 1) (x 2) := by blk_ext

/-- The gradient at the projection in the rows of point `t`. -/
def gZ (A : Args) (t : ℕ) : S128x5120.Idx → Elt Ideal .bf16 := fun y => ((A.dz (128 * t + y 0) (y 1) : ℝ) : EReal)

section stores
variable (H : At m A c) (t : Fin cfg0.N) (s : ℕ) (hs : s < 8)
include H

theorem pU (x : S128x128.Idx) : stU (bU m c t s hs) (bV m c t s hs) (bY m c t s hs) (bW m c t s hs) (bS m c t s hs) (bG m c t s hs) (bE m c t s hs) x
    = gZ A t ((atZ (128 * s) (by omega)).emb x) := by
  rw [bU, bV, bY, bW, bS, bG, bE, cut_z H, cut_z H, cut_dy H, cut_w H, cut_b H, cut_g H, cut_e H, eta x]
  refine (stU_eq _ _ _ _ _ _ _ (x 0) (x 1)).trans ?_
  simp only [gZ]
  exact congrArg _ ((A.dz_u t s hs (x 0) (x 1)).symm.trans (by simp))

theorem pV (x : S128x128.Idx) : stV (bU m c t s hs) (bV m c t s hs) (bY m c t s hs) (bW m c t s hs) (bG m c t s hs) x
    = gZ A t ((atZ (1024 + 128 * s) (by omega)).emb x) := by
  rw [bU, bV, bY, bW, bG, cut_z H, cut_z H, cut_dy H, cut_w H, cut_g H, eta x]
  refine (stV_eq _ _ _ _ _ (x 0) (x 1)).trans ?_
  simp only [gZ]
  exact congrArg _ ((A.dz_v t s hs (x 0) (x 1)).symm.trans (by simp))

theorem pB (x : S128x128.Idx) : stB (bC m c t s hs) (bX m c t s hs) (bY' m c t s hs) (bC' m c t s hs 7 (by decide)) (bX' m c t s hs 7 (by decide))
      (bC' m c t s hs 6 (by decide)) (bX' m c t s hs 6 (by decide)) (bT m c t s hs 0 (by decide)) (bT m c t s hs 1 (by decide))
      (bT m c t s hs 2 (by decide)) (keep t) x = gZ A t ((atZ (2048 + 128 * s) (by omega)).emb x) := by
  rw [bC, bX, bY', bC', bC', bX', bX', bT, bT, bT, cut_z H, cut_z H, cut_dy H, cut_before H, cut_before H, cut_before H, cut_before H,
    cut_tap H _ 0 _ (by decide), cut_tap H _ 1 _ (by decide), cut_tap H _ 2 _ (by decide), keep_eq, eta x]
  refine (stB_eq _ _ _ _ _ _ _ _ _ _ _ (x 0) (x 1)).trans ?_
  rw [slice_b A t s (x 0) (x 1)]
  simp only [gZ]
  exact congrArg _ ((A.at_b t s hs (x 0) (x 1)).symm.trans (by simp))

theorem pC (x : S128x128.Idx) : stC (bB m c t s hs) (bX m c t s hs) (bY' m c t s hs) (bD' m c t s hs 0 (by decide)) (bB' m c t s hs 0 (by decide))
      (bD' m c t s hs 1 (by decide)) (bB' m c t s hs 1 (by decide)) (bT m c t s hs 0 (by decide)) (bT m c t s hs 1 (by decide))
      (bT m c t s hs 2 (by decide)) (more t) x = gZ A t ((atZ (3072 + 128 * s) (by omega)).emb x) := by
  rw [bB, bX, bY', bD', bD', bB', bB', bT, bT, bT, cut_z H, cut_z H, cut_dy H, cut_dyAfter H, cut_dyAfter H, cut_after H, cut_after H,
    cut_tap H _ 0 _ (by decide), cut_tap H _ 1 _ (by decide), cut_tap H _ 2 _ (by decide), more_eq, eta x]
  refine (stC_eq _ _ _ _ _ _ _ _ _ _ _ (x 0) (x 1)).trans ?_
  rw [slice_h A t s (x 0) (x 1) (N64 t)]
  simp only [gZ]
  exact congrArg _ ((A.at_c t s hs (x 0) (x 1)).symm.trans (by simp))

theorem pX (x : S128x128.Idx) : stX (bB m c t s hs) (bC m c t s hs) (bY' m c t s hs) (bD' m c t s hs 0 (by decide)) (bB' m c t s hs 0 (by decide))
      (bD' m c t s hs 1 (by decide)) (bB' m c t s hs 1 (by decide)) (bT m c t s hs 0 (by decide)) (bT m c t s hs 1 (by decide))
      (bT m c t s hs 2 (by decide)) (more t) x = gZ A t ((atZ (4096 + 128 * s) (by omega)).emb x) := by
  rw [bB, bC, bY', bD', bD', bB', bB', bT, bT, bT, cut_z H, cut_z H, cut_dy H, cut_dyAfter H, cut_dyAfter H, cut_after H, cut_after H,
    cut_tap H _ 0 _ (by decide), cut_tap H _ 1 _ (by decide), cut_tap H _ 2 _ (by decide), more_eq, eta x]
  refine (stX_eq _ _ _ _ _ _ _ _ _ _ _ (x 0) (x 1)).trans ?_
  rw [slice_h A t s (x 0) (x 1) (N64 t)]
  simp only [gZ]
  exact congrArg _ ((A.at_x t s (x 0) (x 1)).symm.trans (by simp))

end stores

/-- What is kept of a gradient with one point's part added. -/
def gW (A : Args) (t : ℕ) (P : FVec Ideal S8x128x128 .f32) : S8x128x128.Idx → Elt Ideal .f32 := fun y => P y + (A.hw t (y 0) (y 1) (y 2) : EReal)
def gS (A : Args) (t : ℕ) (P : FVec Ideal S8x128x128 .f32) : S8x128x128.Idx → Elt Ideal .f32 := fun y => P y + (A.hb t (y 0) (y 1) : EReal)
def gG (A : Args) (t : ℕ) (P : FVec Ideal S1x1024 .f32) : S1x1024.Idx → Elt Ideal .f32 := fun y =>
  P y + (A.hg t ((y 1).val / 128) ⟨(y 1).val % 128, Nat.mod_lt _ (by decide)⟩ : EReal)
def gE (A : Args) (t : ℕ) (P : FVec Ideal S1x1024 .f32) : S1x1024.Idx → Elt Ideal .f32 := fun y =>
  P y + (A.he t ((y 1).val / 128) ⟨(y 1).val % 128, Nat.mod_lt _ (by decide)⟩ : EReal)
def gT (A : Args) (t : ℕ) (P : FVec Ideal S8x1024 .f32) : S8x1024.Idx → Elt Ideal .f32 := fun y =>
  P y + ((∑ r : Fin 128, A.dcv (128 * t + r) (y 1) * A.tap (y 0) (128 * t + r) (y 1) : ℝ) : EReal)
def gD (A : Args) (t : ℕ) (P : FVec Ideal S1x5120 .f32) : S1x5120.Idx → Elt Ideal .f32 := fun y =>
  P y + ((∑ r : Fin 128, A.dz (128 * t + r) (y 1) : ℝ) : EReal)

/-- A stored sum at a place `y`, whose second part is known there. -/
theorem put {s : Shape} (r : Rect s) (x : r.shape.Idx) {y : s.Idx} (h : r.emb x = y) (P q : s.Idx → EReal) {v : EReal} (hv : v = q y) :
    P (r.emb x) + v = P (r.emb x) + q (r.emb x) := by rw [h, hv]

/-- A store's places, coordinate by coordinate. -/
theorem emb3 (s : ℕ) (hs : s + 1 ≤ 8) (a : Fin 1) (b d : Fin 128) : (at3 s hs).emb (ix3 a b d : S1x128x128.Idx) = (ix3 ⟨s, by omega⟩ b d : S8x128x128.Idx) := by
  have hx : a.val < 1 := a.isLt
  funext i
  match i with
  | ⟨0, _⟩ => exact Fin.ext (by simp)
  | ⟨1, _⟩ => exact Fin.ext (by simp)
  | ⟨2, _⟩ => exact Fin.ext (by simp)
theorem embR (o : ℕ) (ho : o + 128 ≤ 1024) (a : Fin 1) (d : Fin 128) :
    (atR o ho).emb (ix2 a d : S1x128.Idx) = (ix2 0 ⟨o + d.val, by omega⟩ : S1x1024.Idx) := by
  funext i
  match i with
  | ⟨0, _⟩ => exact Subsingleton.elim (α := Fin 1) _ _
  | ⟨1, _⟩ => exact Fin.ext (by simp)
theorem embD (o : ℕ) (ho : o + 128 ≤ 5120) (a : Fin 1) (d : Fin 128) :
    (atD o ho).emb (ix2 a d : S1x128.Idx) = (ix2 0 ⟨o + d.val, by omega⟩ : S1x5120.Idx) := by
  funext i
  match i with
  | ⟨0, _⟩ => exact Subsingleton.elim (α := Fin 1) _ _
  | ⟨1, _⟩ => exact Fin.ext (by simp)
theorem embT (r o : ℕ) (hr : r + 1 ≤ 8) (ho : o + 128 ≤ 1024) (a : Fin 1) (d : Fin 128) :
    (atT r o hr ho).emb (ix2 a d : S1x128.Idx) = (ix2 ⟨r, by omega⟩ ⟨o + d.val, by omega⟩ : S8x1024.Idx) := by
  have hx : a.val < 1 := a.isLt
  funext i
  match i with
  | ⟨0, _⟩ => exact Fin.ext (by simp)
  | ⟨1, _⟩ => exact Fin.ext (by simp)

theorem quot (s : ℕ) (d : Fin 128) : (128 * s + d.val) / 128 = s := by omega
theorem rem (s : ℕ) (d : Fin 128) (h) : (⟨(128 * s + d.val) % 128, h⟩ : Fin 128) = d := Fin.ext (by have := d.isLt; simp only; omega)

section sums
variable (H : At m A c) (t : Fin cfg0.N) (s : ℕ) (hs : s < 8) (P3 : FVec Ideal S8x128x128 .f32) (PR : FVec Ideal S1x1024 .f32)
  (PT : FVec Ideal S8x1024 .f32) (PD : FVec Ideal S1x5120 .f32)
include H

theorem pW (x : S1x128x128.Idx) : stW (bU m c t s hs) (bV m c t s hs) (bY m c t s hs) (bG m c t s hs) (bE m c t s hs) (cut3 P3 s (by omega)) x
    = gW A t P3 ((at3 s (by omega)).emb x) := by
  obtain ⟨a, b, d, rfl⟩ : ∃ a b d, x = ix3 a b d := ⟨_, _, _, eta3 x⟩
  obtain rfl : a = 0 := Subsingleton.elim _ _
  rw [bU, bV, bY, bG, bE, cut_z H, cut_z H, cut_dy H, cut_g H, cut_e H]
  exact (stW_eq _ _ _ _ _ _ 0 b d).trans (put (at3 s (by omega)) (ix3 0 b d) (emb3 s (by omega) 0 b d) P3 (fun y => (A.hw t (y 0) (y 1) (y 2) : EReal)) rfl)

theorem pS (x : S1x128x128.Idx) : stS (bU m c t s hs) (bY m c t s hs) (cut3 P3 s (by omega)) x = gS A t P3 ((at3 s (by omega)).emb x) := by
  obtain ⟨a, b, d, rfl⟩ : ∃ a b d, x = ix3 a b d := ⟨_, _, _, eta3 x⟩
  obtain rfl : a = 0 := Subsingleton.elim _ _
  rw [bU, bY, cut_z H, cut_dy H]
  exact (stS_eq _ _ _ 0 b d).trans (put (at3 s (by omega)) (ix3 0 b d) (emb3 s (by omega) 0 b d) P3 (fun y => (A.hb t (y 0) (y 1) : EReal)) rfl)

theorem pG (x : S1x128.Idx) : stG (bU m c t s hs) (bV m c t s hs) (bY m c t s hs) (bW m c t s hs) (cutR PR (128 * s) (by omega)) x
    = gG A t PR ((atR (128 * s) (by omega)).emb x) := by
  obtain ⟨a, d, rfl⟩ : ∃ a d, x = ix2 a d := ⟨_, _, eta1 x⟩
  rw [bU, bV, bY, bW, cut_z H, cut_z H, cut_dy H, cut_w H]
  exact (stG_eq _ _ _ _ _ a d).trans (put (atR (128 * s) (by omega)) (ix2 a d) (embR (128 * s) (by omega) a d) PR
    (fun y => (A.hg t ((y 1).val / 128) ⟨(y 1).val % 128, Nat.mod_lt _ (by decide)⟩ : EReal)) (by simp only [at1, quot, rem]; rfl))

theorem pE (x : S1x128.Idx) : stE (bU m c t s hs) (bY m c t s hs) (bW m c t s hs) (cutR PR (128 * s) (by omega)) x
    = gE A t PR ((atR (128 * s) (by omega)).emb x) := by
  obtain ⟨a, d, rfl⟩ : ∃ a d, x = ix2 a d := ⟨_, _, eta1 x⟩
  rw [bU, bY, bW, cut_z H, cut_dy H, cut_w H]
  exact (stE_eq _ _ _ _ a d).trans (put (atR (128 * s) (by omega)) (ix2 a d) (embR (128 * s) (by omega) a d) PR
    (fun y => (A.he t ((y 1).val / 128) ⟨(y 1).val % 128, Nat.mod_lt _ (by decide)⟩ : EReal)) (by simp only [at1, quot, rem]; rfl))

omit H in
/-- The part of a point at one tap and column, from the rows of its block. -/
theorem tap_part (j : ℕ) (hj : j < 8) (d : Fin 128) (v : Fin 128 → ℝ) (hv : ∀ r, v r = A.dcv (128 * t + r) (128 * s + d) * A.tap j (128 * t + r) (128 * s + d))
    (a : Fin 1) : cutW PT j (128 * s) (by omega) (by omega) (ix2 a d) + ((∑ r, v r : ℝ) : EReal) = gT A t PT ((atT j (128 * s) (by omega) (by omega)).emb (ix2 a d)) :=
  put (atT j (128 * s) (by omega) (by omega)) (ix2 a d) (embT j (128 * s) (by omega) (by omega) a d) PT
    (fun y => ((∑ r : Fin 128, A.dcv (128 * t + r) (y 1) * A.tap (y 0) (128 * t + r) (y 1) : ℝ) : EReal))
    (congrArg _ (Finset.sum_congr rfl fun r _ => hv r))

omit H in
/-- The part of a point at one column of the bias, from the rows of its block. -/
theorem sum_part (o : ℕ) (ho : o + 128 ≤ 5120) (d : Fin 128) (v : Fin 128 → ℝ) (hv : ∀ r, v r = A.dz (128 * t + r) (o + d)) (a : Fin 1) :
    cutD PD o ho (ix2 a d) + ((∑ r, v r : ℝ) : EReal) = gD A t PD ((atD o ho).emb (ix2 a d)) :=
  put (atD o ho) (ix2 a d) (embD o ho a d) PD (fun y => ((∑ r : Fin 128, A.dz (128 * t + r) (y 1) : ℝ) : EReal))
    (congrArg _ (Finset.sum_congr rfl fun r _ => hv r))

theorem pT0 (x : S1x128.Idx) : tap0 (bB m c t s hs) (bC m c t s hs) (bX m c t s hs) (bY' m c t s hs) (bC' m c t s hs 7 (by decide)) (bX' m c t s hs 7 (by decide))
      (bC' m c t s hs 6 (by decide)) (bX' m c t s hs 6 (by decide)) (keep t) (cutW PT 0 (128 * s) (by decide) (by omega)) x
    = gT A t PT ((atT 0 (128 * s) (by decide) (by omega)).emb x) := by
  obtain ⟨a, d, rfl⟩ : ∃ a d, x = ix2 a d := ⟨_, _, eta1 x⟩
  rw [bB, bC, bX, bY', bC', bC', bX', bX', cut_z H, cut_z H, cut_z H, cut_dy H, cut_before H, cut_before H, cut_before H, cut_before H, keep_eq]
  exact (tap0_eq _ _ _ _ _ _ _ _ _ _ a d).trans (tap_part t s hs PT 0 (by decide) d _ (fun r => by rw [rows_back2]; simp only [Args.dcv, Args.tap, ← Nat.add_assoc, if_true]) a)

theorem pT1 (x : S1x128.Idx) : tap1 (bB m c t s hs) (bC m c t s hs) (bX m c t s hs) (bY' m c t s hs) (bC' m c t s hs 7 (by decide)) (bX' m c t s hs 7 (by decide))
      (keep t) (cutW PT 1 (128 * s) (by decide) (by omega)) x
    = gT A t PT ((atT 1 (128 * s) (by decide) (by omega)).emb x) := by
  obtain ⟨a, d, rfl⟩ : ∃ a d, x = ix2 a d := ⟨_, _, eta1 x⟩
  rw [bB, bC, bX, bY', bC', bX', cut_z H, cut_z H, cut_z H, cut_dy H, cut_before H, cut_before H, keep_eq]
  exact (tap1_eq _ _ _ _ _ _ _ _ a d).trans (tap_part t s hs PT 1 (by decide) d _ (fun r => by rw [rows_back1]; simp only [Args.dcv, Args.tap, ← Nat.add_assoc, if_true, if_neg (by decide : ¬ 1 = 0)]) a)

theorem pT2 (x : S1x128.Idx) : tap2 (bB m c t s hs) (bC m c t s hs) (bX m c t s hs) (bY' m c t s hs) (cutW PT 2 (128 * s) (by decide) (by omega)) x
    = gT A t PT ((atT 2 (128 * s) (by decide) (by omega)).emb x) := by
  obtain ⟨a, d, rfl⟩ : ∃ a d, x = ix2 a d := ⟨_, _, eta1 x⟩
  rw [bB, bC, bX, bY', cut_z H, cut_z H, cut_z H, cut_dy H]
  exact (tap2_eq _ _ _ _ _ a d).trans (tap_part t s hs PT 2 (by decide) d _ (fun r => by simp only [Args.dcv, Args.hc, Args.tap, ← Nat.add_assoc, if_neg (by decide : ¬ 2 = 0), if_neg (by decide : ¬ 2 = 1)]) a)

theorem pDU (x : S1x128.Idx) : sumU (bU m c t s hs) (bV m c t s hs) (bY m c t s hs) (bW m c t s hs) (bS m c t s hs) (bG m c t s hs) (bE m c t s hs) (cutD PD (128 * s) (by omega)) x
    = gD A t PD ((atD (128 * s) (by omega)).emb x) := by
  obtain ⟨a, d, rfl⟩ : ∃ a d, x = ix2 a d := ⟨_, _, eta1 x⟩
  rw [bU, bV, bY, bW, bS, bG, bE, cut_z H, cut_z H, cut_dy H, cut_w H, cut_b H, cut_g H, cut_e H]
  exact (sumU_eq _ _ _ _ _ _ _ _ a d).trans (sum_part t PD (128 * s) (by omega) d _ (fun r => (A.dz_u t s hs r d).symm) a)

theorem pDV (x : S1x128.Idx) : sumV (bU m c t s hs) (bV m c t s hs) (bY m c t s hs) (bW m c t s hs) (bG m c t s hs) (cutD PD (1024 + 128 * s) (by omega)) x
    = gD A t PD ((atD (1024 + 128 * s) (by omega)).emb x) := by
  obtain ⟨a, d, rfl⟩ : ∃ a d, x = ix2 a d := ⟨_, _, eta1 x⟩
  rw [bU, bV, bY, bW, bG, cut_z H, cut_z H, cut_dy H, cut_w H, cut_g H]
  exact (sumV_eq _ _ _ _ _ _ a d).trans (sum_part t PD (1024 + 128 * s) (by omega) d _ (fun r => (A.dz_v t s hs r d).symm) a)

theorem pDB (x : S1x128.Idx) : sumB (bC m c t s hs) (bX m c t s hs) (bY' m c t s hs) (bC' m c t s hs 7 (by decide)) (bX' m c t s hs 7 (by decide))
      (bC' m c t s hs 6 (by decide)) (bX' m c t s hs 6 (by decide)) (bT m c t s hs 0 (by decide)) (bT m c t s hs 1 (by decide))
      (bT m c t s hs 2 (by decide)) (keep t) (cutD PD (2048 + 128 * s) (by omega)) x
    = gD A t PD ((atD (2048 + 128 * s) (by omega)).emb x) := by
  obtain ⟨a, d, rfl⟩ : ∃ a d, x = ix2 a d := ⟨_, _, eta1 x⟩
  rw [bC, bX, bY', bC', bC', bX', bX', bT, bT, bT, cut_z H, cut_z H, cut_dy H, cut_before H, cut_before H, cut_before H, cut_before H,
    cut_tap H _ 0 _ (by decide), cut_tap H _ 1 _ (by decide), cut_tap H _ 2 _ (by decide), keep_eq]
  exact (sumB_eq _ _ _ _ _ _ _ _ _ _ _ _ a d).trans (sum_part t PD (2048 + 128 * s) (by omega) d _ (fun r => (slice_b A t s r d).trans (A.at_b t s hs r d).symm) a)

theorem pDC (x : S1x128.Idx) : sumC (bB m c t s hs) (bX m c t s hs) (bY' m c t s hs) (bD' m c t s hs 0 (by decide)) (bB' m c t s hs 0 (by decide))
      (bD' m c t s hs 1 (by decide)) (bB' m c t s hs 1 (by decide)) (bT m c t s hs 0 (by decide)) (bT m c t s hs 1 (by decide))
      (bT m c t s hs 2 (by decide)) (more t) (cutD PD (3072 + 128 * s) (by omega)) x
    = gD A t PD ((atD (3072 + 128 * s) (by omega)).emb x) := by
  obtain ⟨a, d, rfl⟩ : ∃ a d, x = ix2 a d := ⟨_, _, eta1 x⟩
  rw [bB, bX, bY', bD', bD', bB', bB', bT, bT, bT, cut_z H, cut_z H, cut_dy H, cut_dyAfter H, cut_dyAfter H, cut_after H, cut_after H,
    cut_tap H _ 0 _ (by decide), cut_tap H _ 1 _ (by decide), cut_tap H _ 2 _ (by decide), more_eq]
  exact (sumC_eq _ _ _ _ _ _ _ _ _ _ _ _ a d).trans (sum_part t PD (3072 + 128 * s) (by omega) d _ (fun r => (congrArg (· * _) (slice_h A t s r d (N64 t))).trans (A.at_c t s hs r d).symm) a)

theorem pDX (x : S1x128.Idx) : sumX (bB m c t s hs) (bC m c t s hs) (bY' m c t s hs) (bD' m c t s hs 0 (by decide)) (bB' m c t s hs 0 (by decide))
      (bD' m c t s hs 1 (by decide)) (bB' m c t s hs 1 (by decide)) (bT m c t s hs 0 (by decide)) (bT m c t s hs 1 (by decide))
      (bT m c t s hs 2 (by decide)) (more t) (cutD PD (4096 + 128 * s) (by omega)) x
    = gD A t PD ((atD (4096 + 128 * s) (by omega)).emb x) := by
  obtain ⟨a, d, rfl⟩ : ∃ a d, x = ix2 a d := ⟨_, _, eta1 x⟩
  rw [bB, bC, bY', bD', bD', bB', bB', bT, bT, bT, cut_z H, cut_z H, cut_dy H, cut_dyAfter H, cut_dyAfter H, cut_after H, cut_after H,
    cut_tap H _ 0 _ (by decide), cut_tap H _ 1 _ (by decide), cut_tap H _ 2 _ (by decide), more_eq]
  exact (sumX_eq _ _ _ _ _ _ _ _ _ _ _ _ a d).trans (sum_part t PD (4096 + 128 * s) (by omega) d _ (fun r => (congrArg (· * _) (slice_h A t s r d (N64 t))).trans (A.at_x t s r d).symm) a)

end sums

end Cert.Kernel2Ideal.Mix

end
-- ==== Proof.MixColsA.lean ====
/- The block of the input gradient after the first point of a sweep. -/
module

public import proofs.«01_k».proof.Proof.MixPieces

@[expose] public section
set_option maxRecDepth 16384
noncomputable section
open Idealize.ShloMosaic Idealize.ShloMosaic.TcCoe Idealize.ShloMosaic.Tactic
open Cert.Reals Cert.Mix

namespace Cert.Kernel2Ideal.Mix
open Cert.Kernel2Ideal Cert.Kernel2Ideal.Gen
variable {m : (ℓ : Loc nD τ sig) → Buf (Elt Ideal) ℓ} {A : Args} {c : Dev nD}

set_option maxHeartbeats 0 in
/-- The block of the input gradient after the first point of a sweep. -/
theorem out10A (H : At m A c) (t : Fin cfg0.N) (h : t.val % 64 = 0) (y : S128x5120.Idx) :
    (outsAt0 m c t.val t.isLt).1 y = gZ A t y := by
  rw [outsAt0_A m c t h]
  frame_out
  refine canon_pieces (gZ A t) _ ?_ y (View.cover_of_tiledL (s := S128x5120) _ S128x128.size (by sl_kernel_rfl) y)
  exact ⟨pX H t 7 (by decide), pC H t 7 (by decide), pB H t 7 (by decide), pX H t 6 (by decide), pC H t 6 (by decide), pB H t 6 (by decide),
      pX H t 5 (by decide), pC H t 5 (by decide), pB H t 5 (by decide), pX H t 4 (by decide), pC H t 4 (by decide), pB H t 4 (by decide),
      pX H t 3 (by decide), pC H t 3 (by decide), pB H t 3 (by decide), pX H t 2 (by decide), pC H t 2 (by decide), pB H t 2 (by decide),
      pX H t 1 (by decide), pC H t 1 (by decide), pB H t 1 (by decide), pX H t 0 (by decide), pC H t 0 (by decide), pB H t 0 (by decide),
      pV H t 7 (by decide), pU H t 7 (by decide), pV H t 6 (by decide), pU H t 6 (by decide), pV H t 5 (by decide), pU H t 5 (by decide),
      pV H t 4 (by decide), pU H t 4 (by decide), pV H t 3 (by decide), pU H t 3 (by decide), pV H t 2 (by decide), pU H t 2 (by decide),
      pV H t 1 (by decide), pU H t 1 (by decide), pV H t 0 (by decide), pU H t 0 (by decide), trivial⟩

end Cert.Kernel2Ideal.Mix

end
-- ==== Proof.MixColsB.lean ====
/- The block of the input gradient after a later point. -/
module

public import proofs.«01_k».proof.Proof.MixPieces

@[expose] public section
set_option maxRecDepth 16384
noncomputable section
open Idealize.ShloMosaic Idealize.ShloMosaic.TcCoe Idealize.ShloMosaic.Tactic
open Cert.Reals Cert.Mix

namespace Cert.Kernel2Ideal.Mix
open Cert.Kernel2Ideal Cert.Kernel2Ideal.Gen
variable {m : (ℓ : Loc nD τ sig) → Buf (Elt Ideal) ℓ} {A : Args} {c : Dev nD}

set_option maxHeartbeats 0 in
/-- The block of the input gradient after a later point. -/
theorem out10B (H : At m A c) (t : Fin cfg0.N) (h : ¬ t.val % 64 = 0) (y : S128x5120.Idx) :
    (outsAt0 m c t.val t.isLt).1 y = gZ A t y := by
  rw [outsAt0_B m c t h]
  frame_out
  refine canon_pieces (gZ A t) _ ?_ y (View.cover_of_tiledL (s := S128x5120) _ S128x128.size (by sl_kernel_rfl) y)
  exact ⟨pX H t 7 (by decide), pC H t 7 (by decide), pB H t 7 (by decide), pX H t 6 (by decide), pC H t 6 (by decide), pB H t 6 (by decide),
      pX H t 5 (by decide), pC H t 5 (by decide), pB H t 5 (by decide), pX H t 4 (by decide), pC H t 4 (by decide), pB H t 4 (by decide),
      pX H t 3 (by decide), pC H t 3 (by decide), pB H t 3 (by decide), pX H t 2 (by decide), pC H t 2 (by decide), pB H t 2 (by decide),
      pX H t 1 (by decide), pC H t 1 (by decide), pB H t 1 (by decide), pX H t 0 (by decide), pC H t 0 (by decide), pB H t 0 (by decide),
      pV H t 7 (by decide), pU H t 7 (by decide), pV H t 6 (by decide), pU H t 6 (by decide), pV H t 5 (by decide), pU H t 5 (by decide),
      pV H t 4 (by decide), pU H t 4 (by decide), pV H t 3 (by decide), pU H t 3 (by decide), pV H t 2 (by decide), pU H t 2 (by decide),
      pV H t 1 (by decide), pU H t 1 (by decide), pV H t 0 (by decide), pU H t 0 (by decide), trivial⟩

end Cert.Kernel2Ideal.Mix

end
-- ==== Proof.MixTaps.lean ====
/- The sums of the convolution taps' gradients after a point: what stood there before, and that point's part. -/
module

public import proofs.«01_k».proof.Proof.MixPieces

@[expose] public section
set_option maxRecDepth 16384
noncomputable section
open Idealize.ShloMosaic Idealize.ShloMosaic.TcCoe Idealize.ShloMosaic.Tactic
open Cert.Reals Cert.Mix

namespace Cert.Kernel2Ideal.Mix
open Cert.Kernel2Ideal Cert.Kernel2Ideal.Gen
variable {m : (ℓ : Loc nD τ sig) → Buf (Elt Ideal) ℓ} {A : Args} {c : Dev nD}

set_option maxHeartbeats 0 in
/-- The taps' sums after the first point of a sweep. -/
theorem out15A (H : At m A c) (t : Fin cfg0.N) (h : t.val % 64 = 0) (y : S8x1024.Idx) (hy : (y 0).val < 3) :
    (outsAt0 m c t.val t.isLt).2.2.2.2.2.1 y = gT A t k0_pay8 y := by
  rw [outsAt0_A m c t h]
  frame_open
  simp (disch := decide) only [↓View.readCov_skip, ↓View.readCov_fill]
  frame_out
  refine canon_first 24 (gT A t k0_pay8) _ ?_ y ?_
  · exact ⟨pT2 H t 7 (by decide) _, pT1 H t 7 (by decide) _, pT0 H t 7 (by decide) _, pT2 H t 6 (by decide) _, pT1 H t 6 (by decide) _,
      pT0 H t 6 (by decide) _, pT2 H t 5 (by decide) _, pT1 H t 5 (by decide) _, pT0 H t 5 (by decide) _, pT2 H t 4 (by decide) _,
      pT1 H t 4 (by decide) _, pT0 H t 4 (by decide) _, pT2 H t 3 (by decide) _, pT1 H t 3 (by decide) _, pT0 H t 3 (by decide) _,
      pT2 H t 2 (by decide) _, pT1 H t 2 (by decide) _, pT0 H t 2 (by decide) _, pT2 H t 1 (by decide) _, pT1 H t 1 (by decide) _,
      pT0 H t 1 (by decide) _, pT2 H t 0 (by decide) _, pT1 H t 0 (by decide) _, pT0 H t 0 (by decide) _, trivial⟩
  · exact taps_cover _ (by sl_kernel_rfl) y hy

set_option maxHeartbeats 0 in
/-- The taps' sums after a later point. -/
theorem out15B (H : At m A c) (t : Fin cfg0.N) (h : ¬ t.val % 64 = 0) (y : S8x1024.Idx) (hy : (y 0).val < 3) :
    (outsAt0 m c t.val t.isLt).2.2.2.2.2.1 y = gT A t (outsAt0 m c (t.val - 1) (by omega)).2.2.2.2.2.1 y := by
  rw [outsAt0_B m c t h]
  frame_out
  refine (View.read_writes_apply_eq_canon _ _ _ _ ?_).trans (canon_pieces (gT A t (outsAt0 m c (t.val - 1) (by omega)).2.2.2.2.2.1) _ ?_ y ?_)
  · exact taps_cover _ (by sl_kernel_rfl) y hy
  · exact ⟨pT2 H t 7 (by decide) _, pT1 H t 7 (by decide) _, pT0 H t 7 (by decide) _, pT2 H t 6 (by decide) _, pT1 H t 6 (by decide) _,
      pT0 H t 6 (by decide) _, pT2 H t 5 (by decide) _, pT1 H t 5 (by decide) _, pT0 H t 5 (by decide) _, pT2 H t 4 (by decide) _,
      pT1 H t 4 (by decide) _, pT0 H t 4 (by decide) _, pT2 H t 3 (by decide) _, pT1 H t 3 (by decide) _, pT0 H t 3 (by decide) _,
      pT2 H t 2 (by decide) _, pT1 H t 2 (by decide) _, pT0 H t 2 (by decide) _, pT2 H t 1 (by decide) _, pT1 H t 1 (by decide) _,
      pT0 H t 1 (by decide) _, pT2 H t 0 (by decide) _, pT1 H t 0 (by decide) _, pT0 H t 0 (by decide) _, trivial⟩
  · exact taps_cover _ (by sl_kernel_rfl) y hy

end Cert.Kernel2Ideal.Mix

end
-- ==== Proof.MixBiasA.lean ====
/- The sums of the input gradient's columns after the first point of a sweep. -/
module

public import proofs.«01_k».proof.Proof.MixPieces

@[expose] public section
set_option maxRecDepth 16384
noncomputable section
open Idealize.ShloMosaic Idealize.ShloMosaic.TcCoe Idealize.ShloMosaic.Tactic
open Cert.Reals Cert.Mix

namespace Cert.Kernel2Ideal.Mix
open Cert.Kernel2Ideal Cert.Kernel2Ideal.Gen
variable {m : (ℓ : Loc nD τ sig) → Buf (Elt Ideal) ℓ} {A : Args} {c : Dev nD}

set_option maxHeartbeats 0 in
/-- The columns' sums after the first point of a sweep. -/
theorem out16A (H : At m A c) (t : Fin cfg0.N) (h : t.val % 64 = 0) (y : S1x5120.Idx) :
    (outsAt0 m c t.val t.isLt).2.2.2.2.2.2 y = gD A t k0_pay9 y := by
  rw [outsAt0_A m c t h]
  frame_open
  simp (disch := decide) only [↓View.readCov_skip, ↓View.readCov_fill]
  frame_out
  refine canon_first 40 (gD A t k0_pay9) _ ?_ y (View.cover_of_tiledL (s := S1x5120) _ S1x128.size (by sl_kernel_rfl) y)
  exact ⟨pDX H t 7 (by decide) _, pDC H t 7 (by decide) _, pDB H t 7 (by decide) _, pDX H t 6 (by decide) _, pDC H t 6 (by decide) _,
      pDB H t 6 (by decide) _, pDX H t 5 (by decide) _, pDC H t 5 (by decide) _, pDB H t 5 (by decide) _, pDX H t 4 (by decide) _,
      pDC H t 4 (by decide) _, pDB H t 4 (by decide) _, pDX H t 3 (by decide) _, pDC H t 3 (by decide) _, pDB H t 3 (by decide) _,
      pDX H t 2 (by decide) _, pDC H t 2 (by decide) _, pDB H t 2 (by decide) _, pDX H t 1 (by decide) _, pDC H t 1 (by decide) _,
      pDB H t 1 (by decide) _, pDX H t 0 (by decide) _, pDC H t 0 (by decide) _, pDB H t 0 (by decide) _, pDV H t 7 (by decide) _,
      pDU H t 7 (by decide) _, pDV H t 6 (by decide) _, pDU H t 6 (by decide) _, pDV H t 5 (by decide) _, pDU H t 5 (by decide) _,
      pDV H t 4 (by decide) _, pDU H t 4 (by decide) _, pDV H t 3 (by decide) _, pDU H t 3 (by decide) _, pDV H t 2 (by decide) _,
      pDU H t 2 (by decide) _, pDV H t 1 (by decide) _, pDU H t 1 (by decide) _, pDV H t 0 (by decide) _, pDU H t 0 (by decide) _, trivial⟩

end Cert.Kernel2Ideal.Mix

end
-- ==== Proof.MixSums.lean ====
/- The sums of the parameters' gradients after a point: what stood there before, and that point's part. -/
module

public import proofs.«01_k».proof.Proof.MixPieces

@[expose] public section
set_option maxRecDepth 16384
noncomputable section
open Idealize.ShloMosaic Idealize.ShloMosaic.TcCoe Idealize.ShloMosaic.Tactic
open Cert.Reals Cert.Mix

namespace Cert.Kernel2Ideal.Mix
open Cert.Kernel2Ideal Cert.Kernel2Ideal.Gen
variable {m : (ℓ : Loc nD τ sig) → Buf (Elt Ideal) ℓ} {A : Args} {c : Dev nD}

set_option maxHeartbeats 0 in
/-- The mixing matrices' sums after the first point of a sweep. -/
theorem out11A (H : At m A c) (t : Fin cfg0.N) (h : t.val % 64 = 0) (y : S8x128x128.Idx) :
    (outsAt0 m c t.val t.isLt).2.1 y = gW A t k0_pay4 y := by
  rw [outsAt0_A m c t h]
  frame_open
  simp (disch := decide) only [↓View.readCov_skip, ↓View.readCov_fill]
  frame_out
  refine canon_first 8 (gW A t k0_pay4) _ ?_ y (View.cover_of_tiledBy (s := S8x128x128) _ ![1, 128, 128] (by sl_kernel_rfl) y)
  exact ⟨pW H t 7 (by decide) _, pW H t 6 (by decide) _, pW H t 5 (by decide) _, pW H t 4 (by decide) _, pW H t 3 (by decide) _,
      pW H t 2 (by decide) _, pW H t 1 (by decide) _, pW H t 0 (by decide) _, trivial⟩

set_option maxHeartbeats 0 in
/-- The mixing matrices' sums after a later point. -/
theorem out11B (H : At m A c) (t : Fin cfg0.N) (h : ¬ t.val % 64 = 0) (y : S8x128x128.Idx) :
    (outsAt0 m c t.val t.isLt).2.1 y = gW A t (outsAt0 m c (t.val - 1) (by omega)).2.1 y := by
  rw [outsAt0_B m c t h]
  frame_out
  refine canon_pieces (gW A t (outsAt0 m c (t.val - 1) (by omega)).2.1) _ ?_ y (View.cover_of_tiledBy (s := S8x128x128) _ ![1, 128,
      128] (by sl_kernel_rfl) y)
  exact ⟨pW H t 7 (by decide) _, pW H t 6 (by decide) _, pW H t 5 (by decide) _, pW H t 4 (by decide) _, pW H t 3 (by decide) _,
      pW H t 2 (by decide) _, pW H t 1 (by decide) _, pW H t 0 (by decide) _, trivial⟩

set_option maxHeartbeats 0 in
/-- The mixing biases' sums after the first point of a sweep. -/
theorem out12A (H : At m A c) (t : Fin cfg0.N) (h : t.val % 64 = 0) (y : S8x128x128.Idx) :
    (outsAt0 m c t.val t.isLt).2.2.1 y = gS A t k0_pay5 y := by
  rw [outsAt0_A m c t h]
  frame_open
  simp (disch := decide) only [↓View.readCov_skip, ↓View.readCov_fill]
  frame_out
  refine canon_first 8 (gS A t k0_pay5) _ ?_ y (View.cover_of_tiledBy (s := S8x128x128) _ ![1, 128, 128] (by sl_kernel_rfl) y)
  exact ⟨pS H t 7 (by decide) _, pS H t 6 (by decide) _, pS H t 5 (by decide) _, pS H t 4 (by decide) _, pS H t 3 (by decide) _,
      pS H t 2 (by decide) _, pS H t 1 (by decide) _, pS H t 0 (by decide) _, trivial⟩

set_option maxHeartbeats 0 in
/-- The mixing biases' sums after a later point. -/
theorem out12B (H : At m A c) (t : Fin cfg0.N) (h : ¬ t.val % 64 = 0) (y : S8x128x128.Idx) :
    (outsAt0 m c t.val t.isLt).2.2.1 y = gS A t (outsAt0 m c (t.val - 1) (by omega)).2.2.1 y := by
  rw [outsAt0_B m c t h]
  frame_out
  refine canon_pieces (gS A t (outsAt0 m c (t.val - 1) (by omega)).2.2.1) _ ?_ y (View.cover_of_tiledBy (s := S8x128x128) _ ![1, 128,
      128] (by sl_kernel_rfl) y)
  exact ⟨pS H t 7 (by decide) _, pS H t 6 (by decide) _, pS H t 5 (by decide) _, pS H t 4 (by decide) _, pS H t 3 (by decide) _,
      pS H t 2 (by decide) _, pS H t 1 (by decide) _, pS H t 0 (by decide) _, trivial⟩

set_option maxHeartbeats 0 in
/-- The scale's sums after the first point of a sweep. -/
theorem out13A (H : At m A c) (t : Fin cfg0.N) (h : t.val % 64 = 0) (y : S1x1024.Idx) :
    (outsAt0 m c t.val t.isLt).2.2.2.1 y = gG A t k0_pay6 y := by
  rw [outsAt0_A m c t h]
  frame_open
  simp (disch := decide) only [↓View.readCov_skip, ↓View.readCov_fill]
  frame_out
  refine canon_first 8 (gG A t k0_pay6) _ ?_ y (View.cover_of_tiledL (s := S1x1024) _ S1x128.size (by sl_kernel_rfl) y)
  exact ⟨pG H t 7 (by decide) _, pG H t 6 (by decide) _, pG H t 5 (by decide) _, pG H t 4 (by decide) _, pG H t 3 (by decide) _,
      pG H t 2 (by decide) _, pG H t 1 (by decide) _, pG H t 0 (by decide) _, trivial⟩

set_option maxHeartbeats 0 in
/-- The scale's sums after a later point. -/
theorem out13B (H : At m A c) (t : Fin cfg0.N) (h : ¬ t.val % 64 = 0) (y : S1x1024.Idx) :
    (outsAt0 m c t.val t.isLt).2.2.2.1 y = gG A t (outsAt0 m c (t.val - 1) (by omega)).2.2.2.1 y := by
  rw [outsAt0_B m c t h]
  frame_out
  refine canon_pieces (gG A t (outsAt0 m c (t.val - 1) (by omega)).2.2.2.1) _ ?_ y (View.cover_of_tiledL (s := S1x1024) _ S1x128.size (by sl_kernel_rfl) y)
  exact ⟨pG H t 7 (by decide) _, pG H t 6 (by decide) _, pG H t 5 (by decide) _, pG H t 4 (by decide) _, pG H t 3 (by decide) _,
      pG H t 2 (by decide) _, pG H t 1 (by decide) _, pG H t 0 (by decide) _, trivial⟩

set_option maxHeartbeats 0 in
/-- The shift's sums after the first point of a sweep. -/
theorem out14A (H : At m A c) (t : Fin cfg0.N) (h : t.val % 64 = 0) (y : S1x1024.Idx) :
    (outsAt0 m c t.val t.isLt).2.2.2.2.1 y = gE A t k0_pay7 y := by
  rw [outsAt0_A m c t h]
  frame_open
  simp (disch := decide) only [↓View.readCov_skip, ↓View.readCov_fill]
  frame_out
  refine canon_first 8 (gE A t k0_pay7) _ ?_ y (View.cover_of_tiledL (s := S1x1024) _ S1x128.size (by sl_kernel_rfl) y)
  exact ⟨pE H t 7 (by decide) _, pE H t 6 (by decide) _, pE H t 5 (by decide) _, pE H t 4 (by decide) _, pE H t 3 (by decide) _,
      pE H t 2 (by decide) _, pE H t 1 (by decide) _, pE H t 0 (by decide) _, trivial⟩

set_option maxHeartbeats 0 in
/-- The shift's sums after a later point. -/
theorem out14B (H : At m A c) (t : Fin cfg0.N) (h : ¬ t.val % 64 = 0) (y : S1x1024.Idx) :
    (outsAt0 m c t.val t.isLt).2.2.2.2.1 y = gE A t (outsAt0 m c (t.val - 1) (by omega)).2.2.2.2.1 y := by
  rw [outsAt0_B m c t h]
  frame_out
  refine canon_pieces (gE A t (outsAt0 m c (t.val - 1) (by omega)).2.2.2.2.1) _ ?_ y (View.cover_of_tiledL (s := S1x1024) _ S1x128.size (by sl_kernel_rfl) y)
  exact ⟨pE H t 7 (by decide) _, pE H t 6 (by decide) _, pE H t 5 (by decide) _, pE H t 4 (by decide) _, pE H t 3 (by decide) _,
      pE H t 2 (by decide) _, pE H t 1 (by decide) _, pE H t 0 (by decide) _, trivial⟩

set_option maxHeartbeats 0 in
/-- The columns' sums after a later point. -/
theorem out16B (H : At m A c) (t : Fin cfg0.N) (h : ¬ t.val % 64 = 0) (y : S1x5120.Idx) :
    (outsAt0 m c t.val t.isLt).2.2.2.2.2.2 y = gD A t (outsAt0 m c (t.val - 1) (by omega)).2.2.2.2.2.2 y := by
  rw [outsAt0_B m c t h]
  frame_out
  refine canon_pieces (gD A t (outsAt0 m c (t.val - 1) (by omega)).2.2.2.2.2.2) _ ?_ y (View.cover_of_tiledL (s := S1x5120) _ S1x128.size (by sl_kernel_rfl) y)
  exact ⟨pDX H t 7 (by decide) _, pDC H t 7 (by decide) _, pDB H t 7 (by decide) _, pDX H t 6 (by decide) _, pDC H t 6 (by decide) _,
      pDB H t 6 (by decide) _, pDX H t 5 (by decide) _, pDC H t 5 (by decide) _, pDB H t 5 (by decide) _, pDX H t 4 (by decide) _,
      pDC H t 4 (by decide) _, pDB H t 4 (by decide) _, pDX H t 3 (by decide) _, pDC H t 3 (by decide) _, pDB H t 3 (by decide) _,
      pDX H t 2 (by decide) _, pDC H t 2 (by decide) _, pDB H t 2 (by decide) _, pDX H t 1 (by decide) _, pDC H t 1 (by decide) _,
      pDB H t 1 (by decide) _, pDX H t 0 (by decide) _, pDC H t 0 (by decide) _, pDB H t 0 (by decide) _, pDV H t 7 (by decide) _,
      pDU H t 7 (by decide) _, pDV H t 6 (by decide) _, pDU H t 6 (by decide) _, pDV H t 5 (by decide) _, pDU H t 5 (by decide) _,
      pDV H t 4 (by decide) _, pDU H t 4 (by decide) _, pDV H t 3 (by decide) _, pDU H t 3 (by decide) _, pDV H t 2 (by decide) _,
      pDU H t 2 (by decide) _, pDV H t 1 (by decide) _, pDU H t 1 (by decide) _, pDV H t 0 (by decide) _, pDU H t 0 (by decide) _, trivial⟩

end Cert.Kernel2Ideal.Mix

end
-- ==== Proof.MixFinal.lean ====
/- The seven results of the kernel, over the real numbers: the arrays after the last point, and the operations after the region. -/
module

public import proofs.«01_k».proof.Proof.MixColsA
public import proofs.«01_k».proof.Proof.MixColsB
public import proofs.«01_k».proof.Proof.MixTaps
public import proofs.«01_k».proof.Proof.MixBiasA
public import proofs.«01_k».proof.Proof.MixSums

@[expose] public section
set_option maxRecDepth 16384
noncomputable section
open Idealize.ShloMosaic Idealize.ShloMosaic.TcCoe Idealize.ShloMosaic.Tactic Idealize.SL.Sem
open Cert.Reals Cert.Mix

namespace Cert.Kernel2Ideal.Mix
open Cert.Kernel2Ideal Cert.Kernel2Ideal.Gen
variable {m : (ℓ : Loc nD τ sig) → Buf (Elt Ideal) ℓ} {A : Args} {c : Dev nD}

/-! ## The arrays after the last point -/

theorem zero4 (y) : k0_pay4 (F := Ideal) y = 0 := by pointwise [k0_pay4]
theorem zero5 (y) : k0_pay5 (F := Ideal) y = 0 := by pointwise [k0_pay5]
theorem zero6 (y) : k0_pay6 (F := Ideal) y = 0 := by pointwise [k0_pay6]
theorem zero7 (y) : k0_pay7 (F := Ideal) y = 0 := by pointwise [k0_pay7]
theorem zero8 (y) : k0_pay8 (F := Ideal) y = 0 := by pointwise [k0_pay8]
theorem zero9 (y) : k0_pay9 (F := Ideal) y = 0 := by pointwise [k0_pay9]

/-- The points of the sweep are all the chunks. -/
theorem sum64 (t : Fin cfg0.N) (f : ℕ → ℝ) : (∑ s : Fin 64, ((f (64 * (t.val / 64) + s.val) : ℝ) : EReal)) = ((∑ n : Fin 64, f n : ℝ) : EReal) := by
  rw [show t.val / 64 = 0 from Nat.div_eq_of_lt (N64 t), coe_sum]
  simp only [Nat.mul_zero, Nat.zero_add]

/-- The rows of the chunks are all the rows. -/
theorem sumRows (f : ℕ → ℝ) : (∑ n : Fin 64, ∑ r : Fin 128, f (128 * n + r)) = ∑ r : Fin 8192, f r :=
  Fin.sum_mul_add_congr fun n r _ => by rw [Nat.mul_comm]

theorem place10 (t : Fin cfg0.N) (y : S128x5120.Idx) : (((cfg0.win 10).blk t).view.emb y : S8192x5120.Idx)
    = ix2 (⟨128 * t.val + (y 0).val, by have := N64 t; have : (y 0).val < 128 := (y 0).isLt; omega⟩ : Fin 8192) (⟨(y 1).val, (y 1).isLt⟩ : Fin 5120) := by
  blk_ext [idxOut t, Nat.mul_comm]

theorem place11 (t : Fin cfg0.N) (y : S8x128x128.Idx) : (((cfg0.win 11).blk t).view.emb y : S8x128x128.Idx) = y := by blk_ext [idxOut t]
theorem place12 (t : Fin cfg0.N) (y : S8x128x128.Idx) : (((cfg0.win 12).blk t).view.emb y : S8x128x128.Idx) = y := by blk_ext [idxOut t]
theorem place13 (t : Fin cfg0.N) (y : S1x1024.Idx) : (((cfg0.win 13).blk t).view.emb y : S1x1024.Idx) = y := by blk_ext [idxOut t]
theorem place14 (t : Fin cfg0.N) (y : S1x1024.Idx) : (((cfg0.win 14).blk t).view.emb y : S1x1024.Idx) = y := by blk_ext [idxOut t]
theorem place15 (t : Fin cfg0.N) (y : S8x1024.Idx) : (((cfg0.win 15).blk t).view.emb y : S8x1024.Idx) = y := by blk_ext [idxOut t]
theorem place16 (t : Fin cfg0.N) (y : S1x5120.Idx) : (((cfg0.win 16).blk t).view.emb y : S1x5120.Idx) = y := by blk_ext [idxOut t]

theorem final10 (H : At m A c) : (dats m 0 c).arrAt 10 (cfgs 0).N = (fun y => (A.dz (y 0) (y 1) : EReal) : S8192x5120.Idx → EReal) := by
  suffices ∀ G : S8192x5120.Idx → EReal, (∀ y : S8192x5120.Idx, G y = (A.dz (y 0) (y 1) : EReal)) → (dats m 0 c).arrAt 10 (cfgs 0).N = G from this _ fun _ => rfl
  intro G hG
  refine (dats m 0 c).arrAt_eq_of_covers 10 _ (by decide +kernel) fun t _ y => ?_
  blk_simp
  rw [after0_10, place10 t y]
  refine Eq.trans ?_ (hG _).symm
  by_cases h : t.val % 64 = 0
  · exact out10A H t h y
  · exact out10B H t h y

theorem final11 (H : At m A c) : (dats m 0 c).arrAt 11 (cfgs 0).N = (fun y => (A.gw (y 0) (y 1) (y 2) : EReal) : S8x128x128.Idx → EReal) := by
  suffices ∀ G : S8x128x128.Idx → EReal, (∀ y : S8x128x128.Idx, G y = (A.gw (y 0) (y 1) (y 2) : EReal)) → (dats m 0 c).arrAt 11 (cfgs 0).N = G from this _ fun _ => rfl
  intro G hG
  refine (dats m 0 c).arrAt_eq_of_covers 11 _ (by decide +kernel) fun t hf y => ?_
  blk_simp
  rw [after0_11, Pipeline.eq_sum_fin_of_reset_step_apply_of_flush (fun n h => (outsAt0 m c n h).2.1) 64 (fun _ => 0)
    (fun s (j : S8x128x128.Idx) => (A.hw s (j 0) (j 1) (j 2) : EReal))
    (fun t h j => (out11A H t h j).trans (congrArg (· + _) (zero4 j))) (fun t h j => out11B H t h j)
    t ((flush0_11 t).mp hf) _, zero_add, place11 t y, hG]
  exact sum64 t fun n => A.hw n (y 0) (y 1) (y 2)

theorem final12 (H : At m A c) : (dats m 0 c).arrAt 12 (cfgs 0).N = (fun y => (A.gb (y 0) (y 1) : EReal) : S8x128x128.Idx → EReal) := by
  suffices ∀ G : S8x128x128.Idx → EReal, (∀ y : S8x128x128.Idx, G y = (A.gb (y 0) (y 1) : EReal)) → (dats m 0 c).arrAt 12 (cfgs 0).N = G from this _ fun _ => rfl
  intro G hG
  refine (dats m 0 c).arrAt_eq_of_covers 12 _ (by decide +kernel) fun t hf y => ?_
  blk_simp
  rw [after0_12, Pipeline.eq_sum_fin_of_reset_step_apply_of_flush (fun n h => (outsAt0 m c n h).2.2.1) 64 (fun _ => 0)
    (fun s (j : S8x128x128.Idx) => (A.hb s (j 0) (j 1) : EReal))
    (fun t h j => (out12A H t h j).trans (congrArg (· + _) (zero5 j))) (fun t h j => out12B H t h j)
    t ((flush0_12 t).mp hf) _, zero_add, place12 t y, hG]
  exact sum64 t fun n => A.hb n (y 0) (y 1)

/-- The place of a column within its head. -/
abbrev inHead (k : ℕ) : Fin 128 := ⟨k % 128, Nat.mod_lt _ (by decide)⟩

theorem final13 (H : At m A c) : (dats m 0 c).arrAt 13 (cfgs 0).N
    = (fun y => (A.gg ((y 1).val / 128) (inHead (y 1).val) : EReal) : S1x1024.Idx → EReal) := by
  suffices ∀ G : S1x1024.Idx → EReal, (∀ y : S1x1024.Idx, G y = (A.gg ((y 1).val / 128) (inHead (y 1).val) : EReal)) → (dats m 0 c).arrAt 13 (cfgs 0).N = G from this _ fun _ => rfl
  intro G hG
  refine (dats m 0 c).arrAt_eq_of_covers 13 _ (by decide +kernel) fun t hf y => ?_
  blk_simp
  rw [after0_13, Pipeline.eq_sum_fin_of_reset_step_apply_of_flush (fun n h => (outsAt0 m c n h).2.2.2.1) 64 (fun _ => 0)
    (fun s (j : S1x1024.Idx) => (A.hg s ((j 1).val / 128) (inHead (j 1).val) : EReal))
    (fun t h j => (out13A H t h j).trans (congrArg (· + _) (zero6 j))) (fun t h j => out13B H t h j)
    t ((flush0_13 t).mp hf) _, zero_add, place13 t y, hG]
  exact sum64 t fun n => A.hg n ((y 1).val / 128) (inHead (y 1).val)

theorem final14 (H : At m A c) : (dats m 0 c).arrAt 14 (cfgs 0).N
    = (fun y => (A.ge ((y 1).val / 128) (inHead (y 1).val) : EReal) : S1x1024.Idx → EReal) := by
  suffices ∀ G : S1x1024.Idx → EReal, (∀ y : S1x1024.Idx, G y = (A.ge ((y 1).val / 128) (inHead (y 1).val) : EReal)) → (dats m 0 c).arrAt 14 (cfgs 0).N = G from this _ fun _ => rfl
  intro G hG
  refine (dats m 0 c).arrAt_eq_of_covers 14 _ (by decide +kernel) fun t hf y => ?_
  blk_simp
  rw [after0_14, Pipeline.eq_sum_fin_of_reset_step_apply_of_flush (fun n h => (outsAt0 m c n h).2.2.2.2.1) 64 (fun _ => 0)
    (fun s (j : S1x1024.Idx) => (A.he s ((j 1).val / 128) (inHead (j 1).val) : EReal))
    (fun t h j => (out14A H t h j).trans (congrArg (· + _) (zero7 j))) (fun t h j => out14B H t h j)
    t ((flush0_14 t).mp hf) _, zero_add, place14 t y, hG]
  exact sum64 t fun n => A.he n ((y 1).val / 128) (inHead (y 1).val)

theorem outs_congr {n k : ℕ} (e : n = k) (h : n < cfg0.N) (h' : k < cfg0.N) : outsAt0 m c n h = outsAt0 m c k h' := by subst e; rfl

/-- The taps' array is the last point's. -/
theorem final15_last (l : Fin cfg0.N) (hl : l.val = 63) : (dats m 0 c).arrAt 15 (cfgs 0).N = (outsAt0 m c l.val l.isLt).2.2.2.2.2.1 := by
  suffices ∀ G : S8x1024.Idx → EReal, G = (outsAt0 m c l.val l.isLt).2.2.2.2.2.1 → (dats m 0 c).arrAt 15 (cfgs 0).N = G from this _ rfl
  intro G hG
  refine (dats m 0 c).arrAt_eq_of_covers 15 _ (by decide +kernel) fun t hf y => ?_
  have ht : t.val = l.val := by have := (flush0_15 t).mp hf; have := N64 t; omega
  blk_simp
  rw [after0_15, place15 t y, hG, outs_congr ht t.isLt l.isLt]

/-- The first three rows of the taps' array at a point. -/
def taps3 (m : (ℓ : Loc nD τ sig) → Buf (Elt Ideal) ℓ) (c : Dev nD) (n : ℕ) (h : n < cfg0.N) (j : Fin 3 × Fin 1024) : EReal :=
  (outsAt0 m c n h).2.2.2.2.2.1 (ix2 ⟨j.1.val, by omega⟩ j.2)

theorem taps3_first (H : At m A c) (t : Fin cfg0.N) (h : t.val % 64 = 0) (j : Fin 3 × Fin 1024) :
    taps3 m c t.val t.isLt j = 0 + ((∑ r : Fin 128, A.dcv (128 * t.val + r) j.2 * A.tap j.1 (128 * t.val + r) j.2 : ℝ) : EReal) := by
  refine (out15A H t h (ix2 ⟨j.1.val, by omega⟩ j.2) j.1.isLt).trans ?_
  unfold gT
  rw [zero8]
  rfl

theorem taps3_next (H : At m A c) (t : Fin cfg0.N) (h : ¬ t.val % 64 = 0) (j : Fin 3 × Fin 1024) :
    taps3 m c t.val t.isLt j = taps3 m c (t.val - 1) (by omega) j
      + ((∑ r : Fin 128, A.dcv (128 * t.val + r) j.2 * A.tap j.1 (128 * t.val + r) j.2 : ℝ) : EReal) :=
  out15B H t h (ix2 ⟨j.1.val, by omega⟩ j.2) j.1.isLt

theorem taps3_last (H : At m A c) (l : Fin cfg0.N) (hl : l.val = 63) (j : Fin 3 × Fin 1024) : taps3 m c l.val l.isLt j = (A.gcw j.1 j.2 : EReal) := by
  rw [Pipeline.eq_sum_fin_of_reset_step_apply_of_flush (taps3 m c) 64 (fun _ => 0)
    (fun s (j : Fin 3 × Fin 1024) => ((∑ r : Fin 128, A.dcv (128 * s.val + r) j.2 * A.tap j.1 (128 * s.val + r) j.2 : ℝ) : EReal))
    (taps3_first H) (taps3_next H) l (by omega) j, zero_add]
  refine (sum64 l fun n => ∑ r : Fin 128, A.dcv (128 * n + r) j.2 * A.tap j.1 (128 * n + r) j.2).trans ?_
  rw [sumRows fun r => A.dcv r j.2 * A.tap j.1 r j.2]
  rfl

/-- The first three rows of the taps' array are the taps' gradients. -/
theorem final15 (H : At m A c) (j : Fin 3) (k : Fin 1024) :
    ((dats m 0 c).arrAt 15 (cfgs 0).N : S8x1024.Idx → EReal) (ix2 ⟨j.val, by omega⟩ k) = (A.gcw j k : EReal) := by
  obtain ⟨l, hl⟩ : ∃ l : Fin cfg0.N, l.val = 63 := ⟨⟨63, lt_of_lt_of_eq (by decide) N_0.symm⟩, rfl⟩
  rw [final15_last l hl]
  exact taps3_last H l hl (j, k)

theorem final16 (H : At m A c) : (dats m 0 c).arrAt 16 (cfgs 0).N = (fun y => (A.gpb (y 1) : EReal) : S1x5120.Idx → EReal) := by
  suffices ∀ G : S1x5120.Idx → EReal, (∀ y : S1x5120.Idx, G y = (A.gpb (y 1) : EReal)) → (dats m 0 c).arrAt 16 (cfgs 0).N = G from this _ fun _ => rfl
  intro G hG
  refine (dats m 0 c).arrAt_eq_of_covers 16 _ (by decide +kernel) fun t hf y => ?_
  blk_simp
  rw [after0_16, Pipeline.eq_sum_fin_of_reset_step_apply_of_flush (fun n h => (outsAt0 m c n h).2.2.2.2.2.2) 64 (fun _ => 0)
    (fun s (j : S1x5120.Idx) => ((∑ r : Fin 128, A.dz (128 * s + r) (j 1) : ℝ) : EReal))
    (fun t h j => (out16A H t h j).trans (congrArg (· + _) (zero9 j))) (fun t h j => out16B H t h j)
    t ((flush0_16 t).mp hf) _, zero_add, place16 t y, hG]
  refine (sum64 t fun n => ∑ r : Fin 128, A.dz (128 * n + r) (y 1)).trans ?_
  rw [sumRows fun r => A.dz r (y 1)]
  rfl

/-! ## After the region -/

theorem exit (w) : Pipeline.withArrays (cfgs 0).spec c (V0 m c) (fun w => (dats m 0 c).arrAt w (cfgs 0).N) (Proc.devRef .tc (Pipeline.arrRef spec0 w))
    = (dats m 0 c).arrAt w (cfgs 0).N :=
  Pipeline.withArrays_arr_shared _ c _ _ ((dats m 0 c).arrAt_sharedIn sharedIn0 (V0 m c) (A_eq m c) _) w

theorem tail12 (H : At m A c) : Pipeline.afterTail₀ cfgs (dats m) 0 (V0 m) [hostOps1] c main_v12
    = (fun y => (A.gb (y 0) (y 1) : EReal) : S8x128.Idx → EReal) := by
  unfold Pipeline.afterTail₀
  rw [List.flatten_singleton]
  entry_read
  have e := exit (m := m) (c := c) 12
  rw [final12 H] at e
  refine (congrArg (fun v => shapeCast S8x128 (extractStridedSlice S8x128x1 ![0, 0, 0] v slices_S8x128x128_S8x128x1_0_0_0) shapeCasts_S8x128x1_S8x128) e).trans ?_
  funext y
  pointwise

theorem tail13 (H : At m A c) : Pipeline.afterTail₀ cfgs (dats m) 0 (V0 m) [hostOps1] c main_v13
    = (fun y => (A.gcw (y 0) (y 1) : EReal) : S3x1024.Idx → EReal) := by
  unfold Pipeline.afterTail₀
  rw [List.flatten_singleton]
  entry_read
  refine (congrArg (fun v => extractStridedSlice S3x1024 ![0, 0] v slices_S8x1024_S3x1024_0_0) (exit (m := m) (c := c) 15)).trans ?_
  funext y
  refine Eq.trans ?_ (final15 H (y 0) (y 1))
  pointwise

/-- The values the kernel leaves, the arguments being the real numbers `A` on each device. -/
theorem run {B : Dev nD → Args} (H : ∀ c, At m (B c) c) (ρ : Dev nD → PrngReg) :
    θ_run defs (onTc (τ := τ) (main (F := Ideal))) ⟨m, fun _ => 0, ρ⟩ (fun r => ∀ c : Dev nD,
      r.2.mem ((c.tc : Thread nD τ).loc main_v10_0) = (fun y => ((B c).dz (y 0) (y 1) : EReal) : S8192x5120.Idx → EReal)
      ∧ r.2.mem ((c.tc : Thread nD τ).loc main_v10_1) = (fun y => ((B c).gw (y 0) (y 1) (y 2) : EReal) : S8x128x128.Idx → EReal)
      ∧ r.2.mem ((c.tc : Thread nD τ).loc main_v12) = (fun y => ((B c).gb (y 0) (y 1) : EReal) : S8x128.Idx → EReal)
      ∧ r.2.mem ((c.tc : Thread nD τ).loc main_v10_3) = (fun y => ((B c).gg ((y 1).val / 128) (inHead (y 1).val) : EReal) : S1x1024.Idx → EReal)
      ∧ r.2.mem ((c.tc : Thread nD τ).loc main_v10_4) = (fun y => ((B c).ge ((y 1).val / 128) (inHead (y 1).val) : EReal) : S1x1024.Idx → EReal)
      ∧ r.2.mem ((c.tc : Thread nD τ).loc main_v13) = (fun y => ((B c).gcw (y 0) (y 1) : EReal) : S3x1024.Idx → EReal)
      ∧ r.2.mem ((c.tc : Thread nD τ).loc main_v10_6) = (fun y => ((B c).gpb (y 1) : EReal) : S1x5120.Idx → EReal)) :=
  (θ_run defs _ _).mono (fun r h c => ⟨((h c).1 10).trans (final10 (H c)), ((h c).1 11).trans (final11 (H c)),
    ((h c).2 main_v12 (Pipeline.mem_restRefs_of main_v12 (by decide) (by decide))).trans (tail12 (H c)),
    ((h c).1 13).trans (final13 (H c)), ((h c).1 14).trans (final14 (H c)),
    ((h c).2 main_v13 (Pipeline.mem_restRefs_of main_v13 (by decide) (by decide))).trans (tail13 (H c)),
    ((h c).1 16).trans (final16 (H c))⟩) (run_main m ρ)

end Cert.Kernel2Ideal.Mix

end
-- ==== Proof.MixRef.lean ====
/- The reference's gradient of the mixing layer, stage by stage, as real numbers. -/
module

public import proofs.«01_k».proof.Proof.Mix
public import proofs.«01_k».proof.Proof.Gen.Reference2Ideal.Run
public import proofs.«01_k».proof.Proof.Gen.Reference2Ideal.Read
public import Idealize.ShloMosaic.Lib.Pointwise
public import Idealize.ShloMosaic.Lib.TwoAxisContraction
public import Idealize.ShloMosaic.Lib.WordCmp

@[expose] public section
set_option maxRecDepth 16384
noncomputable section
open Idealize.ShloMosaic Idealize.ShloMosaic.Tactic
open Cert.Reals Cert.Mix

namespace Cert.Reference2Ideal.Mix
open Cert.Reference2Ideal Cert.Reference2Ideal.Read
variable (A : Args)

/-! ## The arguments -/

abbrev X0 : FVec Ideal S8192x5120 .f32 := up fun i => A.p (i 0) (i 1)
abbrev X1 : FVec Ideal S1x5120 .f32 := up fun i => A.pb (i 1)
abbrev X2 : FVec Ideal S1x8x128x128 .f32 := up fun i => A.w (i 1) (i 2) (i 3)
abbrev X3 : FVec Ideal S1x8x128 .f32 := up fun i => A.b (i 1) (i 2)
abbrev X4 : FVec Ideal S1x1024 .f32 := up fun i => A.g (i 1)
abbrev X5 : FVec Ideal S1x1024 .f32 := up fun i => A.e (i 1)
abbrev X6 : FVec Ideal S1x3x1024 .f32 := up fun i => A.c (i 1) (i 2)
abbrev X7 : FVec Ideal S8192x2048 .f32 := up fun i => A.dy (i 0) (i 1)

/-! ## The projection and its GELU -/

theorem v3 (r : Fin 8192) (k : Fin 5120) : val_main_v3 (F := Ideal) (X0 A) (X1 A) (ix2 r k) = (A.z r k : EReal) := by
  pointwise [val_main_v3, val_main_v2, val_main_v1, val_main_v0]
  rfl

theorem v4 (r : Fin 8192) (k : Fin 2048) : val_main_v4 (F := Ideal) (X0 A) (X1 A) (ix2 r k) = (A.z r k : EReal) := by
  pointwise [val_main_v4]
  simp only [v3]

theorem v15 (r : Fin 8192) (k : Fin 2048) : val_main_v15 (F := Ideal) (X0 A) (X1 A) (ix2 r k) = (th (A.z r k) : EReal) := by
  pointwise [val_main_v15, val_main_v14, val_main_v13, val_main_v12, val_main_v11, val_main_v10, val_main_v6, val_main_v5, val_main_cst_0, val_main_cst_1]
  simp only [v4, ofBits_gc, ofBits_ga, ← EReal.coe_mul, ← EReal.coe_add]
  rfl

theorem v20 (r : Fin 8192) (k : Fin 2048) : val_main_v20 (F := Ideal) (X0 A) (X1 A) (ix2 r k)
    = (((1 + th (A.z r k)) * (1 - th (A.z r k)) : ℝ) : EReal) := by
  pointwise [val_main_v20, val_main_v19, val_main_v18, val_main_v17, val_main_v16, val_main_cst_2, val_main_cst_3]
  simp only [v15, ← EReal.coe_one, ← EReal.coe_mul, ← EReal.coe_add, ← EReal.coe_sub]

theorem v24 (r : Fin 8192) (k : Fin 2048) : val_main_v24 (F := Ideal) (X0 A) (X1 A) (ix2 r k) = ((1 / 2 * (1 + th (A.z r k)) : ℝ) : EReal) := by
  pointwise [val_main_v24, val_main_v23, val_main_v22, val_main_v21, val_main_cst_4, val_main_cst_5]
  simp only [v15, ofBits_half, ← EReal.coe_one, ← EReal.coe_mul, ← EReal.coe_add]

theorem v25 (r : Fin 8192) (k : Fin 2048) : val_main_v25 (F := Ideal) (X0 A) (X1 A) (ix2 r k) = (gelu (A.z r k) : EReal) := by
  pointwise [val_main_v25]
  simp only [v4, v24, ← EReal.coe_mul]
  rfl

/-! ## Chunks and heads -/

omit A in
/-- A row or a column of a chunk or head, counted from the other end of the product. -/
theorem swap (n t : ℕ) : n * 128 + t = 128 * n + t := by rw [Nat.mul_comm]

omit A in
theorem shift (h d : ℕ) : 1024 + (128 * h + d) = 1024 + 128 * h + d := by rw [Nat.add_assoc]

theorem v35 (n : Fin 64) (t : Fin 128) (h : Fin 8) (d : Fin 128) : val_main_v35 (F := Ideal) (X0 A) (X1 A) (ix4 n t h d)
    = (gelu (A.zv n h t d) : EReal) := by
  pointwise [val_main_v35, val_main_v34]
  simp only [v25, swap, shift]
  rfl

theorem v74 (n : Fin 64) (t : Fin 128) (h : Fin 8) (d : Fin 128) : val_main_v74 (F := Ideal) (X0 A) (X1 A) (ix4 n t h d)
    = (gelu (A.zu n h t d) : EReal) := by
  pointwise [val_main_v74, val_main_v33]
  simp only [v25, swap]
  rfl

theorem v147 (n : Fin 64) (t : Fin 128) (h : Fin 8) (d : Fin 128) : val_main_v147 (F := Ideal) (X7 A) (ix4 n t h d)
    = (A.dya n h t d : EReal) := by
  pointwise [val_main_v147, val_main_v106]
  simp only [swap]
  rfl

theorem v58 (n : Fin 64) (t : Fin 128) (h : Fin 8) (d : Fin 128) : val_main_v58 (F := Ideal) (X4 A) (ix4 n t h d) = (A.gh h d : EReal) := by
  pointwise [val_main_v58, val_main_v57, val_main_v36, val_main_v31]
  simp only [swap]
  rfl

theorem v168 (n : Fin 64) (t : Fin 128) (h : Fin 8) (d : Fin 128) : val_main_v168 (F := Ideal) (X4 A) (ix4 n t h d) = (A.gh h d : EReal) :=
  v58 A n t h d

theorem v61 (n : Fin 64) (t : Fin 128) (h : Fin 8) (d : Fin 128) : val_main_v61 (F := Ideal) (X5 A) (ix4 n t h d) = (A.eh h d : EReal) := by
  pointwise [val_main_v61, val_main_v60, val_main_v37, val_main_v32]
  simp only [swap]
  rfl

theorem v72 (n : Fin 64) (t : Fin 128) (h : Fin 8) (d : Fin 128) : val_main_v72 (F := Ideal) (X3 A) (ix4 n t h d) = (A.bh h t : EReal) := by
  pointwise [val_main_v72, val_main_v71, val_main_v70, val_main_v69, val_main_v30]
  rfl

/-! ## The normalization of a row -/

/-- The row that is normalized. -/
abbrev row (n h : ℕ) (t : Fin 128) : Fin 128 → ℝ := fun k => gelu (A.zv n h t k)

theorem v43 (n : Fin 64) (t : Fin 128) (h : Fin 8) (d : Fin 128) : val_main_v43 (F := Ideal) (X0 A) (X1 A) (ix4 n t h d)
    = (dev (row A n h t) d : EReal) := by
  pointwise [val_main_v43, val_main_v42, val_main_v41, val_main_v40, val_main_v39, val_main_v38, val_main_cst_6, val_main_cst_7]
  simp only [v35, ofBits_128, coe_sum, mean_128, ← EReal.coe_sub]
  rfl

theorem v50 (n : Fin 64) (t : Fin 128) (h : Fin 8) (d : Fin 1) : val_main_v50 (F := Ideal) (X0 A) (X1 A) (ix4 n t h d)
    = (spread eps (row A n h t) : EReal) := by
  pointwise [val_main_v50, val_main_v49, val_main_v48, val_main_v47, val_main_v46, val_main_v45, val_main_v44, val_main_cst_8, val_main_cst_9, val_main_cst_10]
  simp only [v43, ofBits_128, ofBits_eps, coe_sum, mean_128, ← EReal.coe_mul, ← EReal.coe_add]
  rfl

theorem v51 (n : Fin 64) (t : Fin 128) (h : Fin 8) (d : Fin 1) : val_main_v51 (F := Ideal) (X0 A) (X1 A) (ix4 n t h d)
    = (rstd eps (row A n h t) : EReal) := by
  pointwise [val_main_v51]
  rw [v50]
  exact rsqrt_spread eps_pos _

theorem v54 (n : Fin 64) (t : Fin 128) (h : Fin 8) (d : Fin 1) : val_main_v54 (F := Ideal) (X0 A) (X1 A) (ix4 n t h d)
    = ((-(1 / 2) * (rstd eps (row A n h t) / spread eps (row A n h t)) : ℝ) : EReal) := by
  pointwise [val_main_v54, val_main_v53, val_main_v52, val_main_cst_11]
  rw [v50, v51, ofBits_neg_half, div_real _ _ (spread_pos eps_pos _).ne', ← EReal.coe_mul]

theorem v56 (n : Fin 64) (t : Fin 128) (h : Fin 8) (d : Fin 128) : val_main_v56 (F := Ideal) (X0 A) (X1 A) (ix4 n t h d)
    = (vh (A.zv n h) t d : EReal) := by
  pointwise [val_main_v56, val_main_v55]
  simp only [v43, v51, ← EReal.coe_mul]
  rfl

theorem v62 (n : Fin 64) (t : Fin 128) (h : Fin 8) (d : Fin 128) : val_main_v62 (F := Ideal) (X0 A) (X1 A) (X4 A) (X5 A) (ix4 n t h d)
    = (vn (A.zv n h) (A.gh h) (A.eh h) t d : EReal) := by
  pointwise [val_main_v62, val_main_v59]
  simp only [v56, v58, v61, ← EReal.coe_mul, ← EReal.coe_add]
  rfl

/-! ## The mixing matrix -/

omit A in
theorem v66_1 (h : Fin 8) (t s : Fin 128) : val_main_v66_1 (F := Ideal) (ix3 h t s) = if s ≤ t then 1#1 else 0#1 := by
  pointwise [val_main_v66_1, val_main_v65, val_main_v64, val_main_call0_v5, val_main_call0_c_0, val_main_call0_v4, val_main_call0_v3, val_main_call0_v2, val_main_call0_v1, val_main_call0_c, val_main_call0_v0, val_main_v63, val_main_c]
  have ht := t.isLt
  have hs := s.isLt
  rw [show IntOp.addi (BitVec.ofNat 32 t.val) 0#32 = BitVec.ofNat 32 t.val from BitVec.add_zero _]
  by_cases h : s ≤ t
  · rw [if_pos h, (WordCmp.cmpi_sge_ofNat_eq_one_iff (by omega) (by omega)).mpr h]; rfl
  · rw [if_neg h, (WordCmp.cmpi_sge_ofNat_eq_zero_iff (by omega) (by omega)).mpr h]; rfl

theorem v66_0 (h : Fin 8) (t s : Fin 128) : val_main_v66_0 (F := Ideal) (X2 A) (ix3 h t s) = (low (A.wh h) t s : EReal) := by
  pointwise [val_main_v66_0, val_main_call1_v1, val_main_cst_12, val_main_v29]
  simp only [v66_1, low]
  split <;> rfl

theorem v67 (h : Fin 8) (n : Fin 64) (d t : Fin 128) : val_main_v67 (F := Ideal) (X0 A) (X1 A) (X2 A) (X4 A) (X5 A) (ix4 h n d t)
    = ((∑ s, low (A.wh h) t s * vn (A.zv n h) (A.gh h) (A.eh h) s d : ℝ) : EReal) := by
  pointwise [val_main_v67]
  simp only [v62, v66_0, ← EReal.coe_mul, coe_sum, mul_comm]

theorem v73 (n : Fin 64) (t : Fin 128) (h : Fin 8) (d : Fin 128) :
    val_main_v73 (F := Ideal) (X0 A) (X1 A) (X2 A) (X3 A) (X4 A) (X5 A) (ix4 n t h d)
      = (mixed (A.zv n h) (A.wh h) (A.bh h) (A.gh h) (A.eh h) t d : EReal) := by
  pointwise [val_main_v73, val_main_v68]
  simp only [v67, v72, ← EReal.coe_add]
  rfl

/-! ## The gradient through the mixing -/

theorem v148 (n : Fin 64) (t : Fin 128) (h : Fin 8) (d : Fin 128) : val_main_v148 (F := Ideal) (X0 A) (X1 A) (X7 A) (ix4 n t h d)
    = (dmx (A.zu n h) (A.dya n h) t d : EReal) := by
  pointwise [val_main_v148]
  simp only [v74, v147, ← EReal.coe_mul]
  rw [dmx, mul_comm]

theorem v157 (h : Fin 8) (n : Fin 64) (d t : Fin 128) : val_main_v157 (F := Ideal) (X0 A) (X1 A) (X7 A) (ix4 h n d t)
    = (dmx (A.zu n h) (A.dya n h) t d : EReal) := by
  pointwise [val_main_v157]
  simp only [v148]

theorem v160 (n : Fin 64) (s : Fin 128) (h : Fin 8) (d : Fin 128) : val_main_v160 (F := Ideal) (X0 A) (X1 A) (X2 A) (X7 A) (ix4 n s h d)
    = (dvn (A.zu n h) (A.dya n h) (A.wh h) s d : EReal) := by
  pointwise [val_main_v160, val_main_v159]
  simp only [v157, v66_0, ← EReal.coe_mul, coe_sum]
  simp only [dvn, mul_comm]

theorem v169 (n : Fin 64) (s : Fin 128) (h : Fin 8) (d : Fin 128) : val_main_v169 (F := Ideal) (X0 A) (X1 A) (X2 A) (X4 A) (X7 A) (ix4 n s h d)
    = ((dvn (A.zu n h) (A.dya n h) (A.wh h) s d * A.gh h d : ℝ) : EReal) := by
  pointwise [val_main_v169]
  simp only [v160, v168, ← EReal.coe_mul]

/-- The gradient at the normalized row. -/
abbrev grow (n h : ℕ) (s : Fin 128) : Fin 128 → ℝ := fun k => dvn (A.zu n h) (A.dya n h) (A.wh h) s k * A.gh h k

omit A in
theorem div_128 (x : ℝ) : Ideal.div (x : EReal) ((128 : ℝ) : EReal) = ((x / 128 : ℝ) : EReal) := div_real x 128 (by norm_num)

theorem v180 (n : Fin 64) (s : Fin 128) (h : Fin 8) (d : Fin 128) : val_main_v180 (F := Ideal) (X0 A) (X1 A) (X2 A) (X4 A) (X7 A) (ix4 n s h d)
    = (through eps (row A n h s) (grow A n h s) : EReal) := by
  pointwise [val_main_v180, val_main_v179, val_main_v178, val_main_v177, val_main_v176, val_main_v173, val_main_v172, val_main_v171, val_main_cst_35, val_main_cst_36, val_main_cst_37]
  simp only [v43, v169, v54, ofBits_128, ← EReal.coe_mul, coe_sum, div_128]
  rw [Fin.sum_univ_one]
  rfl

theorem v184 (n : Fin 64) (s : Fin 128) (h : Fin 8) (d : Fin 128) : val_main_v184 (F := Ideal) (X0 A) (X1 A) (X2 A) (X4 A) (X7 A) (ix4 n s h d)
    = (atDev eps (row A n h s) (grow A n h s) d : EReal) := by
  pointwise [val_main_v184, val_main_v183, val_main_v182, val_main_v181, val_main_v175, val_main_v174]
  simp only [v43, v169, v51, v180, ← EReal.coe_mul, ← EReal.coe_add]
  rfl

theorem v192 (n : Fin 64) (s : Fin 128) (h : Fin 8) (d : Fin 128) : val_main_v192 (F := Ideal) (X0 A) (X1 A) (X2 A) (X4 A) (X7 A) (ix4 n s h d)
    = (lnGrad eps (row A n h s) (grow A n h s) d : EReal) := by
  pointwise [val_main_v192, val_main_v191, val_main_v190, val_main_v189, val_main_v188, val_main_v187, val_main_v186, val_main_v185, val_main_cst_38, val_main_cst_39, val_main_cst_40]
  simp only [v184, ofBits_128, ← EReal.coe_neg, coe_sum, div_128, ← EReal.coe_add]
  rw [Fin.sum_univ_one, ← atDev_sub_mean (by norm_num) eps_pos]
  norm_num

/-! ## The gradient at the projection's first two parts -/

theorem v150 (r : Fin 8192) (k : Fin 1024) :
    val_main_v150 (F := Ideal) (X0 A) (X1 A) (X2 A) (X3 A) (X4 A) (X5 A) (X7 A) (ix2 r k)
      = ((A.dya (r / 128) (k / 128) ⟨r % 128, Nat.mod_lt _ (by decide)⟩ ⟨k % 128, Nat.mod_lt _ (by decide)⟩
        * mixed (A.zv (r / 128) (k / 128)) (A.wh (k / 128)) (A.bh (k / 128)) (A.gh (k / 128)) (A.eh (k / 128))
          ⟨r % 128, Nat.mod_lt _ (by decide)⟩ ⟨k % 128, Nat.mod_lt _ (by decide)⟩ : ℝ) : EReal) := by
  pointwise [val_main_v150, val_main_v149]
  simp only [v147, v73, ← EReal.coe_mul]

theorem v195 (r : Fin 8192) (k : Fin 1024) :
    val_main_v195 (F := Ideal) (X0 A) (X1 A) (X2 A) (X4 A) (X7 A) (ix2 r k)
      = (lnGrad eps (row A (r / 128) (k / 128) ⟨r % 128, Nat.mod_lt _ (by decide)⟩)
          (grow A (r / 128) (k / 128) ⟨r % 128, Nat.mod_lt _ (by decide)⟩) ⟨k % 128, Nat.mod_lt _ (by decide)⟩ : EReal) := by
  pointwise [val_main_v195]
  simp only [v192]

/-- GELU's derivative as reverse differentiation leaves it. -/
theorem gelu'_back (z g : ℝ) : g * (1 / 2 * (1 + th z)) + gc * (1 / 2 * (z * g) * ((1 + th z) * (1 - th z)))
    + ga * (gc * (1 / 2 * (z * g) * ((1 + th z) * (1 - th z)))) * (3 * (z * z)) = g * gelu' z := by
  rw [gelu']; ring

/-- The gradient at the two parts' GELU. -/
def part (r k : ℕ) : ℝ :=
  if k < 1024 then A.dya (r / 128) (k / 128) ⟨r % 128, Nat.mod_lt _ (by decide)⟩ ⟨k % 128, Nat.mod_lt _ (by decide)⟩
        * mixed (A.zv (r / 128) (k / 128)) (A.wh (k / 128)) (A.bh (k / 128)) (A.gh (k / 128)) (A.eh (k / 128))
          ⟨r % 128, Nat.mod_lt _ (by decide)⟩ ⟨k % 128, Nat.mod_lt _ (by decide)⟩
  else lnGrad eps (row A (r / 128) ((k - 1024) / 128) ⟨r % 128, Nat.mod_lt _ (by decide)⟩)
          (grow A (r / 128) ((k - 1024) / 128) ⟨r % 128, Nat.mod_lt _ (by decide)⟩) ⟨(k - 1024) % 128, Nat.mod_lt _ (by decide)⟩

theorem v198 (r : Fin 8192) (k : Fin 2048) :
    val_main_v198 (F := Ideal) (X0 A) (X1 A) (X2 A) (X3 A) (X4 A) (X5 A) (X7 A) (ix2 r k) = (part A r k : EReal) := by
  pointwise [val_main_v198, val_main_v197, val_main_v196, val_main_cst_41, val_main_cst_42]
  simp only [v150, v195, part]
  have hk := k.isLt
  by_cases h : k.val < 1024
  · rw [dif_neg (by omega), dif_pos h, if_pos h, zero_add]
  · rw [dif_pos (by omega), dif_neg h, if_neg h, add_zero]

theorem v219 (r : Fin 8192) (k : Fin 2048) :
    val_main_v219 (F := Ideal) (X0 A) (X1 A) (X2 A) (X3 A) (X4 A) (X5 A) (X7 A) (ix2 r k) = ((part A r k * gelu' (A.z r k) : ℝ) : EReal) := by
  pointwise [val_main_v219, val_main_v218, val_main_v217, val_main_v216, val_main_v215, val_main_v214, val_main_v213, val_main_v212,
    val_main_v211, val_main_v210, val_main_v209, val_main_v208, val_main_v9, val_main_v8, val_main_v7, val_main_cst, val_main_cst_46,
    val_main_cst_47, val_main_cst_48]
  simp only [v4, v24, v20, v198, ofBits_gc, ofBits_ga, ofBits_half, ofBits_three, ← EReal.coe_mul, ← EReal.coe_add, gelu'_back]

/-! ## The convolution -/

theorem v78 (r : Fin 8192) (k : Fin 1024) : val_main_v78 (F := Ideal) (X0 A) (X1 A) (ix2 r k) = (A.hc r k : EReal) := by
  pointwise [val_main_v78, val_main_v27, val_main_v28]
  simp only [v3, ← EReal.coe_mul]
  rfl

theorem v81 (r : Fin 8192) (k : Fin 1024) : val_main_v81 (F := Ideal) (X0 A) (X1 A) (ix2 r k) = (A.h1 r k : EReal) := by
  pointwise [val_main_v81, val_main_v80, val_main_v79, val_main_cst_13]
  simp only [v78, Args.h1]
  split <;> rfl

theorem v85 (r : Fin 8192) (k : Fin 1024) : val_main_v85 (F := Ideal) (X0 A) (X1 A) (ix2 r k) = (A.h2 r k : EReal) := by
  pointwise [val_main_v85, val_main_v84, val_main_v83, val_main_cst_15]
  simp only [v78, Args.h2]
  split <;> rfl

theorem v90 (r : Fin 8192) (k : Fin 1024) : val_main_v90 (F := Ideal) (X6 A) (ix2 r k) = (A.c 0 k : EReal) := by
  pointwise [val_main_v90, val_main_v89, val_main_v88, val_main_v87, val_main_v77]
  rfl

theorem v95 (r : Fin 8192) (k : Fin 1024) : val_main_v95 (F := Ideal) (X6 A) (ix2 r k) = (A.c 1 k : EReal) := by
  pointwise [val_main_v95, val_main_v94, val_main_v93, val_main_v92, val_main_v77]
  rfl

theorem v101 (r : Fin 8192) (k : Fin 1024) : val_main_v101 (F := Ideal) (X6 A) (ix2 r k) = (A.c 2 k : EReal) := by
  pointwise [val_main_v101, val_main_v100, val_main_v99, val_main_v98, val_main_v77]
  rfl

theorem v130 (r : Fin 8192) (k : Fin 1024) : val_main_v130 (F := Ideal) (X6 A) (ix2 r k) = (A.c 0 k : EReal) := v90 A r k
theorem v121 (r : Fin 8192) (k : Fin 1024) : val_main_v121 (F := Ideal) (X6 A) (ix2 r k) = (A.c 1 k : EReal) := v95 A r k
theorem v113 (r : Fin 8192) (k : Fin 1024) : val_main_v113 (F := Ideal) (X6 A) (ix2 r k) = (A.c 2 k : EReal) := v101 A r k

theorem v107 (r : Fin 8192) (k : Fin 1024) : val_main_v107 (F := Ideal) (X7 A) (ix2 r k) = (A.dy r (1024 + k) : EReal) := by
  pointwise [val_main_v107]
  rfl

theorem v109 (r : Fin 8192) (k : Fin 1024) : val_main_v109 (F := Ideal) (X0 A) (X1 A) (X6 A) (X7 A) (ix2 r k) = (A.dzb r k : EReal) := by
  pointwise [val_main_v109, val_main_v103, val_main_v102, val_main_v97, val_main_v96, val_main_v91]
  simp only [v107, v78, v81, v85, v90, v95, v101, ← EReal.coe_mul, ← EReal.coe_add]
  simp only [Args.dzb, mul_comm]

theorem v108 (r : Fin 8192) (k : Fin 1024) : val_main_v108 (F := Ideal) (X0 A) (X1 A) (X7 A) (ix2 r k) = (A.dcv r k : EReal) := by
  pointwise [val_main_v108, val_main_v26]
  simp only [v3, v107, ← EReal.coe_mul]
  rw [Args.dcv, mul_comm]

theorem v143 (r : Fin 8192) (k : Fin 1024) : val_main_v143 (F := Ideal) (X0 A) (X1 A) (X6 A) (X7 A) (ix2 r k) = (A.dhc r k : EReal) := by
  pointwise [val_main_v143, val_main_v142, val_main_v141, val_main_v139, val_main_v138, val_main_v137, val_main_v131, val_main_v122,
    val_main_v114, val_main_cst_26, val_main_cst_27]
  simp only [v108, v113, v121, v130, ← EReal.coe_mul]
  have e1 : (if _ : r.val < 8191 then ((A.dcv (1 + r) k * A.c 1 k : ℝ) : EReal) else 0) = ((A.c 1 k * A.f1 r k : ℝ) : EReal) := by
    by_cases h : r.val < 8191
    · rw [dif_pos h, Args.f1, if_pos (by omega), mul_comm, Nat.add_comm]
    · rw [dif_neg h, Args.f1, if_neg (by omega), mul_zero, EReal.coe_zero]
  have e2 : (if _ : r.val < 8190 then ((A.dcv (2 + r) k * A.c 0 k : ℝ) : EReal) else 0) = ((A.c 0 k * A.f2 r k : ℝ) : EReal) := by
    by_cases h : r.val < 8190
    · rw [dif_pos h, Args.f2, if_pos (by omega), mul_comm, Nat.add_comm]
    · rw [dif_neg h, Args.f2, if_neg (by omega), mul_zero, EReal.coe_zero]
  rw [e1, e2, ← EReal.coe_add, ← EReal.coe_add, Args.dhc]
  congr 1
  ring

theorem v144 (r : Fin 8192) (k : Fin 1024) : val_main_v144 (F := Ideal) (X0 A) (X1 A) (X6 A) (X7 A) (ix2 r k) = (A.dzx r k : EReal) := by
  pointwise [val_main_v144, val_main_v27]
  simp only [v3, v143, ← EReal.coe_mul]
  rw [Args.dzx, mul_comm]

theorem v145 (r : Fin 8192) (k : Fin 1024) : val_main_v145 (F := Ideal) (X0 A) (X1 A) (X6 A) (X7 A) (ix2 r k) = (A.dzc r k : EReal) := by
  pointwise [val_main_v145, val_main_v28]
  simp only [v3, v143, ← EReal.coe_mul]
  rfl

/-! ## The whole input gradient -/

/-- Through GELU, the two parts' gradient is the input gradient's first two column groups. -/
theorem part_dz (r k : ℕ) (hk : k < 2048) : part A r k * gelu' (A.z r k) = A.dz r k := by
  have hr : 128 * (r / 128) + r % 128 = r := Nat.div_add_mod r 128
  by_cases h : k < 1024
  · rw [part, if_pos h, Args.dz, if_pos h, Args.hu, dzu]
    simp only [Args.zu, hr, Nat.div_add_mod k 128]
  · have e : 1024 + 128 * ((k - 1024) / 128) + (k - 1024) % 128 = k := by omega
    rw [part, if_neg h, Args.dz, if_neg h, if_pos hk, Args.hv, dzv,
      show A.zv (r / 128) ((k - 1024) / 128) ⟨r % 128, Nat.mod_lt _ (by decide)⟩ ⟨(k - 1024) % 128, Nat.mod_lt _ (by decide)⟩ = A.z r k by
        simp only [Args.zv, hr, e]]

theorem v221 (r : Fin 8192) (k : Fin 5120) :
    val_main_v221 (F := Ideal) (X0 A) (X1 A) (X2 A) (X3 A) (X4 A) (X5 A) (X6 A) (X7 A) (ix2 r k) = (A.dz r k : EReal) := by
  pointwise [val_main_v221, val_main_v220, val_main_v207, val_main_v206, val_main_v205, val_main_v204, val_main_v203, val_main_cst_43,
    val_main_cst_44, val_main_cst_45, val_main_cst_49]
  simp only [v144, v145, v109, v219]
  have hk := k.isLt
  by_cases h4 : 4096 ≤ k.val
  · rw [dif_pos (by omega), dif_neg (by omega), dif_neg (by omega), dif_neg (by omega), add_zero, add_zero, add_zero, Args.dz,
      if_neg (by omega), if_neg (by omega), if_neg (by omega), if_neg (by omega)]
  by_cases h3 : 3072 ≤ k.val
  · rw [dif_neg (by omega), dif_pos (by omega), dif_neg (by omega), dif_neg (by omega), add_zero, add_zero, zero_add, Args.dz,
      if_neg (by omega), if_neg (by omega), if_neg (by omega), if_pos (by omega)]
  by_cases h2 : 2048 ≤ k.val
  · rw [dif_neg (by omega), dif_neg (by omega), dif_pos (by omega), dif_neg (by omega), add_zero, add_zero, zero_add, Args.dz,
      if_neg (by omega), if_neg (by omega), if_pos (by omega)]
  rw [dif_neg (by omega), dif_neg (by omega), dif_neg (by omega), dif_pos (by omega), add_zero, add_zero, zero_add, part_dz A r k (by omega)]

/-! ## Sums over two axes -/

omit A in
/-- A sum over the first two of four axes. -/
theorem sum01 {a b c d : Nat} (H : (⟨4, ![a, b, c, d]⟩ : Shape).ReducesTo [0, 1] ⟨2, ![c, d]⟩)
    (v : (⟨4, ![a, b, c, d]⟩ : Shape).Idx → EReal) (p : Fin c) (q : Fin d) :
    ∑ i ∈ Finset.univ.filter (fun i => H.drop i = ix2 p q), v i = ∑ n : Fin a, ∑ s : Fin b, v (ix4 n s p q) := by
  refine (Finset.sum_filter_eq_sum_of_fiber _ (fun k : Fin a × Fin b => ix4 k.1 k.2 p q)
    (fun _ _ e => Prod.ext (congrFun e 0) (congrFun e 1)) (fun i => ⟨fun e => ⟨(i 0, i 1), ?_⟩, ?_⟩) v).trans ?_
  · funext x; apply Fin.ext
    match x with
    | ⟨0, _⟩ => rfl
    | ⟨1, _⟩ => rfl
    | ⟨2, _⟩ => exact (congrArg Fin.val (congrFun e 0)).symm
    | ⟨3, _⟩ => exact (congrArg Fin.val (congrFun e 1)).symm
  · rintro ⟨k, rfl⟩
    funext x; apply Fin.ext
    match x with
    | ⟨0, _⟩ => rfl
    | ⟨1, _⟩ => rfl
  · simp only [Fintype.sum_prod_type]

omit A in
theorem reduce01 {a b c d : Nat} (H : (⟨4, ![a, b, c, d]⟩ : Shape).ReducesTo [0, 1] ⟨2, ![c, d]⟩)
    (v : FVec Ideal ⟨4, ![a, b, c, d]⟩ .f32) (z : FVec Ideal S_ .f32) (hz) (p : Fin c) (q : Fin d) :
    Host.reduceAdd v z H hz (ix2 p q) = z (Shape.Idx.first hz) + ∑ n : Fin a, ∑ s : Fin b, v (ix4 n s p q) :=
  congrArg (z (Shape.Idx.first hz) + ·) (sum01 H v p q)

omit A in
/-- A sum over the first and the last of four axes. -/
theorem sum03 {a b c d : Nat} (H : (⟨4, ![a, b, c, d]⟩ : Shape).ReducesTo [0, 3] ⟨2, ![b, c]⟩)
    (v : (⟨4, ![a, b, c, d]⟩ : Shape).Idx → EReal) (p : Fin b) (q : Fin c) :
    ∑ i ∈ Finset.univ.filter (fun i => H.drop i = ix2 p q), v i = ∑ n : Fin a, ∑ s : Fin d, v (ix4 n p q s) := by
  refine (Finset.sum_filter_eq_sum_of_fiber _ (fun k : Fin a × Fin d => ix4 k.1 p q k.2)
    (fun _ _ e => Prod.ext (congrFun e 0) (congrFun e 3)) (fun i => ⟨fun e => ⟨(i 0, i 3), ?_⟩, ?_⟩) v).trans ?_
  · funext x; apply Fin.ext
    match x with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext x; apply Fin.ext
    match x with
    | ⟨0, _⟩ => rfl
    | ⟨1, _⟩ => rfl
  · simp only [Fintype.sum_prod_type]

omit A in
theorem reduce03 {a b c d : Nat} (H : (⟨4, ![a, b, c, d]⟩ : Shape).ReducesTo [0, 3] ⟨2, ![b, c]⟩)
    (v : FVec Ideal ⟨4, ![a, b, c, d]⟩ .f32) (z : FVec Ideal S_ .f32) (hz) (p : Fin b) (q : Fin c) :
    Host.reduceAdd v z H hz (ix2 p q) = z (Shape.Idx.first hz) + ∑ n : Fin a, ∑ s : Fin d, v (ix4 n p q s) :=
  congrArg (z (Shape.Idx.first hz) + ·) (sum03 H v p q)

/-! ## The parameters' gradients -/

theorem v158 (h : Fin 8) (t s : Fin 128) : val_main_v158 (F := Ideal) (X0 A) (X1 A) (X4 A) (X5 A) (X7 A) (ix3 h t s)
    = ((∑ n : Fin 64, ∑ d, dmx (A.zu n h) (A.dya n h) t d * vn (A.zv n h) (A.gh h) (A.eh h) s d : ℝ) : EReal) := by
  simp only [val_main_v158, Host.dotGeneral, Ideal.dotGeneral_apply]
  rw [ValueIdx.sum_contr2 dot_S8x64x128x128_S64x128x8x128_S8x128x128_12_03_3_1_0_2 64 128 rfl rfl rfl]
  rw [← coe_sum]
  refine Finset.sum_congr rfl fun n _ => ?_
  rw [← coe_sum]
  refine Finset.sum_congr rfl fun d _ => ?_
  rw [EReal.coe_mul, ← v157 A h n d t, ← v62 A n s h d]
  congr 2
  · funext a; apply Fin.ext
    match a with
    | ⟨0, _⟩ => rfl
    | ⟨1, _⟩ => rfl
    | ⟨2, _⟩ => rfl
    | ⟨3, _⟩ => rfl
  · funext a; apply Fin.ext
    match a with
    | ⟨0, _⟩ => rfl
    | ⟨1, _⟩ => rfl
    | ⟨2, _⟩ => rfl
    | ⟨3, _⟩ => rfl

theorem res_dw (y : S8x128x128.Idx) : val_main_v227 (F := Ideal) (X0 A) (X1 A) (X4 A) (X5 A) (X7 A) y = (A.gw (y 0) (y 1) (y 2) : EReal) := by
  obtain ⟨h, t, s, rfl⟩ : ∃ h t s, y = ix3 h t s := ⟨_, _, _, ValueIdx.eq_ix3 y⟩
  pointwise [val_main_v227, val_main_v202, val_main_v161, val_main_call2_v0, val_main_call2_cst]
  simp only [v66_1, v158]
  show _ = ((A.gw h t s : ℝ) : EReal)
  by_cases hs : s ≤ t
  · simp only [Args.gw, Args.hw, dw, if_pos hs]; rfl
  · simp only [Args.gw, Args.hw, dw, if_neg hs, Finset.sum_const_zero]; rfl

theorem v153 (t : Fin 128) (h : Fin 8) : val_main_v153 (F := Ideal) (X0 A) (X1 A) (X7 A) (ix2 t h) = (A.gb h t : EReal) := by
  have e : val_main_v151 (F := Ideal) (X0 A) (X1 A) (X7 A) (ix2 t h) = (A.gb h t : EReal) := by
    simp only [val_main_v151]
    rw [reduce03]
    pointwise [val_main_cst_28]
    simp only [v148, coe_sum]
    rfl
  simp only [val_main_v153]
  rw [reduce03]
  pointwise [val_main_v152, val_main_cst_29]
  rw [Fin.sum_univ_one, Fin.sum_univ_one]
  exact e

theorem res_db (y : S8x128.Idx) : val_main_v228 (F := Ideal) (X0 A) (X1 A) (X7 A) y = (A.gb (y 0) (y 1) : EReal) := by
  obtain ⟨h, t, rfl⟩ : ∃ h t, y = ix2 h t := ⟨_, _, ValueIdx.eq_ix2 y⟩
  pointwise [val_main_v228, val_main_v201, val_main_v156, val_main_v155, val_main_v154, val_main_cst_30]
  rw [Fin.sum_univ_one, v153]

theorem v164 (h : Fin 8) (d : Fin 128) : val_main_v164 (F := Ideal) (X0 A) (X1 A) (X2 A) (X7 A) (ix2 h d) = (A.ge h d : EReal) := by
  have e : val_main_v162 (F := Ideal) (X0 A) (X1 A) (X2 A) (X7 A) (ix2 h d) = (A.ge h d : EReal) := by
    simp only [val_main_v162]
    rw [reduce01]
    pointwise [val_main_cst_31]
    simp only [v160, coe_sum]
    rfl
  simp only [val_main_v164]
  rw [reduce01]
  pointwise [val_main_v163, val_main_cst_32]
  rw [Fin.sum_univ_one, Fin.sum_univ_one]
  exact e

theorem v170 (h : Fin 8) (d : Fin 128) : val_main_v170 (F := Ideal) (X0 A) (X1 A) (X2 A) (X7 A) (ix2 h d) = (A.gg h d : EReal) := by
  have e : val_main_v166 (F := Ideal) (X0 A) (X1 A) (X2 A) (X7 A) (ix2 h d) = (A.gg h d : EReal) := by
    simp only [val_main_v166]
    rw [reduce01]
    pointwise [val_main_v165, val_main_cst_33]
    simp only [v56, v160, ← EReal.coe_mul, coe_sum, mul_comm]
    simp only [Args.gg, Args.hg, dg, mul_comm]
  simp only [val_main_v170]
  rw [reduce01]
  pointwise [val_main_v167, val_main_cst_34]
  rw [Fin.sum_univ_one, Fin.sum_univ_one]
  exact e

theorem res_de (y : S1x1024.Idx) : val_main_v199 (F := Ideal) (X0 A) (X1 A) (X2 A) (X7 A) y
    = (A.ge ((y 1).val / 128) ⟨(y 1).val % 128, Nat.mod_lt _ (by decide)⟩ : EReal) := by
  obtain ⟨a, k, rfl⟩ : ∃ a k, y = ix2 a k := ⟨_, _, ValueIdx.eq_ix2 y⟩
  pointwise [val_main_v199, val_main_v193]
  exact v164 A ⟨k.val / 128, by omega⟩ ⟨k.val % 128, Nat.mod_lt _ (by decide)⟩

theorem res_dg (y : S1x1024.Idx) : val_main_v200 (F := Ideal) (X0 A) (X1 A) (X2 A) (X7 A) y
    = (A.gg ((y 1).val / 128) ⟨(y 1).val % 128, Nat.mod_lt _ (by decide)⟩ : EReal) := by
  obtain ⟨a, k, rfl⟩ : ∃ a k, y = ix2 a k := ⟨_, _, ValueIdx.eq_ix2 y⟩
  pointwise [val_main_v200, val_main_v194]
  exact v170 A ⟨k.val / 128, by omega⟩ ⟨k.val % 128, Nat.mod_lt _ (by decide)⟩

theorem v135 (j : Fin 3) (k : Fin 1024) : val_main_v135 (F := Ideal) (X0 A) (X1 A) (X7 A) (ix2 j k) = (A.gcw j k : EReal) := by
  pointwise [val_main_v135, val_main_v134, val_main_v133, val_main_v132, val_main_v129, val_main_v128, val_main_v127, val_main_v126,
    val_main_v125, val_main_v124, val_main_v123, val_main_v120, val_main_v119, val_main_v118, val_main_v117, val_main_v116, val_main_v115,
    val_main_v112, val_main_v111, val_main_v110, val_main_cst_17, val_main_cst_18, val_main_cst_19, val_main_cst_20, val_main_cst_21,
    val_main_cst_22, val_main_cst_23, val_main_cst_24, val_main_cst_25]
  simp only [v78, v81, v85, v108, ← EReal.coe_mul, coe_sum, Fin.sum_univ_one]
  rw [Args.gcw]
  fin_cases j
  · simp [Args.tap, mul_comm]
  · simp [Args.tap, mul_comm]
  · simp [Args.tap, mul_comm]

theorem res_dc (y : S3x1024.Idx) : val_main_v229 (F := Ideal) (X0 A) (X1 A) (X7 A) y = (A.gcw (y 0) (y 1) : EReal) := by
  obtain ⟨j, k, rfl⟩ : ∃ j k, y = ix2 j k := ⟨_, _, ValueIdx.eq_ix2 y⟩
  pointwise [val_main_v229, val_main_v146]
  exact v135 A j k

theorem res_dz (y : S8192x5120.Idx) :
    val_main_v226 (F := Ideal) (X0 A) (X1 A) (X2 A) (X3 A) (X4 A) (X5 A) (X6 A) (X7 A) y = (A.dz (y 0) (y 1) : EReal) := by
  obtain ⟨r, k, rfl⟩ : ∃ r k, y = ix2 r k := ⟨_, _, ValueIdx.eq_ix2 y⟩
  pointwise [val_main_v226]
  exact v221 A r k

theorem res_dp (y : S1x5120.Idx) :
    val_main_v225 (F := Ideal) (X0 A) (X1 A) (X2 A) (X3 A) (X4 A) (X5 A) (X6 A) (X7 A) y = (A.gpb (y 1) : EReal) := by
  obtain ⟨a, k, rfl⟩ : ∃ a k, y = ix2 a k := ⟨_, _, ValueIdx.eq_ix2 y⟩
  pointwise [val_main_v225, val_main_v224, val_main_v223, val_main_v222, val_main_cst_50, val_main_cst_51]
  simp only [v221, coe_sum, Fin.sum_univ_one]
  rfl

end Cert.Reference2Ideal.Mix

end
-- ==== Proof.Rows.lean ====
/- Arrays named by the numbers of their rows and columns, a place outside the array holding zero. -/
module

public import Idealize.ShloMosaic.Lib.Pointwise

@[expose] public section

open Idealize.ShloMosaic

namespace Cert.Rows

theorem rows1 {α : Type} [Zero α] {n : ℕ} (f : (⟨2, ![1, n]⟩ : Shape).Idx → α) : ∃ g : ℕ → α, f = fun i => g (i 1) :=
  ⟨fun k => if h : k < n then f (ix2 0 ⟨k, h⟩) else 0, funext fun i => by
    have h1 : (i 1).val < n := (i 1).isLt
    show f i = dite _ _ _
    rw [dif_pos h1]
    congr 1
    funext a
    match a with
    | ⟨0, _⟩ => exact Subsingleton.elim (α := Fin 1) _ _
    | ⟨1, _⟩ => rfl⟩

theorem rows2 {α : Type} [Zero α] {k n : ℕ} (f : (⟨2, ![k, n]⟩ : Shape).Idx → α) : ∃ g : ℕ → ℕ → α, f = fun i => g (i 0) (i 1) :=
  ⟨fun a b => if h : a < k ∧ b < n then f (ix2 ⟨a, h.1⟩ ⟨b, h.2⟩) else 0, funext fun i => by
    have h0 : (i 0).val < k := (i 0).isLt
    have h1 : (i 1).val < n := (i 1).isLt
    show f i = dite _ _ _
    rw [dif_pos ⟨h0, h1⟩]
    congr 1
    funext a
    match a with
    | ⟨0, _⟩ => rfl
    | ⟨1, _⟩ => rfl⟩

theorem rows3 {α : Type} [Zero α] {k n : ℕ} (f : (⟨3, ![1, k, n]⟩ : Shape).Idx → α) : ∃ g : ℕ → ℕ → α, f = fun i => g (i 1) (i 2) :=
  ⟨fun a b => if h : a < k ∧ b < n then f (ix3 0 ⟨a, h.1⟩ ⟨b, h.2⟩) else 0, funext fun i => by
    have h1 : (i 1).val < k := (i 1).isLt
    have h2 : (i 2).val < n := (i 2).isLt
    show f i = dite _ _ _
    rw [dif_pos ⟨h1, h2⟩]
    congr 1
    funext a
    match a with
    | ⟨0, _⟩ => exact Subsingleton.elim (α := Fin 1) _ _
    | ⟨1, _⟩ => rfl
    | ⟨2, _⟩ => rfl⟩

theorem rows4 {α : Type} [Zero α] {j k n : ℕ} (f : (⟨4, ![1, j, k, n]⟩ : Shape).Idx → α) : ∃ g : ℕ → ℕ → ℕ → α, f = fun i => g (i 1) (i 2) (i 3) :=
  ⟨fun a b d => if h : a < j ∧ b < k ∧ d < n then f (ix4 0 ⟨a, h.1⟩ ⟨b, h.2.1⟩ ⟨d, h.2.2⟩) else 0, funext fun i => by
    have h1 : (i 1).val < j := (i 1).isLt
    have h2 : (i 2).val < k := (i 2).isLt
    have h3 : (i 3).val < n := (i 3).isLt
    show f i = dite _ _ _
    rw [dif_pos ⟨h1, h2, h3⟩]
    congr 1
    funext a
    match a with
    | ⟨0, _⟩ => exact Subsingleton.elim (α := Fin 1) _ _
    | ⟨1, _⟩ => rfl
    | ⟨2, _⟩ => rfl
    | ⟨3, _⟩ => rfl⟩

end Cert.Rows

end
-- ==== Proof.MixClaim.lean ====
/- The claims about the gradient of the gated mixing sublayer (spatial gating with a causal mixing matrix per chunk, and a short causal
   convolution): the runs of the three programs, and that the two of them agree on every result when the arguments are finite. -/
module

public import proofs.«01_k».proof.Defs
public import proofs.«01_k».proof.Proof.MixFinal
public import proofs.«01_k».proof.Proof.MixRef
public import proofs.«01_k».proof.Proof.Rows
public import proofs.«01_k».proof.Proof.Gen.Kernel2.Frame
public import proofs.«01_k».proof.Proof.Gen.Reference2Ideal.Run

@[expose] public section

noncomputable section

open Idealize.ShloMosaic Idealize.ShloMosaic.TcCoe Idealize.SL.Sem
open Cert.Mix Cert.Rows

namespace Cert.Proof.MixClaims

instance facts : Cert.Pre_finite_mix.Facts := ⟨by decide, by decide, by decide, by decide, by decide, by decide, by decide⟩

theorem frame_p : Cert.quiescent_Kernel2 := fun m ρ _ => Cert.Kernel2.Gen.frame m ρ

theorem frame_pi : Cert.quiescent_Kernel2Ideal := fun m ρ _ => Cert.Kernel2Ideal.Gen.frame m ρ

theorem frame_ri : Cert.quiescent_Reference2Ideal := fun m ρ _ =>
  (θ_run Cert.Reference2Ideal.defs _ _).mono
    (fun r h => ⟨fun c => (h c).2.2.2.2.2.2.2, sem_eq_zero_of_no_sems (by decide) r.2⟩)
    (Cert.Reference2Ideal.Value.run (F := Ideal) m ρ)

/-- The two constants are the products of the gate's constants that their bits round. -/
theorem preserves : Cert.preserves_Kernel2_Kernel2Ideal :=
  ⟨IdealRules.named_const.statement Cert.Kernel2Ideal.κ "gelu_ca" .f32 0x3D122279#32 ((80338380498831 / 2251799813685248 : ℝ) : EReal) rfl,
    IdealRules.named_const.statement Cert.Kernel2Ideal.κ "gelu_3ca" .f32 0x3DDB33B6#32 ((241015141496493 / 2251799813685248 : ℝ) : EReal) rfl⟩

open Cert.Kernel2Ideal in
/-- Finite arguments are real numbers. -/
theorem real (m : (ℓ : Loc nD τ sig) → Buf (Elt Ideal) ℓ) (hp : Cert.Pre_Kernel2Ideal_finite_mix m) (c : Dev nD) :
    ∃ A : Args, Cert.Kernel2Ideal.Mix.At m A c := by
  obtain ⟨h0, h1, h2, h3, h4, h5, h6, h7⟩ := hp c
  obtain ⟨x0, h0⟩ := Cert.Reals.real_of_below _ _ h0
  obtain ⟨x1, h1⟩ := Cert.Reals.real_of_below _ _ h1
  obtain ⟨x2, h2⟩ := Cert.Reals.real_of_below _ _ h2
  obtain ⟨x3, h3⟩ := Cert.Reals.real_of_below _ _ h3
  obtain ⟨x4, h4⟩ := Cert.Reals.real_of_below _ _ h4
  obtain ⟨x5, h5⟩ := Cert.Reals.real_of_below _ _ h5
  obtain ⟨x6, h6⟩ := Cert.Reals.real_of_below _ _ h6
  obtain ⟨x7, h7⟩ := Cert.Reals.real_of_below _ _ h7
  obtain ⟨p, rfl⟩ := rows2 x0
  obtain ⟨pb, rfl⟩ := rows1 x1
  obtain ⟨w, rfl⟩ := rows4 x2
  obtain ⟨b, rfl⟩ := rows3 x3
  obtain ⟨g, rfl⟩ := rows1 x4
  obtain ⟨e, rfl⟩ := rows1 x5
  obtain ⟨k, rfl⟩ := rows3 x6
  obtain ⟨dy, rfl⟩ := rows2 x7
  exact ⟨⟨p, pb, w, b, g, e, k, dy⟩, h0, h1, h2, h3, h4, h5, h6, h7⟩

/-- At `Ideal` both programs leave the same seven arrays. -/
theorem algebraic : Cert.algebraic_Kernel2Ideal_Reference2Ideal_pre_finite_mix := by
  intro m g m' g' hp ha
  choose B H using real m hp
  refine ⟨fun c => (fun y => ((B c).dz (y 0) (y 1) : EReal) : Cert.Kernel2Ideal.S8192x5120.Idx → EReal),
    fun c => (fun y => ((B c).gw (y 0) (y 1) (y 2) : EReal) : Cert.Kernel2Ideal.S8x128x128.Idx → EReal),
    fun c => (fun y => ((B c).gb (y 0) (y 1) : EReal) : Cert.Kernel2Ideal.S8x128.Idx → EReal),
    fun c => (fun y => ((B c).gg ((y 1).val / 128) ⟨(y 1).val % 128, Nat.mod_lt _ (by decide)⟩ : EReal) : Cert.Kernel2Ideal.S1x1024.Idx → EReal),
    fun c => (fun y => ((B c).ge ((y 1).val / 128) ⟨(y 1).val % 128, Nat.mod_lt _ (by decide)⟩ : EReal) : Cert.Kernel2Ideal.S1x1024.Idx → EReal),
    fun c => (fun y => ((B c).gcw (y 0) (y 1) : EReal) : Cert.Kernel2Ideal.S3x1024.Idx → EReal),
    fun c => (fun y => ((B c).gpb (y 1) : EReal) : Cert.Kernel2Ideal.S1x5120.Idx → EReal),
    (θ_run Cert.Kernel2Ideal.defs _ _).mono (fun r h c => ?_)
      (θ_run_and (Cert.Kernel2Ideal.Mix.run H g) (Cert.Kernel2Ideal.Gen.unchanged m g)),
    (θ_run Cert.Reference2Ideal.defs _ _).mono (fun r h c => ?_) (Cert.Reference2Ideal.Value.run (F := Ideal) m' g')⟩
  · obtain ⟨k0, k1, k2, k3, k4, k5, k6⟩ := h.1 c
    exact ⟨k0, k1, k2, k3, k4, k5, k6, h.2 c⟩
  · obtain ⟨a0, a1, a2, a3, a4, a5, a6, a7⟩ := ha c
    have e0 : StableHlo.launchContents m' c (Proc.devRef .tc Cert.Reference2Ideal.main_arg0) = Cert.Reference2Ideal.Mix.X0 (B c) := a0.trans (H c).h0
    have e1 : StableHlo.launchContents m' c (Proc.devRef .tc Cert.Reference2Ideal.main_arg1) = Cert.Reference2Ideal.Mix.X1 (B c) := a1.trans (H c).h1
    have e2 : StableHlo.launchContents m' c (Proc.devRef .tc Cert.Reference2Ideal.main_arg2) = Cert.Reference2Ideal.Mix.X2 (B c) := a2.trans (H c).h2
    have e3 : StableHlo.launchContents m' c (Proc.devRef .tc Cert.Reference2Ideal.main_arg3) = Cert.Reference2Ideal.Mix.X3 (B c) := a3.trans (H c).h3
    have e4 : StableHlo.launchContents m' c (Proc.devRef .tc Cert.Reference2Ideal.main_arg4) = Cert.Reference2Ideal.Mix.X4 (B c) := a4.trans (H c).h4
    have e5 : StableHlo.launchContents m' c (Proc.devRef .tc Cert.Reference2Ideal.main_arg5) = Cert.Reference2Ideal.Mix.X5 (B c) := a5.trans (H c).h5
    have e6 : StableHlo.launchContents m' c (Proc.devRef .tc Cert.Reference2Ideal.main_arg6) = Cert.Reference2Ideal.Mix.X6 (B c) := a6.trans (H c).h6
    have e7 : StableHlo.launchContents m' c (Proc.devRef .tc Cert.Reference2Ideal.main_arg7) = Cert.Reference2Ideal.Mix.X7 (B c) := a7.trans (H c).h7
    obtain ⟨r0, r1, r2, r3, r4, r5, r6, k⟩ := h c
    rw [Cert.Reference2Ideal.Read.val_main_v226_eq, e0, e1, e2, e3, e4, e5, e6, e7] at r0
    rw [Cert.Reference2Ideal.Read.val_main_v227_eq, e0, e1, e4, e5, e7] at r1
    rw [Cert.Reference2Ideal.Read.val_main_v228_eq, e0, e1, e7] at r2
    rw [Cert.Reference2Ideal.Read.val_main_v200_eq, e0, e1, e2, e7] at r3
    rw [Cert.Reference2Ideal.Read.val_main_v199_eq, e0, e1, e2, e7] at r4
    rw [Cert.Reference2Ideal.Read.val_main_v229_eq, e0, e1, e7] at r5
    rw [Cert.Reference2Ideal.Read.val_main_v225_eq, e0, e1, e2, e3, e4, e5, e6, e7] at r6
    exact ⟨r0.trans (funext (Cert.Reference2Ideal.Mix.res_dz (B c))), r1.trans (funext (Cert.Reference2Ideal.Mix.res_dw (B c))),
      r2.trans (funext (Cert.Reference2Ideal.Mix.res_db (B c))), r3.trans (funext (Cert.Reference2Ideal.Mix.res_dg (B c))),
      r4.trans (funext (Cert.Reference2Ideal.Mix.res_de (B c))), r5.trans (funext (Cert.Reference2Ideal.Mix.res_dc (B c))),
      r6.trans (funext (Cert.Reference2Ideal.Mix.res_dp (B c))), k⟩

end Cert.Proof.MixClaims

end
-- ==== Proof.LnC.lean ====
/- The loss and the gradient through the layer normalization that closes the layer, over the real numbers: what the reference computes
   entry by entry, what one block of rows contributes, and the arrays the kernel leaves. -/
module

public import proofs.«01_k».proof.Proof.Gen.Kernel3Ideal.Frame
public import proofs.«01_k».proof.Proof.Gen.Reference3Ideal.Read
public import proofs.«01_k».proof.Proof.LnM
public import Idealize.ShloMosaic.Lib.Pipeline.ValueKit

@[expose] public section
set_option maxRecDepth 16384
noncomputable section
open Idealize.ShloMosaic Idealize.ShloMosaic.TcCoe Idealize.ShloMosaic.Tactic Idealize.SL.Sem
open Cert.Reals
open Cert.ReferenceIdeal.LnM (up mean_2048)

namespace Cert.LnC

theorem ofBits_half : Ideal.ofBits .f32 0x3F000000#32 = ((1 / 2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_inv : Ideal.ofBits .f32 0x3A000000#32 = ((1 / 2048 : ℝ) : EReal) := by
  simp [Ideal.ofBits, Ideal.ieee, -EReal.coe_mul]; norm_num

/-! ## The mathematics, one row at a time -/

variable {n : ℕ} (x g b t : Fin n → ℝ)

/-- How far a normalized, scaled and shifted row is from its target. -/
def err (k : Fin n) : ℝ := hat eps x k * g k + b k - t k

/-- The gradient of the loss at the row's output: the error over the row's length. -/
def slope (k : Fin n) : ℝ := err x g b t k / 2048

/-- The gradient of the loss at the row. -/
def rowGrad (k : Fin n) : ℝ := lnGrad eps x (fun j => slope x g b t j * g j) k

end Cert.LnC

namespace Cert.Reference3Ideal.LnC
open Cert.Reference3Ideal Cert.Reference3Ideal.Gen Cert.Reference3Ideal.Read Cert.LnC

variable (h p : S8192x2048.Idx → ℝ) (g b : S1x2048.Idx → ℝ) (t : S8192x2048.Idx → ℝ)

/-- The row that is normalized: the residual and half of the sublayer. -/
def row (r : Fin 8192) (k : Fin 2048) : ℝ := alpha * h (ix2 r k) + 1 / 2 * p (ix2 r k)
def gain (k : Fin 2048) : ℝ := g (ix2 0 k)
def aim (r : Fin 8192) (k : Fin 2048) : ℝ := t (ix2 r k)

/-- The error, the output's gradient and the row's gradient at row `r`. -/
def errAt (r : Fin 8192) (k : Fin 2048) : ℝ := err (row h p r) (gain g) (gain b) (aim t r) k
def slopeAt (r : Fin 8192) (k : Fin 2048) : ℝ := slope (row h p r) (gain g) (gain b) (aim t r) k
def gradAt (r : Fin 8192) (k : Fin 2048) : ℝ := rowGrad (row h p r) (gain g) (gain b) (aim t r) k

theorem v4 (r k) : val_main_v4 (F := Ideal) (up h) (up p) (ix2 r k) = (row h p r k : EReal) := by
  pointwise [val_main_v4, val_main_v3, val_main_v2, val_main_v1, val_main_v0, val_main_cst, val_main_cst_0]
  simp only [up, row, ofBits_alpha, ofBits_half, ← EReal.coe_mul, ← EReal.coe_add]

theorem v12 (r k) : val_main_v12 (F := Ideal) (up h) (up p) (ix2 r k) = (dev (row h p r) k : EReal) := by
  pointwise [val_main_v12, val_main_v11, val_main_v10, val_main_v9, val_main_v8, val_main_v7, val_main_cst_1, val_main_cst_2]
  simp only [v4, coe_sum, ofBits_2048, mean_2048, ← EReal.coe_sub, dev]

theorem v19 (r) (z : Fin 1) : val_main_v19 (F := Ideal) (up h) (up p) (ix2 r z) = (spread eps (row h p r) : EReal) := by
  obtain rfl : z = 0 := Subsingleton.elim _ _
  pointwise [val_main_v19, val_main_v18, val_main_v17, val_main_v16, val_main_v15, val_main_v14, val_main_v13, val_main_cst_3, val_main_cst_4, val_main_cst_5]
  simp only [v12, coe_sum, ofBits_2048, ofBits_eps, mean_2048, ← EReal.coe_mul, ← EReal.coe_add, spread]

theorem v20 (r) (z : Fin 1) : val_main_v20 (F := Ideal) (up h) (up p) (ix2 r z) = (rstd eps (row h p r) : EReal) := by
  pointwise [val_main_v20]
  simp only [v19, rsqrt_real _ (spread_pos eps_pos _), rstd]

theorem v23 (r) (z : Fin 1) : val_main_v23 (F := Ideal) (up h) (up p) (ix2 r z)
    = ((-(1 / 2) * (rstd eps (row h p r) / spread eps (row h p r)) : ℝ) : EReal) := by
  pointwise [val_main_v23, val_main_v22, val_main_v21, val_main_cst_6]
  simp only [v19, v20, ofBits_neg_half, div_real _ _ (spread_pos eps_pos _).ne', ← EReal.coe_mul]

theorem v25 (r k) : val_main_v25 (F := Ideal) (up h) (up p) (ix2 r k) = (hat eps (row h p r) k : EReal) := by
  pointwise [val_main_v25, val_main_v24]
  simp only [v12, v20, ← EReal.coe_mul, hat]

theorem v32 (r k) : val_main_v32 (F := Ideal) (up h) (up p) (up g) (up b) (up t) (ix2 r k) = (errAt h p g b t r k : EReal) := by
  pointwise [val_main_v32, val_main_v31, val_main_v30, val_main_v29, val_main_v28, val_main_v27, val_main_v26, val_main_v5, val_main_v6]
  simp only [v25, up, ← EReal.coe_mul, ← EReal.coe_add, ← EReal.coe_sub]
  rfl

theorem v46 (r k) : val_main_v46 (F := Ideal) (up h) (up p) (up g) (up b) (up t) (ix2 r k) = (slopeAt h p g b t r k : EReal) := by
  pointwise [val_main_v46, val_main_v45, val_main_v44, val_main_v43, val_main_v42, val_main_v41, val_main_v35, val_main_v34, val_main_cst_7, val_main_cst_12,
    val_main_cst_13, val_main_cst_14]
  simp only [v32, ofBits_half, ofBits_one, ofBits_two, ofBits_2048, ← EReal.coe_mul, div_real _ _ (by norm_num : (2048 : ℝ) ≠ 0)]
  congr 1
  simp only [slopeAt, Cert.LnC.slope, errAt]
  ring

theorem v54 (r k) : val_main_v54 (F := Ideal) (up h) (up p) (up g) (up b) (up t) (ix2 r k) = ((slopeAt h p g b t r k * gain g k : ℝ) : EReal) := by
  pointwise [val_main_v54, val_main_v53, val_main_v26, val_main_v5]
  simp only [v46, up, ← EReal.coe_mul]
  rfl

theorem v64 (r) : val_main_v64 (F := Ideal) (up h) (up p) (up g) (up b) (up t) (ix1 r)
    = (through eps (row h p r) (fun k => slopeAt h p g b t r k * gain g k) : EReal) := by
  pointwise [val_main_v64, val_main_v63, val_main_v62, val_main_v61, val_main_v58, val_main_v57, val_main_v56, val_main_cst_19, val_main_cst_20, val_main_cst_21]
  simp only [v12, v54, v23, coe_sum, ofBits_2048, div_real _ _ (by norm_num : (2048 : ℝ) ≠ 0), ← EReal.coe_mul, through]
  norm_num

theorem v69 (r k) : val_main_v69 (F := Ideal) (up h) (up p) (up g) (up b) (up t) (ix2 r k)
    = (atDev eps (row h p r) (fun k => slopeAt h p g b t r k * gain g k) k : EReal) := by
  pointwise [val_main_v69, val_main_v68, val_main_v67, val_main_v66, val_main_v65, val_main_v60, val_main_v59]
  simp only [v12, v20, v54, v64, ← EReal.coe_mul, ← EReal.coe_add, atDev]

theorem v77 (r k) : val_main_v77 (F := Ideal) (up h) (up p) (up g) (up b) (up t) (ix2 r k) = (gradAt h p g b t r k : EReal) := by
  pointwise [val_main_v77, val_main_v76, val_main_v75, val_main_v74, val_main_v73, val_main_v72, val_main_v71, val_main_v70, val_main_cst_22, val_main_cst_23, val_main_cst_24]
  simp only [v69, coe_sum, ofBits_2048, ← EReal.coe_neg, div_real _ _ (by norm_num : (2048 : ℝ) ≠ 0), ← EReal.coe_add]
  unfold gradAt rowGrad
  rw [← atDev_sub_mean (by norm_num) eps_pos]
  simp only [slopeAt]
  norm_num

/-! ## The results -/

theorem res_loss (i) : val_main_v40 (F := Ideal) (up h) (up p) (up g) (up b) (up t) i
    = ((1 / 2 * ∑ r : Fin 8192, mean (fun k => errAt h p g b t r k * errAt h p g b t r k) : ℝ) : EReal) := by
  pointwise [val_main_v40, val_main_v39, val_main_v38, val_main_v37, val_main_v36, val_main_v33, val_main_cst_8, val_main_cst_9, val_main_cst_10, val_main_cst_11]
  simp only [v32, coe_sum, ofBits_half, ofBits_2048, mean_2048, ← EReal.coe_mul]

theorem res_dh (r k) : val_main_v83 (F := Ideal) (up h) (up p) (up g) (up b) (up t) (ix2 r k) = ((alpha * gradAt h p g b t r k : ℝ) : EReal) := by
  pointwise [val_main_v83, val_main_v82, val_main_cst_26]
  simp only [v77, ofBits_alpha, ← EReal.coe_mul]

theorem res_dp (r k) : val_main_v84 (F := Ideal) (up h) (up p) (up g) (up b) (up t) (ix2 r k) = ((1 / 2 * gradAt h p g b t r k : ℝ) : EReal) := by
  pointwise [val_main_v84, val_main_v81, val_main_v80, val_main_cst_25]
  simp only [v77, ofBits_half, ← EReal.coe_mul]

theorem res_dg (k) : val_main_v79 (F := Ideal) (up h) (up p) (up g) (up b) (up t) (ix2 0 k)
    = ((∑ r, slopeAt h p g b t r k * hat eps (row h p r) k : ℝ) : EReal) := by
  pointwise [val_main_v79, val_main_v55, val_main_v52, val_main_v51, val_main_v50, val_main_cst_17, val_main_cst_18]
  simp only [v25, v46, ← EReal.coe_mul, coe_sum]
  simp [mul_comm]

theorem res_db (k) : val_main_v78 (F := Ideal) (up h) (up p) (up g) (up b) (up t) (ix2 0 k) = ((∑ r, slopeAt h p g b t r k : ℝ) : EReal) := by
  pointwise [val_main_v78, val_main_v49, val_main_v48, val_main_v47, val_main_cst_15, val_main_cst_16]
  simp only [v46, coe_sum]
  simp

end Cert.Reference3Ideal.LnC

namespace Cert.Kernel3Ideal.LnC
open Cert.Kernel3Ideal Cert.Kernel3Ideal.Gen Cert.LnC
open Cert.Reference3Ideal.LnC (row gain aim errAt slopeAt gradAt)

/-! ## One block of rows -/

section blocks
variable (x y : S256x2048.Idx → ℝ) (g b : S1x2048.Idx → ℝ)

/-- A row of a block and of its target. -/
def brow (q : Fin 256) (k : Fin 2048) : ℝ := x (ix2 q k)

/-- The error, the output's gradient and the row's gradient at row `q` of a block. -/
def berr (q : Fin 256) (k : Fin 2048) : ℝ := err (brow x q) (gain g) (gain b) (brow y q) k
def bslope (q : Fin 256) (k : Fin 2048) : ℝ := slope (brow x q) (gain g) (gain b) (brow y q) k
def bgrad (q : Fin 256) (k : Fin 2048) : ℝ := rowGrad (brow x q) (gain g) (gain b) (brow y q) k

theorem pay4 (q k) : k0_pay4 (F := Ideal) (up x) (ix2 q k) = (dev (brow x q) k : EReal) := by
  pointwise [k0_pay4]
  simp only [up, coe_sum, ofBits_2048, mean_2048, ← EReal.coe_sub]
  rfl

theorem pay5 (q) (z : Fin 1) : k0_pay5 (F := Ideal) (up x) (ix2 q z) = (rstd eps (brow x q) : EReal) := by
  pointwise [k0_pay5]
  simp only [pay4, coe_sum, ofBits_2048, ofBits_eps, mean_2048, ← EReal.coe_mul, ← EReal.coe_add, rsqrt_spread eps_pos]

theorem pay6 (q k) : k0_pay6 (F := Ideal) (up x) (ix2 q k) = (hat eps (brow x q) k : EReal) := by
  pointwise [k0_pay6]
  simp only [pay4, pay5, ← EReal.coe_mul, hat]

theorem pay7 (q k) : k0_pay7 (F := Ideal) (up x) (up g) (up b) (up y) (ix2 q k) = (berr x y g b q k : EReal) := by
  pointwise [k0_pay7]
  simp only [pay6, up, ← EReal.coe_mul, ← EReal.coe_add, ← EReal.coe_sub]
  rfl

theorem pay8 (q k) : k0_pay8 (F := Ideal) (up x) (up g) (up b) (up y) (ix2 q k) = (bslope x y g b q k : EReal) := by
  pointwise [k0_pay8]
  simp only [pay7, ofBits_inv, ← EReal.coe_mul]
  congr 1
  simp only [bslope, Cert.LnC.slope, berr]
  ring

theorem pay9 (q k) : k0_pay9 (F := Ideal) (up x) (up g) (up b) (up y) (ix2 q k) = ((bslope x y g b q k * gain g k : ℝ) : EReal) := by
  pointwise [k0_pay9]
  simp only [pay8, up, ← EReal.coe_mul]
  rfl

/-- The row's gradient from the payloads it is formed of. -/
abbrev grad12 : FVec Ideal S256x2048 .f32 := k0_pay12 (F := Ideal) (k0_pay5 (up x)) (k0_pay6 (up x)) (k0_pay9 (up x) (up g) (up b) (up y))
  (k0_pay10 (up x) (up g) (up b) (up y)) (k0_pay11 (up x) (up g) (up b) (up y))

theorem pay12 (q k) : grad12 x y g b (ix2 q k) = (bgrad x y g b q k : EReal) := by
  pointwise [grad12, k0_pay12, k0_pay10, k0_pay11]
  simp only [pay5, pay6, pay9, coe_sum, ofBits_2048, mean_2048, ← EReal.coe_mul, ← EReal.coe_sub, lnGrad]
  rfl

theorem pay13 (q k) : k0_pay13 (F := Ideal) (k0_pay5 (up x)) (k0_pay6 (up x)) (k0_pay9 (up x) (up g) (up b) (up y))
    (k0_pay10 (up x) (up g) (up b) (up y)) (k0_pay11 (up x) (up g) (up b) (up y)) (ix2 q k) = ((alpha * bgrad x y g b q k : ℝ) : EReal) := by
  pointwise [k0_pay13]
  rw [show k0_pay12 (F := Ideal) _ _ _ _ _ (ix2 q k) = _ from pay12 x y g b q k, ofBits_alpha, ← EReal.coe_mul]

theorem pay14 (q k) : k0_pay14 (F := Ideal) (k0_pay5 (up x)) (k0_pay6 (up x)) (k0_pay9 (up x) (up g) (up b) (up y))
    (k0_pay10 (up x) (up g) (up b) (up y)) (k0_pay11 (up x) (up g) (up b) (up y)) (ix2 q k) = ((1 / 2 * bgrad x y g b q k : ℝ) : EReal) := by
  pointwise [k0_pay14]
  rw [show k0_pay12 (F := Ideal) _ _ _ _ _ (ix2 q k) = _ from pay12 x y g b q k, ofBits_half, ← EReal.coe_mul]

/-! What a block adds to each of the three accumulated rows. -/

theorem pay15 (acc : FVec Ideal S1x2048 .f32) (k) : k0_pay15 (F := Ideal) (k0_pay6 (up x)) (k0_pay8 (up x) (up g) (up b) (up y)) acc (ix2 0 k)
    = acc (ix2 0 k) + ((∑ q, bslope x y g b q k * hat eps (brow x q) k : ℝ) : EReal) := by
  pointwise [k0_pay15]
  simp only [pay6, pay8, coe_sum, ← EReal.coe_mul]

theorem pay16 (acc : FVec Ideal S1x2048 .f32) (k) : k0_pay16 (F := Ideal) (k0_pay8 (up x) (up g) (up b) (up y)) acc (ix2 0 k)
    = acc (ix2 0 k) + ((∑ q, bslope x y g b q k : ℝ) : EReal) := by
  pointwise [k0_pay16]
  simp only [pay8, coe_sum]

theorem pay17 (acc : FVec Ideal S1x2048 .f32) (k) : k0_pay17 (F := Ideal) (k0_pay7 (up x) (up g) (up b) (up y)) acc (ix2 0 k)
    = acc (ix2 0 k) + ((∑ q, berr x y g b q k * berr x y g b q k : ℝ) : EReal) := by
  pointwise [k0_pay17]
  simp only [pay7, coe_sum, ← EReal.coe_mul]

theorem zeros (j) : k0_pay1 (F := Ideal) j = 0 ∧ k0_pay2 (F := Ideal) j = 0 ∧ k0_pay3 (F := Ideal) j = 0 := by
  pointwise [k0_pay1, k0_pay2, k0_pay3]

end blocks

/-! ## The blocks of the arrays -/

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] :=
  (by decide +kernel : ∀ t : Fin grid0.N, _)

theorem idx_acc : ∀ t : Fin cfg0.N, win0_6.index t = ![0, 0] ∧ win0_7.index t = ![0, 0] ∧ win0_8.index t = ![0, 0] :=
  (by decide +kernel : ∀ t : Fin grid0.N, _)

theorem row_eta (y : S1x2048.Idx) : y = ix2 0 (y 1) := by blk_ext
theorem blk_eta (y : S256x2048.Idx) : y = ix2 (y 0) (y 1) := by blk_ext

theorem N32 (t : Fin cfg0.N) : t.val < 32 := lt_of_lt_of_eq t.isLt N_0

/-- The array's row that is row `q` of point `t`'s block. -/
def at_ (t : Fin cfg0.N) (q : Fin 256) : Fin 8192 := ⟨256 * t.val + q.val, by have := N32 t; omega⟩

variable (m : (ℓ : Loc nD τ sig) → Buf (Elt Ideal) ℓ)
variable (h p : S8192x2048.Idx → ℝ) (g b : S1x2048.Idx → ℝ) (y : S8192x2048.Idx → ℝ) (c : Dev nD)

/-- The arguments are real numbers. -/
structure At : Prop where
  h0 : m ((c : Thread nD τ).loc main_arg0) = up (s := S8192x2048) h
  h1 : m ((c : Thread nD τ).loc main_arg1) = up (s := S8192x2048) p
  h2 : m ((c : Thread nD τ).loc main_arg2) = up (s := S1x2048) g
  h3 : m ((c : Thread nD τ).loc main_arg3) = up (s := S1x2048) b
  h4 : m ((c : Thread nD τ).loc main_arg4) = up (s := S8192x2048) y

/-- The rows and the targets that point `t` reads. -/
def rblk (t : Fin cfg0.N) : S256x2048.Idx → ℝ := fun i => row h p (at_ t (i 0)) (i 1)
def yblk (t : Fin cfg0.N) : S256x2048.Idx → ℝ := fun i => y (ix2 (at_ t (i 0)) (i 1))

variable {m h p g b y c}

theorem blk0 (H : At m h p g b y c) (t : Fin cfg0.N) : iblk m c 0 t = up (s := S256x2048) (rblk h p t) := by
  funext i
  blk_simp [iblk]
  simp only [V, V0, List.flatten_singleton]
  entry_read
  rw [show m (c, Proc.tc.devRef main_arg0) = _ from H.h0, show m (c, Proc.tc.devRef main_arg1) = _ from H.h1]
  pointwise
  simp only [up, rblk, row, ofBits_alpha, ofBits_half, ← EReal.coe_mul, ← EReal.coe_add]
  blk_point [idx t, at_]

theorem blk1 (H : At m h p g b y c) (t : Fin cfg0.N) : iblk m c 1 t = up (s := S256x2048) (yblk y t) := by
  funext i
  blk_simp [iblk]
  rw [V_main_arg4, H.h4]
  simp only [up, yblk]
  blk_point [idx t, at_]

theorem blk2 (H : At m h p g b y c) (t : Fin cfg0.N) : iblk m c 2 t = up (s := S1x2048) g := by
  funext i
  blk_simp [iblk]
  rw [V_main_arg2, H.h2]
  simp only [up]
  blk_point [idx t]

theorem blk3 (H : At m h p g b y c) (t : Fin cfg0.N) : iblk m c 3 t = up (s := S1x2048) b := by
  funext i
  blk_simp [iblk]
  rw [V_main_arg3, H.h3]
  simp only [up]
  blk_point [idx t]

theorem place4 (t : Fin cfg0.N) (i : S256x2048.Idx) : (((cfg0.win 4).blk t).view.emb i : S8192x2048.Idx) = ix2 (at_ t (i 0)) (i 1) := by
  blk_ext [idx t, at_]
theorem place5 (t : Fin cfg0.N) (i : S256x2048.Idx) : (((cfg0.win 5).blk t).view.emb i : S8192x2048.Idx) = ix2 (at_ t (i 0)) (i 1) := by
  blk_ext [idx t, at_]
theorem place6 (t : Fin cfg0.N) (i : S1x2048.Idx) : (((cfg0.win 6).blk t).view.emb i : S1x2048.Idx) = ix2 0 (i 1) := by blk_ext [idx_acc t]
theorem place7 (t : Fin cfg0.N) (i : S1x2048.Idx) : (((cfg0.win 7).blk t).view.emb i : S1x2048.Idx) = ix2 0 (i 1) := by blk_ext [idx_acc t]
theorem place8 (t : Fin cfg0.N) (i : S1x2048.Idx) : (((cfg0.win 8).blk t).view.emb i : S1x2048.Idx) = ix2 0 (i 1) := by blk_ext [idx_acc t]

/-! ## The arrays after the last point -/

open Cert.Reference3Ideal.Read Cert.Reference3Ideal.LnC

theorem point4 (t : Fin cfg0.N) (i : S256x2048.Idx) :
    k0_pay13 (F := Ideal) (k0_pay5 (up (rblk h p t))) (k0_pay6 (up (rblk h p t))) (k0_pay9 (up (rblk h p t)) (up g) (up b) (up (yblk y t)))
      (k0_pay10 (up (rblk h p t)) (up g) (up b) (up (yblk y t))) (k0_pay11 (up (rblk h p t)) (up g) (up b) (up (yblk y t))) i
      = val_main_v83 (F := Ideal) (up h) (up p) (up g) (up b) (up y) (((cfg0.win 4).blk t).view.emb i) := by
  rw [place4 t i, blk_eta i]
  exact (pay13 _ _ _ _ (i 0) (i 1)).trans (res_dh h p g b y (at_ t (i 0)) (i 1)).symm

theorem point5 (t : Fin cfg0.N) (i : S256x2048.Idx) :
    k0_pay14 (F := Ideal) (k0_pay5 (up (rblk h p t))) (k0_pay6 (up (rblk h p t))) (k0_pay9 (up (rblk h p t)) (up g) (up b) (up (yblk y t)))
      (k0_pay10 (up (rblk h p t)) (up g) (up b) (up (yblk y t))) (k0_pay11 (up (rblk h p t)) (up g) (up b) (up (yblk y t))) i
      = val_main_v84 (F := Ideal) (up h) (up p) (up g) (up b) (up y) (((cfg0.win 5).blk t).view.emb i) := by
  rw [place5 t i, blk_eta i]
  exact (pay14 _ _ _ _ (i 0) (i 1)).trans (res_dp h p g b y (at_ t (i 0)) (i 1)).symm

theorem final4 (H : At m h p g b y c) : (dats m 0 c).arrAt 4 (cfgs 0).N = val_main_v83 (F := Ideal) (up h) (up p) (up g) (up b) (up y) := by
  refine (dats m 0 c).arrAt_eq_of_covers 4 _ (by decide +kernel) fun t _ i => ?_
  blk_simp
  rw [after0_4]
  by_cases h : t.val % 32 = 0
  · rw [outsAt0_A m c t h]
    frame_out
    rw [blk0 H, blk1 H, blk2 H, blk3 H]
    exact point4 t i
  · rw [outsAt0_B m c t h]
    frame_out
    rw [blk0 H, blk1 H, blk2 H, blk3 H]
    exact point4 t i

theorem final5 (H : At m h p g b y c) : (dats m 0 c).arrAt 5 (cfgs 0).N = val_main_v84 (F := Ideal) (up h) (up p) (up g) (up b) (up y) := by
  refine (dats m 0 c).arrAt_eq_of_covers 5 _ (by decide +kernel) fun t _ i => ?_
  blk_simp
  rw [after0_5]
  by_cases h : t.val % 32 = 0
  · rw [outsAt0_A m c t h]
    frame_out
    rw [blk0 H, blk1 H, blk2 H, blk3 H]
    exact point5 t i
  · rw [outsAt0_B m c t h]
    frame_out
    rw [blk0 H, blk1 H, blk2 H, blk3 H]
    exact point5 t i

/-- The rows that the points read, point by point, are the rows of the array. -/
theorem sum_points (t : Fin cfg0.N) (ht : ∀ s : Fin 32, 32 * (t.val / 32) + s.val < cfg0.N) (f : Fin 8192 → ℝ) :
    (∑ s : Fin 32, ((∑ q : Fin 256, f (at_ ⟨32 * (t.val / 32) + s.val, ht s⟩ q) : ℝ) : EReal)) = ((∑ r, f r : ℝ) : EReal) := by
  rw [coe_sum]
  congr 1
  refine Fin.sum_mul_add_congr fun s q hl => congrArg f (Fin.ext ?_)
  have := N32 t
  simp only [at_]
  omega

theorem final6 (H : At m h p g b y c) : (dats m 0 c).arrAt 6 (cfgs 0).N = val_main_v79 (F := Ideal) (up h) (up p) (up g) (up b) (up y) := by
  refine (dats m 0 c).arrAt_eq_of_covers 6 _ (by decide +kernel) fun t hf i => ?_
  blk_simp
  rw [after0_6, Pipeline.eq_sum_fin_of_reset_step_apply_of_flush (fun n h => (outsAt0 m c n h).2.2.1) 32 (fun _ => 0)
    (fun s (j : S1x2048.Idx) => ((∑ q : Fin 256, slopeAt h p g b y (at_ s q) (j 1) * hat eps (row h p (at_ s q)) (j 1) : ℝ) : EReal))
    (fun t h j => by
      rw [outsAt0_A m c t h]; frame_out; rw [blk0 H, blk1 H, blk2 H, blk3 H, row_eta j]
      exact (pay15 _ _ _ _ _ _).trans (congrArg (· + _) (zeros _).1))
    (fun t h j => by
      rw [outsAt0_B m c t h]; frame_out; rw [blk0 H, blk1 H, blk2 H, blk3 H, row_eta j]
      exact pay15 _ _ _ _ _ _)
    t ((flush0_6 t).mp hf) _, zero_add, place6]
  exact (sum_points t _ fun r => slopeAt h p g b y r ((i : S1x2048.Idx) 1) * hat eps (row h p r) ((i : S1x2048.Idx) 1)).trans (res_dg h p g b y _).symm

theorem final7 (H : At m h p g b y c) : (dats m 0 c).arrAt 7 (cfgs 0).N = val_main_v78 (F := Ideal) (up h) (up p) (up g) (up b) (up y) := by
  refine (dats m 0 c).arrAt_eq_of_covers 7 _ (by decide +kernel) fun t hf i => ?_
  blk_simp
  rw [after0_7, Pipeline.eq_sum_fin_of_reset_step_apply_of_flush (fun n h => (outsAt0 m c n h).2.2.2.1) 32 (fun _ => 0)
    (fun s (j : S1x2048.Idx) => ((∑ q : Fin 256, slopeAt h p g b y (at_ s q) (j 1) : ℝ) : EReal))
    (fun t h j => by
      rw [outsAt0_A m c t h]; frame_out; rw [blk0 H, blk1 H, blk2 H, blk3 H, row_eta j]
      exact (pay16 _ _ _ _ _ _).trans (congrArg (· + _) (zeros _).2.1))
    (fun t h j => by
      rw [outsAt0_B m c t h]; frame_out; rw [blk0 H, blk1 H, blk2 H, blk3 H, row_eta j]
      exact pay16 _ _ _ _ _ _)
    t ((flush0_7 t).mp hf) _, zero_add, place7]
  exact (sum_points t _ fun r => slopeAt h p g b y r ((i : S1x2048.Idx) 1)).trans (res_db h p g b y _).symm

/-- The squared errors of each column. -/
def colLoss (h p : S8192x2048.Idx → ℝ) (g b : S1x2048.Idx → ℝ) (y : S8192x2048.Idx → ℝ) (k : Fin 2048) : ℝ :=
  ∑ r, errAt h p g b y r k * errAt h p g b y r k

theorem final8 (H : At m h p g b y c) : (dats m 0 c).arrAt 8 (cfgs 0).N = (fun i => (colLoss h p g b y (i 1) : EReal) : S1x2048.Idx → EReal) := by
  suffices ∀ G : S1x2048.Idx → EReal, (∀ i : S1x2048.Idx, G i = (colLoss h p g b y (i 1) : EReal)) → (dats m 0 c).arrAt 8 (cfgs 0).N = G from this _ fun _ => rfl
  intro G hG
  refine (dats m 0 c).arrAt_eq_of_covers 8 _ (by decide +kernel) fun t hf i => ?_
  blk_simp
  rw [after0_8, Pipeline.eq_sum_fin_of_reset_step_apply_of_flush (fun n h => (outsAt0 m c n h).2.2.2.2) 32 (fun _ => 0)
    (fun s (j : S1x2048.Idx) => ((∑ q : Fin 256, errAt h p g b y (at_ s q) (j 1) * errAt h p g b y (at_ s q) (j 1) : ℝ) : EReal))
    (fun t h j => by
      rw [outsAt0_A m c t h]; frame_out; rw [blk0 H, blk1 H, blk2 H, blk3 H, row_eta j]
      exact (pay17 _ _ _ _ _ _).trans (congrArg (· + _) (zeros _).2.2))
    (fun t h j => by
      rw [outsAt0_B m c t h]; frame_out; rw [blk0 H, blk1 H, blk2 H, blk3 H, row_eta j]
      exact pay17 _ _ _ _ _ _)
    t ((flush0_8 t).mp hf) _, zero_add, place8]
  refine Eq.trans ?_ (hG _).symm
  exact sum_points t _ fun r => errAt h p g b y r ((i : S1x2048.Idx) 1) * errAt h p g b y r ((i : S1x2048.Idx) 1)

/-- The mean of the rows' squared errors, summed over the rows, is the columns' sum over the row's length. -/
theorem loss_eq (h p : S8192x2048.Idx → ℝ) (g b : S1x2048.Idx → ℝ) (y : S8192x2048.Idx → ℝ) :
    (∑ k, colLoss h p g b y k) / 2048 = ∑ r : Fin 8192, mean (fun k => errAt h p g b y r k * errAt h p g b y r k) := by
  simp only [colLoss, mean]
  rw [Finset.sum_comm, Finset.sum_div]
  norm_num

/-! ## After the region -/

theorem exit (w) : Pipeline.withArrays (cfgs 0).spec c (V0 m c) (fun w => (dats m 0 c).arrAt w (cfgs 0).N) (Proc.devRef .tc (Pipeline.arrRef spec0 w))
    = (dats m 0 c).arrAt w (cfgs 0).N :=
  Pipeline.withArrays_arr _ (by decide) c _ _ w

/-- The loss: the columns' squared errors together, halved and over the row's length. -/
theorem tail8 (H : At m h p g b y c) : Pipeline.afterTail₀ cfgs (dats m) 0 (V0 m) [hostOps1] c main_v8
    = val_main_v40 (F := Ideal) (up h) (up p) (up g) (up b) (up y) := by
  unfold Pipeline.afterTail₀
  rw [List.flatten_singleton]
  entry_read
  have e := exit (m := m) (c := c) 8
  rw [final8 H] at e
  refine (congrArg (fun v => Host.divf (mulf (constant S_ .f32 0x3F000000#32) (Host.reduceAdd v (constant S_ .f32 0x00000000#32) reducesTo_S1x2048_S_d0_1 h_S_))
    (constant S_ .f32 0x45000000#32)) e).trans ?_
  funext i
  refine Eq.trans ?_ (res_loss h p g b y i).symm
  pointwise
  simp only [coe_sum, ofBits_half, ofBits_2048, ← EReal.coe_mul, div_real _ _ (by norm_num : (2048 : ℝ) ≠ 0), Finset.univ_unique, Finset.sum_singleton,
    mul_div_assoc, loss_eq]

/-- The values the kernel leaves. -/
theorem run {h p y : Dev nD → S8192x2048.Idx → ℝ} {g b : Dev nD → S1x2048.Idx → ℝ} (H : ∀ c, At m (h c) (p c) (g c) (b c) (y c) c) (ρ : Dev nD → PrngReg) :
    θ_run defs (onTc (τ := τ) (main (F := Ideal))) ⟨m, fun _ => 0, ρ⟩ (fun r => ∀ c : Dev nD,
      r.2.mem ((c.tc : Thread nD τ).loc main_v8) = val_main_v40 (F := Ideal) (up (h c)) (up (p c)) (up (g c)) (up (b c)) (up (y c))
      ∧ r.2.mem ((c.tc : Thread nD τ).loc main_v5_0) = val_main_v83 (F := Ideal) (up (h c)) (up (p c)) (up (g c)) (up (b c)) (up (y c))
      ∧ r.2.mem ((c.tc : Thread nD τ).loc main_v5_1) = val_main_v84 (F := Ideal) (up (h c)) (up (p c)) (up (g c)) (up (b c)) (up (y c))
      ∧ r.2.mem ((c.tc : Thread nD τ).loc main_v5_2) = val_main_v79 (F := Ideal) (up (h c)) (up (p c)) (up (g c)) (up (b c)) (up (y c))
      ∧ r.2.mem ((c.tc : Thread nD τ).loc main_v5_3) = val_main_v78 (F := Ideal) (up (h c)) (up (p c)) (up (g c)) (up (b c)) (up (y c))) :=
  (θ_run defs _ _).mono (fun r k c => ⟨((k c).2 main_v8 (Pipeline.mem_restRefs_of main_v8 (by decide) (by decide))).trans (tail8 (H c)),
    ((k c).1 4).trans (final4 (H c)), ((k c).1 5).trans (final5 (H c)), ((k c).1 6).trans (final6 (H c)), ((k c).1 7).trans (final7 (H c))⟩) (run_main m ρ)

end Cert.Kernel3Ideal.LnC

end
-- ==== Proof.LnCClaim.lean ====
/- The claims about the loss and the gradient through the closing layer normalization: the runs of the three programs, and that the two of
   them agree on every result when the arguments are finite. -/
module

public import proofs.«01_k».proof.Defs
public import proofs.«01_k».proof.Proof.LnC
public import proofs.«01_k».proof.Proof.Gen.Kernel3.Frame
public import proofs.«01_k».proof.Proof.Gen.Reference3Ideal.Run

@[expose] public section

noncomputable section

open Idealize.ShloMosaic Idealize.SL.Sem

namespace Cert.Proof.LnCClaims

instance facts : Cert.Pre_finite_ln_c.Facts := ⟨by decide, by decide⟩

theorem frame_p : Cert.quiescent_Kernel3 := fun m ρ _ => Cert.Kernel3.Gen.frame m ρ

theorem frame_pi : Cert.quiescent_Kernel3Ideal := fun m ρ _ => Cert.Kernel3Ideal.Gen.frame m ρ

theorem frame_ri : Cert.quiescent_Reference3Ideal := fun m ρ _ =>
  (θ_run Cert.Reference3Ideal.defs _ _).mono
    (fun r h => ⟨fun c => (h c).2.2.2.2.2, sem_eq_zero_of_no_sems (by decide) r.2⟩)
    (Cert.Reference3Ideal.Value.run (F := Ideal) m ρ)

open Cert.Kernel3Ideal in
/-- Finite arguments are real numbers. -/
theorem real (m : (ℓ : Loc nD τ sig) → Buf (Elt Ideal) ℓ) (hp : Cert.Pre_Kernel3Ideal_finite_ln_c m) (c : Dev nD) :
    ∃ (h p : S8192x2048.Idx → ℝ) (g b : S1x2048.Idx → ℝ) (y : S8192x2048.Idx → ℝ), Cert.Kernel3Ideal.LnC.At m h p g b y c := by
  obtain ⟨h0, h1, h2, h3, h4⟩ := hp c
  obtain ⟨h, h0⟩ := Cert.Reals.real_of_below _ _ h0
  obtain ⟨p, h1⟩ := Cert.Reals.real_of_below _ _ h1
  obtain ⟨g, h2⟩ := Cert.Reals.real_of_below _ _ h2
  obtain ⟨b, h3⟩ := Cert.Reals.real_of_below _ _ h3
  obtain ⟨y, h4⟩ := Cert.Reals.real_of_below _ _ h4
  exact ⟨h, p, g, b, y, h0, h1, h2, h3, h4⟩

open Cert.Reference3Ideal.Read in
open Cert.ReferenceIdeal.LnM (up) in
/-- At `Ideal` both programs leave the same five results. -/
theorem algebraic : Cert.algebraic_Kernel3Ideal_Reference3Ideal_pre_finite_ln_c := by
  intro m g m' g' hp ha
  choose h p w b y H using real m hp
  have K := θ_run_and (Cert.Kernel3Ideal.LnC.run (h := h) (p := p) (y := y) (g := w) (b := b) H g) (Cert.Kernel3Ideal.Gen.unchanged m g)
  refine ⟨fun c => val_main_v40 (F := Ideal) (up (h c)) (up (p c)) (up (w c)) (up (b c)) (up (y c)),
    fun c => val_main_v83 (F := Ideal) (up (h c)) (up (p c)) (up (w c)) (up (b c)) (up (y c)),
    fun c => val_main_v84 (F := Ideal) (up (h c)) (up (p c)) (up (w c)) (up (b c)) (up (y c)),
    fun c => val_main_v79 (F := Ideal) (up (h c)) (up (p c)) (up (w c)) (up (b c)) (up (y c)),
    fun c => val_main_v78 (F := Ideal) (up (h c)) (up (p c)) (up (w c)) (up (b c)) (up (y c)), (θ_run Cert.Kernel3Ideal.defs _ _).mono (fun r k c => ?_) K,
    (θ_run Cert.Reference3Ideal.defs _ _).mono (fun r k c => ?_) (Cert.Reference3Ideal.Value.run (F := Ideal) m' g')⟩
  · obtain ⟨k0, k1, k2, k3, k4⟩ := k.1 c
    exact ⟨k0, k1, k2, k3, k4, k.2 c⟩
  · obtain ⟨a0, a1, a2, a3, a4⟩ := ha c
    obtain ⟨r0, r1, r2, r3, r4, k⟩ := k c
    rw [Cert.Reference3Ideal.Read.val_main_v40_eq, a0, a1, a2, a3, a4, (H c).h0, (H c).h1, (H c).h2, (H c).h3, (H c).h4] at r0
    rw [Cert.Reference3Ideal.Read.val_main_v83_eq, a0, a1, a2, a3, a4, (H c).h0, (H c).h1, (H c).h2, (H c).h3, (H c).h4] at r1
    rw [Cert.Reference3Ideal.Read.val_main_v84_eq, a0, a1, a2, a3, a4, (H c).h0, (H c).h1, (H c).h2, (H c).h3, (H c).h4] at r2
    rw [Cert.Reference3Ideal.Read.val_main_v79_eq, a0, a1, a2, a3, a4, (H c).h0, (H c).h1, (H c).h2, (H c).h3, (H c).h4] at r3
    rw [Cert.Reference3Ideal.Read.val_main_v78_eq, a0, a1, a2, a3, a4, (H c).h0, (H c).h1, (H c).h2, (H c).h3, (H c).h4] at r4
    exact ⟨r0, r1, r2, r3, r4, k⟩

end Cert.Proof.LnCClaims

end
-- ==== Proof.Da.lean ====
/- The gradient of the gated product `silu(g) * u` times a matrix, over the real numbers: the logistic function written with the
   exponential and with the hyperbolic tangent, what the reference computes entry by entry, what the kernel leaves of one block, and the two
   arrays the kernel leaves. -/
module

public import proofs.«01_k».proof.Proof.Gen.Kernel4Ideal.Value
public import proofs.«01_k».proof.Proof.Gen.Reference4Ideal.Read
public import proofs.«01_k».proof.Proof.Reals
public import Idealize.ShloMosaic.Lib.Pipeline.ValueKit
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
open Cert.Reals

namespace Cert.Gate

/-- Real numbers as an array of the ideal floats. -/
abbrev up {s : Shape} (x : s.Idx → ℝ) : FVec Ideal s .f32 := fun i => ((x i : ℝ) : EReal)

theorem ofBits_half : Ideal.ofBits .f32 0x3F000000#32 = ((1 / 2 : ℝ) : EReal) := by
  simp [Ideal.ofBits, Ideal.ieee, -EReal.coe_mul]; norm_num

/-- The logistic function. -/
def sg (z : ℝ) : ℝ := 1 / (1 + Real.exp (-z))

theorem exp_pos' (z : ℝ) : 1 + Real.exp (-z) ≠ 0 := (add_pos one_pos (Real.exp_pos _)).ne'

/-- The logistic function is half the hyperbolic tangent of half the argument, moved up by a half. -/
theorem sg_tanh (z : ℝ) : 1 / 2 * Real.tanh (1 / 2 * z) + 1 / 2 = sg z := by
  have h : Real.exp (-z) = Real.exp (-(1 / 2 * z)) * Real.exp (-(1 / 2 * z)) := by rw [← Real.exp_add]; congr 1; ring
  have h1 : Real.exp (1 / 2 * z) * Real.exp (-(1 / 2 * z)) = 1 := by rw [← Real.exp_add]; simp
  have hp := Real.exp_pos (1 / 2 * z)
  have hn := Real.exp_pos (-(1 / 2 * z))
  rw [sg, Real.tanh_eq_sinh_div_cosh, Real.sinh_eq, Real.cosh_eq, h]
  generalize Real.exp (1 / 2 * z) = a at *
  generalize Real.exp (-(1 / 2 * z)) = b at *
  field_simp
  linear_combination 2 * b * h1

/-- An entry of a product of two matrices of real numbers. -/
def prod {n k p : ℕ} (x : (⟨2, ![n, k]⟩ : Shape).Idx → ℝ) (w : (⟨2, ![k, p]⟩ : Shape).Idx → ℝ) (r : Fin n) (f : Fin p) : ℝ :=
  ∑ j, x (ix2 r j) * w (ix2 j f)

/-- An entry of the product with the second matrix transposed. -/
def prodT {n k p : ℕ} (x : (⟨2, ![n, k]⟩ : Shape).Idx → ℝ) (w : (⟨2, ![p, k]⟩ : Shape).Idx → ℝ) (r : Fin n) (f : Fin p) : ℝ :=
  ∑ j, x (ix2 r j) * w (ix2 f j)

/-- What reaches the gate's argument `g`, and what reaches the other factor `u`, from the cotangent `a` of their product. -/
def toG (a g u : ℝ) : ℝ := a * u * (sg g + g * sg g * (1 - sg g))
def toU (a g : ℝ) : ℝ := a * (g * sg g)

end Cert.Gate

namespace Cert.Reference4Ideal.Gate
open Cert.Reference4Ideal Cert.Reference4Ideal.Gen Cert.Reference4Ideal.Read Cert.Gate

variable (h : S8192x2048.Idx → ℝ) (wg wu : S2048x5632.Idx → ℝ) (wd : S5632x2048.Idx → ℝ) (d : S8192x2048.Idx → ℝ)

/-- The gate's argument. -/
theorem v0 (r f) : val_main_v0 (F := Ideal) (up h) (up wg) (ix2 r f) = (prod h wg r f : EReal) := by
  pointwise [val_main_v0]
  simp only [up, ← EReal.coe_mul, coe_sum, prod]

/-- The other factor. -/
theorem v1 (r f) : val_main_v1 (F := Ideal) (up h) (up wu) (ix2 r f) = (prod h wu r f : EReal) := by
  pointwise [val_main_v1]
  simp only [up, ← EReal.coe_mul, coe_sum, prod]

/-- What the last product carries back. -/
theorem v7 (r f) : val_main_v7 (F := Ideal) (up wd) (up d) (ix2 r f) = (prodT d wd r f : EReal) := by
  pointwise [val_main_v7]
  simp only [up, ← EReal.coe_mul, coe_sum, prodT]

/-- The logistic function of the gate's argument. -/
theorem v2_2 (r f) : val_main_v2_2 (F := Ideal) (up h) (up wg) (ix2 r f) = (sg (prod h wg r f) : EReal) := by
  pointwise [val_main_v2_2, val_main_call0_v4, val_main_call0_cst_0, val_main_call0_v3, val_main_call0_v2, val_main_call0_cst,
    val_main_call0_v1, val_main_call0_v0]
  simp only [v0, ← EReal.coe_one, ← EReal.coe_neg, Ideal.exp_coe, ← EReal.coe_add, div_real _ _ (exp_pos' _), sg]

/-- The two results of the reference. -/
theorem res_g (r f) : val_main_v11 (F := Ideal) (up h) (up wg) (up wu) (up wd) (up d) (ix2 r f)
    = (toG (prodT d wd r f) (prod h wg r f) (prod h wu r f) : EReal) := by
  pointwise [val_main_v11, val_main_v10, val_main_call1_v2, val_main_call1_v1, val_main_call1_v0, val_main_v9, val_main_v2_1,
    val_main_call0_v7, val_main_call0_v6, val_main_call0_cst_1]
  simp only [v0, v1, v7, v2_2, ← EReal.coe_one, ← EReal.coe_mul, ← EReal.coe_sub, ← EReal.coe_add]
  congr 1
  simp only [toG]
  ring

theorem res_u (r f) : val_main_v12 (F := Ideal) (up h) (up wg) (up wd) (up d) (ix2 r f)
    = (toU (prodT d wd r f) (prod h wg r f) : EReal) := by
  pointwise [val_main_v12, val_main_v8, val_main_v2_0]
  simp only [v0, v7, v2_2, ← EReal.coe_mul]
  congr 1
  simp only [toU]
  ring

end Cert.Reference4Ideal.Gate

namespace Cert.Kernel4Ideal.Gate
open Cert.Kernel4Ideal Cert.Kernel4Ideal.Gen Cert.Gate

/-! ## One slab of rows of a block -/

/-- The logistic function of a slab. -/
theorem pay2 (g : S128x512.Idx → ℝ) (q k) : k0_pay2 (F := Ideal) (up g) (ix2 q k) = (sg (g (ix2 q k)) : EReal) := by
  pointwise [k0_pay2, k0_pay1]
  simp only [up, ofBits_half, ← EReal.coe_mul, Ideal.tanh_coe, ← EReal.coe_add, sg_tanh]

theorem pay4 (a g u : S128x512.Idx → ℝ) (q k) : k0_pay4 (F := Ideal) (up a) (up g) (up u) (ix2 q k)
    = (toG (a (ix2 q k)) (g (ix2 q k)) (u (ix2 q k)) : EReal) := by
  pointwise [k0_pay4, k0_pay3, k0_pay1]
  simp only [pay2, up, ← EReal.coe_one, ← EReal.coe_mul, ← EReal.coe_sub, ← EReal.coe_add, toG]

theorem pay5 (a g : S128x512.Idx → ℝ) (q k) : k0_pay5 (F := Ideal) (up a) (up g) (ix2 q k) = (toU (a (ix2 q k)) (g (ix2 q k)) : EReal) := by
  pointwise [k0_pay5, k0_pay3, k0_pay1]
  simp only [pay2, up, ← EReal.coe_mul, toU]

/-- The slab of the rows from `o` on. -/
abbrev slab (o : ℕ) (ho : o + 128 ≤ 1024) (x : S1024x512.Idx → ℝ) : S128x512.Idx → ℝ :=
  fun y => x (ix2 ⟨o + (y 0).val, by have := (y 0).isLt; simp [S128x512] at this; omega⟩ (y 1))

theorem slice (o : ℕ) (ho : o + 128 ≤ 1024) (hs : S1024x512.Slices ![o, 0] S128x512) (x : S1024x512.Idx → ℝ) :
    extractStridedSlice S128x512 ![o, 0] (up x) hs = up (slab o ho x) := by
  funext y
  refine extractStridedSlice_apply _ _ _ _ _ fun a => ?_
  match a with
  | ⟨0, _⟩ => rfl
  | ⟨1, _⟩ => exact (Nat.zero_add _).symm

theorem load (o : ℕ) (ho : o + 128 ≤ 1024) (hb : ∀ a, (![o, 0] : Fin 2 → ℕ) a + S128x512.size a ≤ S1024x512.size a) (x : S1024x512.Idx → ℝ) :
    View.ld (Val := Elt Ideal) (e' := .bf16) (up x) (Rect.unit (s := S1024x512) ![o, 0] S128x512.size hb) = (up (slab o ho x) : FVec Ideal S128x512 .bf16) := by
  funext y
  refine congrArg (fun i => ((x i : ℝ) : EReal)) (funext fun a => Fin.ext ?_)
  match a with
  | ⟨0, _⟩ => exact congrArg (o + ·) (Nat.one_mul _)
  | ⟨1, _⟩ => exact (Nat.zero_add _).trans (Nat.one_mul _)

/-! ## One block -/

section block
variable (d : S1024x2048.Idx → ℝ) (w : S512x2048.Idx → ℝ) (g u : S1024x512.Idx → ℝ)

/-- The product of the block's rows with the block of the matrix. -/
abbrev blockDot : S1024x512.Idx → ℝ := fun y => prodT d w (y 0) (y 1)

theorem dot : k0_pay6 (F := Ideal) (up d) (up w) = up (blockDot d w) := by
  funext y
  rw [show y = ix2 (y 0) (y 1) by blk_ext]
  pointwise [k0_pay6]
  simp only [up, ← EReal.coe_mul, coe_sum]
  rfl

/-- What the body leaves in the two output blocks. -/
abbrev leftG : S1024x512.Idx → EReal := fun y => (toG (blockDot d w y) (g y) (u y) : EReal)
abbrev leftU : S1024x512.Idx → EReal := fun y => (toU (blockDot d w y) (g y) : EReal)

/-- The place in the block of entry `x` of the slab from `o` on. -/
theorem place_slab (o : ℕ) (ho : o + 128 ≤ 1024) (hb : ∀ a, (![o, 0] : Fin 2 → ℕ) a + S128x512.size a ≤ S1024x512.size a) (x : S128x512.Idx) :
    (Rect.unit (s := S1024x512) ![o, 0] S128x512.size hb).emb x
      = ix2 ⟨o + (x 0).val, by have := (x 0).isLt; simp [S128x512] at this; omega⟩ (x 1) := by
  refine funext fun a => Fin.ext ?_
  match a with
  | ⟨0, _⟩ => exact congrArg (o + ·) (Nat.one_mul _)
  | ⟨1, _⟩ => exact (Nat.zero_add _).trans (Nat.one_mul _)

/-- One store of each output: the slab's part of what the body leaves. -/
theorem storeG (o : ℕ) (ho : o + 128 ≤ 1024) (hb : ∀ a, (![o, 0] : Fin 2 → ℕ) a + S128x512.size a ≤ S1024x512.size a)
    (hs : S1024x512.Slices ![o, 0] S128x512) (x : S128x512.Idx) :
    k0_pay4 (F := Ideal) (extractStridedSlice S128x512 ![o, 0] (k0_pay6 (F := Ideal) (up d) (up w)) hs)
        (k0_pay56 (F := Ideal) (View.ld (Val := Elt Ideal) (e' := .bf16) (up g) (Rect.unit (s := S1024x512) ![o, 0] S128x512.size hb)))
        (View.ld (Val := Elt Ideal) (e' := .bf16) (up u) (Rect.unit (s := S1024x512) ![o, 0] S128x512.size hb)) x
      = leftG d w g u ((Rect.unit (s := S1024x512) ![o, 0] S128x512.size hb).emb x) := by
  rw [place_slab o ho hb x, dot, slice o ho hs, load o ho hb g, load o ho hb u, show x = ix2 (x 0) (x 1) by blk_ext,
    show k0_pay56 (F := Ideal) (up (slab o ho g)) = up (slab o ho g) from shapeCast_self _ _]
  exact pay4 _ _ _ _ _

theorem storeU (o : ℕ) (ho : o + 128 ≤ 1024) (hb : ∀ a, (![o, 0] : Fin 2 → ℕ) a + S128x512.size a ≤ S1024x512.size a)
    (hs : S1024x512.Slices ![o, 0] S128x512) (x : S128x512.Idx) :
    k0_pay5 (F := Ideal) (extractStridedSlice S128x512 ![o, 0] (k0_pay6 (F := Ideal) (up d) (up w)) hs)
        (k0_pay56 (F := Ideal) (View.ld (Val := Elt Ideal) (e' := .bf16) (up g) (Rect.unit (s := S1024x512) ![o, 0] S128x512.size hb))) x
      = leftU d w g ((Rect.unit (s := S1024x512) ![o, 0] S128x512.size hb).emb x) := by
  rw [place_slab o ho hb x, dot, slice o ho hs, load o ho hb g, show x = ix2 (x 0) (x 1) by blk_ext,
    show k0_pay56 (F := Ideal) (up (slab o ho g)) = up (slab o ho g) from shapeCast_self _ _]
  exact pay5 _ _ _ _

theorem whole0 : View.ld (Val := Elt Ideal) (e' := .bf16) (up d) r0_0 = up d := View.ld_unit_zero (by decide) _ _
theorem whole1 : View.ld (Val := Elt Ideal) (e' := .bf16) (up w) r0_1 = up w := View.ld_unit_zero (by decide) _ _

/-- A block's entry is the entry of the last store that covers it. -/
theorem canon_pieces {s : Shape} {e : EltTy} (G : s.Idx → Elt Ideal e) (L : List (View.Piece (Elt Ideal) s e)) (h : View.PiecesOf G L) (y : s.Idx)
    (hc : ∃ p ∈ L, y ∈ p.1.set) : View.canon L y = G y := by
  simpa using View.canon_append_of_piecesOf G [] L h y hc

theorem outG (y : S1024x512.Idx) : out0_4 (F := Ideal) (up d) (up w) (up g) (up u) y = leftG d w g u y := by
  unfold_out out0_4
  rw [whole0, whole1]
  refine canon_pieces (leftG d w g u) _ ?_ y (cover0_4 _ _ _ _ _ _ _ _ y)
  exact ⟨storeG d w g u 896 (by decide) _ (by decide), storeG d w g u 768 (by decide) _ (by decide), storeG d w g u 640 (by decide) _ (by decide),
    storeG d w g u 512 (by decide) _ (by decide), storeG d w g u 384 (by decide) _ (by decide), storeG d w g u 256 (by decide) _ (by decide),
    storeG d w g u 128 (by decide) _ (by decide), storeG d w g u 0 (by decide) _ (by decide), trivial⟩

theorem outU (y : S1024x512.Idx) : out0_5 (F := Ideal) (up d) (up w) (up g) (up u) y = leftU d w g y := by
  unfold_out out0_5
  rw [whole0, whole1]
  refine canon_pieces (leftU d w g) _ ?_ y (cover0_5 _ _ _ _ _ _ _ _ y)
  exact ⟨storeU d w g 896 (by decide) _ (by decide), storeU d w g 768 (by decide) _ (by decide), storeU d w g 640 (by decide) _ (by decide),
    storeU d w g 512 (by decide) _ (by decide), storeU d w g 384 (by decide) _ (by decide), storeU d w g 256 (by decide) _ (by decide),
    storeU d w g 128 (by decide) _ (by decide), storeU d w g 0 (by decide) _ (by decide), trivial⟩

end block

/-! ## The blocks of the arrays -/

variable {m : (ℓ : Loc nD τ sig) → Buf (Elt Ideal) ℓ} {h : S8192x2048.Idx → ℝ} {wg wu : S2048x5632.Idx → ℝ} {wd : S5632x2048.Idx → ℝ}
  {d : S8192x2048.Idx → ℝ} {c : Dev nD}

/-- Where each window's block lies at each point. -/
theorem idx : ∀ t : Fin cfg0.N, win0_0.index t = ![t.val / 11, 0] ∧ win0_1.index t = ![t.val % 11, 0]
    ∧ win0_2.index t = ![t.val / 11, t.val % 11] ∧ win0_3.index t = ![t.val / 11, t.val % 11]
    ∧ win0_4.index t = ![t.val / 11, t.val % 11] ∧ win0_5.index t = ![t.val / 11, t.val % 11] :=
  (by decide +kernel : ∀ t : Fin grid0.N, _)

/-- The arguments are real numbers. -/
structure At (m : (ℓ : Loc nD τ sig) → Buf (Elt Ideal) ℓ) (h : S8192x2048.Idx → ℝ) (wg wu : S2048x5632.Idx → ℝ) (wd : S5632x2048.Idx → ℝ)
    (d : S8192x2048.Idx → ℝ) (c : Dev nD) : Prop where
  h0 : m ((c : Thread nD τ).loc main_arg0) = up (s := S8192x2048) h
  h1 : m ((c : Thread nD τ).loc main_arg1) = up (s := S2048x5632) wg
  h2 : m ((c : Thread nD τ).loc main_arg2) = up (s := S2048x5632) wu
  h3 : m ((c : Thread nD τ).loc main_arg3) = up (s := S5632x2048) wd
  h4 : m ((c : Thread nD τ).loc main_arg4) = up (s := S8192x2048) d

theorem N88 (t : Fin cfg0.N) : t.val < 88 := lt_of_lt_of_eq t.isLt N_0

/-- The array's row and column of row `q` and column `k` of point `t`'s block. -/
def row (t : Fin cfg0.N) (q : Fin 1024) : Fin 8192 := ⟨1024 * (t.val / 11) + q.val, by have := N88 t; omega⟩
def col (t : Fin cfg0.N) (k : Fin 512) : Fin 5632 := ⟨512 * (t.val % 11) + k.val, by omega⟩

/-- The parts of the arrays that point `t` reads. -/
def dblk (d : S8192x2048.Idx → ℝ) (t : Fin cfg0.N) : S1024x2048.Idx → ℝ := fun y => d (ix2 (row t (y 0)) (y 1))
def wblk (wd : S5632x2048.Idx → ℝ) (t : Fin cfg0.N) : S512x2048.Idx → ℝ := fun y => wd (ix2 (col t (y 0)) (y 1))
def fblk (h : S8192x2048.Idx → ℝ) (w : S2048x5632.Idx → ℝ) (t : Fin cfg0.N) : S1024x512.Idx → ℝ :=
  fun y => prod h w (row t (y 0)) (col t (y 1))

theorem blk0 (H : At m h wg wu wd d c) (t : Fin cfg0.N) : iblk m c 0 t = up (dblk d t) := by
  funext y
  blk_simp [iblk]
  entry_read
  rw [show m (c, Proc.tc.devRef main_arg4) = _ from H.h4]
  pointwise
  simp only [up, dblk]
  blk_point [idx t, row]

theorem blk1 (H : At m h wg wu wd d c) (t : Fin cfg0.N) : iblk m c 1 t = up (wblk wd t) := by
  funext y
  blk_simp [iblk]
  entry_read
  rw [show m (c, Proc.tc.devRef main_arg3) = _ from H.h3]
  pointwise
  simp only [up, wblk]
  blk_point [idx t, col]

theorem blk2 (H : At m h wg wu wd d c) (t : Fin cfg0.N) : iblk m c 2 t = up (fblk h wg t) := by
  funext y
  blk_simp [iblk]
  entry_read
  rw [show m (c, Proc.tc.devRef main_arg0) = _ from H.h0, show m (c, Proc.tc.devRef main_arg1) = _ from H.h1]
  pointwise
  simp only [up, ← EReal.coe_mul, coe_sum, fblk, prod]
  blk_point [idx t, row, col]

theorem blk3 (H : At m h wg wu wd d c) (t : Fin cfg0.N) : iblk m c 3 t = up (fblk h wu t) := by
  funext y
  blk_simp [iblk]
  entry_read
  rw [show m (c, Proc.tc.devRef main_arg0) = _ from H.h0, show m (c, Proc.tc.devRef main_arg2) = _ from H.h2]
  pointwise
  simp only [up, ← EReal.coe_mul, coe_sum, fblk, prod]
  blk_point [idx t, row, col]

/-- Where a point's entry goes in the output arrays. -/
theorem place (t : Fin cfg0.N) (y : S1024x512.Idx) :
    (((cfg0.win 4).blk t).view.emb y : S8192x5632.Idx) = ix2 (row t (y 0)) (col t (y 1))
    ∧ (((cfg0.win 5).blk t).view.emb y : S8192x5632.Idx) = ix2 (row t (y 0)) (col t (y 1)) :=
  ⟨by blk_ext [idx t, row, col], by blk_ext [idx t, row, col]⟩

open Cert.Reference4Ideal.Read Cert.Reference4Ideal.Gate

/-- The arrays after the last point are the reference's. -/
theorem final4 (H : At m h wg wu wd d c) : (dats m 0 c).arrAt 4 (cfgs 0).N
    = val_main_v11 (F := Ideal) (up h) (up wg) (up wu) (up wd) (up d) := by
  refine (dats m 0 c).arrAt_eq_of_covers 4 _ (by decide +kernel) fun t _ y => ?_
  blk_simp
  rw [after0_4, blk0 H, blk1 H, blk2 H, blk3 H, (place t y).1]
  exact (outG _ _ _ _ y).trans (res_g h wg wu wd d _ _).symm

theorem final5 (H : At m h wg wu wd d c) : (dats m 0 c).arrAt 5 (cfgs 0).N
    = val_main_v12 (F := Ideal) (up h) (up wg) (up wd) (up d) := by
  refine (dats m 0 c).arrAt_eq_of_covers 5 _ (by decide +kernel) fun t _ y => ?_
  blk_simp
  rw [after0_5, blk0 H, blk1 H, blk2 H, blk3 H, (place t y).2]
  exact (outU _ _ _ _ y).trans (res_u h wg wd d _ _).symm

end Cert.Kernel4Ideal.Gate

end
-- ==== Proof.DaClaim.lean ====
/- The claims about the gradient of the closing layer's gated product: the runs of the three programs, and that the two of them agree on
   both results when the arguments are finite. -/
module

public import proofs.«01_k».proof.Defs
public import proofs.«01_k».proof.Proof.Da
public import proofs.«01_k».proof.Proof.Gen.Kernel4.Frame
public import proofs.«01_k».proof.Proof.Gen.Reference4Ideal.Run

@[expose] public section

noncomputable section

open Idealize.ShloMosaic Idealize.SL.Sem

namespace Cert.Proof.DaClaims

instance facts : Cert.Pre_finite_da.Facts := ⟨by decide, by decide, by decide⟩

theorem frame_p : Cert.quiescent_Kernel4 := fun m ρ _ => Cert.Kernel4.Gen.frame m ρ

theorem frame_pi : Cert.quiescent_Kernel4Ideal := fun m ρ _ => Cert.Kernel4Ideal.Gen.frame m ρ

theorem frame_ri : Cert.quiescent_Reference4Ideal := fun m ρ _ =>
  (θ_run Cert.Reference4Ideal.defs _ _).mono
    (fun r h => ⟨fun c => (h c).2.2, sem_eq_zero_of_no_sems (by decide) r.2⟩)
    (Cert.Reference4Ideal.Value.run (F := Ideal) m ρ)

open Cert.Kernel4Ideal in
/-- Finite arguments are real numbers. -/
theorem real (m : (ℓ : Loc nD τ sig) → Buf (Elt Ideal) ℓ) (hp : Cert.Pre_Kernel4Ideal_finite_da m) (c : Dev nD) :
    ∃ h wg wu wd d, Cert.Kernel4Ideal.Gate.At m h wg wu wd d c := by
  obtain ⟨h0, h1, h2, h3, h4⟩ := hp c
  obtain ⟨h, h0⟩ := Cert.Reals.real_of_below _ _ h0
  obtain ⟨wg, h1⟩ := Cert.Reals.real_of_below _ _ h1
  obtain ⟨wu, h2⟩ := Cert.Reals.real_of_below _ _ h2
  obtain ⟨wd, h3⟩ := Cert.Reals.real_of_below _ _ h3
  obtain ⟨d, h4⟩ := Cert.Reals.real_of_below _ _ h4
  exact ⟨h, wg, wu, wd, d, h0, h1, h2, h3, h4⟩

/-- At `Ideal` both programs leave the same two arrays. -/
theorem algebraic : Cert.algebraic_Kernel4Ideal_Reference4Ideal_pre_finite_da := by
  intro m g m' g' hp ha
  refine ⟨_, _, Cert.Kernel4Ideal.Value.run_blocks m g,
    (θ_run Cert.Reference4Ideal.defs _ _).mono (fun r h c => ?_) (Cert.Reference4Ideal.Value.run (F := Ideal) m' g')⟩
  obtain ⟨a0, a1, a2, a3, a4⟩ := ha c
  obtain ⟨_, _, _, _, _, H⟩ := real m hp c
  obtain ⟨r0, r1, k⟩ := h c
  rw [Cert.Reference4Ideal.Read.val_main_v11_eq, a0, a1, a2, a3, a4, H.h0, H.h1, H.h2, H.h3, H.h4] at r0
  rw [Cert.Reference4Ideal.Read.val_main_v12_eq, a0, a1, a3, a4, H.h0, H.h1, H.h3, H.h4] at r1
  exact ⟨r0.trans (Cert.Kernel4Ideal.Gate.final4 H).symm, r1.trans (Cert.Kernel4Ideal.Gate.final5 H).symm, k⟩

end Cert.Proof.DaClaims

end
-- ==== Proof.MixF.lean ====
/- The mixing layer's forward pass over the extended reals: the tanh form of GELU, the spatial gating unit of one chunk and head, the gated
   short convolution, and the whole result column by column. Nothing here asks the arguments to be finite. Rows and columns are natural
   numbers, so that a block of an array is the array read at shifted numbers. -/
module

public import proofs.«01_k».proof.Proof.Mix

@[expose] public section

noncomputable section

namespace Cert.MixF

open Idealize.ShloMosaic Cert.Reals
open Cert.Mix (gc ga)

/-! ## GELU -/

/-- The hyperbolic tangent inside GELU. -/
def th (x : EReal) : EReal := Ideal.tanh ((gc : EReal) * (x + (ga : EReal) * (x * x * x)))

/-- GELU. -/
def gelu (x : EReal) : EReal := x * (((1 / 2 : ℝ) : EReal) * (1 + th x))

theorem gc_pos : 0 < gc := by norm_num [gc]
theorem ga_pos : 0 < ga := by norm_num [ga]

/-- The tangent with the two constants multiplied together: at a real number by distributing, at an infinity because both arguments are it. -/
theorem th_eq (x : EReal) : Ideal.tanh (x * ((gc : EReal) + ((80338380498831 / 2251799813685248 : ℝ) : EReal) * (x * x))) = th x := by
  rw [th]
  congr 1
  have hk : (0 : ℝ) < 80338380498831 / 2251799813685248 := by norm_num
  induction x using EReal.rec with
  | bot => simp [EReal.coe_mul_top_of_pos hk, EReal.coe_mul_bot_of_pos gc_pos, EReal.coe_mul_bot_of_pos ga_pos]
  | top => simp [EReal.coe_mul_top_of_pos hk, EReal.coe_mul_top_of_pos gc_pos, EReal.coe_mul_top_of_pos ga_pos]
  | coe r =>
    simp only [← EReal.coe_mul, ← EReal.coe_add]
    congr 1
    simp only [gc, ga]
    ring

theorem gelu_eq (x : EReal) : ((1 / 2 : ℝ) : EReal) * x * (1 + th x) = gelu x := by rw [gelu, mul_comm _ x, mul_assoc]

/-! ## The spatial gating unit on one chunk and head -/

/-- The mean of a row. -/
def mean (x : Fin 128 → EReal) : EReal := Ideal.div (∑ k, x k) ((128 : ℝ) : EReal)
/-- A row's deviation from its mean. -/
def dev (x : Fin 128 → EReal) (k : Fin 128) : EReal := x k - mean x
/-- The normalized row. -/
def hat (x : Fin 128 → EReal) (k : Fin 128) : EReal := dev x k * Ideal.rsqrt (mean (fun j => dev x j * dev x j) + (eps : EReal))

section head
variable (zu zv : Fin 128 → Fin 128 → EReal) (w : Fin 128 → Fin 128 → EReal) (b g e : Fin 128 → EReal)

/-- The lower triangle of the mixing matrix. -/
def low (t s : Fin 128) : EReal := if s ≤ t then w t s else 0
/-- The normalized row of the second half with scale and shift. -/
def vn (s d : Fin 128) : EReal := hat (fun k => gelu (zv s k)) d * g d + e d
/-- The rows mixed along the chunk. -/
def mixed (t d : Fin 128) : EReal := (∑ s, low w t s * vn zv g e s d) + b t
/-- The gated rows. -/
def gated (t d : Fin 128) : EReal := gelu (zu t d) * mixed zv w b g e t d

end head

/-! ## The layer -/

/-- The arguments of the layer, its bias added to the projection. -/
structure Args where
  p : ℕ → ℕ → EReal
  pb : ℕ → EReal
  w : ℕ → ℕ → ℕ → EReal
  b : ℕ → ℕ → EReal
  g : ℕ → EReal
  e : ℕ → EReal
  c : ℕ → ℕ → EReal

namespace Args
variable (A : Args)

/-- The projection with its bias. -/
def z (r k : ℕ) : EReal := A.p r k + A.pb k

def zu (n h : ℕ) (t d : Fin 128) : EReal := A.z (128 * n + t) (128 * h + d)
def zv (n h : ℕ) (t d : Fin 128) : EReal := A.z (128 * n + t) (1024 + 128 * h + d)
def wh (h : ℕ) (t s : Fin 128) : EReal := A.w h t s
def bh (h : ℕ) (t : Fin 128) : EReal := A.b h t
def gh (h : ℕ) (d : Fin 128) : EReal := A.g (128 * h + d)
def eh (h : ℕ) (d : Fin 128) : EReal := A.e (128 * h + d)

/-- The spatial gating unit's result in chunk `n` and head `h`. -/
def head (n h : ℕ) : Fin 128 → Fin 128 → EReal := gated (A.zu n h) (A.zv n h) (A.wh h) (A.bh h) (A.gh h) (A.eh h)

/-- The product that the convolution reads. -/
def hc (r k : ℕ) : EReal := A.z r (3072 + k) * A.z r (4096 + k)
/-- The same one row earlier. -/
def h1 (r k : ℕ) : EReal := if r < 1 then 0 else A.hc (r - 1) k
/-- The same two rows earlier. -/
def h2 (r k : ℕ) : EReal := if r < 2 then 0 else A.hc (r - 2) k
/-- The gated convolution's result. -/
def conv (r k : ℕ) : EReal := A.z r (2048 + k) * (A.c 0 k * A.h2 r k + A.c 1 k * A.h1 r k + A.c 2 k * A.hc r k)

/-- The layer's result. -/
def y (r k : ℕ) : EReal :=
  if k < 1024 then A.head (r / 128) (k / 128) ⟨r % 128, Nat.mod_lt _ (by decide)⟩ ⟨k % 128, Nat.mod_lt _ (by decide)⟩
  else A.conv r (k - 1024)

theorem y_head (n s : ℕ) (hs : s < 8) (t d : Fin 128) : A.y (128 * n + t) (128 * s + d) = A.head n s t d := by
  have ht := t.isLt; have hd := d.isLt
  have e1 : (128 * n + t.val) / 128 = n := by omega
  have e2 : (128 * n + t.val) % 128 = t := by omega
  have e3 : (128 * s + d.val) / 128 = s := by omega
  have e4 : (128 * s + d.val) % 128 = d := by omega
  simp only [y, if_pos (show 128 * s + d.val < 1024 by omega), e1, e2, e3, e4]

theorem y_conv (r k : ℕ) : A.y r (1024 + k) = A.conv r k := by
  simp only [y, if_neg (show ¬ 1024 + k < 1024 by omega), show 1024 + k - 1024 = k by omega]

/-- The rows around a block of 256 rows, numbered from its first: the two before it come from the block of eight rows before. -/
theorem rows1 (t r k : ℕ) : (if r = 0 then A.hc (8 * (32 * t - 1) + 7) k * (if t = 0 then 0 else 1) else A.hc (256 * t + (r - 1)) k)
    = A.h1 (256 * t + r) k := by
  rw [h1]
  by_cases h : r = 0
  · by_cases h' : t = 0
    · rw [if_pos h, if_pos h', if_pos (by omega), mul_zero]
    · rw [if_pos h, if_neg h', if_neg (by omega), mul_one, show 256 * t + r - 1 = 8 * (32 * t - 1) + 7 by omega]
  · rw [if_neg h, if_neg (by omega), show 256 * t + r - 1 = 256 * t + (r - 1) by omega]

theorem rows2 (t r k : ℕ) : (if r = 0 then A.hc (8 * (32 * t - 1) + 6) k * (if t = 0 then 0 else 1)
      else if r = 1 then A.hc (8 * (32 * t - 1) + 7) k * (if t = 0 then 0 else 1) else A.hc (256 * t + (r - 2)) k)
    = A.h2 (256 * t + r) k := by
  rw [h2]
  by_cases h : r = 0
  · by_cases h' : t = 0
    · rw [if_pos h, if_pos h', if_pos (by omega), mul_zero]
    · rw [if_pos h, if_neg h', if_neg (by omega), mul_one, show 256 * t + r - 2 = 8 * (32 * t - 1) + 6 by omega]
  by_cases h1 : r = 1
  · by_cases h' : t = 0
    · rw [if_neg h, if_pos h1, if_pos h', if_pos (by omega), mul_zero]
    · rw [if_neg h, if_pos h1, if_neg h', if_neg (by omega), mul_one, show 256 * t + r - 2 = 8 * (32 * t - 1) + 7 by omega]
  · rw [if_neg h, if_neg h1, if_neg (by omega), show 256 * t + r - 2 = 256 * t + (r - 2) by omega]

end Args

end Cert.MixF

end
-- ==== Proof.MixFHead.lean ====
/- What the kernel of the mixing layer's forward pass stores for one chunk and head and for one slice of the convolution's columns. -/
module

public import proofs.«01_k».proof.Proof.Gen.Kernel5Ideal.Frame
public import proofs.«01_k».proof.Proof.MixF
public import proofs.«01_k».proof.Proof.MixKernel
public import Idealize.ShloMosaic.Lib.Pipeline.ValueKit

@[expose] public section
set_option maxRecDepth 16384
noncomputable section
open Idealize.ShloMosaic Idealize.ShloMosaic.TcCoe
open Cert.MixF
open Cert.Reals (eps ofBits_eps)
open Cert.Mix (ofBits_gc ofBits_half ofBits_128)

namespace Cert.Kernel5Ideal.MixF
open Cert.Kernel5Ideal Cert.Kernel5Ideal.Gen

/-- A block by rows and columns. -/
def mat {n : ℕ} (f : Fin n → Fin 128 → EReal) : FVec Ideal ⟨2, ![n, 128]⟩ .f32 := fun i => f (i 0) (i 1)
/-- A block with a leading axis of one. -/
def mat3 (f : Fin 128 → Fin 128 → EReal) : FVec Ideal S1x128x128 .f32 := fun i => f (i 1) (i 2)
/-- A row. -/
def vec (f : Fin 128 → EReal) : FVec Ideal S1x128 .f32 := fun i => f (i 1)

theorem mat_at {n : ℕ} (f : Fin n → Fin 128 → EReal) (t : Fin n) (d : Fin 128) : mat f (ix2 t d) = f t d := rfl
theorem mat3_at (f : Fin 128 → Fin 128 → EReal) (t d : Fin 128) : mat3 f (ix3 0 t d) = f t d := rfl
theorem vec_at (f : Fin 128 → EReal) (d : Fin 128) : vec f (ix2 0 d) = f d := rfl

theorem named_ca : Named.named (F := Ideal) (φ := .f32) κ "gelu_ca" 0x3D122279#32 = ((80338380498831 / 2251799813685248 : ℝ) : EReal) := rfl

section head
variable (zu zv : Fin 128 → Fin 128 → EReal) (w : Fin 128 → Fin 128 → EReal) (b g e : Fin 128 → EReal)

theorem pay4 (t d : Fin 128) : k0_pay4 (F := Ideal) (mat zu) (ix2 t d) = gelu (zu t d) := by
  pointwise [k0_pay4]
  simp only [named_ca, ofBits_gc, ofBits_half, mat_at, mat3_at, vec_at, th_eq, gelu_eq]

theorem pay5 (t d : Fin 128) : k0_pay5 (F := Ideal) (mat zv) (ix2 t d) = gelu (zv t d) := pay4 zv t d

theorem pay6 (t d : Fin 128) : k0_pay6 (F := Ideal) (mat zv) (ix2 t d) = mean (fun k => gelu (zv t k)) := by
  pointwise [k0_pay6]
  simp only [pay5, ofBits_128]
  rfl

theorem mask (t s : Fin 128) : k0_pay2 (ix2 t s) = if s ≤ t then 1#1 else 0#1 := by
  pointwise [k0_pay2]
  have ht := t.isLt; have hs := s.isLt
  by_cases h : s ≤ t
  · rw [if_pos h, WordCmp.cmpi_sge_ofNat_eq_one_iff (by omega) (by omega)]; exact h
  · rw [if_neg h, WordCmp.cmpi_sge_ofNat_eq_zero_iff (by omega) (by omega)]; exact h

theorem pay3 (t s : Fin 128) : k0_pay3 (F := Ideal) (mat3 w) (ix2 t s) = low w t s := by
  pointwise [k0_pay3]
  rw [mask, low]
  by_cases h : s ≤ t
  · rw [if_pos h, if_pos h]; rfl
  · rw [if_neg h, if_neg h]; rfl

theorem pay7 (t d : Fin 128) : k0_pay7 (F := Ideal) (k0_pay3 (mat3 w)) (k0_pay4 (mat zu)) (k0_pay5 (mat zv)) (k0_pay6 (mat zv)) (vec g) (vec e)
    (mat3 fun t _ => b t) (ix2 t d) = gated zu zv w b g e t d := by
  pointwise [k0_pay7]
  simp only [pay3, pay4, pay5, pay6, ofBits_128, ofBits_eps, mat_at, mat3_at, vec_at]
  simp only [gated, mixed, vn, hat, dev, mean]

end head

section slice
variable (zb zc zx : Fin 256 → Fin 128 → EReal) (k : EReal) (p q p' q' w0 w1 w2 : Fin 128 → EReal)

/-- A number of the lanes' rows compared with a row. -/
theorem lane_eq {α : Type} (t : Fin 256) (j : ℕ) (hj : j < 128) (x y : α) :
    Scalar.select (IntOp.cmpi .eq (BitVec.ofNat 32 t.val) (BitVec.ofNat 32 j)) x y = if t.val = j then x else y := by
  have ht := t.isLt
  by_cases h : t.val = j
  · rw [if_pos h, (WordCmp.cmpi_eq_ofNat_eq_one_iff (by omega) (by omega)).mpr h]; rfl
  · rw [if_neg h, (WordCmp.cmpi_eq_ofNat_eq_zero_iff (by omega) (by omega)).mpr h]; rfl

/-- The number of each lane's row. -/
def lane : IVec S256x128 32 := iota .tc S256x128 32 [0] iota_S256x128_d0_w32

/-- The product of the gates one row earlier, the row before the first given. -/
def back1 (t : Fin 256) (d : Fin 128) : EReal :=
  if t.val = 0 then p d * q d * k else zc ⟨t.val - 1, by omega⟩ d * zx ⟨t.val - 1, by omega⟩ d
/-- The same two rows earlier. -/
def back2 (t : Fin 256) (d : Fin 128) : EReal :=
  if t.val = 0 then p' d * q' d * k else if t.val = 1 then p d * q d * k else zc ⟨t.val - 2, by omega⟩ d * zx ⟨t.val - 2, by omega⟩ d

theorem pay126 (t : Fin 256) (d : Fin 128) : k0_pay126 (F := Ideal) k lane (mat zc) (mat zx) (vec p) (vec q) (ix2 t d) = back1 zc zx k p q t d := by
  pointwise [k0_pay126, k0_pay124, k0_pay125, lane]
  simp only [mat_at, mat3_at, vec_at]
  rw [lane_eq t 0 (by decide), back1]
  split
  · rfl
  · congr <;> (have := t.isLt; omega)

theorem pay127 (t : Fin 256) (d : Fin 128) : k0_pay127 (F := Ideal) k lane (mat zc) (mat zx) (vec p) (vec q) (vec p') (vec q') (vec w0) (ix2 t d)
    = w0 d * back2 zc zx k p q p' q' t d := by
  pointwise [k0_pay127, k0_pay124, k0_pay125, lane]
  simp only [mat_at, mat3_at, vec_at]
  rw [lane_eq t 0 (by decide), lane_eq t 1 (by decide), back2]
  congr 1
  split
  · rfl
  split
  · rfl
  · congr <;> (have := t.isLt; omega)

theorem pay1 (t : Fin 256) (d : Fin 128) : k0_pay1 (F := Ideal) (k0_pay124 (mat zc) (mat zx)) (k0_pay126 k lane (mat zc) (mat zx) (vec p) (vec q))
      (k0_pay127 k lane (mat zc) (mat zx) (vec p) (vec q) (vec p') (vec q') (vec w0)) (vec w1) (vec w2) (mat zb) (ix2 t d)
    = zb t d * (w0 d * back2 zc zx k p q p' q' t d + w1 d * back1 zc zx k p q t d + w2 d * (zc t d * zx t d)) := by
  pointwise [k0_pay1, k0_pay124]
  simp only [pay126, pay127, mat_at, mat3_at, vec_at]

end slice

/-! ## What is stored -/

section stored
variable (ZU ZV : FVec Ideal S128x128 .f32) (ZB ZC ZX : FVec Ideal S256x128 .f32) (W BS : FVec Ideal S1x128x128 .f32)
  (GV BV P0 Q0 P1 Q1 W0 W1 W2 : FVec Ideal S1x128 .f32) (K : Ideal .f32)

/-- One chunk and head. -/
def stH := k0_pay7 (F := Ideal) (k0_pay3 W) (k0_pay4 ZU) (k0_pay5 ZV) (k0_pay6 ZV) GV BV BS
/-- One slice of the convolution's columns. -/
def stC := k0_pay1 (F := Ideal) (k0_pay124 ZC ZX) (k0_pay126 K lane ZC ZX P0 Q0) (k0_pay127 K lane ZC ZX P0 Q0 P1 Q1 W0) W1 W2 ZB

end stored

end Cert.Kernel5Ideal.MixF

end
-- ==== Proof.MixFKernel.lean ====
/- The blocks that the kernel of the mixing layer's forward pass reads at each point, what each store leaves, and the array after the last point. -/
module

public import proofs.«01_k».proof.Proof.MixFHead

@[expose] public section
set_option maxRecDepth 16384
noncomputable section
open Idealize.ShloMosaic Idealize.ShloMosaic.TcCoe Idealize.ShloMosaic.Tactic
open Cert.Reals Cert.MixF
open Cert.Kernel2Ideal.Mix (cutR cut3 cutE cutW canon_pieces scatter_row ofWord)

namespace Cert.Kernel5Ideal.MixF
open Cert.Kernel5Ideal Cert.Kernel5Ideal.Gen

variable (m : (ℓ : Loc nD τ sig) → Buf (Elt Ideal) ℓ)

/-- The arguments, by rows and columns. -/
structure At (A : Args) (c : Dev nD) : Prop where
  h0 : m ((c : Thread nD τ).loc main_arg0) = fun i : S8192x5120.Idx => A.p (i 0) (i 1)
  h1 : m ((c : Thread nD τ).loc main_arg1) = fun i : S1x5120.Idx => A.pb (i 1)
  h2 : m ((c : Thread nD τ).loc main_arg2) = fun i : S1x8x128x128.Idx => A.w (i 1) (i 2) (i 3)
  h3 : m ((c : Thread nD τ).loc main_arg3) = fun i : S1x8x128.Idx => A.b (i 1) (i 2)
  h4 : m ((c : Thread nD τ).loc main_arg4) = fun i : S1x1024.Idx => A.g (i 1)
  h5 : m ((c : Thread nD τ).loc main_arg5) = fun i : S1x1024.Idx => A.e (i 1)
  h6 : m ((c : Thread nD τ).loc main_arg6) = fun i : S1x3x1024.Idx => A.c (i 1) (i 2)

/-- Which block each window reads or writes at a point. -/
theorem idx : ∀ t : Fin cfg0.N, win0_0.index t = ![t.val, 0] ∧ win0_1.index t = ![32 * t.val - 1, 0] ∧ win0_2.index t = ![0, 0, 0]
    ∧ win0_3.index t = ![0, 0, 0] ∧ win0_4.index t = ![0, 0] ∧ win0_5.index t = ![0, 0] ∧ win0_6.index t = ![0, 0] ∧ win0_7.index t = ![t.val, 0] :=
  (by decide +kernel : ∀ t : Fin grid0.N, _)

theorem N32 (t : Fin cfg0.N) : t.val < 32 := lt_of_lt_of_eq t.isLt N_0

variable {m} {A : Args} {c : Dev nD}

theorem V_eq (b : Ref sig .tc) : V m c b = StableHlo.after hostOps0 (fun b => m (c, b)) (Proc.devRef .tc b) := by
  show StableHlo.after [hostOps0].flatten _ _ = _
  rw [List.flatten_singleton]

/-! ## The blocks -/

theorem blk0 (H : At m A c) (t : Fin cfg0.N) : iblk m c 0 t = fun y : S256x5120.Idx => A.z (t.val * 256 + y 0) (y 1) := by
  funext y
  blk_simp [iblk]
  rw [V_eq]
  entry_read
  rw [show m (c, Proc.tc.devRef main_arg0) = _ from H.h0, show m (c, Proc.tc.devRef main_arg1) = _ from H.h1]
  pointwise
  simp only [Args.z]
  blk_point [idx t]

theorem blk1 (H : At m A c) (t : Fin cfg0.N) : iblk m c 1 t = fun y : S8x5120.Idx => A.z ((32 * t.val - 1) * 8 + y 0) (y 1) := by
  funext y
  blk_simp [iblk]
  rw [V_eq]
  entry_read
  rw [show m (c, Proc.tc.devRef main_arg0) = _ from H.h0, show m (c, Proc.tc.devRef main_arg1) = _ from H.h1]
  pointwise
  simp only [Args.z]
  blk_point [idx t]

theorem blk2 (H : At m A c) (t : Fin cfg0.N) : iblk m c 2 t = fun y : S8x128x128.Idx => A.w (y 0) (y 1) (y 2) := by
  funext y
  blk_simp [iblk]
  rw [V_eq]
  entry_read
  rw [show m (c, Proc.tc.devRef main_arg2) = _ from H.h2]
  pointwise
  blk_point [idx t]

theorem blk3 (H : At m A c) (t : Fin cfg0.N) : iblk m c 3 t = fun y : S8x128x128.Idx => A.b (y 0) (y 1) := by
  funext y
  blk_simp [iblk]
  rw [V_eq]
  entry_read
  rw [show m (c, Proc.tc.devRef main_arg3) = _ from H.h3]
  pointwise
  blk_point [idx t]

theorem blk4 (H : At m A c) (t : Fin cfg0.N) : iblk m c 4 t = fun y : S1x1024.Idx => A.g (y 1) := by
  funext y
  blk_simp [iblk]
  rw [V_main_arg4, H.h4]
  blk_point [idx t]

theorem blk5 (H : At m A c) (t : Fin cfg0.N) : iblk m c 5 t = fun y : S1x1024.Idx => A.e (y 1) := by
  funext y
  blk_simp [iblk]
  rw [V_main_arg5, H.h5]
  blk_point [idx t]

theorem blk6 (H : At m A c) (t : Fin cfg0.N) (j : Fin 3) (k : Fin 1024) :
    (iblk m c 6 t : FVec Ideal S8x1024 .f32) (ix2 ⟨j.val, by omega⟩ k) = A.c j k := by
  blk_simp [iblk]
  rw [V_eq]
  entry_read
  rw [show m (c, Proc.tc.devRef main_arg6) = _ from H.h6]
  rw [show (((View.whole main_v8).slice (win0_6.rect t)).emb (ix2 ⟨j.val, by omega⟩ k) : S8x1024.Idx) = ix2 ⟨j.val, by omega⟩ k from by blk_ext [idx t]]
  refine (scatter_row _ _ _ (fun _ => rfl) j k).trans ?_
  pointwise

/-- One when a point has a point before it, else zero. -/
theorem keep_eq : ∀ t : Fin cfg0.N, k0_pay86 (F := Ideal) (BitVec.ofNat 32 ↑(grid0.coords t 0)) = if t.val = 0 then 0 else 1 := fun t => by
  have h : Scalar.extui (Scalar.cmpi .sgt (BitVec.ofNat 32 ↑(grid0.coords t 0)) 0#32) = if t.val = 0 then 0#32 else 1#32 :=
    (by decide +kernel : ∀ t : Fin grid0.N, Scalar.extui (Scalar.cmpi .sgt (BitVec.ofNat 32 ↑(grid0.coords t 0)) 0#32) = if t.val = 0 then 0#32 else 1#32) t
  show Scalar.sitofp (F := Ideal) .f32 _ = _
  rw [h]
  split
  · exact ofWord.1
  · exact ofWord.2

/-! ## The parts of the blocks that one chunk and head or one slice reads -/

/-- 128 rows of 128 columns. -/
def cut (X : FVec Ideal S256x5120 .f32) (r o : ℕ) (hr : r + 128 ≤ 256) (ho : o + 128 ≤ 5120) : FVec Ideal S128x128 .f32 :=
  fun x => X ((Rect.unit (s := S256x5120) ![r, o] ![128, 128] (by intro a; fin_cases a <;> simp [S256x5120] <;> omega)).idx x)
/-- All the rows of 128 columns. -/
def cutA (X : FVec Ideal S256x5120 .f32) (o : ℕ) (ho : o + 128 ≤ 5120) : FVec Ideal S256x128 .f32 :=
  fun x => X ((Rect.unit (s := S256x5120) ![0, o] ![256, 128] (by intro a; fin_cases a <;> simp [S256x5120]; omega)).idx x)

section parts
variable (H : At m A c) (t : Fin cfg0.N)
include H

theorem cut_z (r o : ℕ) (hr : r + 128 ≤ 256) (ho : o + 128 ≤ 5120) :
    cut (iblk m c 0 t) r o hr ho = mat fun q d => A.z (256 * t.val + r + q) (o + d) := by
  funext x
  rw [cut, blk0 H]
  simp [mat, mul_comm, add_assoc]
theorem cut_a (o : ℕ) (ho : o + 128 ≤ 5120) : cutA (iblk m c 0 t) o ho = mat fun q d => A.z (256 * t.val + q) (o + d) := by
  funext x
  rw [cutA, blk0 H]
  simp [mat, mul_comm]
theorem cut_w (s : ℕ) (hs : s + 1 ≤ 8) : cut3 (iblk m c 2 t) s hs = mat3 (A.wh s) := by
  funext x
  rw [cut3, blk2 H]
  have := (x 0).isLt
  simp [mat3, Args.wh]
theorem cut_b (s : ℕ) (hs : s + 1 ≤ 8) : cut3 (iblk m c 3 t) s hs = mat3 fun r _ => A.bh s r := by
  funext x
  rw [cut3, blk3 H]
  simp [mat3, Args.bh]
theorem cut_g (s : ℕ) (hs : 128 * s + 128 ≤ 1024) : cutR (iblk m c 4 t) (128 * s) hs = vec (A.gh s) := by
  funext x
  rw [cutR, blk4 H]
  simp [vec, Args.gh]
theorem cut_e (s : ℕ) (hs : 128 * s + 128 ≤ 1024) : cutR (iblk m c 5 t) (128 * s) hs = vec (A.eh s) := by
  funext x
  rw [cutR, blk5 H]
  simp [vec, Args.eh]
theorem cut_before (r o : ℕ) (hr : r + 1 ≤ 8) (ho : o + 128 ≤ 5120) :
    cutE (iblk m c 1 t) r o hr ho = vec fun d => A.z (8 * (32 * t.val - 1) + r) (o + d) := by
  funext x
  rw [cutE, blk1 H]
  simp [vec, mul_comm]
theorem cut_tap (j s : ℕ) (hj : j < 3) (hs : 128 * s + 128 ≤ 1024) :
    cutW (iblk m c 6 t) j (128 * s) (by omega) hs = vec fun d => A.c j (128 * s + d) := by
  funext x
  have h := blk6 H t ⟨j, hj⟩ ⟨128 * s + (x 1).val, by have := (x 1).isLt; simp at this; omega⟩
  rw [cutW]
  refine Eq.trans (congrArg _ ?_) h
  funext a
  have := (x 0).isLt
  match a with
  | ⟨0, _⟩ => refine Fin.ext ?_; simp at this; simp [this]
  | ⟨1, _⟩ => refine Fin.ext ?_; simp

end parts

/-! ## The stores -/

/-- Where a chunk's rows of a head's columns go, and a slice's columns. -/
abbrev toH (r o : ℕ) (hr : r + 128 ≤ 256) (ho : o + 128 ≤ 2048) : Rect S256x2048 :=
  Rect.unit (s := S256x2048) ![r, o] ![128, 128] (by intro a; fin_cases a <;> simp [S256x2048] <;> omega)
abbrev toC (o : ℕ) (ho : o + 128 ≤ 2048) : Rect S256x2048 :=
  Rect.unit (s := S256x2048) ![0, o] ![256, 128] (by intro a; fin_cases a <;> simp [S256x2048]; omega)

theorem etaH (x : S128x128.Idx) : ∃ q d : Fin 128, x = ix2 q d := ⟨x 0, x 1, by blk_ext⟩
theorem etaA (x : S256x128.Idx) : ∃ (q : Fin 256) (d : Fin 128), x = ix2 q d := ⟨x 0, x 1, by blk_ext⟩

/-- The layer's result in the rows of point `t`. -/
def gY (A : Args) (t : ℕ) : S256x2048.Idx → Elt Ideal .bf16 := fun y => A.y (256 * t + y 0) (y 1)

section stores
variable (H : At m A c) (t : Fin cfg0.N) (s : ℕ) (hs : s < 8)
include H

theorem pH (n : ℕ) (hn : n < 2) (x : S128x128.Idx) :
    stH (cut (iblk m c 0 t) (128 * n) (128 * s) (by omega) (by omega)) (cut (iblk m c 0 t) (128 * n) (1024 + 128 * s) (by omega) (by omega))
      (cut3 (iblk m c 2 t) s (by omega)) (cut3 (iblk m c 3 t) s (by omega)) (cutR (iblk m c 4 t) (128 * s) (by omega))
      (cutR (iblk m c 5 t) (128 * s) (by omega)) x = gY A t ((toH (128 * n) (128 * s) (by omega) (by omega)).emb x) := by
  rw [cut_z H, cut_z H, cut_w H, cut_b H, cut_g H, cut_e H]
  obtain ⟨q, d, rfl⟩ := etaH x
  refine (pay7 _ _ _ _ _ _ q d).trans ?_
  have h := A.y_head (2 * t.val + n) s hs q d
  rw [show 128 * (2 * t.val + n) = 256 * t.val + 128 * n by ring] at h
  have e : gY A t ((toH (128 * n) (128 * s) (by omega) (by omega)).emb (ix2 q d)) = A.y (256 * t.val + 128 * n + q.val) (128 * s + d.val) := by
    simp [gY, add_assoc]
  rw [e, h]
  simp only [Args.head]
  congr 1
  · funext q' d'; simp only [Args.zu, show 128 * (2 * t.val + n) = 256 * t.val + 128 * n by ring]
  · funext q' d'; simp only [Args.zv, show 128 * (2 * t.val + n) = 256 * t.val + 128 * n by ring]

theorem pC (x : S256x128.Idx) :
    stC (cutA (iblk m c 0 t) (2048 + 128 * s) (by omega)) (cutA (iblk m c 0 t) (3072 + 128 * s) (by omega)) (cutA (iblk m c 0 t) (4096 + 128 * s) (by omega))
      (cutE (iblk m c 1 t) 7 (3072 + 128 * s) (by omega) (by omega)) (cutE (iblk m c 1 t) 7 (4096 + 128 * s) (by omega) (by omega))
      (cutE (iblk m c 1 t) 6 (3072 + 128 * s) (by omega) (by omega)) (cutE (iblk m c 1 t) 6 (4096 + 128 * s) (by omega) (by omega))
      (cutW (iblk m c 6 t) 0 (128 * s) (by omega) (by omega)) (cutW (iblk m c 6 t) 1 (128 * s) (by omega) (by omega))
      (cutW (iblk m c 6 t) 2 (128 * s) (by omega) (by omega)) (k0_pay86 (BitVec.ofNat 32 ↑(grid0.coords t 0))) x
    = gY A t ((toC (1024 + 128 * s) (by omega)).emb x) := by
  rw [cut_a H, cut_a H, cut_a H, cut_before H, cut_before H, cut_before H, cut_before H, cut_tap H _ 0 _ (by decide), cut_tap H _ 1 _ (by decide),
    cut_tap H _ 2 _ (by decide), keep_eq]
  obtain ⟨q, d, rfl⟩ := etaA x
  refine (pay1 _ _ _ _ _ _ _ _ _ _ _ q d).trans ?_
  have e : gY A t ((toC (1024 + 128 * s) (by omega)).emb (ix2 q d)) = A.y (256 * t.val + q.val) (1024 + (128 * s + d.val)) := by
    simp [gY, add_assoc]
  rw [e, A.y_conv, Args.conv, ← A.rows1 t q.val, ← A.rows2 t q.val]
  simp only [back1, back2, Args.hc, Nat.add_assoc]

end stores

set_option maxHeartbeats 0 in
/-- The block of the result after a point. -/
theorem out7 (H : At m A c) (t : Fin cfg0.N) (y : S256x2048.Idx) : outsAt0 m c t y = gY A t y := by
  unfold outsAt0
  unfold out0_A_7
  frame_out
  refine canon_pieces (gY A t) _ ?_ y (View.cover_of_tiledBy _ ![128, 128] (by sl_kernel_rfl) y)
  exact ⟨pC H t 7 (by decide), pC H t 6 (by decide), pC H t 5 (by decide), pC H t 4 (by decide), pC H t 3 (by decide), pC H t 2 (by decide),
    pC H t 1 (by decide), pC H t 0 (by decide),
    pH H t 7 (by decide) 1 (by decide), pH H t 7 (by decide) 0 (by decide), pH H t 6 (by decide) 1 (by decide), pH H t 6 (by decide) 0 (by decide),
    pH H t 5 (by decide) 1 (by decide), pH H t 5 (by decide) 0 (by decide), pH H t 4 (by decide) 1 (by decide), pH H t 4 (by decide) 0 (by decide),
    pH H t 3 (by decide) 1 (by decide), pH H t 3 (by decide) 0 (by decide), pH H t 2 (by decide) 1 (by decide), pH H t 2 (by decide) 0 (by decide),
    pH H t 1 (by decide) 1 (by decide), pH H t 1 (by decide) 0 (by decide), pH H t 0 (by decide) 1 (by decide), pH H t 0 (by decide) 0 (by decide), trivial⟩

theorem place7 (t : Fin cfg0.N) (y : S256x2048.Idx) : (((cfg0.win 7).blk t).view.emb y : S8192x2048.Idx)
    = ix2 (⟨256 * t.val + (y 0).val, by have := N32 t; have : (y 0).val < 256 := (y 0).isLt; omega⟩ : Fin 8192) (⟨(y 1).val, (y 1).isLt⟩ : Fin 2048) := by
  blk_ext [idx t, Nat.mul_comm]

/-- The array after the last point. -/
theorem final7 (H : At m A c) : (dats m 0 c).arrAt 7 (cfgs 0).N = (fun y => A.y (y 0) (y 1) : S8192x2048.Idx → EReal) := by
  suffices ∀ G : S8192x2048.Idx → EReal, (∀ y : S8192x2048.Idx, G y = A.y (y 0) (y 1)) → (dats m 0 c).arrAt 7 (cfgs 0).N = G from this _ fun _ => rfl
  intro G hG
  refine (dats m 0 c).arrAt_eq_of_covers 7 _ (by decide +kernel) fun t _ y => ?_
  blk_simp
  rw [after0_7, place7 t y]
  rw [out7 H, hG]
  rfl

end Cert.Kernel5Ideal.MixF

end
-- ==== Proof.MixFRef.lean ====
/- The reference's mixing layer, stage by stage, over the extended reals. -/
module

public import proofs.«01_k».proof.Proof.MixF
public import proofs.«01_k».proof.Proof.Gen.Reference5Ideal.Run
public import proofs.«01_k».proof.Proof.Gen.Reference5Ideal.Read
public import Idealize.ShloMosaic.Lib.Pointwise
public import Idealize.ShloMosaic.Lib.TwoAxisContraction
public import Idealize.ShloMosaic.Lib.WordCmp

@[expose] public section
set_option maxRecDepth 16384
noncomputable section
open Idealize.ShloMosaic Idealize.ShloMosaic.Tactic
open Cert.MixF
open Cert.Reals (eps ofBits_eps)
open Cert.Mix (ofBits_gc ofBits_ga ofBits_half ofBits_128)

namespace Cert.Reference5Ideal.MixF
open Cert.Reference5Ideal Cert.Reference5Ideal.Read
variable (A : Args)

/-! ## The arguments -/

abbrev X0 : FVec Ideal S8192x5120 .f32 := fun i => A.p (i 0) (i 1)
abbrev X1 : FVec Ideal S1x5120 .f32 := fun i => A.pb (i 1)
abbrev X2 : FVec Ideal S1x8x128x128 .f32 := fun i => A.w (i 1) (i 2) (i 3)
abbrev X3 : FVec Ideal S1x8x128 .f32 := fun i => A.b (i 1) (i 2)
abbrev X4 : FVec Ideal S1x1024 .f32 := fun i => A.g (i 1)
abbrev X5 : FVec Ideal S1x1024 .f32 := fun i => A.e (i 1)
abbrev X6 : FVec Ideal S1x3x1024 .f32 := fun i => A.c (i 1) (i 2)

/-! ## The projection and its GELU -/

theorem v3 (r : Fin 8192) (k : Fin 5120) : val_main_v3 (F := Ideal) (X0 A) (X1 A) (ix2 r k) = A.z r k := by
  pointwise [val_main_v3, val_main_v2, val_main_v1, val_main_v0]
  rfl

theorem v17 (r : Fin 8192) (k : Fin 2048) : val_main_v17 (F := Ideal) (X0 A) (X1 A) (ix2 r k) = gelu (A.z r k) := by
  pointwise [val_main_v17, val_main_v16, val_main_v15, val_main_v14, val_main_v13, val_main_v12, val_main_v11, val_main_v10, val_main_v9, val_main_v8,
    val_main_v7, val_main_v6, val_main_v5, val_main_v4, val_main_cst, val_main_cst_0, val_main_cst_1, val_main_cst_2]
  simp only [v3, ofBits_gc, ofBits_ga, ofBits_half]
  rfl

/-! ## Chunks and heads -/

omit A in
/-- A row or a column of a chunk or head, counted from the other end of the product. -/
theorem swap (n t : ℕ) : n * 128 + t = 128 * n + t := by rw [Nat.mul_comm]

omit A in
theorem shift (h d : ℕ) : 1024 + (128 * h + d) = 1024 + 128 * h + d := by rw [Nat.add_assoc]

theorem v27 (n : Fin 64) (t : Fin 128) (h : Fin 8) (d : Fin 128) : val_main_v27 (F := Ideal) (X0 A) (X1 A) (ix4 n t h d) = gelu (A.zv n h t d) := by
  pointwise [val_main_v27, val_main_v26]
  simp only [v17, swap, shift]
  rfl

theorem v63 (n : Fin 64) (t : Fin 128) (h : Fin 8) (d : Fin 128) : val_main_v63 (F := Ideal) (X0 A) (X1 A) (ix4 n t h d) = gelu (A.zu n h t d) := by
  pointwise [val_main_v63, val_main_v25]
  simp only [v17, swap]
  rfl

theorem v47 (n : Fin 64) (t : Fin 128) (h : Fin 8) (d : Fin 128) : val_main_v47 (F := Ideal) (X4 A) (ix4 n t h d) = A.gh h d := by
  pointwise [val_main_v47, val_main_v46, val_main_v28, val_main_v23]
  simp only [swap]
  rfl

theorem v50 (n : Fin 64) (t : Fin 128) (h : Fin 8) (d : Fin 128) : val_main_v50 (F := Ideal) (X5 A) (ix4 n t h d) = A.eh h d := by
  pointwise [val_main_v50, val_main_v49, val_main_v29, val_main_v24]
  simp only [swap]
  rfl

theorem v61 (n : Fin 64) (t : Fin 128) (h : Fin 8) (d : Fin 128) : val_main_v61 (F := Ideal) (X3 A) (ix4 n t h d) = A.bh h t := by
  pointwise [val_main_v61, val_main_v60, val_main_v59, val_main_v58, val_main_v22]
  rfl

/-! ## The spatial gating unit -/

/-- The row that is normalized. -/
abbrev row (n h : ℕ) (t : Fin 128) : Fin 128 → EReal := fun k => gelu (A.zv n h t k)

theorem v35 (n : Fin 64) (t : Fin 128) (h : Fin 8) (d : Fin 128) : val_main_v35 (F := Ideal) (X0 A) (X1 A) (ix4 n t h d) = dev (row A n h t) d := by
  pointwise [val_main_v35, val_main_v34, val_main_v33, val_main_v32, val_main_v31, val_main_v30, val_main_cst_3, val_main_cst_4]
  simp only [v27, ofBits_128]
  rfl

theorem v45 (n : Fin 64) (t : Fin 128) (h : Fin 8) (d : Fin 128) : val_main_v45 (F := Ideal) (X0 A) (X1 A) (ix4 n t h d) = hat (row A n h t) d := by
  pointwise [val_main_v45, val_main_v44, val_main_v43, val_main_v42, val_main_v41, val_main_v40, val_main_v39, val_main_v38, val_main_v37, val_main_v36,
    val_main_cst_5, val_main_cst_6, val_main_cst_7]
  simp only [v35, ofBits_128, ofBits_eps]
  rfl

theorem v51 (n : Fin 64) (t : Fin 128) (h : Fin 8) (d : Fin 128) : val_main_v51 (F := Ideal) (X0 A) (X1 A) (X4 A) (X5 A) (ix4 n t h d)
    = vn (A.zv n h) (A.gh h) (A.eh h) t d := by
  pointwise [val_main_v51, val_main_v48]
  simp only [v45, v47, v50]
  rfl

omit A in
theorem mask (h : Fin 8) (t s : Fin 128) : val_main_call1_v0 (F := Ideal) (ix3 h t s) = if s ≤ t then 1#1 else 0#1 := by
  pointwise [val_main_call1_v0, val_main_v54, val_main_v53, val_main_call0_v5, val_main_call0_c_0, val_main_call0_v4, val_main_call0_v3, val_main_call0_v2,
    val_main_call0_v1, val_main_call0_c, val_main_call0_v0, val_main_v52, val_main_c]
  have ht := t.isLt
  have hs := s.isLt
  rw [show IntOp.addi (BitVec.ofNat 32 t.val) 0#32 = BitVec.ofNat 32 t.val from BitVec.add_zero _]
  by_cases h : s ≤ t
  · rw [if_pos h, (WordCmp.cmpi_sge_ofNat_eq_one_iff (by omega) (by omega)).mpr h]; rfl
  · rw [if_neg h, (WordCmp.cmpi_sge_ofNat_eq_zero_iff (by omega) (by omega)).mpr h]; rfl

theorem v55 (h : Fin 8) (t s : Fin 128) : val_main_v55 (F := Ideal) (X2 A) (ix3 h t s) = low (A.wh h) t s := by
  pointwise [val_main_v55, val_main_call1_v1, val_main_cst_8, val_main_v21]
  simp only [mask, low]
  split <;> rfl

theorem v56 (h : Fin 8) (n : Fin 64) (d t : Fin 128) : val_main_v56 (F := Ideal) (X0 A) (X1 A) (X2 A) (X4 A) (X5 A) (ix4 h n d t)
    = ∑ s, low (A.wh h) t s * vn (A.zv n h) (A.gh h) (A.eh h) s d := by
  pointwise [val_main_v56]
  simp only [v51, v55, mul_comm]

theorem v64 (n : Fin 64) (t : Fin 128) (h : Fin 8) (d : Fin 128) :
    val_main_v64 (F := Ideal) (X0 A) (X1 A) (X2 A) (X3 A) (X4 A) (X5 A) (ix4 n t h d) = A.head n h t d := by
  pointwise [val_main_v64, val_main_v62, val_main_v57]
  simp only [v63, v56, v61]
  rfl

theorem v65 (r : Fin 8192) (k : Fin 1024) : val_main_v65 (F := Ideal) (X0 A) (X1 A) (X2 A) (X3 A) (X4 A) (X5 A) (ix2 r k)
    = A.head (r / 128) (k / 128) ⟨r % 128, Nat.mod_lt _ (by decide)⟩ ⟨k % 128, Nat.mod_lt _ (by decide)⟩ := by
  pointwise [val_main_v65]
  simp only [v64]

/-! ## The gated convolution -/

theorem v67 (r : Fin 8192) (k : Fin 1024) : val_main_v67 (F := Ideal) (X0 A) (X1 A) (ix2 r k) = A.hc r k := by
  pointwise [val_main_v67, val_main_v19, val_main_v20]
  simp only [v3]
  rfl

theorem v70 (r : Fin 8192) (k : Fin 1024) : val_main_v70 (F := Ideal) (X0 A) (X1 A) (ix2 r k) = A.h1 r k := by
  pointwise [val_main_v70, val_main_v69, val_main_v68, val_main_cst_9]
  simp only [v67, Args.h1]
  split <;> rfl

theorem v73 (r : Fin 8192) (k : Fin 1024) : val_main_v73 (F := Ideal) (X0 A) (X1 A) (ix2 r k) = A.h2 r k := by
  pointwise [val_main_v73, val_main_v72, val_main_v71, val_main_cst_10]
  simp only [v67, Args.h2]
  split <;> rfl

theorem v77 (r : Fin 8192) (k : Fin 1024) : val_main_v77 (F := Ideal) (X6 A) (ix2 r k) = A.c 0 k := by
  pointwise [val_main_v77, val_main_v76, val_main_v75, val_main_v74, val_main_v66]
  rfl

theorem v82 (r : Fin 8192) (k : Fin 1024) : val_main_v82 (F := Ideal) (X6 A) (ix2 r k) = A.c 1 k := by
  pointwise [val_main_v82, val_main_v81, val_main_v80, val_main_v79, val_main_v66]
  rfl

theorem v88 (r : Fin 8192) (k : Fin 1024) : val_main_v88 (F := Ideal) (X6 A) (ix2 r k) = A.c 2 k := by
  pointwise [val_main_v88, val_main_v87, val_main_v86, val_main_v85, val_main_v66]
  rfl

theorem v91 (r : Fin 8192) (k : Fin 1024) : val_main_v91 (F := Ideal) (X0 A) (X1 A) (X6 A) (ix2 r k) = A.conv r k := by
  pointwise [val_main_v91, val_main_v90, val_main_v89, val_main_v84, val_main_v83, val_main_v78, val_main_v18]
  simp only [v3, v67, v70, v73, v77, v82, v88, mul_comm]
  simp only [Args.conv, mul_comm]

/-! ## The layer -/

theorem v92 (r : Fin 8192) (k : Fin 2048) :
    val_main_v92 (F := Ideal) (X0 A) (X1 A) (X2 A) (X3 A) (X4 A) (X5 A) (X6 A) (ix2 r k) = A.y r k := by
  pointwise [val_main_v92]
  simp only [v65, v91, Args.y]
  split <;> rfl

theorem v93 : val_main_v93 (F := Ideal) (X0 A) (X1 A) (X2 A) (X3 A) (X4 A) (X5 A) (X6 A) = fun i : S8192x2048.Idx => A.y (i 0) (i 1) := by
  funext i
  obtain ⟨r, k, rfl⟩ : ∃ (r : Fin 8192) (k : Fin 2048), i = ix2 r k := ⟨i 0, i 1, by blk_ext⟩
  pointwise [val_main_v93]
  exact v92 A r k

end Cert.Reference5Ideal.MixF

end
-- ==== Proof.MixFClaim.lean ====
/- The claims about the mixing layer's forward pass: the runs of the three programs, and that the two of them agree at every argument. -/
module

public import proofs.«01_k».proof.Defs
public import proofs.«01_k».proof.Proof.MixFKernel
public import proofs.«01_k».proof.Proof.MixFRef
public import proofs.«01_k».proof.Proof.Rows
public import proofs.«01_k».proof.Proof.Gen.Kernel5.Frame
public import proofs.«01_k».proof.Proof.Gen.Kernel5Ideal.Value
public import proofs.«01_k».proof.Proof.Gen.Reference5Ideal.Run

@[expose] public section

noncomputable section

open Idealize.ShloMosaic Idealize.ShloMosaic.TcCoe Idealize.SL.Sem
open Cert.MixF Cert.Rows

namespace Cert.Proof.MixFClaims

theorem frame_p : Cert.quiescent_Kernel5 := fun m ρ _ => Cert.Kernel5.Gen.frame m ρ

theorem frame_pi : Cert.quiescent_Kernel5Ideal := fun m ρ _ => Cert.Kernel5Ideal.Gen.frame m ρ

theorem frame_ri : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

/-- The constant is the product of the gate's constants that its bits round. -/
theorem preserves : Cert.preserves_Kernel5_Kernel5Ideal :=
  IdealRules.named_const.statement Cert.Kernel5Ideal.κ "gelu_ca" .f32 0x3D122279#32 ((80338380498831 / 2251799813685248 : ℝ) : EReal) rfl

open Cert.Kernel5Ideal in
/-- Every memory's arguments are arrays named by rows and columns. -/
theorem args (m : (ℓ : Loc nD τ sig) → Buf (Elt Ideal) ℓ) (c : Dev nD) : ∃ A : Args, Cert.Kernel5Ideal.MixF.At m A c := by
  obtain ⟨p, h0⟩ := rows2 (α := EReal) (k := 8192) (n := 5120) (m ((c : Thread nD τ).loc main_arg0))
  obtain ⟨pb, h1⟩ := rows1 (α := EReal) (n := 5120) (m ((c : Thread nD τ).loc main_arg1))
  obtain ⟨w, h2⟩ := rows4 (α := EReal) (j := 8) (k := 128) (n := 128) (m ((c : Thread nD τ).loc main_arg2))
  obtain ⟨b, h3⟩ := rows3 (α := EReal) (k := 8) (n := 128) (m ((c : Thread nD τ).loc main_arg3))
  obtain ⟨g, h4⟩ := rows1 (α := EReal) (n := 1024) (m ((c : Thread nD τ).loc main_arg4))
  obtain ⟨e, h5⟩ := rows1 (α := EReal) (n := 1024) (m ((c : Thread nD τ).loc main_arg5))
  obtain ⟨k, h6⟩ := rows3 (α := EReal) (k := 3) (n := 1024) (m ((c : Thread nD τ).loc main_arg6))
  exact ⟨⟨p, pb, w, b, g, e, k⟩, h0, h1, h2, h3, h4, h5, h6⟩

/-- At `Ideal` both programs leave the same array. -/
theorem algebraic : Cert.algebraic_Kernel5Ideal_Reference5Ideal := by
  intro m g m' g' _ ha
  refine ⟨_, Cert.Kernel5Ideal.Value.run_blocks m g,
    (θ_run Cert.Reference5Ideal.defs _ _).mono (fun r h c => ?_) (Cert.Reference5Ideal.Value.run (F := Ideal) m' g')⟩
  obtain ⟨B, H⟩ := args m c
  obtain ⟨a0, a1, a2, a3, a4, a5, a6⟩ := ha c
  have e0 : m' ((c.tc : Thread Cert.Reference5Ideal.nD Cert.Reference5Ideal.τ).loc Cert.Reference5Ideal.main_arg0) = Cert.Reference5Ideal.MixF.X0 B := a0.trans H.h0
  have e1 : m' ((c.tc : Thread Cert.Reference5Ideal.nD Cert.Reference5Ideal.τ).loc Cert.Reference5Ideal.main_arg1) = Cert.Reference5Ideal.MixF.X1 B := a1.trans H.h1
  have e2 : m' ((c.tc : Thread Cert.Reference5Ideal.nD Cert.Reference5Ideal.τ).loc Cert.Reference5Ideal.main_arg2) = Cert.Reference5Ideal.MixF.X2 B := a2.trans H.h2
  have e3 : m' ((c.tc : Thread Cert.Reference5Ideal.nD Cert.Reference5Ideal.τ).loc Cert.Reference5Ideal.main_arg3) = Cert.Reference5Ideal.MixF.X3 B := a3.trans H.h3
  have e4 : m' ((c.tc : Thread Cert.Reference5Ideal.nD Cert.Reference5Ideal.τ).loc Cert.Reference5Ideal.main_arg4) = Cert.Reference5Ideal.MixF.X4 B := a4.trans H.h4
  have e5 : m' ((c.tc : Thread Cert.Reference5Ideal.nD Cert.Reference5Ideal.τ).loc Cert.Reference5Ideal.main_arg5) = Cert.Reference5Ideal.MixF.X5 B := a5.trans H.h5
  have e6 : m' ((c.tc : Thread Cert.Reference5Ideal.nD Cert.Reference5Ideal.τ).loc Cert.Reference5Ideal.main_arg6) = Cert.Reference5Ideal.MixF.X6 B := a6.trans H.h6
  obtain ⟨r0, k⟩ := h c
  rw [Cert.Reference5Ideal.Read.val_main_v93_eq, e0, e1, e2, e3, e4, e5, e6, Cert.Reference5Ideal.MixF.v93] at r0
  exact ⟨r0.trans (Cert.Kernel5Ideal.MixF.final7 H).symm, k⟩

end Cert.Proof.MixFClaims

end
-- ==== Proof.LnF.lean ====
/- The mixing sublayer's closing layer normalization over the extended reals: what the reference computes entry by entry, what the kernel
   leaves of one block of rows, and the two arrays the kernel leaves. Nothing here asks the arguments to be finite. -/
module

public import proofs.«01_k».proof.Proof.Gen.Kernel6Ideal.Value
public import proofs.«01_k».proof.Proof.Gen.Reference6Ideal.Read
public import proofs.«01_k».proof.Proof.Reals
public import Idealize.ShloMosaic.Lib.Pipeline.ValueKit

@[expose] public section
set_option maxRecDepth 16384
noncomputable section
open Idealize.ShloMosaic Idealize.ShloMosaic.TcCoe Idealize.SL.Sem
open Cert.Reals (eps ofBits_eps alpha ofBits_alpha ofBits_2048)

namespace Cert.LnF

/-- The mean of a row. -/
def mean (x : Fin 2048 → EReal) : EReal := Ideal.div (∑ k, x k) ((2048 : ℝ) : EReal)
/-- A row's deviation from its mean. -/
def dev (x : Fin 2048 → EReal) (k : Fin 2048) : EReal := x k - mean x
/-- The normalized row with scale and shift. -/
def norm (x : Fin 2048 → EReal) (g e : EReal) (k : Fin 2048) : EReal :=
  dev x k * Ideal.rsqrt (mean (fun j => dev x j * dev x j) + (eps : EReal)) * g + e

end Cert.LnF

namespace Cert.Reference6Ideal.LnF
open Cert.Reference6Ideal Cert.Reference6Ideal.Gen Cert.Reference6Ideal.Read Cert.LnF

variable (h p : FVec Ideal S8192x2048 .f32) (b g e : FVec Ideal S1x2048 .f32)

/-- The row that is normalized: the residual and the sublayer with its bias. -/
def row (r : Fin 8192) (k : Fin 2048) : EReal := (alpha : EReal) * h (ix2 r k) + (p (ix2 r k) + b (ix2 0 k))

theorem v6 (r k) : val_main_v6 (F := Ideal) h p b (ix2 r k) = row h p b r k := by
  pointwise [val_main_v6, val_main_v5, val_main_v4, val_main_v3, val_main_v2, val_main_v1, val_main_v0, val_main_cst]
  simp only [row, ofBits_alpha]

theorem v14 (r k) : val_main_v14 (F := Ideal) h p b (ix2 r k) = dev (row h p b r) k := by
  pointwise [val_main_v14, val_main_v13, val_main_v12, val_main_v11, val_main_v10, val_main_v9, val_main_cst_0, val_main_cst_1]
  simp only [v6, ofBits_2048]
  rfl

theorem v30 (r k) : val_main_v30 (F := Ideal) h p b g e (ix2 r k) = norm (row h p b r) (g (ix2 0 k)) (e (ix2 0 k)) k := by
  pointwise [val_main_v30, val_main_v29, val_main_v28, val_main_v27, val_main_v26, val_main_v25, val_main_v24, val_main_v23, val_main_v22, val_main_v21,
    val_main_v20, val_main_v19, val_main_v18, val_main_v17, val_main_v16, val_main_v15, val_main_v8, val_main_v7, val_main_cst_2, val_main_cst_3,
    val_main_cst_4]
  simp only [v14, ofBits_2048, ofBits_eps]
  rfl

theorem v31 (r k) : val_main_v31 (F := Ideal) h p b g e (ix2 r k) = norm (row h p b r) (g (ix2 0 k)) (e (ix2 0 k)) k := by
  pointwise [val_main_v31]
  exact v30 h p b g e r k

end Cert.Reference6Ideal.LnF

namespace Cert.Kernel6Ideal.LnF
open Cert.Kernel6Ideal Cert.Kernel6Ideal.Gen Cert.LnF
open Cert.Reference6Ideal.LnF (row)

/-- What the body leaves of a block of rows. -/
theorem pay1 (x : FVec Ideal S512x2048 .f32) (g e : FVec Ideal S1x2048 .f32) (q k) :
    k0_pay1 (F := Ideal) x g e (ix2 q k) = norm (fun j => x (ix2 q j)) (g (ix2 0 k)) (e (ix2 0 k)) k := by
  pointwise [k0_pay1]
  simp only [ofBits_2048, ofBits_eps]
  rfl

theorem pay2 (x : FVec Ideal S512x2048 .f32) (g e : FVec Ideal S1x2048 .f32) (q k) :
    k0_pay2 (F := Ideal) x g e (ix2 q k) = norm (fun j => x (ix2 q j)) (g (ix2 0 k)) (e (ix2 0 k)) k := by
  pointwise [k0_pay2]
  exact pay1 x g e q k

/-- Where each window's block lies at each point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

theorem N16 (t : Fin cfg0.N) : t.val < 16 := lt_of_lt_of_eq t.isLt N_0

/-- The array's row that is row `q` of point `t`'s block. -/
def at_ (t : Fin cfg0.N) (q : Fin 512) : Fin 8192 := ⟨512 * t.val + q.val, by have := N16 t; omega⟩

variable (m : (ℓ : Loc nD τ sig) → Buf (Elt Ideal) ℓ) (c : Dev nD)

/-- The five arguments. -/
abbrev H0 : FVec Ideal S8192x2048 .f32 := m ((c : Thread nD τ).loc main_arg0)
abbrev P0 : FVec Ideal S8192x2048 .f32 := m ((c : Thread nD τ).loc main_arg1)
abbrev B0 : FVec Ideal S1x2048 .f32 := m ((c : Thread nD τ).loc main_arg2)
abbrev G0 : FVec Ideal S1x2048 .f32 := m ((c : Thread nD τ).loc main_arg3)
abbrev E0 : FVec Ideal S1x2048 .f32 := m ((c : Thread nD τ).loc main_arg4)

theorem blk0 (t : Fin cfg0.N) (q : Fin 512) (k : Fin 2048) :
    (iblk m c 0 t : FVec Ideal S512x2048 .f32) (ix2 q k) = row (H0 m c) (P0 m c) (B0 m c) (at_ t q) k := by
  blk_simp [iblk]
  entry_read
  pointwise
  simp only [row, ofBits_alpha]
  blk_point [idx t, at_]

theorem blk1 (t : Fin cfg0.N) : iblk m c 1 t = G0 m c := by
  funext y
  blk_simp [iblk]
  rw [V_main_arg3]
  blk_point [idx t]

theorem blk2 (t : Fin cfg0.N) : iblk m c 2 t = E0 m c := by
  funext y
  blk_simp [iblk]
  rw [V_main_arg4]
  blk_point [idx t]

theorem place3 (t : Fin cfg0.N) (y : S512x2048.Idx) : (((cfg0.win 3).blk t).view.emb y : S8192x2048.Idx) = ix2 (at_ t (y 0)) (y 1) := by
  blk_ext [idx t, at_]
theorem place4 (t : Fin cfg0.N) (y : S512x2048.Idx) : (((cfg0.win 4).blk t).view.emb y : S8192x2048.Idx) = ix2 (at_ t (y 0)) (y 1) := by
  blk_ext [idx t, at_]

theorem eta (y : S512x2048.Idx) : ∃ (q : Fin 512) (k : Fin 2048), y = ix2 q k := ⟨y 0, y 1, by blk_ext⟩

open Cert.Reference6Ideal.Read

/-- The arrays after the last point are the reference's. -/
theorem final3 : (dats m 0 c).arrAt 3 (cfgs 0).N = val_main_v30 (F := Ideal) (H0 m c) (P0 m c) (B0 m c) (G0 m c) (E0 m c) := by
  refine (dats m 0 c).arrAt_eq_of_covers 3 _ (by decide +kernel) fun t _ y => ?_
  blk_simp
  rw [after0_3, place3 t y]
  frame_out
  rw [blk1, blk2]
  obtain ⟨q, k, rfl⟩ := eta y
  refine (pay1 _ _ _ q k).trans ?_
  simp only [blk0]
  exact (Cert.Reference6Ideal.LnF.v30 _ _ _ _ _ (at_ t q) k).symm

theorem final4 : (dats m 0 c).arrAt 4 (cfgs 0).N = val_main_v31 (F := Ideal) (H0 m c) (P0 m c) (B0 m c) (G0 m c) (E0 m c) := by
  refine (dats m 0 c).arrAt_eq_of_covers 4 _ (by decide +kernel) fun t _ y => ?_
  blk_simp
  rw [after0_4, place4 t y]
  frame_out
  rw [blk1, blk2]
  obtain ⟨q, k, rfl⟩ := eta y
  refine (pay2 _ _ _ q k).trans ?_
  simp only [blk0]
  exact (Cert.Reference6Ideal.LnF.v31 _ _ _ _ _ (at_ t q) k).symm

end Cert.Kernel6Ideal.LnF

end
-- ==== Proof.LnFClaim.lean ====
/- The claims about the mixing sublayer's closing layer normalization: the runs of the three programs, and that the two of them agree at every
   argument. -/
module

public import proofs.«01_k».proof.Defs
public import proofs.«01_k».proof.Proof.LnF
public import proofs.«01_k».proof.Proof.Gen.Kernel6.Frame
public import proofs.«01_k».proof.Proof.Gen.Reference6Ideal.Run

@[expose] public section
noncomputable section
open Idealize.ShloMosaic Idealize.ShloMosaic.TcCoe Idealize.SL.Sem

namespace Cert.Proof.LnFClaims

theorem frame_p : Cert.quiescent_Kernel6 := fun m ρ _ => Cert.Kernel6.Gen.frame m ρ

theorem frame_pi : Cert.quiescent_Kernel6Ideal := fun m ρ _ => Cert.Kernel6Ideal.Gen.frame m ρ

theorem frame_ri : Cert.quiescent_Reference6Ideal := fun m ρ _ =>
  (θ_run Cert.Reference6Ideal.defs _ _).mono
    (fun r h => ⟨fun c => (h c).2.2, sem_eq_zero_of_no_sems (by decide) r.2⟩)
    (Cert.Reference6Ideal.Value.run (F := Ideal) m ρ)

open Cert.Kernel6Ideal.LnF in
/-- At `Ideal` both programs leave the same normalized rows, once as `f32` and once as `bf16`. -/
theorem algebraic : Cert.algebraic_Kernel6Ideal_Reference6Ideal := by
  intro m g m' g' _ ha
  refine ⟨_, _, Cert.Kernel6Ideal.Value.run_blocks m g,
    (θ_run Cert.Reference6Ideal.defs _ _).mono (fun r h c => ?_) (Cert.Reference6Ideal.Value.run (F := Ideal) m' g')⟩
  obtain ⟨a0, a1, a2, a3, a4⟩ := ha c
  have e0 : m' ((c.tc : Thread Cert.Reference6Ideal.nD Cert.Reference6Ideal.τ).loc Cert.Reference6Ideal.main_arg0) = H0 m c := a0
  have e1 : m' ((c.tc : Thread Cert.Reference6Ideal.nD Cert.Reference6Ideal.τ).loc Cert.Reference6Ideal.main_arg1) = P0 m c := a1
  have e2 : m' ((c.tc : Thread Cert.Reference6Ideal.nD Cert.Reference6Ideal.τ).loc Cert.Reference6Ideal.main_arg2) = B0 m c := a2
  have e3 : m' ((c.tc : Thread Cert.Reference6Ideal.nD Cert.Reference6Ideal.τ).loc Cert.Reference6Ideal.main_arg3) = G0 m c := a3
  have e4 : m' ((c.tc : Thread Cert.Reference6Ideal.nD Cert.Reference6Ideal.τ).loc Cert.Reference6Ideal.main_arg4) = E0 m c := a4
  obtain ⟨r0, r1, k⟩ := h c
  rw [Cert.Reference6Ideal.Read.val_main_v30_eq, e0, e1, e2, e3, e4] at r0
  rw [Cert.Reference6Ideal.Read.val_main_v31_eq, e0, e1, e2, e3, e4] at r1
  exact ⟨r0.trans (final3 m c).symm, r1.trans (final4 m c).symm, k⟩

end Cert.Proof.LnFClaims

end
-- ==== Proof.Up.lean ====
/- The gated product `silu(h·wg) * (h·wu)` and its two factors over the extended reals: the logistic function written with the exponential and
   with the hyperbolic tangent, what the reference computes entry by entry, what the kernel leaves of one block, and the three arrays the
   kernel leaves. Nothing here asks the arguments to be finite. -/
module

public import proofs.«01_k».proof.Proof.Gen.Kernel7Ideal.Value
public import proofs.«01_k».proof.Proof.Gen.Reference7Ideal.Read
public import proofs.«01_k».proof.Proof.Da
public import Idealize.ShloMosaic.Lib.Pipeline.ValueKit
public import Idealize.ShloMosaic.Lib.Pipeline.ReadBack

@[expose] public section
set_option maxRecDepth 16384
noncomputable section
open Idealize.ShloMosaic Idealize.ShloMosaic.TcCoe Idealize.SL.Sem
open Cert.Reals (div_real)
open Cert.Gate (sg sg_tanh exp_pos' ofBits_half)

namespace Cert.Up

/-- The logistic function of an extended real. -/
def lg (z : EReal) : EReal := Ideal.div 1 (1 + Ideal.exp (-z))

/-- The hyperbolic tangent gives it also at the two infinities. -/
theorem lg_tanh (z : EReal) : ((1 / 2 : ℝ) : EReal) * Ideal.tanh (((1 / 2 : ℝ) : EReal) * z) + ((1 / 2 : ℝ) : EReal) = lg z := by
  induction z using EReal.rec with
  | bot =>
    rw [EReal.coe_mul_bot_of_pos (by norm_num), lg, EReal.neg_bot]
    show ((1 / 2 : ℝ) : EReal) * (-1) + ((1 / 2 : ℝ) : EReal) = Ideal.div 1 (1 + ⊤)
    rw [EReal.add_top_of_ne_bot (by decide), Ideal.div, if_neg (by decide), EReal.inv_top, mul_zero, ← EReal.coe_one, ← EReal.coe_neg,
      ← EReal.coe_mul, ← EReal.coe_add]
    norm_num
  | coe r =>
    rw [← EReal.coe_mul, Ideal.tanh_coe, ← EReal.coe_mul, ← EReal.coe_add, sg_tanh, lg, ← EReal.coe_neg, Ideal.exp_coe, ← EReal.coe_one,
      ← EReal.coe_add, div_real _ _ (exp_pos' _), sg]
  | top =>
    rw [EReal.coe_mul_top_of_pos (by norm_num), lg, EReal.neg_top]
    show ((1 / 2 : ℝ) : EReal) * 1 + ((1 / 2 : ℝ) : EReal) = Ideal.div 1 (1 + 0)
    rw [add_zero, ← EReal.coe_one, div_real _ _ one_ne_zero, ← EReal.coe_mul, ← EReal.coe_add]
    norm_num

/-- The gated product of one entry. -/
def act (g u : EReal) : EReal := g * lg g * u

end Cert.Up

namespace Cert.Reference7Ideal.Up
open Cert.Reference7Ideal Cert.Reference7Ideal.Gen Cert.Reference7Ideal.Read Cert.Up

variable (h : FVec Ideal S8192x2048 .f32) (w wg wu : FVec Ideal S2048x5632 .f32)

/-- An entry of a product. -/
def prod (r : Fin 8192) (f : Fin 5632) : EReal := ∑ j : Fin 2048, h (ix2 r j) * w (ix2 j f)

theorem v0 (r f) : val_main_v0 (F := Ideal) h wg (ix2 r f) = prod h wg r f := by
  pointwise [val_main_v0]
  rfl
theorem v1 (r f) : val_main_v1 (F := Ideal) h wu (ix2 r f) = prod h wu r f := by
  pointwise [val_main_v1]
  rfl
theorem v2 (r f) : val_main_v2 (F := Ideal) h wg (ix2 r f) = prod h wg r f := by
  pointwise [val_main_v2]
  exact v0 h wg r f
theorem v3 (r f) : val_main_v3 (F := Ideal) h wu (ix2 r f) = prod h wu r f := by
  pointwise [val_main_v3]
  exact v1 h wu r f

theorem v6 (r f) : val_main_v6 (F := Ideal) h wg wu (ix2 r f) = act (prod h wg r f) (prod h wu r f) := by
  pointwise [val_main_v6, val_main_v5, val_main_v4, val_main_call0_v5, val_main_call0_v4, val_main_call0_cst_0, val_main_call0_v3,
    val_main_call0_v2, val_main_call0_cst, val_main_call0_v1, val_main_call0_v0]
  simp only [v0, v1]
  rfl

end Cert.Reference7Ideal.Up

namespace Cert.Kernel7Ideal.Up
open Cert.Kernel7Ideal Cert.Kernel7Ideal.Gen Cert.Up
open Cert.Reference7Ideal.Up (prod)

/-! ## One block -/

/-- The rows from `o` on of a block. -/
theorem slice (o : ℕ) (ho : o + 128 ≤ 512) (hs : S512x1408.Slices ![o, 0] S128x1408) (x : FVec Ideal S512x1408 .f32) (q : Fin 128) (k : Fin 1408) :
    extractStridedSlice S128x1408 ![o, 0] x hs (ix2 q k) = x (ix2 ⟨o + q.val, by omega⟩ k) := by
  refine extractStridedSlice_apply _ _ _ _ _ fun a => ?_
  match a with
  | ⟨0, _⟩ => rfl
  | ⟨1, _⟩ => exact (Nat.zero_add _).symm

/-- The place in the block of an entry of the slab from `o` on. -/
theorem place_slab (o : ℕ) (ho : o + 128 ≤ 512) (hb : ∀ a, (![o, 0] : Fin 2 → ℕ) a + S128x1408.size a ≤ S512x1408.size a) (q : Fin 128) (k : Fin 1408) :
    (Rect.unit (s := S512x1408) ![o, 0] S128x1408.size hb).emb (ix2 q k : S128x1408.Idx) = ix2 ⟨o + q.val, by omega⟩ k := by
  refine funext fun a => Fin.ext ?_
  match a with
  | ⟨0, _⟩ => exact congrArg (o + ·) (Nat.one_mul _)
  | ⟨1, _⟩ => exact (Nat.zero_add _).trans (Nat.one_mul _)

theorem etaS (x : S128x1408.Idx) : ∃ (q : Fin 128) (k : Fin 1408), x = ix2 q k := ⟨x 0, x 1, by blk_ext⟩
theorem etaB (x : S512x1408.Idx) : ∃ (q : Fin 512) (k : Fin 1408), x = ix2 q k := ⟨x 0, x 1, by blk_ext⟩

/-- A slab of a factor, rounded. -/
def slabOf (o : ℕ) (hs : S512x1408.Slices ![o, 0] S128x1408) (g : FVec Ideal S512x1408 .f32) : FVec Ideal S128x1408 .bf16 :=
  truncf .bf16 (extractStridedSlice S128x1408 ![o, 0] g hs) bitsLt_bf16_f32

/-- A slab of the gated product, as the body computes it. -/
def slabAct (o : ℕ) (hs : S512x1408.Slices ![o, 0] S128x1408) (g u : FVec Ideal S512x1408 .f32) : FVec Ideal S128x1408 .bf16 :=
  k0_pay16 (F := Ideal) (extractStridedSlice S128x1408 ![o, 0] g hs) (extractStridedSlice S128x1408 ![o, 0] u hs)
    (tanh (mulf (broadcast S128x1408 (Scalar.ofBits .f32 0x3F000000#32)) (extractStridedSlice S128x1408 ![o, 0] g hs)))

theorem storeF (o : ℕ) (ho : o + 128 ≤ 512) (hb : ∀ a, (![o, 0] : Fin 2 → ℕ) a + S128x1408.size a ≤ S512x1408.size a)
    (hs : S512x1408.Slices ![o, 0] S128x1408) (g : FVec Ideal S512x1408 .f32) (x : S128x1408.Idx) :
    slabOf o hs g x = g ((Rect.unit (s := S512x1408) ![o, 0] S128x1408.size hb).emb x) := by
  obtain ⟨q, k, rfl⟩ := etaS x
  rw [place_slab o ho hb]
  pointwise [slabOf]

theorem storeA (o : ℕ) (ho : o + 128 ≤ 512) (hb : ∀ a, (![o, 0] : Fin 2 → ℕ) a + S128x1408.size a ≤ S512x1408.size a)
    (hs : S512x1408.Slices ![o, 0] S128x1408) (g u : FVec Ideal S512x1408 .f32) (x : S128x1408.Idx) :
    slabAct o hs g u x = (fun y => act (g y) (u y)) ((Rect.unit (s := S512x1408) ![o, 0] S128x1408.size hb).emb x) := by
  obtain ⟨q, k, rfl⟩ := etaS x
  rw [place_slab o ho hb]
  have eg := slice o ho hs g q k
  have eu := slice o ho hs u q k
  unfold slabAct
  generalize extractStridedSlice S128x1408 ![o, 0] g hs = G at eg ⊢
  generalize extractStridedSlice S128x1408 ![o, 0] u hs = U at eu ⊢
  pointwise [k0_pay16]
  rw [eg, eu, ofBits_half, lg_tanh]
  rfl

section block
variable (h : FVec Ideal S512x2048 .bf16) (wg wu : FVec Ideal S1x2048x1408 .bf16)

theorem whole0 : View.ld (Val := Elt Ideal) (e' := .bf16) h r0_0 = h := View.ld_unit_zero (by decide) _ _
theorem whole1 : View.ld (Val := Elt Ideal) (e' := .bf16) wg r0_1 = wg := View.ld_unit_zero (by decide) _ _

/-- The two factors' blocks. -/
theorem pay4 (q k) : k0_pay4 (F := Ideal) h wg (ix2 q k) = ∑ j : Fin 2048, h (ix2 q j) * wg (ix3 0 j k) := by
  pointwise [k0_pay4]
theorem pay5 (q k) : k0_pay5 (F := Ideal) h wu (ix2 q k) = ∑ j : Fin 2048, h (ix2 q j) * wu (ix3 0 j k) := by
  pointwise [k0_pay5]

open Cert.Kernel4Ideal.Gate (canon_pieces)

theorem out3 : out0_3 (F := Ideal) h wg wu = k0_pay4 (F := Ideal) h wg := by
  funext y
  unfold_out out0_3
  rw [whole0, whole1]
  refine canon_pieces (k0_pay4 (F := Ideal) h wg) _ ?_ y (cover0_3 _ _ _ _ y)
  exact ⟨storeF 384 (by decide) inb_S512x1408_S128x1408_384_0 slices_S512x1408_o384_0_S128x1408 (k0_pay4 (F := Ideal) h wg),
    storeF 256 (by decide) inb_S512x1408_S128x1408_256_0 slices_S512x1408_o256_0_S128x1408 (k0_pay4 (F := Ideal) h wg),
    storeF 128 (by decide) inb_S512x1408_S128x1408_128_0 slices_S512x1408_o128_0_S128x1408 (k0_pay4 (F := Ideal) h wg),
    storeF 0 (by decide) inb_S512x1408_S128x1408_0_0 slices_S512x1408_o0_0_S128x1408 (k0_pay4 (F := Ideal) h wg),
    trivial⟩

theorem out4 : out0_4 (F := Ideal) h wg wu = k0_pay5 (F := Ideal) h wu := by
  funext y
  unfold_out out0_4
  rw [whole0, whole1]
  refine canon_pieces (k0_pay5 (F := Ideal) h wu) _ ?_ y (cover0_4 _ _ _ _ y)
  exact ⟨storeF 384 (by decide) inb_S512x1408_S128x1408_384_0 slices_S512x1408_o384_0_S128x1408 (k0_pay5 (F := Ideal) h wu),
    storeF 256 (by decide) inb_S512x1408_S128x1408_256_0 slices_S512x1408_o256_0_S128x1408 (k0_pay5 (F := Ideal) h wu),
    storeF 128 (by decide) inb_S512x1408_S128x1408_128_0 slices_S512x1408_o128_0_S128x1408 (k0_pay5 (F := Ideal) h wu),
    storeF 0 (by decide) inb_S512x1408_S128x1408_0_0 slices_S512x1408_o0_0_S128x1408 (k0_pay5 (F := Ideal) h wu),
    trivial⟩

theorem out5 : out0_5 (F := Ideal) h wg wu = fun y => act (k0_pay4 (F := Ideal) h wg y) (k0_pay5 (F := Ideal) h wu y) := by
  funext y
  unfold_out out0_5
  rw [whole0, whole1, whole1]
  refine canon_pieces (fun y => act (k0_pay4 (F := Ideal) h wg y) (k0_pay5 (F := Ideal) h wu y)) _ ?_ y (cover0_5 _ _ _ _ y)
  exact ⟨storeA 384 (by decide) inb_S512x1408_S128x1408_384_0 slices_S512x1408_o384_0_S128x1408 (k0_pay4 (F := Ideal) h wg)
      (k0_pay5 (F := Ideal) h wu),
    storeA 256 (by decide) inb_S512x1408_S128x1408_256_0 slices_S512x1408_o256_0_S128x1408 (k0_pay4 (F := Ideal) h wg)
      (k0_pay5 (F := Ideal) h wu),
    storeA 128 (by decide) inb_S512x1408_S128x1408_128_0 slices_S512x1408_o128_0_S128x1408 (k0_pay4 (F := Ideal) h wg)
      (k0_pay5 (F := Ideal) h wu),
    storeA 0 (by decide) inb_S512x1408_S128x1408_0_0 slices_S512x1408_o0_0_S128x1408 (k0_pay4 (F := Ideal) h wg)
      (k0_pay5 (F := Ideal) h wu),
    trivial⟩

end block

/-! ## The blocks of the arrays -/

/-- Where each window's block lies at each point. -/
theorem idx : ∀ t : Fin cfg0.N, win0_0.index t = ![t.val % 16, 0] ∧ win0_1.index t = ![t.val / 16, 0, 0] ∧ win0_2.index t = ![t.val / 16, 0, 0]
    ∧ win0_3.index t = ![t.val % 16, t.val / 16] ∧ win0_4.index t = ![t.val % 16, t.val / 16] ∧ win0_5.index t = ![t.val % 16, t.val / 16] :=
  (by decide +kernel : ∀ t : Fin grid0.N, _)

theorem N64 (t : Fin cfg0.N) : t.val < 64 := lt_of_lt_of_eq t.isLt N_0

/-- The array's row and column of row `q` and column `k` of point `t`'s block. -/
def row (t : Fin cfg0.N) (q : Fin 512) : Fin 8192 := ⟨512 * (t.val % 16) + q.val, by omega⟩
def col (t : Fin cfg0.N) (k : Fin 1408) : Fin 5632 := ⟨1408 * (t.val / 16) + k.val, by have := N64 t; omega⟩

variable (m : (ℓ : Loc nD τ sig) → Buf (Elt Ideal) ℓ) (c : Dev nD)

/-- The three arguments. -/
abbrev A0 : FVec Ideal S8192x2048 .f32 := m ((c : Thread nD τ).loc main_arg0)
abbrev A1 : FVec Ideal S2048x5632 .f32 := m ((c : Thread nD τ).loc main_arg1)
abbrev A2 : FVec Ideal S2048x5632 .f32 := m ((c : Thread nD τ).loc main_arg2)

theorem blk0 (t : Fin cfg0.N) (q : Fin 512) (j : Fin 2048) : (iblk m c 0 t : FVec Ideal S512x2048 .bf16) (ix2 q j) = A0 m c (ix2 (row t q) j) := by
  blk_simp [iblk]
  entry_read
  pointwise
  blk_point [idx t, row]

theorem blk1 (t : Fin cfg0.N) (j : Fin 2048) (k : Fin 1408) :
    (iblk m c 1 t : FVec Ideal S1x2048x1408 .bf16) (ix3 0 j k) = A1 m c (ix2 j (col t k)) := by
  blk_simp [iblk]
  entry_read
  pointwise
  blk_point [idx t, col]

theorem blk2 (t : Fin cfg0.N) (j : Fin 2048) (k : Fin 1408) :
    (iblk m c 2 t : FVec Ideal S1x2048x1408 .bf16) (ix3 0 j k) = A2 m c (ix2 j (col t k)) := by
  blk_simp [iblk]
  entry_read
  pointwise
  blk_point [idx t, col]

/-- Where a point's entry goes in the output arrays. -/
theorem place (t : Fin cfg0.N) (y : S512x1408.Idx) :
    (((cfg0.win 3).blk t).view.emb y : S8192x5632.Idx) = ix2 (row t (y 0)) (col t (y 1))
    ∧ (((cfg0.win 4).blk t).view.emb y : S8192x5632.Idx) = ix2 (row t (y 0)) (col t (y 1))
    ∧ (((cfg0.win 5).blk t).view.emb y : S8192x5632.Idx) = ix2 (row t (y 0)) (col t (y 1)) :=
  ⟨by blk_ext [idx t, row, col], by blk_ext [idx t, row, col], by blk_ext [idx t, row, col]⟩

/-- The blocks of the two factors are blocks of the products of the arrays. -/
theorem gate (t : Fin cfg0.N) (q k) : k0_pay4 (F := Ideal) (iblk m c 0 t) (iblk m c 1 t) (ix2 q k) = prod (A0 m c) (A1 m c) (row t q) (col t k) := by
  refine (pay4 _ _ q k).trans ?_
  simp only [blk0, blk1]
  rfl
theorem other (t : Fin cfg0.N) (q k) : k0_pay5 (F := Ideal) (iblk m c 0 t) (iblk m c 2 t) (ix2 q k) = prod (A0 m c) (A2 m c) (row t q) (col t k) := by
  refine (pay5 _ _ q k).trans ?_
  simp only [blk0, blk2]
  rfl

open Cert.Reference7Ideal.Read Cert.Reference7Ideal.Up

/-- The arrays after the last point are the reference's. -/
theorem final3 : (dats m 0 c).arrAt 3 (cfgs 0).N = val_main_v2 (F := Ideal) (A0 m c) (A1 m c) := by
  refine (dats m 0 c).arrAt_eq_of_covers 3 _ (by decide +kernel) fun t _ y => ?_
  blk_simp
  rw [after0_3, (place t y).1, out3]
  obtain ⟨q, k, rfl⟩ := etaB y
  exact (gate m c t q k).trans (v2 _ _ (row t q) (col t k)).symm

theorem final4 : (dats m 0 c).arrAt 4 (cfgs 0).N = val_main_v3 (F := Ideal) (A0 m c) (A2 m c) := by
  refine (dats m 0 c).arrAt_eq_of_covers 4 _ (by decide +kernel) fun t _ y => ?_
  blk_simp
  rw [after0_4, (place t y).2.1, out4]
  obtain ⟨q, k, rfl⟩ := etaB y
  exact (other m c t q k).trans (v3 _ _ (row t q) (col t k)).symm

theorem final5 : (dats m 0 c).arrAt 5 (cfgs 0).N = val_main_v6 (F := Ideal) (A0 m c) (A1 m c) (A2 m c) := by
  refine (dats m 0 c).arrAt_eq_of_covers 5 _ (by decide +kernel) fun t _ y => ?_
  blk_simp
  rw [after0_5, (place t y).2.2, out5]
  obtain ⟨q, k, rfl⟩ := etaB y
  exact (congrArg₂ act (gate m c t q k) (other m c t q k)).trans (v6 _ _ _ (row t q) (col t k)).symm

end Cert.Kernel7Ideal.Up

end
-- ==== Proof.UpClaim.lean ====
/- The claims about the gated product of the last sublayer: the runs of the three programs, and that the two of them agree at every argument. -/
module

public import proofs.«01_k».proof.Defs
public import proofs.«01_k».proof.Proof.Up
public import proofs.«01_k».proof.Proof.Gen.Kernel7.Frame
public import proofs.«01_k».proof.Proof.Gen.Reference7Ideal.Run

@[expose] public section
noncomputable section
open Idealize.ShloMosaic Idealize.ShloMosaic.TcCoe Idealize.SL.Sem

namespace Cert.Proof.UpClaims

theorem frame_p : Cert.quiescent_Kernel7 := fun m ρ _ => Cert.Kernel7.Gen.frame m ρ

theorem frame_pi : Cert.quiescent_Kernel7Ideal := fun m ρ _ => Cert.Kernel7Ideal.Gen.frame m ρ

theorem frame_ri : Cert.quiescent_Reference7Ideal := fun m ρ _ =>
  (θ_run Cert.Reference7Ideal.defs _ _).mono
    (fun r h => ⟨fun c => (h c).2.2.2, sem_eq_zero_of_no_sems (by decide) r.2⟩)
    (Cert.Reference7Ideal.Value.run (F := Ideal) m ρ)

open Cert.Kernel7Ideal.Up in
/-- At `Ideal` both programs leave the same two factors and the same gated product. -/
theorem algebraic : Cert.algebraic_Kernel7Ideal_Reference7Ideal := by
  intro m g m' g' _ ha
  refine ⟨_, _, _, Cert.Kernel7Ideal.Value.run_blocks m g,
    (θ_run Cert.Reference7Ideal.defs _ _).mono (fun r h c => ?_) (Cert.Reference7Ideal.Value.run (F := Ideal) m' g')⟩
  obtain ⟨a0, a1, a2⟩ := ha c
  have e0 : m' ((c.tc : Thread Cert.Reference7Ideal.nD Cert.Reference7Ideal.τ).loc Cert.Reference7Ideal.main_arg0) = A0 m c := a0
  have e1 : m' ((c.tc : Thread Cert.Reference7Ideal.nD Cert.Reference7Ideal.τ).loc Cert.Reference7Ideal.main_arg1) = A1 m c := a1
  have e2 : m' ((c.tc : Thread Cert.Reference7Ideal.nD Cert.Reference7Ideal.τ).loc Cert.Reference7Ideal.main_arg2) = A2 m c := a2
  obtain ⟨r0, r1, r2, k⟩ := h c
  rw [Cert.Reference7Ideal.Read.val_main_v2_eq, e0, e1] at r0
  rw [Cert.Reference7Ideal.Read.val_main_v3_eq, e0, e2] at r1
  rw [Cert.Reference7Ideal.Read.val_main_v6_eq, e0, e1, e2] at r2
  exact ⟨r0.trans (final3 m c).symm, r1.trans (final4 m c).symm, r2.trans (final5 m c).symm, k⟩

end Cert.Proof.UpClaims

end
-- ==== Proof.LnA.lean ====
/- The gradient through the layer normalization that closes the first sublayer, over the real numbers: what the reference computes entry by
   entry, and the four arrays the kernel leaves. What a block of rows contributes is what it contributes in the mixing sublayer, but for the
   scale of the second array. -/
module

public import proofs.«01_k».proof.Proof.Gen.Kernel8Ideal.Value
public import proofs.«01_k».proof.Proof.Gen.Reference8Ideal.Read
public import proofs.«01_k».proof.Proof.LnM
public import proofs.«01_k».proof.Proof.Da
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
open Cert.Reals
open Cert.Gate (ofBits_half)
open Cert.ReferenceIdeal.LnM (up weight mean_2048)

namespace Cert.Reference8Ideal.LnA
open Cert.Reference8Ideal Cert.Reference8Ideal.Gen Cert.Reference8Ideal.Read

variable (h p : S8192x2048.Idx → ℝ) (g : S1x2048.Idx → ℝ) (d : S8192x2048.Idx → ℝ)

/-- The row that is normalized: the residual and half the sublayer. -/
def row (r : Fin 8192) (k : Fin 2048) : ℝ := alpha * h (ix2 r k) + 1 / 2 * p (ix2 r k)

theorem v4 (r k) : val_main_v4 (F := Ideal) (up h) (up p) (ix2 r k) = (row h p r k : EReal) := by
  pointwise [val_main_v4, val_main_v3, val_main_v2, val_main_v1, val_main_v0, val_main_cst, val_main_cst_0]
  simp only [up, row, ofBits_alpha, ofBits_half, ← EReal.coe_mul, ← EReal.coe_add]

/-- The deviations, the spread and its root: the forward pass of the normalization. -/
theorem v12 (r k) : val_main_v12 (F := Ideal) (up h) (up p) (ix2 r k) = (dev (row h p r) k : EReal) := by
  pointwise [val_main_v12, val_main_v11, val_main_v10, val_main_v9, val_main_v8, val_main_v7, val_main_cst_1, val_main_cst_2]
  simp only [v4, coe_sum, ofBits_2048, mean_2048, ← EReal.coe_sub, dev]

theorem v19 (r) : val_main_v19 (F := Ideal) (up h) (up p) (ix2 r 0) = (spread eps (row h p r) : EReal) := by
  pointwise [val_main_v19, val_main_v18, val_main_v17, val_main_v16, val_main_v15, val_main_v14, val_main_v13, val_main_cst_3, val_main_cst_4, val_main_cst_5]
  simp only [v12, coe_sum, ofBits_2048, ofBits_eps, mean_2048, ← EReal.coe_mul, ← EReal.coe_add, spread]

theorem v20 (r) : val_main_v20 (F := Ideal) (up h) (up p) (ix2 r 0) = (rstd eps (row h p r) : EReal) := by
  pointwise [val_main_v20]
  simp only [v19, rsqrt_real _ (spread_pos eps_pos _), rstd]

theorem v23 (r) (z : Fin 1) : val_main_v23 (F := Ideal) (up h) (up p) (ix2 r z)
    = ((-(1 / 2) * (rstd eps (row h p r) / spread eps (row h p r)) : ℝ) : EReal) := by
  obtain rfl : z = 0 := Subsingleton.elim _ _
  pointwise [val_main_v23, val_main_v22, val_main_v21, val_main_cst_6]
  simp only [v19, v20, ofBits_neg_half, div_real _ _ (spread_pos eps_pos _).ne', ← EReal.coe_mul]

theorem v25 (r k) : val_main_v25 (F := Ideal) (up h) (up p) (ix2 r k) = (hat eps (row h p r) k : EReal) := by
  pointwise [val_main_v25, val_main_v24]
  simp only [v12, v20, ← EReal.coe_mul, hat]

/-- What reaches the normalized row, and what the variance and the mean carry back. -/
theorem v40 (r k) : val_main_v40 (F := Ideal) (up g) (up d) (ix2 r k) = (weight g d r k : EReal) := by
  pointwise [val_main_v40, val_main_v39, val_main_v32, val_main_v26, val_main_v5]
  simp only [up, ← EReal.coe_mul, weight]

theorem v50 (r) : val_main_v50 (F := Ideal) (up h) (up p) (up g) (up d) (ix1 r)
    = (through eps (row h p r) (weight g d r) : EReal) := by
  pointwise [val_main_v50, val_main_v49, val_main_v48, val_main_v47, val_main_v44, val_main_v43, val_main_v42, val_main_cst_11, val_main_cst_12, val_main_cst_13]
  simp only [v12, v40, v23, coe_sum, ofBits_2048, div_real _ _ (by norm_num : (2048 : ℝ) ≠ 0), ← EReal.coe_mul, through]
  norm_num

theorem v55 (r k) : val_main_v55 (F := Ideal) (up h) (up p) (up g) (up d) (ix2 r k)
    = (atDev eps (row h p r) (weight g d r) k : EReal) := by
  pointwise [val_main_v55, val_main_v54, val_main_v53, val_main_v52, val_main_v51, val_main_v46, val_main_v45]
  simp only [v12, v20, v40, v50, ← EReal.coe_mul, ← EReal.coe_add, atDev]

/-- The gradient at the row is the closed form. -/
theorem v63 (r k) : val_main_v63 (F := Ideal) (up h) (up p) (up g) (up d) (ix2 r k)
    = (lnGrad eps (row h p r) (weight g d r) k : EReal) := by
  pointwise [val_main_v63, val_main_v62, val_main_v61, val_main_v60, val_main_v59, val_main_v58, val_main_v57, val_main_v56, val_main_cst_14, val_main_cst_15, val_main_cst_16]
  simp only [v55, coe_sum, ofBits_2048, ← EReal.coe_neg, div_real _ _ (by norm_num : (2048 : ℝ) ≠ 0), ← EReal.coe_add]
  rw [← atDev_sub_mean (by norm_num) eps_pos]
  norm_num

/-- The four results of the reference. -/
theorem res_dh (r k) : val_main_v69 (F := Ideal) (up h) (up p) (up g) (up d) (ix2 r k)
    = ((alpha * lnGrad eps (row h p r) (weight g d r) k : ℝ) : EReal) := by
  pointwise [val_main_v69, val_main_v68, val_main_cst_18]
  simp only [v63, ofBits_alpha, ← EReal.coe_mul]

theorem res_dp (r k) : val_main_v70 (F := Ideal) (up h) (up p) (up g) (up d) (ix2 r k)
    = ((1 / 2 * lnGrad eps (row h p r) (weight g d r) k : ℝ) : EReal) := by
  pointwise [val_main_v70, val_main_v67, val_main_v66, val_main_cst_17]
  simp only [v63, ofBits_half, ← EReal.coe_mul]

theorem res_dg (k) : val_main_v65 (F := Ideal) (up h) (up p) (up d) (ix2 0 k)
    = ((∑ r, d (ix2 r k) * hat eps (row h p r) k : ℝ) : EReal) := by
  pointwise [val_main_v65, val_main_v41, val_main_v38, val_main_v37, val_main_v36, val_main_v32, val_main_cst_9, val_main_cst_10]
  simp only [v25, up, ← EReal.coe_mul, coe_sum]
  simp [mul_comm]

theorem res_db (k) : val_main_v64 (F := Ideal) (up d) (ix2 0 k) = ((∑ r, d (ix2 r k) : ℝ) : EReal) := by
  pointwise [val_main_v64, val_main_v35, val_main_v34, val_main_v33, val_main_cst_7, val_main_cst_8]
  simp only [up, coe_sum]
  simp

end Cert.Reference8Ideal.LnA

namespace Cert.Kernel8Ideal.LnA
open Cert.Kernel8Ideal Cert.Kernel8Ideal.Gen
open Cert.Reference8Ideal.LnA (row)
open Cert.KernelIdeal.LnM (brow bweight pay1 pay3 pay4 pay12 zeros eta2 eta2_1)

/-- The second array carries half the gradient. -/
theorem pay2 (x w : S256x2048.Idx → ℝ) (g : S1x2048.Idx → ℝ) (q k) : k0_pay2 (F := Ideal) (k0_pay12 (F := Ideal) (up x) (up w) (up g)) (ix2 q k)
    = ((1 / 2 * lnGrad eps (brow x q) (bweight w g q) k : ℝ) : EReal) := by
  have e : k0_pay12 (F := Ideal) (up x) (up w) (up g) (ix2 q k) = _ := pay12 x w g q k
  pointwise [k0_pay2]
  rw [e, ofBits_half, ← EReal.coe_mul]

/-- Where each window's block lies at each point. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] :=
  (by decide +kernel : ∀ t : Fin grid0.N, _)

theorem idx_acc : ∀ t : Fin cfg0.N, win0_5.index t = ![0, 0] ∧ win0_6.index t = ![0, 0] :=
  (by decide +kernel : ∀ t : Fin grid0.N, _)

theorem N32 (t : Fin cfg0.N) : t.val < 32 := lt_of_lt_of_eq t.isLt N_0

/-- The array's row that is row `q` of point `t`'s block. -/
def at_ (t : Fin cfg0.N) (q : Fin 256) : Fin 8192 := ⟨256 * t.val + q.val, by have := N32 t; omega⟩

variable (m : (ℓ : Loc nD τ sig) → Buf (Elt Ideal) ℓ) (h p : S8192x2048.Idx → ℝ) (g : S1x2048.Idx → ℝ) (d : S8192x2048.Idx → ℝ) (c : Dev nD)

/-- The arguments are real numbers. -/
structure At : Prop where
  h0 : m ((c : Thread nD τ).loc main_arg0) = up (s := S8192x2048) h
  h1 : m ((c : Thread nD τ).loc main_arg1) = up (s := S8192x2048) p
  h2 : m ((c : Thread nD τ).loc main_arg2) = up (s := S1x2048) g
  h4 : m ((c : Thread nD τ).loc main_arg4) = up (s := S8192x2048) d

/-- The rows and the cotangent that point `t` reads. -/
def rblk (t : Fin cfg0.N) : S256x2048.Idx → ℝ := fun y => row h p (at_ t (y 0)) (y 1)
def dblk (t : Fin cfg0.N) : S256x2048.Idx → ℝ := fun y => d (ix2 (at_ t (y 0)) (y 1))

variable {m h p g d c}

/-- What the windows hold at a point. -/
theorem blk0 (H : At m h p g d c) (t : Fin cfg0.N) : iblk m c 0 t = up (s := S256x2048) (rblk h p t) := by
  funext y
  blk_simp [iblk]
  entry_read
  rw [show m (c, Proc.tc.devRef main_arg0) = _ from H.h0, show m (c, Proc.tc.devRef main_arg1) = _ from H.h1]
  pointwise
  simp only [up, rblk, row, ofBits_alpha, ofBits_half, ← EReal.coe_mul, ← EReal.coe_add]
  blk_point [idx t, at_]

theorem blk1 (H : At m h p g d c) (t : Fin cfg0.N) : iblk m c 1 t = up (s := S256x2048) (dblk d t) := by
  funext y
  blk_simp [iblk]
  rw [V_main_arg4, H.h4]
  simp only [up, dblk]
  blk_point [idx t, at_]

theorem blk2 (H : At m h p g d c) (t : Fin cfg0.N) : iblk m c 2 t = up (s := S1x2048) g := by
  funext y
  blk_simp [iblk]
  rw [V_main_arg2, H.h2]
  simp only [up]
  blk_point [idx t]

/-- Where a point's entry goes in the output arrays. -/
theorem place (t : Fin cfg0.N) (y : S256x2048.Idx) :
    (((cfg0.win 3).blk t).view.emb y : S8192x2048.Idx) = ix2 (at_ t (y 0)) (y 1)
    ∧ (((cfg0.win 4).blk t).view.emb y : S8192x2048.Idx) = ix2 (at_ t (y 0)) (y 1) :=
  ⟨by blk_ext [idx t, at_], by blk_ext [idx t, at_]⟩

theorem place_acc (t : Fin cfg0.N) (y : S1x2048.Idx) :
    (((cfg0.win 5).blk t).view.emb y : S1x2048.Idx) = ix2 0 (y 1) ∧ (((cfg0.win 6).blk t).view.emb y : S1x2048.Idx) = ix2 0 (y 1) :=
  ⟨by blk_ext [idx_acc t], by blk_ext [idx_acc t]⟩

open Cert.Reference8Ideal.Read Cert.Reference8Ideal.LnA

theorem point3 (t : Fin cfg0.N) (y : S256x2048.Idx) :
    k0_pay1 (F := Ideal) (k0_pay12 (F := Ideal) (up (rblk h p t)) (up (dblk d t)) (up g)) y
      = val_main_v69 (F := Ideal) (up h) (up p) (up g) (up d) (((cfg0.win 3).blk t).view.emb y) := by
  rw [(place t y).1, eta2 y]
  exact (pay1 _ _ _ (y 0) (y 1)).trans (res_dh h p g d (at_ t (y 0)) (y 1)).symm

theorem point4 (t : Fin cfg0.N) (y : S256x2048.Idx) :
    k0_pay2 (F := Ideal) (k0_pay12 (F := Ideal) (up (rblk h p t)) (up (dblk d t)) (up g)) y
      = val_main_v70 (F := Ideal) (up h) (up p) (up g) (up d) (((cfg0.win 4).blk t).view.emb y) := by
  rw [(place t y).2, eta2 y]
  exact (pay2 _ _ _ (y 0) (y 1)).trans (res_dp h p g d (at_ t (y 0)) (y 1)).symm

/-- The arrays after the last point are the reference's. -/
theorem final3 (H : At m h p g d c) : (dats m 0 c).arrAt 3 (cfgs 0).N = val_main_v69 (F := Ideal) (up h) (up p) (up g) (up d) := by
  refine (dats m 0 c).arrAt_eq_of_covers 3 _ (by decide +kernel) fun t _ y => ?_
  blk_simp
  rw [after0_3]
  by_cases h : t.val % 32 = 0
  · rw [outsAt0_A m c t h]
    frame_out
    rw [blk0 H, blk1 H, blk2 H]
    exact point3 t y
  · rw [outsAt0_B m c t h]
    frame_out
    rw [blk0 H, blk1 H, blk2 H]
    exact point3 t y

theorem final4 (H : At m h p g d c) : (dats m 0 c).arrAt 4 (cfgs 0).N = val_main_v70 (F := Ideal) (up h) (up p) (up g) (up d) := by
  refine (dats m 0 c).arrAt_eq_of_covers 4 _ (by decide +kernel) fun t _ y => ?_
  blk_simp
  rw [after0_4]
  by_cases h : t.val % 32 = 0
  · rw [outsAt0_A m c t h]
    frame_out
    rw [blk0 H, blk1 H, blk2 H]
    exact point4 t y
  · rw [outsAt0_B m c t h]
    frame_out
    rw [blk0 H, blk1 H, blk2 H]
    exact point4 t y

/-- The rows that the points read, point by point, are the rows of the array. -/
theorem sum_points (t : Fin cfg0.N) (ht : ∀ s : Fin 32, 32 * (t.val / 32) + s.val < cfg0.N) (f : Fin 8192 → ℝ) :
    (∑ s : Fin 32, ((∑ q : Fin 256, f (at_ ⟨32 * (t.val / 32) + s.val, ht s⟩ q) : ℝ) : EReal))
      = ((∑ r, f r : ℝ) : EReal) := by
  rw [coe_sum]
  congr 1
  refine Fin.sum_mul_add_congr fun s q hl => congrArg f (Fin.ext ?_)
  have := N32 t
  simp only [at_]
  omega

theorem final5 (H : At m h p g d c) : (dats m 0 c).arrAt 5 (cfgs 0).N = val_main_v65 (F := Ideal) (up h) (up p) (up d) := by
  refine (dats m 0 c).arrAt_eq_of_covers 5 _ (by decide +kernel) fun t hf y => ?_
  blk_simp
  rw [after0_5, Pipeline.eq_sum_fin_of_reset_step_apply_of_flush (fun n h => (outsAt0 m c n h).2.2.1) 32 (fun _ => 0)
    (fun s (j : S1x2048.Idx) => ((∑ q : Fin 256, d (ix2 (at_ s q) (j 1)) * hat eps (row h p (at_ s q)) (j 1) : ℝ) : EReal))
    (fun t h j => by
      rw [outsAt0_A m c t h]; frame_out; rw [blk0 H, blk1 H, eta2_1 j]
      exact (pay3 _ _ _ _).trans (congrArg (· + _) (zeros _).1))
    (fun t h j => by
      rw [outsAt0_B m c t h]; frame_out; rw [blk0 H, blk1 H, eta2_1 j]
      exact pay3 _ _ _ _)
    t ((flush0_5 t).mp hf) _, zero_add, (place_acc t y).1]
  exact (sum_points t _ fun r => d (ix2 r ((y : S1x2048.Idx) 1)) * hat eps (row h p r) ((y : S1x2048.Idx) 1)).trans (res_dg h p d _).symm

theorem final6 (H : At m h p g d c) : (dats m 0 c).arrAt 6 (cfgs 0).N = val_main_v64 (F := Ideal) (up d) := by
  refine (dats m 0 c).arrAt_eq_of_covers 6 _ (by decide +kernel) fun t hf y => ?_
  blk_simp
  rw [after0_6, Pipeline.eq_sum_fin_of_reset_step_apply_of_flush (fun n h => (outsAt0 m c n h).2.2.2.1) 32 (fun _ => 0)
    (fun s (j : S1x2048.Idx) => ((∑ q : Fin 256, d (ix2 (at_ s q) (j 1)) : ℝ) : EReal))
    (fun t h j => by
      rw [outsAt0_A m c t h]; frame_out; rw [blk1 H, eta2_1 j]
      exact (pay4 _ _ _).trans (congrArg (· + _) (zeros _).2.1))
    (fun t h j => by
      rw [outsAt0_B m c t h]; frame_out; rw [blk1 H, eta2_1 j]
      exact pay4 _ _ _)
    t ((flush0_6 t).mp hf) _, zero_add, (place_acc t y).2]
  exact (sum_points t _ fun r => d (ix2 r ((y : S1x2048.Idx) 1))).trans (res_db d _).symm

end Cert.Kernel8Ideal.LnA
-- ==== Proof.LnAClaim.lean ====
/- The claims about the gradient of the first sublayer's closing layer normalization: the runs of the three programs, and
   that the two of them agree on every result when the arguments are finite. -/
module

public import proofs.«01_k».proof.Defs
public import proofs.«01_k».proof.Proof.LnA
public import proofs.«01_k».proof.Proof.Gen.Kernel8.Frame
public import proofs.«01_k».proof.Proof.Gen.Reference8Ideal.Run

@[expose] public section

noncomputable section

open Idealize.ShloMosaic Idealize.SL.Sem

namespace Cert.Proof.LnAClaims

instance facts : Cert.Pre_finite_ln_a.Facts := ⟨by decide, by decide⟩

theorem frame_p : Cert.quiescent_Kernel8 := fun m ρ _ => Cert.Kernel8.Gen.frame m ρ

theorem frame_pi : Cert.quiescent_Kernel8Ideal := fun m ρ _ => Cert.Kernel8Ideal.Gen.frame m ρ

theorem frame_ri : Cert.quiescent_Reference8Ideal := fun m ρ _ =>
  (θ_run Cert.Reference8Ideal.defs _ _).mono
    (fun r h => ⟨fun c => (h c).2.2.2.2, sem_eq_zero_of_no_sems (by decide) r.2⟩)
    (Cert.Reference8Ideal.Value.run (F := Ideal) m ρ)

open Cert.Kernel8Ideal in
/-- Finite arguments are real numbers. -/
theorem real (m : (ℓ : Loc nD τ sig) → Buf (Elt Ideal) ℓ) (hp : Cert.Pre_Kernel8Ideal_finite_ln_a m) (c : Dev nD) :
    ∃ h p g d, Cert.Kernel8Ideal.LnA.At m h p g d c := by
  obtain ⟨h0, h1, h2, h4⟩ := hp c
  obtain ⟨h, h0⟩ := Cert.Reals.real_of_below _ _ h0
  obtain ⟨p, h1⟩ := Cert.Reals.real_of_below _ _ h1
  obtain ⟨g, h2⟩ := Cert.Reals.real_of_below _ _ h2
  obtain ⟨d, h4⟩ := Cert.Reals.real_of_below _ _ h4
  exact ⟨h, p, g, d, h0, h1, h2, h4⟩

/-- At `Ideal` both programs leave the same four arrays. -/
theorem algebraic : Cert.algebraic_Kernel8Ideal_Reference8Ideal_pre_finite_ln_a := by
  intro m g m' g' hp ha
  refine ⟨_, _, _, _, (θ_run Cert.Kernel8Ideal.defs _ _).mono
      (fun r h c => ⟨(h c).1, (h c).2.1, (h c).2.2.1, (h c).2.2.2.1, (h c).2.2.2.2.2⟩) (Cert.Kernel8Ideal.Value.run_blocks m g),
    (θ_run Cert.Reference8Ideal.defs _ _).mono (fun r h c => ?_) (Cert.Reference8Ideal.Value.run (F := Ideal) m' g')⟩
  obtain ⟨a0, a1, a2, a3, a4⟩ := ha c
  obtain ⟨_, _, _, _, H⟩ := real m hp c
  obtain ⟨r0, r1, r2, r3, k⟩ := h c
  rw [Cert.Reference8Ideal.Read.val_main_v69_eq, a0, a1, a2, a4, H.h0, H.h1, H.h2, H.h4] at r0
  rw [Cert.Reference8Ideal.Read.val_main_v70_eq, a0, a1, a2, a4, H.h0, H.h1, H.h2, H.h4] at r1
  rw [Cert.Reference8Ideal.Read.val_main_v65_eq, a0, a1, a4, H.h0, H.h1, H.h4] at r2
  rw [Cert.Reference8Ideal.Read.val_main_v64_eq, a4, H.h4] at r3
  exact ⟨r0.trans (Cert.Kernel8Ideal.LnA.final3 H).symm, r1.trans (Cert.Kernel8Ideal.LnA.final4 H).symm, r2.trans (Cert.Kernel8Ideal.LnA.final5 H).symm,
    r3.trans (Cert.Kernel8Ideal.LnA.final6 H).symm, k⟩

end Cert.Proof.LnAClaims

end
-- ==== Proof.LnAF.lean ====
/- The layer normalization after the first feed-forward layer over the extended reals: what the reference computes entry by entry, and the two
   arrays the kernel leaves. The body is that of the mixing sublayer's normalization; the row it normalizes is another. Nothing here asks the
   arguments to be finite. -/
module

public import proofs.«01_k».proof.Proof.Gen.Kernel9Ideal.Value
public import proofs.«01_k».proof.Proof.Gen.Reference9Ideal.Read
public import proofs.«01_k».proof.Proof.LnF
public import proofs.«01_k».proof.Proof.Da

@[expose] public section
set_option maxRecDepth 16384
noncomputable section
open Idealize.ShloMosaic Idealize.ShloMosaic.TcCoe Idealize.SL.Sem
open Cert.Reals (eps ofBits_eps alpha ofBits_alpha ofBits_2048)
open Cert.Gate (ofBits_half)

namespace Cert.Reference9Ideal.LnAF
open Cert.Reference9Ideal Cert.Reference9Ideal.Gen Cert.Reference9Ideal.Read
open Cert.LnF (mean dev norm)

variable (x s : FVec Ideal S8192x2048 .f32) (g e : FVec Ideal S1x2048 .f32)

/-- The row that is normalized: the residual and half of the feed-forward layer. -/
def row (r : Fin 8192) (k : Fin 2048) : EReal := (alpha : EReal) * x (ix2 r k) + ((1 / 2 : ℝ) : EReal) * s (ix2 r k)

theorem v4 (r k) : val_main_v4 (F := Ideal) x s (ix2 r k) = row x s r k := by
  pointwise [val_main_v4, val_main_v3, val_main_v2, val_main_v1, val_main_v0, val_main_cst, val_main_cst_0]
  simp only [row, ofBits_alpha, ofBits_half]

theorem v12 (r k) : val_main_v12 (F := Ideal) x s (ix2 r k) = dev (row x s r) k := by
  pointwise [val_main_v12, val_main_v11, val_main_v10, val_main_v9, val_main_v8, val_main_v7, val_main_cst_1, val_main_cst_2]
  simp only [v4, ofBits_2048]
  rfl

theorem v28 (r k) : val_main_v28 (F := Ideal) x s g e (ix2 r k) = norm (row x s r) (g (ix2 0 k)) (e (ix2 0 k)) k := by
  pointwise [val_main_v28, val_main_v27, val_main_v26, val_main_v25, val_main_v24, val_main_v23, val_main_v22, val_main_v21, val_main_v20, val_main_v19,
    val_main_v18, val_main_v17, val_main_v16, val_main_v15, val_main_v14, val_main_v13, val_main_v6, val_main_v5, val_main_cst_3, val_main_cst_4,
    val_main_cst_5]
  simp only [v12, ofBits_2048, ofBits_eps]
  rfl

theorem v29 (r k) : val_main_v29 (F := Ideal) x s g e (ix2 r k) = norm (row x s r) (g (ix2 0 k)) (e (ix2 0 k)) k := by
  pointwise [val_main_v29]
  exact v28 x s g e r k

end Cert.Reference9Ideal.LnAF

namespace Cert.Kernel9Ideal.LnAF
open Cert.Kernel9Ideal Cert.Kernel9Ideal.Gen Cert.Reference9Ideal.Read
open Cert.Reference9Ideal.LnAF (row)
open Cert.Kernel6Ideal.LnF (pay1 pay2 eta)

/-- Where each window's block lies at each point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

theorem N16 (t : Fin cfg0.N) : t.val < 16 := lt_of_lt_of_eq t.isLt N_0

/-- The array's row that is row `q` of point `t`'s block. -/
def at_ (t : Fin cfg0.N) (q : Fin 512) : Fin 8192 := ⟨512 * t.val + q.val, by have := N16 t; omega⟩

variable (m : (ℓ : Loc nD τ sig) → Buf (Elt Ideal) ℓ) (c : Dev nD)

/-- The four arguments. -/
abbrev X0 : FVec Ideal S8192x2048 .f32 := m ((c : Thread nD τ).loc main_arg0)
abbrev P0 : FVec Ideal S8192x2048 .f32 := m ((c : Thread nD τ).loc main_arg1)
abbrev G0 : FVec Ideal S1x2048 .f32 := m ((c : Thread nD τ).loc main_arg2)
abbrev E0 : FVec Ideal S1x2048 .f32 := m ((c : Thread nD τ).loc main_arg3)

theorem blk0 (t : Fin cfg0.N) (q : Fin 512) (k : Fin 2048) :
    (iblk m c 0 t : FVec Ideal S512x2048 .f32) (ix2 q k) = row (X0 m c) (P0 m c) (at_ t q) k := by
  blk_simp [iblk]
  entry_read
  pointwise
  simp only [row, ofBits_alpha, ofBits_half]
  blk_point [idx t, at_]

theorem blk1 (t : Fin cfg0.N) : iblk m c 1 t = G0 m c := by
  funext y
  blk_simp [iblk]
  rw [V_main_arg2]
  blk_point [idx t]

theorem blk2 (t : Fin cfg0.N) : iblk m c 2 t = E0 m c := by
  funext y
  blk_simp [iblk]
  rw [V_main_arg3]
  blk_point [idx t]

theorem place3 (t : Fin cfg0.N) (y : S512x2048.Idx) : (((cfg0.win 3).blk t).view.emb y : S8192x2048.Idx) = ix2 (at_ t (y 0)) (y 1) := by
  blk_ext [idx t, at_]
theorem place4 (t : Fin cfg0.N) (y : S512x2048.Idx) : (((cfg0.win 4).blk t).view.emb y : S8192x2048.Idx) = ix2 (at_ t (y 0)) (y 1) := by
  blk_ext [idx t, at_]

/-- The arrays after the last point are the reference's. -/
theorem final3 : (dats m 0 c).arrAt 3 (cfgs 0).N = val_main_v28 (F := Ideal) (X0 m c) (P0 m c) (G0 m c) (E0 m c) := by
  refine (dats m 0 c).arrAt_eq_of_covers 3 _ (by decide +kernel) fun t _ y => ?_
  blk_simp
  rw [after0_3, place3 t y]
  frame_out
  rw [blk1, blk2]
  obtain ⟨q, k, rfl⟩ := eta y
  refine (pay1 _ _ _ q k).trans ?_
  simp only [blk0]
  exact (Cert.Reference9Ideal.LnAF.v28 _ _ _ _ (at_ t q) k).symm

theorem final4 : (dats m 0 c).arrAt 4 (cfgs 0).N = val_main_v29 (F := Ideal) (X0 m c) (P0 m c) (G0 m c) (E0 m c) := by
  refine (dats m 0 c).arrAt_eq_of_covers 4 _ (by decide +kernel) fun t _ y => ?_
  blk_simp
  rw [after0_4, place4 t y]
  frame_out
  rw [blk1, blk2]
  obtain ⟨q, k, rfl⟩ := eta y
  refine (pay2 _ _ _ q k).trans ?_
  simp only [blk0]
  exact (Cert.Reference9Ideal.LnAF.v29 _ _ _ _ (at_ t q) k).symm

end Cert.Kernel9Ideal.LnAF

end
-- ==== Proof.LnAFClaim.lean ====
/- The claims about the layer normalization after the first feed-forward layer: the runs of the three programs, and that the two of them agree at every
   argument. -/
module

public import proofs.«01_k».proof.Defs
public import proofs.«01_k».proof.Proof.LnAF
public import proofs.«01_k».proof.Proof.Gen.Kernel9.Frame
public import proofs.«01_k».proof.Proof.Gen.Reference9Ideal.Run

@[expose] public section
noncomputable section
open Idealize.ShloMosaic Idealize.ShloMosaic.TcCoe Idealize.SL.Sem

namespace Cert.Proof.LnAFClaims

theorem frame_p : Cert.quiescent_Kernel9 := fun m ρ _ => Cert.Kernel9.Gen.frame m ρ

theorem frame_pi : Cert.quiescent_Kernel9Ideal := fun m ρ _ => Cert.Kernel9Ideal.Gen.frame m ρ

theorem frame_ri : Cert.quiescent_Reference9Ideal := fun m ρ _ =>
  (θ_run Cert.Reference9Ideal.defs _ _).mono
    (fun r h => ⟨fun c => (h c).2.2, sem_eq_zero_of_no_sems (by decide) r.2⟩)
    (Cert.Reference9Ideal.Value.run (F := Ideal) m ρ)

open Cert.Kernel9Ideal.LnAF in
/-- At `Ideal` both programs leave the same normalized rows, once as `f32` and once as `bf16`. -/
theorem algebraic : Cert.algebraic_Kernel9Ideal_Reference9Ideal := by
  intro m g m' g' _ ha
  refine ⟨_, _, Cert.Kernel9Ideal.Value.run_blocks m g,
    (θ_run Cert.Reference9Ideal.defs _ _).mono (fun r h c => ?_) (Cert.Reference9Ideal.Value.run (F := Ideal) m' g')⟩
  obtain ⟨a0, a1, a2, a3⟩ := ha c
  have e0 : m' ((c.tc : Thread Cert.Reference9Ideal.nD Cert.Reference9Ideal.τ).loc Cert.Reference9Ideal.main_arg0) = X0 m c := a0
  have e1 : m' ((c.tc : Thread Cert.Reference9Ideal.nD Cert.Reference9Ideal.τ).loc Cert.Reference9Ideal.main_arg1) = P0 m c := a1
  have e2 : m' ((c.tc : Thread Cert.Reference9Ideal.nD Cert.Reference9Ideal.τ).loc Cert.Reference9Ideal.main_arg2) = G0 m c := a2
  have e3 : m' ((c.tc : Thread Cert.Reference9Ideal.nD Cert.Reference9Ideal.τ).loc Cert.Reference9Ideal.main_arg3) = E0 m c := a3
  obtain ⟨r0, r1, k⟩ := h c
  rw [Cert.Reference9Ideal.Read.val_main_v28_eq, e0, e1, e2, e3] at r0
  rw [Cert.Reference9Ideal.Read.val_main_v29_eq, e0, e1, e2, e3] at r1
  exact ⟨r0.trans (final3 m c).symm, r1.trans (final4 m c).symm, k⟩

end Cert.Proof.LnAFClaims

end
-- ==== Proof.Slabs.lean ====
/- A block written or read a few rows at a time: the rows from one on of an array, and their places in it. -/
module

public import Idealize.ShloMosaic.Lib.Pipeline.ValueKit
public import Idealize.ShloMosaic.Lib.Pipeline.ReadBack

@[expose] public section
noncomputable section
open Idealize.ShloMosaic Idealize.ShloMosaic.TcCoe Idealize.SL.Sem

namespace Cert.Slabs

/-- The shape of `R` rows of `W` entries. -/
abbrev Sh (R W : ℕ) : Shape := ⟨2, ![R, W]⟩

/-- A total that starts over every fourth point, takes its own term at the next two and is read with a term more at the fourth, is the sum of
    the four points' terms. -/
theorem four {N : ℕ} {ι : Type} (f : (n : ℕ) → n < N → ι → EReal) (term : Fin N → ι → EReal)
    (hA : ∀ (t : Fin N) (y : ι), t.val % 4 = 0 → f t.val t.isLt y = term t y)
    (hB : ∀ (t : Fin N) (y : ι), 1 ≤ t.val % 4 ∧ t.val % 4 ≤ 2 → f t.val t.isLt y = f (t.val - 1) (Nat.lt_of_le_of_lt (Nat.sub_le _ _) t.isLt) y + term t y)
    (t : Fin N) (h : t.val % 4 = 3) (y : ι) :
    f (t.val - 1) (Nat.lt_of_le_of_lt (Nat.sub_le _ _) t.isLt) y + term t y
      = ∑ s : Fin 4, term ⟨4 * (t.val / 4) + s.val, by have := t.isLt; omega⟩ y := by
  obtain ⟨n, hn⟩ := t
  obtain ⟨k, rfl⟩ : ∃ k, n = 4 * k + 3 := ⟨n / 4, by dsimp only at h; omega⟩
  have d : (4 * k + 3) / 4 = k := by omega
  have e2 := hB ⟨4 * k + 2, by omega⟩ y (by dsimp only; omega)
  have e1 := hB ⟨4 * k + 1, by omega⟩ y (by dsimp only; omega)
  have e0 := hA ⟨4 * k, by omega⟩ y (by dsimp only; omega)
  simp only [Fin.sum_univ_four]
  refine (congrArg (· + _) (e2.trans (congrArg (· + _) (e1.trans (congrArg (· + _) e0))))).trans ?_
  refine congrArg₂ _ (congrArg₂ _ (congrArg₂ _ ?_ ?_) ?_) ?_ <;> exact congrArg (fun s => term s y) (Fin.ext (by dsimp only; show _ = 4 * ((4 * k + 3) / 4) + _; rw [d]; rfl))

variable {R W n : ℕ} (o : ℕ) (ho : o + n ≤ R)

include ho in
/-- The rows from `o` on of an array. -/
theorem slice (hs : (Sh R W).Slices ![o, 0] (Sh n W)) (x : FVec Ideal (Sh R W) .f32) (q : Fin n) (k : Fin W) :
    extractStridedSlice (Sh n W) ![o, 0] x hs (ix2 q k) = x (ix2 ⟨o + q.val, by omega⟩ k) := by
  refine extractStridedSlice_apply _ _ _ _ _ fun a => ?_
  match a with
  | ⟨0, _⟩ => rfl
  | ⟨1, _⟩ => exact (Nat.zero_add _).symm

include ho in
/-- The place in the array of an entry of the rows from `o` on. -/
theorem place (hb : ∀ a, (![o, 0] : Fin 2 → ℕ) a + (Sh n W).size a ≤ (Sh R W).size a) (q : Fin n) (k : Fin W) :
    (Rect.unit (s := Sh R W) ![o, 0] (Sh n W).size hb).emb (ix2 q k : (Sh n W).Idx) = ix2 ⟨o + q.val, by omega⟩ k := by
  refine funext fun a => Fin.ext ?_
  match a with
  | ⟨0, _⟩ => exact congrArg (o + ·) (Nat.one_mul _)
  | ⟨1, _⟩ => exact (Nat.zero_add _).trans (Nat.one_mul _)

theorem eta (x : (Sh R W).Idx) : ∃ (q : Fin R) (k : Fin W), x = ix2 q k := ⟨x 0, x 1, by blk_ext⟩

include ho in
/-- The rows taken from an array are its entries at their places. -/
theorem taken (hb : ∀ a, (![o, 0] : Fin 2 → ℕ) a + (Sh n W).size a ≤ (Sh R W).size a) (hs : (Sh R W).Slices ![o, 0] (Sh n W))
    (u : FVec Ideal (Sh R W) .f32) (x : (Sh n W).Idx) :
    extractStridedSlice (Sh n W) ![o, 0] u hs x = u ((Rect.unit (s := Sh R W) ![o, 0] (Sh n W).size hb).emb x) := by
  obtain ⟨q, k, rfl⟩ := eta x
  rw [place o ho hb]
  exact slice o ho hs u q k

end Cert.Slabs

end
-- ==== Proof.UpA.lean ====
/- The second factor of the gated product `silu(x·wg) * (x·wu)` and the product, the first factor being given to the kernel as an array: what
   the reference computes entry by entry, what the kernel leaves of one block, and the two arrays the kernel leaves. Nothing here asks the
   arguments to be finite. -/
module

public import proofs.«01_k».proof.Proof.Gen.Kernel10Ideal.Value
public import proofs.«01_k».proof.Proof.Gen.Reference10Ideal.Read
public import proofs.«01_k».proof.Proof.Up
public import proofs.«01_k».proof.Proof.Slabs
public import Idealize.ShloMosaic.Lib.Pipeline.ValueKit
public import Idealize.ShloMosaic.Lib.Pipeline.ReadBack

@[expose] public section
set_option maxRecDepth 16384
noncomputable section
open Idealize.ShloMosaic Idealize.ShloMosaic.TcCoe Idealize.SL.Sem

namespace Cert.Reference10Ideal.UpA
open Cert.Reference10Ideal Cert.Reference10Ideal.Gen Cert.Reference10Ideal.Read Cert.Up
open Cert.Reference7Ideal.Up (prod)

variable (x : FVec Ideal S8192x2048 .f32) (wg wu : FVec Ideal S2048x5632 .f32)

theorem v0 (r f) : val_main_v0 (F := Ideal) x wu (ix2 r f) = prod x wu r f := by
  pointwise [val_main_v0]
  rfl
theorem v2 (r f) : val_main_v2 (F := Ideal) x wg (ix2 r f) = prod x wg r f := by
  pointwise [val_main_v2]
  rfl
theorem v1 (r f) : val_main_v1 (F := Ideal) x wu (ix2 r f) = prod x wu r f := by
  pointwise [val_main_v1]
  exact v0 x wu r f

theorem v5 (r f) : val_main_v5 (F := Ideal) x wg wu (ix2 r f) = act (prod x wg r f) (prod x wu r f) := by
  pointwise [val_main_v5, val_main_v4, val_main_v3, val_main_call0_v5, val_main_call0_v4, val_main_call0_cst_0, val_main_call0_v3,
    val_main_call0_v2, val_main_call0_cst, val_main_call0_v1, val_main_call0_v0]
  simp only [v0, v2]
  rfl

end Cert.Reference10Ideal.UpA

namespace Cert.Kernel10Ideal.UpA
open Cert.Kernel10Ideal Cert.Kernel10Ideal.Gen Cert.Up
open Cert.Slabs (taken eta)
open Cert.Reference7Ideal.Up (prod)
open Cert.Gate (ofBits_half)

/-! ## One block -/

/-- A slab of the second factor, rounded. -/
def slabOf (o : ℕ) (hs : S1024x1408.Slices ![o, 0] S128x1408) (u : FVec Ideal S1024x1408 .f32) : FVec Ideal S128x1408 .bf16 :=
  truncf .bf16 (extractStridedSlice S128x1408 ![o, 0] u hs) bitsLt_bf16_f32

/-- The first factor's slab, and it scaled by the logistic function as the body does. -/
def wide (G : FVec Ideal S128x1408 .bf16) : FVec Ideal S128x1408 .f32 :=
  extf .f32 (shapeCast S128x1408 G shapeCasts_S128x1408_S128x1408) bitsLt_bf16_f32
def gated (G : FVec Ideal S128x1408 .bf16) : FVec Ideal S128x1408 .f32 :=
  mulf (wide G) (addf (mulf (broadcast S128x1408 (Scalar.ofBits .f32 0x3F000000#32))
    (tanh (mulf (broadcast S128x1408 (Scalar.ofBits .f32 0x3F000000#32)) (wide G)))) (broadcast S128x1408 (Scalar.ofBits .f32 0x3F000000#32)))

/-- A slab of the gated product, as the body computes it. -/
def slabAct (o : ℕ) (hs : S1024x1408.Slices ![o, 0] S128x1408) (G : FVec Ideal S128x1408 .bf16) (u : FVec Ideal S1024x1408 .f32) :
    FVec Ideal S128x1408 .bf16 :=
  truncf .bf16 (mulf (gated G) (extractStridedSlice S128x1408 ![o, 0] u hs)) bitsLt_bf16_f32

theorem storeF (o : ℕ) (ho : o + 128 ≤ 1024) (hb : ∀ a, (![o, 0] : Fin 2 → ℕ) a + S128x1408.size a ≤ S1024x1408.size a)
    (hs : S1024x1408.Slices ![o, 0] S128x1408) (u : FVec Ideal S1024x1408 .f32) (x : S128x1408.Idx) :
    slabOf o hs u x = u ((Rect.unit (s := S1024x1408) ![o, 0] S128x1408.size hb).emb x) := by
  exact taken o ho hb hs u x

theorem gated_apply (G : FVec Ideal S128x1408 .bf16) (q k) : gated G (ix2 q k) = G (ix2 q k) * lg (G (ix2 q k)) := by
  pointwise [gated, wide]
  rw [ofBits_half, lg_tanh]

theorem storeA (o : ℕ) (ho : o + 128 ≤ 1024) (hb : ∀ a, (![o, 0] : Fin 2 → ℕ) a + S128x1408.size a ≤ S1024x1408.size a)
    (hs : S1024x1408.Slices ![o, 0] S128x1408) (g : FVec Ideal S1024x1408 .bf16) (u : FVec Ideal S1024x1408 .f32) (x : S128x1408.Idx) :
    slabAct o hs (View.ld (Val := Elt Ideal) (e' := .bf16) g (Rect.unit (s := S1024x1408) ![o, 0] S128x1408.size hb)) u x
      = (fun y => act (g y) (u y)) ((Rect.unit (s := S1024x1408) ![o, 0] S128x1408.size hb).emb x) := by
  obtain ⟨q, k, rfl⟩ := eta x
  show gated _ (ix2 q k) * extractStridedSlice S128x1408 ![o, 0] u hs (ix2 q k) = act _ _
  rw [gated_apply, taken o ho hb hs u]
  rfl

section block
variable (h : FVec Ideal S1024x2048 .bf16) (wu : FVec Ideal S1x2048x1408 .bf16) (g : FVec Ideal S1024x1408 .bf16)

theorem whole0 : View.ld (Val := Elt Ideal) (e' := .bf16) h r0_0 = h := View.ld_unit_zero (by decide) _ _
theorem whole1 : View.ld (Val := Elt Ideal) (e' := .bf16) wu r0_1 = wu := View.ld_unit_zero (by decide) _ _

/-- The second factor's block. -/
theorem pay1 (q k) : k0_pay1 (F := Ideal) h wu (ix2 q k) = ∑ j : Fin 2048, h (ix2 q j) * wu (ix3 0 j k) := by
  pointwise [k0_pay1]

open Cert.Kernel4Ideal.Gate (canon_pieces)

theorem out3 : out0_3 (F := Ideal) h wu g = k0_pay1 (F := Ideal) h wu := by
  funext y
  unfold_out out0_3
  rw [whole0, whole1]
  refine canon_pieces (k0_pay1 (F := Ideal) h wu) _ ?_ y (cover0_3 _ _ _ _ _ _ _ _ y)
  exact ⟨storeF 896 (by decide) inb_S1024x1408_S128x1408_896_0 slices_S1024x1408_o896_0_S128x1408 (k0_pay1 (F := Ideal) h wu),
    storeF 768 (by decide) inb_S1024x1408_S128x1408_768_0 slices_S1024x1408_o768_0_S128x1408 (k0_pay1 (F := Ideal) h wu),
    storeF 640 (by decide) inb_S1024x1408_S128x1408_640_0 slices_S1024x1408_o640_0_S128x1408 (k0_pay1 (F := Ideal) h wu),
    storeF 512 (by decide) inb_S1024x1408_S128x1408_512_0 slices_S1024x1408_o512_0_S128x1408 (k0_pay1 (F := Ideal) h wu),
    storeF 384 (by decide) inb_S1024x1408_S128x1408_384_0 slices_S1024x1408_o384_0_S128x1408 (k0_pay1 (F := Ideal) h wu),
    storeF 256 (by decide) inb_S1024x1408_S128x1408_256_0 slices_S1024x1408_o256_0_S128x1408 (k0_pay1 (F := Ideal) h wu),
    storeF 128 (by decide) inb_S1024x1408_S128x1408_128_0 slices_S1024x1408_o128_0_S128x1408 (k0_pay1 (F := Ideal) h wu),
    storeF 0 (by decide) inb_S1024x1408_S128x1408_0_0 slices_S1024x1408_o0_0_S128x1408 (k0_pay1 (F := Ideal) h wu),
    trivial⟩

theorem out4 : out0_4 (F := Ideal) h wu g = fun y => act (g y) (k0_pay1 (F := Ideal) h wu y) := by
  funext y
  unfold_out out0_4
  rw [whole0, whole1]
  refine canon_pieces (fun y => act (g y) (k0_pay1 (F := Ideal) h wu y)) _ ?_ y (cover0_4 _ _ _ _ _ _ _ _ y)
  exact ⟨storeA 896 (by decide) inb_S1024x1408_S128x1408_896_0 slices_S1024x1408_o896_0_S128x1408 g (k0_pay1 (F := Ideal) h wu),
    storeA 768 (by decide) inb_S1024x1408_S128x1408_768_0 slices_S1024x1408_o768_0_S128x1408 g (k0_pay1 (F := Ideal) h wu),
    storeA 640 (by decide) inb_S1024x1408_S128x1408_640_0 slices_S1024x1408_o640_0_S128x1408 g (k0_pay1 (F := Ideal) h wu),
    storeA 512 (by decide) inb_S1024x1408_S128x1408_512_0 slices_S1024x1408_o512_0_S128x1408 g (k0_pay1 (F := Ideal) h wu),
    storeA 384 (by decide) inb_S1024x1408_S128x1408_384_0 slices_S1024x1408_o384_0_S128x1408 g (k0_pay1 (F := Ideal) h wu),
    storeA 256 (by decide) inb_S1024x1408_S128x1408_256_0 slices_S1024x1408_o256_0_S128x1408 g (k0_pay1 (F := Ideal) h wu),
    storeA 128 (by decide) inb_S1024x1408_S128x1408_128_0 slices_S1024x1408_o128_0_S128x1408 g (k0_pay1 (F := Ideal) h wu),
    storeA 0 (by decide) inb_S1024x1408_S128x1408_0_0 slices_S1024x1408_o0_0_S128x1408 g (k0_pay1 (F := Ideal) h wu),
    trivial⟩

end block

/-! ## The blocks of the arrays -/

/-- Where each window's block lies at each point. -/
theorem idx : ∀ t : Fin cfg0.N, win0_0.index t = ![t.val % 8, 0] ∧ win0_1.index t = ![t.val / 8, 0, 0] ∧ win0_2.index t = ![t.val % 8, t.val / 8]
    ∧ win0_3.index t = ![t.val % 8, t.val / 8] ∧ win0_4.index t = ![t.val % 8, t.val / 8] :=
  (by decide +kernel : ∀ t : Fin grid0.N, _)

theorem N32 (t : Fin cfg0.N) : t.val < 32 := lt_of_lt_of_eq t.isLt N_0

/-- The array's row and column of row `q` and column `k` of point `t`'s block. -/
def row (t : Fin cfg0.N) (q : Fin 1024) : Fin 8192 := ⟨1024 * (t.val % 8) + q.val, by omega⟩
def col (t : Fin cfg0.N) (k : Fin 1408) : Fin 5632 := ⟨1408 * (t.val / 8) + k.val, by have := N32 t; omega⟩

variable (m : (ℓ : Loc nD τ sig) → Buf (Elt Ideal) ℓ) (c : Dev nD)

/-- The three arguments. -/
abbrev A0 : FVec Ideal S8192x2048 .f32 := m ((c : Thread nD τ).loc main_arg0)
abbrev A1 : FVec Ideal S2048x5632 .f32 := m ((c : Thread nD τ).loc main_arg1)
abbrev A2 : FVec Ideal S2048x5632 .f32 := m ((c : Thread nD τ).loc main_arg2)

theorem blk0 (t : Fin cfg0.N) (q : Fin 1024) (j : Fin 2048) :
    (iblk m c 0 t : FVec Ideal S1024x2048 .bf16) (ix2 q j) = A0 m c (ix2 (row t q) j) := by
  blk_simp [iblk]
  entry_read
  pointwise
  blk_point [idx t, row]

theorem blk1 (t : Fin cfg0.N) (j : Fin 2048) (k : Fin 1408) :
    (iblk m c 1 t : FVec Ideal S1x2048x1408 .bf16) (ix3 0 j k) = A2 m c (ix2 j (col t k)) := by
  blk_simp [iblk]
  entry_read
  pointwise
  blk_point [idx t, col]

/-- The first factor's block is a block of the product of the arrays. -/
theorem blk2 (t : Fin cfg0.N) (q : Fin 1024) (k : Fin 1408) :
    (iblk m c 2 t : FVec Ideal S1024x1408 .bf16) (ix2 q k) = prod (A0 m c) (A1 m c) (row t q) (col t k) := by
  blk_simp [iblk]
  entry_read
  pointwise
  blk_point [idx t, row, col]

/-- Where a point's entry goes in the output arrays. -/
theorem place (t : Fin cfg0.N) (y : S1024x1408.Idx) :
    (((cfg0.win 3).blk t).view.emb y : S8192x5632.Idx) = ix2 (row t (y 0)) (col t (y 1))
    ∧ (((cfg0.win 4).blk t).view.emb y : S8192x5632.Idx) = ix2 (row t (y 0)) (col t (y 1)) :=
  ⟨by blk_ext [idx t, row, col], by blk_ext [idx t, row, col]⟩

/-- So is the second factor's. -/
theorem other (t : Fin cfg0.N) (q k) : k0_pay1 (F := Ideal) (iblk m c 0 t) (iblk m c 1 t) (ix2 q k) = prod (A0 m c) (A2 m c) (row t q) (col t k) := by
  refine (pay1 _ _ q k).trans ?_
  simp only [blk0, blk1]
  rfl

open Cert.Reference10Ideal.Read Cert.Reference10Ideal.UpA

/-- The arrays after the last point are the reference's. -/
theorem final3 : (dats m 0 c).arrAt 3 (cfgs 0).N = val_main_v1 (F := Ideal) (A0 m c) (A2 m c) := by
  refine (dats m 0 c).arrAt_eq_of_covers 3 _ (by decide +kernel) fun t _ y => ?_
  blk_simp
  rw [after0_3, (place t y).1, out3]
  obtain ⟨q, k, rfl⟩ := eta y
  exact (other m c t q k).trans (v1 _ _ (row t q) (col t k)).symm

theorem final4 : (dats m 0 c).arrAt 4 (cfgs 0).N = val_main_v5 (F := Ideal) (A0 m c) (A1 m c) (A2 m c) := by
  refine (dats m 0 c).arrAt_eq_of_covers 4 _ (by decide +kernel) fun t _ y => ?_
  blk_simp
  rw [after0_4, (place t y).2, out4]
  obtain ⟨q, k, rfl⟩ := eta y
  exact (congrArg₂ act (blk2 m c t q k) (other m c t q k)).trans (v5 _ _ _ (row t q) (col t k)).symm

end Cert.Kernel10Ideal.UpA

end
-- ==== Proof.UpAClaim.lean ====
/- The claims about the second factor and the gated product of the first feed-forward layer: the runs of the three programs, and that the two of
   them agree at every argument. -/
module

public import proofs.«01_k».proof.Defs
public import proofs.«01_k».proof.Proof.UpA
public import proofs.«01_k».proof.Proof.Gen.Kernel10.Frame
public import proofs.«01_k».proof.Proof.Gen.Reference10Ideal.Run

@[expose] public section
noncomputable section
open Idealize.ShloMosaic Idealize.ShloMosaic.TcCoe Idealize.SL.Sem

namespace Cert.Proof.UpAClaims

theorem frame_p : Cert.quiescent_Kernel10 := fun m ρ _ => Cert.Kernel10.Gen.frame m ρ

theorem frame_pi : Cert.quiescent_Kernel10Ideal := fun m ρ _ => Cert.Kernel10Ideal.Gen.frame m ρ

theorem frame_ri : Cert.quiescent_Reference10Ideal := fun m ρ _ =>
  (θ_run Cert.Reference10Ideal.defs _ _).mono
    (fun r h => ⟨fun c => (h c).2.2, sem_eq_zero_of_no_sems (by decide) r.2⟩)
    (Cert.Reference10Ideal.Value.run (F := Ideal) m ρ)

open Cert.Kernel10Ideal.UpA in
/-- At `Ideal` both programs leave the same factor and the same gated product. -/
theorem algebraic : Cert.algebraic_Kernel10Ideal_Reference10Ideal := by
  intro m g m' g' _ ha
  refine ⟨_, _, Cert.Kernel10Ideal.Value.run_blocks m g,
    (θ_run Cert.Reference10Ideal.defs _ _).mono (fun r h c => ?_) (Cert.Reference10Ideal.Value.run (F := Ideal) m' g')⟩
  obtain ⟨a0, a1, a2⟩ := ha c
  have e0 : m' ((c.tc : Thread Cert.Reference10Ideal.nD Cert.Reference10Ideal.τ).loc Cert.Reference10Ideal.main_arg0) = A0 m c := a0
  have e1 : m' ((c.tc : Thread Cert.Reference10Ideal.nD Cert.Reference10Ideal.τ).loc Cert.Reference10Ideal.main_arg1) = A1 m c := a1
  have e2 : m' ((c.tc : Thread Cert.Reference10Ideal.nD Cert.Reference10Ideal.τ).loc Cert.Reference10Ideal.main_arg2) = A2 m c := a2
  obtain ⟨r0, r1, k⟩ := h c
  rw [Cert.Reference10Ideal.Read.val_main_v1_eq, e0, e2] at r0
  rw [Cert.Reference10Ideal.Read.val_main_v5_eq, e0, e1, e2] at r1
  exact ⟨r0.trans (final3 m c).symm, r1.trans (final4 m c).symm, k⟩

end Cert.Proof.UpAClaims

end
-- ==== Proof.Dh.lean ====
/- The cotangent of a feed-forward layer's argument, from the cotangents of its two products and of the residual: what the reference computes
   entry by entry, what the kernel gathers over four points of its grid, and the array it leaves. Nothing here asks the arguments to be
   finite. -/
module

public import proofs.«01_k».proof.Proof.Gen.Kernel11Ideal.Value
public import proofs.«01_k».proof.Proof.Gen.Reference11Ideal.Read
public import proofs.«01_k».proof.Proof.Da
public import proofs.«01_k».proof.Proof.Slabs
public import Idealize.ShloMosaic.Lib.Pipeline.ValueKit
public import Idealize.ShloMosaic.Lib.Pipeline.ReadBack

@[expose] public section
set_option maxRecDepth 16384
noncomputable section
open Idealize.ShloMosaic Idealize.ShloMosaic.TcCoe Idealize.SL.Sem

namespace Cert.Reference11Ideal.Dh
open Cert.Reference11Ideal Cert.Reference11Ideal.Gen Cert.Reference11Ideal.Read

/-- An entry of the product with the transposed weight. -/
def prodT (g : FVec Ideal S8192x5632 .f32) (w : FVec Ideal S2048x5632 .f32) (r : Fin 8192) (k : Fin 2048) : EReal :=
  ∑ j : Fin 5632, g (ix2 r j) * w (ix2 k j)

variable (wg wu : FVec Ideal S2048x5632 .f32) (dg du : FVec Ideal S8192x5632 .f32) (dres : FVec Ideal S8192x2048 .f32)

theorem v4 (r k) : val_main_v4 (F := Ideal) wu du (ix2 r k) = prodT du wu r k := by
  pointwise [val_main_v4]
  rfl

theorem v7 (r k) : val_main_v7 (F := Ideal) wg dg (ix2 r k) = prodT dg wg r k := by
  pointwise [val_main_v7]
  rfl

theorem v9 (r k) : val_main_v9 (F := Ideal) wg wu dg du dres (ix2 r k) = (prodT dg wg r k + prodT du wu r k) + dres (ix2 r k) := by
  pointwise [val_main_v9, val_main_v8]
  rw [v4, v7, add_comm (prodT du wu r k)]

end Cert.Reference11Ideal.Dh

namespace Cert.Kernel11Ideal.Dh
open Cert.Kernel11Ideal Cert.Kernel11Ideal.Gen
open Cert.Slabs (taken eta four)
open Cert.Reference11Ideal.Dh (prodT)

/-- A slab of the result, as the body computes it from the gathered block and the residual cotangent's slab. -/
def slabOf (o : ℕ) (hs : S1024x1024.Slices ![o, 0] S128x1024) (H : FVec Ideal S128x1024 .f32) (p : FVec Ideal S1024x1024 .f32) :
    FVec Ideal S128x1024 .f32 :=
  addf (extractStridedSlice S128x1024 ![o, 0] p hs) H

theorem store (o : ℕ) (ho : o + 128 ≤ 1024) (hb : ∀ a, (![o, 0] : Fin 2 → ℕ) a + S128x1024.size a ≤ S1024x1024.size a)
    (hs : S1024x1024.Slices ![o, 0] S128x1024) (h p : FVec Ideal S1024x1024 .f32) (x : S128x1024.Idx) :
    slabOf o hs (View.ld (Val := Elt Ideal) (e' := .f32) h (Rect.unit (s := S1024x1024) ![o, 0] S128x1024.size hb)) p x
      = (fun y => p y + h y) ((Rect.unit (s := S1024x1024) ![o, 0] S128x1024.size hb).emb x) := by
  obtain ⟨q, k, rfl⟩ := eta x
  show extractStridedSlice S128x1024 ![o, 0] p hs (ix2 q k) + h ((Rect.unit (s := S1024x1024) ![o, 0] S128x1024.size hb).emb (ix2 q k)) = _
  rw [taken o ho hb hs p]

section block
variable (dg du : FVec Ideal S1024x1408 .bf16) (wg wu : FVec Ideal S1x1024x1408 .bf16) (s dres : FVec Ideal S1024x1024 .f32)

/-- A point's own term: the two products of its blocks. -/
def part (y : S1024x1024.Idx) : EReal :=
  (∑ j : Fin 1408, dg (ix2 (y 0) j) * wg (ix3 0 (y 1) j)) + ∑ j : Fin 1408, du (ix2 (y 0) j) * wu (ix3 0 (y 1) j)

theorem pay1 (y) : k0_pay1 (F := Ideal) dg wg du wu y = part dg du wg wu y := by
  obtain ⟨q, k, rfl⟩ := eta y
  pointwise [k0_pay1]
  rfl

theorem pay2 (y) : k0_pay2 (F := Ideal) dg wg du wu s y = s y + part dg du wg wu y := by
  obtain ⟨q, k, rfl⟩ := eta y
  pointwise [k0_pay2]
  rfl

theorem pay7 (y) : k0_pay7 (F := Ideal) dg wg du wu s y = s y + part dg du wg wu y := by
  obtain ⟨q, k, rfl⟩ := eta y
  pointwise [k0_pay7]
  rfl

end block

/-- Where each window's block lies at each point. -/
theorem idx : ∀ t : Fin cfg0.N, win0_0.index t = ![t.val / 8, t.val % 4] ∧ win0_1.index t = ![t.val / 8, t.val % 4]
    ∧ win0_2.index t = ![t.val % 4, t.val / 4 % 2, 0] ∧ win0_3.index t = ![t.val % 4, t.val / 4 % 2, 0]
    ∧ win0_4.index t = ![t.val / 8, t.val / 4 % 2] ∧ win0_5.index t = ![t.val / 8, t.val / 4 % 2] :=
  (by decide +kernel : ∀ t : Fin grid0.N, _)

theorem N64 (t : Fin cfg0.N) : t.val < 64 := lt_of_lt_of_eq t.isLt N_0

/-- The arrays' row, column and place in the contraction of row `q`, column `k` and place `j` of point `t`'s blocks. -/
def row (t : Fin cfg0.N) (q : Fin 1024) : Fin 8192 := ⟨1024 * (t.val / 8) + q.val, by have := N64 t; omega⟩
def col (t : Fin cfg0.N) (k : Fin 1024) : Fin 2048 := ⟨1024 * (t.val / 4 % 2) + k.val, by omega⟩
def mid (t : Fin cfg0.N) (j : Fin 1408) : Fin 5632 := ⟨1408 * (t.val % 4) + j.val, by omega⟩

variable (m : (ℓ : Loc nD τ sig) → Buf (Elt Ideal) ℓ) (c : Dev nD)

/-- The five arguments that the result is computed from. -/
abbrev A1 : FVec Ideal S2048x5632 .f32 := m ((c : Thread nD τ).loc main_arg1)
abbrev A2 : FVec Ideal S2048x5632 .f32 := m ((c : Thread nD τ).loc main_arg2)
abbrev A3 : FVec Ideal S8192x5632 .f32 := m ((c : Thread nD τ).loc main_arg3)
abbrev A4 : FVec Ideal S8192x5632 .f32 := m ((c : Thread nD τ).loc main_arg4)
abbrev A5 : FVec Ideal S8192x2048 .f32 := m ((c : Thread nD τ).loc main_arg5)

theorem blk0 (t : Fin cfg0.N) (q : Fin 1024) (j : Fin 1408) :
    (iblk m c 0 t : FVec Ideal S1024x1408 .bf16) (ix2 q j) = A3 m c (ix2 (row t q) (mid t j)) := by
  blk_simp [iblk]
  entry_read
  pointwise
  blk_point [idx t, row, mid]

theorem blk1 (t : Fin cfg0.N) (q : Fin 1024) (j : Fin 1408) :
    (iblk m c 1 t : FVec Ideal S1024x1408 .bf16) (ix2 q j) = A4 m c (ix2 (row t q) (mid t j)) := by
  blk_simp [iblk]
  entry_read
  pointwise
  blk_point [idx t, row, mid]

theorem blk2 (t : Fin cfg0.N) (k : Fin 1024) (j : Fin 1408) :
    (iblk m c 2 t : FVec Ideal S1x1024x1408 .bf16) (ix3 0 k j) = A1 m c (ix2 (col t k) (mid t j)) := by
  blk_simp [iblk]
  entry_read
  pointwise
  blk_point [idx t, col, mid]

theorem blk3 (t : Fin cfg0.N) (k : Fin 1024) (j : Fin 1408) :
    (iblk m c 3 t : FVec Ideal S1x1024x1408 .bf16) (ix3 0 k j) = A2 m c (ix2 (col t k) (mid t j)) := by
  blk_simp [iblk]
  entry_read
  pointwise
  blk_point [idx t, col, mid]

theorem blk4 (t : Fin cfg0.N) (q k : Fin 1024) :
    (iblk m c 4 t : FVec Ideal S1024x1024 .f32) (ix2 q k) = A5 m c (ix2 (row t q) (col t k)) := by
  blk_simp [iblk]
  rw [V_main_arg5]
  blk_point [idx t, row, col]

/-- Where a point's entry goes in the output array. -/
theorem place (t : Fin cfg0.N) (y : S1024x1024.Idx) : (((cfg0.win 5).blk t).view.emb y : S8192x2048.Idx) = ix2 (row t (y 0)) (col t (y 1)) := by
  blk_ext [idx t, row, col]

/-- A point's own term. -/
def term (t : Fin cfg0.N) (y : S1024x1024.Idx) : EReal := part (iblk m c 0 t) (iblk m c 1 t) (iblk m c 2 t) (iblk m c 3 t) y

/-- The gathered block and a last point's own term are the sum of the four points' terms. -/
theorem gathered (t : Fin cfg0.N) (h : t.val % 4 = 3) (y : S1024x1024.Idx) :
    (outsAt0 m c (t.val - 1) (Nat.lt_of_le_of_lt (Nat.sub_le _ _) t.isLt)).2 y + term m c t y
      = ∑ s : Fin 4, term m c ⟨4 * (t.val / 4) + s.val, by have := t.isLt; omega⟩ y := by
  refine four (fun n h => (outsAt0 m c n h).2) (term m c) (fun t y h => ?_) (fun t y h => ?_) t h y
  · rw [outsAt0_A m c t h (by omega) (by omega)]
    frame_out
    exact pay1 _ _ _ _ y
  · rw [outsAt0_B m c t (by omega) h (by omega)]
    frame_out
    rw [read_unread_whole]
    exact pay2 _ _ _ _ _ y

open Cert.Kernel4Ideal.Gate (canon_pieces)

/-- What a last point leaves of the output's block. -/
theorem last (t : Fin cfg0.N) (h : t.val % 4 = 3) (y : S1024x1024.Idx) :
    (outsAt0 m c t.val t.isLt).1 y
      = ((outsAt0 m c (t.val - 1) (Nat.lt_of_le_of_lt (Nat.sub_le _ _) t.isLt)).2 y + term m c t y) + (iblk m c 4 t : FVec Ideal S1024x1024 .f32) y := by
  rw [outsAt0_C m c t (by omega) (by omega) h]
  frame_out
  rw [read_unread_whole]
  have S := fun o ho hb hs => store o ho hb hs (iblk m c 4 t) (k0_pay7 (F := Ideal) (iblk m c 0 t) (iblk m c 2 t) (iblk m c 1 t) (iblk m c 3 t)
    (outsAt0 m c (t.val - 1) (Nat.lt_of_le_of_lt (Nat.sub_le _ _) t.isLt)).2)
  refine (canon_pieces (fun y => k0_pay7 (F := Ideal) (iblk m c 0 t) (iblk m c 2 t) (iblk m c 1 t) (iblk m c 3 t)
    (outsAt0 m c (t.val - 1) (Nat.lt_of_le_of_lt (Nat.sub_le _ _) t.isLt)).2 y + (iblk m c 4 t : FVec Ideal S1024x1024 .f32) y) _ ?_ y
    (View.cover_of_tiledBy _ ![128, 1024] (by sl_kernel_rfl) y)).trans (congrArg (· + _) (pay7 _ _ _ _ _ y))
  exact ⟨S 896 (by decide) inb_S1024x1024_S128x1024_896_0 slices_S1024x1024_o896_0_S128x1024,
    S 768 (by decide) inb_S1024x1024_S128x1024_768_0 slices_S1024x1024_o768_0_S128x1024,
    S 640 (by decide) inb_S1024x1024_S128x1024_640_0 slices_S1024x1024_o640_0_S128x1024,
    S 512 (by decide) inb_S1024x1024_S128x1024_512_0 slices_S1024x1024_o512_0_S128x1024,
    S 384 (by decide) inb_S1024x1024_S128x1024_384_0 slices_S1024x1024_o384_0_S128x1024,
    S 256 (by decide) inb_S1024x1024_S128x1024_256_0 slices_S1024x1024_o256_0_S128x1024,
    S 128 (by decide) inb_S1024x1024_S128x1024_128_0 slices_S1024x1024_o128_0_S128x1024,
    S 0 (by decide) inb_S1024x1024_S128x1024_0_0 slices_S1024x1024_o0_0_S128x1024,
    trivial⟩

/-- The chunks of the contraction that the points take are the whole of it. -/
theorem chunks (t : Fin cfg0.N) (ht : ∀ s : Fin 4, 4 * (t.val / 4) + s.val < cfg0.N) (f : Fin 5632 → EReal) :
    (∑ s : Fin 4, ∑ j : Fin 1408, f (mid ⟨4 * (t.val / 4) + s.val, ht s⟩ j)) = ∑ j, f j := by
  refine Fin.sum_mul_add_congr fun s j hl => congrArg f (Fin.ext ?_)
  have := N64 t
  simp only [mid]
  omega

open Cert.Reference11Ideal.Read Cert.Reference11Ideal.Dh

/-- The four points' terms are the two products' entries. -/
theorem sum_terms (t : Fin cfg0.N) (ht : ∀ s : Fin 4, 4 * (t.val / 4) + s.val < cfg0.N) (q k : Fin 1024) :
    (∑ s : Fin 4, term m c ⟨4 * (t.val / 4) + s.val, ht s⟩ (ix2 q k))
      = prodT (A3 m c) (A1 m c) (row t q) (col t k) + prodT (A4 m c) (A2 m c) (row t q) (col t k) := by
  have er : ∀ s, row ⟨4 * (t.val / 4) + s.val, ht s⟩ q = row t q := fun s => Fin.ext (by simp only [row]; omega)
  have ec : ∀ s, col ⟨4 * (t.val / 4) + s.val, ht s⟩ k = col t k := fun s => Fin.ext (by simp only [col]; omega)
  simp only [term, part, Finset.sum_add_distrib]
  refine congrArg₂ (· + ·) (Eq.trans ?_ (chunks t ht fun j => A3 m c (ix2 (row t q) j) * A1 m c (ix2 (col t k) j)))
    (Eq.trans ?_ (chunks t ht fun j => A4 m c (ix2 (row t q) j) * A2 m c (ix2 (col t k) j)))
  · refine Finset.sum_congr rfl fun s _ => Finset.sum_congr rfl fun j _ => ?_
    rw [← er s, ← ec s]
    exact congrArg₂ (· * ·) (blk0 m c _ q j) (blk2 m c _ k j)
  · refine Finset.sum_congr rfl fun s _ => Finset.sum_congr rfl fun j _ => ?_
    rw [← er s, ← ec s]
    exact congrArg₂ (· * ·) (blk1 m c _ q j) (blk3 m c _ k j)

/-- The array after the last point is the reference's. -/
theorem final5 : (dats m 0 c).arrAt 5 (cfgs 0).N = val_main_v9 (F := Ideal) (A1 m c) (A2 m c) (A3 m c) (A4 m c) (A5 m c) := by
  refine (dats m 0 c).arrAt_eq_of_covers 5 _ (by decide +kernel) fun t hf y => ?_
  have h : t.val % 4 = 3 := (flush0_5 t).mp hf
  blk_simp
  rw [after0_5, place t y, last m c t h]
  obtain ⟨q, k, rfl⟩ := eta y
  refine Eq.trans ?_ (v9 _ _ _ _ _ (row t q) (col t k)).symm
  exact congrArg₂ (· + ·) ((gathered m c t h (ix2 q k)).trans (sum_terms m c t _ q k)) (blk4 m c t q k)

end Cert.Kernel11Ideal.Dh

end
-- ==== Proof.DhClaim.lean ====
/- The claims about the cotangent of a feed-forward layer's argument: the runs of the three programs, and that the two of them agree at every
   argument. -/
module

public import proofs.«01_k».proof.Defs
public import proofs.«01_k».proof.Proof.Dh
public import proofs.«01_k».proof.Proof.Gen.Kernel11.Frame
public import proofs.«01_k».proof.Proof.Gen.Reference11Ideal.Run

@[expose] public section
noncomputable section
open Idealize.ShloMosaic Idealize.ShloMosaic.TcCoe Idealize.SL.Sem

namespace Cert.Proof.DhClaims

theorem frame_p : Cert.quiescent_Kernel11 := fun m ρ _ => Cert.Kernel11.Gen.frame m ρ

theorem frame_pi : Cert.quiescent_Kernel11Ideal := fun m ρ _ => Cert.Kernel11Ideal.Gen.frame m ρ

theorem frame_ri : Cert.quiescent_Reference11Ideal := fun m ρ _ =>
  (θ_run Cert.Reference11Ideal.defs _ _).mono
    (fun r h => ⟨fun c => (h c).2, sem_eq_zero_of_no_sems (by decide) r.2⟩)
    (Cert.Reference11Ideal.Value.run (F := Ideal) m ρ)

open Cert.Kernel11Ideal.Dh in
/-- At `Ideal` both programs leave the same sum of the two products and the residual cotangent. -/
theorem algebraic : Cert.algebraic_Kernel11Ideal_Reference11Ideal := by
  intro m g m' g' _ ha
  refine ⟨_, Cert.Kernel11Ideal.Value.run_blocks m g,
    (θ_run Cert.Reference11Ideal.defs _ _).mono (fun r h c => ?_) (Cert.Reference11Ideal.Value.run (F := Ideal) m' g')⟩
  obtain ⟨a0, a1, a2, a3, a4, a5⟩ := ha c
  have e1 : m' ((c.tc : Thread Cert.Reference11Ideal.nD Cert.Reference11Ideal.τ).loc Cert.Reference11Ideal.main_arg1) = A1 m c := a1
  have e2 : m' ((c.tc : Thread Cert.Reference11Ideal.nD Cert.Reference11Ideal.τ).loc Cert.Reference11Ideal.main_arg2) = A2 m c := a2
  have e3 : m' ((c.tc : Thread Cert.Reference11Ideal.nD Cert.Reference11Ideal.τ).loc Cert.Reference11Ideal.main_arg3) = A3 m c := a3
  have e4 : m' ((c.tc : Thread Cert.Reference11Ideal.nD Cert.Reference11Ideal.τ).loc Cert.Reference11Ideal.main_arg4) = A4 m c := a4
  have e5 : m' ((c.tc : Thread Cert.Reference11Ideal.nD Cert.Reference11Ideal.τ).loc Cert.Reference11Ideal.main_arg5) = A5 m c := a5
  obtain ⟨r0, k⟩ := h c
  rw [Cert.Reference11Ideal.Read.val_main_v9_eq, e1, e2, e3, e4, e5] at r0
  exact ⟨r0.trans (final5 m c).symm, k⟩

end Cert.Proof.DhClaims

end
-- ==== Proof.Down.lean ====
/- The second product of a feed-forward layer with its residual: what the reference computes entry by entry, what the kernel leaves of one
   block, and the array the kernel leaves. Nothing here asks the arguments to be finite. -/
module

public import proofs.«01_k».proof.Proof.Gen.Kernel12Ideal.Value
public import proofs.«01_k».proof.Proof.Gen.Reference12Ideal.Read
public import proofs.«01_k».proof.Proof.Da
public import proofs.«01_k».proof.Proof.Slabs
public import Idealize.ShloMosaic.Lib.Pipeline.ValueKit
public import Idealize.ShloMosaic.Lib.Pipeline.ReadBack

@[expose] public section
set_option maxRecDepth 16384
noncomputable section
open Idealize.ShloMosaic Idealize.ShloMosaic.TcCoe Idealize.SL.Sem
open Cert.Reals (alpha ofBits_alpha)
open Cert.Gate (ofBits_half)

namespace Cert.Down

/-- The residual scaled and half of the product. -/
def mixed (h p : EReal) : EReal := (alpha : EReal) * h + ((1 / 2 : ℝ) : EReal) * p

end Cert.Down

namespace Cert.Reference12Ideal.Down
open Cert.Reference12Ideal Cert.Reference12Ideal.Gen Cert.Reference12Ideal.Read Cert.Down

variable (a : FVec Ideal S8192x5632 .f32) (w : FVec Ideal S5632x2048 .f32) (h : FVec Ideal S8192x2048 .f32)

/-- An entry of the product. -/
def prod (r : Fin 8192) (k : Fin 2048) : EReal := ∑ j : Fin 5632, a (ix2 r j) * w (ix2 j k)

theorem v2 (r k) : val_main_v2 (F := Ideal) a w (ix2 r k) = prod a w r k := by
  pointwise [val_main_v2]
  rfl

theorem v5 (r k) : val_main_v5 (F := Ideal) a w h (ix2 r k) = mixed (h (ix2 r k)) (prod a w r k) := by
  pointwise [val_main_v5, val_main_v4, val_main_v3, val_main_v1, val_main_v0, val_main_cst, val_main_cst_0]
  simp only [v2, ofBits_alpha, ofBits_half]
  rfl

end Cert.Reference12Ideal.Down

namespace Cert.Kernel12Ideal.Down
open Cert.Kernel12Ideal Cert.Kernel12Ideal.Gen Cert.Down
open Cert.Slabs (taken eta)
open Cert.Reference12Ideal.Down (prod)

/-- A slab of the result, as the body computes it from the residual's slab and the product's block. -/
def slabOf (o : ℕ) (hs : S1024x512.Slices ![o, 0] S128x512) (H : FVec Ideal S128x512 .f32) (p : FVec Ideal S1024x512 .f32) : FVec Ideal S128x512 .f32 :=
  k0_pay1 (F := Ideal) (extractStridedSlice S128x512 ![o, 0] p hs) H

theorem store (o : ℕ) (ho : o + 128 ≤ 1024) (hb : ∀ a, (![o, 0] : Fin 2 → ℕ) a + S128x512.size a ≤ S1024x512.size a)
    (hs : S1024x512.Slices ![o, 0] S128x512) (h p : FVec Ideal S1024x512 .f32) (x : S128x512.Idx) :
    slabOf o hs (View.ld (Val := Elt Ideal) (e' := .f32) h (Rect.unit (s := S1024x512) ![o, 0] S128x512.size hb)) p x
      = (fun y => mixed (h y) (p y)) ((Rect.unit (s := S1024x512) ![o, 0] S128x512.size hb).emb x) := by
  obtain ⟨q, k, rfl⟩ := eta x
  show Ideal.ofBits .f32 0x3F9837F0#32 * h ((Rect.unit (s := S1024x512) ![o, 0] S128x512.size hb).emb (ix2 q k))
    + Ideal.ofBits .f32 0x3F000000#32 * extractStridedSlice S128x512 ![o, 0] p hs (ix2 q k) = mixed _ _
  rw [taken o ho hb hs p, ofBits_alpha, ofBits_half]
  rfl

section block
variable (a : FVec Ideal S1024x5632 .bf16) (w : FVec Ideal S5632x512 .bf16) (h : FVec Ideal S1024x512 .f32)

theorem whole0 : View.ld (Val := Elt Ideal) (e' := .bf16) a r0_0 = a := View.ld_unit_zero (by decide) _ _
theorem whole1 : View.ld (Val := Elt Ideal) (e' := .bf16) w r0_1 = w := View.ld_unit_zero (by decide) _ _

/-- The product's block. -/
theorem pay2 (q k) : k0_pay2 (F := Ideal) a w (ix2 q k) = ∑ j : Fin 5632, a (ix2 q j) * w (ix2 j k) := by
  pointwise [k0_pay2]

open Cert.Kernel4Ideal.Gate (canon_pieces)

theorem out3 : out0_3 (F := Ideal) a w h = fun y => mixed (h y) (k0_pay2 (F := Ideal) a w y) := by
  funext y
  unfold_out out0_3
  rw [whole0, whole1]
  refine canon_pieces (fun y => mixed (h y) (k0_pay2 (F := Ideal) a w y)) _ ?_ y (cover0_3 _ _ _ _ _ _ _ _ y)
  exact ⟨store 896 (by decide) inb_S1024x512_S128x512_896_0 slices_S1024x512_o896_0_S128x512 h (k0_pay2 (F := Ideal) a w),
    store 768 (by decide) inb_S1024x512_S128x512_768_0 slices_S1024x512_o768_0_S128x512 h (k0_pay2 (F := Ideal) a w),
    store 640 (by decide) inb_S1024x512_S128x512_640_0 slices_S1024x512_o640_0_S128x512 h (k0_pay2 (F := Ideal) a w),
    store 512 (by decide) inb_S1024x512_S128x512_512_0 slices_S1024x512_o512_0_S128x512 h (k0_pay2 (F := Ideal) a w),
    store 384 (by decide) inb_S1024x512_S128x512_384_0 slices_S1024x512_o384_0_S128x512 h (k0_pay2 (F := Ideal) a w),
    store 256 (by decide) inb_S1024x512_S128x512_256_0 slices_S1024x512_o256_0_S128x512 h (k0_pay2 (F := Ideal) a w),
    store 128 (by decide) inb_S1024x512_S128x512_128_0 slices_S1024x512_o128_0_S128x512 h (k0_pay2 (F := Ideal) a w),
    store 0 (by decide) inb_S1024x512_S128x512_0_0 slices_S1024x512_o0_0_S128x512 h (k0_pay2 (F := Ideal) a w),
    trivial⟩

end block

/-- Where each window's block lies at each point. -/
theorem idx : ∀ t : Fin cfg0.N, win0_0.index t = ![t.val / 4, 0] ∧ win0_1.index t = ![0, t.val % 4] ∧ win0_2.index t = ![t.val / 4, t.val % 4]
    ∧ win0_3.index t = ![t.val / 4, t.val % 4] :=
  (by decide +kernel : ∀ t : Fin grid0.N, _)

theorem N32 (t : Fin cfg0.N) : t.val < 32 := lt_of_lt_of_eq t.isLt N_0

/-- The array's row and column of row `q` and column `k` of point `t`'s block. -/
def row (t : Fin cfg0.N) (q : Fin 1024) : Fin 8192 := ⟨1024 * (t.val / 4) + q.val, by have := N32 t; omega⟩
def col (t : Fin cfg0.N) (k : Fin 512) : Fin 2048 := ⟨512 * (t.val % 4) + k.val, by omega⟩

variable (m : (ℓ : Loc nD τ sig) → Buf (Elt Ideal) ℓ) (c : Dev nD)

/-- The three arguments. -/
abbrev A0 : FVec Ideal S8192x5632 .f32 := m ((c : Thread nD τ).loc main_arg0)
abbrev A1 : FVec Ideal S5632x2048 .f32 := m ((c : Thread nD τ).loc main_arg1)
abbrev A2 : FVec Ideal S8192x2048 .f32 := m ((c : Thread nD τ).loc main_arg2)

theorem blk0 (t : Fin cfg0.N) (q : Fin 1024) (j : Fin 5632) :
    (iblk m c 0 t : FVec Ideal S1024x5632 .bf16) (ix2 q j) = A0 m c (ix2 (row t q) j) := by
  blk_simp [iblk]
  entry_read
  pointwise
  blk_point [idx t, row]

theorem blk1 (t : Fin cfg0.N) (j : Fin 5632) (k : Fin 512) :
    (iblk m c 1 t : FVec Ideal S5632x512 .bf16) (ix2 j k) = A1 m c (ix2 j (col t k)) := by
  blk_simp [iblk]
  entry_read
  pointwise
  blk_point [idx t, col]

theorem blk2 (t : Fin cfg0.N) (q : Fin 1024) (k : Fin 512) :
    (iblk m c 2 t : FVec Ideal S1024x512 .f32) (ix2 q k) = A2 m c (ix2 (row t q) (col t k)) := by
  blk_simp [iblk]
  rw [V_main_arg2]
  blk_point [idx t, row, col]

/-- Where a point's entry goes in the output array. -/
theorem place (t : Fin cfg0.N) (y : S1024x512.Idx) : (((cfg0.win 3).blk t).view.emb y : S8192x2048.Idx) = ix2 (row t (y 0)) (col t (y 1)) := by
  blk_ext [idx t, row, col]

/-- The product's block is a block of the product of the arrays. -/
theorem both (t : Fin cfg0.N) (q k) : k0_pay2 (F := Ideal) (iblk m c 0 t) (iblk m c 1 t) (ix2 q k) = prod (A0 m c) (A1 m c) (row t q) (col t k) := by
  refine (pay2 _ _ q k).trans ?_
  simp only [blk0, blk1]
  rfl

open Cert.Reference12Ideal.Read Cert.Reference12Ideal.Down

/-- The array after the last point is the reference's. -/
theorem final3 : (dats m 0 c).arrAt 3 (cfgs 0).N = val_main_v5 (F := Ideal) (A0 m c) (A1 m c) (A2 m c) := by
  refine (dats m 0 c).arrAt_eq_of_covers 3 _ (by decide +kernel) fun t _ y => ?_
  blk_simp
  rw [after0_3, place t y, out3]
  obtain ⟨q, k, rfl⟩ := eta y
  exact (congrArg₂ mixed (blk2 m c t q k) (both m c t q k)).trans (v5 _ _ _ (row t q) (col t k)).symm

end Cert.Kernel12Ideal.Down

end
-- ==== Proof.DownClaim.lean ====
/- The claims about the second product of a feed-forward layer with its residual: the runs of the three programs, and that the two of them
   agree at every argument. -/
module

public import proofs.«01_k».proof.Defs
public import proofs.«01_k».proof.Proof.Down
public import proofs.«01_k».proof.Proof.Gen.Kernel12.Frame
public import proofs.«01_k».proof.Proof.Gen.Reference12Ideal.Run

@[expose] public section
noncomputable section
open Idealize.ShloMosaic Idealize.ShloMosaic.TcCoe Idealize.SL.Sem

namespace Cert.Proof.DownClaims

theorem frame_p : Cert.quiescent_Kernel12 := fun m ρ _ => Cert.Kernel12.Gen.frame m ρ

theorem frame_pi : Cert.quiescent_Kernel12Ideal := fun m ρ _ => Cert.Kernel12Ideal.Gen.frame m ρ

theorem frame_ri : Cert.quiescent_Reference12Ideal := fun m ρ _ =>
  (θ_run Cert.Reference12Ideal.defs _ _).mono
    (fun r h => ⟨fun c => (h c).2, sem_eq_zero_of_no_sems (by decide) r.2⟩)
    (Cert.Reference12Ideal.Value.run (F := Ideal) m ρ)

open Cert.Kernel12Ideal.Down in
/-- At `Ideal` both programs leave the same sum of the residual and the product. -/
theorem algebraic : Cert.algebraic_Kernel12Ideal_Reference12Ideal := by
  intro m g m' g' _ ha
  refine ⟨_, Cert.Kernel12Ideal.Value.run_blocks m g,
    (θ_run Cert.Reference12Ideal.defs _ _).mono (fun r h c => ?_) (Cert.Reference12Ideal.Value.run (F := Ideal) m' g')⟩
  obtain ⟨a0, a1, a2⟩ := ha c
  have e0 : m' ((c.tc : Thread Cert.Reference12Ideal.nD Cert.Reference12Ideal.τ).loc Cert.Reference12Ideal.main_arg0) = A0 m c := a0
  have e1 : m' ((c.tc : Thread Cert.Reference12Ideal.nD Cert.Reference12Ideal.τ).loc Cert.Reference12Ideal.main_arg1) = A1 m c := a1
  have e2 : m' ((c.tc : Thread Cert.Reference12Ideal.nD Cert.Reference12Ideal.τ).loc Cert.Reference12Ideal.main_arg2) = A2 m c := a2
  obtain ⟨r0, k⟩ := h c
  rw [Cert.Reference12Ideal.Read.val_main_v5_eq, e0, e1, e2] at r0
  exact ⟨r0.trans (final3 m c).symm, k⟩

end Cert.Proof.DownClaims

end
-- ==== Proof.DwRows.lean ====
/- The gradient of a feed-forward layer's second weight: what the reference computes entry by entry, what the kernel gathers over four points
   of its grid, and the array it leaves. Nothing here asks the arguments to be finite. -/
module

public import proofs.«01_k».proof.Proof.Gen.Kernel13Ideal.Value
public import proofs.«01_k».proof.Proof.Gen.Reference13Ideal.Read
public import proofs.«01_k».proof.Proof.Da
public import proofs.«01_k».proof.Proof.Slabs
public import Idealize.ShloMosaic.Lib.Pipeline.ValueKit
public import Idealize.ShloMosaic.Lib.Pipeline.ReadBack

@[expose] public section
set_option maxRecDepth 16384
noncomputable section
open Idealize.ShloMosaic Idealize.ShloMosaic.TcCoe Idealize.SL.Sem

namespace Cert.Reference13Ideal.DwRows
open Cert.Reference13Ideal Cert.Reference13Ideal.Gen Cert.Reference13Ideal.Read

variable (x0 : FVec Ideal S8192x5632 .f32) (x2 : FVec Ideal S8192x2048 .f32)

/-- An entry of the product of the transposed first array with the second. -/
def dots (r : Fin 5632) (k : Fin 2048) : EReal := ∑ j : Fin 8192, x0 (ix2 j r) * x2 (ix2 j k)

theorem v1 (r : Fin 5632) (k : Fin 2048) : val_main_v1 (F := Ideal) x0 x2 (ix2 k r) = dots x0 x2 r k := by
  pointwise [val_main_v1]
  exact Finset.sum_congr rfl fun j _ => mul_comm _ _

theorem v4 (r : Fin 5632) (k : Fin 2048) : val_main_v4 (F := Ideal) x0 x2 (ix2 r k) = dots x0 x2 r k := by
  pointwise [val_main_v4, val_main_v2]
  exact v1 x0 x2 r k

end Cert.Reference13Ideal.DwRows

namespace Cert.Kernel13Ideal.DwRows
open Cert.Kernel13Ideal Cert.Kernel13Ideal.Gen
open Cert.Slabs (taken eta four)
open Cert.Reference13Ideal.DwRows (dots)

/-- A slab of the result, as the body stores it. -/
def slabOf (o : ℕ) (hs : S1408x1024.Slices ![o, 0] S128x1024) (p : FVec Ideal S1408x1024 .f32) : FVec Ideal S128x1024 .bf16 :=
  truncf .bf16 (extractStridedSlice S128x1024 ![o, 0] p hs) bitsLt_bf16_f32

theorem store (o : ℕ) (ho : o + 128 ≤ 1408) (hb : ∀ a, (![o, 0] : Fin 2 → ℕ) a + S128x1024.size a ≤ S1408x1024.size a)
    (hs : S1408x1024.Slices ![o, 0] S128x1024) (p : FVec Ideal S1408x1024 .f32) (x : S128x1024.Idx) :
    slabOf o hs p x = p ((Rect.unit (s := S1408x1024) ![o, 0] S128x1024.size hb).emb x) := by
  exact taken o ho hb hs p x

section block
variable (a : FVec Ideal S2048x1408 .bf16) (b : FVec Ideal S2048x1024 .bf16) (s : FVec Ideal S1408x1024 .f32)

/-- A point's own term: the product of its blocks. -/
def part (y : S1408x1024.Idx) : EReal := ∑ j : Fin 2048, a (ix2 j (y 0)) * b (ix2 j (y 1))

theorem pay1 (y) : k0_pay1 (F := Ideal) a b y = part a b y := by
  obtain ⟨q, k, rfl⟩ := eta y
  pointwise [k0_pay1]
  rfl

theorem pay2 (y) : k0_pay2 (F := Ideal) a b s y = s y + part a b y := by
  obtain ⟨q, k, rfl⟩ := eta y
  pointwise [k0_pay2]
  rfl

theorem pay6 (y) : k0_pay6 (F := Ideal) a b s y = s y + part a b y := by
  obtain ⟨q, k, rfl⟩ := eta y
  pointwise [k0_pay6]
  rfl

end block

/-- Where each window's block lies at each point. -/
theorem idx : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, _)

theorem N32 (t : Fin cfg0.N) : t.val < 32 := lt_of_lt_of_eq t.isLt N_0

/-- The arrays' rows and columns of row `q`, column `k` and place `j` of the contraction of point `t`'s blocks. -/
def row (t : Fin cfg0.N) (q : Fin 1408) : Fin 5632 := ⟨1408 * (t.val / 8) + q.val, by have := N32 t; omega⟩
def col (t : Fin cfg0.N) (k : Fin 1024) : Fin 2048 := ⟨1024 * (t.val / 4 % 2) + k.val, by omega⟩
def mid (t : Fin cfg0.N) (j : Fin 2048) : Fin 8192 := ⟨2048 * (t.val % 4) + j.val, by omega⟩

variable (m : (ℓ : Loc nD τ sig) → Buf (Elt Ideal) ℓ) (c : Dev nD)

/-- The two arguments that the result is computed from. -/
abbrev A0 : FVec Ideal S8192x5632 .f32 := m ((c : Thread nD τ).loc main_arg0)
abbrev A2 : FVec Ideal S8192x2048 .f32 := m ((c : Thread nD τ).loc main_arg2)

theorem blk0 (t : Fin cfg0.N) (j : Fin 2048) (q : Fin 1408) :
    (iblk m c 0 t : FVec Ideal S2048x1408 .bf16) (ix2 j q) = A0 m c (ix2 (mid t j) (row t q)) := by
  blk_simp [iblk]
  entry_read
  pointwise
  blk_point [idx t, row, mid]

theorem blk1 (t : Fin cfg0.N) (j : Fin 2048) (k : Fin 1024) :
    (iblk m c 1 t : FVec Ideal S2048x1024 .bf16) (ix2 j k) = A2 m c (ix2 (mid t j) (col t k)) := by
  blk_simp [iblk]
  entry_read
  pointwise
  blk_point [idx t, col, mid]

/-- Where a point's entry goes in the output array. -/
theorem place (t : Fin cfg0.N) (y : S1408x1024.Idx) : (((cfg0.win 2).blk t).view.emb y : S5632x2048.Idx) = ix2 (row t (y 0)) (col t (y 1)) := by
  blk_ext [idx t, row, col]

/-- A point's own term. -/
def term (t : Fin cfg0.N) (y : S1408x1024.Idx) : EReal := part (iblk m c 0 t) (iblk m c 1 t) y

/-- The block gathered before a point. -/
abbrev prev (t : Fin cfg0.N) : FVec Ideal S1408x1024 .f32 := (outsAt0 m c (t.val - 1) (Nat.lt_of_le_of_lt (Nat.sub_le _ _) t.isLt)).2

/-- The gathered block and a last point's own term are the sum of the four points' terms. -/
theorem gathered (t : Fin cfg0.N) (h : t.val % 4 = 3) (y : S1408x1024.Idx) :
    prev m c t y + term m c t y = ∑ s : Fin 4, term m c ⟨4 * (t.val / 4) + s.val, by have := t.isLt; omega⟩ y := by
  refine four (fun n h => (outsAt0 m c n h).2) (term m c) (fun t y h => ?_) (fun t y h => ?_) t h y
  · rw [outsAt0_A m c t h (by omega) (by omega)]
    frame_out
    exact pay1 _ _ y
  · rw [outsAt0_B m c t (by omega) h (by omega)]
    frame_out
    rw [read_unread_whole]
    exact pay2 _ _ _ y

open Cert.Kernel4Ideal.Gate (canon_pieces)

/-- What a last point leaves of the output's block. -/
theorem last (t : Fin cfg0.N) (h : t.val % 4 = 3) (y : S1408x1024.Idx) :
    (outsAt0 m c t.val t.isLt).1 y = prev m c t y + term m c t y := by
  rw [outsAt0_C m c t (by omega) (by omega) h]
  frame_out
  rw [read_unread_whole]
  have S := fun o ho hb hs => store o ho hb hs (k0_pay6 (F := Ideal) (iblk m c 0 t) (iblk m c 1 t) (prev m c t))
  refine (canon_pieces (k0_pay6 (F := Ideal) (iblk m c 0 t) (iblk m c 1 t) (prev m c t)) _ ?_ y
    (View.cover_of_tiledBy _ ![128, 1024] (by sl_kernel_rfl) y)).trans (pay6 _ _ _ _)
  exact ⟨S 1280 (by decide) inb_S1408x1024_S128x1024_1280_0 slices_S1408x1024_o1280_0_S128x1024,
    S 1152 (by decide) inb_S1408x1024_S128x1024_1152_0 slices_S1408x1024_o1152_0_S128x1024,
    S 1024 (by decide) inb_S1408x1024_S128x1024_1024_0 slices_S1408x1024_o1024_0_S128x1024,
    S 896 (by decide) inb_S1408x1024_S128x1024_896_0 slices_S1408x1024_o896_0_S128x1024,
    S 768 (by decide) inb_S1408x1024_S128x1024_768_0 slices_S1408x1024_o768_0_S128x1024,
    S 640 (by decide) inb_S1408x1024_S128x1024_640_0 slices_S1408x1024_o640_0_S128x1024,
    S 512 (by decide) inb_S1408x1024_S128x1024_512_0 slices_S1408x1024_o512_0_S128x1024,
    S 384 (by decide) inb_S1408x1024_S128x1024_384_0 slices_S1408x1024_o384_0_S128x1024,
    S 256 (by decide) inb_S1408x1024_S128x1024_256_0 slices_S1408x1024_o256_0_S128x1024,
    S 128 (by decide) inb_S1408x1024_S128x1024_128_0 slices_S1408x1024_o128_0_S128x1024,
    S 0 (by decide) inb_S1408x1024_S128x1024_0_0 slices_S1408x1024_o0_0_S128x1024,
    trivial⟩

/-- The chunks of the contraction that the points take are the whole of it. -/
theorem chunks (t : Fin cfg0.N) (ht : ∀ s : Fin 4, 4 * (t.val / 4) + s.val < cfg0.N) (f : Fin 8192 → EReal) :
    (∑ s : Fin 4, ∑ j : Fin 2048, f (mid ⟨4 * (t.val / 4) + s.val, ht s⟩ j)) = ∑ j, f j := by
  refine Fin.sum_mul_add_congr fun s j hl => congrArg f (Fin.ext ?_)
  have := N32 t
  simp only [mid]
  omega

open Cert.Reference13Ideal.Read Cert.Reference13Ideal.DwRows

/-- The four points' terms are the product's entry. -/
theorem sum_terms (t : Fin cfg0.N) (ht : ∀ s : Fin 4, 4 * (t.val / 4) + s.val < cfg0.N) (q : Fin 1408) (k : Fin 1024) :
    (∑ s : Fin 4, term m c ⟨4 * (t.val / 4) + s.val, ht s⟩ (ix2 q k)) = dots (A0 m c) (A2 m c) (row t q) (col t k) := by
  have er : ∀ s, row ⟨4 * (t.val / 4) + s.val, ht s⟩ q = row t q := fun s => Fin.ext (by simp only [row]; omega)
  have ec : ∀ s, col ⟨4 * (t.val / 4) + s.val, ht s⟩ k = col t k := fun s => Fin.ext (by simp only [col]; omega)
  simp only [term, part]
  refine Eq.trans ?_ (chunks t ht fun j => A0 m c (ix2 j (row t q)) * A2 m c (ix2 j (col t k)))
  refine Finset.sum_congr rfl fun s _ => Finset.sum_congr rfl fun j _ => ?_
  rw [← er s, ← ec s]
  exact congrArg₂ (· * ·) (blk0 m c _ j q) (blk1 m c _ j k)

/-- The array after the last point is the reference's. -/
theorem final2 : (dats m 0 c).arrAt 2 (cfgs 0).N = val_main_v4 (F := Ideal) (A0 m c) (A2 m c) := by
  refine (dats m 0 c).arrAt_eq_of_covers 2 _ (by decide +kernel) fun t hf y => ?_
  have h : t.val % 4 = 3 := (flush0_2 t).mp hf
  blk_simp
  rw [after0_2, place t y, last m c t h]
  obtain ⟨q, k, rfl⟩ := eta y
  exact ((gathered m c t h (ix2 q k)).trans (sum_terms m c t _ q k)).trans (v4 _ _ (row t q) (col t k)).symm

end Cert.Kernel13Ideal.DwRows

end
-- ==== Proof.DwRowsClaim.lean ====
/- The claims about the gradient of a feed-forward layer's second weight: the runs of the three programs, and that the two of them agree at
   every argument. -/
module

public import proofs.«01_k».proof.Defs
public import proofs.«01_k».proof.Proof.DwRows
public import proofs.«01_k».proof.Proof.Gen.Kernel13.Frame
public import proofs.«01_k».proof.Proof.Gen.Reference13Ideal.Run

@[expose] public section
noncomputable section
open Idealize.ShloMosaic Idealize.ShloMosaic.TcCoe Idealize.SL.Sem

namespace Cert.Proof.DwRowsClaims

theorem frame_p : Cert.quiescent_Kernel13 := fun m ρ _ => Cert.Kernel13.Gen.frame m ρ

theorem frame_pi : Cert.quiescent_Kernel13Ideal := fun m ρ _ => Cert.Kernel13Ideal.Gen.frame m ρ

theorem frame_ri : Cert.quiescent_Reference13Ideal := fun m ρ _ =>
  (θ_run Cert.Reference13Ideal.defs _ _).mono
    (fun r h => ⟨fun c => (h c).2, sem_eq_zero_of_no_sems (by decide) r.2⟩)
    (Cert.Reference13Ideal.Value.run (F := Ideal) m ρ)

open Cert.Kernel13Ideal.DwRows in
/-- At `Ideal` both programs leave the same product. -/
theorem algebraic : Cert.algebraic_Kernel13Ideal_Reference13Ideal := by
  intro m g m' g' _ ha
  refine ⟨_, Cert.Kernel13Ideal.Value.run_blocks m g,
    (θ_run Cert.Reference13Ideal.defs _ _).mono (fun r h c => ?_) (Cert.Reference13Ideal.Value.run (F := Ideal) m' g')⟩
  obtain ⟨a0, a1, a2⟩ := ha c
  have e0 : m' ((c.tc : Thread Cert.Reference13Ideal.nD Cert.Reference13Ideal.τ).loc Cert.Reference13Ideal.main_arg0) = A0 m c := a0
  have e2 : m' ((c.tc : Thread Cert.Reference13Ideal.nD Cert.Reference13Ideal.τ).loc Cert.Reference13Ideal.main_arg2) = A2 m c := a2
  obtain ⟨r0, k⟩ := h c
  rw [Cert.Reference13Ideal.Read.val_main_v4_eq, e0, e2] at r0
  exact ⟨r0.trans (final2 m c).symm, k⟩

end Cert.Proof.DwRowsClaims

end
-- ==== Proof.DwCols.lean ====
/- The gradient of a feed-forward layer's first weight, laid out by blocks of columns: what the reference computes entry by entry, what the
   kernel gathers over four points of its grid, and the array it leaves. Nothing here asks the arguments to be finite. -/
module

public import proofs.«01_k».proof.Proof.Gen.Kernel14Ideal.Value
public import proofs.«01_k».proof.Proof.Gen.Reference14Ideal.Read
public import proofs.«01_k».proof.Proof.Da
public import proofs.«01_k».proof.Proof.Slabs
public import Idealize.ShloMosaic.Lib.Pipeline.ValueKit
public import Idealize.ShloMosaic.Lib.Pipeline.ReadBack

@[expose] public section
set_option maxRecDepth 16384
noncomputable section
open Idealize.ShloMosaic Idealize.ShloMosaic.TcCoe Idealize.SL.Sem

namespace Cert.Reference14Ideal.DwCols
open Cert.Reference14Ideal Cert.Reference14Ideal.Gen Cert.Reference14Ideal.Read

variable (x0 : FVec Ideal S8192x2048 .f32) (x2 : FVec Ideal S8192x5632 .f32)

/-- An entry of the product of the transposed first array with the second. -/
def dots (r : Fin 2048) (k : Fin 5632) : EReal := ∑ j : Fin 8192, x0 (ix2 j r) * x2 (ix2 j k)

theorem v1 (r : Fin 2048) (k : Fin 5632) : val_main_v1 (F := Ideal) x0 x2 (ix2 k r) = dots x0 x2 r k := by
  pointwise [val_main_v1]
  exact Finset.sum_congr rfl fun j _ => mul_comm _ _

/-- The entry that the result holds at a block of columns, a row and a column of the block. -/
theorem v6 (b : Fin 4) (r : Fin 2048) (k : Fin 1408) :
    val_main_v6 (F := Ideal) x0 x2 (ix3 b r k) = dots x0 x2 r ⟨1408 * b.val + k.val, by omega⟩ := by
  pointwise [val_main_v6, val_main_v5, val_main_v4, val_main_v2]
  refine Eq.trans ?_ (v1 x0 x2 r ⟨1408 * b.val + k.val, by omega⟩)
  refine congrArg (val_main_v1 (F := Ideal) x0 x2) ?_
  blk_ext

end Cert.Reference14Ideal.DwCols

namespace Cert.Kernel14Ideal.DwCols
open Cert.Kernel14Ideal Cert.Kernel14Ideal.Gen
open Cert.Slabs (slice eta four)
open Cert.Reference14Ideal.DwCols (dots)

/-- A slab of the result, as the body stores it. -/
def slabOf (o : ℕ) (hs : S1024x1408.Slices ![o, 0] S128x1408) (p : FVec Ideal S1024x1408 .f32) : FVec Ideal S1x128x1408 .bf16 :=
  shapeCast S1x128x1408 (truncf .bf16 (extractStridedSlice S128x1408 ![o, 0] p hs) bitsLt_bf16_f32) shapeCasts_S128x1408_S1x128x1408

theorem store (o : ℕ) (ho : o + 128 ≤ 1024) (hb : ∀ a, (![0, o, 0] : Fin 3 → ℕ) a + S1x128x1408.size a ≤ S1x1024x1408.size a)
    (hs : S1024x1408.Slices ![o, 0] S128x1408) (p : FVec Ideal S1024x1408 .f32) (x : S1x128x1408.Idx) :
    slabOf o hs p x = (fun y : S1x1024x1408.Idx => p (ix2 (y 1) (y 2))) ((Rect.unit (s := S1x1024x1408) ![0, o, 0] S1x128x1408.size hb).emb x) := by
  obtain ⟨z, q, k, rfl⟩ : ∃ (z : Fin 1) (q : Fin 128) (k : Fin 1408), x = ix3 z q k := ⟨x 0, x 1, x 2, by blk_ext⟩
  obtain rfl : z = 0 := Subsingleton.elim _ _
  have e : slabOf o hs p (ix3 0 q k) = extractStridedSlice S128x1408 ![o, 0] p hs (ix2 q k) := by
    pointwise [slabOf]
  rw [e, slice o ho hs p q k]
  refine congrArg p ?_
  blk_ext

section block
variable (a : FVec Ideal S2048x1024 .bf16) (b : FVec Ideal S2048x1408 .bf16) (s : FVec Ideal S1024x1408 .f32)

/-- A point's own term: the product of its blocks. -/
def part (y : S1024x1408.Idx) : EReal := ∑ j : Fin 2048, a (ix2 j (y 0)) * b (ix2 j (y 1))

theorem pay1 (y) : k0_pay1 (F := Ideal) a b y = part a b y := by
  obtain ⟨q, k, rfl⟩ := eta y
  pointwise [k0_pay1]
  rfl

theorem pay2 (y) : k0_pay2 (F := Ideal) a b s y = s y + part a b y := by
  obtain ⟨q, k, rfl⟩ := eta y
  pointwise [k0_pay2]
  rfl

theorem pay6 (y) : k0_pay6 (F := Ideal) a b s y = s y + part a b y := by
  obtain ⟨q, k, rfl⟩ := eta y
  pointwise [k0_pay6]
  rfl

end block

/-- Where each window's block lies at each point. -/
theorem idx : ∀ t : Fin cfg0.N, win0_0.index t = ![t.val % 4, t.val / 16] ∧ win0_1.index t = ![t.val % 4, t.val / 4 % 4]
    ∧ win0_2.index t = ![t.val / 4 % 4, t.val / 16, 0] :=
  (by decide +kernel : ∀ t : Fin grid0.N, _)

theorem N32 (t : Fin cfg0.N) : t.val < 32 := lt_of_lt_of_eq t.isLt N_0

/-- The arrays' rows and columns of row `q`, column `k` and place `j` of the contraction of point `t`'s blocks. -/
def row (t : Fin cfg0.N) (q : Fin 1024) : Fin 2048 := ⟨1024 * (t.val / 16) + q.val, by have := N32 t; omega⟩
def col (t : Fin cfg0.N) (k : Fin 1408) : Fin 5632 := ⟨1408 * (t.val / 4 % 4) + k.val, by omega⟩
def mid (t : Fin cfg0.N) (j : Fin 2048) : Fin 8192 := ⟨2048 * (t.val % 4) + j.val, by omega⟩

variable (m : (ℓ : Loc nD τ sig) → Buf (Elt Ideal) ℓ) (c : Dev nD)

/-- The two arguments that the result is computed from. -/
abbrev A0 : FVec Ideal S8192x2048 .f32 := m ((c : Thread nD τ).loc main_arg0)
abbrev A2 : FVec Ideal S8192x5632 .f32 := m ((c : Thread nD τ).loc main_arg2)

theorem blk0 (t : Fin cfg0.N) (j : Fin 2048) (q : Fin 1024) :
    (iblk m c 0 t : FVec Ideal S2048x1024 .bf16) (ix2 j q) = A0 m c (ix2 (mid t j) (row t q)) := by
  blk_simp [iblk]
  entry_read
  pointwise
  blk_point [idx t, row, mid]

theorem blk1 (t : Fin cfg0.N) (j : Fin 2048) (k : Fin 1408) :
    (iblk m c 1 t : FVec Ideal S2048x1408 .bf16) (ix2 j k) = A2 m c (ix2 (mid t j) (col t k)) := by
  blk_simp [iblk]
  entry_read
  pointwise
  blk_point [idx t, col, mid]

/-- Where a point's entry goes in the output array. -/
theorem place (t : Fin cfg0.N) (y : S1x1024x1408.Idx) : (((cfg0.win 2).blk t).view.emb y : S4x2048x1408.Idx) = ix3 (⟨t.val / 4 % 4, by omega⟩ : Fin 4) (row t (y 1)) (y 2 : Fin 1408) := by
  blk_ext [idx t, row]

/-- A point's own term. -/
def term (t : Fin cfg0.N) (y : S1024x1408.Idx) : EReal := part (iblk m c 0 t) (iblk m c 1 t) y

/-- The block gathered before a point. -/
abbrev prev (t : Fin cfg0.N) : FVec Ideal S1024x1408 .f32 := (outsAt0 m c (t.val - 1) (Nat.lt_of_le_of_lt (Nat.sub_le _ _) t.isLt)).2

/-- The gathered block and a last point's own term are the sum of the four points' terms. -/
theorem gathered (t : Fin cfg0.N) (h : t.val % 4 = 3) (y : S1024x1408.Idx) :
    prev m c t y + term m c t y = ∑ s : Fin 4, term m c ⟨4 * (t.val / 4) + s.val, by have := t.isLt; omega⟩ y := by
  refine four (fun n h => (outsAt0 m c n h).2) (term m c) (fun t y h => ?_) (fun t y h => ?_) t h y
  · rw [outsAt0_A m c t h (by omega) (by omega)]
    frame_out
    exact pay1 _ _ y
  · rw [outsAt0_B m c t (by omega) h (by omega)]
    frame_out
    rw [read_unread_whole]
    exact pay2 _ _ _ y

open Cert.Kernel4Ideal.Gate (canon_pieces)

/-- What a last point leaves of the output's block. -/
theorem last (t : Fin cfg0.N) (h : t.val % 4 = 3) (y : S1x1024x1408.Idx) :
    (outsAt0 m c t.val t.isLt).1 y = prev m c t (ix2 (y 1) (y 2)) + term m c t (ix2 (y 1) (y 2)) := by
  rw [outsAt0_C m c t (by omega) (by omega) h]
  frame_out
  rw [read_unread_whole]
  have S := fun o ho hb hs => store o ho hb hs (k0_pay6 (F := Ideal) (iblk m c 0 t) (iblk m c 1 t) (prev m c t))
  refine (canon_pieces (fun y : S1x1024x1408.Idx => k0_pay6 (F := Ideal) (iblk m c 0 t) (iblk m c 1 t) (prev m c t) (ix2 (y 1) (y 2))) _ ?_ y
    (View.cover_of_tiledBy _ ![1, 128, 1408] (by sl_kernel_rfl) y)).trans (pay6 _ _ _ _)
  exact ⟨S 896 (by decide) inb_S1x1024x1408_S1x128x1408_0_896_0 slices_S1024x1408_o896_0_S128x1408,
    S 768 (by decide) inb_S1x1024x1408_S1x128x1408_0_768_0 slices_S1024x1408_o768_0_S128x1408,
    S 640 (by decide) inb_S1x1024x1408_S1x128x1408_0_640_0 slices_S1024x1408_o640_0_S128x1408,
    S 512 (by decide) inb_S1x1024x1408_S1x128x1408_0_512_0 slices_S1024x1408_o512_0_S128x1408,
    S 384 (by decide) inb_S1x1024x1408_S1x128x1408_0_384_0 slices_S1024x1408_o384_0_S128x1408,
    S 256 (by decide) inb_S1x1024x1408_S1x128x1408_0_256_0 slices_S1024x1408_o256_0_S128x1408,
    S 128 (by decide) inb_S1x1024x1408_S1x128x1408_0_128_0 slices_S1024x1408_o128_0_S128x1408,
    S 0 (by decide) inb_S1x1024x1408_S1x128x1408_0_0_0 slices_S1024x1408_o0_0_S128x1408,
    trivial⟩

/-- The chunks of the contraction that the points take are the whole of it. -/
theorem chunks (t : Fin cfg0.N) (ht : ∀ s : Fin 4, 4 * (t.val / 4) + s.val < cfg0.N) (f : Fin 8192 → EReal) :
    (∑ s : Fin 4, ∑ j : Fin 2048, f (mid ⟨4 * (t.val / 4) + s.val, ht s⟩ j)) = ∑ j, f j := by
  refine Fin.sum_mul_add_congr fun s j hl => congrArg f (Fin.ext ?_)
  have := N32 t
  simp only [mid]
  omega

open Cert.Reference14Ideal.Read Cert.Reference14Ideal.DwCols

/-- The four points' terms are the product's entry. -/
theorem sum_terms (t : Fin cfg0.N) (ht : ∀ s : Fin 4, 4 * (t.val / 4) + s.val < cfg0.N) (q : Fin 1024) (k : Fin 1408) :
    (∑ s : Fin 4, term m c ⟨4 * (t.val / 4) + s.val, ht s⟩ (ix2 q k)) = dots (A0 m c) (A2 m c) (row t q) (col t k) := by
  have er : ∀ s, row ⟨4 * (t.val / 4) + s.val, ht s⟩ q = row t q := fun s => Fin.ext (by simp only [row]; omega)
  have ec : ∀ s, col ⟨4 * (t.val / 4) + s.val, ht s⟩ k = col t k := fun s => Fin.ext (by simp only [col]; omega)
  simp only [term, part]
  refine Eq.trans ?_ (chunks t ht fun j => A0 m c (ix2 j (row t q)) * A2 m c (ix2 j (col t k)))
  refine Finset.sum_congr rfl fun s _ => Finset.sum_congr rfl fun j _ => ?_
  rw [← er s, ← ec s]
  exact congrArg₂ (· * ·) (blk0 m c _ j q) (blk1 m c _ j k)

/-- The array after the last point is the reference's. -/
theorem final2 : (dats m 0 c).arrAt 2 (cfgs 0).N = val_main_v6 (F := Ideal) (A0 m c) (A2 m c) := by
  refine (dats m 0 c).arrAt_eq_of_covers 2 _ (by decide +kernel) fun t hf y => ?_
  have h : t.val % 4 = 3 := (flush0_2 t).mp hf
  blk_simp
  rw [after0_2, place t y, last m c t h]
  obtain ⟨z, q, k, rfl⟩ : ∃ (z : Fin 1) (q : Fin 1024) (k : Fin 1408), y = ix3 z q k := ⟨y 0, y 1, y 2, by blk_ext⟩
  exact ((gathered m c t h (ix2 q k)).trans (sum_terms m c t _ q k)).trans (v6 _ _ ⟨t.val / 4 % 4, by omega⟩ (row t q) k).symm

end Cert.Kernel14Ideal.DwCols

end
-- ==== Proof.DwColsClaim.lean ====
/- The claims about the gradient of a feed-forward layer's first weight, laid out by columns: the runs of the three programs, and that the two
   of them agree at every argument. -/
module

public import proofs.«01_k».proof.Defs
public import proofs.«01_k».proof.Proof.DwCols
public import proofs.«01_k».proof.Proof.Gen.Kernel14.Frame
public import proofs.«01_k».proof.Proof.Gen.Reference14Ideal.Run

@[expose] public section
noncomputable section
open Idealize.ShloMosaic Idealize.ShloMosaic.TcCoe Idealize.SL.Sem

namespace Cert.Proof.DwColsClaims

theorem frame_p : Cert.quiescent_Kernel14 := fun m ρ _ => Cert.Kernel14.Gen.frame m ρ

theorem frame_pi : Cert.quiescent_Kernel14Ideal := fun m ρ _ => Cert.Kernel14Ideal.Gen.frame m ρ

theorem frame_ri : Cert.quiescent_Reference14Ideal := fun m ρ _ =>
  (θ_run Cert.Reference14Ideal.defs _ _).mono
    (fun r h => ⟨fun c => (h c).2, sem_eq_zero_of_no_sems (by decide) r.2⟩)
    (Cert.Reference14Ideal.Value.run (F := Ideal) m ρ)

open Cert.Kernel14Ideal.DwCols in
/-- At `Ideal` both programs leave the same product. -/
theorem algebraic : Cert.algebraic_Kernel14Ideal_Reference14Ideal := by
  intro m g m' g' _ ha
  refine ⟨_, Cert.Kernel14Ideal.Value.run_blocks m g,
    (θ_run Cert.Reference14Ideal.defs _ _).mono (fun r h c => ?_) (Cert.Reference14Ideal.Value.run (F := Ideal) m' g')⟩
  obtain ⟨a0, a1, a2⟩ := ha c
  have e0 : m' ((c.tc : Thread Cert.Reference14Ideal.nD Cert.Reference14Ideal.τ).loc Cert.Reference14Ideal.main_arg0) = A0 m c := a0
  have e2 : m' ((c.tc : Thread Cert.Reference14Ideal.nD Cert.Reference14Ideal.τ).loc Cert.Reference14Ideal.main_arg2) = A2 m c := a2
  obtain ⟨r0, k⟩ := h c
  rw [Cert.Reference14Ideal.Read.val_main_v6_eq, e0, e2] at r0
  exact ⟨r0.trans (final2 m c).symm, k⟩

end Cert.Proof.DwColsClaims

end
-- ==== Proof.Dy.lean ====
/- A product with the second factor transposed, the cotangent of the mixing sublayer's last product: what the reference computes entry by
   entry, what the kernel leaves of one block, and the array the kernel leaves. Nothing here asks the arguments to be finite. -/
module

public import proofs.«01_k».proof.Proof.Gen.Kernel15Ideal.Value
public import proofs.«01_k».proof.Proof.Gen.Reference15Ideal.Read
public import proofs.«01_k».proof.Proof.Da
public import proofs.«01_k».proof.Proof.Slabs
public import Idealize.ShloMosaic.Lib.Pipeline.ValueKit
public import Idealize.ShloMosaic.Lib.Pipeline.ReadBack

@[expose] public section
set_option maxRecDepth 16384
noncomputable section
open Idealize.ShloMosaic Idealize.ShloMosaic.TcCoe Idealize.SL.Sem

namespace Cert.Reference15Ideal.Dy
open Cert.Reference15Ideal Cert.Reference15Ideal.Gen Cert.Reference15Ideal.Read

variable (w : FVec Ideal S2048x2048 .f32) (d : FVec Ideal S8192x2048 .f32)

/-- An entry of the product of the cotangent and the transposed weight. -/
def prod (r : Fin 8192) (k : Fin 2048) : EReal := ∑ j : Fin 2048, d (ix2 r j) * w (ix2 k j)

theorem v3 (r k) : val_main_v3 (F := Ideal) w d (ix2 r k) = prod w d r k := by
  pointwise [val_main_v3]
  rfl

end Cert.Reference15Ideal.Dy

namespace Cert.Kernel15Ideal.Dy
open Cert.Kernel15Ideal Cert.Kernel15Ideal.Gen
open Cert.Slabs (taken eta)
open Cert.Reference15Ideal.Dy (prod)

section block
variable (d w : FVec Ideal S1024x2048 .bf16)

theorem whole0 : View.ld (Val := Elt Ideal) (e' := .bf16) d r0_0 = d := View.ld_unit_zero (by decide) _ _

/-- The product's block. -/
theorem pay1 (q k) : k0_pay1 (F := Ideal) d w (ix2 q k) = ∑ j : Fin 2048, d (ix2 q j) * w (ix2 k j) := by
  pointwise [k0_pay1]

open Cert.Kernel4Ideal.Gate (canon_pieces)

theorem out2 : out0_2 (F := Ideal) d w = k0_pay1 (F := Ideal) d w := by
  funext y
  unfold out0_2
  rw [whole0, whole0]
  refine canon_pieces (k0_pay1 (F := Ideal) d w) _ ?_ y (cover0_2 _ _ _ _ _ _ _ _ y)
  exact ⟨taken 896 (by decide) inb_S1024x1024_S128x1024_896_0 slices_S1024x1024_o896_0_S128x1024 (k0_pay1 (F := Ideal) d w),
    taken 768 (by decide) inb_S1024x1024_S128x1024_768_0 slices_S1024x1024_o768_0_S128x1024 (k0_pay1 (F := Ideal) d w),
    taken 640 (by decide) inb_S1024x1024_S128x1024_640_0 slices_S1024x1024_o640_0_S128x1024 (k0_pay1 (F := Ideal) d w),
    taken 512 (by decide) inb_S1024x1024_S128x1024_512_0 slices_S1024x1024_o512_0_S128x1024 (k0_pay1 (F := Ideal) d w),
    taken 384 (by decide) inb_S1024x1024_S128x1024_384_0 slices_S1024x1024_o384_0_S128x1024 (k0_pay1 (F := Ideal) d w),
    taken 256 (by decide) inb_S1024x1024_S128x1024_256_0 slices_S1024x1024_o256_0_S128x1024 (k0_pay1 (F := Ideal) d w),
    taken 128 (by decide) inb_S1024x1024_S128x1024_128_0 slices_S1024x1024_o128_0_S128x1024 (k0_pay1 (F := Ideal) d w),
    taken 0 (by decide) inb_S1024x1024_S128x1024_0_0 slices_S1024x1024_o0_0_S128x1024 (k0_pay1 (F := Ideal) d w),
    trivial⟩

end block

/-- Where each window's block lies at each point. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

theorem N16 (t : Fin cfg0.N) : t.val < 16 := lt_of_lt_of_eq t.isLt N_0

/-- The array's row and column of row `q` and column `k` of point `t`'s block. -/
def row (t : Fin cfg0.N) (q : Fin 1024) : Fin 8192 := ⟨1024 * (t.val / 2) + q.val, by have := N16 t; omega⟩
def col (t : Fin cfg0.N) (k : Fin 1024) : Fin 2048 := ⟨1024 * (t.val % 2) + k.val, by omega⟩

variable (m : (ℓ : Loc nD τ sig) → Buf (Elt Ideal) ℓ) (c : Dev nD)

/-- The two arguments the result depends on. -/
abbrev A1 : FVec Ideal S2048x2048 .f32 := m ((c : Thread nD τ).loc main_arg1)
abbrev A2 : FVec Ideal S8192x2048 .f32 := m ((c : Thread nD τ).loc main_arg2)

theorem blk0 (t : Fin cfg0.N) (q : Fin 1024) (j : Fin 2048) :
    (iblk m c 0 t : FVec Ideal S1024x2048 .bf16) (ix2 q j) = A2 m c (ix2 (row t q) j) := by
  blk_simp [iblk]
  entry_read
  pointwise
  blk_point [idx t, row]

theorem blk1 (t : Fin cfg0.N) (k : Fin 1024) (j : Fin 2048) :
    (iblk m c 1 t : FVec Ideal S1024x2048 .bf16) (ix2 k j) = A1 m c (ix2 (col t k) j) := by
  blk_simp [iblk]
  entry_read
  pointwise
  blk_point [idx t, col]

/-- Where a point's entry goes in the output array. -/
theorem place (t : Fin cfg0.N) (y : S1024x1024.Idx) : (((cfg0.win 2).blk t).view.emb y : S8192x2048.Idx) = ix2 (row t (y 0)) (col t (y 1)) := by
  blk_ext [idx t, row, col]

open Cert.Reference15Ideal.Read Cert.Reference15Ideal.Dy

/-- The array after the last point is the reference's. -/
theorem final2 : (dats m 0 c).arrAt 2 (cfgs 0).N = val_main_v3 (F := Ideal) (A1 m c) (A2 m c) := by
  refine (dats m 0 c).arrAt_eq_of_covers 2 _ (by decide +kernel) fun t _ y => ?_
  blk_simp
  rw [after0_2, place t y, out2]
  obtain ⟨q, k, rfl⟩ := eta y
  refine (pay1 _ _ q k).trans ?_
  simp only [blk0, blk1]
  exact (v3 _ _ (row t q) (col t k)).symm

end Cert.Kernel15Ideal.Dy

end
-- ==== Proof.DyClaim.lean ====
/- The claims about the cotangent of the mixing sublayer's last product: the runs of the three programs, and that the two of them agree at
   every argument. -/
module

public import proofs.«01_k».proof.Defs
public import proofs.«01_k».proof.Proof.Dy
public import proofs.«01_k».proof.Proof.Gen.Kernel15.Frame
public import proofs.«01_k».proof.Proof.Gen.Reference15Ideal.Run

@[expose] public section
noncomputable section
open Idealize.ShloMosaic Idealize.ShloMosaic.TcCoe Idealize.SL.Sem

namespace Cert.Proof.DyClaims

theorem frame_p : Cert.quiescent_Kernel15 := fun m ρ _ => Cert.Kernel15.Gen.frame m ρ

theorem frame_pi : Cert.quiescent_Kernel15Ideal := fun m ρ _ => Cert.Kernel15Ideal.Gen.frame m ρ

theorem frame_ri : Cert.quiescent_Reference15Ideal := fun m ρ _ =>
  (θ_run Cert.Reference15Ideal.defs _ _).mono
    (fun r h => ⟨fun c => (h c).2, sem_eq_zero_of_no_sems (by decide) r.2⟩)
    (Cert.Reference15Ideal.Value.run (F := Ideal) m ρ)

open Cert.Kernel15Ideal.Dy in
/-- At `Ideal` both programs leave the same product. -/
theorem algebraic : Cert.algebraic_Kernel15Ideal_Reference15Ideal := by
  intro m g m' g' _ ha
  refine ⟨_, Cert.Kernel15Ideal.Value.run_blocks m g,
    (θ_run Cert.Reference15Ideal.defs _ _).mono (fun r h c => ?_) (Cert.Reference15Ideal.Value.run (F := Ideal) m' g')⟩
  obtain ⟨a0, a1, a2⟩ := ha c
  have e1 : m' ((c.tc : Thread Cert.Reference15Ideal.nD Cert.Reference15Ideal.τ).loc Cert.Reference15Ideal.main_arg1) = A1 m c := a1
  have e2 : m' ((c.tc : Thread Cert.Reference15Ideal.nD Cert.Reference15Ideal.τ).loc Cert.Reference15Ideal.main_arg2) = A2 m c := a2
  obtain ⟨r0, k⟩ := h c
  rw [Cert.Reference15Ideal.Read.val_main_v3_eq, e1, e2] at r0
  exact ⟨r0.trans (final2 m c).symm, k⟩

end Cert.Proof.DyClaims

end
-- ==== Proof.Adam.lean ====
/- The optimiser's step on one matrix: what the reference computes entry by entry, what the kernel leaves of one block of rows, and the arrays
   the kernel leaves. Nothing here asks the arguments to be finite. -/
module

public import proofs.«01_k».proof.Proof.Gen.Kernel16Ideal.Value
public import proofs.«01_k».proof.Proof.Gen.Reference16Ideal.Read
public import proofs.«01_k».proof.Proof.Slabs
public import Idealize.ShloMosaic.Lib.Pipeline.ValueKit

@[expose] public section
set_option maxRecDepth 16384
noncomputable section
open Idealize.ShloMosaic Idealize.ShloMosaic.TcCoe Idealize.SL.Sem

namespace Cert.Adam

/-- The first moment after the step, from the gradient and the moment. -/
def first (g v : EReal) : EReal := Ideal.ofBits .f32 0x3F666666#32 * v + Ideal.ofBits .f32 0x3DCCCCCD#32 * g
/-- The second moment after the step. -/
def second (g v : EReal) : EReal := Ideal.ofBits .f32 0x3F7FBE77#32 * v + Ideal.ofBits .f32 0x3A83126F#32 * (g * g)
/-- The change of the weight. -/
def change (w g a b : EReal) : EReal :=
  Ideal.ofBits .f32 0xBA83126F#32 * (Ideal.div (Ideal.div (first g a) (Ideal.ofBits .f32 0x3F26BD02#32))
    (Ideal.sqrt (Ideal.div (second g b) (Ideal.ofBits .f32 0x3C231ACC#32)) + Ideal.ofBits .f32 0x322BCC77#32) + Ideal.ofBits .f32 0x3C23D70A#32 * w)

end Cert.Adam

namespace Cert.Reference16Ideal.Adam
open Cert.Reference16Ideal Cert.Reference16Ideal.Gen Cert.Reference16Ideal.Read Cert.Adam

variable (w g a b : FVec Ideal S2048x1408 .f32)

theorem v4 (r k) : val_main_v4 (F := Ideal) g a (ix2 r k) = first (g (ix2 r k)) (a (ix2 r k)) := by
  pointwise [val_main_v4, val_main_v3, val_main_v2, val_main_v1, val_main_v0, val_main_cst, val_main_cst_0]
  rfl

theorem v10 (r k) : val_main_v10 (F := Ideal) g b (ix2 r k) = second (g (ix2 r k)) (b (ix2 r k)) := by
  pointwise [val_main_v10, val_main_v9, val_main_v8, val_main_v7, val_main_v6, val_main_v5, val_main_cst_1, val_main_cst_2]
  rfl

theorem v23 (r k) : val_main_v23 (F := Ideal) w g a b (ix2 r k) = change (w (ix2 r k)) (g (ix2 r k)) (a (ix2 r k)) (b (ix2 r k)) := by
  pointwise [val_main_v23, val_main_v22, val_main_v21, val_main_v20, val_main_v19, val_main_v18, val_main_v17, val_main_v16, val_main_v15,
    val_main_v14, val_main_v13, val_main_v12, val_main_v11, val_main_cst_3, val_main_cst_4, val_main_cst_5, val_main_cst_6, val_main_cst_7]
  simp only [v4, v10]
  rfl

end Cert.Reference16Ideal.Adam

namespace Cert.Kernel16Ideal.Adam
open Cert.Kernel16Ideal Cert.Kernel16Ideal.Gen Cert.Adam
open Cert.Slabs (eta)

theorem pay1 (g a : FVec Ideal S256x1408 .f32) (q k) : k0_pay1 (F := Ideal) g a (ix2 q k) = first (g (ix2 q k)) (a (ix2 q k)) := by
  pointwise [k0_pay1]
  rfl
theorem pay2 (g b : FVec Ideal S256x1408 .f32) (q k) : k0_pay2 (F := Ideal) g b (ix2 q k) = second (g (ix2 q k)) (b (ix2 q k)) := by
  pointwise [k0_pay2]
  rfl
theorem pay3 (g w a b : FVec Ideal S256x1408 .f32) (q k) :
    k0_pay3 (F := Ideal) g w a b (ix2 q k) = change (w (ix2 q k)) (g (ix2 q k)) (a (ix2 q k)) (b (ix2 q k)) := by
  pointwise [k0_pay3]
  simp only [pay1, pay2]
  rfl

/-- Where each window's block lies at each point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem N8 (t : Fin cfg0.N) : t.val < 8 := lt_of_lt_of_eq t.isLt N_0

/-- The array's row that is row `q` of point `t`'s block. -/
def at_ (t : Fin cfg0.N) (q : Fin 256) : Fin 2048 := ⟨256 * t.val + q.val, by have := N8 t; omega⟩

variable (m : (ℓ : Loc nD τ sig) → Buf (Elt Ideal) ℓ) (c : Dev nD)

/-- The four arguments. -/
abbrev W0 : FVec Ideal S2048x1408 .f32 := m ((c : Thread nD τ).loc main_arg0)
abbrev G0 : FVec Ideal S2048x1408 .f32 := m ((c : Thread nD τ).loc main_arg1)
abbrev M0 : FVec Ideal S2048x1408 .f32 := m ((c : Thread nD τ).loc main_arg2)
abbrev V0 : FVec Ideal S2048x1408 .f32 := m ((c : Thread nD τ).loc main_arg3)

theorem blk0 (t : Fin cfg0.N) (q : Fin 256) (k : Fin 1408) : (iblk m c 0 t : FVec Ideal S256x1408 .f32) (ix2 q k) = W0 m c (ix2 (at_ t q) k) := by
  blk_simp [iblk]
  rw [V_main_arg0]
  blk_point [idx t, at_]

theorem blk1 (t : Fin cfg0.N) (q : Fin 256) (k : Fin 1408) : (iblk m c 1 t : FVec Ideal S256x1408 .f32) (ix2 q k) = G0 m c (ix2 (at_ t q) k) := by
  blk_simp [iblk]
  rw [V_main_arg1]
  blk_point [idx t, at_]

theorem blk2 (t : Fin cfg0.N) (q : Fin 256) (k : Fin 1408) : (iblk m c 2 t : FVec Ideal S256x1408 .f32) (ix2 q k) = M0 m c (ix2 (at_ t q) k) := by
  blk_simp [iblk]
  rw [V_main_arg2]
  blk_point [idx t, at_]

theorem blk3 (t : Fin cfg0.N) (q : Fin 256) (k : Fin 1408) : (iblk m c 3 t : FVec Ideal S256x1408 .f32) (ix2 q k) = V0 m c (ix2 (at_ t q) k) := by
  blk_simp [iblk]
  rw [V_main_arg3]
  blk_point [idx t, at_]

/-- Where a point's entry goes in the output arrays. -/
theorem place (t : Fin cfg0.N) (y : S256x1408.Idx) :
    (((cfg0.win 4).blk t).view.emb y : S2048x1408.Idx) = ix2 (at_ t (y 0)) (y 1)
    ∧ (((cfg0.win 5).blk t).view.emb y : S2048x1408.Idx) = ix2 (at_ t (y 0)) (y 1)
    ∧ (((cfg0.win 6).blk t).view.emb y : S2048x1408.Idx) = ix2 (at_ t (y 0)) (y 1)
    ∧ (((cfg0.win 7).blk t).view.emb y : S2048x1408.Idx) = ix2 (at_ t (y 0)) (y 1) :=
  ⟨by blk_ext [idx t, at_], by blk_ext [idx t, at_], by blk_ext [idx t, at_], by blk_ext [idx t, at_]⟩

open Cert.Reference16Ideal.Read Cert.Reference16Ideal.Adam

/-- The arrays after the last point are the reference's. -/
theorem final4 : (dats m 0 c).arrAt 4 (cfgs 0).N = G0 m c := by
  refine (dats m 0 c).arrAt_eq_of_covers 4 _ (by decide +kernel) fun t _ y => ?_
  blk_simp
  rw [after0_4, (place t y).1]
  frame_out
  obtain ⟨q, k, rfl⟩ := eta y
  exact blk1 m c t q k

theorem final5 : (dats m 0 c).arrAt 5 (cfgs 0).N = val_main_v23 (F := Ideal) (W0 m c) (G0 m c) (M0 m c) (V0 m c) := by
  refine (dats m 0 c).arrAt_eq_of_covers 5 _ (by decide +kernel) fun t _ y => ?_
  blk_simp
  rw [after0_5, (place t y).2.1]
  frame_out
  obtain ⟨q, k, rfl⟩ := eta y
  refine (pay3 _ _ _ _ q k).trans ?_
  simp only [blk0, blk1, blk2, blk3]
  exact (v23 _ _ _ _ (at_ t q) k).symm

theorem final6 : (dats m 0 c).arrAt 6 (cfgs 0).N = val_main_v4 (F := Ideal) (G0 m c) (M0 m c) := by
  refine (dats m 0 c).arrAt_eq_of_covers 6 _ (by decide +kernel) fun t _ y => ?_
  blk_simp
  rw [after0_6, (place t y).2.2.1]
  frame_out
  obtain ⟨q, k, rfl⟩ := eta y
  refine (pay1 _ _ q k).trans ?_
  simp only [blk1, blk2]
  exact (v4 _ _ (at_ t q) k).symm

theorem final7 : (dats m 0 c).arrAt 7 (cfgs 0).N = val_main_v10 (F := Ideal) (G0 m c) (V0 m c) := by
  refine (dats m 0 c).arrAt_eq_of_covers 7 _ (by decide +kernel) fun t _ y => ?_
  blk_simp
  rw [after0_7, (place t y).2.2.2]
  frame_out
  obtain ⟨q, k, rfl⟩ := eta y
  refine (pay2 _ _ q k).trans ?_
  simp only [blk1, blk3]
  exact (v10 _ _ (at_ t q) k).symm

end Cert.Kernel16Ideal.Adam

end
-- ==== Proof.AdamClaim.lean ====
/- The claims about the optimiser's step on one matrix: the runs of the three programs, and that the two of them agree at every argument. -/
module

public import proofs.«01_k».proof.Defs
public import proofs.«01_k».proof.Proof.Adam
public import proofs.«01_k».proof.Proof.Gen.Kernel16.Frame
public import proofs.«01_k».proof.Proof.Gen.Reference16Ideal.Run

@[expose] public section
noncomputable section
open Idealize.ShloMosaic Idealize.ShloMosaic.TcCoe Idealize.SL.Sem

namespace Cert.Proof.AdamClaims

theorem frame_p : Cert.quiescent_Kernel16 := fun m ρ _ => Cert.Kernel16.Gen.frame m ρ

theorem frame_pi : Cert.quiescent_Kernel16Ideal := fun m ρ _ => Cert.Kernel16Ideal.Gen.frame m ρ

theorem frame_ri : Cert.quiescent_Reference16Ideal := fun m ρ _ =>
  (θ_run Cert.Reference16Ideal.defs _ _).mono
    (fun r h => ⟨fun c => (h c).2.2.2.2, sem_eq_zero_of_no_sems (by decide) r.2⟩)
    (Cert.Reference16Ideal.Value.run (F := Ideal) m ρ)

open Cert.Kernel16Ideal.Adam in
/-- At `Ideal` both programs leave the gradient, the same change of the weight and the same two moments. -/
theorem algebraic : Cert.algebraic_Kernel16Ideal_Reference16Ideal := by
  intro m g m' g' _ ha
  refine ⟨_, _, _, _, Cert.Kernel16Ideal.Value.run_blocks m g,
    (θ_run Cert.Reference16Ideal.defs _ _).mono (fun r h c => ?_) (Cert.Reference16Ideal.Value.run (F := Ideal) m' g')⟩
  obtain ⟨a0, a1, a2, a3⟩ := ha c
  have e0 : m' ((c.tc : Thread Cert.Reference16Ideal.nD Cert.Reference16Ideal.τ).loc Cert.Reference16Ideal.main_arg0) = W0 m c := a0
  have e1 : m' ((c.tc : Thread Cert.Reference16Ideal.nD Cert.Reference16Ideal.τ).loc Cert.Reference16Ideal.main_arg1) = G0 m c := a1
  have e2 : m' ((c.tc : Thread Cert.Reference16Ideal.nD Cert.Reference16Ideal.τ).loc Cert.Reference16Ideal.main_arg2) = M0 m c := a2
  have e3 : m' ((c.tc : Thread Cert.Reference16Ideal.nD Cert.Reference16Ideal.τ).loc Cert.Reference16Ideal.main_arg3) = V0 m c := a3
  obtain ⟨r0, r1, r2, r3, k⟩ := h c
  rw [e1] at r0
  rw [Cert.Reference16Ideal.Read.val_main_v23_eq, e0, e1, e2, e3] at r1
  rw [Cert.Reference16Ideal.Read.val_main_v4_eq, e1, e2] at r2
  rw [Cert.Reference16Ideal.Read.val_main_v10_eq, e1, e3] at r3
  exact ⟨r0.trans (final4 m c).symm, r1.trans (final5 m c).symm, r2.trans (final6 m c).symm, r3.trans (final7 m c).symm, k⟩

end Cert.Proof.AdamClaims

end
-- ==== Proof.LossRun.lean ====
module

/-
# The loss: one run of its program, at any float values

On each device the call that ends the forward pass leaves five arrays, the last of them the squared errors summed per
column. The host adds those columns, halves the sum, divides it by the row length, and the eight devices add what they
have. Here the program is run once, at any float values: what its kernel leaves point by point, the host's lines around
it, and the sum over the devices, each value by its name.
-/

public import proofs.«01_k».proof.Proof.Gen.Kernel17Ideal.Launch
public import proofs.«01_k».proof.Proof.Gen.Kernel17Ideal.Skeleton
public import proofs.«01_k».proof.Proof.Gen.Kernel17Ideal.Points
public import Idealize.ShloMosaic.Lib.Pipeline.FrameBody
public import Idealize.ShloMosaic.Lib.Pipeline.FrameSuffix
public import Idealize.ShloMosaic.Lib.Pipeline.Regions
public import Idealize.ShloMosaic.Lib.Pipeline.RegionArrays
public import Idealize.ShloMosaic.Lib.Pipeline.CollectiveSegs
public import Idealize.ShloMosaic.Lib.Pipeline.Kit
public import Idealize.ShloMosaic.Lib.StableHlo.CollectiveRules
public import Idealize.ShloMosaic.Lib.VecWindow
public import Idealize.ShloMosaic.Lib.Tactic
public import Idealize.ShloMosaic.Lib.WordCmp

@[expose] public section

set_option maxRecDepth 16384

noncomputable section

namespace Cert.Loss

open Cert.Kernel17Ideal Cert.Kernel17Ideal.Gen
open Cert.Kernel17Ideal.Gen.Sites (L lv)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-- The staging library's ghost state beside the collective's. -/
abbrev UU : Type := UR sig nD τ × Sites.UC

local notation "𝕄" => MT nD τ sig ℕ (Elt F) ℕ UU ℕ

/-! ## What a grid point leaves -/

/-- The three sums that every point adds to: the gain's and the shift's gradients, and the squared errors. -/
abbrev Sums (F : FTy → Type) : Type := Vec F S1x2048 .f32 × Vec F S1x2048 .f32 × Vec F S1x2048 .f32

/-- All three at their start. -/
def sums0 : Sums F := (k0_pay2, k0_pay3, k0_pay4)

/-- What a point with rows `x`, targets `y`, gain `g` and shift `b` makes of them. -/
def addTo (x y : Vec F S256x2048 .f32) (g b : Vec F S1x2048 .f32) (a : Sums F) : Sums F :=
  (k0_pay16 (k0_pay7 x) (k0_pay10 x g b y) a.1, k0_pay17 (k0_pay10 x g b y) a.2.1,
    k0_pay1 (k0_pay18 a.2.2) (k0_pay19 (k0_pay9 x g b y)))

/-- The rows' gradient at a point. -/
def dRows (x y : Vec F S256x2048 .f32) (g b : Vec F S1x2048 .f32) : Vec F S256x2048 .f32 :=
  k0_pay14 (k0_pay6 x) (k0_pay7 x) (k0_pay11 x g b y) (k0_pay12 x g b y)

/-- The same scaled and cast. -/
def dCast (x y : Vec F S256x2048 .f32) (g b : Vec F S1x2048 .f32) : Vec F S256x2048 .bf16 :=
  k0_pay15 (k0_pay6 x) (k0_pay7 x) (k0_pay11 x g b y) (k0_pay12 x g b y)

/-- The point starts the sums. -/
abbrev starts (i : grid0.Coords) : Prop :=
  (Scalar.cmpi .ne (Scalar.extui (Scalar.cmpi .eq (BitVec.ofNat 32 (i 0).val) 0#32)) 0#32) = 1#1

theorem starts_iff : ∀ t : Fin cfg0.N, starts (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [starts, e0]
    word_cmp
   : ∀ t : Fin grid0.N, starts (grid0.coords t) ↔ t.val % 32 = 0)

section Body

variable (c : Dev nD) (i : grid0.Coords)
  {a1 a2 : Memref sig .tc .vmem S256x2048 .f32} (h1 : a1.IsWhole) (h2 : a2.IsWhole)
  {a3 a4 : Memref sig .tc .vmem S1x2048 .f32} (h3 : a3.IsWhole) (h4 : a4.IsWhole)
  {a5 : Memref sig .tc .vmem S256x2048 .f32} (h5 : a5.IsWhole) {a6 : Memref sig .tc .vmem S256x2048 .bf16} (h6 : a6.IsWhole)
  {a7 a8 a9 : Memref sig .tc .vmem S1x2048 .f32} (h7 : a7.IsWhole) (h8 : a8.IsWhole) (h9 : a9.IsWhole)
  (x y : Vec F S256x2048 .f32) (g b : Vec F S1x2048 .f32)

/-- What the body reads. -/
def reads (a1 a2 : Memref sig .tc .vmem S256x2048 .f32) (a3 a4 : Memref sig .tc .vmem S1x2048 .f32) : sProp 𝕄 :=
  iprop(owns (c : Thread nD τ) a1 fullShare x ∗ owns (c : Thread nD τ) a2 fullShare y
    ∗ owns (c : Thread nD τ) a3 fullShare g ∗ owns (c : Thread nD τ) a4 fullShare b)

/-- What it leaves, the sums being `s`. -/
def leaves (a5 : Memref sig .tc .vmem S256x2048 .f32) (a6 : Memref sig .tc .vmem S256x2048 .bf16)
    (a7 a8 a9 : Memref sig .tc .vmem S1x2048 .f32) (s : Sums F) : sProp 𝕄 :=
  iprop(owns (c : Thread nD τ) a5 fullShare (dRows x y g b) ∗ owns (c : Thread nD τ) a6 fullShare (dCast x y g b)
    ∗ owns (c : Thread nD τ) a7 fullShare s.1 ∗ owns (c : Thread nD τ) a8 fullShare s.2.1 ∗ owns (c : Thread nD τ) a9 fullShare s.2.2)

set_option maxHeartbeats 1000000 in
/-- A point that starts the sums. -/
theorem first_point (hc : starts i) (𝒱 : Variants) (E : Set ℕ) (K : PUnit → sProp 𝕄) :
    iprop(reads c x y g b a1 a2 a3 a4
        ∗ ((∃ d, owns (c : Thread nD τ) a5 fullShare d) ∗ (∃ d, owns (c : Thread nD τ) a6 fullShare d)
          ∗ (∃ d, owns (c : Thread nD τ) a7 fullShare d) ∗ (∃ d, owns (c : Thread nD τ) a8 fullShare d)
          ∗ (∃ d, owns (c : Thread nD τ) a9 fullShare d))
        ∗ (iprop(reads c x y g b a1 a2 a3 a4 ∗ leaves c x y g b a5 a6 a7 a8 a9 (addTo x y g b sums0)) -∗ K ⟨⟩))
      ⊢ wp frame (wpE (defs₀ (F := F)) 𝒱 c none) E (cc0_ln_c_loss_bwd i a1 h1 a2 h2 a3 h3 a4 h4 a5 h5 a6 h6 a7 h7 a8 h8 a9 h9) K := by
  simp only [cc0_ln_c_loss_bwd_eq_skeleton]; unfold cc0_ln_c_loss_bwd_skel
  simp only [k0_part1_eq_skeleton, k0_part2_eq_skeleton]
  unfold reads leaves owns
  iintro ⟨⟨⟨%f1, %hf1, H1⟩, ⟨%f2, %hf2, H2⟩, ⟨%f3, %hf3, H3⟩, ⟨%f4, %hf4, H4⟩⟩,
    ⟨⟨%d5, %f5, -, H5⟩, ⟨%d6, %f6, -, H6⟩, ⟨%d7, %f7, -, H7⟩, ⟨%d8, %f8, -, H8⟩, ⟨%d9, %f9, -, H9⟩⟩, Hk⟩
  obtain rfl := h1.eq_unread hf1; obtain rfl := h2.eq_unread hf2; obtain rfl := h3.eq_unread hf3; obtain rfl := h4.eq_unread hf4
  sl_exec (disch := first | sl_exact hc)
  sl_step
  iapply Hk
  isplitl [H1 H2 H3 H4]
  · isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; isplitr; · ipureintro; exact h4.read_unread _
    iexact H4
  isplitl [H5]
  · iexists _; isplitr
    swap; · iexact H5
    ipureintro
    rw [View.read_writes_full]
    unfold first_point.sl.r first_point.sl.r_1 first_point.sl.r_4 first_point.sl.r_5
    repeat rw [View.readAt_full]
    simp only [h1.read_unread, h2.read_unread, h3.read_unread, h4.read_unread]
    rfl
  isplitl [H6]
  · iexists _; isplitr
    swap; · iexact H6
    ipureintro
    rw [View.read_writes_full]
    unfold first_point.sl.r first_point.sl.r_1 first_point.sl.r_4 first_point.sl.r_5
    repeat rw [View.readAt_full]
    simp only [h1.read_unread, h2.read_unread, h3.read_unread, h4.read_unread]
    rfl
  isplitl [H7]
  · iexists _; isplitr
    swap; · iexact H7
    ipureintro
    rw [View.read_writes_full]
    unfold first_point.sl.r_1 first_point.sl.r_3 first_point.sl.v59 first_point.sl.H7_1
    repeat rw [View.readAt_full]
    rw [View.readCov_full]
    simp only [h1.read_unread, h2.read_unread, h3.read_unread, h4.read_unread]
    rfl
  isplitl [H8]
  · iexists _; isplitr
    swap; · iexact H8
    ipureintro
    rw [View.read_writes_full]
    unfold first_point.sl.r_3 first_point.sl.v66 first_point.sl.H8_1
    repeat rw [View.readAt_full]
    rw [View.readCov_full]
    simp only [h1.read_unread, h2.read_unread, h3.read_unread, h4.read_unread]
    rfl
  iexists _; isplitr
  swap; · iexact H9
  ipureintro
  rw [View.read_writes_full]
  unfold first_point.sl.r_6 first_point.sl.r_7 first_point.sl.r_2 first_point.sl.v72 first_point.sl.H9_1
  repeat rw [View.readAt_full]
  rw [View.readCov_full]
  simp only [h1.read_unread, h2.read_unread, h3.read_unread, h4.read_unread]
  rfl

set_option maxHeartbeats 1000000 in
/-- Any other point, the sums so far being `s`. -/
theorem next_point (hc : ¬ starts i) (s : Sums F) (𝒱 : Variants) (E : Set ℕ) (K : PUnit → sProp 𝕄) :
    iprop(reads c x y g b a1 a2 a3 a4
        ∗ ((∃ d, owns (c : Thread nD τ) a5 fullShare d) ∗ (∃ d, owns (c : Thread nD τ) a6 fullShare d)
          ∗ owns (c : Thread nD τ) a7 fullShare s.1 ∗ owns (c : Thread nD τ) a8 fullShare s.2.1
          ∗ owns (c : Thread nD τ) a9 fullShare s.2.2)
        ∗ (iprop(reads c x y g b a1 a2 a3 a4 ∗ leaves c x y g b a5 a6 a7 a8 a9 (addTo x y g b s)) -∗ K ⟨⟩))
      ⊢ wp frame (wpE (defs₀ (F := F)) 𝒱 c none) E (cc0_ln_c_loss_bwd i a1 h1 a2 h2 a3 h3 a4 h4 a5 h5 a6 h6 a7 h7 a8 h8 a9 h9) K := by
  simp only [cc0_ln_c_loss_bwd_eq_skeleton]; unfold cc0_ln_c_loss_bwd_skel
  simp only [k0_part1_eq_skeleton, k0_part2_eq_skeleton]
  unfold reads leaves owns
  iintro ⟨⟨⟨%f1, %hf1, H1⟩, ⟨%f2, %hf2, H2⟩, ⟨%f3, %hf3, H3⟩, ⟨%f4, %hf4, H4⟩⟩,
    ⟨⟨%d5, %f5, -, H5⟩, ⟨%d6, %f6, -, H6⟩, ⟨%f7, %hf7, H7⟩, ⟨%f8, %hf8, H8⟩, ⟨%f9, %hf9, H9⟩⟩, Hk⟩
  obtain rfl := h1.eq_unread hf1; obtain rfl := h2.eq_unread hf2; obtain rfl := h3.eq_unread hf3; obtain rfl := h4.eq_unread hf4
  obtain rfl := h7.eq_unread hf7; obtain rfl := h8.eq_unread hf8; obtain rfl := h9.eq_unread hf9
  sl_exec (disch := first | sl_exact hc)
  sl_step
  iapply Hk
  isplitl [H1 H2 H3 H4]
  · isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; isplitr; · ipureintro; exact h4.read_unread _
    iexact H4
  isplitl [H5]
  · iexists _; isplitr
    swap; · iexact H5
    ipureintro
    rw [View.read_writes_full]
    unfold next_point.sl.r next_point.sl.r_1 next_point.sl.r_4 next_point.sl.r_5
    repeat rw [View.readAt_full]
    simp only [h1.read_unread, h2.read_unread, h3.read_unread, h4.read_unread]
    rfl
  isplitl [H6]
  · iexists _; isplitr
    swap; · iexact H6
    ipureintro
    rw [View.read_writes_full]
    unfold next_point.sl.r next_point.sl.r_1 next_point.sl.r_4 next_point.sl.r_5
    repeat rw [View.readAt_full]
    simp only [h1.read_unread, h2.read_unread, h3.read_unread, h4.read_unread]
    rfl
  isplitl [H7]
  · iexists _; isplitr
    swap; · iexact H7
    ipureintro
    rw [View.read_writes_full]
    unfold next_point.sl.r_1 next_point.sl.r_3
    repeat rw [View.readAt_full]
    simp only [h1.read_unread, h2.read_unread, h3.read_unread, h4.read_unread, h7.read_unread]
    rfl
  isplitl [H8]
  · iexists _; isplitr
    swap; · iexact H8
    ipureintro
    rw [View.read_writes_full]
    unfold next_point.sl.r_3
    repeat rw [View.readAt_full]
    simp only [h1.read_unread, h2.read_unread, h3.read_unread, h4.read_unread, h8.read_unread]
    rfl
  iexists _; isplitr
  swap; · iexact H9
  ipureintro
  rw [View.read_writes_full]
  unfold next_point.sl.r_6 next_point.sl.r_7 next_point.sl.r_2
  repeat rw [View.readAt_full]
  simp only [h1.read_unread, h2.read_unread, h3.read_unread, h4.read_unread, h9.read_unread]
  rfl

end Body

end Cert.Loss
-- ==== Proof.LossMesh.lean ====
module

/-
# The loss: its program on the mesh, at any float values

The kernel over its whole grid, with the sums carried from point to point, then the host's lines around it and the sum over
the devices: one run of the program, from any memory, for both of its frames.
-/

public import proofs.«01_k».proof.Proof.LossRun
public import proofs.«01_k».proof.Proof.Gen.Kernel17Ideal.RegionsRQ

@[expose] public section

set_option maxRecDepth 16384

noncomputable section

namespace Cert.Loss

open Cert.Kernel17Ideal Cert.Kernel17Ideal.Gen
open Cert.Kernel17Ideal.Gen.Sites (L lv)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig ℕ (Elt F) ℕ UU ℕ

/-! ## The kernel over its grid -/

variable (m : (ℓ : Loc nD τ sig) → Buf (Elt F) ℓ) (ρ : Dev nD → PrngReg)

/-- Window `w`'s block at point `t`, of the array that the host's lines left it. -/
def blk (c : Dev nD) (w : Fin cfg0.W) (t : Fin cfg0.N) : ((cfg0.win w).xblock (cfg0.grid.coords t)).Idx → Elt F (cfg0.win w).elt :=
  ((cfg0.win w).blk t).view.read (Elt F) (V1 m c (Proc.devRef .tc (Pipeline.arrRef spec0 w)))

/-- The sums after point `n`. -/
def sumsAt (c : Dev nD) : ∀ n, n < cfg0.N → Sums F
  | 0, h => addTo (blk m c 0 ⟨0, h⟩) (blk m c 1 ⟨0, h⟩) (blk m c 2 ⟨0, h⟩) (blk m c 3 ⟨0, h⟩) sums0
  | n + 1, h => addTo (blk m c 0 ⟨n + 1, h⟩) (blk m c 1 ⟨n + 1, h⟩) (blk m c 2 ⟨n + 1, h⟩) (blk m c 3 ⟨n + 1, h⟩)
      (sumsAt c n (Nat.lt_of_succ_lt h))

/-- The kernel's proof data: its arrays as found, what each point leaves, and the sum over the devices owed throughout. -/
def dat (c : Dev nD) : Dat τ (Elt F) ℕ ℕ UU ℕ cfg0 c where
  A w := V1 m c (Proc.devRef .tc (Pipeline.arrRef spec0 w))
  after w t := match w with
    | ⟨0, _⟩ => blk m c 0 t
    | ⟨1, _⟩ => blk m c 1 t
    | ⟨2, _⟩ => blk m c 2 t
    | ⟨3, _⟩ => blk m c 3 t
    | ⟨4, _⟩ => dRows (blk m c 0 t) (blk m c 1 t) (blk m c 2 t) (blk m c 3 t)
    | ⟨5, _⟩ => dCast (blk m c 0 t) (blk m c 1 t) (blk m c 2 t) (blk m c 3 t)
    | ⟨6, _⟩ => (sumsAt m c t.val t.isLt).1
    | ⟨7, _⟩ => (sumsAt m c t.val t.isLt).2.1
    | ⟨8, _⟩ => (sumsAt m c t.val t.isLt).2.2
  Φ _ := iprop(Pipeline.scopedRest spec0 c ∗ ∃ r, prngReg c r)
  q _ := fullShare
  owed _ := Sites.O0 (F := F) c

theorem A_eq (c : Dev nD) (w : Fin cfg0.W) : (dat m c).A w = V1 m c (Proc.devRef .tc (Pipeline.arrRef spec0 w)) := by
  dsimp only [dat]

/-- An input's buffer holds its block at every point. -/
theorem before_in (c : Dev nD) (t : Fin cfg0.N) :
    (∀ d, (dat m c).before 0 t d = blk m c 0 t) ∧ (∀ d, (dat m c).before 1 t d = blk m c 1 t)
      ∧ (∀ d, (dat m c).before 2 t d = blk m c 2 t) ∧ (∀ d, (dat m c).before 3 t d = blk m c 3 t) := by
  refine ⟨?_, ?_, ?_, ?_⟩
  · exact fun d => (dat m c).before_in_eq_fetched 0 rfl (fun _ => rfl) (fun _ _ _ => rfl) (fun _ => rfl) t d
  · exact fun d => (dat m c).before_in_eq_fetched 1 rfl (fun _ => rfl) (fun _ _ _ => rfl) (fun _ => rfl) t d
  · exact fun d => (dat m c).before_in_eq_fetched 2 rfl (fun _ => rfl) (fun _ _ _ => rfl) (fun _ => rfl) t d
  · exact fun d => (dat m c).before_in_eq_fetched 3 rfl (fun _ => rfl) (fun _ _ _ => rfl) (fun _ => rfl) t d

/-- Past the first point the sums' buffers hold what the point before left. -/
theorem before_sums (c : Dev nD) (n : ℕ) (h : n + 1 < cfg0.N) :
    (∀ d, (dat m c).before 6 ⟨n + 1, h⟩ d = (sumsAt m c n (Nat.lt_of_succ_lt h)).1)
      ∧ (∀ d, (dat m c).before 7 ⟨n + 1, h⟩ d = (sumsAt m c n (Nat.lt_of_succ_lt h)).2.1)
      ∧ (∀ d, (dat m c).before 8 ⟨n + 1, h⟩ d = (sumsAt m c n (Nat.lt_of_succ_lt h)).2.2) := by
  have hN : n + 1 < 32 := lt_of_lt_of_eq h (show cfg0.N = 32 from N_0)
  refine ⟨?_, ?_, ?_⟩
  · intro d; rw [Dat.before_out_kept _ 6 rfl ⟨n + 1, h⟩ (by simp) (Bool.eq_false_iff.mpr fun h => by
      have := (flush0_6 _).mp h; dsimp only at this; omega) (fun _ => rfl) (fun _ _ => rfl)]
    rfl
  · intro d; rw [Dat.before_out_kept _ 7 rfl ⟨n + 1, h⟩ (by simp) (Bool.eq_false_iff.mpr fun h => by
      have := (flush0_7 _).mp h; dsimp only at this; omega) (fun _ => rfl) (fun _ _ => rfl)]
    rfl
  · intro d; rw [Dat.before_out_kept _ 8 rfl ⟨n + 1, h⟩ (by simp) (Bool.eq_false_iff.mpr fun h => by
      have := (flush0_8 _).mp h; dsimp only at this; omega) (fun _ => rfl) (fun _ _ => rfl)]
    rfl

/-- The body at any point, from the windows' buffers to the windows' buffers. -/
theorem body_at (c : Dev nD) (t : Fin cfg0.N) :
    iprop((dat m c).Φ t.castSucc ∗ (dat m c).owesAt 0 t.castSucc
      ∗ (∃ d, owns (c : Thread nD τ) (win0_0.stage (cfg0.slots t 0)) fullShare ((dat m c).before 0 t d))
      ∗ (∃ d, owns (c : Thread nD τ) (win0_1.stage (cfg0.slots t 1)) fullShare ((dat m c).before 1 t d))
      ∗ (∃ d, owns (c : Thread nD τ) (win0_2.stage (cfg0.slots t 2)) fullShare ((dat m c).before 2 t d))
      ∗ (∃ d, owns (c : Thread nD τ) (win0_3.stage (cfg0.slots t 3)) fullShare ((dat m c).before 3 t d))
      ∗ (∃ d, owns (c : Thread nD τ) (win0_4.stage (cfg0.slots t 4)) fullShare ((dat m c).before 4 t d))
      ∗ (∃ d, owns (c : Thread nD τ) (win0_5.stage (cfg0.slots t 5)) fullShare ((dat m c).before 5 t d))
      ∗ (∃ d, owns (c : Thread nD τ) (win0_6.stage (cfg0.slots t 6)) fullShare ((dat m c).before 6 t d))
      ∗ (∃ d, owns (c : Thread nD τ) (win0_7.stage (cfg0.slots t 7)) fullShare ((dat m c).before 7 t d))
      ∗ (∃ d, owns (c : Thread nD τ) (win0_8.stage (cfg0.slots t 8)) fullShare ((dat m c).before 8 t d)))
    ⊢ wp frame (wpE (defs₀ (F := F)) Variants.none c none) Set.univ (bodyAt0 t) (fun _ =>
      iprop((dat m c).Φ t.succ ∗ (dat m c).owesAt 0 t.succ
      ∗ owns (c : Thread nD τ) (win0_0.stage (cfg0.slots t 0)) fullShare ((dat m c).after 0 t)
      ∗ owns (c : Thread nD τ) (win0_1.stage (cfg0.slots t 1)) fullShare ((dat m c).after 1 t)
      ∗ owns (c : Thread nD τ) (win0_2.stage (cfg0.slots t 2)) fullShare ((dat m c).after 2 t)
      ∗ owns (c : Thread nD τ) (win0_3.stage (cfg0.slots t 3)) fullShare ((dat m c).after 3 t)
      ∗ owns (c : Thread nD τ) (win0_4.stage (cfg0.slots t 4)) fullShare ((dat m c).after 4 t)
      ∗ owns (c : Thread nD τ) (win0_5.stage (cfg0.slots t 5)) fullShare ((dat m c).after 5 t)
      ∗ owns (c : Thread nD τ) (win0_6.stage (cfg0.slots t 6)) fullShare ((dat m c).after 6 t)
      ∗ owns (c : Thread nD τ) (win0_7.stage (cfg0.slots t 7)) fullShare ((dat m c).after 7 t)
      ∗ owns (c : Thread nD τ) (win0_8.stage (cfg0.slots t 8)) fullShare ((dat m c).after 8 t))) := by
  unfold bodyAt0
  rw [show (dat m c).Φ t.succ = (dat m c).Φ t.castSucc from rfl,
    show (dat m c).owesAt 0 t.succ = (dat m c).owesAt 0 t.castSucc from rfl]
  simp only [(before_in m c t).1, (before_in m c t).2.1, (before_in m c t).2.2.1, (before_in m c t).2.2.2]
  obtain ⟨n, hn⟩ := t
  have hN : n < 32 := lt_of_lt_of_eq hn (show cfg0.N = 32 from N_0)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rcases n with _ | n
  · iapply first_point c (grid0.coords ⟨0, hn⟩) _ _ _ _ _ _ _ _ _ (blk m c 0 ⟨0, hn⟩) (blk m c 1 ⟨0, hn⟩) (blk m c 2 ⟨0, hn⟩) (blk m c 3 ⟨0, hn⟩) ((starts_iff _).mpr rfl) Variants.none Set.univ _
    isplitl [H0 H1 H2 H3]
    · unfold reads; iframe H0 H1 H2; iexact H3
    isplitl [H4 H5 H6 H7 H8]
    · isplitl [H4]; · iexists _; iexact H4
      isplitl [H5]; · iexists _; iexact H5
      isplitl [H6]; · iexists _; iexact H6
      isplitl [H7]; · iexists _; iexact H7
      iexists _; iexact H8
    unfold reads leaves
    iintro ⟨⟨H0, H1, H2, H3⟩, H4, H5, H6, H7, H8⟩
    iframe HΦ Ho H0 H1 H2 H3 H4 H5 H6 H7; iexact H8
  · have hc : ¬ starts (grid0.coords ⟨n + 1, hn⟩) := fun h => by
      have := (starts_iff _).mp h; dsimp only at this; omega
    rw [(before_sums m c n hn).1, (before_sums m c n hn).2.1, (before_sums m c n hn).2.2]
    iapply next_point c (grid0.coords ⟨n + 1, hn⟩) _ _ _ _ _ _ _ _ _ (blk m c 0 ⟨n + 1, hn⟩) (blk m c 1 ⟨n + 1, hn⟩) (blk m c 2 ⟨n + 1, hn⟩) (blk m c 3 ⟨n + 1, hn⟩) hc (sumsAt m c n (Nat.lt_of_succ_lt hn)) Variants.none Set.univ _
    isplitl [H0 H1 H2 H3]
    · unfold reads; iframe H0 H1 H2; iexact H3
    isplitl [H4 H5 H6 H7 H8]
    · isplitl [H4]; · iexists _; iexact H4
      isplitl [H5]; · iexists _; iexact H5
      iframe H6 H7; iexact H8
    unfold reads leaves
    iintro ⟨⟨H0, H1, H2, H3⟩, H4, H5, H6, H7, H8⟩
    iframe HΦ Ho H0 H1 H2 H3 H4 H5 H6 H7; iexact H8

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dat (F := F) m c) (defs₀ (F := F)) Variants.none 0 Set.univ := fun t => by
  rw [bigSep_W0, bigSep_W0, defs₀_row]
  exact triple_restated (body_at m c t) rfl .rfl fun _ => .rfl

/-! ## The program on the mesh -/

/-- The staging library's component, and the collective's. -/
abbrev EP : Emb (UR sig nD τ) 𝕄 := embL
abbrev EC : Emb Sites.UC 𝕄 := embR

/-- A device's buffers when the kernel returns. -/
def left (c : Dev nD) : Valuation τ sig (Elt F) :=
  Pipeline.withArrays spec0 c (V1 m c) fun w => (dat m c).arrAt w cfg0.N

/-- A device's buffers when the devices add: the kernel's, after the host's last lines. -/
def sent (c : Dev nD) : Valuation τ sig (Elt F) := V3 m (fun _ b c => left m c b) c

/-- What the kernel leaves, and what the sum over the devices leaves. -/
def outs : Outs (F := F) := fun n b c => if n = 2 then left m c b else (ar0 (F := F)).after₀ (sent m) c b

theorem V3_outs (c : Dev nD) : V3 m (outs m) c = sent m c := rfl

theorem left_arr (c : Dev nD) (w : Fin cfg0.W) : left m c (Proc.devRef .tc (Pipeline.arrRef spec0 w)) = (dat m c).arrAt w cfg0.N :=
  Pipeline.withArrays_arr spec0 launch0.win.arr_inj c _ _ w

/-- The kernel changes its five results and nothing else. -/
theorem V2_off (c : Dev nD) (b : DevRef τ sig) (hb : b ∉ Pipeline.arrRefs (τ := τ) spec0) : V2 m (outs m) c b = V1 m c b := by
  have h (w : Fin cfg0.W) : b ≠ Proc.devRef .tc (Pipeline.arrRef spec0 w) := fun e => hb (e ▸ Finset.mem_map.mpr ⟨_, Finset.mem_image.mpr ⟨w, Finset.mem_univ w, rfl⟩, rfl⟩)
  show Function.update _ _ _ b = _
  rw [Function.update_of_ne (h 8), Function.update_of_ne (h 7), Function.update_of_ne (h 6), Function.update_of_ne (h 5), Function.update_of_ne (h 4)]

theorem V2_arr (c : Dev nD) (w : Fin cfg0.W) :
    (dat m c).arrAt w cfg0.N = V2 m (outs m) c (Proc.devRef .tc (Pipeline.arrRef spec0 w)) := by
  have hin (w : Fin cfg0.W) (hw : (cfg0.win w).isOut = false)
      (hn : Pipeline.arrRef spec0 w ∉ ([main_v9_0, main_v9_1, main_v9_2, main_v9_3, main_v9_4] : List (Ref sig .tc))) :
      (dat m c).arrAt w cfg0.N = V2 m (outs m) c (Proc.devRef .tc (Pipeline.arrRef spec0 w)) := by
    rw [(dat m c).arrAt_in w hw, V2_of m (outs m) c _ hn]; exact A_eq m c w
  fin_cases w
  · exact hin 0 rfl (by decide)
  · exact hin 1 rfl (by decide)
  · exact hin 2 rfl (by decide)
  · exact hin 3 rfl (by decide)
  · refine (left_arr m c 4).symm.trans (Eq.symm ?_)
    show Function.update _ _ _ (Proc.devRef .tc main_v9_0) = _
    rw [Function.update_of_ne (StableHlo.devRef_ne_of_ne (by decide)), Function.update_of_ne (StableHlo.devRef_ne_of_ne (by decide)),
      Function.update_of_ne (StableHlo.devRef_ne_of_ne (by decide)), Function.update_of_ne (StableHlo.devRef_ne_of_ne (by decide)), Function.update_self]
    rfl
  · refine (left_arr m c 5).symm.trans (Eq.symm ?_)
    show Function.update _ _ _ (Proc.devRef .tc main_v9_1) = _
    rw [Function.update_of_ne (StableHlo.devRef_ne_of_ne (by decide)), Function.update_of_ne (StableHlo.devRef_ne_of_ne (by decide)),
      Function.update_of_ne (StableHlo.devRef_ne_of_ne (by decide)), Function.update_self]
    rfl
  · refine (left_arr m c 6).symm.trans (Eq.symm ?_)
    show Function.update _ _ _ (Proc.devRef .tc main_v9_2) = _
    rw [Function.update_of_ne (StableHlo.devRef_ne_of_ne (by decide)), Function.update_of_ne (StableHlo.devRef_ne_of_ne (by decide)), Function.update_self]
    rfl
  · refine (left_arr m c 7).symm.trans (Eq.symm ?_)
    show Function.update _ _ _ (Proc.devRef .tc main_v9_3) = _
    rw [Function.update_of_ne (StableHlo.devRef_ne_of_ne (by decide)), Function.update_self]
    rfl
  · refine (left_arr m c 8).symm.trans (Eq.symm ?_)
    show Function.update _ _ _ (Proc.devRef .tc main_v9_4) = _
    rw [Function.update_self]
    rfl

/-- What of the sum over the devices is known throughout: its cells are under their invariants. -/
abbrev invs : sProp 𝕄 := iprop(∃ κ, (AllReduce.Dat.once (ar0 (F := F)) (sent m)).cellInvs (Sites.E0 EC) κ)

/-- Beside its buffers a device has, until the devices add, what that sum takes; after it, the sum's spent cells. -/
def rest : Fin 3 → Dev nD → sProp 𝕄
  | ⟨2, _⟩, c => iprop(Sites.Es EC (sent m) 1 c ∗ (Sites.Ghost0 EC c ∗ invs m))
  | _, c => Sites.Es EC (sent m) 0 c

/-- The kernel as one line of the program. -/
def region : Pipeline.RegionSeg (pcfgs (F := F)) adm (fun _ c => dat m c) 0 defs₀ Variants.none L lv 0 :=
  Pipeline.RegionSeg.ofHeld (pcfgs (F := F)) adm (fun _ c => dat m c) 0 defs₀ Variants.none L lv 0 (fun c => Sites.O0 (F := F) c)
    (fun c => iprop(∃ r, prngReg c r)) (fun c => iprop(∃ r, prngReg c r)) launch0.toP rfl
    (fun c => (body_obligation m c).loose) (fun _ _ => rfl) (fun _ => rfl) (fun c => (dat m c).share_full fun _ => rfl)
    (fun _ => .rfl) (fun _ => .rfl) (fun _ => 0)
    ⟨fun _ _ _ => Sites.mem_L _ _ (by decide), fun _ _ _ => le_refl _, fun _ _ _ hg => ⟨(Sites.O0_pos hg).1, (Sites.O0_pos hg).2⟩⟩
    (fun c => iprop(StableHlo.held (c : Thread nD τ) (Pipeline.ucRefs τ sig \ Pipeline.arrRefs spec0) (V1 m c) ∗ Sites.rides0 EC (sent m) c))
    (V1 m) (V2 m (outs m)) (fun c w => A_eq m c w) (fun c w => V2_arr m c w)

theorem region_pre (c : Dev nD) :
    iprop(StableHlo.held (c : Thread nD τ) (Pipeline.ucRefs τ sig) (V1 m c) ∗ rest m 0 c) ⊢ (region m).pre c := by
  show iprop(StableHlo.held (c : Thread nD τ) (Pipeline.ucRefs τ sig) (V1 m c) ∗ Sites.Es EC (sent m) 0 c) ⊢ _
  rw [Sites.Es_0, StableHlo.held_sub_split (c : Thread nD τ) (Pipeline.arrRefs_sub_ucRefs spec0 launch0.win.arr_unscoped) (V1 m c)]
  dsimp only [region, Pipeline.RegionSeg.ofHeld]
  iintro ⟨⟨Ha, Hu⟩, HO, Hp, Hr⟩
  isplitl [Ha]; · iexact Ha
  isplitl [Hp]; · iexact Hp
  isplitl [Hu Hr]; · isplitl [Hu] <;> iassumption
  iexact HO

theorem region_post (c : Dev nD) :
    (region m).post c ⊢ iprop(StableHlo.held (c : Thread nD τ) (Pipeline.ucRefs τ sig) (V2 m (outs m) c) ∗ rest m 1 c) := by
  show _ ⊢ iprop(StableHlo.held (c : Thread nD τ) (Pipeline.ucRefs τ sig) (V2 m (outs m) c) ∗ Sites.Es EC (sent m) 0 c)
  rw [Sites.Es_0, StableHlo.held_sub_split (c : Thread nD τ) (Pipeline.arrRefs_sub_ucRefs spec0 launch0.win.arr_unscoped) (V2 m (outs m) c),
    StableHlo.held_congr (c : Thread nD τ) (S := Pipeline.ucRefs τ sig \ Pipeline.arrRefs spec0) (V := V2 m (outs m) c) (V' := V1 m c)
      fun b hb => V2_off m c b (Finset.mem_sdiff.mp hb).2]
  dsimp only [region, Pipeline.RegionSeg.ofHeld]
  iintro ⟨Ha, Hp, ⟨Hu, Hr⟩, HO⟩
  isplitl [Ha Hu]; · isplitl [Ha] <;> iassumption
  isplitl [HO]; · iexact HO
  isplitl [Hp] <;> iassumption

/-- The sum over the devices as one line of the program. -/
def adding : Pipeline.HostSeg (Ix := ℕ) (Name := ℕ) (U := UU) (Lvl := ℕ) (pcfgs (F := F)) defs₀ Variants.none L lv :=
  Sites.seg0 EC Variants.none (sent m) (Sites.Rest0 (sent m) fun _ => invs m)

theorem adding_pre (c : Dev nD) :
    iprop(StableHlo.held (c : Thread nD τ) (Pipeline.ucRefs τ sig) (V3 m (outs m) c) ∗ rest m 1 c) ⊢ (adding m).pre c := by
  show iprop(StableHlo.held (c : Thread nD τ) (Pipeline.ucRefs τ sig) (sent m c) ∗ Sites.Es EC (sent m) 0 c) ⊢ _
  refine .trans ?_ (Sites.pre0 EC Variants.none (sent m) (fun _ => invs m) c)
  have hi : Sites.rides0 EC (sent m) c ⊢ (iprop(invs m ∗ Sites.rides0 EC (sent m) c) : sProp 𝕄) := by
    unfold Sites.rides0 AllReduce.Dat.rides
    iintro ⟨#Hi, Hr⟩
    isplitr; · iexact Hi
    isplitr; · iexact Hi
    iexact Hr
  rw [Sites.Es_0]
  iintro ⟨Hh, HO, Hp, Hr⟩
  ihave H := hi $$ Hr
  icases H with ⟨Hi, Hr⟩
  isplitl [Hh]; · iexact Hh
  isplitr [Hi]
  · isplitl [HO]; · iexact HO
    isplitl [Hp] <;> iassumption
  iexact Hi

theorem V4_eq (c : Dev nD) (b : DevRef τ sig) : V4 m (outs m) c b = (ar0 (F := F)).after₀ (sent m) c b := by
  by_cases hb : b ∈ W4.map (Proc.devRef (τ := τ) .tc)
  · exact if_pos hb
  · refine (if_neg hb).trans (((ar0 (F := F)).after₀_of_notMem (sent m) c fun h => hb ?_).symm)
    rcases Finset.mem_insert.mp h with h | h
    · rw [h]; exact List.mem_map.mpr ⟨main_v13, by decide, rfl⟩
    · obtain ⟨j, hj⟩ := (ar0 (F := F)).mem_stageRefs.mp h
      rw [hj]
      fin_cases j
      exacts [List.mem_map.mpr ⟨main_v13_s0, by decide, rfl⟩, List.mem_map.mpr ⟨main_v13_s1, by decide, rfl⟩,
        List.mem_map.mpr ⟨main_v13_s2, by decide, rfl⟩, List.mem_map.mpr ⟨main_v13_s3, by decide, rfl⟩,
        List.mem_map.mpr ⟨main_v13_s4, by decide, rfl⟩, List.mem_map.mpr ⟨main_v13_s5, by decide, rfl⟩,
        List.mem_map.mpr ⟨main_v13_s6, by decide, rfl⟩, List.mem_map.mpr ⟨main_v13_s7, by decide, rfl⟩]

theorem adding_post (c : Dev nD) :
    (adding m).post c ⊢ iprop(StableHlo.held (c : Thread nD τ) (Pipeline.ucRefs τ sig) (V4 m (outs m) c) ∗ rest m 2 c) :=
  Sites.post0' EC Variants.none (sent m) (fun _ => invs m) c (V4 m (outs m) c) fun b _ => V4_eq m c b

/-- The ghost state at the start: the staging library's beside the collective's. -/
def u₀ : UU := (initOf (Pipeline.cells cfgs cellOf_inj) (Pipeline.launchToks cfgs cellOf_inj), Sites.uC (U := UU) (sent m))

/-- At the end the sum's three counters are at zero. -/
theorem counters (c : Dev nD) (s' : Phys nD τ sig (Elt F)) :
    iprop((Sites.Ghost0 EC c ∗ invs m) ∗ SI s')
      ⊢ (|={Set.univ}=> iprop(⌜∀ sm : SemLoc sig, sm.isScoped .tc = false → s'.mem.sem ((c.tc : Thread nD τ), sm) = 0⌝ ∗ SI s') : sProp 𝕄) := by
  iintro ⟨⟨Hg, Hi⟩, HSI⟩
  imod ((AllReduce.Dat.once (ar0 (F := F)) (sent m)).ghostAfter_read (Sites.E0 EC) c (k := 0) le_rfl s') $$ [Hg Hi HSI] with ⟨%ha, HSI⟩
  · isplitr [HSI]
    · isplitl [Hi] <;> iassumption
    iexact HSI
  imodintro
  isplitr
  · ipureintro
    intro sm hsm
    have hl : ∀ sm : SemLoc sig, sm.isScoped .tc = false → sm = .reg ar0_barrier ∨ sm = .dma ar0_recv ∨ sm = .dma ar0_send := by decide
    rcases hl sm hsm with rfl | rfl | rfl
    exacts [ha.1, ha.2.1, ha.2.2]
  iexact HSI

/-- The run: from any memory the program ends on every device with its arguments as they were, with the loss at what the
    devices' sums add up to, and with every counter at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ (∀ c : Dev nD, r.2.mem ((c.tc : Thread nD τ).loc main_v13) = (ar0 (F := F)).after₀ (sent m) c main_v13)
    ∧ r.2.sem = fun _ => 0) := by
  refine (θ_run defs _ _).mono (fun r h => ⟨h.1, fun c => ?_, h.2.2⟩)
    (frame_condRQ m EP 0 Variants.none L lv Sites.hL ρ (outs m) (fun _ c => dat m c) (fun c => Sites.O0 (F := F) c)
      (Sites.G EC (sent m)) (u₀ m) ?_ (rest m) (Sites.hE0 EC (sent m) ρ) (fun c => iprop(Sites.Ghost0 EC c ∗ invs m)) ?_
      (counters m) (region m) (region_pre m) (region_post m) (adding m) rfl (adding_pre m) (adding_post m))
  · exact (h.2.1 c (Proc.devRef .tc main_v13) (by decide)).trans (V4_eq m c _)
  · unfold u₀
    iintro Hu
    ihave H := (ownU_pair _ _) $$ Hu
    icases H with ⟨HP, HX⟩
    imodintro
    isplitl [HP]; · iexact HP
    rw [Sites.bigSep_G]; iexact HX
  · intro c
    show iprop(Sites.Es EC (sent m) 1 c ∗ (Sites.Ghost0 EC c ∗ invs m)) ⊢ _
    iintro ⟨HE, HG⟩
    isplitl [HG]; · iexact HG
    iapply (Sites.hE_last EC (sent m) c); iexact HE

end Cert.Loss
-- ==== Proof.LossValue.lean ====
/- The loss over the extended reals: what the reference computes of the whole batch, what each device's kernel leaves of its rows, and
   their sum over the devices. Nothing here asks the arguments to be finite. -/
module

public import proofs.«01_k».proof.Proof.LossMesh
public import proofs.«01_k».proof.Proof.Gen.Reference17Ideal.Run
public import proofs.«01_k».proof.Proof.Gen.Reference17Ideal.Read
public import proofs.«01_k».proof.Proof.LnF
public import Idealize.ShloMosaic.Lib.Pipeline.ValueKit

@[expose] public section
set_option maxRecDepth 16384
noncomputable section
open Idealize.ShloMosaic Idealize.ShloMosaic.TcCoe Idealize.ShloMosaic.Tactic Idealize.SL.Sem
open Cert.Reals (eps ofBits_eps alpha ofBits_alpha ofBits_2048)
open Cert.LnF (mean dev norm)

namespace Cert.Loss

theorem ofBits_half : Ideal.ofBits .f32 0x3F000000#32 = ((1 / 2 : ℝ) : EReal) := by
  simp [Ideal.ofBits, Ideal.ieee, -EReal.coe_mul]; norm_num

/-! ## Sums of squares, whatever they are of -/

theorem sq_nonneg (x : EReal) : 0 ≤ x * x := by
  rcases le_total 0 x with h | h
  · exact mul_nonneg h h
  · rw [← neg_mul_neg]
    exact mul_nonneg (EReal.neg_nonneg.mpr h) (EReal.neg_nonneg.mpr h)

/-- A factor goes into a sum of terms that are not negative. -/
theorem mul_sum_nonneg {ι : Type} (s : Finset ι) (a : EReal) (f : ι → EReal) (h : ∀ i, 0 ≤ f i) : a * ∑ i ∈ s, f i = ∑ i ∈ s, a * f i := by
  classical
  induction s using Finset.induction_on with
  | empty => simp
  | insert i s hi ih => rw [Finset.sum_insert hi, Finset.sum_insert hi, EReal.left_distrib_of_nonneg (h i) (Finset.sum_nonneg fun j _ => h j), ih]

/-- The row length as a factor. -/
theorem div_2048 (x : EReal) : Ideal.div x ((2048 : ℝ) : EReal) = ((1 / 2048 : ℝ) : EReal) * x := by
  rw [Ideal.div_coe (by norm_num), mul_comm, one_div]

/-- Halves of the columns' sums over the row length, added over the devices, are half the rows' means over the whole batch. -/
theorem regroup (e : Fin 8 → Fin 8192 → Fin 2048 → EReal) :
    (∑ d, Ideal.div (((1 / 2 : ℝ) : EReal) * ∑ k, ∑ r, e d r k * e d r k) ((2048 : ℝ) : EReal))
      = ((1 / 2 : ℝ) : EReal) * ∑ d, ∑ r, Ideal.div (∑ k, e d r k * e d r k) ((2048 : ℝ) : EReal) := by
  have hr (d r) : 0 ≤ ∑ k, e d r k * e d r k := Finset.sum_nonneg fun _ _ => sq_nonneg _
  have hq : (0 : EReal) ≤ ((1 / 2048 : ℝ) : EReal) := by exact_mod_cast (by norm_num : (0 : ℝ) ≤ 1 / 2048)
  simp only [div_2048]
  rw [mul_sum_nonneg _ _ _ fun d => Finset.sum_nonneg fun r _ => mul_nonneg hq (hr d r)]
  refine Finset.sum_congr rfl fun d _ => ?_
  rw [← mul_sum_nonneg _ _ _ (hr d), Finset.sum_comm, ← mul_assoc, ← mul_assoc, mul_comm ((1 / 2048 : ℝ) : EReal)]

end Cert.Loss

namespace Cert.Reference17Ideal.Loss
open Cert.Reference17Ideal Cert.Reference17Ideal.Gen Cert.Reference17Ideal.Read Cert.Loss

variable (h p t : FVec Ideal S8x8192x2048 .f32) (g b : FVec Ideal S1x2048 .f32)

/-- The row that is normalized: the residual and half of the sublayer. -/
def row (d : Fin 8) (r : Fin 8192) (k : Fin 2048) : EReal := (alpha : EReal) * h (ix3 d r k) + ((1 / 2 : ℝ) : EReal) * p (ix3 d r k)

/-- How far the normalized row is from its target. -/
def err (d : Fin 8) (r : Fin 8192) (k : Fin 2048) : EReal := norm (row h p d r) (g (ix2 0 k)) (b (ix2 0 k)) k - t (ix3 d r k)

theorem v4 (d r k) : val_main_v4 (F := Ideal) h p (ix3 d r k) = row h p d r k := by
  pointwise [val_main_v4, val_main_v3, val_main_v2, val_main_v1, val_main_v0, val_main_cst, val_main_cst_0]
  simp only [row, ofBits_alpha, ofBits_half]

theorem v12 (d r k) : val_main_v12 (F := Ideal) h p (ix3 d r k) = dev (row h p d r) k := by
  pointwise [val_main_v12, val_main_v11, val_main_v10, val_main_v9, val_main_v8, val_main_v7, val_main_cst_1, val_main_cst_2]
  simp only [v4, ofBits_2048]
  rfl

theorem v29 (d r k) : val_main_v29 (F := Ideal) h p g b t (ix3 d r k) = err h p t g b d r k := by
  pointwise [val_main_v29, val_main_v28, val_main_v27, val_main_v26, val_main_v25, val_main_v24, val_main_v23, val_main_v22, val_main_v21,
    val_main_v20, val_main_v19, val_main_v18, val_main_v17, val_main_v16, val_main_v15, val_main_v14, val_main_v13, val_main_v6, val_main_v5, val_main_cst_3, val_main_cst_4,
    val_main_cst_5]
  simp only [v12, ofBits_2048, ofBits_eps]
  rfl

theorem v33 (d r) : val_main_v33 (F := Ideal) h p g b t (ix2 d r)
    = Ideal.div (∑ k, err h p t g b d r k * err h p t g b d r k) ((2048 : ℝ) : EReal) := by
  pointwise [val_main_v33, val_main_v32, val_main_v31, val_main_v30, val_main_cst_6, val_main_cst_7]
  simp only [v29, ofBits_2048]

theorem loss (i) : val_main_v35 (F := Ideal) h p g b t i
    = ((1 / 2 : ℝ) : EReal) * ∑ d, ∑ r, Ideal.div (∑ k, err h p t g b d r k * err h p t g b d r k) ((2048 : ℝ) : EReal) := by
  pointwise [val_main_v35, val_main_v34, val_main_cst_8, val_main_cst_9]
  simp only [v33, ofBits_half]

end Cert.Reference17Ideal.Loss

namespace Cert.Kernel17Ideal.Loss
open Cert.Kernel17Ideal Cert.Kernel17Ideal.Gen Cert.Loss

/-! ## One block of rows -/

section blocks
variable (x y : FVec Ideal S256x2048 .f32) (g b : FVec Ideal S1x2048 .f32)

/-- How far row `q` of a block, normalized, is from its target. -/
def berr (q : Fin 256) (k : Fin 2048) : EReal := norm (fun j => x (ix2 q j)) (g (ix2 0 k)) (b (ix2 0 k)) k - y (ix2 q k)

theorem pay9 (q k) : k0_pay9 (F := Ideal) x g b y (ix2 q k) = berr x y g b q k := by
  pointwise [k0_pay9, k0_pay8, k0_pay7, k0_pay6, k0_pay5]
  simp only [ofBits_2048, ofBits_eps]
  rfl

/-- A point adds the squared errors of its rows. -/
theorem pay1 (a : FVec Ideal S1x2048 .f32) (k) : k0_pay1 (F := Ideal) (k0_pay18 a) (k0_pay19 (k0_pay9 x g b y)) (ix2 0 k)
    = a (ix2 0 k) + ∑ q, berr x y g b q k * berr x y g b q k := by
  pointwise [k0_pay1, k0_pay18, k0_pay19]
  simp only [pay9]

theorem zeros (j) : k0_pay4 (F := Ideal) j = 0 := by
  pointwise [k0_pay4]

end blocks

/-! ## The blocks of the arrays -/

theorem idx : ∀ t : Fin cfg0.N, win0_0.index t = ![t.val, 0] ∧ win0_1.index t = ![t.val, 0] ∧ win0_2.index t = ![0, 0] ∧ win0_3.index t = ![0, 0]
    ∧ win0_8.index t = ![0, 0] :=
  (by decide +kernel : ∀ t : Fin grid0.N, _)

theorem row_eta (y : S1x2048.Idx) : y = ix2 0 (y 1) := by blk_ext

theorem N32 (t : Fin cfg0.N) : t.val < 32 := lt_of_lt_of_eq t.isLt N_0

/-- The array's row that is row `q` of point `t`'s block. -/
def at_ (t : Fin cfg0.N) (q : Fin 256) : Fin 8192 := ⟨256 * t.val + q.val, by have := N32 t; omega⟩

variable (m : (ℓ : Loc nD τ sig) → Buf (Elt Ideal) ℓ) (c : Dev nD)

/-- The five arguments. -/
abbrev H0 : FVec Ideal S1x8192x2048 .f32 := m ((c : Thread nD τ).loc main_arg0)
abbrev P0 : FVec Ideal S1x8192x2048 .f32 := m ((c : Thread nD τ).loc main_arg1)
abbrev G0 : FVec Ideal S1x2048 .f32 := m ((c : Thread nD τ).loc main_arg2)
abbrev B0 : FVec Ideal S1x2048 .f32 := m ((c : Thread nD τ).loc main_arg3)
abbrev T0 : FVec Ideal S1x8192x2048 .f32 := m ((c : Thread nD τ).loc main_arg4)

/-- A device's row and its error. -/
def row (r : Fin 8192) (k : Fin 2048) : EReal := (alpha : EReal) * H0 m c (ix3 0 r k) + ((1 / 2 : ℝ) : EReal) * P0 m c (ix3 0 r k)
def err (r : Fin 8192) (k : Fin 2048) : EReal := norm (row m c r) (G0 m c (ix2 0 k)) (B0 m c (ix2 0 k)) k - T0 m c (ix3 0 r k)

theorem in0 (r : Fin 8192) (k : Fin 2048) : (V1 m c (Proc.devRef .tc main_v7) : FVec Ideal S8192x2048 .f32) (ix2 r k) = row m c r k := by
  show StableHlo.after hostOps0 (V0 m c) (Proc.devRef .tc main_v7) (ix2 r k) = _
  entry_read
  pointwise
  simp only [row, ofBits_alpha, ofBits_half]

theorem in1 (r : Fin 8192) (k : Fin 2048) : (V1 m c (Proc.devRef .tc main_v8) : FVec Ideal S8192x2048 .f32) (ix2 r k) = T0 m c (ix3 0 r k) := by
  show StableHlo.after hostOps0 (V0 m c) (Proc.devRef .tc main_v8) (ix2 r k) = _
  entry_read
  pointwise

theorem blk0 (t : Fin cfg0.N) (q : Fin 256) (k : Fin 2048) : (blk m c 0 t : FVec Ideal S256x2048 .f32) (ix2 q k) = row m c (at_ t q) k := by
  blk_simp [blk]
  rw [← in0]
  blk_point [idx t, at_]

theorem blk1 (t : Fin cfg0.N) (q : Fin 256) (k : Fin 2048) : (blk m c 1 t : FVec Ideal S256x2048 .f32) (ix2 q k) = T0 m c (ix3 0 (at_ t q) k) := by
  blk_simp [blk]
  rw [← in1]
  blk_point [idx t, at_]

theorem blk2 (t : Fin cfg0.N) : blk m c 2 t = G0 m c := by
  funext y
  blk_simp [blk]
  rw [show V1 m c (Proc.devRef .tc (Pipeline.arrRef spec0 2)) = G0 m c from V1_of m c main_arg2 (by decide)]
  blk_point [idx t]

theorem blk3 (t : Fin cfg0.N) : blk m c 3 t = B0 m c := by
  funext y
  blk_simp [blk]
  rw [show V1 m c (Proc.devRef .tc (Pipeline.arrRef spec0 3)) = B0 m c from V1_of m c main_arg3 (by decide)]
  blk_point [idx t]

theorem place8 (t : Fin cfg0.N) (i : S1x2048.Idx) : (((cfg0.win 8).blk t).view.emb i : S1x2048.Idx) = ix2 0 (i 1) := by blk_ext [idx t]

/-- The rows that the points read, point by point, are the rows of the array. -/
theorem sum_points (t : Fin cfg0.N) (ht : ∀ s : Fin 32, 32 * (t.val / 32) + s.val < cfg0.N) (f : Fin 8192 → EReal) :
    (∑ s : Fin 32, ∑ q : Fin 256, f (at_ ⟨32 * (t.val / 32) + s.val, ht s⟩ q)) = ∑ r, f r := by
  refine Fin.sum_mul_add_congr fun s q hl => congrArg f (Fin.ext ?_)
  have := N32 t
  simp only [at_]
  omega

theorem berr_eq (t : Fin cfg0.N) (q : Fin 256) (k : Fin 2048) : berr (blk m c 0 t) (blk m c 1 t) (blk m c 2 t) (blk m c 3 t) q k = err m c (at_ t q) k := by
  unfold berr err
  rw [blk1, blk2, blk3]
  exact congrArg (fun x => norm x (G0 m c (ix2 0 k)) (B0 m c (ix2 0 k)) k - T0 m c (ix3 0 (at_ t q) k)) (funext fun j => blk0 m c t q j)

/-- What point `t` adds to a column. -/
theorem added (t : Fin cfg0.N) (a : Sums Ideal) (j : S1x2048.Idx) :
    (addTo (blk m c 0 t) (blk m c 1 t) (blk m c 2 t) (blk m c 3 t) a).2.2 j
      = a.2.2 j + ∑ q : Fin 256, err m c (at_ t q) (j 1) * err m c (at_ t q) (j 1) := by
  unfold addTo
  rw [row_eta j]
  exact (pay1 _ _ _ _ _ _).trans (congrArg (a.2.2 (ix2 0 (j 1)) + ·) (Finset.sum_congr rfl fun q _ =>
    congrArg (fun e : EReal => e * e) (berr_eq m c t q (j 1))))

/-- The squared errors of each column, over the device's rows. -/
theorem columns (k : Fin 2048) : ((dat m c).arrAt 8 cfg0.N : FVec Ideal S1x2048 .f32) (ix2 0 k) = ∑ r, err m c r k * err m c r k := by
  suffices ∀ G : S1x2048.Idx → EReal, (∀ i : S1x2048.Idx, G i = ∑ r, err m c r (i 1) * err m c r (i 1)) → (dat m c).arrAt 8 cfg0.N = G from
    congrFun (this (fun i => ∑ r, err m c r (i 1) * err m c r (i 1)) fun _ => rfl) (ix2 0 k)
  intro G hG
  refine (dat m c).arrAt_eq_of_covers 8 _ (by decide +kernel) fun t hf i => ?_
  blk_simp
  rw [show (dat m c).after 8 t = (sumsAt m c t.val t.isLt).2.2 from rfl,
    Pipeline.eq_sum_fin_of_reset_step_apply_of_flush (fun n h => (sumsAt m c n h).2.2) 32 (fun _ => 0)
    (fun s (j : S1x2048.Idx) => ∑ q : Fin 256, err m c (at_ s q) (j 1) * err m c (at_ s q) (j 1))
    (fun t h j => by
      obtain ⟨n, hn⟩ := t
      have h32 : n < 32 := N32 ⟨n, hn⟩
      obtain rfl : n = 0 := by dsimp only at h; omega
      exact (added m c _ _ _).trans (congrArg (· + _) (zeros j)))
    (fun t h j => by
      obtain ⟨n, hn⟩ := t
      cases n with
      | zero => exact absurd (Nat.zero_mod 32) h
      | succ n => exact added m c _ _ _)
    t ((flush0_8 t).mp hf) _, zero_add, place8]
  refine Eq.trans ?_ (hG _).symm
  exact sum_points t _ fun r => err m c r ((i : S1x2048.Idx) 1) * err m c r ((i : S1x2048.Idx) 1)

/-! ## What a device adds to the others -/

/-- A device's share of the loss: half the columns' sum, over the row length. -/
def share : EReal := Ideal.div (((1 / 2 : ℝ) : EReal) * ∑ k, ∑ r, err m c r k * err m c r k) ((2048 : ℝ) : EReal)

theorem sent_share (i : S_.Idx) : (sent m c (Proc.devRef .tc main_v12) : FVec Ideal S_ .f32) i = share m c := by
  have e := left_arr m c 8
  unfold sent
  show StableHlo.after hostOps1 (V2 m (fun _ b c => left m c b) c) (Proc.devRef .tc main_v12) i = _
  entry_read
  refine (congrFun (congrArg (fun v => Host.divf (mulf (constant S_ .f32 0x3F000000#32) (Host.reduceAdd v (constant S_ .f32 0x00000000#32) reducesTo_S1x2048_S_d0_1 h_S_))
    (constant S_ .f32 0x45000000#32)) e) i).trans ?_
  pointwise
  simp only [ofBits_half, ofBits_2048, Finset.univ_unique, Finset.sum_singleton]
  exact congrArg (fun s => Ideal.div (((1 / 2 : ℝ) : EReal) * s) ((2048 : ℝ) : EReal)) (Finset.sum_congr rfl fun k _ => columns m c k)

theorem peers : ∀ c j : Fin 8, (ar0 (F := Ideal)).peer c j = j := by
  intro c j
  fin_cases c <;> fin_cases j <;> rfl

theorem eight (a e : Fin 8 → EReal) (h : ∀ j, a j = e j) : a 0 + a 1 + a 2 + a 3 + a 4 + a 5 + a 6 + a 7 = ∑ j, e j := by
  rw [Fin.sum_univ_eight]; simp only [h]

/-- The devices' sum of eight arrays of one entry. -/
theorem fold8 (v : Fin 8 → FVec Ideal S_ .f32) (i : S_.Idx) : (ar0 (F := Ideal)).foldGroup v i
    = v 0 i + v 1 i + v 2 i + v 3 i + v 4 i + v 5 i + v 6 i + v 7 i := rfl

/-- What the devices add, in the order in which device `c` meets them. -/
def met (j : Fin 8) : FVec Ideal S_ .f32 := sent m ((ar0 (F := Ideal)).peer c j) (Proc.devRef .tc main_v12)

theorem met_share (j : Fin 8) (i : S_.Idx) : met m c j i = share m j :=
  (congrArg (fun d => (sent m d (Proc.devRef .tc main_v12) : FVec Ideal S_ .f32) i) (peers c j)).trans (sent_share m j i)

theorem toResult_eq (v : FVec Ideal S_ .f32) : ((ar0 (F := Ideal)).toResult v : FVec Ideal S_ .f32) = v := rfl

theorem after_met : ((ar0 (F := Ideal)).after₀ (sent m) c (Proc.devRef .tc main_v13) : FVec Ideal S_ .f32)
    = ((ar0 (F := Ideal)).foldGroup (met m c) : FVec Ideal S_ .f32) :=
  ((ar0 (F := Ideal)).after₀_result (sent m) c).trans (toResult_eq _)

/-- Every device ends with all the shares together. -/
theorem total (i : S_.Idx) : ((ar0 (F := Ideal)).after₀ (sent m) c (Proc.devRef .tc main_v13) : FVec Ideal S_ .f32) i = ∑ d : Fin 8, share m d := by
  have e := (fold8 (met m c) i).trans (eight (fun j => met m c j i) _ fun j => met_share m c j i)
  exact (congrFun (after_met m c) i).trans e

end Cert.Kernel17Ideal.Loss

end
-- ==== Proof.LossClaim.lean ====
/- The claims about the loss with its sum over the devices: the runs of the three programs, and that the two of them agree at every
   argument. -/
module

public import proofs.«01_k».proof.Defs
public import proofs.«01_k».proof.Proof.LossValue
public import proofs.«01_k».proof.Proof.Gen.Kernel17

@[expose] public section
set_option maxRecDepth 16384
noncomputable section
open Idealize.ShloMosaic Idealize.ShloMosaic.TcCoe Idealize.SL.Sem

namespace Cert.Proof.LossClaims

open Cert.Kernel17Ideal in
/-- What the first claim says, of the program that was run. -/
def quiet : Prop :=
  ∀ (m : (ℓ : Loc nD τ sig) → Buf (Elt Bits) ℓ) (ρ : Dev nD → PrngReg), True →
    θ_run (defs (F := Bits)) (onTc (τ := τ) (main (F := Bits))) ⟨m, fun _ => 0, ρ⟩
      (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0)

/-- The two printed programs have one text. -/
theorem one_text : Cert.quiescent_Kernel17 = quiet := by sl_kernel_rfl

theorem frame_p : Cert.quiescent_Kernel17 := one_text.mpr fun m ρ _ =>
  (θ_run Cert.Kernel17Ideal.defs _ _).mono (fun _ h => ⟨h.1, h.2.2⟩) (Cert.Loss.run_main (F := Bits) m ρ)

theorem frame_pi : Cert.quiescent_Kernel17Ideal := fun m ρ _ =>
  (θ_run Cert.Kernel17Ideal.defs _ _).mono (fun _ h => ⟨h.1, h.2.2⟩) (Cert.Loss.run_main (F := Ideal) m ρ)

theorem frame_ri : Cert.quiescent_Reference17Ideal := fun m ρ _ =>
  (θ_run Cert.Reference17Ideal.defs _ _).mono
    (fun r h => ⟨fun c => (h c).2, sem_eq_zero_of_no_sems (by decide) r.2⟩)
    (Cert.Reference17Ideal.Value.run (F := Ideal) m ρ)

section agree
open Cert.Reference17Ideal (S8x8192x2048)
open Cert.Kernel17Ideal (S1x8192x2048 S1x2048)

/-- An entry of a device's part of a batch is that slab's entry of the batch. -/
theorem part (d : Fin 8) (v : FVec Ideal S8x8192x2048 .f32) (r : Fin 8192) (k : Fin 2048) :
    (Layout.block ⟨3, ![1, 8192, 2048]⟩ ⟨3, ![8, 8192, 2048]⟩ 0 8 d v : FVec Ideal S1x8192x2048 .f32) (ix3 0 r k) = v (ix3 d r k) := by
  rw [Layout.block_apply]
  refine congrArg v (funext fun a => Fin.ext ?_)
  match a with
  | ⟨0, _⟩ => exact (Nat.add_zero _).trans (Nat.mul_one _)
  | ⟨1, _⟩ => rfl
  | ⟨2, _⟩ => rfl

variable (m : (ℓ : Loc Cert.Kernel17Ideal.nD Cert.Kernel17Ideal.τ Cert.Kernel17Ideal.sig) → Buf (Elt Ideal) ℓ)
  (h p t : FVec Ideal S8x8192x2048 .f32) (g b : FVec Ideal S1x2048 .f32)

/-- The devices hold the batch slab by slab, and each the gain and the shift. -/
structure Holds : Prop where
  h0 : ∀ d r k, Cert.Kernel17Ideal.Loss.H0 m d (ix3 0 r k) = h (ix3 d r k)
  h1 : ∀ d r k, Cert.Kernel17Ideal.Loss.P0 m d (ix3 0 r k) = p (ix3 d r k)
  h2 : ∀ d, Cert.Kernel17Ideal.Loss.G0 m d = g
  h3 : ∀ d, Cert.Kernel17Ideal.Loss.B0 m d = b
  h4 : ∀ d r k, Cert.Kernel17Ideal.Loss.T0 m d (ix3 0 r k) = t (ix3 d r k)

variable {m h p t g b}

theorem err_eq (H : Holds m h p t g b) (d r k) : Cert.Kernel17Ideal.Loss.err m d r k = Cert.Reference17Ideal.Loss.err h p t g b d r k := by
  have e : Cert.Kernel17Ideal.Loss.row m d r = Cert.Reference17Ideal.Loss.row h p d r := by
    funext j
    unfold Cert.Kernel17Ideal.Loss.row Cert.Reference17Ideal.Loss.row
    rw [H.h0, H.h1]
  unfold Cert.Kernel17Ideal.Loss.err Cert.Reference17Ideal.Loss.err
  rw [e, H.h2, H.h3, H.h4]

/-- The devices' shares together are the loss of the whole batch. -/
theorem shares_eq (H : Holds m h p t g b) (i) : (∑ d : Fin 8, Cert.Kernel17Ideal.Loss.share m d)
    = Cert.Reference17Ideal.Read.val_main_v35 (F := Ideal) h p g b t i := by
  rw [Cert.Reference17Ideal.Loss.loss, ← Cert.Loss.regroup]
  refine Finset.sum_congr rfl fun d _ => ?_
  unfold Cert.Kernel17Ideal.Loss.share
  simp only [err_eq H]

end agree

/-- At `Ideal` every device ends with the loss of the whole batch, at every argument. -/
theorem algebraic : Cert.algebraic_Kernel17Ideal_Reference17Ideal := by
  intro m g m' g' _ ha
  have H : Holds m (m' (((0 : Dev Cert.Reference17Ideal.nD).tc : Thread Cert.Reference17Ideal.nD Cert.Reference17Ideal.τ).loc Cert.Reference17Ideal.main_arg0))
      (m' (((0 : Dev Cert.Reference17Ideal.nD).tc : Thread Cert.Reference17Ideal.nD Cert.Reference17Ideal.τ).loc Cert.Reference17Ideal.main_arg1))
      (m' (((0 : Dev Cert.Reference17Ideal.nD).tc : Thread Cert.Reference17Ideal.nD Cert.Reference17Ideal.τ).loc Cert.Reference17Ideal.main_arg4))
      (m' (((0 : Dev Cert.Reference17Ideal.nD).tc : Thread Cert.Reference17Ideal.nD Cert.Reference17Ideal.τ).loc Cert.Reference17Ideal.main_arg2))
      (m' (((0 : Dev Cert.Reference17Ideal.nD).tc : Thread Cert.Reference17Ideal.nD Cert.Reference17Ideal.τ).loc Cert.Reference17Ideal.main_arg3)) :=
    { h0 := fun d r k => (congrFun (ha d).1 (ix3 0 r k)).trans (part d _ r k)
      h1 := fun d r k => (congrFun (ha d).2.1 (ix3 0 r k)).trans (part d _ r k)
      h2 := fun d => (ha d).2.2.1
      h3 := fun d => (ha d).2.2.2.1
      h4 := fun d r k => (congrFun (ha d).2.2.2.2 (ix3 0 r k)).trans (part d _ r k) }
  refine ⟨_, (θ_run Cert.Kernel17Ideal.defs _ _).mono (fun r h c => ⟨(h.2.1 c).trans ?_, h.1 c⟩) (Cert.Loss.run_main (F := Ideal) m g),
    (θ_run Cert.Reference17Ideal.defs _ _).mono (fun r h => ⟨(h 0).1.trans (Cert.Reference17Ideal.Read.val_main_v35_eq m' 0), (h 0).2⟩)
      (Cert.Reference17Ideal.Value.run (F := Ideal) m' g')⟩
  funext i
  exact (Cert.Kernel17Ideal.Loss.total m c i).trans (shares_eq H i)

end Cert.Proof.LossClaims

end
-- ==== Proof.Gate1.lean ====
/- The first factor of the gated product in the first feed-forward layer, a product rounded: what the reference computes entry by entry, what the
   kernel leaves of one block, and the array the kernel leaves. Nothing here asks the arguments to be finite. -/
module

public import proofs.«01_k».proof.Proof.Gen.Kernel18Ideal.Value
public import proofs.«01_k».proof.Proof.Gen.Reference18Ideal.Read
public import proofs.«01_k».proof.Proof.Up
public import proofs.«01_k».proof.Proof.Slabs
public import Idealize.ShloMosaic.Lib.Pipeline.ValueKit
public import Idealize.ShloMosaic.Lib.Pipeline.ReadBack

@[expose] public section
set_option maxRecDepth 16384
noncomputable section
open Idealize.ShloMosaic Idealize.ShloMosaic.TcCoe Idealize.SL.Sem

namespace Cert.Reference18Ideal.Gate1
open Cert.Reference18Ideal Cert.Reference18Ideal.Gen Cert.Reference18Ideal.Read
open Cert.Reference7Ideal.Up (prod)

variable (x : FVec Ideal S8192x2048 .f32) (w : FVec Ideal S2048x5632 .f32)

theorem v0 (r f) : val_main_v0 (F := Ideal) x w (ix2 r f) = prod x w r f := by
  pointwise [val_main_v0]
  rfl
theorem v1 (r f) : val_main_v1 (F := Ideal) x w (ix2 r f) = prod x w r f := by
  pointwise [val_main_v1]
  exact v0 x w r f

end Cert.Reference18Ideal.Gate1

namespace Cert.Kernel18Ideal.Gate1
open Cert.Kernel18Ideal Cert.Kernel18Ideal.Gen
open Cert.Slabs (taken eta)
open Cert.Reference7Ideal.Up (prod)

section block
variable (h : FVec Ideal S1024x2048 .bf16) (w : FVec Ideal S1x2048x1408 .bf16)

theorem whole0 : View.ld (Val := Elt Ideal) (e' := .bf16) h r0_0 = h := View.ld_unit_zero (by decide) _ _
theorem whole1 : View.ld (Val := Elt Ideal) (e' := .bf16) w r0_1 = w := View.ld_unit_zero (by decide) _ _

/-- The product's block. -/
theorem pay1 (q k) : k0_pay1 (F := Ideal) h w (ix2 q k) = ∑ j : Fin 2048, h (ix2 q j) * w (ix3 0 j k) := by
  pointwise [k0_pay1]

open Cert.Kernel4Ideal.Gate (canon_pieces)

theorem out2 : out0_2 (F := Ideal) h w = k0_pay1 (F := Ideal) h w := by
  funext y
  unfold out0_2
  rw [whole0, whole1]
  refine canon_pieces (k0_pay1 (F := Ideal) h w) _ ?_ y (cover0_2 _ _ _ _ _ _ _ _ y)
  exact ⟨taken 896 (by decide) inb_S1024x1408_S128x1408_896_0 slices_S1024x1408_o896_0_S128x1408 (k0_pay1 (F := Ideal) h w),
    taken 768 (by decide) inb_S1024x1408_S128x1408_768_0 slices_S1024x1408_o768_0_S128x1408 (k0_pay1 (F := Ideal) h w),
    taken 640 (by decide) inb_S1024x1408_S128x1408_640_0 slices_S1024x1408_o640_0_S128x1408 (k0_pay1 (F := Ideal) h w),
    taken 512 (by decide) inb_S1024x1408_S128x1408_512_0 slices_S1024x1408_o512_0_S128x1408 (k0_pay1 (F := Ideal) h w),
    taken 384 (by decide) inb_S1024x1408_S128x1408_384_0 slices_S1024x1408_o384_0_S128x1408 (k0_pay1 (F := Ideal) h w),
    taken 256 (by decide) inb_S1024x1408_S128x1408_256_0 slices_S1024x1408_o256_0_S128x1408 (k0_pay1 (F := Ideal) h w),
    taken 128 (by decide) inb_S1024x1408_S128x1408_128_0 slices_S1024x1408_o128_0_S128x1408 (k0_pay1 (F := Ideal) h w),
    taken 0 (by decide) inb_S1024x1408_S128x1408_0_0 slices_S1024x1408_o0_0_S128x1408 (k0_pay1 (F := Ideal) h w),
    trivial⟩

end block

/-- Where each window's block lies at each point. -/
theorem idx : ∀ t : Fin cfg0.N, win0_0.index t = ![t.val % 8, 0] ∧ win0_1.index t = ![t.val / 8, 0, 0] ∧ win0_2.index t = ![t.val % 8, t.val / 8] :=
  (by decide +kernel : ∀ t : Fin grid0.N, _)

theorem N32 (t : Fin cfg0.N) : t.val < 32 := lt_of_lt_of_eq t.isLt N_0

/-- The array's row and column of row `q` and column `k` of point `t`'s block. -/
def row (t : Fin cfg0.N) (q : Fin 1024) : Fin 8192 := ⟨1024 * (t.val % 8) + q.val, by omega⟩
def col (t : Fin cfg0.N) (k : Fin 1408) : Fin 5632 := ⟨1408 * (t.val / 8) + k.val, by have := N32 t; omega⟩

variable (m : (ℓ : Loc nD τ sig) → Buf (Elt Ideal) ℓ) (c : Dev nD)

/-- The two arguments. -/
abbrev A0 : FVec Ideal S8192x2048 .f32 := m ((c : Thread nD τ).loc main_arg0)
abbrev A1 : FVec Ideal S2048x5632 .f32 := m ((c : Thread nD τ).loc main_arg1)

theorem blk0 (t : Fin cfg0.N) (q : Fin 1024) (j : Fin 2048) :
    (iblk m c 0 t : FVec Ideal S1024x2048 .bf16) (ix2 q j) = A0 m c (ix2 (row t q) j) := by
  blk_simp [iblk]
  entry_read
  pointwise
  blk_point [idx t, row]

theorem blk1 (t : Fin cfg0.N) (j : Fin 2048) (k : Fin 1408) :
    (iblk m c 1 t : FVec Ideal S1x2048x1408 .bf16) (ix3 0 j k) = A1 m c (ix2 j (col t k)) := by
  blk_simp [iblk]
  entry_read
  pointwise
  blk_point [idx t, col]

/-- Where a point's entry goes in the output array. -/
theorem place (t : Fin cfg0.N) (y : S1024x1408.Idx) : (((cfg0.win 2).blk t).view.emb y : S8192x5632.Idx) = ix2 (row t (y 0)) (col t (y 1)) := by
  blk_ext [idx t, row, col]

open Cert.Reference18Ideal.Read Cert.Reference18Ideal.Gate1

/-- The array after the last point is the reference's. -/
theorem final2 : (dats m 0 c).arrAt 2 (cfgs 0).N = val_main_v1 (F := Ideal) (A0 m c) (A1 m c) := by
  refine (dats m 0 c).arrAt_eq_of_covers 2 _ (by decide +kernel) fun t _ y => ?_
  blk_simp
  rw [after0_2, place t y, out2]
  obtain ⟨q, k, rfl⟩ := eta y
  refine (pay1 _ _ q k).trans ?_
  simp only [blk0, blk1]
  exact (v1 _ _ (row t q) (col t k)).symm

end Cert.Kernel18Ideal.Gate1

end
-- ==== Proof.Gate1Claim.lean ====
/- The claims about the first factor of the gated product in the first feed-forward layer: the runs of the three programs, and that the two of them agree at every
   argument. -/
module

public import proofs.«01_k».proof.Defs
public import proofs.«01_k».proof.Proof.Gate1
public import proofs.«01_k».proof.Proof.Gen.Kernel18.Frame
public import proofs.«01_k».proof.Proof.Gen.Reference18Ideal.Run

@[expose] public section
noncomputable section
open Idealize.ShloMosaic Idealize.ShloMosaic.TcCoe Idealize.SL.Sem

namespace Cert.Proof.Gate1Claims

theorem frame_p : Cert.quiescent_Kernel18 := fun m ρ _ => Cert.Kernel18.Gen.frame m ρ

theorem frame_pi : Cert.quiescent_Kernel18Ideal := fun m ρ _ => Cert.Kernel18Ideal.Gen.frame m ρ

theorem frame_ri : Cert.quiescent_Reference18Ideal := fun m ρ _ =>
  (θ_run Cert.Reference18Ideal.defs _ _).mono
    (fun r h => ⟨fun c => (h c).2, sem_eq_zero_of_no_sems (by decide) r.2⟩)
    (Cert.Reference18Ideal.Value.run (F := Ideal) m ρ)

open Cert.Kernel18Ideal.Gate1 in
/-- At `Ideal` both programs leave the same product. -/
theorem algebraic : Cert.algebraic_Kernel18Ideal_Reference18Ideal := by
  intro m g m' g' _ ha
  refine ⟨_, Cert.Kernel18Ideal.Value.run_blocks m g,
    (θ_run Cert.Reference18Ideal.defs _ _).mono (fun r h c => ?_) (Cert.Reference18Ideal.Value.run (F := Ideal) m' g')⟩
  obtain ⟨a0, a1⟩ := ha c
  have e0 : m' ((c.tc : Thread Cert.Reference18Ideal.nD Cert.Reference18Ideal.τ).loc Cert.Reference18Ideal.main_arg0) = A0 m c := a0
  have e1 : m' ((c.tc : Thread Cert.Reference18Ideal.nD Cert.Reference18Ideal.τ).loc Cert.Reference18Ideal.main_arg1) = A1 m c := a1
  obtain ⟨r0, k⟩ := h c
  rw [Cert.Reference18Ideal.Read.val_main_v1_eq, e0, e1] at r0
  exact ⟨r0.trans (final2 m c).symm, k⟩

end Cert.Proof.Gate1Claims

end
-- ==== Proof.Win.lean ====
/- The mixing sublayer's first product with its bias: what the reference computes entry by entry, what the kernel leaves of one block, and the
   array the kernel leaves. Nothing here asks the arguments to be finite. -/
module

public import proofs.«01_k».proof.Proof.Gen.Kernel19Ideal.Value
public import proofs.«01_k».proof.Proof.Gen.Reference19Ideal.Read
public import proofs.«01_k».proof.Proof.Da
public import proofs.«01_k».proof.Proof.Slabs
public import Idealize.ShloMosaic.Lib.Pipeline.ValueKit
public import Idealize.ShloMosaic.Lib.Pipeline.ReadBack

@[expose] public section
set_option maxRecDepth 16384
noncomputable section
open Idealize.ShloMosaic Idealize.ShloMosaic.TcCoe Idealize.SL.Sem

namespace Cert.Reference19Ideal.Win
open Cert.Reference19Ideal Cert.Reference19Ideal.Gen Cert.Reference19Ideal.Read

variable (h : FVec Ideal S8192x2048 .f32) (w : FVec Ideal S2048x5120 .f32) (b : FVec Ideal S1x5120 .f32)

/-- An entry of the product. -/
def prod (r : Fin 8192) (k : Fin 5120) : EReal := ∑ j : Fin 2048, h (ix2 r j) * w (ix2 j k)

theorem v0 (r k) : val_main_v0 (F := Ideal) h w (ix2 r k) = prod h w r k := by
  pointwise [val_main_v0]
  rfl

theorem v2 (r k) : val_main_v2 (F := Ideal) h w b (ix2 r k) = prod h w r k + b (ix2 0 k) := by
  pointwise [val_main_v2, val_main_v1]
  simp only [v0]

end Cert.Reference19Ideal.Win

namespace Cert.Kernel19Ideal.Win
open Cert.Kernel19Ideal Cert.Kernel19Ideal.Gen
open Cert.Slabs (taken eta)
open Cert.Reference19Ideal.Win (prod)

/-- A slab of the result, as the body computes it from the product's block and the bias. -/
def slabOf (o : ℕ) (hs : S1024x1280.Slices ![o, 0] S128x1280) (b : FVec Ideal S1x1280 .f32) (p : FVec Ideal S1024x1280 .f32) : FVec Ideal S128x1280 .f32 :=
  k0_pay1 (F := Ideal) b (extractStridedSlice S128x1280 ![o, 0] p hs)

theorem pay1 (b : FVec Ideal S1x1280 .f32) (p : FVec Ideal S128x1280 .f32) (q k) : k0_pay1 (F := Ideal) b p (ix2 q k) = p (ix2 q k) + b (ix2 0 k) := by
  pointwise [k0_pay1]

theorem store (o : ℕ) (ho : o + 128 ≤ 1024) (hb : ∀ a, (![o, 0] : Fin 2 → ℕ) a + S128x1280.size a ≤ S1024x1280.size a)
    (hs : S1024x1280.Slices ![o, 0] S128x1280) (b : FVec Ideal S1x1280 .f32) (p : FVec Ideal S1024x1280 .f32) (x : S128x1280.Idx) :
    slabOf o hs b p x = (fun y : S1024x1280.Idx => p y + b (ix2 0 (y 1 : Fin 1280))) ((Rect.unit (s := S1024x1280) ![o, 0] S128x1280.size hb).emb x) := by
  obtain ⟨q, k, rfl⟩ := eta x
  refine (pay1 _ _ q k).trans ?_
  rw [taken o ho hb hs p, Cert.Slabs.place o ho hb q k]
  rfl

section block
variable (h : FVec Ideal S1024x2048 .bf16) (w : FVec Ideal S1x2048x1280 .bf16) (b : FVec Ideal S1x1280 .f32)

theorem whole0 : View.ld (Val := Elt Ideal) (e' := .bf16) h r0_0 = h := View.ld_unit_zero (by decide) _ _
theorem whole1 : View.ld (Val := Elt Ideal) (e' := .bf16) w r0_1 = w := View.ld_unit_zero (by decide) _ _
theorem whole2 : View.ld (Val := Elt Ideal) (e' := .f32) b r0_2 = b := View.ld_unit_zero (by decide) _ _

/-- The product's block. -/
theorem pay3 (q k) : k0_pay3 (F := Ideal) h w (ix2 q k) = ∑ j : Fin 2048, h (ix2 q j) * w (ix3 0 j k) := by
  pointwise [k0_pay3]

open Cert.Kernel4Ideal.Gate (canon_pieces)

theorem out3 : out0_3 (F := Ideal) h w b = fun y : S1024x1280.Idx => k0_pay3 (F := Ideal) h w y + b (ix2 0 (y 1 : Fin 1280)) := by
  funext y
  unfold out0_3
  rw [whole0, whole1, whole2]
  refine canon_pieces (fun y : S1024x1280.Idx => k0_pay3 (F := Ideal) h w y + b (ix2 0 (y 1 : Fin 1280))) _ ?_ y (cover0_3 _ _ _ _ _ _ _ _ y)
  exact ⟨store 896 (by decide) inb_S1024x1280_S128x1280_896_0 slices_S1024x1280_o896_0_S128x1280 b (k0_pay3 (F := Ideal) h w),
    store 768 (by decide) inb_S1024x1280_S128x1280_768_0 slices_S1024x1280_o768_0_S128x1280 b (k0_pay3 (F := Ideal) h w),
    store 640 (by decide) inb_S1024x1280_S128x1280_640_0 slices_S1024x1280_o640_0_S128x1280 b (k0_pay3 (F := Ideal) h w),
    store 512 (by decide) inb_S1024x1280_S128x1280_512_0 slices_S1024x1280_o512_0_S128x1280 b (k0_pay3 (F := Ideal) h w),
    store 384 (by decide) inb_S1024x1280_S128x1280_384_0 slices_S1024x1280_o384_0_S128x1280 b (k0_pay3 (F := Ideal) h w),
    store 256 (by decide) inb_S1024x1280_S128x1280_256_0 slices_S1024x1280_o256_0_S128x1280 b (k0_pay3 (F := Ideal) h w),
    store 128 (by decide) inb_S1024x1280_S128x1280_128_0 slices_S1024x1280_o128_0_S128x1280 b (k0_pay3 (F := Ideal) h w),
    store 0 (by decide) inb_S1024x1280_S128x1280_0_0 slices_S1024x1280_o0_0_S128x1280 b (k0_pay3 (F := Ideal) h w),
    trivial⟩

end block

/-- Where each window's block lies at each point. -/
theorem idx : ∀ t : Fin cfg0.N, win0_0.index t = ![t.val % 8, 0] ∧ win0_1.index t = ![t.val / 8, 0, 0] ∧ win0_2.index t = ![0, t.val / 8]
    ∧ win0_3.index t = ![t.val % 8, t.val / 8] :=
  (by decide +kernel : ∀ t : Fin grid0.N, _)

theorem N32 (t : Fin cfg0.N) : t.val < 32 := lt_of_lt_of_eq t.isLt N_0

/-- The array's row and column of row `q` and column `k` of point `t`'s block. -/
def row (t : Fin cfg0.N) (q : Fin 1024) : Fin 8192 := ⟨1024 * (t.val % 8) + q.val, by omega⟩
def col (t : Fin cfg0.N) (k : Fin 1280) : Fin 5120 := ⟨1280 * (t.val / 8) + k.val, by have := N32 t; omega⟩

variable (m : (ℓ : Loc nD τ sig) → Buf (Elt Ideal) ℓ) (c : Dev nD)

/-- The three arguments. -/
abbrev A0 : FVec Ideal S8192x2048 .f32 := m ((c : Thread nD τ).loc main_arg0)
abbrev A1 : FVec Ideal S2048x5120 .f32 := m ((c : Thread nD τ).loc main_arg1)
abbrev A2 : FVec Ideal S1x5120 .f32 := m ((c : Thread nD τ).loc main_arg2)

theorem blk0 (t : Fin cfg0.N) (q : Fin 1024) (j : Fin 2048) :
    (iblk m c 0 t : FVec Ideal S1024x2048 .bf16) (ix2 q j) = A0 m c (ix2 (row t q) j) := by
  blk_simp [iblk]
  entry_read
  pointwise
  blk_point [idx t, row]

theorem blk1 (t : Fin cfg0.N) (j : Fin 2048) (k : Fin 1280) :
    (iblk m c 1 t : FVec Ideal S1x2048x1280 .bf16) (ix3 0 j k) = A1 m c (ix2 j (col t k)) := by
  blk_simp [iblk]
  entry_read
  pointwise
  blk_point [idx t, col]

theorem blk2 (t : Fin cfg0.N) (k : Fin 1280) : (iblk m c 2 t : FVec Ideal S1x1280 .f32) (ix2 0 k) = A2 m c (ix2 0 (col t k)) := by
  blk_simp [iblk]
  rw [V_main_arg2]
  blk_point [idx t, col]

/-- Where a point's entry goes in the output array. -/
theorem place (t : Fin cfg0.N) (y : S1024x1280.Idx) : (((cfg0.win 3).blk t).view.emb y : S8192x5120.Idx) = ix2 (row t (y 0)) (col t (y 1)) := by
  blk_ext [idx t, row, col]

/-- The product's block is a block of the product of the arrays. -/
theorem both (t : Fin cfg0.N) (q k) : k0_pay3 (F := Ideal) (iblk m c 0 t) (iblk m c 1 t) (ix2 q k) = prod (A0 m c) (A1 m c) (row t q) (col t k) := by
  refine (pay3 _ _ q k).trans ?_
  simp only [blk0, blk1]
  rfl

open Cert.Reference19Ideal.Read Cert.Reference19Ideal.Win

/-- The array after the last point is the reference's. -/
theorem final3 : (dats m 0 c).arrAt 3 (cfgs 0).N = val_main_v2 (F := Ideal) (A0 m c) (A1 m c) (A2 m c) := by
  refine (dats m 0 c).arrAt_eq_of_covers 3 _ (by decide +kernel) fun t _ y => ?_
  blk_simp
  rw [after0_3, place t y, out3]
  obtain ⟨q, k, rfl⟩ := eta y
  exact (congrArg₂ (· + ·) (both m c t q k) (blk2 m c t k)).trans (v2 _ _ _ (row t q) (col t k)).symm

end Cert.Kernel19Ideal.Win

end
-- ==== Proof.WinClaim.lean ====
/- The claims about the mixing sublayer's first product with its bias: the runs of the three programs, and that the two of them agree at every
   argument. -/
module

public import proofs.«01_k».proof.Defs
public import proofs.«01_k».proof.Proof.Win
public import proofs.«01_k».proof.Proof.Gen.Kernel19.Frame
public import proofs.«01_k».proof.Proof.Gen.Reference19Ideal.Run

@[expose] public section
noncomputable section
open Idealize.ShloMosaic Idealize.ShloMosaic.TcCoe Idealize.SL.Sem

namespace Cert.Proof.WinClaims

theorem frame_p : Cert.quiescent_Kernel19 := fun m ρ _ => Cert.Kernel19.Gen.frame m ρ

theorem frame_pi : Cert.quiescent_Kernel19Ideal := fun m ρ _ => Cert.Kernel19Ideal.Gen.frame m ρ

theorem frame_ri : Cert.quiescent_Reference19Ideal := fun m ρ _ =>
  (θ_run Cert.Reference19Ideal.defs _ _).mono
    (fun r h => ⟨fun c => (h c).2, sem_eq_zero_of_no_sems (by decide) r.2⟩)
    (Cert.Reference19Ideal.Value.run (F := Ideal) m ρ)

open Cert.Kernel19Ideal.Win in
/-- At `Ideal` both programs leave the same sum of the product and the bias. -/
theorem algebraic : Cert.algebraic_Kernel19Ideal_Reference19Ideal := by
  intro m g m' g' _ ha
  refine ⟨_, Cert.Kernel19Ideal.Value.run_blocks m g,
    (θ_run Cert.Reference19Ideal.defs _ _).mono (fun r h c => ?_) (Cert.Reference19Ideal.Value.run (F := Ideal) m' g')⟩
  obtain ⟨a0, a1, a2⟩ := ha c
  have e0 : m' ((c.tc : Thread Cert.Reference19Ideal.nD Cert.Reference19Ideal.τ).loc Cert.Reference19Ideal.main_arg0) = A0 m c := a0
  have e1 : m' ((c.tc : Thread Cert.Reference19Ideal.nD Cert.Reference19Ideal.τ).loc Cert.Reference19Ideal.main_arg1) = A1 m c := a1
  have e2 : m' ((c.tc : Thread Cert.Reference19Ideal.nD Cert.Reference19Ideal.τ).loc Cert.Reference19Ideal.main_arg2) = A2 m c := a2
  obtain ⟨r0, k⟩ := h c
  rw [Cert.Reference19Ideal.Read.val_main_v2_eq, e0, e1, e2] at r0
  exact ⟨r0.trans (final3 m c).symm, k⟩

end Cert.Proof.WinClaims

end
-- ==== Proof.Wout.lean ====
/- The mixing sublayer's last product with its bias and the residual: what the reference computes entry by entry, what the kernel leaves of one
   block, and the array the kernel leaves. Nothing here asks the arguments to be finite. -/
module

public import proofs.«01_k».proof.Proof.Gen.Kernel20Ideal.Value
public import proofs.«01_k».proof.Proof.Gen.Reference20Ideal.Read
public import proofs.«01_k».proof.Proof.Da
public import proofs.«01_k».proof.Proof.Slabs
public import Idealize.ShloMosaic.Lib.Pipeline.ValueKit
public import Idealize.ShloMosaic.Lib.Pipeline.ReadBack

@[expose] public section
set_option maxRecDepth 16384
noncomputable section
open Idealize.ShloMosaic Idealize.ShloMosaic.TcCoe Idealize.SL.Sem
open Cert.Reals (alpha ofBits_alpha)

namespace Cert.Wout

/-- The product with its bias, and the residual scaled. -/
def mixed (h p b : EReal) : EReal := p + b + (alpha : EReal) * h

end Cert.Wout

namespace Cert.Reference20Ideal.Wout
open Cert.Reference20Ideal Cert.Reference20Ideal.Gen Cert.Reference20Ideal.Read Cert.Wout

variable (y : FVec Ideal S8192x2048 .f32) (w : FVec Ideal S2048x2048 .f32) (b : FVec Ideal S1x2048 .f32) (h : FVec Ideal S8192x2048 .f32)

/-- An entry of the product. -/
def prod (r : Fin 8192) (k : Fin 2048) : EReal := ∑ j : Fin 2048, y (ix2 r j) * w (ix2 j k)

theorem v2 (r k) : val_main_v2 (F := Ideal) y w (ix2 r k) = prod y w r k := by
  pointwise [val_main_v2]
  rfl

theorem v5 (r k) : val_main_v5 (F := Ideal) y w b h (ix2 r k) = mixed (h (ix2 r k)) (prod y w r k) (b (ix2 0 k)) := by
  pointwise [val_main_v5, val_main_v4, val_main_v3, val_main_v1, val_main_v0, val_main_cst]
  simp only [v2, ofBits_alpha]
  exact add_comm _ _

end Cert.Reference20Ideal.Wout

namespace Cert.Kernel20Ideal.Wout
open Cert.Kernel20Ideal Cert.Kernel20Ideal.Gen Cert.Wout
open Cert.Slabs (taken eta)
open Cert.Reference20Ideal.Wout (prod)

/-- A slab of the result, as the body computes it from the residual's slab, the product's block and the bias. -/
def slabOf (o : ℕ) (hs : S1024x1024.Slices ![o, 0] S128x1024) (H : FVec Ideal S128x1024 .f32) (p : FVec Ideal S1024x1024 .f32)
    (b : FVec Ideal S1x1024 .f32) : FVec Ideal S128x1024 .f32 :=
  k0_pay1 (F := Ideal) H (addf (extractStridedSlice S128x1024 ![o, 0] p hs) (broadcastTo S128x1024 b broadcasts_S1x1024_S128x1024))

theorem slab_apply (o : ℕ) (hs : S1024x1024.Slices ![o, 0] S128x1024) (H : FVec Ideal S128x1024 .f32) (p : FVec Ideal S1024x1024 .f32)
    (b : FVec Ideal S1x1024 .f32) (q k) :
    slabOf o hs H p b (ix2 q k) = mixed (H (ix2 q k)) (extractStridedSlice S128x1024 ![o, 0] p hs (ix2 q k)) (b (ix2 0 k)) := by
  have e : broadcastTo S128x1024 b broadcasts_S1x1024_S128x1024 (ix2 q k) = b (ix2 0 k) := by pointwise
  show extractStridedSlice S128x1024 ![o, 0] p hs (ix2 q k) + broadcastTo S128x1024 b broadcasts_S1x1024_S128x1024 (ix2 q k)
    + Ideal.ofBits .f32 0x3F9837F0#32 * H (ix2 q k) = mixed _ _ _
  rw [e, ofBits_alpha]
  rfl

/-- The entry of the block's result, from the blocks. -/
def entry (h p : FVec Ideal S1024x1024 .f32) (b : FVec Ideal S1x1024 .f32) (y : S1024x1024.Idx) : EReal := mixed (h y) (p y) (b (ix2 0 (y 1 : Fin 1024)))

theorem store (o : ℕ) (ho : o + 128 ≤ 1024) (hb : ∀ a, (![o, 0] : Fin 2 → ℕ) a + S128x1024.size a ≤ S1024x1024.size a)
    (hs : S1024x1024.Slices ![o, 0] S128x1024) (h p : FVec Ideal S1024x1024 .f32) (b : FVec Ideal S1x1024 .f32) (x : S128x1024.Idx) :
    slabOf o hs (View.ld (Val := Elt Ideal) (e' := .f32) h (Rect.unit (s := S1024x1024) ![o, 0] S128x1024.size hb)) p b x
      = entry h p b ((Rect.unit (s := S1024x1024) ![o, 0] S128x1024.size hb).emb x) := by
  obtain ⟨q, k, rfl⟩ := eta x
  rw [slab_apply, taken o ho hb hs p, entry]
  refine congrArg (fun j => mixed _ _ (b (ix2 0 j))) ?_
  exact (congrFun (Cert.Slabs.place o ho hb q k) 1).symm

section block
variable (y : FVec Ideal S1024x2048 .bf16) (w : FVec Ideal S2048x1024 .bf16) (h : FVec Ideal S1024x1024 .f32) (b : FVec Ideal S1x1024 .f32)

theorem whole0 : View.ld (Val := Elt Ideal) (e' := .bf16) y r0_0 = y := View.ld_unit_zero (by decide) _ _
theorem whole1 : View.ld (Val := Elt Ideal) (e' := .bf16) w r0_1 = w := View.ld_unit_zero (by decide) _ _
theorem whole2 : View.ld (Val := Elt Ideal) (e' := .f32) b r0_2 = b := View.ld_unit_zero (by decide) _ _

/-- The product's block. -/
theorem pay2 (q k) : k0_pay2 (F := Ideal) y w (ix2 q k) = ∑ j : Fin 2048, y (ix2 q j) * w (ix2 j k) := by
  pointwise [k0_pay2]

open Cert.Kernel4Ideal.Gate (canon_pieces)

theorem out4 : out0_4 (F := Ideal) y w h b = entry h (k0_pay2 (F := Ideal) y w) b := by
  funext i
  unfold_out out0_4
  rw [whole0, whole1, whole2]
  refine canon_pieces (entry h (k0_pay2 (F := Ideal) y w) b) _ ?_ i (cover0_4 _ _ _ _ _ _ _ _ i)
  exact ⟨store 896 (by decide) inb_S1024x1024_S128x1024_896_0 slices_S1024x1024_o896_0_S128x1024 h (k0_pay2 (F := Ideal) y w) b,
    store 768 (by decide) inb_S1024x1024_S128x1024_768_0 slices_S1024x1024_o768_0_S128x1024 h (k0_pay2 (F := Ideal) y w) b,
    store 640 (by decide) inb_S1024x1024_S128x1024_640_0 slices_S1024x1024_o640_0_S128x1024 h (k0_pay2 (F := Ideal) y w) b,
    store 512 (by decide) inb_S1024x1024_S128x1024_512_0 slices_S1024x1024_o512_0_S128x1024 h (k0_pay2 (F := Ideal) y w) b,
    store 384 (by decide) inb_S1024x1024_S128x1024_384_0 slices_S1024x1024_o384_0_S128x1024 h (k0_pay2 (F := Ideal) y w) b,
    store 256 (by decide) inb_S1024x1024_S128x1024_256_0 slices_S1024x1024_o256_0_S128x1024 h (k0_pay2 (F := Ideal) y w) b,
    store 128 (by decide) inb_S1024x1024_S128x1024_128_0 slices_S1024x1024_o128_0_S128x1024 h (k0_pay2 (F := Ideal) y w) b,
    store 0 (by decide) inb_S1024x1024_S128x1024_0_0 slices_S1024x1024_o0_0_S128x1024 h (k0_pay2 (F := Ideal) y w) b,
    trivial⟩

end block

/-- Where each window's block lies at each point. -/
theorem idx : ∀ t : Fin cfg0.N, win0_0.index t = ![t.val / 2, 0] ∧ win0_1.index t = ![0, t.val % 2] ∧ win0_2.index t = ![t.val / 2, t.val % 2]
    ∧ win0_3.index t = ![0, t.val % 2] ∧ win0_4.index t = ![t.val / 2, t.val % 2] :=
  (by decide +kernel : ∀ t : Fin grid0.N, _)

theorem N16 (t : Fin cfg0.N) : t.val < 16 := lt_of_lt_of_eq t.isLt N_0

/-- The array's row and column of row `q` and column `k` of point `t`'s block. -/
def row (t : Fin cfg0.N) (q : Fin 1024) : Fin 8192 := ⟨1024 * (t.val / 2) + q.val, by have := N16 t; omega⟩
def col (t : Fin cfg0.N) (k : Fin 1024) : Fin 2048 := ⟨1024 * (t.val % 2) + k.val, by omega⟩

variable (m : (ℓ : Loc nD τ sig) → Buf (Elt Ideal) ℓ) (c : Dev nD)

/-- The four arguments. -/
abbrev A0 : FVec Ideal S8192x2048 .f32 := m ((c : Thread nD τ).loc main_arg0)
abbrev A1 : FVec Ideal S2048x2048 .f32 := m ((c : Thread nD τ).loc main_arg1)
abbrev A2 : FVec Ideal S1x2048 .f32 := m ((c : Thread nD τ).loc main_arg2)
abbrev A3 : FVec Ideal S8192x2048 .f32 := m ((c : Thread nD τ).loc main_arg3)

theorem blk0 (t : Fin cfg0.N) (q : Fin 1024) (j : Fin 2048) :
    (iblk m c 0 t : FVec Ideal S1024x2048 .bf16) (ix2 q j) = A0 m c (ix2 (row t q) j) := by
  blk_simp [iblk]
  entry_read
  pointwise
  blk_point [idx t, row]

theorem blk1 (t : Fin cfg0.N) (j : Fin 2048) (k : Fin 1024) :
    (iblk m c 1 t : FVec Ideal S2048x1024 .bf16) (ix2 j k) = A1 m c (ix2 j (col t k)) := by
  blk_simp [iblk]
  entry_read
  pointwise
  blk_point [idx t, col]

theorem blk2 (t : Fin cfg0.N) (q : Fin 1024) (k : Fin 1024) :
    (iblk m c 2 t : FVec Ideal S1024x1024 .f32) (ix2 q k) = A3 m c (ix2 (row t q) (col t k)) := by
  blk_simp [iblk]
  rw [V_main_arg3]
  blk_point [idx t, row, col]

theorem blk3 (t : Fin cfg0.N) (k : Fin 1024) : (iblk m c 3 t : FVec Ideal S1x1024 .f32) (ix2 0 k) = A2 m c (ix2 0 (col t k)) := by
  blk_simp [iblk]
  rw [V_main_arg2]
  blk_point [idx t, col]

/-- Where a point's entry goes in the output array. -/
theorem place (t : Fin cfg0.N) (y : S1024x1024.Idx) : (((cfg0.win 4).blk t).view.emb y : S8192x2048.Idx) = ix2 (row t (y 0)) (col t (y 1)) := by
  blk_ext [idx t, row, col]

/-- The product's block is a block of the product of the arrays. -/
theorem both (t : Fin cfg0.N) (q k) : k0_pay2 (F := Ideal) (iblk m c 0 t) (iblk m c 1 t) (ix2 q k) = prod (A0 m c) (A1 m c) (row t q) (col t k) := by
  refine (pay2 _ _ q k).trans ?_
  simp only [blk0, blk1]
  rfl

open Cert.Reference20Ideal.Read Cert.Reference20Ideal.Wout

/-- The array after the last point is the reference's. -/
theorem final4 : (dats m 0 c).arrAt 4 (cfgs 0).N = val_main_v5 (F := Ideal) (A0 m c) (A1 m c) (A2 m c) (A3 m c) := by
  refine (dats m 0 c).arrAt_eq_of_covers 4 _ (by decide +kernel) fun t _ y => ?_
  blk_simp
  rw [after0_4, place t y, out4]
  obtain ⟨q, k, rfl⟩ := eta y
  rw [entry, blk2, both m c t q k]
  exact (congrArg (mixed _ _) (blk3 m c t k)).trans (v5 _ _ _ _ (row t q) (col t k)).symm

end Cert.Kernel20Ideal.Wout

end
-- ==== Proof.WoutClaim.lean ====
/- The claims about the mixing sublayer's last product with its bias and the residual: the runs of the three programs, and that the two of them agree at every
   argument. -/
module

public import proofs.«01_k».proof.Defs
public import proofs.«01_k».proof.Proof.Wout
public import proofs.«01_k».proof.Proof.Gen.Kernel20.Frame
public import proofs.«01_k».proof.Proof.Gen.Reference20Ideal.Run

@[expose] public section
noncomputable section
open Idealize.ShloMosaic Idealize.ShloMosaic.TcCoe Idealize.SL.Sem

namespace Cert.Proof.WoutClaims

theorem frame_p : Cert.quiescent_Kernel20 := fun m ρ _ => Cert.Kernel20.Gen.frame m ρ

theorem frame_pi : Cert.quiescent_Kernel20Ideal := fun m ρ _ => Cert.Kernel20Ideal.Gen.frame m ρ

theorem frame_ri : Cert.quiescent_Reference20Ideal := fun m ρ _ =>
  (θ_run Cert.Reference20Ideal.defs _ _).mono
    (fun r h => ⟨fun c => (h c).2, sem_eq_zero_of_no_sems (by decide) r.2⟩)
    (Cert.Reference20Ideal.Value.run (F := Ideal) m ρ)

open Cert.Kernel20Ideal.Wout in
/-- At `Ideal` both programs leave the same sum. -/
theorem algebraic : Cert.algebraic_Kernel20Ideal_Reference20Ideal := by
  intro m g m' g' _ ha
  refine ⟨_, Cert.Kernel20Ideal.Value.run_blocks m g,
    (θ_run Cert.Reference20Ideal.defs _ _).mono (fun r h c => ?_) (Cert.Reference20Ideal.Value.run (F := Ideal) m' g')⟩
  obtain ⟨a0, a1, a2, a3⟩ := ha c
  have e0 : m' ((c.tc : Thread Cert.Reference20Ideal.nD Cert.Reference20Ideal.τ).loc Cert.Reference20Ideal.main_arg0) = A0 m c := a0
  have e1 : m' ((c.tc : Thread Cert.Reference20Ideal.nD Cert.Reference20Ideal.τ).loc Cert.Reference20Ideal.main_arg1) = A1 m c := a1
  have e2 : m' ((c.tc : Thread Cert.Reference20Ideal.nD Cert.Reference20Ideal.τ).loc Cert.Reference20Ideal.main_arg2) = A2 m c := a2
  have e3 : m' ((c.tc : Thread Cert.Reference20Ideal.nD Cert.Reference20Ideal.τ).loc Cert.Reference20Ideal.main_arg3) = A3 m c := a3
  obtain ⟨r0, k⟩ := h c
  rw [Cert.Reference20Ideal.Read.val_main_v5_eq, e0, e1, e2, e3] at r0
  exact ⟨r0.trans (final4 m c).symm, k⟩

end Cert.Proof.WoutClaims

end
-- ==== Proof.Small.lean ====
/- The sum of the devices' small gradients: the precondition read as a bound, what the reference and the kernel compute entry by entry, and
   the array the kernel leaves. Nothing here asks the gradients to be finite. -/
module

public import proofs.«01_k».proof.Defs
public import proofs.«01_k».proof.Proof.Gen.Kernel21.Frame
public import proofs.«01_k».proof.Proof.Gen.Kernel21Ideal.Frame
public import proofs.«01_k».proof.Proof.Gen.Reference21Ideal.Read
public import proofs.«01_k».proof.Proof.Gen.Reference21Ideal.Run
public import proofs.«01_k».proof.Proof.Gen.Pre_one_of_eight
public import proofs.«01_k».proof.Proof.Slabs
public import Idealize.ShloMosaic.Lib.Pipeline.ValueKit
public import Idealize.ShloMosaic.Lib.Pipeline.ReadBack

@[expose] public section
set_option maxRecDepth 16384
noncomputable section
open Idealize.ShloMosaic Idealize.ShloMosaic.TcCoe Idealize.SL.Sem

namespace Cert.Small

/-- Both comparisons with a bound up to half the words, all ones, say that the word is below it. -/
theorem below (n : ℕ) (hn : n < 2 ^ 31) (v : BitVec 32) (h : IntOp.andi (IntOp.cmpi .sge v 0#32) (IntOp.cmpi .slt v (BitVec.ofNat 32 n)) = 1#1) :
    v.toNat < n := by
  have both (p q : Bool) : IntOp.andi (BitVec.ofBool p) (BitVec.ofBool q) = BitVec.ofBool (p && q) := by cases p <;> cases q <;> decide
  have one (p : Bool) : (BitVec.ofBool p = 1#1) ↔ p = true := by cases p <;> decide
  simp only [IntOp.cmpi, both, one, Bool.and_eq_true, BitVec.sle_eq_decide, BitVec.slt_eq_decide,
    decide_eq_true_eq, BitVec.toInt_eq_toNat_cond, BitVec.toNat_ofNat, Nat.reducePow] at h
  have e : n % 4294967296 = n := Nat.mod_eq_of_lt (by omega)
  rw [e] at h
  omega

/-- The word the precondition is about is one of the first eight. -/
theorem word {F : FTy → Type} [FloatOps F] (b : FVec F Cert.Pre_one_of_eight.S8x1224x128 .f32) (v : IVec Cert.Pre_one_of_eight.S1 32)
    (h : Cert.Pre_one_of_eight.fn b v = fun _ => 1#1) : ∃ n : Fin 8, v (ix1 0) = BitVec.ofNat 32 n.val := by
  have e := congrFun h (ix1 0)
  have l : (v (ix1 0)).toNat < 8 := below 8 (by decide) _ e
  exact ⟨⟨_, l⟩, BitVec.eq_of_toNat_eq (by rw [BitVec.toNat_ofNat]; exact (Nat.mod_eq_of_lt (v (ix1 0)).isLt).symm)⟩

end Cert.Small

namespace Cert.Kernel21.Small
open Cert.Kernel21 Cert.Kernel21.Gen

theorem check : ∀ n : Fin 8, k0_chk1 (BitVec.ofNat 32 n.val) := by decide +kernel

variable {F : FTy → Type} [FloatOps F] (m : (ℓ : Loc nD τ sig) → Buf (Elt F) ℓ)

theorem hyps (hO : Ok m) (h : ∃ n : Fin 8, (m (((0 : Dev nD) : Thread nD τ).loc main_arg1) : IVec S1 32) (ix1 0) = BitVec.ofNat 32 n.val) : Hyps m hO := by
  obtain ⟨n, e⟩ := h
  refine Hyps.of fun c t => ?_
  have r : (tbM0_0.view.readAt (Elt F) (Rect.unit (s := S1) ![0] S1.size inb_S1_S1_0).toLoadRect (tbl m 0) (Shape.Idx.first (numel1_S1.symm ▸ Nat.one_pos)))
      = (m (((0 : Dev nD) : Thread nD τ).loc main_arg1) : IVec S1 32) (ix1 0) := by
    refine congrArg (m (((0 : Dev nD) : Thread nD τ).loc main_arg1) : IVec S1 32) (funext fun a => by match a with | ⟨0, _⟩ => rfl)
  unfold Hyps.p0
  rw [r, e]
  exact check n

end Cert.Kernel21.Small

namespace Cert.Kernel21Ideal.Small
open Cert.Kernel21Ideal Cert.Kernel21Ideal.Gen

theorem check : ∀ n : Fin 8, k0_chk1 (BitVec.ofNat 32 n.val) := by decide +kernel

variable (m : (ℓ : Loc nD τ sig) → Buf (Elt Ideal) ℓ) (ρ : Dev nD → PrngReg) (c : Dev nD)

/-- The two arguments. -/
abbrev A0 : FVec Ideal S8x1224x128 .f32 := m ((c : Thread nD τ).loc main_arg0)
abbrev A1 : IVec S1 32 := m ((c : Thread nD τ).loc main_arg1)

/-- The word as the body reads it. -/
theorem read : tbM0_0.view.readAt (Elt Ideal) (Rect.unit (s := S1) ![0] S1.size inb_S1_S1_0).toLoadRect (tbl m 0) (Shape.Idx.first (numel1_S1.symm ▸ Nat.one_pos))
    = A1 m 0 (ix1 0) :=
  congrArg (A1 m 0) (funext fun a => by match a with | ⟨0, _⟩ => rfl)

theorem hyps (hO : Ok m) (h : ∃ n : Fin 8, A1 m 0 (ix1 0) = BitVec.ofNat 32 n.val) : Hyps m hO := by
  obtain ⟨n, e⟩ := h
  refine Hyps.of fun c t => ?_
  unfold Hyps.p0
  rw [read, e]
  exact check n

/-- An entry of the slab of the stack that a load takes. -/
theorem slab (x : FVec Ideal S8x1224x128 .f32) (off : Fin 3 → ℕ) (hb : ∀ a, off a + S1x1224x128.size a ≤ S8x1224x128.size a) (d : Fin 8)
    (h0 : off 0 = d.val) (h1 : off 1 = 0) (h2 : off 2 = 0) (q : Fin 1224) (k : Fin 128) :
    View.ld (Val := Elt Ideal) (e' := .f32) x (Rect.unit (s := S8x1224x128) off S1x1224x128.size hb) (ix3 0 q k) = x (ix3 d q k) := by
  refine congrArg x (funext fun a => Fin.ext ?_)
  match a with
  | ⟨0, _⟩ => exact (congrArg (· + 1 * 0) h0)
  | ⟨1, _⟩ => exact (congrArg (· + 1 * q.val) h1).trans ((Nat.zero_add _).trans (Nat.one_mul _))
  | ⟨2, _⟩ => exact (congrArg (· + 1 * k.val) h2).trans ((Nat.zero_add _).trans (Nat.one_mul _))

theorem pay (a0 a1 a2 a3 a4 a5 a6 a7 : FVec Ideal S1x1224x128 .f32) (q k) :
    k0_pay1 (F := Ideal) (k0_pay2 (F := Ideal) a0 a1 a2 a3 a4 a5 a6) a7 (ix2 q k)
      = a0 (ix3 0 q k) + a1 (ix3 0 q k) + a2 (ix3 0 q k) + a3 (ix3 0 q k) + a4 (ix3 0 q k) + a5 (ix3 0 q k) + a6 (ix3 0 q k) + a7 (ix3 0 q k) := by
  pointwise [k0_pay1, k0_pay2]

/-- The slab the body adds at the `d`-th step, on device `n`. -/
def at' (n d : Fin 8) : Fin 8 := ⟨(n.val ^^^ d.val) % 8, Nat.mod_lt _ (by decide)⟩

theorem twice (n : Fin 8) : Function.Involutive (at' n) := by
  unfold Function.Involutive
  revert n
  decide

theorem off1 : ∀ n : Fin 8, k0_off1 (BitVec.ofNat 32 n.val) = ![(at' n 0).val, 0, 0] := by decide +kernel
theorem off2 : ∀ n d : Fin 8, k0_off2 (BitVec.ofNat 32 n.val) (BitVec.ofNat 32 d.val) = ![(at' n d).val, 0, 0] := by decide +kernel

/-- Each window has one block, its whole array. -/
theorem idx (hO : Ok m) (t : Fin (cfgM m hO).N) : ((cfgM m hO).win 0).index t = ![0, 0, 0] ∧ ((cfgM m hO).win 1).index t = ![0, 0] := ⟨rfl, rfl⟩

theorem place0 (hO : Ok m) (t : Fin (cfgM m hO).N) (y : S8x1224x128.Idx) : (((cfgM m hO).win 0).blk t).view.emb y = (y : S8x1224x128.Idx) := by
  blk_ext [(idx m hO t).1]

/-- The block is the whole stack. -/
theorem blk0 (hO : Ok m) (t : Fin (cfgM m hO).N) : (iblk m hO c 0 t : FVec Ideal S8x1224x128 .f32) = A0 m c :=
  funext fun y => congrArg (A0 m c) (place0 m hO t y)

/-- The body's sum, in its own order, is the sum over the stack. -/
theorem total (x : FVec Ideal S8x1224x128 .f32) (n : Fin 8) (q : Fin 1224) (k : Fin 128) :
    x (ix3 (at' n 0) q k) + x (ix3 (at' n 1) q k) + x (ix3 (at' n 2) q k) + x (ix3 (at' n 3) q k) + x (ix3 (at' n 4) q k)
      + x (ix3 (at' n 5) q k) + x (ix3 (at' n 6) q k) + x (ix3 (at' n 7) q k) = ∑ d : Fin 8, x (ix3 d q k) := by
  rw [← (twice n).bijective.sum_comp (fun d => x (ix3 d q k)), Fin.sum_univ_eight]

/-- What the body leaves, of any stack: the sum over it. -/
theorem body (i : grid0.Coords) (b2 : Memref sig .tc .vmem S8x1224x128 .f32) (h2 : b2.IsWhole) (b3 : Memref sig .tc .vmem S1224x128 .f32) (h3 : b3.IsWhole)
    (x : FVec Ideal S8x1224x128 .f32) (u : TbBuf0 (F := Ideal) c tbM0_0) (w) (n : Fin 8)
    (r : tbM0_0.view.readAt (Elt Ideal) (Rect.unit (s := S1) ![0] S1.size inb_S1_S1_0).toLoadRect u (Shape.Idx.first (numel1_S1.symm ▸ Nat.one_pos)) = BitVec.ofNat 32 n.val)
    (q : Fin 1224) (k : Fin 128) : out0_A_1 c i b2 h2 b3 h3 x u w (ix2 q k) = ∑ d : Fin 8, x (ix3 d q k) := by
  frame_out
  rw [pay]
  have o2 (d : Fin 8) := (congrArg (fun w => k0_off2 w (BitVec.ofNat 32 d.val)) r).trans (off2 n d)
  have s (d : Fin 8) (hb) := slab x _ hb (at' n d) (congrFun (o2 d) 0) (congrFun (o2 d) 1) (congrFun (o2 d) 2) q k
  have o1 := (congrArg k0_off1 r).trans (off1 n)
  have s0 (hb) := slab x _ hb (at' n 0) (congrFun o1 0) (congrFun o1 1) (congrFun o1 2) q k
  refine Eq.trans ?_ (total x n q k)
  exact congrArg₂ _ (congrArg₂ _ (congrArg₂ _ (congrArg₂ _ (congrArg₂ _ (congrArg₂ _ (congrArg₂ _ (s0 _) (s 1 _)) (s 2 _)) (s 3 _)) (s 4 _)) (s 5 _)) (s 6 _)) (s 7 _)

theorem out (hO : Ok m) (hH : Hyps m hO) (t : Fin (cfgM m hO).N) (n : Fin 8) (e : A1 m 0 (ix1 0) = BitVec.ofNat 32 n.val) (q : Fin 1224) (k : Fin 128) :
    outsAt0 m hO hH c t (ix2 q k) = ∑ d : Fin 8, A0 m c (ix3 d q k) := by
  refine (body c _ _ _ _ _ _ _ _ n ((read m).trans e) q k).trans ?_
  rw [blk0]

/-- Where the block's entries go in the output array. -/
theorem place (hO : Ok m) (t : Fin (cfgM m hO).N) (y : S1224x128.Idx) : (((cfgM m hO).win 1).blk t).view.emb y = (y : S1224x128.Idx) := by
  blk_ext [(idx m hO t).2]

open Cert.Reference21Ideal.Read

/-- The reference's sum over the first axis, which starts from zero. -/
theorem reference (x : FVec Ideal S8x1224x128 .f32) (q : Fin 1224) (k : Fin 128) : val_main_v0 (F := Ideal) x (ix2 q k) = ∑ d : Fin 8, x (ix3 d q k) := by
  rw [val_main_v0_apply, val_main_cst_apply, Ideal.ofBits_def, show Ideal.ofBits .f32 0x00000000#32 = 0 by simp [Ideal.ofBits, Ideal.ieee], zero_add]
  refine Finset.sum_congr rfl fun d _ => congrArg x ?_
  exact funext fun a => by match a with | ⟨0, _⟩ => rfl | ⟨1, _⟩ => rfl | ⟨2, _⟩ => rfl

/-- The array after the grid's one point is the reference's. -/
theorem final1 (hO : Ok m) (hH : Hyps m hO) (h : ∃ n : Fin 8, A1 m 0 (ix1 0) = BitVec.ofNat 32 n.val) :
    (dats m hO hH 0 c).arrAt 1 (cfgM m hO).N = val_main_v0 (F := Ideal) (A0 m c) := by
  obtain ⟨n, e⟩ := h
  refine (dats m hO hH 0 c).arrAt_eq_of_covers 1 _ (of_decide_eq_true (by sl_kernel_rfl)) fun t _ y => ?_
  blk_simp
  rw [after0_1, place m hO t y]
  obtain ⟨q, k, rfl⟩ := Cert.Slabs.eta y
  rw [out m c hO hH t n e q k]
  exact (reference (A0 m c) q k).symm

end Cert.Kernel21Ideal.Small
-- ==== Proof.SmallClaim.lean ====
/- The claims about the sum of the devices' small gradients: the runs of the three programs when the device's index is one of the eight, and that
   the two at `Ideal` agree then. -/
module

public import proofs.«01_k».proof.Defs
public import proofs.«01_k».proof.Proof.Small

@[expose] public section
noncomputable section
open Idealize.ShloMosaic Idealize.ShloMosaic.TcCoe Idealize.SL.Sem

namespace Cert.Proof.SmallClaims

theorem frame_p : Cert.quiescent_Kernel21 := fun m ρ h =>
  Cert.Kernel21.Gen.frame m ρ trivial (Cert.Kernel21.Small.hyps m trivial (Cert.Small.word _ _ (h 0)))

theorem frame_pi : Cert.quiescent_Kernel21Ideal := fun m ρ h =>
  Cert.Kernel21Ideal.Gen.frame m ρ trivial (Cert.Kernel21Ideal.Small.hyps m trivial (Cert.Small.word _ _ (h 0)))

theorem frame_ri : Cert.quiescent_Reference21Ideal := fun m ρ _ =>
  (θ_run Cert.Reference21Ideal.defs _ _).mono
    (fun r h => ⟨fun c => (h c).2, sem_eq_zero_of_no_sems (by decide) r.2⟩)
    (Cert.Reference21Ideal.Value.run (F := Ideal) m ρ)

open Idealize.ShloMosaic.Pipeline Cert.Kernel21Ideal Cert.Kernel21Ideal.Gen Cert.Kernel21Ideal.Small in
/-- At `Ideal` both programs leave the same sum. -/
theorem algebraic : Cert.algebraic_Kernel21Ideal_Reference21Ideal := by
  intro m g m' g' hp ha
  have hw : ∃ n : Fin 8, A1 m 0 (ix1 0) = BitVec.ofNat 32 n.val := Cert.Small.word _ _ (hp 0)
  have hO : Ok m := trivial
  have hH : Hyps m hO := hyps m hO hw
  refine ⟨_, (θ_run Cert.Kernel21Ideal.defs _ _).mono (fun r h c => ⟨(h c).1 1,
      ((h c).1 0).trans (((dats m hO hH 0 c).arrAt_in 0 rfl _).trans ((A_eq m hO hH c 0).trans (V_main_arg0 m c))),
      ((h c).2 main_arg1 (by decide : main_arg1 ∈ Pipeline.restRefs sig spec0)).trans (V_main_arg1 m c)⟩) (run_main m g hO hH),
    (θ_run Cert.Reference21Ideal.defs _ _).mono (fun r h c => ?_) (Cert.Reference21Ideal.Value.run (F := Ideal) m' g')⟩
  obtain ⟨a0, a1⟩ := ha c
  have e0 : m' ((c.tc : Thread Cert.Reference21Ideal.nD Cert.Reference21Ideal.τ).loc Cert.Reference21Ideal.main_arg0) = A0 m c := a0
  obtain ⟨r0, k⟩ := h c
  rw [Cert.Reference21Ideal.Read.val_main_v0_eq, e0] at r0
  exact ⟨r0.trans (final1 m c hO hH hw).symm, k⟩

end Cert.Proof.SmallClaims

end
-- ==== Proof.Pair.lean ====
/- The sum of a pair of devices' halves of a gradient: the precondition read as a bound, what the reference and the kernel compute entry by entry,
   and the array the kernel leaves. Nothing here asks the gradients to be finite. -/
module

public import proofs.«01_k».proof.Defs
public import proofs.«01_k».proof.Proof.Gen.Kernel22.Frame
public import proofs.«01_k».proof.Proof.Gen.Kernel22Ideal.Frame
public import proofs.«01_k».proof.Proof.Gen.Reference22Ideal.Read
public import proofs.«01_k».proof.Proof.Gen.Reference22Ideal.Run
public import proofs.«01_k».proof.Proof.Gen.Pre_one_of_two
public import proofs.«01_k».proof.Proof.Small
public import Idealize.ShloMosaic.Lib.Pipeline.ValueKit
public import Idealize.ShloMosaic.Lib.Pipeline.ReadBack

@[expose] public section
set_option maxRecDepth 16384
noncomputable section
open Idealize.ShloMosaic Idealize.ShloMosaic.TcCoe Idealize.SL.Sem

namespace Cert.Pair

/-- The word the precondition is about is zero or one. -/
theorem word {F : FTy → Type} [FloatOps F] (a : FVec F Cert.Pre_one_of_two.S4x1408x2048 .bf16) (b : FVec F Cert.Pre_one_of_two.S4x704x2048 .bf16)
    (v : IVec Cert.Pre_one_of_two.S1 32) (h : Cert.Pre_one_of_two.fn a b v = fun _ => 1#1) : ∃ n : Fin 2, v (ix1 0) = BitVec.ofNat 32 n.val := by
  have e := congrFun h (ix1 0)
  have l : (v (ix1 0)).toNat < 2 := Cert.Small.below 2 (by decide) _ e
  exact ⟨⟨_, l⟩, BitVec.eq_of_toNat_eq (by rw [BitVec.toNat_ofNat]; exact (Nat.mod_eq_of_lt (v (ix1 0)).isLt).symm)⟩

/-- A row of the half that the word names, in the whole. -/
def half (n : Fin 2) (q : Fin 704) : Fin 1408 := ⟨704 * n.val + q.val, by omega⟩

end Cert.Pair

namespace Cert.Reference22Ideal.Pair
open Cert.Reference22Ideal Cert.Reference22Ideal.Gen Cert.Reference22Ideal.Read Cert.Pair

variable (x0 : FVec Ideal S4x1408x2048 .bf16) (x1 : FVec Ideal S4x704x2048 .bf16) (x2 : IVec S1 32) (n : Fin 2)

/-- The half that the reference takes. -/
theorem taken (h : x2 (ix1 0) = BitVec.ofNat 32 n.val) (p : Fin 4) (q : Fin 704) (k : Fin 2048) :
    val_main_v4 (F := Ideal) x0 x2 (ix3 p q k) = x0 (ix3 p (half n q) k) := by
  have e (i : S_.Idx) : val_main_v0 (F := Ideal) x2 i = BitVec.ofNat 32 n.val :=
    (congrArg x2 (funext fun a => by match a with | ⟨0, _⟩ => exact Subsingleton.elim (α := Fin 1) _ _)).trans h
  unfold val_main_v4
  have s : select (broadcastInDim S4x704x2048 ![] bcast_S_S4x704x2048 (val_main_v1 (F := Ideal) x2)) (val_main_v2 (F := Ideal) x0) (val_main_v3 (F := Ideal) x0) (ix3 p q k)
      = Scalar.select (IntOp.cmpi .eq (BitVec.ofNat 32 n.val) 0#32) (val_main_v2 (F := Ideal) x0 (ix3 p q k)) (val_main_v3 (F := Ideal) x0 (ix3 p q k)) :=
    congrArg (fun w => Scalar.select (IntOp.cmpi .eq w 0#32) (val_main_v2 (F := Ideal) x0 (ix3 p q k)) (val_main_v3 (F := Ideal) x0 (ix3 p q k))) (e _)
  rw [s, val_main_v2_apply, val_main_v3_apply]
  match n with
  | ⟨0, _⟩ => exact congrArg x0 (funext fun a => Fin.ext (by match a with | ⟨0, _⟩ => rfl | ⟨1, _⟩ => exact (Nat.zero_add _).symm | ⟨2, _⟩ => rfl))
  | ⟨1, _⟩ => exact congrArg x0 (funext fun a => Fin.ext (by match a with | ⟨0, _⟩ => rfl | ⟨1, _⟩ => rfl | ⟨2, _⟩ => rfl))

/-- The reference's entry. -/
theorem entry (h : x2 (ix1 0) = BitVec.ofNat 32 n.val) (p : Fin 4) (q : Fin 704) (k : Fin 2048) :
    val_main_v8 (F := Ideal) x0 x1 x2 (ix3 p q k) = x0 (ix3 p (half n q) k) + x1 (ix3 p q k) :=
  congrArg (· + x1 (ix3 p q k)) (taken x0 x2 n h p q k)

end Cert.Reference22Ideal.Pair

namespace Cert.Kernel22.Pair
open Cert.Kernel22 Cert.Kernel22.Gen

variable {F : FTy → Type} [FloatOps F] (m : (ℓ : Loc nD τ sig) → Buf (Elt F) ℓ)

theorem at0 (n : Fin 2) (h : (m (((0 : Dev nD) : Thread nD τ).loc main_arg2) : IVec S1 32) (ix1 0) = BitVec.ofNat 32 n.val) (i : grid0.Coords) :
    cc0_transform_0 inb_S1_S1_0 numel1_S1 (tbl m) i = ![(i 0).val, n.val, (i 1).val, 0] := by
  have r : (tbl m).at 0 (Rect.unit (s := S1) ![0] S1.size inb_S1_S1_0) numel1_S1 = BitVec.ofNat 32 n.val := by
    refine Eq.trans ?_ h
    refine (congrArg (V m (0 : Dev nD) main_arg2 : IVec S1 32) (a₂ := ix1 0) (funext fun a => by match a with | ⟨0, _⟩ => rfl)).trans ?_
    rw [V_main_arg2]
  unfold cc0_transform_0
  simp only [r]
  clear r h
  revert i n
  decide +kernel

theorem ok (h : ∃ n : Fin 2, (m (((0 : Dev nD) : Thread nD τ).loc main_arg2) : IVec S1 32) (ix1 0) = BitVec.ofNat 32 n.val) : Ok m := by
  obtain ⟨n, e⟩ := h
  intro i
  refine ⟨?_, .inr (Affine.block_words_dvd (of_decide_eq_true rfl) (by decide))⟩
  rw [at0 m n e i]
  clear e
  revert i n
  decide +kernel

end Cert.Kernel22.Pair

namespace Cert.Kernel22Ideal.Pair
open Cert.Kernel22Ideal Cert.Kernel22Ideal.Gen Cert.Pair

variable (m : (ℓ : Loc nD τ sig) → Buf (Elt Ideal) ℓ) (ρ : Dev nD → PrngReg) (c : Dev nD)

/-- The three arguments. -/
abbrev A0 : FVec Ideal S4x1408x2048 .bf16 := m ((c : Thread nD τ).loc main_arg0)
abbrev A1 : FVec Ideal S4x704x2048 .bf16 := m ((c : Thread nD τ).loc main_arg1)
abbrev A2 : IVec S1 32 := m ((c : Thread nD τ).loc main_arg2)

theorem at0 (n : Fin 2) (h : A2 m 0 (ix1 0) = BitVec.ofNat 32 n.val) (i : grid0.Coords) :
    cc0_transform_0 inb_S1_S1_0 numel1_S1 (tbl m) i = ![(i 0).val, n.val, (i 1).val, 0] := by
  have r : (tbl m).at 0 (Rect.unit (s := S1) ![0] S1.size inb_S1_S1_0) numel1_S1 = BitVec.ofNat 32 n.val := by
    refine Eq.trans ?_ h
    refine (congrArg (V m (0 : Dev nD) main_arg2 : IVec S1 32) (a₂ := ix1 0) (funext fun a => by match a with | ⟨0, _⟩ => rfl)).trans ?_
    rw [V_main_arg2]
  unfold cc0_transform_0
  simp only [r]
  clear r h
  revert i n
  decide +kernel

theorem ok (h : ∃ n : Fin 2, A2 m 0 (ix1 0) = BitVec.ofNat 32 n.val) : Ok m := by
  obtain ⟨n, e⟩ := h
  intro i
  refine ⟨?_, .inr (Affine.block_words_dvd (of_decide_eq_true rfl) (by decide))⟩
  rw [at0 m n e i]
  clear e
  revert i n
  decide +kernel

theorem N4 (hO : Ok m) (t : Fin (cfgM m hO).N) : t.val < 4 := lt_of_lt_of_eq t.isLt N_0

/-- The block of the first axis that a point takes. -/
def pt (hO : Ok m) (t : Fin (cfgM m hO).N) : Fin 4 := ⟨t.val, N4 m hO t⟩

/-- Which block each window takes at a point. -/
theorem idx (hO : Ok m) (n : Fin 2) (h : A2 m 0 (ix1 0) = BitVec.ofNat 32 n.val) (t : Fin (cfgM m hO).N) :
    ((cfgM m hO).win 0).index t = ![t.val, n.val, 0, 0] ∧ ((cfgM m hO).win 1).index t = ![t.val, 0, 0] ∧ ((cfgM m hO).win 2).index t = ![t.val, 0, 0] := by
  refine ⟨(at0 m n h (grid0.coords t)).trans ?_, (by decide +kernel : ∀ t : Fin grid0.N, cc0_transform_1 (grid0.coords t) = ![t.val, 0, 0]) t,
    (by decide +kernel : ∀ t : Fin grid0.N, cc0_transform_2 (grid0.coords t) = ![t.val, 0, 0]) t⟩
  exact (by decide +kernel : ∀ (n : Fin 2) (t : Fin grid0.N), ![(grid0.coords t 0).val, n.val, (grid0.coords t 1).val, 0] = ![t.val, n.val, 0, 0]) n t

theorem place0 (hO : Ok m) (n : Fin 2) (h : A2 m 0 (ix1 0) = BitVec.ofNat 32 n.val) (t : Fin (cfgM m hO).N) (y : S1x1x704x2048.Idx) :
    (((cfgM m hO).win 0).blk t).view.emb y = (ix4 (pt m hO t) n (y 2) (y 3) : S4x2x704x2048.Idx) := by
  blk_ext [(idx m hO n h t).1, pt]

theorem place1 (hO : Ok m) (n : Fin 2) (h : A2 m 0 (ix1 0) = BitVec.ofNat 32 n.val) (t : Fin (cfgM m hO).N) (y : S1x704x2048.Idx) :
    (((cfgM m hO).win 1).blk t).view.emb y = (ix3 (pt m hO t) (y 1) (y 2) : S4x704x2048.Idx) := by
  blk_ext [(idx m hO n h t).2.1, pt]

theorem place2 (hO : Ok m) (n : Fin 2) (h : A2 m 0 (ix1 0) = BitVec.ofNat 32 n.val) (t : Fin (cfgM m hO).N) (y : S1x704x2048.Idx) :
    (((cfgM m hO).win 2).blk t).view.emb y = (ix3 (pt m hO t) (y 1) (y 2) : S4x704x2048.Idx) := by
  blk_ext [(idx m hO n h t).2.2, pt]

/-- The two halves side by side, as the region finds them. -/
theorem halves (p : Fin 4) (n : Fin 2) (q : Fin 704) (k : Fin 2048) :
    (V m c main_v0 : FVec Ideal S4x2x704x2048 .bf16) (ix4 p n q k) = A0 m c (ix3 p (half n q) k) := by
  entry_read
  pointwise
  blk_point [half]

theorem blk0 (hO : Ok m) (n : Fin 2) (h : A2 m 0 (ix1 0) = BitVec.ofNat 32 n.val) (t : Fin (cfgM m hO).N) (q : Fin 704) (k : Fin 2048) :
    (iblk m hO c 0 t : FVec Ideal S1x1x704x2048 .bf16) (ix4 0 0 q k) = A0 m c (ix3 (pt m hO t) (half n q) k) :=
  (congrArg (V m c main_v0 : FVec Ideal S4x2x704x2048 .bf16) (place0 m hO n h t (ix4 0 0 q k))).trans (halves m c (pt m hO t) n q k)

theorem blk1 (hO : Ok m) (n : Fin 2) (h : A2 m 0 (ix1 0) = BitVec.ofNat 32 n.val) (t : Fin (cfgM m hO).N) (q : Fin 704) (k : Fin 2048) :
    (iblk m hO c 1 t : FVec Ideal S1x704x2048 .bf16) (ix3 0 q k) = A1 m c (ix3 (pt m hO t) q k) :=
  (congrArg (V m c main_arg1 : FVec Ideal S4x704x2048 .bf16) (place1 m hO n h t (ix3 0 q k))).trans (congrFun (V_main_arg1 m c) _)

theorem pay (a : FVec Ideal S1x1x704x2048 .bf16) (b : FVec Ideal S1x704x2048 .bf16) (q : Fin 704) (k : Fin 2048) :
    k0_pay1 (F := Ideal) a b (ix3 0 q k) = a (ix4 0 0 q k) + b (ix3 0 q k) := by
  pointwise [k0_pay1]

/-- What the body leaves, of any two blocks. -/
theorem body (i : grid0.Coords) (b3 : Memref sig .tc .vmem S1x1x704x2048 .bf16) (h3 : b3.IsWhole) (b4 : Memref sig .tc .vmem S1x704x2048 .bf16) (h4 : b4.IsWhole)
    (b5 : Memref sig .tc .vmem S1x704x2048 .bf16) (h5 : b5.IsWhole) (x : FVec Ideal S1x1x704x2048 .bf16) (y : FVec Ideal S1x704x2048 .bf16)
    (u : TbBuf0 (F := Ideal) c tbM0_0) (q : Fin 704) (k : Fin 2048) : out0_A_2 c i b3 h3 b4 h4 b5 h5 x y u (ix3 0 q k) = x (ix4 0 0 q k) + y (ix3 0 q k) := by
  frame_out
  exact pay x y q k

open Cert.Reference22Ideal.Read

theorem eta3 (y : S1x704x2048.Idx) : ∃ (q : Fin 704) (k : Fin 2048), y = ix3 0 q k := ⟨y 1, y 2, by blk_ext⟩

/-- The array after the last point is the reference's. -/
theorem final2 (hO : Ok m) (h : ∃ n : Fin 2, A2 m 0 (ix1 0) = BitVec.ofNat 32 n.val) (e2 : A2 m c = A2 m 0) :
    (dats m hO 0 c).arrAt 2 (cfgM m hO).N = val_main_v8 (F := Ideal) (A0 m c) (A1 m c) (A2 m c) := by
  obtain ⟨n, e⟩ := h
  refine (dats m hO 0 c).arrAt_eq_of_covers 2 _ (of_decide_eq_true (by sl_kernel_rfl)) fun t _ y => ?_
  blk_simp
  rw [after0_2, place2 m hO n e t y]
  obtain ⟨q, k, rfl⟩ := eta3 y
  refine (body c _ _ _ _ _ _ _ _ _ _ q k).trans ?_
  rw [blk0 m c hO n e t q k, blk1 m c hO n e t q k]
  exact (Cert.Reference22Ideal.Pair.entry (A0 m c) (A1 m c) (A2 m c) n ((congrFun e2 _).trans e) (pt m hO t) q k).symm

end Cert.Kernel22Ideal.Pair
-- ==== Proof.PairClaim.lean ====
/- The claims about the sum of a pair of devices' halves of a gradient: the runs of the three programs when the device's place in the pair is zero
   or one, and that the two at `Ideal` agree then. -/
module

public import proofs.«01_k».proof.Defs
public import proofs.«01_k».proof.Proof.Pair

@[expose] public section
noncomputable section
open Idealize.ShloMosaic Idealize.ShloMosaic.TcCoe Idealize.SL.Sem

namespace Cert.Proof.PairClaims

theorem frame_p : Cert.quiescent_Kernel22 := fun m ρ h =>
  Cert.Kernel22.Gen.frame m ρ (Cert.Kernel22.Pair.ok m (Cert.Pair.word _ _ _ (h 0)))

theorem frame_pi : Cert.quiescent_Kernel22Ideal := fun m ρ h =>
  Cert.Kernel22Ideal.Gen.frame m ρ (Cert.Kernel22Ideal.Pair.ok m (Cert.Pair.word _ _ _ (h 0)))

theorem frame_ri : Cert.quiescent_Reference22Ideal := fun m ρ _ =>
  (θ_run Cert.Reference22Ideal.defs _ _).mono
    (fun r h => ⟨fun c => (h c).2, sem_eq_zero_of_no_sems (by decide) r.2⟩)
    (Cert.Reference22Ideal.Value.run (F := Ideal) m ρ)

open Idealize.ShloMosaic.Pipeline Cert.Kernel22Ideal Cert.Kernel22Ideal.Gen Cert.Kernel22Ideal.Pair in
/-- At `Ideal` both programs leave the same sum. -/
theorem algebraic : Cert.algebraic_Kernel22Ideal_Reference22Ideal := by
  intro m g m' g' hp ha
  have hw : ∃ n : Fin 2, A2 m 0 (ix1 0) = BitVec.ofNat 32 n.val := Cert.Pair.word _ _ _ (hp 0)
  have hO : Ok m := ok m hw
  refine ⟨_, (θ_run Cert.Kernel22Ideal.defs _ _).mono (fun r h c => ⟨(h c).1 2,
      ((h c).2 main_arg0 (by decide : main_arg0 ∈ Pipeline.restRefs sig spec0)).trans (V_main_arg0 m c),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c)⟩) (run_main m g hO),
    (θ_run Cert.Reference22Ideal.defs _ _).mono (fun r h c => ?_) (Cert.Reference22Ideal.Value.run (F := Ideal) m' g')⟩
  obtain ⟨a0, a1, a2⟩ := ha c
  have e0 : m' ((c.tc : Thread Cert.Reference22Ideal.nD Cert.Reference22Ideal.τ).loc Cert.Reference22Ideal.main_arg0) = A0 m c := a0
  have e1 : m' ((c.tc : Thread Cert.Reference22Ideal.nD Cert.Reference22Ideal.τ).loc Cert.Reference22Ideal.main_arg1) = A1 m c := a1
  have e2 : m' ((c.tc : Thread Cert.Reference22Ideal.nD Cert.Reference22Ideal.τ).loc Cert.Reference22Ideal.main_arg2) = A2 m c := a2
  have one : c = 0 := Subsingleton.elim _ _
  obtain ⟨r0, k⟩ := h c
  rw [Cert.Reference22Ideal.Read.val_main_v8_eq, e0, e1, e2] at r0
  exact ⟨r0.trans (final2 m c hO hw (congrArg (A2 m) one)).symm, k⟩

end Cert.Proof.PairClaims

end
-- ==== Proof.Chips.lean ====
/- The sum over the chips of a row of one gradient: the precondition read as two bounds, what the reference and the kernel compute entry by entry,
   the half of the array that the kernel writes, and the value of that half after the call. Nothing here asks the gradients to be finite. -/
module

public import proofs.«01_k».proof.Defs
public import proofs.«01_k».proof.Proof.Gen.Kernel23.Frame
public import proofs.«01_k».proof.Proof.Gen.Kernel23Ideal.Frame
public import proofs.«01_k».proof.Proof.Gen.Reference23Ideal.Read
public import proofs.«01_k».proof.Proof.Gen.Reference23Ideal.Run
public import proofs.«01_k».proof.Proof.Gen.Pre_a_place
public import proofs.«01_k».proof.Proof.Small
public import Idealize.ShloMosaic.Lib.Pipeline.ValueKit
public import Idealize.ShloMosaic.Lib.Pipeline.ReadBack

@[expose] public section
set_option maxRecDepth 16384
noncomputable section
open Idealize.ShloMosaic Idealize.ShloMosaic.TcCoe Idealize.SL.Sem

namespace Cert.Chips

/-- A word below a bound is a number below it. -/
theorem small (N : ℕ) (v : BitVec 32) (l : v.toNat < N) : ∃ n : Fin N, v = BitVec.ofNat 32 n.val :=
  ⟨⟨_, l⟩, BitVec.eq_of_toNat_eq (by rw [BitVec.toNat_ofNat]; exact (Nat.mod_eq_of_lt v.isLt).symm)⟩

/-- The two words are a chip of four and a half of two. -/
def Place (v : (⟨1, ![2]⟩ : Shape).Idx → BitVec 32) : Prop :=
  ∃ (n : Fin 4) (k : Fin 2), v (ix1 0) = BitVec.ofNat 32 n.val ∧ v (ix1 1) = BitVec.ofNat 32 k.val

theorem word {F : FTy → Type} [FloatOps F] (a : FVec F Cert.Pre_a_place.S4x704x2048 .bf16) (b c d : FVec F Cert.Pre_a_place.S3x704x2048 .bf16)
    (v : IVec Cert.Pre_a_place.S2 32) (h : Cert.Pre_a_place.fn a b c d v = fun _ => 1#1) : Place v := by
  have e0 := congrFun h (ix1 0)
  have e1 := congrFun h (ix1 1)
  obtain ⟨n, h0⟩ := small 4 (v (ix1 0)) (Cert.Small.below 4 (by decide) _ e0)
  obtain ⟨k, h1⟩ := small 2 (v (ix1 1)) (Cert.Small.below 2 (by decide) _ e1)
  exact ⟨n, k, h0, h1⟩

end Cert.Chips

namespace Cert.Reference23Ideal.Chips
open Cert.Reference23Ideal Cert.Reference23Ideal.Gen Cert.Reference23Ideal.Read Cert.Chips

variable (x0 : FVec Ideal S4x704x2048 .bf16) (x1 x2 x3 : FVec Ideal S3x704x2048 .bf16) (x4 : IVec S2 32) (n : Fin 4)

/-- The chip's own part that the reference takes. -/
theorem taken (h : x4 (ix1 0) = BitVec.ofNat 32 n.val) (q : Fin 704) (k : Fin 2048) :
    val_main_v19 (F := Ideal) x0 x4 (ix2 q k) = x0 (ix3 n q k) := by
  have e1 (i : S_.Idx) : val_main_v1 (F := Ideal) x4 i = BitVec.ofNat 32 n.val :=
    (val_main_v0_apply x4 (Shape.reshapeEquiv shapeCasts_S1_S_ i)).trans
      ((congrArg x4 (funext fun a => by match a with | ⟨0, _⟩ => exact Fin.ext (Nat.lt_one_iff.mp (Shape.reshapeEquiv shapeCasts_S1_S_ i 0).isLt))).trans h)
  have e4 (i : S_.Idx) : val_main_v4 (F := Ideal) x4 i = BitVec.ofNat 32 n.val :=
    (val_main_v3_apply x4 (Shape.reshapeEquiv shapeCasts_S1_S_ i)).trans
      ((congrArg x4 (funext fun a => by match a with | ⟨0, _⟩ => exact Fin.ext (Nat.lt_one_iff.mp (Shape.reshapeEquiv shapeCasts_S1_S_ i 0).isLt))).trans h)
  have e12 (i : S_.Idx) : val_main_v12 (F := Ideal) x4 i = BitVec.ofNat 32 n.val :=
    (val_main_v11_apply x4 (Shape.reshapeEquiv shapeCasts_S1_S_ i)).trans
      ((congrArg x4 (funext fun a => by match a with | ⟨0, _⟩ => exact Fin.ext (Nat.lt_one_iff.mp (Shape.reshapeEquiv shapeCasts_S1_S_ i 0).isLt))).trans h)
  have s : val_main_v19 (F := Ideal) x0 x4 (ix2 q k)
      = Scalar.select (IntOp.cmpi .slt (BitVec.ofNat 32 n.val) 2#32)
          (Scalar.select (IntOp.cmpi .eq (BitVec.ofNat 32 n.val) 0#32) (val_main_v7 (F := Ideal) x0 (ix2 q k)) (val_main_v9 (F := Ideal) x0 (ix2 q k)))
          (Scalar.select (IntOp.cmpi .eq (BitVec.ofNat 32 n.val) 2#32) (val_main_v15 (F := Ideal) x0 (ix2 q k)) (val_main_v17 (F := Ideal) x0 (ix2 q k))) := by
    rw [← e1 (fun a => a.elim0)]
    conv_rhs => rw [e1, ← e4 (fun a => a.elim0)]
    rfl
  rw [s, val_main_v7_apply, val_main_v9_apply, val_main_v15_apply, val_main_v17_apply, val_main_v6_apply, val_main_v8_apply, val_main_v14_apply, val_main_v16_apply]
  match n with
  | ⟨0, _⟩ => exact congrArg x0 (by blk_ext)
  | ⟨1, _⟩ => exact congrArg x0 (by blk_ext)
  | ⟨2, _⟩ => exact congrArg x0 (by blk_ext)
  | ⟨3, _⟩ => exact congrArg x0 (by blk_ext)

/-- The reference's entry. -/
theorem entry (h : x4 (ix1 0) = BitVec.ofNat 32 n.val) (q : Fin 704) (k : Fin 2048) :
    val_main_v32 (F := Ideal) x0 x1 x2 x3 x4 (ix2 q k) = x0 (ix3 n q k) + x1 (ix3 0 q k) + x2 (ix3 1 q k) + x3 (ix3 2 q k) := by
  have a : val_main_v23 (F := Ideal) x1 (ix2 q k) = x1 (ix3 0 q k) := by
    rw [val_main_v23_apply, val_main_v22_apply, val_main_v21_apply]
    exact congrArg x1 (by blk_ext)
  have b : val_main_v27 (F := Ideal) x2 (ix2 q k) = x2 (ix3 1 q k) := by
    rw [val_main_v27_apply, val_main_v26_apply, val_main_v25_apply]
    exact congrArg x2 (by blk_ext)
  have c : val_main_v31 (F := Ideal) x3 (ix2 q k) = x3 (ix3 2 q k) := by
    rw [val_main_v31_apply, val_main_v30_apply, val_main_v29_apply]
    exact congrArg x3 (by blk_ext)
  rw [val_main_v32_apply, val_main_v28_apply, val_main_v24_apply, a, b, c, val_main_v20_apply, taken x0 x4 n h q k]
  rfl

end Cert.Reference23Ideal.Chips

namespace Cert.Kernel23.Chips
open Cert.Kernel23 Cert.Kernel23.Gen

variable {F : FTy → Type} [FloatOps F] (m : (ℓ : Loc nD τ sig) → Buf (Elt F) ℓ)

theorem at0 (n : Fin 4) (h : (m (((0 : Dev nD) : Thread nD τ).loc main_arg4) : IVec S2 32) (ix1 0) = BitVec.ofNat 32 n.val) (i : grid0.Coords) :
    cc0_transform_0 inb_S2_S1_0 numel1_S1 (tbl m) i = ![n.val, (i 0).val, 0] := by
  have r : (tbl m).at 0 (Rect.unit (s := S2) ![0] S1.size inb_S2_S1_0) numel1_S1 = BitVec.ofNat 32 n.val := by
    refine Eq.trans ?_ h
    refine (congrArg (V m (0 : Dev nD) main_arg4 : IVec S2 32) (a₂ := ix1 0) (funext fun a => by match a with | ⟨0, _⟩ => rfl)).trans ?_
    rw [V_main_arg4]
  unfold cc0_transform_0
  simp only [r]
  clear r h
  revert i n
  decide +kernel

theorem at4 (k : Fin 2) (h : (m (((0 : Dev nD) : Thread nD τ).loc main_arg4) : IVec S2 32) (ix1 1) = BitVec.ofNat 32 k.val) (i : grid0.Coords) :
    cc0_transform_4 inb_S2_S1_1 numel1_S1 (tbl m) i = ![k.val, (i 0).val, 0] := by
  have r : (tbl m).at 0 (Rect.unit (s := S2) ![1] S1.size inb_S2_S1_1) numel1_S1 = BitVec.ofNat 32 k.val := by
    refine Eq.trans ?_ h
    refine (congrArg (V m (0 : Dev nD) main_arg4 : IVec S2 32) (a₂ := ix1 1) (funext fun a => by match a with | ⟨0, _⟩ => rfl)).trans ?_
    rw [V_main_arg4]
  unfold cc0_transform_4
  simp only [r]
  clear r h
  revert i k
  decide +kernel

theorem ok (h : Cert.Chips.Place (m (((0 : Dev nD) : Thread nD τ).loc main_arg4))) : Ok m := by
  obtain ⟨n, k, e, f⟩ := h
  refine ⟨fun i => ⟨?_, .inr (Affine.block_words_dvd (of_decide_eq_true rfl) (by decide))⟩, fun i => ⟨?_, .inl rfl⟩⟩
  · rw [at0 m n e i]
    clear e f
    revert i n
    decide +kernel
  · rw [at4 m k f i]
    clear e f
    revert i k
    decide +kernel

end Cert.Kernel23.Chips

namespace Cert.Kernel23Ideal.Chips
open Cert.Kernel23Ideal Cert.Kernel23Ideal.Gen Cert.Chips

variable (m : (ℓ : Loc nD τ sig) → Buf (Elt Ideal) ℓ) (ρ : Dev nD → PrngReg) (c : Dev nD)

/-- The five arguments. -/
abbrev A0 : FVec Ideal S4x704x2048 .bf16 := m ((c : Thread nD τ).loc main_arg0)
abbrev A1 : FVec Ideal S3x704x2048 .bf16 := m ((c : Thread nD τ).loc main_arg1)
abbrev A2 : FVec Ideal S3x704x2048 .bf16 := m ((c : Thread nD τ).loc main_arg2)
abbrev A3 : FVec Ideal S3x704x2048 .bf16 := m ((c : Thread nD τ).loc main_arg3)
abbrev A4 : IVec S2 32 := m ((c : Thread nD τ).loc main_arg4)

theorem at0 (n : Fin 4) (h : (m (((0 : Dev nD) : Thread nD τ).loc main_arg4) : IVec S2 32) (ix1 0) = BitVec.ofNat 32 n.val) (i : grid0.Coords) :
    cc0_transform_0 inb_S2_S1_0 numel1_S1 (tbl m) i = ![n.val, (i 0).val, 0] := by
  have r : (tbl m).at 0 (Rect.unit (s := S2) ![0] S1.size inb_S2_S1_0) numel1_S1 = BitVec.ofNat 32 n.val := by
    refine Eq.trans ?_ h
    refine (congrArg (V m (0 : Dev nD) main_arg4 : IVec S2 32) (a₂ := ix1 0) (funext fun a => by match a with | ⟨0, _⟩ => rfl)).trans ?_
    rw [V_main_arg4]
  unfold cc0_transform_0
  simp only [r]
  clear r h
  revert i n
  decide +kernel

theorem at4 (k : Fin 2) (h : (m (((0 : Dev nD) : Thread nD τ).loc main_arg4) : IVec S2 32) (ix1 1) = BitVec.ofNat 32 k.val) (i : grid0.Coords) :
    cc0_transform_4 inb_S2_S1_1 numel1_S1 (tbl m) i = ![k.val, (i 0).val, 0] := by
  have r : (tbl m).at 0 (Rect.unit (s := S2) ![1] S1.size inb_S2_S1_1) numel1_S1 = BitVec.ofNat 32 k.val := by
    refine Eq.trans ?_ h
    refine (congrArg (V m (0 : Dev nD) main_arg4 : IVec S2 32) (a₂ := ix1 1) (funext fun a => by match a with | ⟨0, _⟩ => rfl)).trans ?_
    rw [V_main_arg4]
  unfold cc0_transform_4
  simp only [r]
  clear r h
  revert i k
  decide +kernel

theorem ok (h : Cert.Chips.Place (m (((0 : Dev nD) : Thread nD τ).loc main_arg4))) : Ok m := by
  obtain ⟨n, k, e, f⟩ := h
  refine ⟨fun i => ⟨?_, .inr (Affine.block_words_dvd (of_decide_eq_true rfl) (by decide))⟩, fun i => ⟨?_, .inl rfl⟩⟩
  · rw [at0 m n e i]
    clear e f
    revert i n
    decide +kernel
  · rw [at4 m k f i]
    clear e f
    revert i k
    decide +kernel

theorem N2 (hO : Ok m) (t : Fin (cfgM m hO).N) : t.val < 2 := lt_of_lt_of_eq t.isLt N_0

/-- A row of a point's block, in the whole. -/
def row (hO : Ok m) (t : Fin (cfgM m hO).N) (q : Fin 352) : Fin 704 := ⟨352 * t.val + q.val, by have := N2 m hO t; omega⟩

section
variable (hO : Ok m) (n : Fin 4) (k : Fin 2) (h : A4 m 0 (ix1 0) = BitVec.ofNat 32 n.val) (g : A4 m 0 (ix1 1) = BitVec.ofNat 32 k.val)
include h in
theorem idx0 (t : Fin (cfgM m hO).N) : ((cfgM m hO).win 0).index t = ![n.val, t.val, 0] :=
  (at0 m n h (grid0.coords t)).trans ((by decide +kernel : ∀ (n : Fin 4) (t : Fin grid0.N), ![n.val, (grid0.coords t 0).val, 0] = ![n.val, t.val, 0]) n t)

include g in
theorem idx4 (t : Fin (cfgM m hO).N) : ((cfgM m hO).win 4).index t = ![k.val, t.val, 0] :=
  (at4 m k g (grid0.coords t)).trans ((by decide +kernel : ∀ (k : Fin 2) (t : Fin grid0.N), ![k.val, (grid0.coords t 0).val, 0] = ![k.val, t.val, 0]) k t)

theorem idx1 (t : Fin (cfgM m hO).N) : ((cfgM m hO).win 1).index t = ![0, t.val, 0] :=
  (by decide +kernel : ∀ t : Fin grid0.N, cc0_transform_1 (grid0.coords t) = ![0, t.val, 0]) t
theorem idx2 (t : Fin (cfgM m hO).N) : ((cfgM m hO).win 2).index t = ![1, t.val, 0] :=
  (by decide +kernel : ∀ t : Fin grid0.N, cc0_transform_2 (grid0.coords t) = ![1, t.val, 0]) t
theorem idx3 (t : Fin (cfgM m hO).N) : ((cfgM m hO).win 3).index t = ![2, t.val, 0] :=
  (by decide +kernel : ∀ t : Fin grid0.N, cc0_transform_3 (grid0.coords t) = ![2, t.val, 0]) t

include g in
/-- Every point writes its block back. -/
theorem flush4 (t : Fin (cfgM m hO).N) : ((cfgM m hO).win 4).flush t = true := by
  have e : ((cfgM m hO).win 4).flush t = Pipeline.Window.flushOf grid0 true (fun i => ![k.val, (i 0).val, 0]) t := by
    rw [Pipeline.Window.flush_eq_flushOf]
    exact congrArg (fun f => Pipeline.Window.flushOf grid0 true f t) (funext fun i => at4 m k g i)
  rw [e]
  clear e g
  revert k t
  exact (by decide +kernel : ∀ (k : Fin 2) (t : Fin grid0.N), Pipeline.Window.flushOf grid0 true (fun i => ![k.val, (i 0).val, 0]) t = true)
end

theorem place0 (hO : Ok m) (n : Fin 4) (h : A4 m 0 (ix1 0) = BitVec.ofNat 32 n.val) (t : Fin (cfgM m hO).N) (y : S1x352x2048.Idx) :
    (((cfgM m hO).win 0).blk t).view.emb y = (ix3 n (row m hO t (y 1)) (y 2) : S4x704x2048.Idx) := by
  blk_ext [idx0 m hO n h t, row]

theorem place1 (hO : Ok m) (t : Fin (cfgM m hO).N) (y : S1x352x2048.Idx) :
    (((cfgM m hO).win 1).blk t).view.emb y = (ix3 0 (row m hO t (y 1)) (y 2) : S3x704x2048.Idx) := by
  blk_ext [idx1 m hO t, row]
theorem place2 (hO : Ok m) (t : Fin (cfgM m hO).N) (y : S1x352x2048.Idx) :
    (((cfgM m hO).win 2).blk t).view.emb y = (ix3 1 (row m hO t (y 1)) (y 2) : S3x704x2048.Idx) := by
  blk_ext [idx2 m hO t, row]
theorem place3 (hO : Ok m) (t : Fin (cfgM m hO).N) (y : S1x352x2048.Idx) :
    (((cfgM m hO).win 3).blk t).view.emb y = (ix3 2 (row m hO t (y 1)) (y 2) : S3x704x2048.Idx) := by
  blk_ext [idx3 m hO t, row]

theorem place4 (hO : Ok m) (k : Fin 2) (g : A4 m 0 (ix1 1) = BitVec.ofNat 32 k.val) (t : Fin (cfgM m hO).N) (y : S1x352x2048.Idx) :
    (((cfgM m hO).win 4).blk t).view.emb y = (ix3 k (row m hO t (y 1)) (y 2) : S2x704x2048.Idx) := by
  blk_ext [idx4 m hO k g t, row]

theorem blk0 (hO : Ok m) (n : Fin 4) (h : A4 m 0 (ix1 0) = BitVec.ofNat 32 n.val) (t : Fin (cfgM m hO).N) (q : Fin 352) (j : Fin 2048) :
    (iblk m hO c 0 t : FVec Ideal S1x352x2048 .bf16) (ix3 0 q j) = A0 m c (ix3 n (row m hO t q) j) :=
  (congrArg (V m c main_arg0 : FVec Ideal S4x704x2048 .bf16) (place0 m hO n h t (ix3 0 q j))).trans (congrFun (V_main_arg0 m c) _)
theorem blk1 (hO : Ok m) (t : Fin (cfgM m hO).N) (q : Fin 352) (j : Fin 2048) :
    (iblk m hO c 1 t : FVec Ideal S1x352x2048 .bf16) (ix3 0 q j) = A1 m c (ix3 0 (row m hO t q) j) :=
  (congrArg (V m c main_arg1 : FVec Ideal S3x704x2048 .bf16) (place1 m hO t (ix3 0 q j))).trans (congrFun (V_main_arg1 m c) _)
theorem blk2 (hO : Ok m) (t : Fin (cfgM m hO).N) (q : Fin 352) (j : Fin 2048) :
    (iblk m hO c 2 t : FVec Ideal S1x352x2048 .bf16) (ix3 0 q j) = A2 m c (ix3 1 (row m hO t q) j) :=
  (congrArg (V m c main_arg2 : FVec Ideal S3x704x2048 .bf16) (place2 m hO t (ix3 0 q j))).trans (congrFun (V_main_arg2 m c) _)
theorem blk3 (hO : Ok m) (t : Fin (cfgM m hO).N) (q : Fin 352) (j : Fin 2048) :
    (iblk m hO c 3 t : FVec Ideal S1x352x2048 .bf16) (ix3 0 q j) = A3 m c (ix3 2 (row m hO t q) j) :=
  (congrArg (V m c main_arg3 : FVec Ideal S3x704x2048 .bf16) (place3 m hO t (ix3 0 q j))).trans (congrFun (V_main_arg3 m c) _)

theorem pay (a b d e : FVec Ideal S1x352x2048 .bf16) (q : Fin 352) (j : Fin 2048) :
    k0_pay1 (F := Ideal) a b d e (ix3 0 q j) = a (ix3 0 q j) + b (ix3 0 q j) + d (ix3 0 q j) + e (ix3 0 q j) := by
  pointwise [k0_pay1]

/-- What the body leaves, of any four blocks. -/
theorem body (i : grid0.Coords) (b2 : Memref sig .tc .vmem S1x352x2048 .bf16) (h2 : b2.IsWhole) (b3 : Memref sig .tc .vmem S1x352x2048 .bf16) (h3 : b3.IsWhole)
    (b4 : Memref sig .tc .vmem S1x352x2048 .bf16) (h4 : b4.IsWhole) (b5 : Memref sig .tc .vmem S1x352x2048 .bf16) (h5 : b5.IsWhole)
    (b6 : Memref sig .tc .vmem S1x352x2048 .f32) (h6 : b6.IsWhole) (x y z w : FVec Ideal S1x352x2048 .bf16)
    (u : TbBuf0 (F := Ideal) c tbM0_0) (q : Fin 352) (j : Fin 2048) :
    out0_A_4 c i b2 h2 b3 h3 b4 h4 b5 h5 b6 h6 x y z w u (ix3 0 q j) = x (ix3 0 q j) + y (ix3 0 q j) + z (ix3 0 q j) + w (ix3 0 q j) := by
  frame_out
  exact pay x y z w q j

theorem eta3 (y : S1x352x2048.Idx) : ∃ (q : Fin 352) (j : Fin 2048), y = ix3 0 q j := ⟨y 1, y 2, by blk_ext⟩

/-- The sum, whatever the half. -/
def total (n : Fin 4) : FVec Ideal S2x704x2048 .f32 := fun i =>
  A0 m c (ix3 n (i 1) (i 2)) + A1 m c (ix3 0 (i 1) (i 2)) + A2 m c (ix3 1 (i 1) (i 2)) + A3 m c (ix3 2 (i 1) (i 2))

/-- The half that the kernel writes, after the last point. -/
theorem final4 (hO : Ok m) (n : Fin 4) (k : Fin 2) (h : A4 m 0 (ix1 0) = BitVec.ofNat 32 n.val) (g : A4 m 0 (ix1 1) = BitVec.ofNat 32 k.val)
    (q : Fin 704) (j : Fin 2048) :
    ((dats m hO 0 c).arrAt 4 (cfgM m hO).N : FVec Ideal S2x704x2048 .f32) (ix3 k q j) = total m c n (ix3 k q j) := by
  let t : Fin (cfgM m hO).N := ⟨q.val / 352, lt_of_lt_of_eq (show q.val / 352 < 2 by omega) N_0.symm⟩
  refine (dats m hO 0 c).arrAt_apply_of_mem 4 (total m c n) (fun t _ => funext fun y => ?_) (cfgM m hO).N t (ix3 k q j) t.isLt (flush4 m hO k g t) ?_
  · blk_simp
    rw [after0_4, place4 m hO k g t y]
    obtain ⟨q, j, rfl⟩ := eta3 y
    refine (body c _ _ _ _ _ _ _ _ _ _ _ _ _ _ _ _ q j).trans ?_
    rw [blk0 m c hO n h t q j, blk1 m c hO t q j, blk2 m c hO t q j, blk3 m c hO t q j]
    rfl
  · have e : (((cfgM m hO).win 4).blk t).view.emb (ix3 0 (⟨q.val % 352, Nat.mod_lt _ (by decide)⟩ : Fin 352) j : S1x352x2048.Idx) = (ix3 k q j : S2x704x2048.Idx) :=
      (place4 m hO k g t _).trans (congrArg (fun r => (ix3 k r j : S2x704x2048.Idx)) (Fin.ext (Nat.div_add_mod q.val 352)))
    rw [← e]
    exact (((cfgM m hO).win 4).blk t).view.emb_mem_set _

theorem exit (hO : Ok m) (w) : Pipeline.withArrays (Pipeline.pin pcfgs (fun _ => adm m hO) 0).spec c (V0 m c) (fun w => (dats m hO 0 c).arrAt w (Pipeline.pin pcfgs (fun _ => adm m hO) 0).N)
      (Proc.devRef .tc (Pipeline.arrRef spec0 w)) = (dats m hO 0 c).arrAt w (cfgM m hO).N :=
  Pipeline.withArrays_arr _ (by exact (by decide : Function.Injective (Pipeline.arrRef spec0))) c _ _ w

/-- Whether the half is the first, as the lines after the call read it. -/
theorem pred (hO : Ok m) : Pipeline.withArrays (Pipeline.pin pcfgs (fun _ => adm m hO) 0).spec c (V0 m c) (fun w => (dats m hO 0 c).arrAt w (Pipeline.pin pcfgs (fun _ => adm m hO) 0).N)
      (Proc.devRef .tc main_v2) = V m c main_v2 :=
  Pipeline.withArrays_of_ne _ c (V0 m c) _ main_v2 (by exact (by decide : ∀ w, Pipeline.arrRef spec0 w ≠ main_v2))

/-- What they read: the place's second word against zero. -/
theorem predV : (V m c main_v2 : IVec S_ 1) = fun _ => IntOp.cmpi .eq (A4 m c (ix1 1)) 0#32 := by
  unfold V V0
  rw [List.flatten_singleton]
  entry_read
  refine funext fun i => congrArg (fun w : BitVec 32 => IntOp.cmpi .eq w 0#32) ?_
  exact congrArg (A4 m c) (funext fun a => by match a with | ⟨0, _⟩ => exact Fin.ext (congrArg (1 + ·) (Nat.lt_one_iff.mp (Shape.reshapeEquiv shapeCasts_S1_S_ i 0).isLt)))

/-- Of the two halves, the one that was written. -/
theorem tail8 (hO : Ok m) (n : Fin 4) (k : Fin 2) (h : A4 m 0 (ix1 0) = BitVec.ofNat 32 n.val) (g : A4 m 0 (ix1 1) = BitVec.ofNat 32 k.val) (e4 : A4 m c = A4 m 0) :
    Pipeline.afterTail pcfgs (fun _ => adm m hO) (dats m hO) 0 (V0 m) [hostOps1] c main_v8
      = Cert.Reference23Ideal.Read.val_main_v32 (F := Ideal) (A0 m c) (A1 m c) (A2 m c) (A3 m c) (A4 m c) := by
  unfold Pipeline.afterTail
  rw [List.flatten_singleton]
  entry_read
  refine (congrArg₂ (fun (p : IVec S_ 1) (v : FVec Ideal S2x704x2048 .f32) => select (broadcastInDim S704x2048 ![] bcast_S_S704x2048 p)
      (shapeCast S704x2048 (extractStridedSlice S1x704x2048 ![0, 0, 0] v slices_S2x704x2048_S1x704x2048_0_0_0) shapeCasts_S1x704x2048_S704x2048)
      (shapeCast S704x2048 (extractStridedSlice S1x704x2048 ![1, 0, 0] v slices_S2x704x2048_S1x704x2048_1_0_0) shapeCasts_S1x704x2048_S704x2048))
    ((pred m c hO).trans (predV m c)) (exit m c hO 4)).trans ?_
  funext i
  obtain ⟨q, j, rfl⟩ : ∃ (q : Fin 704) (j : Fin 2048), i = (ix2 q j : S704x2048.Idx) := ⟨i 0, i 1, by blk_ext⟩
  rw [Cert.Reference23Ideal.Chips.entry (A0 m c) (A1 m c) (A2 m c) (A3 m c) (A4 m c) n ((congrFun e4 _).trans h) q j]
  refine Eq.trans ?_ (final4 m c hO n k h g q j)
  rw [(congrFun e4 _).trans g]
  generalize ((dats m hO 0 c).arrAt 4 (cfgM m hO).N : FVec Ideal S2x704x2048 .f32) = v
  clear h g
  match k with
  | ⟨0, _⟩ =>
    pointwise
  | ⟨1, _⟩ =>
    pointwise
    rfl

end Cert.Kernel23Ideal.Chips
-- ==== Proof.ChipsClaim.lean ====
/- The claims about the sum of a chip's own part and the three parts it received: the runs of the three programs when the place is
   one of four chips and one of two halves, and that the two at `Ideal` agree then. -/
module

public import proofs.«01_k».proof.Defs
public import proofs.«01_k».proof.Proof.Chips

@[expose] public section
noncomputable section
open Idealize.ShloMosaic Idealize.ShloMosaic.TcCoe Idealize.SL.Sem

namespace Cert.Proof.ChipsClaims

theorem frame_p : Cert.quiescent_Kernel23 := fun m ρ h =>
  Cert.Kernel23.Gen.frame m ρ (Cert.Kernel23.Chips.ok m (Cert.Chips.word _ _ _ _ _ (h 0)))

theorem frame_pi : Cert.quiescent_Kernel23Ideal := fun m ρ h =>
  Cert.Kernel23Ideal.Gen.frame m ρ (Cert.Kernel23Ideal.Chips.ok m (Cert.Chips.word _ _ _ _ _ (h 0)))

theorem frame_ri : Cert.quiescent_Reference23Ideal := fun m ρ _ =>
  (θ_run Cert.Reference23Ideal.defs _ _).mono
    (fun r h => ⟨fun c => (h c).2, sem_eq_zero_of_no_sems (by decide) r.2⟩)
    (Cert.Reference23Ideal.Value.run (F := Ideal) m ρ)

open Idealize.ShloMosaic.Pipeline Cert.Kernel23Ideal Cert.Kernel23Ideal.Gen Cert.Kernel23Ideal.Chips in
/-- At `Ideal` both programs leave the same sum. -/
theorem algebraic : Cert.algebraic_Kernel23Ideal_Reference23Ideal := by
  intro m g m' g' hp ha
  have hw : Cert.Chips.Place (A4 m 0) := Cert.Chips.word _ _ _ _ _ (hp 0)
  have hO : Ok m := ok m hw
  obtain ⟨n, k, hn, hk⟩ := hw
  have one (c : Dev nD) : c = 0 := Subsingleton.elim _ _
  refine ⟨_, (θ_run Cert.Kernel23Ideal.defs _ _).mono (fun r h c => ⟨((h c).2 main_v8 (by decide : main_v8 ∈ Pipeline.restRefs sig spec0)).trans
        (tail8 m c hO n k hn hk (congrArg (A4 m) (one c))),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).1 2).trans (((dats m hO 0 c).arrAt_in 2 rfl _).trans ((A_eq m hO c 2).trans (V_main_arg2 m c))),
      ((h c).1 3).trans (((dats m hO 0 c).arrAt_in 3 rfl _).trans ((A_eq m hO c 3).trans (V_main_arg3 m c))),
      ((h c).2 main_arg4 (by decide : main_arg4 ∈ Pipeline.restRefs sig spec0)).trans (W_main_arg4 m hO (dats m hO) c)⟩) (run_main m g hO),
    (θ_run Cert.Reference23Ideal.defs _ _).mono (fun r h c => ?_) (Cert.Reference23Ideal.Value.run (F := Ideal) m' g')⟩
  obtain ⟨a0, a1, a2, a3, a4⟩ := ha c
  have e0 : m' ((c.tc : Thread Cert.Reference23Ideal.nD Cert.Reference23Ideal.τ).loc Cert.Reference23Ideal.main_arg0) = A0 m c := a0
  have e1 : m' ((c.tc : Thread Cert.Reference23Ideal.nD Cert.Reference23Ideal.τ).loc Cert.Reference23Ideal.main_arg1) = A1 m c := a1
  have e2 : m' ((c.tc : Thread Cert.Reference23Ideal.nD Cert.Reference23Ideal.τ).loc Cert.Reference23Ideal.main_arg2) = A2 m c := a2
  have e3 : m' ((c.tc : Thread Cert.Reference23Ideal.nD Cert.Reference23Ideal.τ).loc Cert.Reference23Ideal.main_arg3) = A3 m c := a3
  have e4 : m' ((c.tc : Thread Cert.Reference23Ideal.nD Cert.Reference23Ideal.τ).loc Cert.Reference23Ideal.main_arg4) = A4 m c := a4
  obtain ⟨r0, k⟩ := h c
  rw [Cert.Reference23Ideal.Read.val_main_v32_eq, e0, e1, e2, e3, e4] at r0
  exact ⟨r0, k⟩

end Cert.Proof.ChipsClaims

end
-- ==== Proof.Cast.lean ====
/- The rounding of a shard into its chip's block of the gathered array: the precondition read as a bound, the block of the array that the kernel
   writes, and the value of that block after the call. Nothing here asks the shard to be finite. -/
module

public import proofs.«01_k».proof.Defs
public import proofs.«01_k».proof.Proof.Gen.Kernel24.Frame
public import proofs.«01_k».proof.Proof.Gen.Kernel24Ideal.Frame
public import proofs.«01_k».proof.Proof.Gen.Reference24Ideal.Read
public import proofs.«01_k».proof.Proof.Gen.Reference24Ideal.Run
public import proofs.«01_k».proof.Proof.Gen.Pre_one_of_four
public import proofs.«01_k».proof.Proof.Chips

@[expose] public section
set_option maxRecDepth 16384
noncomputable section
open Idealize.ShloMosaic Idealize.ShloMosaic.TcCoe Idealize.SL.Sem

namespace Cert.Cast

/-- The word the precondition is about is one of the first four. -/
theorem word {F : FTy → Type} [FloatOps F] (a : FVec F Cert.Pre_one_of_four.S2048x1408 .f32) (v : IVec Cert.Pre_one_of_four.S2 32)
    (h : Cert.Pre_one_of_four.fn a v = fun _ => 1#1) : ∃ n : Fin 4, v (ix1 0) = BitVec.ofNat 32 n.val := by
  have e : IntOp.andi (IntOp.cmpi .sge (v (ix1 0)) 0#32) (IntOp.cmpi .slt (v (ix1 0)) 4#32) = 1#1 := by
    refine Eq.trans ?_ (congrFun h (ix1 0))
    exact congrArg (fun w : BitVec 32 => IntOp.andi (IntOp.cmpi .sge w 0#32) (IntOp.cmpi .slt w 4#32))
      (congrArg v (funext fun a => by match a with | ⟨0, _⟩ => rfl))
  exact Cert.Chips.small 4 (v (ix1 0)) (Cert.Small.below 4 (by decide) _ e)

end Cert.Cast

namespace Cert.Kernel24.Cast
open Cert.Kernel24 Cert.Kernel24.Gen

variable {F : FTy → Type} [FloatOps F] (m : (ℓ : Loc nD τ sig) → Buf (Elt F) ℓ)

theorem at1 (n : Fin 4) (h : (m (((0 : Dev nD) : Thread nD τ).loc main_arg1) : IVec S2 32) (ix1 0) = BitVec.ofNat 32 n.val) (i : grid0.Coords) :
    cc0_transform_1 inb_S2_S1_0 numel1_S1 (tbl m) i = ![n.val, (i 0).val, 0] := by
  have r : (tbl m).at 0 (Rect.unit (s := S2) ![0] S1.size inb_S2_S1_0) numel1_S1 = BitVec.ofNat 32 n.val := by
    refine Eq.trans ?_ h
    refine (congrArg (V m (0 : Dev nD) main_arg1 : IVec S2 32) (a₂ := ix1 0) (funext fun a => by match a with | ⟨0, _⟩ => rfl)).trans ?_
    rw [V_main_arg1]
  unfold cc0_transform_1
  simp only [r]
  clear r h
  revert i n
  decide +kernel

theorem ok (h : ∃ n : Fin 4, (m (((0 : Dev nD) : Thread nD τ).loc main_arg1) : IVec S2 32) (ix1 0) = BitVec.ofNat 32 n.val) : Ok m := by
  obtain ⟨n, e⟩ := h
  refine fun i => ⟨?_, .inr (Affine.block_words_dvd (of_decide_eq_true rfl) (by decide))⟩
  rw [at1 m n e i]
  clear e
  revert i n
  decide +kernel

end Cert.Kernel24.Cast

namespace Cert.Kernel24Ideal.Cast
open Cert.Kernel24Ideal Cert.Kernel24Ideal.Gen

variable (m : (ℓ : Loc nD τ sig) → Buf (Elt Ideal) ℓ) (c : Dev nD)

/-- The two arguments. -/
abbrev A0 : FVec Ideal S2048x1408 .f32 := m ((c : Thread nD τ).loc main_arg0)
abbrev A1 : IVec S2 32 := m ((c : Thread nD τ).loc main_arg1)

theorem at1 (n : Fin 4) (h : (m (((0 : Dev nD) : Thread nD τ).loc main_arg1) : IVec S2 32) (ix1 0) = BitVec.ofNat 32 n.val) (i : grid0.Coords) :
    cc0_transform_1 inb_S2_S1_0 numel1_S1 (tbl m) i = ![n.val, (i 0).val, 0] := by
  have r : (tbl m).at 0 (Rect.unit (s := S2) ![0] S1.size inb_S2_S1_0) numel1_S1 = BitVec.ofNat 32 n.val := by
    refine Eq.trans ?_ h
    refine (congrArg (V m (0 : Dev nD) main_arg1 : IVec S2 32) (a₂ := ix1 0) (funext fun a => by match a with | ⟨0, _⟩ => rfl)).trans ?_
    rw [V_main_arg1]
  unfold cc0_transform_1
  simp only [r]
  clear r h
  revert i n
  decide +kernel

theorem ok (h : ∃ n : Fin 4, (m (((0 : Dev nD) : Thread nD τ).loc main_arg1) : IVec S2 32) (ix1 0) = BitVec.ofNat 32 n.val) : Ok m := by
  obtain ⟨n, e⟩ := h
  refine fun i => ⟨?_, .inr (Affine.block_words_dvd (of_decide_eq_true rfl) (by decide))⟩
  rw [at1 m n e i]
  clear e
  revert i n
  decide +kernel

theorem N4 (hO : Ok m) (t : Fin (cfgM m hO).N) : t.val < 4 := lt_of_lt_of_eq t.isLt N_0

/-- A row of a point's block, in the whole. -/
def row (hO : Ok m) (t : Fin (cfgM m hO).N) (q : Fin 512) : Fin 2048 := ⟨512 * t.val + q.val, by have := N4 m hO t; omega⟩

theorem idx0 (hO : Ok m) (t : Fin (cfgM m hO).N) : ((cfgM m hO).win 0).index t = ![t.val, 0] :=
  (by decide +kernel : ∀ t : Fin grid0.N, cc0_transform_0 (grid0.coords t) = ![t.val, 0]) t

section
variable (hO : Ok m) (n : Fin 4) (h : A1 m 0 (ix1 0) = BitVec.ofNat 32 n.val)
include h

theorem idx1 (t : Fin (cfgM m hO).N) : ((cfgM m hO).win 1).index t = ![n.val, t.val, 0] :=
  (at1 m n h (grid0.coords t)).trans ((by decide +kernel : ∀ (n : Fin 4) (t : Fin grid0.N), ![n.val, (grid0.coords t 0).val, 0] = ![n.val, t.val, 0]) n t)

/-- Every point writes its block back. -/
theorem flush1 (t : Fin (cfgM m hO).N) : ((cfgM m hO).win 1).flush t = true := by
  have e : ((cfgM m hO).win 1).flush t = Pipeline.Window.flushOf grid0 true (fun i => ![n.val, (i 0).val, 0]) t := by
    rw [Pipeline.Window.flush_eq_flushOf]
    exact congrArg (fun f => Pipeline.Window.flushOf grid0 true f t) (funext fun i => at1 m n h i)
  rw [e]
  clear e h
  revert n t
  exact (by decide +kernel : ∀ (n : Fin 4) (t : Fin grid0.N), Pipeline.Window.flushOf grid0 true (fun i => ![n.val, (i 0).val, 0]) t = true)

theorem place1 (t : Fin (cfgM m hO).N) (y : S1x512x1408.Idx) :
    (((cfgM m hO).win 1).blk t).view.emb y = (ix3 n (row m hO t (y 1)) (y 2) : S4x2048x1408.Idx) := by
  blk_ext [idx1 m hO n h t, row]
end

theorem place0 (hO : Ok m) (t : Fin (cfgM m hO).N) (y : S512x1408.Idx) :
    (((cfgM m hO).win 0).blk t).view.emb y = (ix2 (row m hO t (y 0)) (y 1) : S2048x1408.Idx) := by
  blk_ext [idx0 m hO t, row]

theorem blk0 (hO : Ok m) (t : Fin (cfgM m hO).N) (q : Fin 512) (j : Fin 1408) :
    (iblk m hO c 0 t : FVec Ideal S512x1408 .f32) (ix2 q j) = A0 m c (ix2 (row m hO t q) j) :=
  (congrArg (V m c main_arg0 : FVec Ideal S2048x1408 .f32) (place0 m hO t (ix2 q j))).trans (congrFun (V_main_arg0 m c) _)

/-- What the body leaves, of any block. -/
theorem body (i : grid0.Coords) (b2 : Memref sig .tc .vmem S512x1408 .f32) (h2 : b2.IsWhole) (b3 : Memref sig .tc .vmem S1x512x1408 .bf16) (h3 : b3.IsWhole)
    (x : FVec Ideal S512x1408 .f32) (u : TbBuf0 (F := Ideal) c tbM0_0) (q : Fin 512) (j : Fin 1408) :
    out0_A_1 c i b2 h2 b3 h3 x u (ix3 0 q j) = x (ix2 q j) := by
  frame_out
  pointwise [k0_pay1]

theorem eta3 (y : S1x512x1408.Idx) : ∃ (q : Fin 512) (j : Fin 1408), y = ix3 0 q j := ⟨y 1, y 2, by blk_ext⟩

/-- The shard, whatever the block. -/
def whole : FVec Ideal S4x2048x1408 .bf16 := fun i => A0 m c (ix2 (i 1) (i 2))

/-- The block that the kernel writes, after the last point. -/
theorem final1 (hO : Ok m) (n : Fin 4) (h : A1 m 0 (ix1 0) = BitVec.ofNat 32 n.val) (q : Fin 2048) (j : Fin 1408) :
    ((dats m hO 0 c).arrAt 1 (cfgM m hO).N : FVec Ideal S4x2048x1408 .bf16) (ix3 n q j) = A0 m c (ix2 q j) := by
  let t : Fin (cfgM m hO).N := ⟨q.val / 512, lt_of_lt_of_eq (show q.val / 512 < 4 by omega) N_0.symm⟩
  refine (dats m hO 0 c).arrAt_apply_of_mem 1 (whole m c) (fun t _ => funext fun y => ?_) (cfgM m hO).N t (ix3 n q j) t.isLt (flush1 m hO n h t) ?_
  · blk_simp
    rw [after0_1, place1 m hO n h t y]
    obtain ⟨q, j, rfl⟩ := eta3 y
    refine (body c _ _ _ _ _ _ _ q j).trans ?_
    rw [blk0 m c hO t q j]
    rfl
  · have e : (((cfgM m hO).win 1).blk t).view.emb (ix3 0 (⟨q.val % 512, Nat.mod_lt _ (by decide)⟩ : Fin 512) j : S1x512x1408.Idx) = (ix3 n q j : S4x2048x1408.Idx) :=
      (place1 m hO n h t _).trans (congrArg (fun r => (ix3 n r j : S4x2048x1408.Idx)) (Fin.ext (Nat.div_add_mod q.val 512)))
    rw [← e]
    exact (((cfgM m hO).win 1).blk t).view.emb_mem_set _

theorem exit (hO : Ok m) (w) : Pipeline.withArrays (Pipeline.pin pcfgs (fun _ => adm m hO) 0).spec c (V0 m c) (fun w => (dats m hO 0 c).arrAt w (Pipeline.pin pcfgs (fun _ => adm m hO) 0).N)
      (Proc.devRef .tc (Pipeline.arrRef spec0 w)) = (dats m hO 0 c).arrAt w (cfgM m hO).N :=
  Pipeline.withArrays_arr _ (by exact (by decide : Function.Injective (Pipeline.arrRef spec0))) c _ _ w

/-- What the lines after the call read of the lines before it. -/
theorem kept (hO : Ok m) (b : Ref sig .tc) (h : ∀ w, Pipeline.arrRef spec0 w ≠ b) :
    Pipeline.withArrays (Pipeline.pin pcfgs (fun _ => adm m hO) 0).spec c (V0 m c) (fun w => (dats m hO 0 c).arrAt w (Pipeline.pin pcfgs (fun _ => adm m hO) 0).N)
      (Proc.devRef .tc b) = V m c b :=
  Pipeline.withArrays_of_ne _ c (V0 m c) _ b (by exact h)

/-- The three comparisons of the chip's number. -/
theorem pred2 : (V m c main_v2 : IVec S_ 1) = fun _ => IntOp.cmpi .slt (A1 m c (ix1 0)) 2#32 := by
  unfold V V0
  rw [List.flatten_singleton]
  entry_read
  refine funext fun i => congrArg (fun w : BitVec 32 => IntOp.cmpi .slt w 2#32) ?_
  exact congrArg (A1 m c) (funext fun a => by match a with | ⟨0, _⟩ => exact Fin.ext (congrArg (0 + ·) (Nat.lt_one_iff.mp (Shape.reshapeEquiv shapeCasts_S1_S_ i 0).isLt)))

theorem pred5 : (V m c main_v5 : IVec S_ 1) = fun _ => IntOp.cmpi .eq (A1 m c (ix1 0)) 0#32 := by
  unfold V V0
  rw [List.flatten_singleton]
  entry_read
  refine funext fun i => congrArg (fun w : BitVec 32 => IntOp.cmpi .eq w 0#32) ?_
  exact congrArg (A1 m c) (funext fun a => by match a with | ⟨0, _⟩ => exact Fin.ext (congrArg (0 + ·) (Nat.lt_one_iff.mp (Shape.reshapeEquiv shapeCasts_S1_S_ i 0).isLt)))

theorem pred8 : (V m c main_v8 : IVec S_ 1) = fun _ => IntOp.cmpi .eq (A1 m c (ix1 0)) 2#32 := by
  unfold V V0
  rw [List.flatten_singleton]
  entry_read
  refine funext fun i => congrArg (fun w : BitVec 32 => IntOp.cmpi .eq w 2#32) ?_
  exact congrArg (A1 m c) (funext fun a => by match a with | ⟨0, _⟩ => exact Fin.ext (congrArg (0 + ·) (Nat.lt_one_iff.mp (Shape.reshapeEquiv shapeCasts_S1_S_ i 0).isLt)))

/-- Of the four blocks, the one whose number the three comparisons name. -/
def chosen (p q r : IVec S_ 1) (v : FVec Ideal S4x2048x1408 .bf16) : FVec Ideal S2048x1408 .bf16 :=
  select (broadcastInDim S2048x1408 ![] bcast_S_S2048x1408 p)
    (select (broadcastInDim S2048x1408 ![] bcast_S_S2048x1408 q)
      (shapeCast S2048x1408 (extractStridedSlice S1x2048x1408 ![0, 0, 0] v slices_S4x2048x1408_S1x2048x1408_0_0_0) shapeCasts_S1x2048x1408_S2048x1408)
      (shapeCast S2048x1408 (extractStridedSlice S1x2048x1408 ![1, 0, 0] v slices_S4x2048x1408_S1x2048x1408_1_0_0) shapeCasts_S1x2048x1408_S2048x1408))
    (select (broadcastInDim S2048x1408 ![] bcast_S_S2048x1408 r)
      (shapeCast S2048x1408 (extractStridedSlice S1x2048x1408 ![2, 0, 0] v slices_S4x2048x1408_S1x2048x1408_2_0_0) shapeCasts_S1x2048x1408_S2048x1408)
      (shapeCast S2048x1408 (extractStridedSlice S1x2048x1408 ![3, 0, 0] v slices_S4x2048x1408_S1x2048x1408_3_0_0) shapeCasts_S1x2048x1408_S2048x1408))

/-- That is the written one. -/
theorem tail20 (hO : Ok m) (n : Fin 4) (h : A1 m 0 (ix1 0) = BitVec.ofNat 32 n.val) (e1 : A1 m c = A1 m 0) :
    Pipeline.afterTail pcfgs (fun _ => adm m hO) (dats m hO) 0 (V0 m) [hostOps1] c main_v20 = (A0 m c : FVec Ideal S2048x1408 .bf16) := by
  unfold Pipeline.afterTail
  rw [List.flatten_singleton]
  entry_read
  have p := (kept m c hO main_v2 (by decide)).trans (pred2 m c)
  have q := (kept m c hO main_v5 (by decide)).trans (pred5 m c)
  have r := (kept m c hO main_v8 (by decide)).trans (pred8 m c)
  refine (congr (congr (congr (congrArg chosen p) q) r) (exit m c hO 1)).trans ?_
  funext i
  obtain ⟨q, j, rfl⟩ : ∃ (q : Fin 2048) (j : Fin 1408), i = (ix2 q j : S2048x1408.Idx) := ⟨i 0, i 1, by blk_ext⟩
  refine Eq.trans ?_ (final1 m c hO n h q j)
  rw [(congrFun e1 _).trans h]
  generalize ((dats m hO 0 c).arrAt 1 (cfgM m hO).N : FVec Ideal S4x2048x1408 .bf16) = v
  clear h p r
  unfold chosen
  match n with
  | ⟨0, _⟩ =>
    pointwise
    rfl
  | ⟨1, _⟩ =>
    pointwise
    rfl
  | ⟨2, _⟩ =>
    pointwise
    rfl
  | ⟨3, _⟩ =>
    pointwise
    rfl

end Cert.Kernel24Ideal.Cast
-- ==== Proof.CastClaim.lean ====
/- The claims about the rounding of a shard into its chip's block: the runs of the three programs when the chip is one of four, and that the
   two at `Ideal` agree then. -/
module

public import proofs.«01_k».proof.Defs
public import proofs.«01_k».proof.Proof.Cast

@[expose] public section
noncomputable section
open Idealize.ShloMosaic Idealize.ShloMosaic.TcCoe Idealize.SL.Sem

namespace Cert.Proof.CastClaims

theorem frame_p : Cert.quiescent_Kernel24 := fun m ρ h =>
  Cert.Kernel24.Gen.frame m ρ (Cert.Kernel24.Cast.ok m (Cert.Cast.word _ _ (h 0)))

theorem frame_pi : Cert.quiescent_Kernel24Ideal := fun m ρ h =>
  Cert.Kernel24Ideal.Gen.frame m ρ (Cert.Kernel24Ideal.Cast.ok m (Cert.Cast.word _ _ (h 0)))

theorem frame_ri : Cert.quiescent_Reference24Ideal := fun m ρ _ =>
  (θ_run Cert.Reference24Ideal.defs _ _).mono
    (fun r h => ⟨fun c => (h c).2, sem_eq_zero_of_no_sems (by decide) r.2⟩)
    (Cert.Reference24Ideal.Value.run (F := Ideal) m ρ)

open Idealize.ShloMosaic.Pipeline Cert.Kernel24Ideal Cert.Kernel24Ideal.Gen Cert.Kernel24Ideal.Cast in
/-- At `Ideal` both programs leave the shard. -/
theorem algebraic : Cert.algebraic_Kernel24Ideal_Reference24Ideal := by
  intro m g m' g' hp ha
  have hw : ∃ n : Fin 4, A1 m 0 (ix1 0) = BitVec.ofNat 32 n.val := Cert.Cast.word _ _ (hp 0)
  have hO : Ok m := ok m hw
  obtain ⟨n, hn⟩ := hw
  have one (c : Dev nD) : c = 0 := Subsingleton.elim _ _
  refine ⟨_, (θ_run Cert.Kernel24Ideal.defs _ _).mono (fun r h c => ⟨((h c).2 main_v20 (by decide : main_v20 ∈ Pipeline.restRefs sig spec0)).trans
        (tail20 m c hO n hn (congrArg (A1 m) (one c))),
      ((h c).1 0).trans (((dats m hO 0 c).arrAt_in 0 rfl _).trans ((A_eq m hO c 0).trans (V_main_arg0 m c))),
      ((h c).2 main_arg1 (by decide : main_arg1 ∈ Pipeline.restRefs sig spec0)).trans (W_main_arg1 m hO (dats m hO) c)⟩) (run_main m g hO),
    (θ_run Cert.Reference24Ideal.defs _ _).mono (fun r h c => ?_) (Cert.Reference24Ideal.Value.run (F := Ideal) m' g')⟩
  obtain ⟨a0, a1⟩ := ha c
  have e0 : m' ((c.tc : Thread Cert.Reference24Ideal.nD Cert.Reference24Ideal.τ).loc Cert.Reference24Ideal.main_arg0) = A0 m c := a0
  obtain ⟨r0, k⟩ := h c
  rw [Cert.Reference24Ideal.Read.val_main_v0_eq, e0] at r0
  exact ⟨r0, k⟩

end Cert.Proof.CastClaims

end
-- ==== Proof.lean ====
/- Every claim of the certificate, put together from the claims about each call. -/
module

public import proofs.«01_k».proof.Defs
public import proofs.«01_k».proof.Proof.LnMClaim
public import proofs.«01_k».proof.Proof.MixClaim
public import proofs.«01_k».proof.Proof.LnCClaim
public import proofs.«01_k».proof.Proof.DaClaim
public import proofs.«01_k».proof.Proof.MixFClaim
public import proofs.«01_k».proof.Proof.LnFClaim
public import proofs.«01_k».proof.Proof.UpClaim
public import proofs.«01_k».proof.Proof.LnAClaim
public import proofs.«01_k».proof.Proof.LnAFClaim
public import proofs.«01_k».proof.Proof.UpAClaim
public import proofs.«01_k».proof.Proof.DhClaim
public import proofs.«01_k».proof.Proof.DownClaim
public import proofs.«01_k».proof.Proof.DwRowsClaim
public import proofs.«01_k».proof.Proof.DwColsClaim
public import proofs.«01_k».proof.Proof.DyClaim
public import proofs.«01_k».proof.Proof.AdamClaim
public import proofs.«01_k».proof.Proof.LossClaim
public import proofs.«01_k».proof.Proof.Gate1Claim
public import proofs.«01_k».proof.Proof.WinClaim
public import proofs.«01_k».proof.Proof.WoutClaim
public import proofs.«01_k».proof.Proof.SmallClaim
public import proofs.«01_k».proof.Proof.PairClaim
public import proofs.«01_k».proof.Proof.ChipsClaim
public import proofs.«01_k».proof.Proof.CastClaim

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    LnMClaims.facts, MixClaims.facts, LnCClaims.facts, DaClaims.facts, LnAClaims.facts, Cert.Pre_one_of_eight.Gen.facts, Cert.Pre_one_of_two.Gen.facts, Cert.Pre_a_place.Gen.facts, Cert.Pre_one_of_four.Gen.facts,
    LnMClaims.frame_p, LnMClaims.frame_pi, fun m ρ _ => LnMClaims.frame_pi m ρ trivial,
    LnMClaims.frame_ri, fun m ρ _ => LnMClaims.frame_ri m ρ trivial,
    MixClaims.frame_p, MixClaims.frame_pi, fun m ρ _ => MixClaims.frame_pi m ρ trivial,
    MixClaims.frame_ri, fun m ρ _ => MixClaims.frame_ri m ρ trivial,
    LnCClaims.frame_p, LnCClaims.frame_pi, fun m ρ _ => LnCClaims.frame_pi m ρ trivial,
    LnCClaims.frame_ri, fun m ρ _ => LnCClaims.frame_ri m ρ trivial,
    DaClaims.frame_p, DaClaims.frame_pi, fun m ρ _ => DaClaims.frame_pi m ρ trivial,
    DaClaims.frame_ri, fun m ρ _ => DaClaims.frame_ri m ρ trivial,
    MixFClaims.frame_p, MixFClaims.frame_pi, MixFClaims.frame_ri,
    LnFClaims.frame_p, LnFClaims.frame_pi, LnFClaims.frame_ri,
    UpClaims.frame_p, UpClaims.frame_pi, UpClaims.frame_ri,
    LnAClaims.frame_p, LnAClaims.frame_pi, fun m ρ _ => LnAClaims.frame_pi m ρ trivial,
    LnAClaims.frame_ri, fun m ρ _ => LnAClaims.frame_ri m ρ trivial,
    LnAFClaims.frame_p, LnAFClaims.frame_pi, LnAFClaims.frame_ri,
    UpAClaims.frame_p, UpAClaims.frame_pi, UpAClaims.frame_ri,
    DhClaims.frame_p, DhClaims.frame_pi, DhClaims.frame_ri,
    DownClaims.frame_p, DownClaims.frame_pi, DownClaims.frame_ri,
    DwRowsClaims.frame_p, DwRowsClaims.frame_pi, DwRowsClaims.frame_ri,
    DwColsClaims.frame_p, DwColsClaims.frame_pi, DwColsClaims.frame_ri,
    DyClaims.frame_p, DyClaims.frame_pi, DyClaims.frame_ri,
    AdamClaims.frame_p, AdamClaims.frame_pi, AdamClaims.frame_ri,
    LossClaims.frame_p, LossClaims.frame_pi, LossClaims.frame_ri,
    Gate1Claims.frame_p, Gate1Claims.frame_pi, Gate1Claims.frame_ri,
    WinClaims.frame_p, WinClaims.frame_pi, WinClaims.frame_ri,
    WoutClaims.frame_p, WoutClaims.frame_pi, WoutClaims.frame_ri,
    SmallClaims.frame_p, SmallClaims.frame_pi, SmallClaims.frame_ri,
    PairClaims.frame_p, PairClaims.frame_pi, PairClaims.frame_ri,
    ChipsClaims.frame_p, ChipsClaims.frame_pi, ChipsClaims.frame_ri,
    CastClaims.frame_p, CastClaims.frame_pi, CastClaims.frame_ri,
    trivial, LnMClaims.algebraic,
    MixClaims.preserves, MixClaims.algebraic,
    trivial, LnCClaims.algebraic,
    trivial, DaClaims.algebraic,
    MixFClaims.preserves, MixFClaims.algebraic,
    trivial, LnFClaims.algebraic,
    trivial, UpClaims.algebraic,
    trivial, LnAClaims.algebraic,
    trivial, LnAFClaims.algebraic,
    trivial, UpAClaims.algebraic,
    trivial, DhClaims.algebraic,
    trivial, DownClaims.algebraic,
    trivial, DwRowsClaims.algebraic,
    trivial, DwColsClaims.algebraic,
    trivial, DyClaims.algebraic,
    trivial, AdamClaims.algebraic,
    trivial, LossClaims.algebraic,
    trivial, Gate1Claims.algebraic,
    trivial, WinClaims.algebraic,
    trivial, WoutClaims.algebraic,
    trivial, SmallClaims.algebraic,
    trivial, PairClaims.algebraic,
    trivial, ChipsClaims.algebraic,
    trivial, CastClaims.algebraic⟩

end Cert.Proof

end
